-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_ScoresIdeal (m : (ℓ : Loc Cert.ScoresIdeal.nD Cert.ScoresIdeal.τ Cert.ScoresIdeal.sig) → Buf (Elt Ideal) ℓ) : Prop :=
  True

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3)
      ∧ r.2.mem ((c.tc : Thread Cert.ScoresIdeal.nD Cert.ScoresIdeal.τ).loc Cert.ScoresIdeal.main_arg4) = m ((c.tc : Thread Cert.ScoresIdeal.nD Cert.ScoresIdeal.τ).loc Cert.ScoresIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Finish_FinishIdeal : Prop :=
  True

def algebraic_FinishIdeal_ScoresIdeal [hFinishIdeal : Cert.FinishIdeal.Facts] [hScoresIdeal : Cert.ScoresIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.ScoresIdeal.nD Cert.ScoresIdeal.τ Cert.ScoresIdeal.sig) → Buf (Elt Ideal) ℓ) (g' : Dev Cert.ScoresIdeal.nD → PrngReg), Pre_FinishIdeal m →
    (∀ c : Dev Cert.FinishIdeal.nD,
      m' ((c.tc : Thread Cert.ScoresIdeal.nD Cert.ScoresIdeal.τ).loc Cert.ScoresIdeal.main_arg0) = m ((c.tc : Thread Cert.FinishIdeal.nD Cert.FinishIdeal.τ).loc Cert.FinishIdeal.main_arg0)
      ∧ m' ((c.tc : Thread Cert.ScoresIdeal.nD Cert.ScoresIdeal.τ).loc Cert.ScoresIdeal.main_arg1) = m ((c.tc : Thread Cert.FinishIdeal.nD Cert.FinishIdeal.τ).loc Cert.FinishIdeal.main_arg1)
      ∧ m' ((c.tc : Thread Cert.ScoresIdeal.nD Cert.ScoresIdeal.τ).loc Cert.ScoresIdeal.main_arg2) = m ((c.tc : Thread Cert.FinishIdeal.nD Cert.FinishIdeal.τ).loc Cert.FinishIdeal.main_arg2)
      ∧ m' ((c.tc : Thread Cert.ScoresIdeal.nD Cert.ScoresIdeal.τ).loc Cert.ScoresIdeal.main_arg3) = m ((c.tc : Thread Cert.FinishIdeal.nD Cert.FinishIdeal.τ).loc Cert.FinishIdeal.main_arg3)
      ∧ m' ((c.tc : Thread Cert.ScoresIdeal.nD Cert.ScoresIdeal.τ).loc Cert.ScoresIdeal.main_arg4) = m ((c.tc : Thread Cert.FinishIdeal.nD Cert.FinishIdeal.τ).loc Cert.FinishIdeal.main_arg4)) →
    ∃ (v0 : (c : Dev Cert.FinishIdeal.nD) → Buf (Elt Ideal) ((c.tc : Thread Cert.FinishIdeal.nD Cert.FinishIdeal.τ).loc Cert.FinishIdeal.main_v0_0)) (v1 : (c : Dev Cert.FinishIdeal.nD) → Buf (Elt Ideal) ((c.tc : Thread Cert.FinishIdeal.nD Cert.FinishIdeal.τ).loc Cert.FinishIdeal.main_v0_1)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v0_0) = v0 c
          ∧ r.2.mem ((c.tc : Thread Cert.FinishIdeal.nD Cert.FinishIdeal.τ).loc Cert.FinishIdeal.main_v0_1) = v1 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4))
      ∧ θ_run (Cert.ScoresIdeal.defs (F := Ideal)) (onTc (τ := Cert.ScoresIdeal.τ) (Cert.ScoresIdeal.main (F := Ideal))) ⟨m', fun _ => 0, g'⟩ (fun r => ∀ c : Dev Cert.ScoresIdeal.nD,
          r.2.mem ((c.tc : Thread Cert.ScoresIdeal.nD Cert.ScoresIdeal.τ).loc Cert.ScoresIdeal.main_v29) = v0 c
          ∧ r.2.mem ((c.tc : Thread Cert.ScoresIdeal.nD Cert.ScoresIdeal.τ).loc Cert.ScoresIdeal.main_v31) = v1 c
          ∧ r.2.mem ((c.tc : Thread Cert.ScoresIdeal.nD Cert.ScoresIdeal.τ).loc Cert.ScoresIdeal.main_arg0) = m' ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m' ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m' ((c.tc : Thread Cert.ScoresIdeal.nD Cert.ScoresIdeal.τ).loc Cert.ScoresIdeal.main_arg2)
          ∧ r.2.mem ((c.tc : Thread Cert.ScoresIdeal.nD Cert.ScoresIdeal.τ).loc Cert.ScoresIdeal.main_arg3) = m' ((c.tc : Thread Cert.ScoresIdeal.nD Cert.ScoresIdeal.τ).loc Cert.ScoresIdeal.main_arg3)
          ∧ r.2.mem ((c.tc : Thread Cert.ScoresIdeal.nD Cert.ScoresIdeal.τ).loc Cert.ScoresIdeal.main_arg4) = m' ((c.tc : Thread Cert.ScoresIdeal.nD Cert.ScoresIdeal.τ).loc Cert.ScoresIdeal.main_arg4))

def Claim : Prop :=
  ∃ (hKernel : Cert.Kernel.Facts) (hKernelIdeal : Cert.KernelIdeal.Facts) (hReferenceIdeal : Cert.ReferenceIdeal.Facts) (hFinish : Cert.Finish.Facts) (hFinishIdeal : Cert.FinishIdeal.Facts) (hScoresIdeal : Cert.ScoresIdeal.Facts) (hPre_in_table : Cert.Pre_in_table.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal) (hPre_in_table := hPre_in_table)
    ∧ quiescent_Finish (hFinish := hFinish)
    ∧ quiescent_FinishIdeal (hFinishIdeal := hFinishIdeal)
    ∧ quiescent_ScoresIdeal (hScoresIdeal := hScoresIdeal)
    ∧ preserves_Kernel_KernelIdeal
    ∧ algebraic_KernelIdeal_ReferenceIdeal (hKernelIdeal := hKernelIdeal) (hReferenceIdeal := hReferenceIdeal) (hPre_in_table := hPre_in_table)
    ∧ preserves_Finish_FinishIdeal
    ∧ algebraic_FinishIdeal_ScoresIdeal (hFinishIdeal := hFinishIdeal) (hScoresIdeal := hScoresIdeal)
-- ==== Pre_in_table.lean ====
abbrev S41879552 : Shape := ⟨1, ![41879552]⟩
abbrev S612352 : Shape := ⟨1, ![612352]⟩
abbrev S26x23552 : Shape := ⟨2, ![26, 23552]⟩
abbrev S26x23040 : Shape := ⟨2, ![26, 23040]⟩
abbrev S_ : Shape := ⟨0, ![]⟩

class Facts : Prop where
  shapeCasts_S612352_S26x23552 : S612352.ShapeCasts S26x23552
  slices_S26x23552_S26x23040_0_0 : S26x23552.Slices ![0, 0] S26x23040
  bcast_S_S26x23040 : S_.BroadcastsInDim S26x23040 (![] : Fin 0 → Fin S26x23040.rank)

variable [Facts]

def fn {F : FTy → Type} [FloatOps F] (main_arg0 : IVec S41879552 32) (main_arg1 : IVec S612352 32) : IVec S26x23040 1 :=
  let main_v0 : IVec S26x23552 32 := shapeCast S26x23552 main_arg1 shapeCasts_S612352_S26x23552
  let main_v1 : IVec S26x23040 32 := (extractStridedSlice S26x23040 ![0, 0] · slices_S26x23552_S26x23040_0_0) main_v0
  let main_c : IVec S_ 32 := constantI S_ 32 65535#32
  let main_v2 : IVec S26x23040 32 := broadcastInDim S26x23040 ![] bcast_S_S26x23040 main_c
  let main_v3 : IVec S26x23040 32 := andi main_v1 main_v2
  let main_c_0 : IVec S_ 32 := constantI S_ 32 12288#32
  let main_v4 : IVec S26x23040 32 := broadcastInDim S26x23040 ![] bcast_S_S26x23040 main_c_0
  let main_v5 : IVec S26x23040 1 := cmpi .slt main_v3 main_v4
  let main_c_1 : IVec S_ 32 := constantI S_ 32 16#32
  let main_v6 : IVec S26x23040 32 := broadcastInDim S26x23040 ![] bcast_S_S26x23040 main_c_1
  let main_v7 : IVec S26x23040 32 := Host.shrui main_v1 main_v6
  let main_c_2 : IVec S_ 32 := constantI S_ 32 12288#32
  let main_v8 : IVec S26x23040 32 := broadcastInDim S26x23040 ![] bcast_S_S26x23040 main_c_2
  let main_v9 : IVec S26x23040 1 := cmpi .slt main_v7 main_v8
  let main_v10 : IVec S26x23040 1 := andi main_v5 main_v9
  main_v10
-- ==== Kernel.lean ====
abbrev S41879552 : Shape := ⟨1, ![41879552]⟩
abbrev S612352 : Shape := ⟨1, ![612352]⟩
abbrev S29952000 : Shape := ⟨1, ![29952000]⟩
abbrev S36864 : Shape := ⟨1, ![36864]⟩
abbrev S24576 : Shape := ⟨1, ![24576]⟩
abbrev S4096 : Shape := ⟨1, ![4096]⟩
abbrev S2048 : Shape := ⟨1, ![2048]⟩
abbrev S2 : Shape := ⟨1, ![2]⟩
abbrev S4 : Shape := ⟨1, ![4]⟩
abbrev S1 : Shape := ⟨1, ![1]⟩
abbrev S_ : Shape := ⟨0, ![]⟩
abbrev S512 : Shape := ⟨1, ![512]⟩
abbrev S1024 : Shape := ⟨1, ![1024]⟩
abbrev S16 : Shape := ⟨1, ![16]⟩
abbrev S12288 : Shape := ⟨1, ![12288]⟩

abbrev nBuf : Table → Nat
  | .hbm => 3
  | .local .scVector .vmem => 6
  | _ => 0

abbrev bufTy : (tb : Table) → Fin (nBuf tb) → BufTy
  | .hbm, ⟨0, _⟩ => ⟨S41879552, .i32⟩
  | .hbm, ⟨1, _⟩ => ⟨S612352, .i32⟩
  | .hbm, ⟨2, _⟩ => ⟨S29952000, .i32⟩
  | .local .scVector .vmem, ⟨0, _⟩ => ⟨S36864, .i32⟩
  | .local .scVector .vmem, ⟨1, _⟩ => ⟨S36864, .i32⟩
  | .local .scVector .vmem, ⟨2, _⟩ => ⟨S24576, .i32⟩
  | .local .scVector .vmem, ⟨3, _⟩ => ⟨S24576, .i32⟩
  | .local .scVector .vmem, ⟨4, _⟩ => ⟨S4096, .i32⟩
  | .local .scVector .vmem, ⟨5, _⟩ => ⟨S2048, .i32⟩
  | _, _ => ⟨S41879552, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v4 : BitVec 1 := Scalar.cmpi .sge v1 c25_i32
  let v5 : BitVec 32 := Scalar.extui v4
  let v6 : BitVec 32 := Scalar.addi c0_i32 v5
  let c49_i32 : BitVec 32 := 49#32
  let v7 : BitVec 1 := Scalar.cmpi .sge v1 c49_i32
  let v8 : BitVec 32 := Scalar.extui v7
  let v9 : BitVec 32 := Scalar.addi v6 v8
  let c72_i32 : BitVec 32 := 72#32
  let v10 : BitVec 1 := Scalar.cmpi .sge v1 c72_i32
  let v11 : BitVec 32 := Scalar.extui v10
  let v12 : BitVec 32 := Scalar.addi v9 v11
  let c94_i32 : BitVec 32 := 94#32
  let v13 : BitVec 1 := Scalar.cmpi .sge v1 c94_i32
  let v14 : BitVec 32 := Scalar.extui v13
  let v15 : BitVec 32 := Scalar.addi v12 v14
  let c115_i32 : BitVec 32 := 115#32
  let v16 : BitVec 1 := Scalar.cmpi .sge v1 c115_i32
  let v17 : BitVec 32 := Scalar.extui v16
  let v18 : BitVec 32 := Scalar.addi v15 v17
  let c135_i32 : BitVec 32 := 135#32
  let v19 : BitVec 1 := Scalar.cmpi .sge v1 c135_i32
  let v20 : BitVec 32 := Scalar.extui v19
  let v21 : BitVec 32 := Scalar.addi v18 v20
  let c154_i32 : BitVec 32 := 154#32
  let v22 : BitVec 1 := Scalar.cmpi .sge v1 c154_i32
  let v23 : BitVec 32 := Scalar.extui v22
  let v24 : BitVec 32 := Scalar.addi v21 v23
  let c172_i32 : BitVec 32 := 172#32
  let v25 : BitVec 1 := Scalar.cmpi .sge v1 c172_i32
  let v26 : BitVec 32 := Scalar.extui v25
  let v27 : BitVec 32 := Scalar.addi v24 v26
  let c189_i32 : BitVec 32 := 189#32
  let v28 : BitVec 1 := Scalar.cmpi .sge v1 c189_i32
  let v29 : BitVec 32 := Scalar.extui v28
  let v30 : BitVec 32 := Scalar.addi v27 v29
  let c205_i32 : BitVec 32 := 205#32
  let v31 : BitVec 1 := Scalar.cmpi .sge v1 c205_i32
  let v32 : BitVec 32 := Scalar.extui v31
  let v33 : BitVec 32 := Scalar.addi v30 v32
  let c220_i32 : BitVec 32 := 220#32
  let v34 : BitVec 1 := Scalar.cmpi .sge v1 c220_i32
  let v35 : BitVec 32 := Scalar.extui v34
  let v36 : BitVec 32 := Scalar.addi v33 v35
  let c234_i32 : BitVec 32 := 234#32
  let v37 : BitVec 1 := Scalar.cmpi .sge v1 c234_i32
  let v38 : BitVec 32 := Scalar.extui v37
  let v39 : BitVec 32 := Scalar.addi v36 v38
  let c247_i32 : BitVec 32 := 247#32
  let v40 : BitVec 1 := Scalar.cmpi .sge v1 c247_i32
  let v41 : BitVec 32 := Scalar.extui v40
  let v42 : BitVec 32 := Scalar.addi v39 v41
  let c259_i32 : BitVec 32 := 259#32
  let v43 : BitVec 1 := Scalar.cmpi .sge v1 c259_i32
  let v44 : BitVec 32 := Scalar.extui v43
  let v45 : BitVec 32 := Scalar.addi v42 v44
  let c270_i32 : BitVec 32 := 270#32
  let v46 : BitVec 1 := Scalar.cmpi .sge v1 c270_i32
  let v47 : BitVec 32 := Scalar.extui v46
  let v48 : BitVec 32 := Scalar.addi v45 v47
  let c280_i32 : BitVec 32 := 280#32
  let v49 : BitVec 1 := Scalar.cmpi .sge v1 c280_i32
  let v50 : BitVec 32 := Scalar.extui v49
  let v51 : BitVec 32 := Scalar.addi v48 v50
  let c289_i32 : BitVec 32 := 289#32
  let v52 : BitVec 1 := Scalar.cmpi .sge v1 c289_i32
  let v53 : BitVec 32 := Scalar.extui v52
  let v54 : BitVec 32 := Scalar.addi v51 v53
  let c297_i32 : BitVec 32 := 297#32
  let v55 : BitVec 1 := Scalar.cmpi .sge v1 c297_i32
  let v56 : BitVec 32 := Scalar.extui v55
  let v57 : BitVec 32 := Scalar.addi v54 v56
  let c304_i32 : BitVec 32 := 304#32
  let v58 : BitVec 1 := Scalar.cmpi .sge v1 c304_i32
  let v59 : BitVec 32 := Scalar.extui v58
  let v60 : BitVec 32 := Scalar.addi v57 v59
  let c310_i32 : BitVec 32 := 310#32
  let v61 : BitVec 1 := Scalar.cmpi .sge v1 c310_i32
  let v62 : BitVec 32 := Scalar.extui v61
  let v63 : BitVec 32 := Scalar.addi v60 v62
  let c315_i32 : BitVec 32 := 315#32
  let v64 : BitVec 1 := Scalar.cmpi .sge v1 c315_i32
  let v65 : BitVec 32 := Scalar.extui v64
  let v66 : BitVec 32 := Scalar.addi v63 v65
  let c319_i32 : BitVec 32 := 319#32
  let v67 : BitVec 1 := Scalar.cmpi .sge v1 c319_i32
  let v68 : BitVec 32 := Scalar.extui v67
  let v69 : BitVec 32 := Scalar.addi v66 v68
  let c322_i32 : BitVec 32 := 322#32
  let v70 : BitVec 1 := Scalar.cmpi .sge v1 c322_i32
  let v71 : BitVec 32 := Scalar.extui v70
  let v72 : BitVec 32 := Scalar.addi v69 v71
  let c324_i32 : BitVec 32 := 324#32
  let v73 : BitVec 1 := Scalar.cmpi .sge v1 c324_i32
  let v74 : BitVec 32 := Scalar.extui v73
  let v75 : BitVec 32 := Scalar.addi v72 v74
  let c12584_i32 : BitVec 32 := 12584#32
  let v82 : BitVec 32 := Scalar.muli v75 c12584_i32
  let c51_i32 : BitVec 32 := 51#32
  let v76 : BitVec 32 := Scalar.subi c51_i32 v75
  let v77 : BitVec 32 := Scalar.muli v75 v76
  let c1_i32 : BitVec 32 := 1#32
  let v78 : BitVec 32 := Scalar.shrui v77 c1_i32
  let v79 : BitVec 32 := Scalar.subi v1 v78
  let v80 : BitVec 32 := Scalar.addi v79 v75
  let c1_i32_0 : BitVec 32 := 1#32
  let v81 : BitVec 32 := Scalar.addi v80 c1_i32_0
  let c484_i32 : BitVec 32 := 484#32
  let v83 : BitVec 32 := Scalar.muli v81 c484_i32
  let v84 : BitVec 32 := Scalar.addi v82 v83
  let c0_i32_1 : BitVec 32 := 0#32
  let v85 : BitVec 32 := Scalar.addi v84 c0_i32_1
  let c128_i32 : BitVec 32 := 128#32
  let v86 : BitVec 32 := Scalar.muli v85 c128_i32
  ![v86.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c25_i32 : BitVec 32 := 25#32
  let v4 : BitVec 1 := Scalar.cmpi .sge v1 c25_i32
  let v5 : BitVec 32 := Scalar.extui v4
  let v6 : BitVec 32 := Scalar.addi c0_i32 v5
  let c49_i32 : BitVec 32 := 49#32
  let v7 : BitVec 1 := Scalar.cmpi .sge v1 c49_i32
  let v8 : BitVec 32 := Scalar.extui v7
  let v9 : BitVec 32 := Scalar.addi v6 v8
  let c72_i32 : BitVec 32 := 72#32
  let v10 : BitVec 1 := Scalar.cmpi .sge v1 c72_i32
  let v11 : BitVec 32 := Scalar.extui v10
  let v12 : BitVec 32 := Scalar.addi v9 v11
  let c94_i32 : BitVec 32 := 94#32
  let v13 : BitVec 1 := Scalar.cmpi .sge v1 c94_i32
  let v14 : BitVec 32 := Scalar.extui v13
  let v15 : BitVec 32 := Scalar.addi v12 v14
  let c115_i32 : BitVec 32 := 115#32
  let v16 : BitVec 1 := Scalar.cmpi .sge v1 c115_i32
  let v17 : BitVec 32 := Scalar.extui v16
  let v18 : BitVec 32 := Scalar.addi v15 v17
  let c135_i32 : BitVec 32 := 135#32
  let v19 : BitVec 1 := Scalar.cmpi .sge v1 c135_i32
  let v20 : BitVec 32 := Scalar.extui v19
  let v21 : BitVec 32 := Scalar.addi v18 v20
  let c154_i32 : BitVec 32 := 154#32
  let v22 : BitVec 1 := Scalar.cmpi .sge v1 c154_i32
  let v23 : BitVec 32 := Scalar.extui v22
  let v24 : BitVec 32 := Scalar.addi v21 v23
  let c172_i32 : BitVec 32 := 172#32
  let v25 : BitVec 1 := Scalar.cmpi .sge v1 c172_i32
  let v26 : BitVec 32 := Scalar.extui v25
  let v27 : BitVec 32 := Scalar.addi v24 v26
  let c189_i32 : BitVec 32 := 189#32
  let v28 : BitVec 1 := Scalar.cmpi .sge v1 c189_i32
  let v29 : BitVec 32 := Scalar.extui v28
  let v30 : BitVec 32 := Scalar.addi v27 v29
  let c205_i32 : BitVec 32 := 205#32
  let v31 : BitVec 1 := Scalar.cmpi .sge v1 c205_i32
  let v32 : BitVec 32 := Scalar.extui v31
  let v33 : BitVec 32 := Scalar.addi v30 v32
  let c220_i32 : BitVec 32 := 220#32
  let v34 : BitVec 1 := Scalar.cmpi .sge v1 c220_i32
  let v35 : BitVec 32 := Scalar.extui v34
  let v36 : BitVec 32 := Scalar.addi v33 v35
  let c234_i32 : BitVec 32 := 234#32
  let v37 : BitVec 1 := Scalar.cmpi .sge v1 c234_i32
  let v38 : BitVec 32 := Scalar.extui v37
  let v39 : BitVec 32 := Scalar.addi v36 v38
  let c247_i32 : BitVec 32 := 247#32
  let v40 : BitVec 1 := Scalar.cmpi .sge v1 c247_i32
  let v41 : BitVec 32 := Scalar.extui v40
  let v42 : BitVec 32 := Scalar.addi v39 v41
  let c259_i32 : BitVec 32 := 259#32
  let v43 : BitVec 1 := Scalar.cmpi .sge v1 c259_i32
  let v44 : BitVec 32 := Scalar.extui v43
  let v45 : BitVec 32 := Scalar.addi v42 v44
  let c270_i32 : BitVec 32 := 270#32
  let v46 : BitVec 1 := Scalar.cmpi .sge v1 c270_i32
  let v47 : BitVec 32 := Scalar.extui v46
  let v48 : BitVec 32 := Scalar.addi v45 v47
  let c280_i32 : BitVec 32 := 280#32
  let v49 : BitVec 1 := Scalar.cmpi .sge v1 c280_i32
  let v50 : BitVec 32 := Scalar.extui v49
  let v51 : BitVec 32 := Scalar.addi v48 v50
  let c289_i32 : BitVec 32 := 289#32
  let v52 : BitVec 1 := Scalar.cmpi .sge v1 c289_i32
  let v53 : BitVec 32 := Scalar.extui v52
  let v54 : BitVec 32 := Scalar.addi v51 v53
  let c297_i32 : BitVec 32 := 297#32
  let v55 : BitVec 1 := Scalar.cmpi .sge v1 c297_i32
  let v56 : BitVec 32 := Scalar.extui v55
  let v57 : BitVec 32 := Scalar.addi v54 v56
  let c304_i32 : BitVec 32 := 304#32
  let v58 : BitVec 1 := Scalar.cmpi .sge v1 c304_i32
  let v59 : BitVec 32 := Scalar.extui v58
  let v60 : BitVec 32 := Scalar.addi v57 v59
  let c310_i32 : BitVec 32 := 310#32
  let v61 : BitVec 1 := Scalar.cmpi .sge v1 c310_i32
  let v62 : BitVec 32 := Scalar.extui v61
  let v63 : BitVec 32 := Scalar.addi v60 v62
  let c315_i32 : BitVec 32 := 315#32
  let v64 : BitVec 1 := Scalar.cmpi .sge v1 c315_i32
  let v65 : BitVec 32 := Scalar.extui v64
  let v66 : BitVec 32 := Scalar.addi v63 v65
  let c319_i32 : BitVec 32 := 319#32
  let v67 : BitVec 1 := Scalar.cmpi .sge v1 c319_i32
  let v68 : BitVec 32 := Scalar.extui v67
  let v69 : BitVec 32 := Scalar.addi v66 v68
  let c322_i32 : BitVec 32 := 322#32
  let v70 : BitVec 1 := Scalar.cmpi .sge v1 c322_i32
  let v71 : BitVec 32 := Scalar.extui v70
  let v72 : BitVec 32 := Scalar.addi v69 v71
  let c324_i32 : BitVec 32 := 324#32
  let v73 : BitVec 1 := Scalar.cmpi .sge v1 c324_i32
  let v74 : BitVec 32 := Scalar.extui v73
  let v75 : BitVec 32 := Scalar.addi v72 v74
  let c51_i32 : BitVec 32 := 51#32
  let v76 : BitVec 32 := Scalar.subi c51_i32 v75
  let v77 : BitVec 32 := Scalar.muli v75 v76
  let c1_i32 : BitVec 32 := 1#32
  let v78 : BitVec 32 := Scalar.shrui v77 c1_i32
  let v79 : BitVec 32 := Scalar.subi v1 v78
  let v80 : BitVec 32 := Scalar.addi v79 v75
  let c1_i32_0 : BitVec 32 := 1#32
  let v81 : BitVec 32 := Scalar.addi v80 c1_i32_0
  let c12584_i32_3 : BitVec 32 := 12584#32
  let v91 : BitVec 32 := Scalar.muli v81 c12584_i32_3
  let c484_i32_4 : BitVec 32 := 484#32
  let v92 : BitVec 32 := Scalar.muli v75 c484_i32_4
  let v93 : BitVec 32 := Scalar.addi v91 v92
  let c0_i32_5 : BitVec 32 := 0#32
  let v94 : BitVec 32 := Scalar.addi v93 c0_i32_5
  let c128_i32_6 : BitVec 32 := 128#32
  let v95 : BitVec 32 := Scalar.muli v94 c128_i32_6
  ![v95.toNat]
def k0_off3 (i : grid0.Coords) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v4 : BitVec 1 := Scalar.cmpi .sge v1 c25_i32
  let v5 : BitVec 32 := Scalar.extui v4
  let v6 : BitVec 32 := Scalar.addi c0_i32 v5
  let c49_i32 : BitVec 32 := 49#32
  let v7 : BitVec 1 := Scalar.cmpi .sge v1 c49_i32
  let v8 : BitVec 32 := Scalar.extui v7
  let v9 : BitVec 32 := Scalar.addi v6 v8
  let c72_i32 : BitVec 32 := 72#32
  let v10 : BitVec 1 := Scalar.cmpi .sge v1 c72_i32
  let v11 : BitVec 32 := Scalar.extui v10
  let v12 : BitVec 32 := Scalar.addi v9 v11
  let c94_i32 : BitVec 32 := 94#32
  let v13 : BitVec 1 := Scalar.cmpi .sge v1 c94_i32
  let v14 : BitVec 32 := Scalar.extui v13
  let v15 : BitVec 32 := Scalar.addi v12 v14
  let c115_i32 : BitVec 32 := 115#32
  let v16 : BitVec 1 := Scalar.cmpi .sge v1 c115_i32
  let v17 : BitVec 32 := Scalar.extui v16
  let v18 : BitVec 32 := Scalar.addi v15 v17
  let c135_i32 : BitVec 32 := 135#32
  let v19 : BitVec 1 := Scalar.cmpi .sge v1 c135_i32
  let v20 : BitVec 32 := Scalar.extui v19
  let v21 : BitVec 32 := Scalar.addi v18 v20
  let c154_i32 : BitVec 32 := 154#32
  let v22 : BitVec 1 := Scalar.cmpi .sge v1 c154_i32
  let v23 : BitVec 32 := Scalar.extui v22
  let v24 : BitVec 32 := Scalar.addi v21 v23
  let c172_i32 : BitVec 32 := 172#32
  let v25 : BitVec 1 := Scalar.cmpi .sge v1 c172_i32
  let v26 : BitVec 32 := Scalar.extui v25
  let v27 : BitVec 32 := Scalar.addi v24 v26
  let c189_i32 : BitVec 32 := 189#32
  let v28 : BitVec 1 := Scalar.cmpi .sge v1 c189_i32
  let v29 : BitVec 32 := Scalar.extui v28
  let v30 : BitVec 32 := Scalar.addi v27 v29
  let c205_i32 : BitVec 32 := 205#32
  let v31 : BitVec 1 := Scalar.cmpi .sge v1 c205_i32
  let v32 : BitVec 32 := Scalar.extui v31
  let v33 : BitVec 32 := Scalar.addi v30 v32
  let c220_i32 : BitVec 32 := 220#32
  let v34 : BitVec 1 := Scalar.cmpi .sge v1 c220_i32
  let v35 : BitVec 32 := Scalar.extui v34
  let v36 : BitVec 32 := Scalar.addi v33 v35
  let c234_i32 : BitVec 32 := 234#32
  let v37 : BitVec 1 := Scalar.cmpi .sge v1 c234_i32
  let v38 : BitVec 32 := Scalar.extui v37
  let v39 : BitVec 32 := Scalar.addi v36 v38
  let c247_i32 : BitVec 32 := 247#32
  let v40 : BitVec 1 := Scalar.cmpi .sge v1 c247_i32
  let v41 : BitVec 32 := Scalar.extui v40
  let v42 : BitVec 32 := Scalar.addi v39 v41
  let c259_i32 : BitVec 32 := 259#32
  let v43 : BitVec 1 := Scalar.cmpi .sge v1 c259_i32
  let v44 : BitVec 32 := Scalar.extui v43
  let v45 : BitVec 32 := Scalar.addi v42 v44
  let c270_i32 : BitVec 32 := 270#32
  let v46 : BitVec 1 := Scalar.cmpi .sge v1 c270_i32
  let v47 : BitVec 32 := Scalar.extui v46
  let v48 : BitVec 32 := Scalar.addi v45 v47
  let c280_i32 : BitVec 32 := 280#32
  let v49 : BitVec 1 := Scalar.cmpi .sge v1 c280_i32
  let v50 : BitVec 32 := Scalar.extui v49
  let v51 : BitVec 32 := Scalar.addi v48 v50
  let c289_i32 : BitVec 32 := 289#32
  let v52 : BitVec 1 := Scalar.cmpi .sge v1 c289_i32
  let v53 : BitVec 32 := Scalar.extui v52
  let v54 : BitVec 32 := Scalar.addi v51 v53
  let c297_i32 : BitVec 32 := 297#32
  let v55 : BitVec 1 := Scalar.cmpi .sge v1 c297_i32
  let v56 : BitVec 32 := Scalar.extui v55
  let v57 : BitVec 32 := Scalar.addi v54 v56
  let c304_i32 : BitVec 32 := 304#32
  let v58 : BitVec 1 := Scalar.cmpi .sge v1 c304_i32
  let v59 : BitVec 32 := Scalar.extui v58
  let v60 : BitVec 32 := Scalar.addi v57 v59
  let c310_i32 : BitVec 32 := 310#32
  let v61 : BitVec 1 := Scalar.cmpi .sge v1 c310_i32
  let v62 : BitVec 32 := Scalar.extui v61
  let v63 : BitVec 32 := Scalar.addi v60 v62
  let c315_i32 : BitVec 32 := 315#32
  let v64 : BitVec 1 := Scalar.cmpi .sge v1 c315_i32
  let v65 : BitVec 32 := Scalar.extui v64
  let v66 : BitVec 32 := Scalar.addi v63 v65
  let c319_i32 : BitVec 32 := 319#32
  let v67 : BitVec 1 := Scalar.cmpi .sge v1 c319_i32
  let v68 : BitVec 32 := Scalar.extui v67
  let v69 : BitVec 32 := Scalar.addi v66 v68
  let c322_i32 : BitVec 32 := 322#32
  let v70 : BitVec 1 := Scalar.cmpi .sge v1 c322_i32
  let v71 : BitVec 32 := Scalar.extui v70
  let v72 : BitVec 32 := Scalar.addi v69 v71
  let c324_i32 : BitVec 32 := 324#32
  let v73 : BitVec 1 := Scalar.cmpi .sge v1 c324_i32
  let v74 : BitVec 32 := Scalar.extui v73
  let v75 : BitVec 32 := Scalar.addi v72 v74
  let c12584_i32_8 : BitVec 32 := 12584#32
  let v100 : BitVec 32 := Scalar.muli v75 c12584_i32_8
  let c51_i32 : BitVec 32 := 51#32
  let v76 : BitVec 32 := Scalar.subi c51_i32 v75
  let v77 : BitVec 32 := Scalar.muli v75 v76
  let c1_i32 : BitVec 32 := 1#32
  let v78 : BitVec 32 := Scalar.shrui v77 c1_i32
  let v79 : BitVec 32 := Scalar.subi v1 v78
  let v80 : BitVec 32 := Scalar.addi v79 v75
  let c1_i32_0 : BitVec 32 := 1#32
  let v81 : BitVec 32 := Scalar.addi v80 c1_i32_0
  let c484_i32_9 : BitVec 32 := 484#32
  let v101 : BitVec 32 := Scalar.muli v81 c484_i32_9
  let v102 : BitVec 32 := Scalar.addi v100 v101
  let c288_i32 : BitVec 32 := 288#32
  let v103 : BitVec 32 := Scalar.addi v102 c288_i32
  let c128_i32_10 : BitVec 32 := 128#32
  let v104 : BitVec 32 := Scalar.muli v103 c128_i32_10
  ![v104.toNat]
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c25_i32 : BitVec 32 := 25#32
  let v4 : BitVec 1 := Scalar.cmpi .sge v1 c25_i32
  let v5 : BitVec 32 := Scalar.extui v4
  let v6 : BitVec 32 := Scalar.addi c0_i32 v5
  let c49_i32 : BitVec 32 := 49#32
  let v7 : BitVec 1 := Scalar.cmpi .sge v1 c49_i32
  let v8 : BitVec 32 := Scalar.extui v7
  let v9 : BitVec 32 := Scalar.addi v6 v8
  let c72_i32 : BitVec 32 := 72#32
  let v10 : BitVec 1 := Scalar.cmpi .sge v1 c72_i32
  let v11 : BitVec 32 := Scalar.extui v10
  let v12 : BitVec 32 := Scalar.addi v9 v11
  let c94_i32 : BitVec 32 := 94#32
  let v13 : BitVec 1 := Scalar.cmpi .sge v1 c94_i32
  let v14 : BitVec 32 := Scalar.extui v13
  let v15 : BitVec 32 := Scalar.addi v12 v14
  let c115_i32 : BitVec 32 := 115#32
  let v16 : BitVec 1 := Scalar.cmpi .sge v1 c115_i32
  let v17 : BitVec 32 := Scalar.extui v16
  let v18 : BitVec 32 := Scalar.addi v15 v17
  let c135_i32 : BitVec 32 := 135#32
  let v19 : BitVec 1 := Scalar.cmpi .sge v1 c135_i32
  let v20 : BitVec 32 := Scalar.extui v19
  let v21 : BitVec 32 := Scalar.addi v18 v20
  let c154_i32 : BitVec 32 := 154#32
  let v22 : BitVec 1 := Scalar.cmpi .sge v1 c154_i32
  let v23 : BitVec 32 := Scalar.extui v22
  let v24 : BitVec 32 := Scalar.addi v21 v23
  let c172_i32 : BitVec 32 := 172#32
  let v25 : BitVec 1 := Scalar.cmpi .sge v1 c172_i32
  let v26 : BitVec 32 := Scalar.extui v25
  let v27 : BitVec 32 := Scalar.addi v24 v26
  let c189_i32 : BitVec 32 := 189#32
  let v28 : BitVec 1 := Scalar.cmpi .sge v1 c189_i32
  let v29 : BitVec 32 := Scalar.extui v28
  let v30 : BitVec 32 := Scalar.addi v27 v29
  let c205_i32 : BitVec 32 := 205#32
  let v31 : BitVec 1 := Scalar.cmpi .sge v1 c205_i32
  let v32 : BitVec 32 := Scalar.extui v31
  let v33 : BitVec 32 := Scalar.addi v30 v32
  let c220_i32 : BitVec 32 := 220#32
  let v34 : BitVec 1 := Scalar.cmpi .sge v1 c220_i32
  let v35 : BitVec 32 := Scalar.extui v34
  let v36 : BitVec 32 := Scalar.addi v33 v35
  let c234_i32 : BitVec 32 := 234#32
  let v37 : BitVec 1 := Scalar.cmpi .sge v1 c234_i32
  let v38 : BitVec 32 := Scalar.extui v37
  let v39 : BitVec 32 := Scalar.addi v36 v38
  let c247_i32 : BitVec 32 := 247#32
  let v40 : BitVec 1 := Scalar.cmpi .sge v1 c247_i32
  let v41 : BitVec 32 := Scalar.extui v40
  let v42 : BitVec 32 := Scalar.addi v39 v41
  let c259_i32 : BitVec 32 := 259#32
  let v43 : BitVec 1 := Scalar.cmpi .sge v1 c259_i32
  let v44 : BitVec 32 := Scalar.extui v43
  let v45 : BitVec 32 := Scalar.addi v42 v44
  let c270_i32 : BitVec 32 := 270#32
  let v46 : BitVec 1 := Scalar.cmpi .sge v1 c270_i32
  let v47 : BitVec 32 := Scalar.extui v46
  let v48 : BitVec 32 := Scalar.addi v45 v47
  let c280_i32 : BitVec 32 := 280#32
  let v49 : BitVec 1 := Scalar.cmpi .sge v1 c280_i32
  let v50 : BitVec 32 := Scalar.extui v49
  let v51 : BitVec 32 := Scalar.addi v48 v50
  let c289_i32 : BitVec 32 := 289#32
  let v52 : BitVec 1 := Scalar.cmpi .sge v1 c289_i32
  let v53 : BitVec 32 := Scalar.extui v52
  let v54 : BitVec 32 := Scalar.addi v51 v53
  let c297_i32 : BitVec 32 := 297#32
  let v55 : BitVec 1 := Scalar.cmpi .sge v1 c297_i32
  let v56 : BitVec 32 := Scalar.extui v55
  let v57 : BitVec 32 := Scalar.addi v54 v56
  let c304_i32 : BitVec 32 := 304#32
  let v58 : BitVec 1 := Scalar.cmpi .sge v1 c304_i32
  let v59 : BitVec 32 := Scalar.extui v58
  let v60 : BitVec 32 := Scalar.addi v57 v59
  let c310_i32 : BitVec 32 := 310#32
  let v61 : BitVec 1 := Scalar.cmpi .sge v1 c310_i32
  let v62 : BitVec 32 := Scalar.extui v61
  let v63 : BitVec 32 := Scalar.addi v60 v62
  let c315_i32 : BitVec 32 := 315#32
  let v64 : BitVec 1 := Scalar.cmpi .sge v1 c315_i32
  let v65 : BitVec 32 := Scalar.extui v64
  let v66 : BitVec 32 := Scalar.addi v63 v65
  let c319_i32 : BitVec 32 := 319#32
  let v67 : BitVec 1 := Scalar.cmpi .sge v1 c319_i32
  let v68 : BitVec 32 := Scalar.extui v67
  let v69 : BitVec 32 := Scalar.addi v66 v68
  let c322_i32 : BitVec 32 := 322#32
  let v70 : BitVec 1 := Scalar.cmpi .sge v1 c322_i32
  let v71 : BitVec 32 := Scalar.extui v70
  let v72 : BitVec 32 := Scalar.addi v69 v71
  let c324_i32 : BitVec 32 := 324#32
  let v73 : BitVec 1 := Scalar.cmpi .sge v1 c324_i32
  let v74 : BitVec 32 := Scalar.extui v73
  let v75 : BitVec 32 := Scalar.addi v72 v74
  let c51_i32 : BitVec 32 := 51#32
  let v76 : BitVec 32 := Scalar.subi c51_i32 v75
  let v77 : BitVec 32 := Scalar.muli v75 v76
  let c1_i32 : BitVec 32 := 1#32
  let v78 : BitVec 32 := Scalar.shrui v77 c1_i32
  let v79 : BitVec 32 := Scalar.subi v1 v78
  let v80 : BitVec 32 := Scalar.addi v79 v75
  let c1_i32_0 : BitVec 32 := 1#32
  let v81 : BitVec 32 := Scalar.addi v80 c1_i32_0
  let c12584_i32_12 : BitVec 32 := 12584#32
  let v109 : BitVec 32 := Scalar.muli v81 c12584_i32_12
  let c484_i32_13 : BitVec 32 := 484#32
  let v110 : BitVec 32 := Scalar.muli v75 c484_i32_13
  let v111 : BitVec 32 := Scalar.addi v109 v110
  let c288_i32_14 : BitVec 32 := 288#32
  let v112 : BitVec 32 := Scalar.addi v111 c288_i32_14
  let c128_i32_15 : BitVec 32 := 128#32
  let v113 : BitVec 32 := Scalar.muli v112 c128_i32_15
  ![v113.toNat]
def k0_off5 (i : grid0.Coords) (c0_i32_17 : BitVec 32) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25_i32 : BitVec 32 := 25#32
  let v4 : BitVec 1 := Scalar.cmpi .sge v1 c25_i32
  let v5 : BitVec 32 := Scalar.extui v4
  let v6 : BitVec 32 := Scalar.addi c0_i32 v5
  let c49_i32 : BitVec 32 := 49#32
  let v7 : BitVec 1 := Scalar.cmpi .sge v1 c49_i32
  let v8 : BitVec 32 := Scalar.extui v7
  let v9 : BitVec 32 := Scalar.addi v6 v8
  let c72_i32 : BitVec 32 := 72#32
  let v10 : BitVec 1 := Scalar.cmpi .sge v1 c72_i32
  let v11 : BitVec 32 := Scalar.extui v10
  let v12 : BitVec 32 := Scalar.addi v9 v11
  let c94_i32 : BitVec 32 := 94#32
  let v13 : BitVec 1 := Scalar.cmpi .sge v1 c94_i32
  let v14 : BitVec 32 := Scalar.extui v13
  let v15 : BitVec 32 := Scalar.addi v12 v14
  let c115_i32 : BitVec 32 := 115#32
  let v16 : BitVec 1 := Scalar.cmpi .sge v1 c115_i32
  let v17 : BitVec 32 := Scalar.extui v16
  let v18 : BitVec 32 := Scalar.addi v15 v17
  let c135_i32 : BitVec 32 := 135#32
  let v19 : BitVec 1 := Scalar.cmpi .sge v1 c135_i32
  let v20 : BitVec 32 := Scalar.extui v19
  let v21 : BitVec 32 := Scalar.addi v18 v20
  let c154_i32 : BitVec 32 := 154#32
  let v22 : BitVec 1 := Scalar.cmpi .sge v1 c154_i32
  let v23 : BitVec 32 := Scalar.extui v22
  let v24 : BitVec 32 := Scalar.addi v21 v23
  let c172_i32 : BitVec 32 := 172#32
  let v25 : BitVec 1 := Scalar.cmpi .sge v1 c172_i32
  let v26 : BitVec 32 := Scalar.extui v25
  let v27 : BitVec 32 := Scalar.addi v24 v26
  let c189_i32 : BitVec 32 := 189#32
  let v28 : BitVec 1 := Scalar.cmpi .sge v1 c189_i32
  let v29 : BitVec 32 := Scalar.extui v28
  let v30 : BitVec 32 := Scalar.addi v27 v29
  let c205_i32 : BitVec 32 := 205#32
  let v31 : BitVec 1 := Scalar.cmpi .sge v1 c205_i32
  let v32 : BitVec 32 := Scalar.extui v31
  let v33 : BitVec 32 := Scalar.addi v30 v32
  let c220_i32 : BitVec 32 := 220#32
  let v34 : BitVec 1 := Scalar.cmpi .sge v1 c220_i32
  let v35 : BitVec 32 := Scalar.extui v34
  let v36 : BitVec 32 := Scalar.addi v33 v35
  let c234_i32 : BitVec 32 := 234#32
  let v37 : BitVec 1 := Scalar.cmpi .sge v1 c234_i32
  let v38 : BitVec 32 := Scalar.extui v37
  let v39 : BitVec 32 := Scalar.addi v36 v38
  let c247_i32 : BitVec 32 := 247#32
  let v40 : BitVec 1 := Scalar.cmpi .sge v1 c247_i32
  let v41 : BitVec 32 := Scalar.extui v40
  let v42 : BitVec 32 := Scalar.addi v39 v41
  let c259_i32 : BitVec 32 := 259#32
  let v43 : BitVec 1 := Scalar.cmpi .sge v1 c259_i32
  let v44 : BitVec 32 := Scalar.extui v43
  let v45 : BitVec 32 := Scalar.addi v42 v44
  let c270_i32 : BitVec 32 := 270#32
  let v46 : BitVec 1 := Scalar.cmpi .sge v1 c270_i32
  let v47 : BitVec 32 := Scalar.extui v46
  let v48 : BitVec 32 := Scalar.addi v45 v47
  let c280_i32 : BitVec 32 := 280#32
  let v49 : BitVec 1 := Scalar.cmpi .sge v1 c280_i32
  let v50 : BitVec 32 := Scalar.extui v49
  let v51 : BitVec 32 := Scalar.addi v48 v50
  let c289_i32 : BitVec 32 := 289#32
  let v52 : BitVec 1 := Scalar.cmpi .sge v1 c289_i32
  let v53 : BitVec 32 := Scalar.extui v52
  let v54 : BitVec 32 := Scalar.addi v51 v53
  let c297_i32 : BitVec 32 := 297#32
  let v55 : BitVec 1 := Scalar.cmpi .sge v1 c297_i32
  let v56 : BitVec 32 := Scalar.extui v55
  let v57 : BitVec 32 := Scalar.addi v54 v56
  let c304_i32 : BitVec 32 := 304#32
  let v58 : BitVec 1 := Scalar.cmpi .sge v1 c304_i32
  let v59 : BitVec 32 := Scalar.extui v58
  let v60 : BitVec 32 := Scalar.addi v57 v59
  let c310_i32 : BitVec 32 := 310#32
  let v61 : BitVec 1 := Scalar.cmpi .sge v1 c310_i32
  let v62 : BitVec 32 := Scalar.extui v61
  let v63 : BitVec 32 := Scalar.addi v60 v62
  let c315_i32 : BitVec 32 := 315#32
  let v64 : BitVec 1 := Scalar.cmpi .sge v1 c315_i32
  let v65 : BitVec 32 := Scalar.extui v64
  let v66 : BitVec 32 := Scalar.addi v63 v65
  let c319_i32 : BitVec 32 := 319#32
  let v67 : BitVec 1 := Scalar.cmpi .sge v1 c319_i32
  let v68 : BitVec 32 := Scalar.extui v67
  let v69 : BitVec 32 := Scalar.addi v66 v68
  let c322_i32 : BitVec 32 := 322#32
  let v70 : BitVec 1 := Scalar.cmpi .sge v1 c322_i32
  let v71 : BitVec 32 := Scalar.extui v70
  let v72 : BitVec 32 := Scalar.addi v69 v71
  let c324_i32 : BitVec 32 := 324#32
  let v73 : BitVec 1 := Scalar.cmpi .sge v1 c324_i32
  let v74 : BitVec 32 := Scalar.extui v73
  let v75 : BitVec 32 := Scalar.addi v72 v74
  let c23552_i32 : BitVec 32 := 23552#32
  let v118 : BitVec 32 := Scalar.muli v75 c23552_i32
  let v119 : BitVec 32 := Scalar.addi v118 c0_i32_17
  ![v119.toNat]
def k0_off6 (i : grid0.Coords) (c0_i32_22 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c25_i32 : BitVec 32 := 25#32
  let v4 : BitVec 1 := Scalar.cmpi .sge v1 c25_i32
  let v5 : BitVec 32 := Scalar.extui v4
  let v6 : BitVec 32 := Scalar.addi c0_i32 v5
  let c49_i32 : BitVec 32 := 49#32
  let v7 : BitVec 1 := Scalar.cmpi .sge v1 c49_i32
  let v8 : BitVec 32 := Scalar.extui v7
  let v9 : BitVec 32 := Scalar.addi v6 v8
  let c72_i32 : BitVec 32 := 72#32
  let v10 : BitVec 1 := Scalar.cmpi .sge v1 c72_i32
  let v11 : BitVec 32 := Scalar.extui v10
  let v12 : BitVec 32 := Scalar.addi v9 v11
  let c94_i32 : BitVec 32 := 94#32
  let v13 : BitVec 1 := Scalar.cmpi .sge v1 c94_i32
  let v14 : BitVec 32 := Scalar.extui v13
  let v15 : BitVec 32 := Scalar.addi v12 v14
  let c115_i32 : BitVec 32 := 115#32
  let v16 : BitVec 1 := Scalar.cmpi .sge v1 c115_i32
  let v17 : BitVec 32 := Scalar.extui v16
  let v18 : BitVec 32 := Scalar.addi v15 v17
  let c135_i32 : BitVec 32 := 135#32
  let v19 : BitVec 1 := Scalar.cmpi .sge v1 c135_i32
  let v20 : BitVec 32 := Scalar.extui v19
  let v21 : BitVec 32 := Scalar.addi v18 v20
  let c154_i32 : BitVec 32 := 154#32
  let v22 : BitVec 1 := Scalar.cmpi .sge v1 c154_i32
  let v23 : BitVec 32 := Scalar.extui v22
  let v24 : BitVec 32 := Scalar.addi v21 v23
  let c172_i32 : BitVec 32 := 172#32
  let v25 : BitVec 1 := Scalar.cmpi .sge v1 c172_i32
  let v26 : BitVec 32 := Scalar.extui v25
  let v27 : BitVec 32 := Scalar.addi v24 v26
  let c189_i32 : BitVec 32 := 189#32
  let v28 : BitVec 1 := Scalar.cmpi .sge v1 c189_i32
  let v29 : BitVec 32 := Scalar.extui v28
  let v30 : BitVec 32 := Scalar.addi v27 v29
  let c205_i32 : BitVec 32 := 205#32
  let v31 : BitVec 1 := Scalar.cmpi .sge v1 c205_i32
  let v32 : BitVec 32 := Scalar.extui v31
  let v33 : BitVec 32 := Scalar.addi v30 v32
  let c220_i32 : BitVec 32 := 220#32
  let v34 : BitVec 1 := Scalar.cmpi .sge v1 c220_i32
  let v35 : BitVec 32 := Scalar.extui v34
  let v36 : BitVec 32 := Scalar.addi v33 v35
  let c234_i32 : BitVec 32 := 234#32
  let v37 : BitVec 1 := Scalar.cmpi .sge v1 c234_i32
  let v38 : BitVec 32 := Scalar.extui v37
  let v39 : BitVec 32 := Scalar.addi v36 v38
  let c247_i32 : BitVec 32 := 247#32
  let v40 : BitVec 1 := Scalar.cmpi .sge v1 c247_i32
  let v41 : BitVec 32 := Scalar.extui v40
  let v42 : BitVec 32 := Scalar.addi v39 v41
  let c259_i32 : BitVec 32 := 259#32
  let v43 : BitVec 1 := Scalar.cmpi .sge v1 c259_i32
  let v44 : BitVec 32 := Scalar.extui v43
  let v45 : BitVec 32 := Scalar.addi v42 v44
  let c270_i32 : BitVec 32 := 270#32
  let v46 : BitVec 1 := Scalar.cmpi .sge v1 c270_i32
  let v47 : BitVec 32 := Scalar.extui v46
  let v48 : BitVec 32 := Scalar.addi v45 v47
  let c280_i32 : BitVec 32 := 280#32
  let v49 : BitVec 1 := Scalar.cmpi .sge v1 c280_i32
  let v50 : BitVec 32 := Scalar.extui v49
  let v51 : BitVec 32 := Scalar.addi v48 v50
  let c289_i32 : BitVec 32 := 289#32
  let v52 : BitVec 1 := Scalar.cmpi .sge v1 c289_i32
  let v53 : BitVec 32 := Scalar.extui v52
  let v54 : BitVec 32 := Scalar.addi v51 v53
  let c297_i32 : BitVec 32 := 297#32
  let v55 : BitVec 1 := Scalar.cmpi .sge v1 c297_i32
  let v56 : BitVec 32 := Scalar.extui v55
  let v57 : BitVec 32 := Scalar.addi v54 v56
  let c304_i32 : BitVec 32 := 304#32
  let v58 : BitVec 1 := Scalar.cmpi .sge v1 c304_i32
  let v59 : BitVec 32 := Scalar.extui v58
  let v60 : BitVec 32 := Scalar.addi v57 v59
  let c310_i32 : BitVec 32 := 310#32
  let v61 : BitVec 1 := Scalar.cmpi .sge v1 c310_i32
  let v62 : BitVec 32 := Scalar.extui v61
  let v63 : BitVec 32 := Scalar.addi v60 v62
  let c315_i32 : BitVec 32 := 315#32
  let v64 : BitVec 1 := Scalar.cmpi .sge v1 c315_i32
  let v65 : BitVec 32 := Scalar.extui v64
  let v66 : BitVec 32 := Scalar.addi v63 v65
  let c319_i32 : BitVec 32 := 319#32
  let v67 : BitVec 1 := Scalar.cmpi .sge v1 c319_i32
  let v68 : BitVec 32 := Scalar.extui v67
  let v69 : BitVec 32 := Scalar.addi v66 v68
  let c322_i32 : BitVec 32 := 322#32
  let v70 : BitVec 1 := Scalar.cmpi .sge v1 c322_i32
  let v71 : BitVec 32 := Scalar.extui v70
  let v72 : BitVec 32 := Scalar.addi v69 v71
  let c324_i32 : BitVec 32 := 324#32
  let v73 : BitVec 1 := Scalar.cmpi .sge v1 c324_i32
  let v74 : BitVec 32 := Scalar.extui v73
  let v75 : BitVec 32 := Scalar.addi v72 v74
  let c51_i32 : BitVec 32 := 51#32
  let v76 : BitVec 32 := Scalar.subi c51_i32 v75
  let v77 : BitVec 32 := Scalar.muli v75 v76
  let c1_i32 : BitVec 32 := 1#32
  let v78 : BitVec 32 := Scalar.shrui v77 c1_i32
  let v79 : BitVec 32 := Scalar.subi v1 v78
  let v80 : BitVec 32 := Scalar.addi v79 v75
  let c1_i32_0 : BitVec 32 := 1#32
  let v81 : BitVec 32 := Scalar.addi v80 c1_i32_0
  let c23552_i32_21 : BitVec 32 := 23552#32
  let v126 : BitVec 32 := Scalar.muli v81 c23552_i32_21
  let v127 : BitVec 32 := Scalar.addi v126 c0_i32_22
  ![v127.toNat]
@[reducible] def k0_t1_loop (i : grid0.Coords) : Scf.Loop 32 :=
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_44 : BitVec 32 := 1#32
  ⟨c0_i32_42, v170, c1_i32_44⟩
def k0_off7 (i : grid0.Coords) (k0_t1 : Fin (k0_t1_loop i).trips) : Fin 1 → Nat :=
  let c0_i32_92 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c1_i32_44 : BitVec 32 := 1#32
  let arg14 : BitVec 32 := Scf.iv c0_i32_42 c1_i32_44 k0_t1
  let c32_i32 : BitVec 32 := 32#32
  let v262 : BitVec 32 := Scalar.muli arg14 c32_i32
  let v263 : BitVec 32 := Scalar.addi v1 v262
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c12584_i32_149 : BitVec 32 := 12584#32
  let v424 : BitVec 32 := Scalar.muli v335 c12584_i32_149
  let c51_i32_116 : BitVec 32 := 51#32
  let v336 : BitVec 32 := Scalar.subi c51_i32_116 v335
  let v337 : BitVec 32 := Scalar.muli v335 v336
  let c1_i32_117 : BitVec 32 := 1#32
  let v338 : BitVec 32 := Scalar.shrui v337 c1_i32_117
  let v339 : BitVec 32 := Scalar.subi v263 v338
  let v340 : BitVec 32 := Scalar.addi v339 v335
  let c1_i32_118 : BitVec 32 := 1#32
  let v341 : BitVec 32 := Scalar.addi v340 c1_i32_118
  let c484_i32_150 : BitVec 32 := 484#32
  let v425 : BitVec 32 := Scalar.muli v341 c484_i32_150
  let v426 : BitVec 32 := Scalar.addi v424 v425
  let c0_i32_151 : BitVec 32 := 0#32
  let v427 : BitVec 32 := Scalar.addi v426 c0_i32_151
  let c128_i32_152 : BitVec 32 := 128#32
  let v428 : BitVec 32 := Scalar.muli v427 c128_i32_152
  ![v428.toNat]
def k0_off8 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c1_i32_44 : BitVec 32 := 1#32
  let arg14 : BitVec 32 := Scf.iv c0_i32_42 c1_i32_44 k0_t1
  let c32_i32 : BitVec 32 := 32#32
  let v262 : BitVec 32 := Scalar.muli arg14 c32_i32
  let v263 : BitVec 32 := Scalar.addi v1 v262
  let c0_i32_92 : BitVec 32 := 0#32
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c51_i32_116 : BitVec 32 := 51#32
  let v336 : BitVec 32 := Scalar.subi c51_i32_116 v335
  let v337 : BitVec 32 := Scalar.muli v335 v336
  let c1_i32_117 : BitVec 32 := 1#32
  let v338 : BitVec 32 := Scalar.shrui v337 c1_i32_117
  let v339 : BitVec 32 := Scalar.subi v263 v338
  let v340 : BitVec 32 := Scalar.addi v339 v335
  let c1_i32_118 : BitVec 32 := 1#32
  let v341 : BitVec 32 := Scalar.addi v340 c1_i32_118
  let c12584_i32_154 : BitVec 32 := 12584#32
  let v433 : BitVec 32 := Scalar.muli v341 c12584_i32_154
  let c484_i32_155 : BitVec 32 := 484#32
  let v434 : BitVec 32 := Scalar.muli v335 c484_i32_155
  let v435 : BitVec 32 := Scalar.addi v433 v434
  let c0_i32_156 : BitVec 32 := 0#32
  let v436 : BitVec 32 := Scalar.addi v435 c0_i32_156
  let c128_i32_157 : BitVec 32 := 128#32
  let v437 : BitVec 32 := Scalar.muli v436 c128_i32_157
  ![v437.toNat]
@[reducible] def k0_t2_loop : Scf.Loop 32 :=
  let c0_i32_160 : BitVec 32 := 0#32
  let c45_i32 : BitVec 32 := 45#32
  let v442 : BitVec 32 := Scalar.addi c0_i32_160 c45_i32
  let c1_i32_161 : BitVec 32 := 1#32
  ⟨c0_i32_160, v442, c1_i32_161⟩
def k0_off9 (i : grid0.Coords) (k0_t1 : Fin (k0_t1_loop i).trips) (k0_t2 : Fin k0_t2_loop.trips) (c0_i32_187 : BitVec 32) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t2
  let v469 : BitVec 32 := Scalar.addi v468 arg15
  let c3_i32_183 : BitVec 32 := 3#32
  let v470 : BitVec 32 := Scalar.andi v469 c3_i32_183
  let c2_i32_186 : BitVec 32 := 2#32
  let v474 : BitVec 32 := Scalar.muli v470 c2_i32_186
  let v475 : BitVec 32 := Scalar.addi v474 c0_i32_187
  let c512_i32_188 : BitVec 32 := 512#32
  let v476 : BitVec 32 := Scalar.muli v475 c512_i32_188
  ![v476.toNat]
def k0_off10 (i : grid0.Coords) (k0_t1 : Fin (k0_t1_loop i).trips) (k0_t2 : Fin k0_t2_loop.trips) : Fin 1 → Nat :=
  let c0_i32_92 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c1_i32_44 : BitVec 32 := 1#32
  let arg14 : BitVec 32 := Scf.iv c0_i32_42 c1_i32_44 k0_t1
  let c32_i32 : BitVec 32 := 32#32
  let v262 : BitVec 32 := Scalar.muli arg14 c32_i32
  let v263 : BitVec 32 := Scalar.addi v1 v262
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c23552_i32_184 : BitVec 32 := 23552#32
  let v471 : BitVec 32 := Scalar.muli v335 c23552_i32_184
  let c0_i32_160 : BitVec 32 := 0#32
  let c1_i32_161 : BitVec 32 := 1#32
  let arg15 : BitVec 32 := Scf.iv c0_i32_160 c1_i32_161 k0_t2
  let c512_i32_185 : BitVec 32 := 512#32
  let v472 : BitVec 32 := Scalar.muli arg15 c512_i32_185
  let v473 : BitVec 32 := Scalar.addi v471 v472
  ![v473.toNat]
def k0_off11 (i : grid0.Coords) (k0_t1 : Fin (k0_t1_loop i).trips) (k0_t2 : Fin k0_t2_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t2
  let v469 : BitVec 32 := Scalar.addi v468 arg15
  let c3_i32_183 : BitVec 32 := 3#32
  let v470 : BitVec 32 := Scalar.andi v469 c3_i32_183
  ![v470.toNat]
def k0_off12 (i : grid0.Coords) (k0_t1 : Fin (k0_t1_loop i).trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c1_i32_44 : BitVec 32 := 1#32
  let arg14 : BitVec 32 := Scf.iv c0_i32_42 c1_i32_44 k0_t1
  let c32_i32 : BitVec 32 := 32#32
  let v262 : BitVec 32 := Scalar.muli arg14 c32_i32
  let v263 : BitVec 32 := Scalar.addi v1 v262
  let c0_i32_92 : BitVec 32 := 0#32
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c51_i32_116 : BitVec 32 := 51#32
  let v336 : BitVec 32 := Scalar.subi c51_i32_116 v335
  let v337 : BitVec 32 := Scalar.muli v335 v336
  let c1_i32_117 : BitVec 32 := 1#32
  let v338 : BitVec 32 := Scalar.shrui v337 c1_i32_117
  let v339 : BitVec 32 := Scalar.subi v263 v338
  let v340 : BitVec 32 := Scalar.addi v339 v335
  let c1_i32_118 : BitVec 32 := 1#32
  let v341 : BitVec 32 := Scalar.addi v340 c1_i32_118
  let c23552_i32_189 : BitVec 32 := 23552#32
  let v483 : BitVec 32 := Scalar.muli v341 c23552_i32_189
  let c0_i32_160 : BitVec 32 := 0#32
  let c1_i32_161 : BitVec 32 := 1#32
  let arg15 : BitVec 32 := Scf.iv c0_i32_160 c1_i32_161 k0_t2
  let c512_i32_190 : BitVec 32 := 512#32
  let v484 : BitVec 32 := Scalar.muli arg15 c512_i32_190
  let v485 : BitVec 32 := Scalar.addi v483 v484
  ![v485.toNat]
def k0_off13 (i : grid0.Coords) (k0_t1 : Fin (k0_t1_loop i).trips) (k0_t2 : Fin k0_t2_loop.trips) (c0_i32_202 : BitVec 32) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t2
  let v469 : BitVec 32 := Scalar.addi v468 arg15
  let c3_i32_197 : BitVec 32 := 3#32
  let v499 : BitVec 32 := Scalar.addi v469 c3_i32_197
  let c3_i32_198 : BitVec 32 := 3#32
  let v500 : BitVec 32 := Scalar.andi v499 c3_i32_198
  let c2_i32_201 : BitVec 32 := 2#32
  let v504 : BitVec 32 := Scalar.muli v500 c2_i32_201
  let v505 : BitVec 32 := Scalar.addi v504 c0_i32_202
  let c512_i32_203 : BitVec 32 := 512#32
  let v506 : BitVec 32 := Scalar.muli v505 c512_i32_203
  ![v506.toNat]
def k0_off14 (i : grid0.Coords) (k0_t1 : Fin (k0_t1_loop i).trips) (k0_t2 : Fin k0_t2_loop.trips) : Fin 1 → Nat :=
  let c0_i32_92 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c1_i32_44 : BitVec 32 := 1#32
  let arg14 : BitVec 32 := Scf.iv c0_i32_42 c1_i32_44 k0_t1
  let c32_i32 : BitVec 32 := 32#32
  let v262 : BitVec 32 := Scalar.muli arg14 c32_i32
  let v263 : BitVec 32 := Scalar.addi v1 v262
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c23552_i32_199 : BitVec 32 := 23552#32
  let v501 : BitVec 32 := Scalar.muli v335 c23552_i32_199
  let c0_i32_160 : BitVec 32 := 0#32
  let c1_i32_161 : BitVec 32 := 1#32
  let arg15 : BitVec 32 := Scf.iv c0_i32_160 c1_i32_161 k0_t2
  let c3_i32_194 : BitVec 32 := 3#32
  let v495 : BitVec 32 := Scalar.addi arg15 c3_i32_194
  let c45_i32_195 : BitVec 32 := 45#32
  let v496 : BitVec 1 := Scalar.cmpi .sge v495 c45_i32_195
  let c45_i32_196 : BitVec 32 := 45#32
  let v497 : BitVec 32 := Scalar.subi v495 c45_i32_196
  let v498 : BitVec 32 := Scalar.select v496 v497 v495
  let c512_i32_200 : BitVec 32 := 512#32
  let v502 : BitVec 32 := Scalar.muli v498 c512_i32_200
  let v503 : BitVec 32 := Scalar.addi v501 v502
  ![v503.toNat]
def k0_off15 (i : grid0.Coords) (k0_t1 : Fin (k0_t1_loop i).trips) (k0_t2 : Fin k0_t2_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t2
  let v469 : BitVec 32 := Scalar.addi v468 arg15
  let c3_i32_197 : BitVec 32 := 3#32
  let v499 : BitVec 32 := Scalar.addi v469 c3_i32_197
  let c3_i32_198 : BitVec 32 := 3#32
  let v500 : BitVec 32 := Scalar.andi v499 c3_i32_198
  ![v500.toNat]
def k0_off16 (i : grid0.Coords) (k0_t1 : Fin (k0_t1_loop i).trips) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c1_i32_44 : BitVec 32 := 1#32
  let arg14 : BitVec 32 := Scf.iv c0_i32_42 c1_i32_44 k0_t1
  let c32_i32 : BitVec 32 := 32#32
  let v262 : BitVec 32 := Scalar.muli arg14 c32_i32
  let v263 : BitVec 32 := Scalar.addi v1 v262
  let c0_i32_92 : BitVec 32 := 0#32
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c51_i32_116 : BitVec 32 := 51#32
  let v336 : BitVec 32 := Scalar.subi c51_i32_116 v335
  let v337 : BitVec 32 := Scalar.muli v335 v336
  let c1_i32_117 : BitVec 32 := 1#32
  let v338 : BitVec 32 := Scalar.shrui v337 c1_i32_117
  let v339 : BitVec 32 := Scalar.subi v263 v338
  let v340 : BitVec 32 := Scalar.addi v339 v335
  let c1_i32_118 : BitVec 32 := 1#32
  let v341 : BitVec 32 := Scalar.addi v340 c1_i32_118
  let c23552_i32_204 : BitVec 32 := 23552#32
  let v513 : BitVec 32 := Scalar.muli v341 c23552_i32_204
  let c0_i32_160 : BitVec 32 := 0#32
  let c1_i32_161 : BitVec 32 := 1#32
  let arg15 : BitVec 32 := Scf.iv c0_i32_160 c1_i32_161 k0_t2
  let c3_i32_194 : BitVec 32 := 3#32
  let v495 : BitVec 32 := Scalar.addi arg15 c3_i32_194
  let c45_i32_195 : BitVec 32 := 45#32
  let v496 : BitVec 1 := Scalar.cmpi .sge v495 c45_i32_195
  let c45_i32_196 : BitVec 32 := 45#32
  let v497 : BitVec 32 := Scalar.subi v495 c45_i32_196
  let v498 : BitVec 32 := Scalar.select v496 v497 v495
  let c512_i32_205 : BitVec 32 := 512#32
  let v514 : BitVec 32 := Scalar.muli v498 c512_i32_205
  let v515 : BitVec 32 := Scalar.addi v513 v514
  ![v515.toNat]
def k0_cond1 (i : grid0.Coords) (k0_t1 : Fin (k0_t1_loop i).trips) (k0_t2 : Fin k0_t2_loop.trips) : BitVec 1 :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t2
  let v469 : BitVec 32 := Scalar.addi v468 arg15
  let c2_i32_209 : BitVec 32 := 2#32
  let v525 : BitVec 1 := Scalar.cmpi .sge v469 c2_i32_209
  let v526 : BitVec 32 := Scalar.extui v525
  let c0_i32_210 : BitVec 32 := 0#32
  let v527 : BitVec 1 := Scalar.cmpi .ne v526 c0_i32_210
  v527

def k0_off17 (i : grid0.Coords) (k0_t1 : Fin (k0_t1_loop i).trips) (k0_t2 : Fin k0_t2_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t2
  let v469 : BitVec 32 := Scalar.addi v468 arg15
  let c1_i32_224 : BitVec 32 := 1#32
  let v545 : BitVec 32 := Scalar.andi v469 c1_i32_224
  let c1024_i32_225 : BitVec 32 := 1024#32
  let v546 : BitVec 32 := Scalar.muli v545 c1024_i32_225
  ![v546.toNat]
def k0_off18 (i : grid0.Coords) (k0_t1 : Fin (k0_t1_loop i).trips) (k0_t2 : Fin k0_t2_loop.trips) : Fin 1 → Nat :=
  let c0_i32_227 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c1_i32_44 : BitVec 32 := 1#32
  let arg14 : BitVec 32 := Scf.iv c0_i32_42 c1_i32_44 k0_t1
  let c32_i32 : BitVec 32 := 32#32
  let v262 : BitVec 32 := Scalar.muli arg14 c32_i32
  let v263 : BitVec 32 := Scalar.addi v1 v262
  let c46080_i32_226 : BitVec 32 := 46080#32
  let v547 : BitVec 32 := Scalar.muli v263 c46080_i32_226
  let v548 : BitVec 32 := Scalar.addi c0_i32_227 v547
  let c0_i32_160 : BitVec 32 := 0#32
  let c1_i32_161 : BitVec 32 := 1#32
  let arg15 : BitVec 32 := Scf.iv c0_i32_160 c1_i32_161 k0_t2
  let c1024_i32_228 : BitVec 32 := 1024#32
  let v549 : BitVec 32 := Scalar.muli arg15 c1024_i32_228
  let v550 : BitVec 32 := Scalar.addi v548 v549
  ![v550.toNat]
def k0_off19 (i : grid0.Coords) (k0_t1 : Fin (k0_t1_loop i).trips) (k0_t2 : Fin k0_t2_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t2
  let v469 : BitVec 32 := Scalar.addi v468 arg15
  let c1_i32_224 : BitVec 32 := 1#32
  let v545 : BitVec 32 := Scalar.andi v469 c1_i32_224
  ![v545.toNat]
@[reducible] def k0_t3_loop : Scf.Loop 32 :=
  let c0_i32_216 : BitVec 32 := 0#32
  let c32_i32_217 : BitVec 32 := 32#32
  let v532 : BitVec 32 := Scalar.addi c0_i32_216 c32_i32_217
  let c1_i32_218 : BitVec 32 := 1#32
  ⟨c0_i32_216, v532, c1_i32_218⟩
def k0_off20 (i : grid0.Coords) (k0_t1 : Fin (k0_t1_loop i).trips) (k0_t2 : Fin k0_t2_loop.trips) (k0_t3 : Fin k0_t3_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t2
  let v469 : BitVec 32 := Scalar.addi v468 arg15
  let c3_i32_211 : BitVec 32 := 3#32
  let v528 : BitVec 32 := Scalar.andi v469 c3_i32_211
  let c1024_i32_212 : BitVec 32 := 1024#32
  let v529 : BitVec 32 := Scalar.muli v528 c1024_i32_212
  let c0_i32_216 : BitVec 32 := 0#32
  let c1_i32_218 : BitVec 32 := 1#32
  let arg16 : BitVec 32 := Scf.iv c0_i32_216 c1_i32_218 k0_t3
  let c16_i32 : BitVec 32 := 16#32
  let v545 : BitVec 32 := Scalar.muli arg16 c16_i32
  let v546 : BitVec 32 := Scalar.addi v529 v545
  let v547 : Index := Scalar.indexCast v546
  ![v547.toNat]
def k0_off21 (i : grid0.Coords) (k0_t1 : Fin (k0_t1_loop i).trips) (k0_t2 : Fin k0_t2_loop.trips) (k0_t3 : Fin k0_t3_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t2
  let v469 : BitVec 32 := Scalar.addi v468 arg15
  let c3_i32_211 : BitVec 32 := 3#32
  let v528 : BitVec 32 := Scalar.andi v469 c3_i32_211
  let c1024_i32_212 : BitVec 32 := 1024#32
  let v529 : BitVec 32 := Scalar.muli v528 c1024_i32_212
  let c512_i32_224 : BitVec 32 := 512#32
  let v549 : BitVec 32 := Scalar.addi v529 c512_i32_224
  let c0_i32_216 : BitVec 32 := 0#32
  let c1_i32_218 : BitVec 32 := 1#32
  let arg16 : BitVec 32 := Scf.iv c0_i32_216 c1_i32_218 k0_t3
  let c16_i32 : BitVec 32 := 16#32
  let v545 : BitVec 32 := Scalar.muli arg16 c16_i32
  let v550 : BitVec 32 := Scalar.addi v549 v545
  let v551 : Index := Scalar.indexCast v550
  ![v551.toNat]

def k0_chk1 (v554 : IVec S16 32) : Prop :=
  (∀ a x, ((![v554] : Fin 1 → IVec S16 32) a x).toNat < S12288.size a) ∧
  (∀ a x, ((![v554] : Fin 1 → IVec S16 32) a x).toNat < S12288.size a) ∧
  (∀ a x, ((![v554] : Fin 1 → IVec S16 32) a x).toNat < S12288.size a)
theorem k0_idx1_inb : ∀ (v554 : IVec S16 32) (k0_hw1 : k0_chk1 v554), ∀ a x, ((![v554] : Fin 1 → IVec S16 32) a x).toNat < S12288.size a := fun v554 k0_hw1 => k0_hw1.1
theorem k0_idx3_inb : ∀ (v554 : IVec S16 32) (k0_hw1 : k0_chk1 v554), ∀ a x, ((![v554] : Fin 1 → IVec S16 32) a x).toNat < S12288.size a := fun v554 k0_hw1 => k0_hw1.2.1
theorem k0_idx5_inb : ∀ (v554 : IVec S16 32) (k0_hw1 : k0_chk1 v554), ∀ a x, ((![v554] : Fin 1 → IVec S16 32) a x).toNat < S12288.size a := fun v554 k0_hw1 => k0_hw1.2.2

def k0_chk2 (v556 : IVec S16 32) : Prop :=
  (∀ a x, ((![v556] : Fin 1 → IVec S16 32) a x).toNat < S12288.size a) ∧
  (∀ a x, ((![v556] : Fin 1 → IVec S16 32) a x).toNat < S12288.size a) ∧
  (∀ a x, ((![v556] : Fin 1 → IVec S16 32) a x).toNat < S12288.size a)
theorem k0_idx2_inb : ∀ (v556 : IVec S16 32) (k0_hw2 : k0_chk2 v556), ∀ a x, ((![v556] : Fin 1 → IVec S16 32) a x).toNat < S12288.size a := fun v556 k0_hw2 => k0_hw2.1
theorem k0_idx4_inb : ∀ (v556 : IVec S16 32) (k0_hw2 : k0_chk2 v556), ∀ a x, ((![v556] : Fin 1 → IVec S16 32) a x).toNat < S12288.size a := fun v556 k0_hw2 => k0_hw2.2.1
theorem k0_idx6_inb : ∀ (v556 : IVec S16 32) (k0_hw2 : k0_chk2 v556), ∀ a x, ((![v556] : Fin 1 → IVec S16 32) a x).toNat < S12288.size a := fun v556 k0_hw2 => k0_hw2.2.2
def k0_off22 (i : grid0.Coords) (k0_t1 : Fin (k0_t1_loop i).trips) (k0_t2 : Fin k0_t2_loop.trips) (k0_t3 : Fin k0_t3_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t2
  let v469 : BitVec 32 := Scalar.addi v468 arg15
  let c1_i32_213 : BitVec 32 := 1#32
  let v530 : BitVec 32 := Scalar.andi v469 c1_i32_213
  let c1024_i32_214 : BitVec 32 := 1024#32
  let v531 : BitVec 32 := Scalar.muli v530 c1024_i32_214
  let c0_i32_216 : BitVec 32 := 0#32
  let c1_i32_218 : BitVec 32 := 1#32
  let arg16 : BitVec 32 := Scf.iv c0_i32_216 c1_i32_218 k0_t3
  let c16_i32 : BitVec 32 := 16#32
  let v545 : BitVec 32 := Scalar.muli arg16 c16_i32
  let v688 : BitVec 32 := Scalar.addi v531 v545
  let v689 : Index := Scalar.indexCast v688
  ![v689.toNat]

def k0_chk3 (v692 : IVec S16 32) : Prop :=
  (∀ a x, ((![v692] : Fin 1 → IVec S16 32) a x).toNat < S12288.size a) ∧
  (∀ a x, ((![v692] : Fin 1 → IVec S16 32) a x).toNat < S12288.size a) ∧
  (∀ a x, ((![v692] : Fin 1 → IVec S16 32) a x).toNat < S12288.size a)
theorem k0_idx7_inb : ∀ (v692 : IVec S16 32) (k0_hw3 : k0_chk3 v692), ∀ a x, ((![v692] : Fin 1 → IVec S16 32) a x).toNat < S12288.size a := fun v692 k0_hw3 => k0_hw3.1
theorem k0_idx9_inb : ∀ (v692 : IVec S16 32) (k0_hw3 : k0_chk3 v692), ∀ a x, ((![v692] : Fin 1 → IVec S16 32) a x).toNat < S12288.size a := fun v692 k0_hw3 => k0_hw3.2.1
theorem k0_idx11_inb : ∀ (v692 : IVec S16 32) (k0_hw3 : k0_chk3 v692), ∀ a x, ((![v692] : Fin 1 → IVec S16 32) a x).toNat < S12288.size a := fun v692 k0_hw3 => k0_hw3.2.2

def k0_chk4 (v694 : IVec S16 32) : Prop :=
  (∀ a x, ((![v694] : Fin 1 → IVec S16 32) a x).toNat < S12288.size a) ∧
  (∀ a x, ((![v694] : Fin 1 → IVec S16 32) a x).toNat < S12288.size a) ∧
  (∀ a x, ((![v694] : Fin 1 → IVec S16 32) a x).toNat < S12288.size a)
theorem k0_idx8_inb : ∀ (v694 : IVec S16 32) (k0_hw4 : k0_chk4 v694), ∀ a x, ((![v694] : Fin 1 → IVec S16 32) a x).toNat < S12288.size a := fun v694 k0_hw4 => k0_hw4.1
theorem k0_idx10_inb : ∀ (v694 : IVec S16 32) (k0_hw4 : k0_chk4 v694), ∀ a x, ((![v694] : Fin 1 → IVec S16 32) a x).toNat < S12288.size a := fun v694 k0_hw4 => k0_hw4.2.1
theorem k0_idx12_inb : ∀ (v694 : IVec S16 32) (k0_hw4 : k0_chk4 v694), ∀ a x, ((![v694] : Fin 1 → IVec S16 32) a x).toNat < S12288.size a := fun v694 k0_hw4 => k0_hw4.2.2
def k0_off23 (i : grid0.Coords) (k0_t1 : Fin (k0_t1_loop i).trips) (k0_t2 : Fin k0_t2_loop.trips) (k0_t3 : Fin k0_t3_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t2
  let v469 : BitVec 32 := Scalar.addi v468 arg15
  let c1_i32_213 : BitVec 32 := 1#32
  let v530 : BitVec 32 := Scalar.andi v469 c1_i32_213
  let c1024_i32_214 : BitVec 32 := 1024#32
  let v531 : BitVec 32 := Scalar.muli v530 c1024_i32_214
  let c512_i32_332 : BitVec 32 := 512#32
  let v826 : BitVec 32 := Scalar.addi v531 c512_i32_332
  let c0_i32_216 : BitVec 32 := 0#32
  let c1_i32_218 : BitVec 32 := 1#32
  let arg16 : BitVec 32 := Scf.iv c0_i32_216 c1_i32_218 k0_t3
  let c16_i32 : BitVec 32 := 16#32
  let v545 : BitVec 32 := Scalar.muli arg16 c16_i32
  let v827 : BitVec 32 := Scalar.addi v826 v545
  let v828 : Index := Scalar.indexCast v827
  ![v828.toNat]
def k0_off24 (i : grid0.Coords) (k0_t1 : Fin (k0_t1_loop i).trips) (k0_t2 : Fin k0_t2_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t2
  let v469 : BitVec 32 := Scalar.addi v468 arg15
  let c1_i32_220 : BitVec 32 := 1#32
  let v533 : BitVec 32 := Scalar.andi v469 c1_i32_220
  let c1024_i32_221 : BitVec 32 := 1024#32
  let v534 : BitVec 32 := Scalar.muli v533 c1024_i32_221
  ![v534.toNat]
def k0_off25 (i : grid0.Coords) (k0_t1 : Fin (k0_t1_loop i).trips) (k0_t2 : Fin k0_t2_loop.trips) : Fin 1 → Nat :=
  let c0_i32_222 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c1_i32_44 : BitVec 32 := 1#32
  let arg14 : BitVec 32 := Scf.iv c0_i32_42 c1_i32_44 k0_t1
  let c32_i32 : BitVec 32 := 32#32
  let v262 : BitVec 32 := Scalar.muli arg14 c32_i32
  let v263 : BitVec 32 := Scalar.addi v1 v262
  let c46080_i32 : BitVec 32 := 46080#32
  let v535 : BitVec 32 := Scalar.muli v263 c46080_i32
  let v536 : BitVec 32 := Scalar.addi c0_i32_222 v535
  let c0_i32_160 : BitVec 32 := 0#32
  let c1_i32_161 : BitVec 32 := 1#32
  let arg15 : BitVec 32 := Scf.iv c0_i32_160 c1_i32_161 k0_t2
  let c1024_i32_223 : BitVec 32 := 1024#32
  let v537 : BitVec 32 := Scalar.muli arg15 c1024_i32_223
  let v538 : BitVec 32 := Scalar.addi v536 v537
  ![v538.toNat]
def k0_off26 (i : grid0.Coords) (k0_t1 : Fin (k0_t1_loop i).trips) (k0_t2 : Fin k0_t2_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t2
  let v469 : BitVec 32 := Scalar.addi v468 arg15
  let c1_i32_220 : BitVec 32 := 1#32
  let v533 : BitVec 32 := Scalar.andi v469 c1_i32_220
  ![v533.toNat]
def k0_cond2 (i : grid0.Coords) (k0_t1 : Fin (k0_t1_loop i).trips) : BitVec 1 :=
  let c0_i32_42 : BitVec 32 := 0#32
  let c1_i32_44 : BitVec 32 := 1#32
  let arg14 : BitVec 32 := Scf.iv c0_i32_42 c1_i32_44 k0_t1
  let c1_i32_119 : BitVec 32 := 1#32
  let v342 : BitVec 32 := Scalar.addi arg14 c1_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v343 : BitVec 1 := Scalar.cmpi .slt v342 v3
  let v443 : BitVec 32 := Scalar.extui v343
  let c0_i32_163 : BitVec 32 := 0#32
  let v444 : BitVec 1 := Scalar.cmpi .ne v443 c0_i32_163
  v444

def k0_off27 (i : grid0.Coords) (k0_t1 : Fin (k0_t1_loop i).trips) : Fin 1 → Nat :=
  let c0_i32_122 : BitVec 32 := 0#32
  let c0_i32_42 : BitVec 32 := 0#32
  let c1_i32_44 : BitVec 32 := 1#32
  let arg14 : BitVec 32 := Scf.iv c0_i32_42 c1_i32_44 k0_t1
  let c1_i32_119 : BitVec 32 := 1#32
  let v342 : BitVec 32 := Scalar.addi arg14 c1_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v343 : BitVec 1 := Scalar.cmpi .slt v342 v3
  let c32_i32 : BitVec 32 := 32#32
  let v262 : BitVec 32 := Scalar.muli arg14 c32_i32
  let v263 : BitVec 32 := Scalar.addi v1 v262
  let c32_i32_120 : BitVec 32 := 32#32
  let v344 : BitVec 32 := Scalar.addi v263 c32_i32_120
  let v345 : BitVec 32 := Scalar.select v343 v344 v1
  let c25_i32_121 : BitVec 32 := 25#32
  let v346 : BitVec 1 := Scalar.cmpi .sge v345 c25_i32_121
  let v347 : BitVec 32 := Scalar.extui v346
  let v348 : BitVec 32 := Scalar.addi c0_i32_122 v347
  let c49_i32_123 : BitVec 32 := 49#32
  let v349 : BitVec 1 := Scalar.cmpi .sge v345 c49_i32_123
  let v350 : BitVec 32 := Scalar.extui v349
  let v351 : BitVec 32 := Scalar.addi v348 v350
  let c72_i32_124 : BitVec 32 := 72#32
  let v352 : BitVec 1 := Scalar.cmpi .sge v345 c72_i32_124
  let v353 : BitVec 32 := Scalar.extui v352
  let v354 : BitVec 32 := Scalar.addi v351 v353
  let c94_i32_125 : BitVec 32 := 94#32
  let v355 : BitVec 1 := Scalar.cmpi .sge v345 c94_i32_125
  let v356 : BitVec 32 := Scalar.extui v355
  let v357 : BitVec 32 := Scalar.addi v354 v356
  let c115_i32_126 : BitVec 32 := 115#32
  let v358 : BitVec 1 := Scalar.cmpi .sge v345 c115_i32_126
  let v359 : BitVec 32 := Scalar.extui v358
  let v360 : BitVec 32 := Scalar.addi v357 v359
  let c135_i32_127 : BitVec 32 := 135#32
  let v361 : BitVec 1 := Scalar.cmpi .sge v345 c135_i32_127
  let v362 : BitVec 32 := Scalar.extui v361
  let v363 : BitVec 32 := Scalar.addi v360 v362
  let c154_i32_128 : BitVec 32 := 154#32
  let v364 : BitVec 1 := Scalar.cmpi .sge v345 c154_i32_128
  let v365 : BitVec 32 := Scalar.extui v364
  let v366 : BitVec 32 := Scalar.addi v363 v365
  let c172_i32_129 : BitVec 32 := 172#32
  let v367 : BitVec 1 := Scalar.cmpi .sge v345 c172_i32_129
  let v368 : BitVec 32 := Scalar.extui v367
  let v369 : BitVec 32 := Scalar.addi v366 v368
  let c189_i32_130 : BitVec 32 := 189#32
  let v370 : BitVec 1 := Scalar.cmpi .sge v345 c189_i32_130
  let v371 : BitVec 32 := Scalar.extui v370
  let v372 : BitVec 32 := Scalar.addi v369 v371
  let c205_i32_131 : BitVec 32 := 205#32
  let v373 : BitVec 1 := Scalar.cmpi .sge v345 c205_i32_131
  let v374 : BitVec 32 := Scalar.extui v373
  let v375 : BitVec 32 := Scalar.addi v372 v374
  let c220_i32_132 : BitVec 32 := 220#32
  let v376 : BitVec 1 := Scalar.cmpi .sge v345 c220_i32_132
  let v377 : BitVec 32 := Scalar.extui v376
  let v378 : BitVec 32 := Scalar.addi v375 v377
  let c234_i32_133 : BitVec 32 := 234#32
  let v379 : BitVec 1 := Scalar.cmpi .sge v345 c234_i32_133
  let v380 : BitVec 32 := Scalar.extui v379
  let v381 : BitVec 32 := Scalar.addi v378 v380
  let c247_i32_134 : BitVec 32 := 247#32
  let v382 : BitVec 1 := Scalar.cmpi .sge v345 c247_i32_134
  let v383 : BitVec 32 := Scalar.extui v382
  let v384 : BitVec 32 := Scalar.addi v381 v383
  let c259_i32_135 : BitVec 32 := 259#32
  let v385 : BitVec 1 := Scalar.cmpi .sge v345 c259_i32_135
  let v386 : BitVec 32 := Scalar.extui v385
  let v387 : BitVec 32 := Scalar.addi v384 v386
  let c270_i32_136 : BitVec 32 := 270#32
  let v388 : BitVec 1 := Scalar.cmpi .sge v345 c270_i32_136
  let v389 : BitVec 32 := Scalar.extui v388
  let v390 : BitVec 32 := Scalar.addi v387 v389
  let c280_i32_137 : BitVec 32 := 280#32
  let v391 : BitVec 1 := Scalar.cmpi .sge v345 c280_i32_137
  let v392 : BitVec 32 := Scalar.extui v391
  let v393 : BitVec 32 := Scalar.addi v390 v392
  let c289_i32_138 : BitVec 32 := 289#32
  let v394 : BitVec 1 := Scalar.cmpi .sge v345 c289_i32_138
  let v395 : BitVec 32 := Scalar.extui v394
  let v396 : BitVec 32 := Scalar.addi v393 v395
  let c297_i32_139 : BitVec 32 := 297#32
  let v397 : BitVec 1 := Scalar.cmpi .sge v345 c297_i32_139
  let v398 : BitVec 32 := Scalar.extui v397
  let v399 : BitVec 32 := Scalar.addi v396 v398
  let c304_i32_140 : BitVec 32 := 304#32
  let v400 : BitVec 1 := Scalar.cmpi .sge v345 c304_i32_140
  let v401 : BitVec 32 := Scalar.extui v400
  let v402 : BitVec 32 := Scalar.addi v399 v401
  let c310_i32_141 : BitVec 32 := 310#32
  let v403 : BitVec 1 := Scalar.cmpi .sge v345 c310_i32_141
  let v404 : BitVec 32 := Scalar.extui v403
  let v405 : BitVec 32 := Scalar.addi v402 v404
  let c315_i32_142 : BitVec 32 := 315#32
  let v406 : BitVec 1 := Scalar.cmpi .sge v345 c315_i32_142
  let v407 : BitVec 32 := Scalar.extui v406
  let v408 : BitVec 32 := Scalar.addi v405 v407
  let c319_i32_143 : BitVec 32 := 319#32
  let v409 : BitVec 1 := Scalar.cmpi .sge v345 c319_i32_143
  let v410 : BitVec 32 := Scalar.extui v409
  let v411 : BitVec 32 := Scalar.addi v408 v410
  let c322_i32_144 : BitVec 32 := 322#32
  let v412 : BitVec 1 := Scalar.cmpi .sge v345 c322_i32_144
  let v413 : BitVec 32 := Scalar.extui v412
  let v414 : BitVec 32 := Scalar.addi v411 v413
  let c324_i32_145 : BitVec 32 := 324#32
  let v415 : BitVec 1 := Scalar.cmpi .sge v345 c324_i32_145
  let v416 : BitVec 32 := Scalar.extui v415
  let v417 : BitVec 32 := Scalar.addi v414 v416
  let c12584_i32_180 : BitVec 32 := 12584#32
  let v466 : BitVec 32 := Scalar.muli v417 c12584_i32_180
  let c51_i32_146 : BitVec 32 := 51#32
  let v418 : BitVec 32 := Scalar.subi c51_i32_146 v417
  let v419 : BitVec 32 := Scalar.muli v417 v418
  let c1_i32_147 : BitVec 32 := 1#32
  let v420 : BitVec 32 := Scalar.shrui v419 c1_i32_147
  let v421 : BitVec 32 := Scalar.subi v345 v420
  let v422 : BitVec 32 := Scalar.addi v421 v417
  let c1_i32_148 : BitVec 32 := 1#32
  let v423 : BitVec 32 := Scalar.addi v422 c1_i32_148
  let c484_i32_181 : BitVec 32 := 484#32
  let v467 : BitVec 32 := Scalar.muli v423 c484_i32_181
  let v468 : BitVec 32 := Scalar.addi v466 v467
  let c0_i32_182 : BitVec 32 := 0#32
  let v469 : BitVec 32 := Scalar.addi v468 c0_i32_182
  let c128_i32_183 : BitVec 32 := 128#32
  let v470 : BitVec 32 := Scalar.muli v469 c128_i32_183
  ![v470.toNat]
def k0_off28 (i : grid0.Coords) (k0_t1 : Fin (k0_t1_loop i).trips) : Fin 1 → Nat :=
  let c0_i32_42 : BitVec 32 := 0#32
  let c1_i32_44 : BitVec 32 := 1#32
  let arg14 : BitVec 32 := Scf.iv c0_i32_42 c1_i32_44 k0_t1
  let c1_i32_119 : BitVec 32 := 1#32
  let v342 : BitVec 32 := Scalar.addi arg14 c1_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v343 : BitVec 1 := Scalar.cmpi .slt v342 v3
  let c32_i32 : BitVec 32 := 32#32
  let v262 : BitVec 32 := Scalar.muli arg14 c32_i32
  let v263 : BitVec 32 := Scalar.addi v1 v262
  let c32_i32_120 : BitVec 32 := 32#32
  let v344 : BitVec 32 := Scalar.addi v263 c32_i32_120
  let v345 : BitVec 32 := Scalar.select v343 v344 v1
  let c0_i32_122 : BitVec 32 := 0#32
  let c25_i32_121 : BitVec 32 := 25#32
  let v346 : BitVec 1 := Scalar.cmpi .sge v345 c25_i32_121
  let v347 : BitVec 32 := Scalar.extui v346
  let v348 : BitVec 32 := Scalar.addi c0_i32_122 v347
  let c49_i32_123 : BitVec 32 := 49#32
  let v349 : BitVec 1 := Scalar.cmpi .sge v345 c49_i32_123
  let v350 : BitVec 32 := Scalar.extui v349
  let v351 : BitVec 32 := Scalar.addi v348 v350
  let c72_i32_124 : BitVec 32 := 72#32
  let v352 : BitVec 1 := Scalar.cmpi .sge v345 c72_i32_124
  let v353 : BitVec 32 := Scalar.extui v352
  let v354 : BitVec 32 := Scalar.addi v351 v353
  let c94_i32_125 : BitVec 32 := 94#32
  let v355 : BitVec 1 := Scalar.cmpi .sge v345 c94_i32_125
  let v356 : BitVec 32 := Scalar.extui v355
  let v357 : BitVec 32 := Scalar.addi v354 v356
  let c115_i32_126 : BitVec 32 := 115#32
  let v358 : BitVec 1 := Scalar.cmpi .sge v345 c115_i32_126
  let v359 : BitVec 32 := Scalar.extui v358
  let v360 : BitVec 32 := Scalar.addi v357 v359
  let c135_i32_127 : BitVec 32 := 135#32
  let v361 : BitVec 1 := Scalar.cmpi .sge v345 c135_i32_127
  let v362 : BitVec 32 := Scalar.extui v361
  let v363 : BitVec 32 := Scalar.addi v360 v362
  let c154_i32_128 : BitVec 32 := 154#32
  let v364 : BitVec 1 := Scalar.cmpi .sge v345 c154_i32_128
  let v365 : BitVec 32 := Scalar.extui v364
  let v366 : BitVec 32 := Scalar.addi v363 v365
  let c172_i32_129 : BitVec 32 := 172#32
  let v367 : BitVec 1 := Scalar.cmpi .sge v345 c172_i32_129
  let v368 : BitVec 32 := Scalar.extui v367
  let v369 : BitVec 32 := Scalar.addi v366 v368
  let c189_i32_130 : BitVec 32 := 189#32
  let v370 : BitVec 1 := Scalar.cmpi .sge v345 c189_i32_130
  let v371 : BitVec 32 := Scalar.extui v370
  let v372 : BitVec 32 := Scalar.addi v369 v371
  let c205_i32_131 : BitVec 32 := 205#32
  let v373 : BitVec 1 := Scalar.cmpi .sge v345 c205_i32_131
  let v374 : BitVec 32 := Scalar.extui v373
  let v375 : BitVec 32 := Scalar.addi v372 v374
  let c220_i32_132 : BitVec 32 := 220#32
  let v376 : BitVec 1 := Scalar.cmpi .sge v345 c220_i32_132
  let v377 : BitVec 32 := Scalar.extui v376
  let v378 : BitVec 32 := Scalar.addi v375 v377
  let c234_i32_133 : BitVec 32 := 234#32
  let v379 : BitVec 1 := Scalar.cmpi .sge v345 c234_i32_133
  let v380 : BitVec 32 := Scalar.extui v379
  let v381 : BitVec 32 := Scalar.addi v378 v380
  let c247_i32_134 : BitVec 32 := 247#32
  let v382 : BitVec 1 := Scalar.cmpi .sge v345 c247_i32_134
  let v383 : BitVec 32 := Scalar.extui v382
  let v384 : BitVec 32 := Scalar.addi v381 v383
  let c259_i32_135 : BitVec 32 := 259#32
  let v385 : BitVec 1 := Scalar.cmpi .sge v345 c259_i32_135
  let v386 : BitVec 32 := Scalar.extui v385
  let v387 : BitVec 32 := Scalar.addi v384 v386
  let c270_i32_136 : BitVec 32 := 270#32
  let v388 : BitVec 1 := Scalar.cmpi .sge v345 c270_i32_136
  let v389 : BitVec 32 := Scalar.extui v388
  let v390 : BitVec 32 := Scalar.addi v387 v389
  let c280_i32_137 : BitVec 32 := 280#32
  let v391 : BitVec 1 := Scalar.cmpi .sge v345 c280_i32_137
  let v392 : BitVec 32 := Scalar.extui v391
  let v393 : BitVec 32 := Scalar.addi v390 v392
  let c289_i32_138 : BitVec 32 := 289#32
  let v394 : BitVec 1 := Scalar.cmpi .sge v345 c289_i32_138
  let v395 : BitVec 32 := Scalar.extui v394
  let v396 : BitVec 32 := Scalar.addi v393 v395
  let c297_i32_139 : BitVec 32 := 297#32
  let v397 : BitVec 1 := Scalar.cmpi .sge v345 c297_i32_139
  let v398 : BitVec 32 := Scalar.extui v397
  let v399 : BitVec 32 := Scalar.addi v396 v398
  let c304_i32_140 : BitVec 32 := 304#32
  let v400 : BitVec 1 := Scalar.cmpi .sge v345 c304_i32_140
  let v401 : BitVec 32 := Scalar.extui v400
  let v402 : BitVec 32 := Scalar.addi v399 v401
  let c310_i32_141 : BitVec 32 := 310#32
  let v403 : BitVec 1 := Scalar.cmpi .sge v345 c310_i32_141
  let v404 : BitVec 32 := Scalar.extui v403
  let v405 : BitVec 32 := Scalar.addi v402 v404
  let c315_i32_142 : BitVec 32 := 315#32
  let v406 : BitVec 1 := Scalar.cmpi .sge v345 c315_i32_142
  let v407 : BitVec 32 := Scalar.extui v406
  let v408 : BitVec 32 := Scalar.addi v405 v407
  let c319_i32_143 : BitVec 32 := 319#32
  let v409 : BitVec 1 := Scalar.cmpi .sge v345 c319_i32_143
  let v410 : BitVec 32 := Scalar.extui v409
  let v411 : BitVec 32 := Scalar.addi v408 v410
  let c322_i32_144 : BitVec 32 := 322#32
  let v412 : BitVec 1 := Scalar.cmpi .sge v345 c322_i32_144
  let v413 : BitVec 32 := Scalar.extui v412
  let v414 : BitVec 32 := Scalar.addi v411 v413
  let c324_i32_145 : BitVec 32 := 324#32
  let v415 : BitVec 1 := Scalar.cmpi .sge v345 c324_i32_145
  let v416 : BitVec 32 := Scalar.extui v415
  let v417 : BitVec 32 := Scalar.addi v414 v416
  let c51_i32_146 : BitVec 32 := 51#32
  let v418 : BitVec 32 := Scalar.subi c51_i32_146 v417
  let v419 : BitVec 32 := Scalar.muli v417 v418
  let c1_i32_147 : BitVec 32 := 1#32
  let v420 : BitVec 32 := Scalar.shrui v419 c1_i32_147
  let v421 : BitVec 32 := Scalar.subi v345 v420
  let v422 : BitVec 32 := Scalar.addi v421 v417
  let c1_i32_148 : BitVec 32 := 1#32
  let v423 : BitVec 32 := Scalar.addi v422 c1_i32_148
  let c12584_i32_185 : BitVec 32 := 12584#32
  let v475 : BitVec 32 := Scalar.muli v423 c12584_i32_185
  let c484_i32_186 : BitVec 32 := 484#32
  let v476 : BitVec 32 := Scalar.muli v417 c484_i32_186
  let v477 : BitVec 32 := Scalar.addi v475 v476
  let c0_i32_187 : BitVec 32 := 0#32
  let v478 : BitVec 32 := Scalar.addi v477 c0_i32_187
  let c128_i32_188 : BitVec 32 := 128#32
  let v479 : BitVec 32 := Scalar.muli v478 c128_i32_188
  ![v479.toNat]
def k0_off29 (i : grid0.Coords) (k0_t1 : Fin (k0_t1_loop i).trips) : Fin 1 → Nat :=
  let c0_i32_92 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c1_i32_44 : BitVec 32 := 1#32
  let arg14 : BitVec 32 := Scf.iv c0_i32_42 c1_i32_44 k0_t1
  let c32_i32 : BitVec 32 := 32#32
  let v262 : BitVec 32 := Scalar.muli arg14 c32_i32
  let v263 : BitVec 32 := Scalar.addi v1 v262
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c12584_i32_164 : BitVec 32 := 12584#32
  let v445 : BitVec 32 := Scalar.muli v335 c12584_i32_164
  let c51_i32_116 : BitVec 32 := 51#32
  let v336 : BitVec 32 := Scalar.subi c51_i32_116 v335
  let v337 : BitVec 32 := Scalar.muli v335 v336
  let c1_i32_117 : BitVec 32 := 1#32
  let v338 : BitVec 32 := Scalar.shrui v337 c1_i32_117
  let v339 : BitVec 32 := Scalar.subi v263 v338
  let v340 : BitVec 32 := Scalar.addi v339 v335
  let c1_i32_118 : BitVec 32 := 1#32
  let v341 : BitVec 32 := Scalar.addi v340 c1_i32_118
  let c484_i32_165 : BitVec 32 := 484#32
  let v446 : BitVec 32 := Scalar.muli v341 c484_i32_165
  let v447 : BitVec 32 := Scalar.addi v445 v446
  let c288_i32_166 : BitVec 32 := 288#32
  let v448 : BitVec 32 := Scalar.addi v447 c288_i32_166
  let c128_i32_167 : BitVec 32 := 128#32
  let v449 : BitVec 32 := Scalar.muli v448 c128_i32_167
  ![v449.toNat]
def k0_off30 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c1_i32_44 : BitVec 32 := 1#32
  let arg14 : BitVec 32 := Scf.iv c0_i32_42 c1_i32_44 k0_t1
  let c32_i32 : BitVec 32 := 32#32
  let v262 : BitVec 32 := Scalar.muli arg14 c32_i32
  let v263 : BitVec 32 := Scalar.addi v1 v262
  let c0_i32_92 : BitVec 32 := 0#32
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c51_i32_116 : BitVec 32 := 51#32
  let v336 : BitVec 32 := Scalar.subi c51_i32_116 v335
  let v337 : BitVec 32 := Scalar.muli v335 v336
  let c1_i32_117 : BitVec 32 := 1#32
  let v338 : BitVec 32 := Scalar.shrui v337 c1_i32_117
  let v339 : BitVec 32 := Scalar.subi v263 v338
  let v340 : BitVec 32 := Scalar.addi v339 v335
  let c1_i32_118 : BitVec 32 := 1#32
  let v341 : BitVec 32 := Scalar.addi v340 c1_i32_118
  let c12584_i32_169 : BitVec 32 := 12584#32
  let v454 : BitVec 32 := Scalar.muli v341 c12584_i32_169
  let c484_i32_170 : BitVec 32 := 484#32
  let v455 : BitVec 32 := Scalar.muli v335 c484_i32_170
  let v456 : BitVec 32 := Scalar.addi v454 v455
  let c288_i32_171 : BitVec 32 := 288#32
  let v457 : BitVec 32 := Scalar.addi v456 c288_i32_171
  let c128_i32_172 : BitVec 32 := 128#32
  let v458 : BitVec 32 := Scalar.muli v457 c128_i32_172
  ![v458.toNat]
@[reducible] def k0_t4_loop : Scf.Loop 32 :=
  let c0_i32_175 : BitVec 32 := 0#32
  let c45_i32_176 : BitVec 32 := 45#32
  let v463 : BitVec 32 := Scalar.addi c0_i32_175 c45_i32_176
  let c1_i32_177 : BitVec 32 := 1#32
  ⟨c0_i32_175, v463, c1_i32_177⟩
def k0_off31 (i : grid0.Coords) (k0_t1 : Fin (k0_t1_loop i).trips) (k0_t4 : Fin k0_t4_loop.trips) (c0_i32_187 : BitVec 32) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t4
  let v469 : BitVec 32 := Scalar.addi v468 arg15
  let c3_i32_183 : BitVec 32 := 3#32
  let v470 : BitVec 32 := Scalar.andi v469 c3_i32_183
  let c2_i32_186 : BitVec 32 := 2#32
  let v474 : BitVec 32 := Scalar.muli v470 c2_i32_186
  let v475 : BitVec 32 := Scalar.addi v474 c0_i32_187
  let c512_i32_188 : BitVec 32 := 512#32
  let v476 : BitVec 32 := Scalar.muli v475 c512_i32_188
  ![v476.toNat]
def k0_off32 (i : grid0.Coords) (k0_t1 : Fin (k0_t1_loop i).trips) (k0_t4 : Fin k0_t4_loop.trips) : Fin 1 → Nat :=
  let c0_i32_92 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c1_i32_44 : BitVec 32 := 1#32
  let arg14 : BitVec 32 := Scf.iv c0_i32_42 c1_i32_44 k0_t1
  let c32_i32 : BitVec 32 := 32#32
  let v262 : BitVec 32 := Scalar.muli arg14 c32_i32
  let v263 : BitVec 32 := Scalar.addi v1 v262
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c23552_i32_184 : BitVec 32 := 23552#32
  let v471 : BitVec 32 := Scalar.muli v335 c23552_i32_184
  let c0_i32_175 : BitVec 32 := 0#32
  let c1_i32_177 : BitVec 32 := 1#32
  let arg15 : BitVec 32 := Scf.iv c0_i32_175 c1_i32_177 k0_t4
  let c512_i32_185 : BitVec 32 := 512#32
  let v472 : BitVec 32 := Scalar.muli arg15 c512_i32_185
  let v473 : BitVec 32 := Scalar.addi v471 v472
  ![v473.toNat]
def k0_off33 (i : grid0.Coords) (k0_t1 : Fin (k0_t1_loop i).trips) (k0_t4 : Fin k0_t4_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t4
  let v469 : BitVec 32 := Scalar.addi v468 arg15
  let c3_i32_183 : BitVec 32 := 3#32
  let v470 : BitVec 32 := Scalar.andi v469 c3_i32_183
  ![v470.toNat]
def k0_off34 (i : grid0.Coords) (k0_t1 : Fin (k0_t1_loop i).trips) (k0_t4 : Fin k0_t4_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c1_i32_44 : BitVec 32 := 1#32
  let arg14 : BitVec 32 := Scf.iv c0_i32_42 c1_i32_44 k0_t1
  let c32_i32 : BitVec 32 := 32#32
  let v262 : BitVec 32 := Scalar.muli arg14 c32_i32
  let v263 : BitVec 32 := Scalar.addi v1 v262
  let c0_i32_92 : BitVec 32 := 0#32
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c51_i32_116 : BitVec 32 := 51#32
  let v336 : BitVec 32 := Scalar.subi c51_i32_116 v335
  let v337 : BitVec 32 := Scalar.muli v335 v336
  let c1_i32_117 : BitVec 32 := 1#32
  let v338 : BitVec 32 := Scalar.shrui v337 c1_i32_117
  let v339 : BitVec 32 := Scalar.subi v263 v338
  let v340 : BitVec 32 := Scalar.addi v339 v335
  let c1_i32_118 : BitVec 32 := 1#32
  let v341 : BitVec 32 := Scalar.addi v340 c1_i32_118
  let c23552_i32_189 : BitVec 32 := 23552#32
  let v483 : BitVec 32 := Scalar.muli v341 c23552_i32_189
  let c0_i32_175 : BitVec 32 := 0#32
  let c1_i32_177 : BitVec 32 := 1#32
  let arg15 : BitVec 32 := Scf.iv c0_i32_175 c1_i32_177 k0_t4
  let c512_i32_190 : BitVec 32 := 512#32
  let v484 : BitVec 32 := Scalar.muli arg15 c512_i32_190
  let v485 : BitVec 32 := Scalar.addi v483 v484
  ![v485.toNat]
def k0_off35 (i : grid0.Coords) (k0_t1 : Fin (k0_t1_loop i).trips) (k0_t4 : Fin k0_t4_loop.trips) (c0_i32_202 : BitVec 32) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t4
  let v469 : BitVec 32 := Scalar.addi v468 arg15
  let c3_i32_197 : BitVec 32 := 3#32
  let v501 : BitVec 32 := Scalar.addi v469 c3_i32_197
  let c3_i32_198 : BitVec 32 := 3#32
  let v502 : BitVec 32 := Scalar.andi v501 c3_i32_198
  let c2_i32_201 : BitVec 32 := 2#32
  let v506 : BitVec 32 := Scalar.muli v502 c2_i32_201
  let v507 : BitVec 32 := Scalar.addi v506 c0_i32_202
  let c512_i32_203 : BitVec 32 := 512#32
  let v508 : BitVec 32 := Scalar.muli v507 c512_i32_203
  ![v508.toNat]
def k0_off36 (i : grid0.Coords) (k0_t1 : Fin (k0_t1_loop i).trips) (k0_t4 : Fin k0_t4_loop.trips) : Fin 1 → Nat :=
  let c0_i32_175 : BitVec 32 := 0#32
  let c1_i32_177 : BitVec 32 := 1#32
  let arg15 : BitVec 32 := Scf.iv c0_i32_175 c1_i32_177 k0_t4
  let c3_i32_194 : BitVec 32 := 3#32
  let v495 : BitVec 32 := Scalar.addi arg15 c3_i32_194
  let c45_i32_195 : BitVec 32 := 45#32
  let v496 : BitVec 1 := Scalar.cmpi .sge v495 c45_i32_195
  let c0_i32_122 : BitVec 32 := 0#32
  let c0_i32_42 : BitVec 32 := 0#32
  let c1_i32_44 : BitVec 32 := 1#32
  let arg14 : BitVec 32 := Scf.iv c0_i32_42 c1_i32_44 k0_t1
  let c1_i32_119 : BitVec 32 := 1#32
  let v342 : BitVec 32 := Scalar.addi arg14 c1_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v343 : BitVec 1 := Scalar.cmpi .slt v342 v3
  let c32_i32 : BitVec 32 := 32#32
  let v262 : BitVec 32 := Scalar.muli arg14 c32_i32
  let v263 : BitVec 32 := Scalar.addi v1 v262
  let c32_i32_120 : BitVec 32 := 32#32
  let v344 : BitVec 32 := Scalar.addi v263 c32_i32_120
  let v345 : BitVec 32 := Scalar.select v343 v344 v1
  let c25_i32_121 : BitVec 32 := 25#32
  let v346 : BitVec 1 := Scalar.cmpi .sge v345 c25_i32_121
  let v347 : BitVec 32 := Scalar.extui v346
  let v348 : BitVec 32 := Scalar.addi c0_i32_122 v347
  let c49_i32_123 : BitVec 32 := 49#32
  let v349 : BitVec 1 := Scalar.cmpi .sge v345 c49_i32_123
  let v350 : BitVec 32 := Scalar.extui v349
  let v351 : BitVec 32 := Scalar.addi v348 v350
  let c72_i32_124 : BitVec 32 := 72#32
  let v352 : BitVec 1 := Scalar.cmpi .sge v345 c72_i32_124
  let v353 : BitVec 32 := Scalar.extui v352
  let v354 : BitVec 32 := Scalar.addi v351 v353
  let c94_i32_125 : BitVec 32 := 94#32
  let v355 : BitVec 1 := Scalar.cmpi .sge v345 c94_i32_125
  let v356 : BitVec 32 := Scalar.extui v355
  let v357 : BitVec 32 := Scalar.addi v354 v356
  let c115_i32_126 : BitVec 32 := 115#32
  let v358 : BitVec 1 := Scalar.cmpi .sge v345 c115_i32_126
  let v359 : BitVec 32 := Scalar.extui v358
  let v360 : BitVec 32 := Scalar.addi v357 v359
  let c135_i32_127 : BitVec 32 := 135#32
  let v361 : BitVec 1 := Scalar.cmpi .sge v345 c135_i32_127
  let v362 : BitVec 32 := Scalar.extui v361
  let v363 : BitVec 32 := Scalar.addi v360 v362
  let c154_i32_128 : BitVec 32 := 154#32
  let v364 : BitVec 1 := Scalar.cmpi .sge v345 c154_i32_128
  let v365 : BitVec 32 := Scalar.extui v364
  let v366 : BitVec 32 := Scalar.addi v363 v365
  let c172_i32_129 : BitVec 32 := 172#32
  let v367 : BitVec 1 := Scalar.cmpi .sge v345 c172_i32_129
  let v368 : BitVec 32 := Scalar.extui v367
  let v369 : BitVec 32 := Scalar.addi v366 v368
  let c189_i32_130 : BitVec 32 := 189#32
  let v370 : BitVec 1 := Scalar.cmpi .sge v345 c189_i32_130
  let v371 : BitVec 32 := Scalar.extui v370
  let v372 : BitVec 32 := Scalar.addi v369 v371
  let c205_i32_131 : BitVec 32 := 205#32
  let v373 : BitVec 1 := Scalar.cmpi .sge v345 c205_i32_131
  let v374 : BitVec 32 := Scalar.extui v373
  let v375 : BitVec 32 := Scalar.addi v372 v374
  let c220_i32_132 : BitVec 32 := 220#32
  let v376 : BitVec 1 := Scalar.cmpi .sge v345 c220_i32_132
  let v377 : BitVec 32 := Scalar.extui v376
  let v378 : BitVec 32 := Scalar.addi v375 v377
  let c234_i32_133 : BitVec 32 := 234#32
  let v379 : BitVec 1 := Scalar.cmpi .sge v345 c234_i32_133
  let v380 : BitVec 32 := Scalar.extui v379
  let v381 : BitVec 32 := Scalar.addi v378 v380
  let c247_i32_134 : BitVec 32 := 247#32
  let v382 : BitVec 1 := Scalar.cmpi .sge v345 c247_i32_134
  let v383 : BitVec 32 := Scalar.extui v382
  let v384 : BitVec 32 := Scalar.addi v381 v383
  let c259_i32_135 : BitVec 32 := 259#32
  let v385 : BitVec 1 := Scalar.cmpi .sge v345 c259_i32_135
  let v386 : BitVec 32 := Scalar.extui v385
  let v387 : BitVec 32 := Scalar.addi v384 v386
  let c270_i32_136 : BitVec 32 := 270#32
  let v388 : BitVec 1 := Scalar.cmpi .sge v345 c270_i32_136
  let v389 : BitVec 32 := Scalar.extui v388
  let v390 : BitVec 32 := Scalar.addi v387 v389
  let c280_i32_137 : BitVec 32 := 280#32
  let v391 : BitVec 1 := Scalar.cmpi .sge v345 c280_i32_137
  let v392 : BitVec 32 := Scalar.extui v391
  let v393 : BitVec 32 := Scalar.addi v390 v392
  let c289_i32_138 : BitVec 32 := 289#32
  let v394 : BitVec 1 := Scalar.cmpi .sge v345 c289_i32_138
  let v395 : BitVec 32 := Scalar.extui v394
  let v396 : BitVec 32 := Scalar.addi v393 v395
  let c297_i32_139 : BitVec 32 := 297#32
  let v397 : BitVec 1 := Scalar.cmpi .sge v345 c297_i32_139
  let v398 : BitVec 32 := Scalar.extui v397
  let v399 : BitVec 32 := Scalar.addi v396 v398
  let c304_i32_140 : BitVec 32 := 304#32
  let v400 : BitVec 1 := Scalar.cmpi .sge v345 c304_i32_140
  let v401 : BitVec 32 := Scalar.extui v400
  let v402 : BitVec 32 := Scalar.addi v399 v401
  let c310_i32_141 : BitVec 32 := 310#32
  let v403 : BitVec 1 := Scalar.cmpi .sge v345 c310_i32_141
  let v404 : BitVec 32 := Scalar.extui v403
  let v405 : BitVec 32 := Scalar.addi v402 v404
  let c315_i32_142 : BitVec 32 := 315#32
  let v406 : BitVec 1 := Scalar.cmpi .sge v345 c315_i32_142
  let v407 : BitVec 32 := Scalar.extui v406
  let v408 : BitVec 32 := Scalar.addi v405 v407
  let c319_i32_143 : BitVec 32 := 319#32
  let v409 : BitVec 1 := Scalar.cmpi .sge v345 c319_i32_143
  let v410 : BitVec 32 := Scalar.extui v409
  let v411 : BitVec 32 := Scalar.addi v408 v410
  let c322_i32_144 : BitVec 32 := 322#32
  let v412 : BitVec 1 := Scalar.cmpi .sge v345 c322_i32_144
  let v413 : BitVec 32 := Scalar.extui v412
  let v414 : BitVec 32 := Scalar.addi v411 v413
  let c324_i32_145 : BitVec 32 := 324#32
  let v415 : BitVec 1 := Scalar.cmpi .sge v345 c324_i32_145
  let v416 : BitVec 32 := Scalar.extui v415
  let v417 : BitVec 32 := Scalar.addi v414 v416
  let c0_i32_92 : BitVec 32 := 0#32
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let v497 : BitVec 32 := Scalar.select v496 v417 v335
  let c23552_i32_199 : BitVec 32 := 23552#32
  let v503 : BitVec 32 := Scalar.muli v497 c23552_i32_199
  let c45_i32_196 : BitVec 32 := 45#32
  let v499 : BitVec 32 := Scalar.subi v495 c45_i32_196
  let v500 : BitVec 32 := Scalar.select v496 v499 v495
  let c512_i32_200 : BitVec 32 := 512#32
  let v504 : BitVec 32 := Scalar.muli v500 c512_i32_200
  let v505 : BitVec 32 := Scalar.addi v503 v504
  ![v505.toNat]
def k0_off37 (i : grid0.Coords) (k0_t1 : Fin (k0_t1_loop i).trips) (k0_t4 : Fin k0_t4_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t4
  let v469 : BitVec 32 := Scalar.addi v468 arg15
  let c3_i32_197 : BitVec 32 := 3#32
  let v501 : BitVec 32 := Scalar.addi v469 c3_i32_197
  let c3_i32_198 : BitVec 32 := 3#32
  let v502 : BitVec 32 := Scalar.andi v501 c3_i32_198
  ![v502.toNat]
def k0_off38 (i : grid0.Coords) (k0_t1 : Fin (k0_t1_loop i).trips) (k0_t4 : Fin k0_t4_loop.trips) : Fin 1 → Nat :=
  let c0_i32_175 : BitVec 32 := 0#32
  let c1_i32_177 : BitVec 32 := 1#32
  let arg15 : BitVec 32 := Scf.iv c0_i32_175 c1_i32_177 k0_t4
  let c3_i32_194 : BitVec 32 := 3#32
  let v495 : BitVec 32 := Scalar.addi arg15 c3_i32_194
  let c45_i32_195 : BitVec 32 := 45#32
  let v496 : BitVec 1 := Scalar.cmpi .sge v495 c45_i32_195
  let c0_i32_42 : BitVec 32 := 0#32
  let c1_i32_44 : BitVec 32 := 1#32
  let arg14 : BitVec 32 := Scf.iv c0_i32_42 c1_i32_44 k0_t1
  let c1_i32_119 : BitVec 32 := 1#32
  let v342 : BitVec 32 := Scalar.addi arg14 c1_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v343 : BitVec 1 := Scalar.cmpi .slt v342 v3
  let c32_i32 : BitVec 32 := 32#32
  let v262 : BitVec 32 := Scalar.muli arg14 c32_i32
  let v263 : BitVec 32 := Scalar.addi v1 v262
  let c32_i32_120 : BitVec 32 := 32#32
  let v344 : BitVec 32 := Scalar.addi v263 c32_i32_120
  let v345 : BitVec 32 := Scalar.select v343 v344 v1
  let c0_i32_122 : BitVec 32 := 0#32
  let c25_i32_121 : BitVec 32 := 25#32
  let v346 : BitVec 1 := Scalar.cmpi .sge v345 c25_i32_121
  let v347 : BitVec 32 := Scalar.extui v346
  let v348 : BitVec 32 := Scalar.addi c0_i32_122 v347
  let c49_i32_123 : BitVec 32 := 49#32
  let v349 : BitVec 1 := Scalar.cmpi .sge v345 c49_i32_123
  let v350 : BitVec 32 := Scalar.extui v349
  let v351 : BitVec 32 := Scalar.addi v348 v350
  let c72_i32_124 : BitVec 32 := 72#32
  let v352 : BitVec 1 := Scalar.cmpi .sge v345 c72_i32_124
  let v353 : BitVec 32 := Scalar.extui v352
  let v354 : BitVec 32 := Scalar.addi v351 v353
  let c94_i32_125 : BitVec 32 := 94#32
  let v355 : BitVec 1 := Scalar.cmpi .sge v345 c94_i32_125
  let v356 : BitVec 32 := Scalar.extui v355
  let v357 : BitVec 32 := Scalar.addi v354 v356
  let c115_i32_126 : BitVec 32 := 115#32
  let v358 : BitVec 1 := Scalar.cmpi .sge v345 c115_i32_126
  let v359 : BitVec 32 := Scalar.extui v358
  let v360 : BitVec 32 := Scalar.addi v357 v359
  let c135_i32_127 : BitVec 32 := 135#32
  let v361 : BitVec 1 := Scalar.cmpi .sge v345 c135_i32_127
  let v362 : BitVec 32 := Scalar.extui v361
  let v363 : BitVec 32 := Scalar.addi v360 v362
  let c154_i32_128 : BitVec 32 := 154#32
  let v364 : BitVec 1 := Scalar.cmpi .sge v345 c154_i32_128
  let v365 : BitVec 32 := Scalar.extui v364
  let v366 : BitVec 32 := Scalar.addi v363 v365
  let c172_i32_129 : BitVec 32 := 172#32
  let v367 : BitVec 1 := Scalar.cmpi .sge v345 c172_i32_129
  let v368 : BitVec 32 := Scalar.extui v367
  let v369 : BitVec 32 := Scalar.addi v366 v368
  let c189_i32_130 : BitVec 32 := 189#32
  let v370 : BitVec 1 := Scalar.cmpi .sge v345 c189_i32_130
  let v371 : BitVec 32 := Scalar.extui v370
  let v372 : BitVec 32 := Scalar.addi v369 v371
  let c205_i32_131 : BitVec 32 := 205#32
  let v373 : BitVec 1 := Scalar.cmpi .sge v345 c205_i32_131
  let v374 : BitVec 32 := Scalar.extui v373
  let v375 : BitVec 32 := Scalar.addi v372 v374
  let c220_i32_132 : BitVec 32 := 220#32
  let v376 : BitVec 1 := Scalar.cmpi .sge v345 c220_i32_132
  let v377 : BitVec 32 := Scalar.extui v376
  let v378 : BitVec 32 := Scalar.addi v375 v377
  let c234_i32_133 : BitVec 32 := 234#32
  let v379 : BitVec 1 := Scalar.cmpi .sge v345 c234_i32_133
  let v380 : BitVec 32 := Scalar.extui v379
  let v381 : BitVec 32 := Scalar.addi v378 v380
  let c247_i32_134 : BitVec 32 := 247#32
  let v382 : BitVec 1 := Scalar.cmpi .sge v345 c247_i32_134
  let v383 : BitVec 32 := Scalar.extui v382
  let v384 : BitVec 32 := Scalar.addi v381 v383
  let c259_i32_135 : BitVec 32 := 259#32
  let v385 : BitVec 1 := Scalar.cmpi .sge v345 c259_i32_135
  let v386 : BitVec 32 := Scalar.extui v385
  let v387 : BitVec 32 := Scalar.addi v384 v386
  let c270_i32_136 : BitVec 32 := 270#32
  let v388 : BitVec 1 := Scalar.cmpi .sge v345 c270_i32_136
  let v389 : BitVec 32 := Scalar.extui v388
  let v390 : BitVec 32 := Scalar.addi v387 v389
  let c280_i32_137 : BitVec 32 := 280#32
  let v391 : BitVec 1 := Scalar.cmpi .sge v345 c280_i32_137
  let v392 : BitVec 32 := Scalar.extui v391
  let v393 : BitVec 32 := Scalar.addi v390 v392
  let c289_i32_138 : BitVec 32 := 289#32
  let v394 : BitVec 1 := Scalar.cmpi .sge v345 c289_i32_138
  let v395 : BitVec 32 := Scalar.extui v394
  let v396 : BitVec 32 := Scalar.addi v393 v395
  let c297_i32_139 : BitVec 32 := 297#32
  let v397 : BitVec 1 := Scalar.cmpi .sge v345 c297_i32_139
  let v398 : BitVec 32 := Scalar.extui v397
  let v399 : BitVec 32 := Scalar.addi v396 v398
  let c304_i32_140 : BitVec 32 := 304#32
  let v400 : BitVec 1 := Scalar.cmpi .sge v345 c304_i32_140
  let v401 : BitVec 32 := Scalar.extui v400
  let v402 : BitVec 32 := Scalar.addi v399 v401
  let c310_i32_141 : BitVec 32 := 310#32
  let v403 : BitVec 1 := Scalar.cmpi .sge v345 c310_i32_141
  let v404 : BitVec 32 := Scalar.extui v403
  let v405 : BitVec 32 := Scalar.addi v402 v404
  let c315_i32_142 : BitVec 32 := 315#32
  let v406 : BitVec 1 := Scalar.cmpi .sge v345 c315_i32_142
  let v407 : BitVec 32 := Scalar.extui v406
  let v408 : BitVec 32 := Scalar.addi v405 v407
  let c319_i32_143 : BitVec 32 := 319#32
  let v409 : BitVec 1 := Scalar.cmpi .sge v345 c319_i32_143
  let v410 : BitVec 32 := Scalar.extui v409
  let v411 : BitVec 32 := Scalar.addi v408 v410
  let c322_i32_144 : BitVec 32 := 322#32
  let v412 : BitVec 1 := Scalar.cmpi .sge v345 c322_i32_144
  let v413 : BitVec 32 := Scalar.extui v412
  let v414 : BitVec 32 := Scalar.addi v411 v413
  let c324_i32_145 : BitVec 32 := 324#32
  let v415 : BitVec 1 := Scalar.cmpi .sge v345 c324_i32_145
  let v416 : BitVec 32 := Scalar.extui v415
  let v417 : BitVec 32 := Scalar.addi v414 v416
  let c51_i32_146 : BitVec 32 := 51#32
  let v418 : BitVec 32 := Scalar.subi c51_i32_146 v417
  let v419 : BitVec 32 := Scalar.muli v417 v418
  let c1_i32_147 : BitVec 32 := 1#32
  let v420 : BitVec 32 := Scalar.shrui v419 c1_i32_147
  let v421 : BitVec 32 := Scalar.subi v345 v420
  let v422 : BitVec 32 := Scalar.addi v421 v417
  let c1_i32_148 : BitVec 32 := 1#32
  let v423 : BitVec 32 := Scalar.addi v422 c1_i32_148
  let c0_i32_92 : BitVec 32 := 0#32
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c51_i32_116 : BitVec 32 := 51#32
  let v336 : BitVec 32 := Scalar.subi c51_i32_116 v335
  let v337 : BitVec 32 := Scalar.muli v335 v336
  let c1_i32_117 : BitVec 32 := 1#32
  let v338 : BitVec 32 := Scalar.shrui v337 c1_i32_117
  let v339 : BitVec 32 := Scalar.subi v263 v338
  let v340 : BitVec 32 := Scalar.addi v339 v335
  let c1_i32_118 : BitVec 32 := 1#32
  let v341 : BitVec 32 := Scalar.addi v340 c1_i32_118
  let v498 : BitVec 32 := Scalar.select v496 v423 v341
  let c23552_i32_204 : BitVec 32 := 23552#32
  let v515 : BitVec 32 := Scalar.muli v498 c23552_i32_204
  let c45_i32_196 : BitVec 32 := 45#32
  let v499 : BitVec 32 := Scalar.subi v495 c45_i32_196
  let v500 : BitVec 32 := Scalar.select v496 v499 v495
  let c512_i32_205 : BitVec 32 := 512#32
  let v516 : BitVec 32 := Scalar.muli v500 c512_i32_205
  let v517 : BitVec 32 := Scalar.addi v515 v516
  ![v517.toNat]
def k0_cond3 (i : grid0.Coords) (k0_t1 : Fin (k0_t1_loop i).trips) (k0_t4 : Fin k0_t4_loop.trips) : BitVec 1 :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t4
  let v469 : BitVec 32 := Scalar.addi v468 arg15
  let c2_i32_209 : BitVec 32 := 2#32
  let v527 : BitVec 1 := Scalar.cmpi .sge v469 c2_i32_209
  let v528 : BitVec 32 := Scalar.extui v527
  let c0_i32_210 : BitVec 32 := 0#32
  let v529 : BitVec 1 := Scalar.cmpi .ne v528 c0_i32_210
  v529

def k0_off39 (i : grid0.Coords) (k0_t1 : Fin (k0_t1_loop i).trips) (k0_t4 : Fin k0_t4_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t4
  let v469 : BitVec 32 := Scalar.addi v468 arg15
  let c1_i32_223 : BitVec 32 := 1#32
  let v547 : BitVec 32 := Scalar.andi v469 c1_i32_223
  let c1024_i32_224 : BitVec 32 := 1024#32
  let v548 : BitVec 32 := Scalar.muli v547 c1024_i32_224
  ![v548.toNat]
def k0_off40 (i : grid0.Coords) (k0_t1 : Fin (k0_t1_loop i).trips) (k0_t4 : Fin k0_t4_loop.trips) : Fin 1 → Nat :=
  let c14976000_i32_226 : BitVec 32 := 14976000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c1_i32_44 : BitVec 32 := 1#32
  let arg14 : BitVec 32 := Scf.iv c0_i32_42 c1_i32_44 k0_t1
  let c32_i32 : BitVec 32 := 32#32
  let v262 : BitVec 32 := Scalar.muli arg14 c32_i32
  let v263 : BitVec 32 := Scalar.addi v1 v262
  let c46080_i32_225 : BitVec 32 := 46080#32
  let v549 : BitVec 32 := Scalar.muli v263 c46080_i32_225
  let v550 : BitVec 32 := Scalar.addi c14976000_i32_226 v549
  let c0_i32_175 : BitVec 32 := 0#32
  let c1_i32_177 : BitVec 32 := 1#32
  let arg15 : BitVec 32 := Scf.iv c0_i32_175 c1_i32_177 k0_t4
  let c1024_i32_227 : BitVec 32 := 1024#32
  let v551 : BitVec 32 := Scalar.muli arg15 c1024_i32_227
  let v552 : BitVec 32 := Scalar.addi v550 v551
  ![v552.toNat]
def k0_off41 (i : grid0.Coords) (k0_t1 : Fin (k0_t1_loop i).trips) (k0_t4 : Fin k0_t4_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t4
  let v469 : BitVec 32 := Scalar.addi v468 arg15
  let c1_i32_223 : BitVec 32 := 1#32
  let v547 : BitVec 32 := Scalar.andi v469 c1_i32_223
  ![v547.toNat]
@[reducible] def k0_t5_loop : Scf.Loop 32 :=
  let c0_i32_216 : BitVec 32 := 0#32
  let c32_i32_217 : BitVec 32 := 32#32
  let v534 : BitVec 32 := Scalar.addi c0_i32_216 c32_i32_217
  let c1_i32_218 : BitVec 32 := 1#32
  ⟨c0_i32_216, v534, c1_i32_218⟩
def k0_off42 (i : grid0.Coords) (k0_t1 : Fin (k0_t1_loop i).trips) (k0_t4 : Fin k0_t4_loop.trips) (k0_t5 : Fin k0_t5_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t4
  let v469 : BitVec 32 := Scalar.addi v468 arg15
  let c3_i32_211 : BitVec 32 := 3#32
  let v530 : BitVec 32 := Scalar.andi v469 c3_i32_211
  let c1024_i32_212 : BitVec 32 := 1024#32
  let v531 : BitVec 32 := Scalar.muli v530 c1024_i32_212
  let c0_i32_216 : BitVec 32 := 0#32
  let c1_i32_218 : BitVec 32 := 1#32
  let arg16 : BitVec 32 := Scf.iv c0_i32_216 c1_i32_218 k0_t5
  let c16_i32 : BitVec 32 := 16#32
  let v547 : BitVec 32 := Scalar.muli arg16 c16_i32
  let v548 : BitVec 32 := Scalar.addi v531 v547
  let v549 : Index := Scalar.indexCast v548
  ![v549.toNat]
def k0_off43 (i : grid0.Coords) (k0_t1 : Fin (k0_t1_loop i).trips) (k0_t4 : Fin k0_t4_loop.trips) (k0_t5 : Fin k0_t5_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t4
  let v469 : BitVec 32 := Scalar.addi v468 arg15
  let c3_i32_211 : BitVec 32 := 3#32
  let v530 : BitVec 32 := Scalar.andi v469 c3_i32_211
  let c1024_i32_212 : BitVec 32 := 1024#32
  let v531 : BitVec 32 := Scalar.muli v530 c1024_i32_212
  let c512_i32_223 : BitVec 32 := 512#32
  let v551 : BitVec 32 := Scalar.addi v531 c512_i32_223
  let c0_i32_216 : BitVec 32 := 0#32
  let c1_i32_218 : BitVec 32 := 1#32
  let arg16 : BitVec 32 := Scf.iv c0_i32_216 c1_i32_218 k0_t5
  let c16_i32 : BitVec 32 := 16#32
  let v547 : BitVec 32 := Scalar.muli arg16 c16_i32
  let v552 : BitVec 32 := Scalar.addi v551 v547
  let v553 : Index := Scalar.indexCast v552
  ![v553.toNat]

def k0_chk5 (v556 : IVec S16 32) : Prop :=
  (∀ a x, ((![v556] : Fin 1 → IVec S16 32) a x).toNat < S12288.size a) ∧
  (∀ a x, ((![v556] : Fin 1 → IVec S16 32) a x).toNat < S12288.size a)
theorem k0_idx13_inb : ∀ (v556 : IVec S16 32) (k0_hw5 : k0_chk5 v556), ∀ a x, ((![v556] : Fin 1 → IVec S16 32) a x).toNat < S12288.size a := fun v556 k0_hw5 => k0_hw5.1
theorem k0_idx15_inb : ∀ (v556 : IVec S16 32) (k0_hw5 : k0_chk5 v556), ∀ a x, ((![v556] : Fin 1 → IVec S16 32) a x).toNat < S12288.size a := fun v556 k0_hw5 => k0_hw5.2

def k0_chk6 (v558 : IVec S16 32) : Prop :=
  (∀ a x, ((![v558] : Fin 1 → IVec S16 32) a x).toNat < S12288.size a) ∧
  (∀ a x, ((![v558] : Fin 1 → IVec S16 32) a x).toNat < S12288.size a)
theorem k0_idx14_inb : ∀ (v558 : IVec S16 32) (k0_hw6 : k0_chk6 v558), ∀ a x, ((![v558] : Fin 1 → IVec S16 32) a x).toNat < S12288.size a := fun v558 k0_hw6 => k0_hw6.1
theorem k0_idx16_inb : ∀ (v558 : IVec S16 32) (k0_hw6 : k0_chk6 v558), ∀ a x, ((![v558] : Fin 1 → IVec S16 32) a x).toNat < S12288.size a := fun v558 k0_hw6 => k0_hw6.2
def k0_off44 (i : grid0.Coords) (k0_t1 : Fin (k0_t1_loop i).trips) (k0_t4 : Fin k0_t4_loop.trips) (k0_t5 : Fin k0_t5_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t4
  let v469 : BitVec 32 := Scalar.addi v468 arg15
  let c1_i32_213 : BitVec 32 := 1#32
  let v532 : BitVec 32 := Scalar.andi v469 c1_i32_213
  let c1024_i32_214 : BitVec 32 := 1024#32
  let v533 : BitVec 32 := Scalar.muli v532 c1024_i32_214
  let c0_i32_216 : BitVec 32 := 0#32
  let c1_i32_218 : BitVec 32 := 1#32
  let arg16 : BitVec 32 := Scf.iv c0_i32_216 c1_i32_218 k0_t5
  let c16_i32 : BitVec 32 := 16#32
  let v547 : BitVec 32 := Scalar.muli arg16 c16_i32
  let v646 : BitVec 32 := Scalar.addi v533 v547
  let v647 : Index := Scalar.indexCast v646
  ![v647.toNat]

def k0_chk7 (v650 : IVec S16 32) : Prop :=
  (∀ a x, ((![v650] : Fin 1 → IVec S16 32) a x).toNat < S12288.size a) ∧
  (∀ a x, ((![v650] : Fin 1 → IVec S16 32) a x).toNat < S12288.size a)
theorem k0_idx17_inb : ∀ (v650 : IVec S16 32) (k0_hw7 : k0_chk7 v650), ∀ a x, ((![v650] : Fin 1 → IVec S16 32) a x).toNat < S12288.size a := fun v650 k0_hw7 => k0_hw7.1
theorem k0_idx19_inb : ∀ (v650 : IVec S16 32) (k0_hw7 : k0_chk7 v650), ∀ a x, ((![v650] : Fin 1 → IVec S16 32) a x).toNat < S12288.size a := fun v650 k0_hw7 => k0_hw7.2

def k0_chk8 (v652 : IVec S16 32) : Prop :=
  (∀ a x, ((![v652] : Fin 1 → IVec S16 32) a x).toNat < S12288.size a) ∧
  (∀ a x, ((![v652] : Fin 1 → IVec S16 32) a x).toNat < S12288.size a)
theorem k0_idx18_inb : ∀ (v652 : IVec S16 32) (k0_hw8 : k0_chk8 v652), ∀ a x, ((![v652] : Fin 1 → IVec S16 32) a x).toNat < S12288.size a := fun v652 k0_hw8 => k0_hw8.1
theorem k0_idx20_inb : ∀ (v652 : IVec S16 32) (k0_hw8 : k0_chk8 v652), ∀ a x, ((![v652] : Fin 1 → IVec S16 32) a x).toNat < S12288.size a := fun v652 k0_hw8 => k0_hw8.2
def k0_off45 (i : grid0.Coords) (k0_t1 : Fin (k0_t1_loop i).trips) (k0_t4 : Fin k0_t4_loop.trips) (k0_t5 : Fin k0_t5_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t4
  let v469 : BitVec 32 := Scalar.addi v468 arg15
  let c1_i32_213 : BitVec 32 := 1#32
  let v532 : BitVec 32 := Scalar.andi v469 c1_i32_213
  let c1024_i32_214 : BitVec 32 := 1024#32
  let v533 : BitVec 32 := Scalar.muli v532 c1024_i32_214
  let c512_i32_296 : BitVec 32 := 512#32
  let v740 : BitVec 32 := Scalar.addi v533 c512_i32_296
  let c0_i32_216 : BitVec 32 := 0#32
  let c1_i32_218 : BitVec 32 := 1#32
  let arg16 : BitVec 32 := Scf.iv c0_i32_216 c1_i32_218 k0_t5
  let c16_i32 : BitVec 32 := 16#32
  let v547 : BitVec 32 := Scalar.muli arg16 c16_i32
  let v741 : BitVec 32 := Scalar.addi v740 v547
  let v742 : Index := Scalar.indexCast v741
  ![v742.toNat]
def k0_off46 (i : grid0.Coords) (k0_t1 : Fin (k0_t1_loop i).trips) (k0_t4 : Fin k0_t4_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t4
  let v469 : BitVec 32 := Scalar.addi v468 arg15
  let c1_i32_220 : BitVec 32 := 1#32
  let v535 : BitVec 32 := Scalar.andi v469 c1_i32_220
  let c1024_i32_221 : BitVec 32 := 1024#32
  let v536 : BitVec 32 := Scalar.muli v535 c1024_i32_221
  ![v536.toNat]
def k0_off47 (i : grid0.Coords) (k0_t1 : Fin (k0_t1_loop i).trips) (k0_t4 : Fin k0_t4_loop.trips) : Fin 1 → Nat :=
  let c14976000_i32 : BitVec 32 := 14976000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c1_i32_44 : BitVec 32 := 1#32
  let arg14 : BitVec 32 := Scf.iv c0_i32_42 c1_i32_44 k0_t1
  let c32_i32 : BitVec 32 := 32#32
  let v262 : BitVec 32 := Scalar.muli arg14 c32_i32
  let v263 : BitVec 32 := Scalar.addi v1 v262
  let c46080_i32 : BitVec 32 := 46080#32
  let v537 : BitVec 32 := Scalar.muli v263 c46080_i32
  let v538 : BitVec 32 := Scalar.addi c14976000_i32 v537
  let c0_i32_175 : BitVec 32 := 0#32
  let c1_i32_177 : BitVec 32 := 1#32
  let arg15 : BitVec 32 := Scf.iv c0_i32_175 c1_i32_177 k0_t4
  let c1024_i32_222 : BitVec 32 := 1024#32
  let v539 : BitVec 32 := Scalar.muli arg15 c1024_i32_222
  let v540 : BitVec 32 := Scalar.addi v538 v539
  ![v540.toNat]
def k0_off48 (i : grid0.Coords) (k0_t1 : Fin (k0_t1_loop i).trips) (k0_t4 : Fin k0_t4_loop.trips) : Fin 1 → Nat :=
  let c2_i32_180 : BitVec 32 := 2#32
  let c0_i32_42 : BitVec 32 := 0#32
  let c1_i32_44 : BitVec 32 := 1#32
  let arg14 : BitVec 32 := Scf.iv c0_i32_42 c1_i32_44 k0_t1
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t4
  let v469 : BitVec 32 := Scalar.addi v468 arg15
  let c1_i32_220 : BitVec 32 := 1#32
  let v535 : BitVec 32 := Scalar.andi v469 c1_i32_220
  ![v535.toNat]
def k0_cond4 (i : grid0.Coords) (k0_t1 : Fin (k0_t1_loop i).trips) : BitVec 1 :=
  let c0_i32_42 : BitVec 32 := 0#32
  let c1_i32_44 : BitVec 32 := 1#32
  let arg14 : BitVec 32 := Scf.iv c0_i32_42 c1_i32_44 k0_t1
  let c1_i32_119 : BitVec 32 := 1#32
  let v342 : BitVec 32 := Scalar.addi arg14 c1_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v343 : BitVec 1 := Scalar.cmpi .slt v342 v3
  let v464 : BitVec 32 := Scalar.extui v343
  let c0_i32_179 : BitVec 32 := 0#32
  let v465 : BitVec 1 := Scalar.cmpi .ne v464 c0_i32_179
  v465

def k0_off49 (i : grid0.Coords) (k0_t1 : Fin (k0_t1_loop i).trips) : Fin 1 → Nat :=
  let c0_i32_122 : BitVec 32 := 0#32
  let c0_i32_42 : BitVec 32 := 0#32
  let c1_i32_44 : BitVec 32 := 1#32
  let arg14 : BitVec 32 := Scf.iv c0_i32_42 c1_i32_44 k0_t1
  let c1_i32_119 : BitVec 32 := 1#32
  let v342 : BitVec 32 := Scalar.addi arg14 c1_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v343 : BitVec 1 := Scalar.cmpi .slt v342 v3
  let c32_i32 : BitVec 32 := 32#32
  let v262 : BitVec 32 := Scalar.muli arg14 c32_i32
  let v263 : BitVec 32 := Scalar.addi v1 v262
  let c32_i32_120 : BitVec 32 := 32#32
  let v344 : BitVec 32 := Scalar.addi v263 c32_i32_120
  let v345 : BitVec 32 := Scalar.select v343 v344 v1
  let c25_i32_121 : BitVec 32 := 25#32
  let v346 : BitVec 1 := Scalar.cmpi .sge v345 c25_i32_121
  let v347 : BitVec 32 := Scalar.extui v346
  let v348 : BitVec 32 := Scalar.addi c0_i32_122 v347
  let c49_i32_123 : BitVec 32 := 49#32
  let v349 : BitVec 1 := Scalar.cmpi .sge v345 c49_i32_123
  let v350 : BitVec 32 := Scalar.extui v349
  let v351 : BitVec 32 := Scalar.addi v348 v350
  let c72_i32_124 : BitVec 32 := 72#32
  let v352 : BitVec 1 := Scalar.cmpi .sge v345 c72_i32_124
  let v353 : BitVec 32 := Scalar.extui v352
  let v354 : BitVec 32 := Scalar.addi v351 v353
  let c94_i32_125 : BitVec 32 := 94#32
  let v355 : BitVec 1 := Scalar.cmpi .sge v345 c94_i32_125
  let v356 : BitVec 32 := Scalar.extui v355
  let v357 : BitVec 32 := Scalar.addi v354 v356
  let c115_i32_126 : BitVec 32 := 115#32
  let v358 : BitVec 1 := Scalar.cmpi .sge v345 c115_i32_126
  let v359 : BitVec 32 := Scalar.extui v358
  let v360 : BitVec 32 := Scalar.addi v357 v359
  let c135_i32_127 : BitVec 32 := 135#32
  let v361 : BitVec 1 := Scalar.cmpi .sge v345 c135_i32_127
  let v362 : BitVec 32 := Scalar.extui v361
  let v363 : BitVec 32 := Scalar.addi v360 v362
  let c154_i32_128 : BitVec 32 := 154#32
  let v364 : BitVec 1 := Scalar.cmpi .sge v345 c154_i32_128
  let v365 : BitVec 32 := Scalar.extui v364
  let v366 : BitVec 32 := Scalar.addi v363 v365
  let c172_i32_129 : BitVec 32 := 172#32
  let v367 : BitVec 1 := Scalar.cmpi .sge v345 c172_i32_129
  let v368 : BitVec 32 := Scalar.extui v367
  let v369 : BitVec 32 := Scalar.addi v366 v368
  let c189_i32_130 : BitVec 32 := 189#32
  let v370 : BitVec 1 := Scalar.cmpi .sge v345 c189_i32_130
  let v371 : BitVec 32 := Scalar.extui v370
  let v372 : BitVec 32 := Scalar.addi v369 v371
  let c205_i32_131 : BitVec 32 := 205#32
  let v373 : BitVec 1 := Scalar.cmpi .sge v345 c205_i32_131
  let v374 : BitVec 32 := Scalar.extui v373
  let v375 : BitVec 32 := Scalar.addi v372 v374
  let c220_i32_132 : BitVec 32 := 220#32
  let v376 : BitVec 1 := Scalar.cmpi .sge v345 c220_i32_132
  let v377 : BitVec 32 := Scalar.extui v376
  let v378 : BitVec 32 := Scalar.addi v375 v377
  let c234_i32_133 : BitVec 32 := 234#32
  let v379 : BitVec 1 := Scalar.cmpi .sge v345 c234_i32_133
  let v380 : BitVec 32 := Scalar.extui v379
  let v381 : BitVec 32 := Scalar.addi v378 v380
  let c247_i32_134 : BitVec 32 := 247#32
  let v382 : BitVec 1 := Scalar.cmpi .sge v345 c247_i32_134
  let v383 : BitVec 32 := Scalar.extui v382
  let v384 : BitVec 32 := Scalar.addi v381 v383
  let c259_i32_135 : BitVec 32 := 259#32
  let v385 : BitVec 1 := Scalar.cmpi .sge v345 c259_i32_135
  let v386 : BitVec 32 := Scalar.extui v385
  let v387 : BitVec 32 := Scalar.addi v384 v386
  let c270_i32_136 : BitVec 32 := 270#32
  let v388 : BitVec 1 := Scalar.cmpi .sge v345 c270_i32_136
  let v389 : BitVec 32 := Scalar.extui v388
  let v390 : BitVec 32 := Scalar.addi v387 v389
  let c280_i32_137 : BitVec 32 := 280#32
  let v391 : BitVec 1 := Scalar.cmpi .sge v345 c280_i32_137
  let v392 : BitVec 32 := Scalar.extui v391
  let v393 : BitVec 32 := Scalar.addi v390 v392
  let c289_i32_138 : BitVec 32 := 289#32
  let v394 : BitVec 1 := Scalar.cmpi .sge v345 c289_i32_138
  let v395 : BitVec 32 := Scalar.extui v394
  let v396 : BitVec 32 := Scalar.addi v393 v395
  let c297_i32_139 : BitVec 32 := 297#32
  let v397 : BitVec 1 := Scalar.cmpi .sge v345 c297_i32_139
  let v398 : BitVec 32 := Scalar.extui v397
  let v399 : BitVec 32 := Scalar.addi v396 v398
  let c304_i32_140 : BitVec 32 := 304#32
  let v400 : BitVec 1 := Scalar.cmpi .sge v345 c304_i32_140
  let v401 : BitVec 32 := Scalar.extui v400
  let v402 : BitVec 32 := Scalar.addi v399 v401
  let c310_i32_141 : BitVec 32 := 310#32
  let v403 : BitVec 1 := Scalar.cmpi .sge v345 c310_i32_141
  let v404 : BitVec 32 := Scalar.extui v403
  let v405 : BitVec 32 := Scalar.addi v402 v404
  let c315_i32_142 : BitVec 32 := 315#32
  let v406 : BitVec 1 := Scalar.cmpi .sge v345 c315_i32_142
  let v407 : BitVec 32 := Scalar.extui v406
  let v408 : BitVec 32 := Scalar.addi v405 v407
  let c319_i32_143 : BitVec 32 := 319#32
  let v409 : BitVec 1 := Scalar.cmpi .sge v345 c319_i32_143
  let v410 : BitVec 32 := Scalar.extui v409
  let v411 : BitVec 32 := Scalar.addi v408 v410
  let c322_i32_144 : BitVec 32 := 322#32
  let v412 : BitVec 1 := Scalar.cmpi .sge v345 c322_i32_144
  let v413 : BitVec 32 := Scalar.extui v412
  let v414 : BitVec 32 := Scalar.addi v411 v413
  let c324_i32_145 : BitVec 32 := 324#32
  let v415 : BitVec 1 := Scalar.cmpi .sge v345 c324_i32_145
  let v416 : BitVec 32 := Scalar.extui v415
  let v417 : BitVec 32 := Scalar.addi v414 v416
  let c12584_i32_180 : BitVec 32 := 12584#32
  let v466 : BitVec 32 := Scalar.muli v417 c12584_i32_180
  let c51_i32_146 : BitVec 32 := 51#32
  let v418 : BitVec 32 := Scalar.subi c51_i32_146 v417
  let v419 : BitVec 32 := Scalar.muli v417 v418
  let c1_i32_147 : BitVec 32 := 1#32
  let v420 : BitVec 32 := Scalar.shrui v419 c1_i32_147
  let v421 : BitVec 32 := Scalar.subi v345 v420
  let v422 : BitVec 32 := Scalar.addi v421 v417
  let c1_i32_148 : BitVec 32 := 1#32
  let v423 : BitVec 32 := Scalar.addi v422 c1_i32_148
  let c484_i32_181 : BitVec 32 := 484#32
  let v467 : BitVec 32 := Scalar.muli v423 c484_i32_181
  let v468 : BitVec 32 := Scalar.addi v466 v467
  let c288_i32_182 : BitVec 32 := 288#32
  let v469 : BitVec 32 := Scalar.addi v468 c288_i32_182
  let c128_i32_183 : BitVec 32 := 128#32
  let v470 : BitVec 32 := Scalar.muli v469 c128_i32_183
  ![v470.toNat]
def k0_off50 (i : grid0.Coords) (k0_t1 : Fin (k0_t1_loop i).trips) : Fin 1 → Nat :=
  let c0_i32_42 : BitVec 32 := 0#32
  let c1_i32_44 : BitVec 32 := 1#32
  let arg14 : BitVec 32 := Scf.iv c0_i32_42 c1_i32_44 k0_t1
  let c1_i32_119 : BitVec 32 := 1#32
  let v342 : BitVec 32 := Scalar.addi arg14 c1_i32_119
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v343 : BitVec 1 := Scalar.cmpi .slt v342 v3
  let c32_i32 : BitVec 32 := 32#32
  let v262 : BitVec 32 := Scalar.muli arg14 c32_i32
  let v263 : BitVec 32 := Scalar.addi v1 v262
  let c32_i32_120 : BitVec 32 := 32#32
  let v344 : BitVec 32 := Scalar.addi v263 c32_i32_120
  let v345 : BitVec 32 := Scalar.select v343 v344 v1
  let c0_i32_122 : BitVec 32 := 0#32
  let c25_i32_121 : BitVec 32 := 25#32
  let v346 : BitVec 1 := Scalar.cmpi .sge v345 c25_i32_121
  let v347 : BitVec 32 := Scalar.extui v346
  let v348 : BitVec 32 := Scalar.addi c0_i32_122 v347
  let c49_i32_123 : BitVec 32 := 49#32
  let v349 : BitVec 1 := Scalar.cmpi .sge v345 c49_i32_123
  let v350 : BitVec 32 := Scalar.extui v349
  let v351 : BitVec 32 := Scalar.addi v348 v350
  let c72_i32_124 : BitVec 32 := 72#32
  let v352 : BitVec 1 := Scalar.cmpi .sge v345 c72_i32_124
  let v353 : BitVec 32 := Scalar.extui v352
  let v354 : BitVec 32 := Scalar.addi v351 v353
  let c94_i32_125 : BitVec 32 := 94#32
  let v355 : BitVec 1 := Scalar.cmpi .sge v345 c94_i32_125
  let v356 : BitVec 32 := Scalar.extui v355
  let v357 : BitVec 32 := Scalar.addi v354 v356
  let c115_i32_126 : BitVec 32 := 115#32
  let v358 : BitVec 1 := Scalar.cmpi .sge v345 c115_i32_126
  let v359 : BitVec 32 := Scalar.extui v358
  let v360 : BitVec 32 := Scalar.addi v357 v359
  let c135_i32_127 : BitVec 32 := 135#32
  let v361 : BitVec 1 := Scalar.cmpi .sge v345 c135_i32_127
  let v362 : BitVec 32 := Scalar.extui v361
  let v363 : BitVec 32 := Scalar.addi v360 v362
  let c154_i32_128 : BitVec 32 := 154#32
  let v364 : BitVec 1 := Scalar.cmpi .sge v345 c154_i32_128
  let v365 : BitVec 32 := Scalar.extui v364
  let v366 : BitVec 32 := Scalar.addi v363 v365
  let c172_i32_129 : BitVec 32 := 172#32
  let v367 : BitVec 1 := Scalar.cmpi .sge v345 c172_i32_129
  let v368 : BitVec 32 := Scalar.extui v367
  let v369 : BitVec 32 := Scalar.addi v366 v368
  let c189_i32_130 : BitVec 32 := 189#32
  let v370 : BitVec 1 := Scalar.cmpi .sge v345 c189_i32_130
  let v371 : BitVec 32 := Scalar.extui v370
  let v372 : BitVec 32 := Scalar.addi v369 v371
  let c205_i32_131 : BitVec 32 := 205#32
  let v373 : BitVec 1 := Scalar.cmpi .sge v345 c205_i32_131
  let v374 : BitVec 32 := Scalar.extui v373
  let v375 : BitVec 32 := Scalar.addi v372 v374
  let c220_i32_132 : BitVec 32 := 220#32
  let v376 : BitVec 1 := Scalar.cmpi .sge v345 c220_i32_132
  let v377 : BitVec 32 := Scalar.extui v376
  let v378 : BitVec 32 := Scalar.addi v375 v377
  let c234_i32_133 : BitVec 32 := 234#32
  let v379 : BitVec 1 := Scalar.cmpi .sge v345 c234_i32_133
  let v380 : BitVec 32 := Scalar.extui v379
  let v381 : BitVec 32 := Scalar.addi v378 v380
  let c247_i32_134 : BitVec 32 := 247#32
  let v382 : BitVec 1 := Scalar.cmpi .sge v345 c247_i32_134
  let v383 : BitVec 32 := Scalar.extui v382
  let v384 : BitVec 32 := Scalar.addi v381 v383
  let c259_i32_135 : BitVec 32 := 259#32
  let v385 : BitVec 1 := Scalar.cmpi .sge v345 c259_i32_135
  let v386 : BitVec 32 := Scalar.extui v385
  let v387 : BitVec 32 := Scalar.addi v384 v386
  let c270_i32_136 : BitVec 32 := 270#32
  let v388 : BitVec 1 := Scalar.cmpi .sge v345 c270_i32_136
  let v389 : BitVec 32 := Scalar.extui v388
  let v390 : BitVec 32 := Scalar.addi v387 v389
  let c280_i32_137 : BitVec 32 := 280#32
  let v391 : BitVec 1 := Scalar.cmpi .sge v345 c280_i32_137
  let v392 : BitVec 32 := Scalar.extui v391
  let v393 : BitVec 32 := Scalar.addi v390 v392
  let c289_i32_138 : BitVec 32 := 289#32
  let v394 : BitVec 1 := Scalar.cmpi .sge v345 c289_i32_138
  let v395 : BitVec 32 := Scalar.extui v394
  let v396 : BitVec 32 := Scalar.addi v393 v395
  let c297_i32_139 : BitVec 32 := 297#32
  let v397 : BitVec 1 := Scalar.cmpi .sge v345 c297_i32_139
  let v398 : BitVec 32 := Scalar.extui v397
  let v399 : BitVec 32 := Scalar.addi v396 v398
  let c304_i32_140 : BitVec 32 := 304#32
  let v400 : BitVec 1 := Scalar.cmpi .sge v345 c304_i32_140
  let v401 : BitVec 32 := Scalar.extui v400
  let v402 : BitVec 32 := Scalar.addi v399 v401
  let c310_i32_141 : BitVec 32 := 310#32
  let v403 : BitVec 1 := Scalar.cmpi .sge v345 c310_i32_141
  let v404 : BitVec 32 := Scalar.extui v403
  let v405 : BitVec 32 := Scalar.addi v402 v404
  let c315_i32_142 : BitVec 32 := 315#32
  let v406 : BitVec 1 := Scalar.cmpi .sge v345 c315_i32_142
  let v407 : BitVec 32 := Scalar.extui v406
  let v408 : BitVec 32 := Scalar.addi v405 v407
  let c319_i32_143 : BitVec 32 := 319#32
  let v409 : BitVec 1 := Scalar.cmpi .sge v345 c319_i32_143
  let v410 : BitVec 32 := Scalar.extui v409
  let v411 : BitVec 32 := Scalar.addi v408 v410
  let c322_i32_144 : BitVec 32 := 322#32
  let v412 : BitVec 1 := Scalar.cmpi .sge v345 c322_i32_144
  let v413 : BitVec 32 := Scalar.extui v412
  let v414 : BitVec 32 := Scalar.addi v411 v413
  let c324_i32_145 : BitVec 32 := 324#32
  let v415 : BitVec 1 := Scalar.cmpi .sge v345 c324_i32_145
  let v416 : BitVec 32 := Scalar.extui v415
  let v417 : BitVec 32 := Scalar.addi v414 v416
  let c51_i32_146 : BitVec 32 := 51#32
  let v418 : BitVec 32 := Scalar.subi c51_i32_146 v417
  let v419 : BitVec 32 := Scalar.muli v417 v418
  let c1_i32_147 : BitVec 32 := 1#32
  let v420 : BitVec 32 := Scalar.shrui v419 c1_i32_147
  let v421 : BitVec 32 := Scalar.subi v345 v420
  let v422 : BitVec 32 := Scalar.addi v421 v417
  let c1_i32_148 : BitVec 32 := 1#32
  let v423 : BitVec 32 := Scalar.addi v422 c1_i32_148
  let c12584_i32_185 : BitVec 32 := 12584#32
  let v475 : BitVec 32 := Scalar.muli v423 c12584_i32_185
  let c484_i32_186 : BitVec 32 := 484#32
  let v476 : BitVec 32 := Scalar.muli v417 c484_i32_186
  let v477 : BitVec 32 := Scalar.addi v475 v476
  let c288_i32_187 : BitVec 32 := 288#32
  let v478 : BitVec 32 := Scalar.addi v477 c288_i32_187
  let c128_i32_188 : BitVec 32 := 128#32
  let v479 : BitVec 32 := Scalar.muli v478 c128_i32_188
  ![v479.toNat]
@[reducible] def k0_t6_loop (i : grid0.Coords) : Scf.Loop 32 :=
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let v167 : BitVec 32 := Scalar.addi c0_i32_42 v166
  let c1_i32_45 : BitVec 32 := 1#32
  ⟨v170, v167, c1_i32_45⟩
def k0_off51 (i : grid0.Coords) (k0_t6 : Fin (k0_t6_loop i).trips) : Fin 1 → Nat :=
  let c0_i32_92 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c32_i32 : BitVec 32 := 32#32
  let v262 : BitVec 32 := Scalar.muli arg14 c32_i32
  let v263 : BitVec 32 := Scalar.addi v1 v262
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c12584_i32_149 : BitVec 32 := 12584#32
  let v424 : BitVec 32 := Scalar.muli v335 c12584_i32_149
  let c51_i32_116 : BitVec 32 := 51#32
  let v336 : BitVec 32 := Scalar.subi c51_i32_116 v335
  let v337 : BitVec 32 := Scalar.muli v335 v336
  let c1_i32_117 : BitVec 32 := 1#32
  let v338 : BitVec 32 := Scalar.shrui v337 c1_i32_117
  let v339 : BitVec 32 := Scalar.subi v263 v338
  let v340 : BitVec 32 := Scalar.addi v339 v335
  let c1_i32_118 : BitVec 32 := 1#32
  let v341 : BitVec 32 := Scalar.addi v340 c1_i32_118
  let c484_i32_150 : BitVec 32 := 484#32
  let v425 : BitVec 32 := Scalar.muli v341 c484_i32_150
  let v426 : BitVec 32 := Scalar.addi v424 v425
  let c0_i32_151 : BitVec 32 := 0#32
  let v427 : BitVec 32 := Scalar.addi v426 c0_i32_151
  let c128_i32_152 : BitVec 32 := 128#32
  let v428 : BitVec 32 := Scalar.muli v427 c128_i32_152
  ![v428.toNat]
def k0_off52 (i : grid0.Coords) (k0_t6 : Fin (k0_t6_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c32_i32 : BitVec 32 := 32#32
  let v262 : BitVec 32 := Scalar.muli arg14 c32_i32
  let v263 : BitVec 32 := Scalar.addi v1 v262
  let c0_i32_92 : BitVec 32 := 0#32
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c51_i32_116 : BitVec 32 := 51#32
  let v336 : BitVec 32 := Scalar.subi c51_i32_116 v335
  let v337 : BitVec 32 := Scalar.muli v335 v336
  let c1_i32_117 : BitVec 32 := 1#32
  let v338 : BitVec 32 := Scalar.shrui v337 c1_i32_117
  let v339 : BitVec 32 := Scalar.subi v263 v338
  let v340 : BitVec 32 := Scalar.addi v339 v335
  let c1_i32_118 : BitVec 32 := 1#32
  let v341 : BitVec 32 := Scalar.addi v340 c1_i32_118
  let c12584_i32_154 : BitVec 32 := 12584#32
  let v433 : BitVec 32 := Scalar.muli v341 c12584_i32_154
  let c484_i32_155 : BitVec 32 := 484#32
  let v434 : BitVec 32 := Scalar.muli v335 c484_i32_155
  let v435 : BitVec 32 := Scalar.addi v433 v434
  let c0_i32_156 : BitVec 32 := 0#32
  let v436 : BitVec 32 := Scalar.addi v435 c0_i32_156
  let c128_i32_157 : BitVec 32 := 128#32
  let v437 : BitVec 32 := Scalar.muli v436 c128_i32_157
  ![v437.toNat]
@[reducible] def k0_t7_loop : Scf.Loop 32 :=
  let c0_i32_160 : BitVec 32 := 0#32
  let c45_i32 : BitVec 32 := 45#32
  let v442 : BitVec 32 := Scalar.addi c0_i32_160 c45_i32
  let c1_i32_161 : BitVec 32 := 1#32
  ⟨c0_i32_160, v442, c1_i32_161⟩
def k0_off53 (i : grid0.Coords) (k0_t6 : Fin (k0_t6_loop i).trips) (k0_t7 : Fin k0_t7_loop.trips) (c0_i32_187 : BitVec 32) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t7
  let v469 : BitVec 32 := Scalar.addi v468 arg15
  let c3_i32_183 : BitVec 32 := 3#32
  let v470 : BitVec 32 := Scalar.andi v469 c3_i32_183
  let c2_i32_186 : BitVec 32 := 2#32
  let v474 : BitVec 32 := Scalar.muli v470 c2_i32_186
  let v475 : BitVec 32 := Scalar.addi v474 c0_i32_187
  let c512_i32_188 : BitVec 32 := 512#32
  let v476 : BitVec 32 := Scalar.muli v475 c512_i32_188
  ![v476.toNat]
def k0_off54 (i : grid0.Coords) (k0_t6 : Fin (k0_t6_loop i).trips) (k0_t7 : Fin k0_t7_loop.trips) : Fin 1 → Nat :=
  let c0_i32_92 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c32_i32 : BitVec 32 := 32#32
  let v262 : BitVec 32 := Scalar.muli arg14 c32_i32
  let v263 : BitVec 32 := Scalar.addi v1 v262
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c23552_i32_184 : BitVec 32 := 23552#32
  let v471 : BitVec 32 := Scalar.muli v335 c23552_i32_184
  let c0_i32_160 : BitVec 32 := 0#32
  let c1_i32_161 : BitVec 32 := 1#32
  let arg15 : BitVec 32 := Scf.iv c0_i32_160 c1_i32_161 k0_t7
  let c512_i32_185 : BitVec 32 := 512#32
  let v472 : BitVec 32 := Scalar.muli arg15 c512_i32_185
  let v473 : BitVec 32 := Scalar.addi v471 v472
  ![v473.toNat]
def k0_off55 (i : grid0.Coords) (k0_t6 : Fin (k0_t6_loop i).trips) (k0_t7 : Fin k0_t7_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t7
  let v469 : BitVec 32 := Scalar.addi v468 arg15
  let c3_i32_183 : BitVec 32 := 3#32
  let v470 : BitVec 32 := Scalar.andi v469 c3_i32_183
  ![v470.toNat]
def k0_off56 (i : grid0.Coords) (k0_t6 : Fin (k0_t6_loop i).trips) (k0_t7 : Fin k0_t7_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c32_i32 : BitVec 32 := 32#32
  let v262 : BitVec 32 := Scalar.muli arg14 c32_i32
  let v263 : BitVec 32 := Scalar.addi v1 v262
  let c0_i32_92 : BitVec 32 := 0#32
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c51_i32_116 : BitVec 32 := 51#32
  let v336 : BitVec 32 := Scalar.subi c51_i32_116 v335
  let v337 : BitVec 32 := Scalar.muli v335 v336
  let c1_i32_117 : BitVec 32 := 1#32
  let v338 : BitVec 32 := Scalar.shrui v337 c1_i32_117
  let v339 : BitVec 32 := Scalar.subi v263 v338
  let v340 : BitVec 32 := Scalar.addi v339 v335
  let c1_i32_118 : BitVec 32 := 1#32
  let v341 : BitVec 32 := Scalar.addi v340 c1_i32_118
  let c23552_i32_189 : BitVec 32 := 23552#32
  let v483 : BitVec 32 := Scalar.muli v341 c23552_i32_189
  let c0_i32_160 : BitVec 32 := 0#32
  let c1_i32_161 : BitVec 32 := 1#32
  let arg15 : BitVec 32 := Scf.iv c0_i32_160 c1_i32_161 k0_t7
  let c512_i32_190 : BitVec 32 := 512#32
  let v484 : BitVec 32 := Scalar.muli arg15 c512_i32_190
  let v485 : BitVec 32 := Scalar.addi v483 v484
  ![v485.toNat]
def k0_off57 (i : grid0.Coords) (k0_t6 : Fin (k0_t6_loop i).trips) (k0_t7 : Fin k0_t7_loop.trips) (c0_i32_202 : BitVec 32) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t7
  let v469 : BitVec 32 := Scalar.addi v468 arg15
  let c3_i32_197 : BitVec 32 := 3#32
  let v499 : BitVec 32 := Scalar.addi v469 c3_i32_197
  let c3_i32_198 : BitVec 32 := 3#32
  let v500 : BitVec 32 := Scalar.andi v499 c3_i32_198
  let c2_i32_201 : BitVec 32 := 2#32
  let v504 : BitVec 32 := Scalar.muli v500 c2_i32_201
  let v505 : BitVec 32 := Scalar.addi v504 c0_i32_202
  let c512_i32_203 : BitVec 32 := 512#32
  let v506 : BitVec 32 := Scalar.muli v505 c512_i32_203
  ![v506.toNat]
def k0_off58 (i : grid0.Coords) (k0_t6 : Fin (k0_t6_loop i).trips) (k0_t7 : Fin k0_t7_loop.trips) : Fin 1 → Nat :=
  let c0_i32_92 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c32_i32 : BitVec 32 := 32#32
  let v262 : BitVec 32 := Scalar.muli arg14 c32_i32
  let v263 : BitVec 32 := Scalar.addi v1 v262
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c23552_i32_199 : BitVec 32 := 23552#32
  let v501 : BitVec 32 := Scalar.muli v335 c23552_i32_199
  let c0_i32_160 : BitVec 32 := 0#32
  let c1_i32_161 : BitVec 32 := 1#32
  let arg15 : BitVec 32 := Scf.iv c0_i32_160 c1_i32_161 k0_t7
  let c3_i32_194 : BitVec 32 := 3#32
  let v495 : BitVec 32 := Scalar.addi arg15 c3_i32_194
  let c45_i32_195 : BitVec 32 := 45#32
  let v496 : BitVec 1 := Scalar.cmpi .sge v495 c45_i32_195
  let c45_i32_196 : BitVec 32 := 45#32
  let v497 : BitVec 32 := Scalar.subi v495 c45_i32_196
  let v498 : BitVec 32 := Scalar.select v496 v497 v495
  let c512_i32_200 : BitVec 32 := 512#32
  let v502 : BitVec 32 := Scalar.muli v498 c512_i32_200
  let v503 : BitVec 32 := Scalar.addi v501 v502
  ![v503.toNat]
def k0_off59 (i : grid0.Coords) (k0_t6 : Fin (k0_t6_loop i).trips) (k0_t7 : Fin k0_t7_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t7
  let v469 : BitVec 32 := Scalar.addi v468 arg15
  let c3_i32_197 : BitVec 32 := 3#32
  let v499 : BitVec 32 := Scalar.addi v469 c3_i32_197
  let c3_i32_198 : BitVec 32 := 3#32
  let v500 : BitVec 32 := Scalar.andi v499 c3_i32_198
  ![v500.toNat]
def k0_off60 (i : grid0.Coords) (k0_t6 : Fin (k0_t6_loop i).trips) (k0_t7 : Fin k0_t7_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c32_i32 : BitVec 32 := 32#32
  let v262 : BitVec 32 := Scalar.muli arg14 c32_i32
  let v263 : BitVec 32 := Scalar.addi v1 v262
  let c0_i32_92 : BitVec 32 := 0#32
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c51_i32_116 : BitVec 32 := 51#32
  let v336 : BitVec 32 := Scalar.subi c51_i32_116 v335
  let v337 : BitVec 32 := Scalar.muli v335 v336
  let c1_i32_117 : BitVec 32 := 1#32
  let v338 : BitVec 32 := Scalar.shrui v337 c1_i32_117
  let v339 : BitVec 32 := Scalar.subi v263 v338
  let v340 : BitVec 32 := Scalar.addi v339 v335
  let c1_i32_118 : BitVec 32 := 1#32
  let v341 : BitVec 32 := Scalar.addi v340 c1_i32_118
  let c23552_i32_204 : BitVec 32 := 23552#32
  let v513 : BitVec 32 := Scalar.muli v341 c23552_i32_204
  let c0_i32_160 : BitVec 32 := 0#32
  let c1_i32_161 : BitVec 32 := 1#32
  let arg15 : BitVec 32 := Scf.iv c0_i32_160 c1_i32_161 k0_t7
  let c3_i32_194 : BitVec 32 := 3#32
  let v495 : BitVec 32 := Scalar.addi arg15 c3_i32_194
  let c45_i32_195 : BitVec 32 := 45#32
  let v496 : BitVec 1 := Scalar.cmpi .sge v495 c45_i32_195
  let c45_i32_196 : BitVec 32 := 45#32
  let v497 : BitVec 32 := Scalar.subi v495 c45_i32_196
  let v498 : BitVec 32 := Scalar.select v496 v497 v495
  let c512_i32_205 : BitVec 32 := 512#32
  let v514 : BitVec 32 := Scalar.muli v498 c512_i32_205
  let v515 : BitVec 32 := Scalar.addi v513 v514
  ![v515.toNat]
def k0_cond5 (i : grid0.Coords) (k0_t6 : Fin (k0_t6_loop i).trips) (k0_t7 : Fin k0_t7_loop.trips) : BitVec 1 :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t7
  let v469 : BitVec 32 := Scalar.addi v468 arg15
  let c2_i32_209 : BitVec 32 := 2#32
  let v525 : BitVec 1 := Scalar.cmpi .sge v469 c2_i32_209
  let v526 : BitVec 32 := Scalar.extui v525
  let c0_i32_210 : BitVec 32 := 0#32
  let v527 : BitVec 1 := Scalar.cmpi .ne v526 c0_i32_210
  v527

def k0_off61 (i : grid0.Coords) (k0_t6 : Fin (k0_t6_loop i).trips) (k0_t7 : Fin k0_t7_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t7
  let v469 : BitVec 32 := Scalar.addi v468 arg15
  let c1_i32_224 : BitVec 32 := 1#32
  let v545 : BitVec 32 := Scalar.andi v469 c1_i32_224
  let c1024_i32_225 : BitVec 32 := 1024#32
  let v546 : BitVec 32 := Scalar.muli v545 c1024_i32_225
  ![v546.toNat]
def k0_off62 (i : grid0.Coords) (k0_t6 : Fin (k0_t6_loop i).trips) (k0_t7 : Fin k0_t7_loop.trips) : Fin 1 → Nat :=
  let c0_i32_227 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c32_i32 : BitVec 32 := 32#32
  let v262 : BitVec 32 := Scalar.muli arg14 c32_i32
  let v263 : BitVec 32 := Scalar.addi v1 v262
  let c46080_i32_226 : BitVec 32 := 46080#32
  let v547 : BitVec 32 := Scalar.muli v263 c46080_i32_226
  let v548 : BitVec 32 := Scalar.addi c0_i32_227 v547
  let c0_i32_160 : BitVec 32 := 0#32
  let c1_i32_161 : BitVec 32 := 1#32
  let arg15 : BitVec 32 := Scf.iv c0_i32_160 c1_i32_161 k0_t7
  let c1024_i32_228 : BitVec 32 := 1024#32
  let v549 : BitVec 32 := Scalar.muli arg15 c1024_i32_228
  let v550 : BitVec 32 := Scalar.addi v548 v549
  ![v550.toNat]
def k0_off63 (i : grid0.Coords) (k0_t6 : Fin (k0_t6_loop i).trips) (k0_t7 : Fin k0_t7_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t7
  let v469 : BitVec 32 := Scalar.addi v468 arg15
  let c1_i32_224 : BitVec 32 := 1#32
  let v545 : BitVec 32 := Scalar.andi v469 c1_i32_224
  ![v545.toNat]
@[reducible] def k0_t8_loop : Scf.Loop 32 :=
  let c0_i32_216 : BitVec 32 := 0#32
  let c32_i32_217 : BitVec 32 := 32#32
  let v532 : BitVec 32 := Scalar.addi c0_i32_216 c32_i32_217
  let c1_i32_218 : BitVec 32 := 1#32
  ⟨c0_i32_216, v532, c1_i32_218⟩
def k0_off64 (i : grid0.Coords) (k0_t6 : Fin (k0_t6_loop i).trips) (k0_t7 : Fin k0_t7_loop.trips) (k0_t8 : Fin k0_t8_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t7
  let v469 : BitVec 32 := Scalar.addi v468 arg15
  let c3_i32_211 : BitVec 32 := 3#32
  let v528 : BitVec 32 := Scalar.andi v469 c3_i32_211
  let c1024_i32_212 : BitVec 32 := 1024#32
  let v529 : BitVec 32 := Scalar.muli v528 c1024_i32_212
  let c0_i32_216 : BitVec 32 := 0#32
  let c1_i32_218 : BitVec 32 := 1#32
  let arg16 : BitVec 32 := Scf.iv c0_i32_216 c1_i32_218 k0_t8
  let c16_i32 : BitVec 32 := 16#32
  let v545 : BitVec 32 := Scalar.muli arg16 c16_i32
  let v546 : BitVec 32 := Scalar.addi v529 v545
  let v547 : Index := Scalar.indexCast v546
  ![v547.toNat]
def k0_off65 (i : grid0.Coords) (k0_t6 : Fin (k0_t6_loop i).trips) (k0_t7 : Fin k0_t7_loop.trips) (k0_t8 : Fin k0_t8_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t7
  let v469 : BitVec 32 := Scalar.addi v468 arg15
  let c3_i32_211 : BitVec 32 := 3#32
  let v528 : BitVec 32 := Scalar.andi v469 c3_i32_211
  let c1024_i32_212 : BitVec 32 := 1024#32
  let v529 : BitVec 32 := Scalar.muli v528 c1024_i32_212
  let c512_i32_224 : BitVec 32 := 512#32
  let v549 : BitVec 32 := Scalar.addi v529 c512_i32_224
  let c0_i32_216 : BitVec 32 := 0#32
  let c1_i32_218 : BitVec 32 := 1#32
  let arg16 : BitVec 32 := Scf.iv c0_i32_216 c1_i32_218 k0_t8
  let c16_i32 : BitVec 32 := 16#32
  let v545 : BitVec 32 := Scalar.muli arg16 c16_i32
  let v550 : BitVec 32 := Scalar.addi v549 v545
  let v551 : Index := Scalar.indexCast v550
  ![v551.toNat]

def k0_chk9 (i : grid0.Coords) (k0_t6 : Fin (k0_t6_loop i).trips) (v554 : IVec S16 32) : Prop :=
  (∀ a x, ((![v554] : Fin 1 → IVec S16 32) a x).toNat < S12288.size a) ∧
  (∀ a x, ((![v554] : Fin 1 → IVec S16 32) a x).toNat < S12288.size a) ∧
  (∀ a x, ((![v554] : Fin 1 → IVec S16 32) a x).toNat < S12288.size a)
theorem k0_idx21_inb : ∀ (i : grid0.Coords) (k0_t6 : Fin (k0_t6_loop i).trips) (v554 : IVec S16 32) (k0_hw9 : k0_chk9 i k0_t6 v554), ∀ a x, ((![v554] : Fin 1 → IVec S16 32) a x).toNat < S12288.size a := fun i k0_t6 v554 k0_hw9 => k0_hw9.1
theorem k0_idx23_inb : ∀ (i : grid0.Coords) (k0_t6 : Fin (k0_t6_loop i).trips) (v554 : IVec S16 32) (k0_hw9 : k0_chk9 i k0_t6 v554), ∀ a x, ((![v554] : Fin 1 → IVec S16 32) a x).toNat < S12288.size a := fun i k0_t6 v554 k0_hw9 => k0_hw9.2.1
theorem k0_idx25_inb : ∀ (i : grid0.Coords) (k0_t6 : Fin (k0_t6_loop i).trips) (v554 : IVec S16 32) (k0_hw9 : k0_chk9 i k0_t6 v554), ∀ a x, ((![v554] : Fin 1 → IVec S16 32) a x).toNat < S12288.size a := fun i k0_t6 v554 k0_hw9 => k0_hw9.2.2

def k0_chk10 (i : grid0.Coords) (k0_t6 : Fin (k0_t6_loop i).trips) (v556 : IVec S16 32) : Prop :=
  (∀ a x, ((![v556] : Fin 1 → IVec S16 32) a x).toNat < S12288.size a) ∧
  (∀ a x, ((![v556] : Fin 1 → IVec S16 32) a x).toNat < S12288.size a) ∧
  (∀ a x, ((![v556] : Fin 1 → IVec S16 32) a x).toNat < S12288.size a)
theorem k0_idx22_inb : ∀ (i : grid0.Coords) (k0_t6 : Fin (k0_t6_loop i).trips) (v556 : IVec S16 32) (k0_hw10 : k0_chk10 i k0_t6 v556), ∀ a x, ((![v556] : Fin 1 → IVec S16 32) a x).toNat < S12288.size a := fun i k0_t6 v556 k0_hw10 => k0_hw10.1
theorem k0_idx24_inb : ∀ (i : grid0.Coords) (k0_t6 : Fin (k0_t6_loop i).trips) (v556 : IVec S16 32) (k0_hw10 : k0_chk10 i k0_t6 v556), ∀ a x, ((![v556] : Fin 1 → IVec S16 32) a x).toNat < S12288.size a := fun i k0_t6 v556 k0_hw10 => k0_hw10.2.1
theorem k0_idx26_inb : ∀ (i : grid0.Coords) (k0_t6 : Fin (k0_t6_loop i).trips) (v556 : IVec S16 32) (k0_hw10 : k0_chk10 i k0_t6 v556), ∀ a x, ((![v556] : Fin 1 → IVec S16 32) a x).toNat < S12288.size a := fun i k0_t6 v556 k0_hw10 => k0_hw10.2.2
def k0_off66 (i : grid0.Coords) (k0_t6 : Fin (k0_t6_loop i).trips) (k0_t7 : Fin k0_t7_loop.trips) (k0_t8 : Fin k0_t8_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t7
  let v469 : BitVec 32 := Scalar.addi v468 arg15
  let c1_i32_213 : BitVec 32 := 1#32
  let v530 : BitVec 32 := Scalar.andi v469 c1_i32_213
  let c1024_i32_214 : BitVec 32 := 1024#32
  let v531 : BitVec 32 := Scalar.muli v530 c1024_i32_214
  let c0_i32_216 : BitVec 32 := 0#32
  let c1_i32_218 : BitVec 32 := 1#32
  let arg16 : BitVec 32 := Scf.iv c0_i32_216 c1_i32_218 k0_t8
  let c16_i32 : BitVec 32 := 16#32
  let v545 : BitVec 32 := Scalar.muli arg16 c16_i32
  let v688 : BitVec 32 := Scalar.addi v531 v545
  let v689 : Index := Scalar.indexCast v688
  ![v689.toNat]

def k0_chk11 (i : grid0.Coords) (k0_t6 : Fin (k0_t6_loop i).trips) (v692 : IVec S16 32) : Prop :=
  (∀ a x, ((![v692] : Fin 1 → IVec S16 32) a x).toNat < S12288.size a) ∧
  (∀ a x, ((![v692] : Fin 1 → IVec S16 32) a x).toNat < S12288.size a) ∧
  (∀ a x, ((![v692] : Fin 1 → IVec S16 32) a x).toNat < S12288.size a)
theorem k0_idx27_inb : ∀ (i : grid0.Coords) (k0_t6 : Fin (k0_t6_loop i).trips) (v692 : IVec S16 32) (k0_hw11 : k0_chk11 i k0_t6 v692), ∀ a x, ((![v692] : Fin 1 → IVec S16 32) a x).toNat < S12288.size a := fun i k0_t6 v692 k0_hw11 => k0_hw11.1
theorem k0_idx29_inb : ∀ (i : grid0.Coords) (k0_t6 : Fin (k0_t6_loop i).trips) (v692 : IVec S16 32) (k0_hw11 : k0_chk11 i k0_t6 v692), ∀ a x, ((![v692] : Fin 1 → IVec S16 32) a x).toNat < S12288.size a := fun i k0_t6 v692 k0_hw11 => k0_hw11.2.1
theorem k0_idx31_inb : ∀ (i : grid0.Coords) (k0_t6 : Fin (k0_t6_loop i).trips) (v692 : IVec S16 32) (k0_hw11 : k0_chk11 i k0_t6 v692), ∀ a x, ((![v692] : Fin 1 → IVec S16 32) a x).toNat < S12288.size a := fun i k0_t6 v692 k0_hw11 => k0_hw11.2.2

def k0_chk12 (i : grid0.Coords) (k0_t6 : Fin (k0_t6_loop i).trips) (v694 : IVec S16 32) : Prop :=
  (∀ a x, ((![v694] : Fin 1 → IVec S16 32) a x).toNat < S12288.size a) ∧
  (∀ a x, ((![v694] : Fin 1 → IVec S16 32) a x).toNat < S12288.size a) ∧
  (∀ a x, ((![v694] : Fin 1 → IVec S16 32) a x).toNat < S12288.size a)
theorem k0_idx28_inb : ∀ (i : grid0.Coords) (k0_t6 : Fin (k0_t6_loop i).trips) (v694 : IVec S16 32) (k0_hw12 : k0_chk12 i k0_t6 v694), ∀ a x, ((![v694] : Fin 1 → IVec S16 32) a x).toNat < S12288.size a := fun i k0_t6 v694 k0_hw12 => k0_hw12.1
theorem k0_idx30_inb : ∀ (i : grid0.Coords) (k0_t6 : Fin (k0_t6_loop i).trips) (v694 : IVec S16 32) (k0_hw12 : k0_chk12 i k0_t6 v694), ∀ a x, ((![v694] : Fin 1 → IVec S16 32) a x).toNat < S12288.size a := fun i k0_t6 v694 k0_hw12 => k0_hw12.2.1
theorem k0_idx32_inb : ∀ (i : grid0.Coords) (k0_t6 : Fin (k0_t6_loop i).trips) (v694 : IVec S16 32) (k0_hw12 : k0_chk12 i k0_t6 v694), ∀ a x, ((![v694] : Fin 1 → IVec S16 32) a x).toNat < S12288.size a := fun i k0_t6 v694 k0_hw12 => k0_hw12.2.2
def k0_off67 (i : grid0.Coords) (k0_t6 : Fin (k0_t6_loop i).trips) (k0_t7 : Fin k0_t7_loop.trips) (k0_t8 : Fin k0_t8_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t7
  let v469 : BitVec 32 := Scalar.addi v468 arg15
  let c1_i32_213 : BitVec 32 := 1#32
  let v530 : BitVec 32 := Scalar.andi v469 c1_i32_213
  let c1024_i32_214 : BitVec 32 := 1024#32
  let v531 : BitVec 32 := Scalar.muli v530 c1024_i32_214
  let c512_i32_332 : BitVec 32 := 512#32
  let v826 : BitVec 32 := Scalar.addi v531 c512_i32_332
  let c0_i32_216 : BitVec 32 := 0#32
  let c1_i32_218 : BitVec 32 := 1#32
  let arg16 : BitVec 32 := Scf.iv c0_i32_216 c1_i32_218 k0_t8
  let c16_i32 : BitVec 32 := 16#32
  let v545 : BitVec 32 := Scalar.muli arg16 c16_i32
  let v827 : BitVec 32 := Scalar.addi v826 v545
  let v828 : Index := Scalar.indexCast v827
  ![v828.toNat]
def k0_off68 (i : grid0.Coords) (k0_t6 : Fin (k0_t6_loop i).trips) (k0_t7 : Fin k0_t7_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t7
  let v469 : BitVec 32 := Scalar.addi v468 arg15
  let c1_i32_220 : BitVec 32 := 1#32
  let v533 : BitVec 32 := Scalar.andi v469 c1_i32_220
  let c1024_i32_221 : BitVec 32 := 1024#32
  let v534 : BitVec 32 := Scalar.muli v533 c1024_i32_221
  ![v534.toNat]
def k0_off69 (i : grid0.Coords) (k0_t6 : Fin (k0_t6_loop i).trips) (k0_t7 : Fin k0_t7_loop.trips) : Fin 1 → Nat :=
  let c0_i32_222 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c32_i32 : BitVec 32 := 32#32
  let v262 : BitVec 32 := Scalar.muli arg14 c32_i32
  let v263 : BitVec 32 := Scalar.addi v1 v262
  let c46080_i32 : BitVec 32 := 46080#32
  let v535 : BitVec 32 := Scalar.muli v263 c46080_i32
  let v536 : BitVec 32 := Scalar.addi c0_i32_222 v535
  let c0_i32_160 : BitVec 32 := 0#32
  let c1_i32_161 : BitVec 32 := 1#32
  let arg15 : BitVec 32 := Scf.iv c0_i32_160 c1_i32_161 k0_t7
  let c1024_i32_223 : BitVec 32 := 1024#32
  let v537 : BitVec 32 := Scalar.muli arg15 c1024_i32_223
  let v538 : BitVec 32 := Scalar.addi v536 v537
  ![v538.toNat]
def k0_off70 (i : grid0.Coords) (k0_t6 : Fin (k0_t6_loop i).trips) (k0_t7 : Fin k0_t7_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c0_i32_181 : BitVec 32 := 0#32
  let v467 : BitVec 32 := Scalar.addi v466 c0_i32_181
  let c45_i32_182 : BitVec 32 := 45#32
  let v468 : BitVec 32 := Scalar.muli v467 c45_i32_182
  let c0_i32_160 : BitVec 32 := 0#32
  let c1_i32_161 : BitVec 32 := 1#32
  let arg15 : BitVec 32 := Scf.iv c0_i32_160 c1_i32_161 k0_t7
  let v469 : BitVec 32 := Scalar.addi v468 arg15
  let c1_i32_220 : BitVec 32 := 1#32
  let v533 : BitVec 32 := Scalar.andi v469 c1_i32_220
  ![v533.toNat]
def k0_cond6 (i : grid0.Coords) (k0_t6 : Fin (k0_t6_loop i).trips) : BitVec 1 :=
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c1_i32_119 : BitVec 32 := 1#32
  let v342 : BitVec 32 := Scalar.addi arg14 c1_i32_119
  let v343 : BitVec 1 := Scalar.cmpi .slt v342 v3
  let v443 : BitVec 32 := Scalar.extui v343
  let c0_i32_163 : BitVec 32 := 0#32
  let v444 : BitVec 1 := Scalar.cmpi .ne v443 c0_i32_163
  v444

def k0_off71 (i : grid0.Coords) (k0_t6 : Fin (k0_t6_loop i).trips) : Fin 1 → Nat :=
  let c0_i32_122 : BitVec 32 := 0#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c1_i32_119 : BitVec 32 := 1#32
  let v342 : BitVec 32 := Scalar.addi arg14 c1_i32_119
  let v343 : BitVec 1 := Scalar.cmpi .slt v342 v3
  let c32_i32 : BitVec 32 := 32#32
  let v262 : BitVec 32 := Scalar.muli arg14 c32_i32
  let v263 : BitVec 32 := Scalar.addi v1 v262
  let c32_i32_120 : BitVec 32 := 32#32
  let v344 : BitVec 32 := Scalar.addi v263 c32_i32_120
  let v345 : BitVec 32 := Scalar.select v343 v344 v1
  let c25_i32_121 : BitVec 32 := 25#32
  let v346 : BitVec 1 := Scalar.cmpi .sge v345 c25_i32_121
  let v347 : BitVec 32 := Scalar.extui v346
  let v348 : BitVec 32 := Scalar.addi c0_i32_122 v347
  let c49_i32_123 : BitVec 32 := 49#32
  let v349 : BitVec 1 := Scalar.cmpi .sge v345 c49_i32_123
  let v350 : BitVec 32 := Scalar.extui v349
  let v351 : BitVec 32 := Scalar.addi v348 v350
  let c72_i32_124 : BitVec 32 := 72#32
  let v352 : BitVec 1 := Scalar.cmpi .sge v345 c72_i32_124
  let v353 : BitVec 32 := Scalar.extui v352
  let v354 : BitVec 32 := Scalar.addi v351 v353
  let c94_i32_125 : BitVec 32 := 94#32
  let v355 : BitVec 1 := Scalar.cmpi .sge v345 c94_i32_125
  let v356 : BitVec 32 := Scalar.extui v355
  let v357 : BitVec 32 := Scalar.addi v354 v356
  let c115_i32_126 : BitVec 32 := 115#32
  let v358 : BitVec 1 := Scalar.cmpi .sge v345 c115_i32_126
  let v359 : BitVec 32 := Scalar.extui v358
  let v360 : BitVec 32 := Scalar.addi v357 v359
  let c135_i32_127 : BitVec 32 := 135#32
  let v361 : BitVec 1 := Scalar.cmpi .sge v345 c135_i32_127
  let v362 : BitVec 32 := Scalar.extui v361
  let v363 : BitVec 32 := Scalar.addi v360 v362
  let c154_i32_128 : BitVec 32 := 154#32
  let v364 : BitVec 1 := Scalar.cmpi .sge v345 c154_i32_128
  let v365 : BitVec 32 := Scalar.extui v364
  let v366 : BitVec 32 := Scalar.addi v363 v365
  let c172_i32_129 : BitVec 32 := 172#32
  let v367 : BitVec 1 := Scalar.cmpi .sge v345 c172_i32_129
  let v368 : BitVec 32 := Scalar.extui v367
  let v369 : BitVec 32 := Scalar.addi v366 v368
  let c189_i32_130 : BitVec 32 := 189#32
  let v370 : BitVec 1 := Scalar.cmpi .sge v345 c189_i32_130
  let v371 : BitVec 32 := Scalar.extui v370
  let v372 : BitVec 32 := Scalar.addi v369 v371
  let c205_i32_131 : BitVec 32 := 205#32
  let v373 : BitVec 1 := Scalar.cmpi .sge v345 c205_i32_131
  let v374 : BitVec 32 := Scalar.extui v373
  let v375 : BitVec 32 := Scalar.addi v372 v374
  let c220_i32_132 : BitVec 32 := 220#32
  let v376 : BitVec 1 := Scalar.cmpi .sge v345 c220_i32_132
  let v377 : BitVec 32 := Scalar.extui v376
  let v378 : BitVec 32 := Scalar.addi v375 v377
  let c234_i32_133 : BitVec 32 := 234#32
  let v379 : BitVec 1 := Scalar.cmpi .sge v345 c234_i32_133
  let v380 : BitVec 32 := Scalar.extui v379
  let v381 : BitVec 32 := Scalar.addi v378 v380
  let c247_i32_134 : BitVec 32 := 247#32
  let v382 : BitVec 1 := Scalar.cmpi .sge v345 c247_i32_134
  let v383 : BitVec 32 := Scalar.extui v382
  let v384 : BitVec 32 := Scalar.addi v381 v383
  let c259_i32_135 : BitVec 32 := 259#32
  let v385 : BitVec 1 := Scalar.cmpi .sge v345 c259_i32_135
  let v386 : BitVec 32 := Scalar.extui v385
  let v387 : BitVec 32 := Scalar.addi v384 v386
  let c270_i32_136 : BitVec 32 := 270#32
  let v388 : BitVec 1 := Scalar.cmpi .sge v345 c270_i32_136
  let v389 : BitVec 32 := Scalar.extui v388
  let v390 : BitVec 32 := Scalar.addi v387 v389
  let c280_i32_137 : BitVec 32 := 280#32
  let v391 : BitVec 1 := Scalar.cmpi .sge v345 c280_i32_137
  let v392 : BitVec 32 := Scalar.extui v391
  let v393 : BitVec 32 := Scalar.addi v390 v392
  let c289_i32_138 : BitVec 32 := 289#32
  let v394 : BitVec 1 := Scalar.cmpi .sge v345 c289_i32_138
  let v395 : BitVec 32 := Scalar.extui v394
  let v396 : BitVec 32 := Scalar.addi v393 v395
  let c297_i32_139 : BitVec 32 := 297#32
  let v397 : BitVec 1 := Scalar.cmpi .sge v345 c297_i32_139
  let v398 : BitVec 32 := Scalar.extui v397
  let v399 : BitVec 32 := Scalar.addi v396 v398
  let c304_i32_140 : BitVec 32 := 304#32
  let v400 : BitVec 1 := Scalar.cmpi .sge v345 c304_i32_140
  let v401 : BitVec 32 := Scalar.extui v400
  let v402 : BitVec 32 := Scalar.addi v399 v401
  let c310_i32_141 : BitVec 32 := 310#32
  let v403 : BitVec 1 := Scalar.cmpi .sge v345 c310_i32_141
  let v404 : BitVec 32 := Scalar.extui v403
  let v405 : BitVec 32 := Scalar.addi v402 v404
  let c315_i32_142 : BitVec 32 := 315#32
  let v406 : BitVec 1 := Scalar.cmpi .sge v345 c315_i32_142
  let v407 : BitVec 32 := Scalar.extui v406
  let v408 : BitVec 32 := Scalar.addi v405 v407
  let c319_i32_143 : BitVec 32 := 319#32
  let v409 : BitVec 1 := Scalar.cmpi .sge v345 c319_i32_143
  let v410 : BitVec 32 := Scalar.extui v409
  let v411 : BitVec 32 := Scalar.addi v408 v410
  let c322_i32_144 : BitVec 32 := 322#32
  let v412 : BitVec 1 := Scalar.cmpi .sge v345 c322_i32_144
  let v413 : BitVec 32 := Scalar.extui v412
  let v414 : BitVec 32 := Scalar.addi v411 v413
  let c324_i32_145 : BitVec 32 := 324#32
  let v415 : BitVec 1 := Scalar.cmpi .sge v345 c324_i32_145
  let v416 : BitVec 32 := Scalar.extui v415
  let v417 : BitVec 32 := Scalar.addi v414 v416
  let c12584_i32_180 : BitVec 32 := 12584#32
  let v466 : BitVec 32 := Scalar.muli v417 c12584_i32_180
  let c51_i32_146 : BitVec 32 := 51#32
  let v418 : BitVec 32 := Scalar.subi c51_i32_146 v417
  let v419 : BitVec 32 := Scalar.muli v417 v418
  let c1_i32_147 : BitVec 32 := 1#32
  let v420 : BitVec 32 := Scalar.shrui v419 c1_i32_147
  let v421 : BitVec 32 := Scalar.subi v345 v420
  let v422 : BitVec 32 := Scalar.addi v421 v417
  let c1_i32_148 : BitVec 32 := 1#32
  let v423 : BitVec 32 := Scalar.addi v422 c1_i32_148
  let c484_i32_181 : BitVec 32 := 484#32
  let v467 : BitVec 32 := Scalar.muli v423 c484_i32_181
  let v468 : BitVec 32 := Scalar.addi v466 v467
  let c0_i32_182 : BitVec 32 := 0#32
  let v469 : BitVec 32 := Scalar.addi v468 c0_i32_182
  let c128_i32_183 : BitVec 32 := 128#32
  let v470 : BitVec 32 := Scalar.muli v469 c128_i32_183
  ![v470.toNat]
def k0_off72 (i : grid0.Coords) (k0_t6 : Fin (k0_t6_loop i).trips) : Fin 1 → Nat :=
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c1_i32_119 : BitVec 32 := 1#32
  let v342 : BitVec 32 := Scalar.addi arg14 c1_i32_119
  let v343 : BitVec 1 := Scalar.cmpi .slt v342 v3
  let c32_i32 : BitVec 32 := 32#32
  let v262 : BitVec 32 := Scalar.muli arg14 c32_i32
  let v263 : BitVec 32 := Scalar.addi v1 v262
  let c32_i32_120 : BitVec 32 := 32#32
  let v344 : BitVec 32 := Scalar.addi v263 c32_i32_120
  let v345 : BitVec 32 := Scalar.select v343 v344 v1
  let c0_i32_122 : BitVec 32 := 0#32
  let c25_i32_121 : BitVec 32 := 25#32
  let v346 : BitVec 1 := Scalar.cmpi .sge v345 c25_i32_121
  let v347 : BitVec 32 := Scalar.extui v346
  let v348 : BitVec 32 := Scalar.addi c0_i32_122 v347
  let c49_i32_123 : BitVec 32 := 49#32
  let v349 : BitVec 1 := Scalar.cmpi .sge v345 c49_i32_123
  let v350 : BitVec 32 := Scalar.extui v349
  let v351 : BitVec 32 := Scalar.addi v348 v350
  let c72_i32_124 : BitVec 32 := 72#32
  let v352 : BitVec 1 := Scalar.cmpi .sge v345 c72_i32_124
  let v353 : BitVec 32 := Scalar.extui v352
  let v354 : BitVec 32 := Scalar.addi v351 v353
  let c94_i32_125 : BitVec 32 := 94#32
  let v355 : BitVec 1 := Scalar.cmpi .sge v345 c94_i32_125
  let v356 : BitVec 32 := Scalar.extui v355
  let v357 : BitVec 32 := Scalar.addi v354 v356
  let c115_i32_126 : BitVec 32 := 115#32
  let v358 : BitVec 1 := Scalar.cmpi .sge v345 c115_i32_126
  let v359 : BitVec 32 := Scalar.extui v358
  let v360 : BitVec 32 := Scalar.addi v357 v359
  let c135_i32_127 : BitVec 32 := 135#32
  let v361 : BitVec 1 := Scalar.cmpi .sge v345 c135_i32_127
  let v362 : BitVec 32 := Scalar.extui v361
  let v363 : BitVec 32 := Scalar.addi v360 v362
  let c154_i32_128 : BitVec 32 := 154#32
  let v364 : BitVec 1 := Scalar.cmpi .sge v345 c154_i32_128
  let v365 : BitVec 32 := Scalar.extui v364
  let v366 : BitVec 32 := Scalar.addi v363 v365
  let c172_i32_129 : BitVec 32 := 172#32
  let v367 : BitVec 1 := Scalar.cmpi .sge v345 c172_i32_129
  let v368 : BitVec 32 := Scalar.extui v367
  let v369 : BitVec 32 := Scalar.addi v366 v368
  let c189_i32_130 : BitVec 32 := 189#32
  let v370 : BitVec 1 := Scalar.cmpi .sge v345 c189_i32_130
  let v371 : BitVec 32 := Scalar.extui v370
  let v372 : BitVec 32 := Scalar.addi v369 v371
  let c205_i32_131 : BitVec 32 := 205#32
  let v373 : BitVec 1 := Scalar.cmpi .sge v345 c205_i32_131
  let v374 : BitVec 32 := Scalar.extui v373
  let v375 : BitVec 32 := Scalar.addi v372 v374
  let c220_i32_132 : BitVec 32 := 220#32
  let v376 : BitVec 1 := Scalar.cmpi .sge v345 c220_i32_132
  let v377 : BitVec 32 := Scalar.extui v376
  let v378 : BitVec 32 := Scalar.addi v375 v377
  let c234_i32_133 : BitVec 32 := 234#32
  let v379 : BitVec 1 := Scalar.cmpi .sge v345 c234_i32_133
  let v380 : BitVec 32 := Scalar.extui v379
  let v381 : BitVec 32 := Scalar.addi v378 v380
  let c247_i32_134 : BitVec 32 := 247#32
  let v382 : BitVec 1 := Scalar.cmpi .sge v345 c247_i32_134
  let v383 : BitVec 32 := Scalar.extui v382
  let v384 : BitVec 32 := Scalar.addi v381 v383
  let c259_i32_135 : BitVec 32 := 259#32
  let v385 : BitVec 1 := Scalar.cmpi .sge v345 c259_i32_135
  let v386 : BitVec 32 := Scalar.extui v385
  let v387 : BitVec 32 := Scalar.addi v384 v386
  let c270_i32_136 : BitVec 32 := 270#32
  let v388 : BitVec 1 := Scalar.cmpi .sge v345 c270_i32_136
  let v389 : BitVec 32 := Scalar.extui v388
  let v390 : BitVec 32 := Scalar.addi v387 v389
  let c280_i32_137 : BitVec 32 := 280#32
  let v391 : BitVec 1 := Scalar.cmpi .sge v345 c280_i32_137
  let v392 : BitVec 32 := Scalar.extui v391
  let v393 : BitVec 32 := Scalar.addi v390 v392
  let c289_i32_138 : BitVec 32 := 289#32
  let v394 : BitVec 1 := Scalar.cmpi .sge v345 c289_i32_138
  let v395 : BitVec 32 := Scalar.extui v394
  let v396 : BitVec 32 := Scalar.addi v393 v395
  let c297_i32_139 : BitVec 32 := 297#32
  let v397 : BitVec 1 := Scalar.cmpi .sge v345 c297_i32_139
  let v398 : BitVec 32 := Scalar.extui v397
  let v399 : BitVec 32 := Scalar.addi v396 v398
  let c304_i32_140 : BitVec 32 := 304#32
  let v400 : BitVec 1 := Scalar.cmpi .sge v345 c304_i32_140
  let v401 : BitVec 32 := Scalar.extui v400
  let v402 : BitVec 32 := Scalar.addi v399 v401
  let c310_i32_141 : BitVec 32 := 310#32
  let v403 : BitVec 1 := Scalar.cmpi .sge v345 c310_i32_141
  let v404 : BitVec 32 := Scalar.extui v403
  let v405 : BitVec 32 := Scalar.addi v402 v404
  let c315_i32_142 : BitVec 32 := 315#32
  let v406 : BitVec 1 := Scalar.cmpi .sge v345 c315_i32_142
  let v407 : BitVec 32 := Scalar.extui v406
  let v408 : BitVec 32 := Scalar.addi v405 v407
  let c319_i32_143 : BitVec 32 := 319#32
  let v409 : BitVec 1 := Scalar.cmpi .sge v345 c319_i32_143
  let v410 : BitVec 32 := Scalar.extui v409
  let v411 : BitVec 32 := Scalar.addi v408 v410
  let c322_i32_144 : BitVec 32 := 322#32
  let v412 : BitVec 1 := Scalar.cmpi .sge v345 c322_i32_144
  let v413 : BitVec 32 := Scalar.extui v412
  let v414 : BitVec 32 := Scalar.addi v411 v413
  let c324_i32_145 : BitVec 32 := 324#32
  let v415 : BitVec 1 := Scalar.cmpi .sge v345 c324_i32_145
  let v416 : BitVec 32 := Scalar.extui v415
  let v417 : BitVec 32 := Scalar.addi v414 v416
  let c51_i32_146 : BitVec 32 := 51#32
  let v418 : BitVec 32 := Scalar.subi c51_i32_146 v417
  let v419 : BitVec 32 := Scalar.muli v417 v418
  let c1_i32_147 : BitVec 32 := 1#32
  let v420 : BitVec 32 := Scalar.shrui v419 c1_i32_147
  let v421 : BitVec 32 := Scalar.subi v345 v420
  let v422 : BitVec 32 := Scalar.addi v421 v417
  let c1_i32_148 : BitVec 32 := 1#32
  let v423 : BitVec 32 := Scalar.addi v422 c1_i32_148
  let c12584_i32_185 : BitVec 32 := 12584#32
  let v475 : BitVec 32 := Scalar.muli v423 c12584_i32_185
  let c484_i32_186 : BitVec 32 := 484#32
  let v476 : BitVec 32 := Scalar.muli v417 c484_i32_186
  let v477 : BitVec 32 := Scalar.addi v475 v476
  let c0_i32_187 : BitVec 32 := 0#32
  let v478 : BitVec 32 := Scalar.addi v477 c0_i32_187
  let c128_i32_188 : BitVec 32 := 128#32
  let v479 : BitVec 32 := Scalar.muli v478 c128_i32_188
  ![v479.toNat]
def k0_off73 (i : grid0.Coords) (k0_t6 : Fin (k0_t6_loop i).trips) : Fin 1 → Nat :=
  let c0_i32_92 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c32_i32 : BitVec 32 := 32#32
  let v262 : BitVec 32 := Scalar.muli arg14 c32_i32
  let v263 : BitVec 32 := Scalar.addi v1 v262
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c12584_i32_164 : BitVec 32 := 12584#32
  let v445 : BitVec 32 := Scalar.muli v335 c12584_i32_164
  let c51_i32_116 : BitVec 32 := 51#32
  let v336 : BitVec 32 := Scalar.subi c51_i32_116 v335
  let v337 : BitVec 32 := Scalar.muli v335 v336
  let c1_i32_117 : BitVec 32 := 1#32
  let v338 : BitVec 32 := Scalar.shrui v337 c1_i32_117
  let v339 : BitVec 32 := Scalar.subi v263 v338
  let v340 : BitVec 32 := Scalar.addi v339 v335
  let c1_i32_118 : BitVec 32 := 1#32
  let v341 : BitVec 32 := Scalar.addi v340 c1_i32_118
  let c484_i32_165 : BitVec 32 := 484#32
  let v446 : BitVec 32 := Scalar.muli v341 c484_i32_165
  let v447 : BitVec 32 := Scalar.addi v445 v446
  let c288_i32_166 : BitVec 32 := 288#32
  let v448 : BitVec 32 := Scalar.addi v447 c288_i32_166
  let c128_i32_167 : BitVec 32 := 128#32
  let v449 : BitVec 32 := Scalar.muli v448 c128_i32_167
  ![v449.toNat]
def k0_off74 (i : grid0.Coords) (k0_t6 : Fin (k0_t6_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c32_i32 : BitVec 32 := 32#32
  let v262 : BitVec 32 := Scalar.muli arg14 c32_i32
  let v263 : BitVec 32 := Scalar.addi v1 v262
  let c0_i32_92 : BitVec 32 := 0#32
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c51_i32_116 : BitVec 32 := 51#32
  let v336 : BitVec 32 := Scalar.subi c51_i32_116 v335
  let v337 : BitVec 32 := Scalar.muli v335 v336
  let c1_i32_117 : BitVec 32 := 1#32
  let v338 : BitVec 32 := Scalar.shrui v337 c1_i32_117
  let v339 : BitVec 32 := Scalar.subi v263 v338
  let v340 : BitVec 32 := Scalar.addi v339 v335
  let c1_i32_118 : BitVec 32 := 1#32
  let v341 : BitVec 32 := Scalar.addi v340 c1_i32_118
  let c12584_i32_169 : BitVec 32 := 12584#32
  let v454 : BitVec 32 := Scalar.muli v341 c12584_i32_169
  let c484_i32_170 : BitVec 32 := 484#32
  let v455 : BitVec 32 := Scalar.muli v335 c484_i32_170
  let v456 : BitVec 32 := Scalar.addi v454 v455
  let c288_i32_171 : BitVec 32 := 288#32
  let v457 : BitVec 32 := Scalar.addi v456 c288_i32_171
  let c128_i32_172 : BitVec 32 := 128#32
  let v458 : BitVec 32 := Scalar.muli v457 c128_i32_172
  ![v458.toNat]
@[reducible] def k0_t9_loop : Scf.Loop 32 :=
  let c0_i32_175 : BitVec 32 := 0#32
  let c45_i32_176 : BitVec 32 := 45#32
  let v463 : BitVec 32 := Scalar.addi c0_i32_175 c45_i32_176
  let c1_i32_177 : BitVec 32 := 1#32
  ⟨c0_i32_175, v463, c1_i32_177⟩
def k0_off75 (i : grid0.Coords) (k0_t6 : Fin (k0_t6_loop i).trips) (k0_t9 : Fin k0_t9_loop.trips) (c0_i32_187 : BitVec 32) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t9
  let v469 : BitVec 32 := Scalar.addi v468 arg15
  let c3_i32_183 : BitVec 32 := 3#32
  let v470 : BitVec 32 := Scalar.andi v469 c3_i32_183
  let c2_i32_186 : BitVec 32 := 2#32
  let v474 : BitVec 32 := Scalar.muli v470 c2_i32_186
  let v475 : BitVec 32 := Scalar.addi v474 c0_i32_187
  let c512_i32_188 : BitVec 32 := 512#32
  let v476 : BitVec 32 := Scalar.muli v475 c512_i32_188
  ![v476.toNat]
def k0_off76 (i : grid0.Coords) (k0_t6 : Fin (k0_t6_loop i).trips) (k0_t9 : Fin k0_t9_loop.trips) : Fin 1 → Nat :=
  let c0_i32_92 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c32_i32 : BitVec 32 := 32#32
  let v262 : BitVec 32 := Scalar.muli arg14 c32_i32
  let v263 : BitVec 32 := Scalar.addi v1 v262
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c23552_i32_184 : BitVec 32 := 23552#32
  let v471 : BitVec 32 := Scalar.muli v335 c23552_i32_184
  let c0_i32_175 : BitVec 32 := 0#32
  let c1_i32_177 : BitVec 32 := 1#32
  let arg15 : BitVec 32 := Scf.iv c0_i32_175 c1_i32_177 k0_t9
  let c512_i32_185 : BitVec 32 := 512#32
  let v472 : BitVec 32 := Scalar.muli arg15 c512_i32_185
  let v473 : BitVec 32 := Scalar.addi v471 v472
  ![v473.toNat]
def k0_off77 (i : grid0.Coords) (k0_t6 : Fin (k0_t6_loop i).trips) (k0_t9 : Fin k0_t9_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t9
  let v469 : BitVec 32 := Scalar.addi v468 arg15
  let c3_i32_183 : BitVec 32 := 3#32
  let v470 : BitVec 32 := Scalar.andi v469 c3_i32_183
  ![v470.toNat]
def k0_off78 (i : grid0.Coords) (k0_t6 : Fin (k0_t6_loop i).trips) (k0_t9 : Fin k0_t9_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c32_i32 : BitVec 32 := 32#32
  let v262 : BitVec 32 := Scalar.muli arg14 c32_i32
  let v263 : BitVec 32 := Scalar.addi v1 v262
  let c0_i32_92 : BitVec 32 := 0#32
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c51_i32_116 : BitVec 32 := 51#32
  let v336 : BitVec 32 := Scalar.subi c51_i32_116 v335
  let v337 : BitVec 32 := Scalar.muli v335 v336
  let c1_i32_117 : BitVec 32 := 1#32
  let v338 : BitVec 32 := Scalar.shrui v337 c1_i32_117
  let v339 : BitVec 32 := Scalar.subi v263 v338
  let v340 : BitVec 32 := Scalar.addi v339 v335
  let c1_i32_118 : BitVec 32 := 1#32
  let v341 : BitVec 32 := Scalar.addi v340 c1_i32_118
  let c23552_i32_189 : BitVec 32 := 23552#32
  let v483 : BitVec 32 := Scalar.muli v341 c23552_i32_189
  let c0_i32_175 : BitVec 32 := 0#32
  let c1_i32_177 : BitVec 32 := 1#32
  let arg15 : BitVec 32 := Scf.iv c0_i32_175 c1_i32_177 k0_t9
  let c512_i32_190 : BitVec 32 := 512#32
  let v484 : BitVec 32 := Scalar.muli arg15 c512_i32_190
  let v485 : BitVec 32 := Scalar.addi v483 v484
  ![v485.toNat]
def k0_off79 (i : grid0.Coords) (k0_t6 : Fin (k0_t6_loop i).trips) (k0_t9 : Fin k0_t9_loop.trips) (c0_i32_202 : BitVec 32) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t9
  let v469 : BitVec 32 := Scalar.addi v468 arg15
  let c3_i32_197 : BitVec 32 := 3#32
  let v501 : BitVec 32 := Scalar.addi v469 c3_i32_197
  let c3_i32_198 : BitVec 32 := 3#32
  let v502 : BitVec 32 := Scalar.andi v501 c3_i32_198
  let c2_i32_201 : BitVec 32 := 2#32
  let v506 : BitVec 32 := Scalar.muli v502 c2_i32_201
  let v507 : BitVec 32 := Scalar.addi v506 c0_i32_202
  let c512_i32_203 : BitVec 32 := 512#32
  let v508 : BitVec 32 := Scalar.muli v507 c512_i32_203
  ![v508.toNat]
def k0_off80 (i : grid0.Coords) (k0_t6 : Fin (k0_t6_loop i).trips) (k0_t9 : Fin k0_t9_loop.trips) : Fin 1 → Nat :=
  let c0_i32_175 : BitVec 32 := 0#32
  let c1_i32_177 : BitVec 32 := 1#32
  let arg15 : BitVec 32 := Scf.iv c0_i32_175 c1_i32_177 k0_t9
  let c3_i32_194 : BitVec 32 := 3#32
  let v495 : BitVec 32 := Scalar.addi arg15 c3_i32_194
  let c45_i32_195 : BitVec 32 := 45#32
  let v496 : BitVec 1 := Scalar.cmpi .sge v495 c45_i32_195
  let c0_i32_122 : BitVec 32 := 0#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c1_i32_119 : BitVec 32 := 1#32
  let v342 : BitVec 32 := Scalar.addi arg14 c1_i32_119
  let v343 : BitVec 1 := Scalar.cmpi .slt v342 v3
  let c32_i32 : BitVec 32 := 32#32
  let v262 : BitVec 32 := Scalar.muli arg14 c32_i32
  let v263 : BitVec 32 := Scalar.addi v1 v262
  let c32_i32_120 : BitVec 32 := 32#32
  let v344 : BitVec 32 := Scalar.addi v263 c32_i32_120
  let v345 : BitVec 32 := Scalar.select v343 v344 v1
  let c25_i32_121 : BitVec 32 := 25#32
  let v346 : BitVec 1 := Scalar.cmpi .sge v345 c25_i32_121
  let v347 : BitVec 32 := Scalar.extui v346
  let v348 : BitVec 32 := Scalar.addi c0_i32_122 v347
  let c49_i32_123 : BitVec 32 := 49#32
  let v349 : BitVec 1 := Scalar.cmpi .sge v345 c49_i32_123
  let v350 : BitVec 32 := Scalar.extui v349
  let v351 : BitVec 32 := Scalar.addi v348 v350
  let c72_i32_124 : BitVec 32 := 72#32
  let v352 : BitVec 1 := Scalar.cmpi .sge v345 c72_i32_124
  let v353 : BitVec 32 := Scalar.extui v352
  let v354 : BitVec 32 := Scalar.addi v351 v353
  let c94_i32_125 : BitVec 32 := 94#32
  let v355 : BitVec 1 := Scalar.cmpi .sge v345 c94_i32_125
  let v356 : BitVec 32 := Scalar.extui v355
  let v357 : BitVec 32 := Scalar.addi v354 v356
  let c115_i32_126 : BitVec 32 := 115#32
  let v358 : BitVec 1 := Scalar.cmpi .sge v345 c115_i32_126
  let v359 : BitVec 32 := Scalar.extui v358
  let v360 : BitVec 32 := Scalar.addi v357 v359
  let c135_i32_127 : BitVec 32 := 135#32
  let v361 : BitVec 1 := Scalar.cmpi .sge v345 c135_i32_127
  let v362 : BitVec 32 := Scalar.extui v361
  let v363 : BitVec 32 := Scalar.addi v360 v362
  let c154_i32_128 : BitVec 32 := 154#32
  let v364 : BitVec 1 := Scalar.cmpi .sge v345 c154_i32_128
  let v365 : BitVec 32 := Scalar.extui v364
  let v366 : BitVec 32 := Scalar.addi v363 v365
  let c172_i32_129 : BitVec 32 := 172#32
  let v367 : BitVec 1 := Scalar.cmpi .sge v345 c172_i32_129
  let v368 : BitVec 32 := Scalar.extui v367
  let v369 : BitVec 32 := Scalar.addi v366 v368
  let c189_i32_130 : BitVec 32 := 189#32
  let v370 : BitVec 1 := Scalar.cmpi .sge v345 c189_i32_130
  let v371 : BitVec 32 := Scalar.extui v370
  let v372 : BitVec 32 := Scalar.addi v369 v371
  let c205_i32_131 : BitVec 32 := 205#32
  let v373 : BitVec 1 := Scalar.cmpi .sge v345 c205_i32_131
  let v374 : BitVec 32 := Scalar.extui v373
  let v375 : BitVec 32 := Scalar.addi v372 v374
  let c220_i32_132 : BitVec 32 := 220#32
  let v376 : BitVec 1 := Scalar.cmpi .sge v345 c220_i32_132
  let v377 : BitVec 32 := Scalar.extui v376
  let v378 : BitVec 32 := Scalar.addi v375 v377
  let c234_i32_133 : BitVec 32 := 234#32
  let v379 : BitVec 1 := Scalar.cmpi .sge v345 c234_i32_133
  let v380 : BitVec 32 := Scalar.extui v379
  let v381 : BitVec 32 := Scalar.addi v378 v380
  let c247_i32_134 : BitVec 32 := 247#32
  let v382 : BitVec 1 := Scalar.cmpi .sge v345 c247_i32_134
  let v383 : BitVec 32 := Scalar.extui v382
  let v384 : BitVec 32 := Scalar.addi v381 v383
  let c259_i32_135 : BitVec 32 := 259#32
  let v385 : BitVec 1 := Scalar.cmpi .sge v345 c259_i32_135
  let v386 : BitVec 32 := Scalar.extui v385
  let v387 : BitVec 32 := Scalar.addi v384 v386
  let c270_i32_136 : BitVec 32 := 270#32
  let v388 : BitVec 1 := Scalar.cmpi .sge v345 c270_i32_136
  let v389 : BitVec 32 := Scalar.extui v388
  let v390 : BitVec 32 := Scalar.addi v387 v389
  let c280_i32_137 : BitVec 32 := 280#32
  let v391 : BitVec 1 := Scalar.cmpi .sge v345 c280_i32_137
  let v392 : BitVec 32 := Scalar.extui v391
  let v393 : BitVec 32 := Scalar.addi v390 v392
  let c289_i32_138 : BitVec 32 := 289#32
  let v394 : BitVec 1 := Scalar.cmpi .sge v345 c289_i32_138
  let v395 : BitVec 32 := Scalar.extui v394
  let v396 : BitVec 32 := Scalar.addi v393 v395
  let c297_i32_139 : BitVec 32 := 297#32
  let v397 : BitVec 1 := Scalar.cmpi .sge v345 c297_i32_139
  let v398 : BitVec 32 := Scalar.extui v397
  let v399 : BitVec 32 := Scalar.addi v396 v398
  let c304_i32_140 : BitVec 32 := 304#32
  let v400 : BitVec 1 := Scalar.cmpi .sge v345 c304_i32_140
  let v401 : BitVec 32 := Scalar.extui v400
  let v402 : BitVec 32 := Scalar.addi v399 v401
  let c310_i32_141 : BitVec 32 := 310#32
  let v403 : BitVec 1 := Scalar.cmpi .sge v345 c310_i32_141
  let v404 : BitVec 32 := Scalar.extui v403
  let v405 : BitVec 32 := Scalar.addi v402 v404
  let c315_i32_142 : BitVec 32 := 315#32
  let v406 : BitVec 1 := Scalar.cmpi .sge v345 c315_i32_142
  let v407 : BitVec 32 := Scalar.extui v406
  let v408 : BitVec 32 := Scalar.addi v405 v407
  let c319_i32_143 : BitVec 32 := 319#32
  let v409 : BitVec 1 := Scalar.cmpi .sge v345 c319_i32_143
  let v410 : BitVec 32 := Scalar.extui v409
  let v411 : BitVec 32 := Scalar.addi v408 v410
  let c322_i32_144 : BitVec 32 := 322#32
  let v412 : BitVec 1 := Scalar.cmpi .sge v345 c322_i32_144
  let v413 : BitVec 32 := Scalar.extui v412
  let v414 : BitVec 32 := Scalar.addi v411 v413
  let c324_i32_145 : BitVec 32 := 324#32
  let v415 : BitVec 1 := Scalar.cmpi .sge v345 c324_i32_145
  let v416 : BitVec 32 := Scalar.extui v415
  let v417 : BitVec 32 := Scalar.addi v414 v416
  let c0_i32_92 : BitVec 32 := 0#32
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let v497 : BitVec 32 := Scalar.select v496 v417 v335
  let c23552_i32_199 : BitVec 32 := 23552#32
  let v503 : BitVec 32 := Scalar.muli v497 c23552_i32_199
  let c45_i32_196 : BitVec 32 := 45#32
  let v499 : BitVec 32 := Scalar.subi v495 c45_i32_196
  let v500 : BitVec 32 := Scalar.select v496 v499 v495
  let c512_i32_200 : BitVec 32 := 512#32
  let v504 : BitVec 32 := Scalar.muli v500 c512_i32_200
  let v505 : BitVec 32 := Scalar.addi v503 v504
  ![v505.toNat]
def k0_off81 (i : grid0.Coords) (k0_t6 : Fin (k0_t6_loop i).trips) (k0_t9 : Fin k0_t9_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t9
  let v469 : BitVec 32 := Scalar.addi v468 arg15
  let c3_i32_197 : BitVec 32 := 3#32
  let v501 : BitVec 32 := Scalar.addi v469 c3_i32_197
  let c3_i32_198 : BitVec 32 := 3#32
  let v502 : BitVec 32 := Scalar.andi v501 c3_i32_198
  ![v502.toNat]
def k0_off82 (i : grid0.Coords) (k0_t6 : Fin (k0_t6_loop i).trips) (k0_t9 : Fin k0_t9_loop.trips) : Fin 1 → Nat :=
  let c0_i32_175 : BitVec 32 := 0#32
  let c1_i32_177 : BitVec 32 := 1#32
  let arg15 : BitVec 32 := Scf.iv c0_i32_175 c1_i32_177 k0_t9
  let c3_i32_194 : BitVec 32 := 3#32
  let v495 : BitVec 32 := Scalar.addi arg15 c3_i32_194
  let c45_i32_195 : BitVec 32 := 45#32
  let v496 : BitVec 1 := Scalar.cmpi .sge v495 c45_i32_195
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c1_i32_119 : BitVec 32 := 1#32
  let v342 : BitVec 32 := Scalar.addi arg14 c1_i32_119
  let v343 : BitVec 1 := Scalar.cmpi .slt v342 v3
  let c32_i32 : BitVec 32 := 32#32
  let v262 : BitVec 32 := Scalar.muli arg14 c32_i32
  let v263 : BitVec 32 := Scalar.addi v1 v262
  let c32_i32_120 : BitVec 32 := 32#32
  let v344 : BitVec 32 := Scalar.addi v263 c32_i32_120
  let v345 : BitVec 32 := Scalar.select v343 v344 v1
  let c0_i32_122 : BitVec 32 := 0#32
  let c25_i32_121 : BitVec 32 := 25#32
  let v346 : BitVec 1 := Scalar.cmpi .sge v345 c25_i32_121
  let v347 : BitVec 32 := Scalar.extui v346
  let v348 : BitVec 32 := Scalar.addi c0_i32_122 v347
  let c49_i32_123 : BitVec 32 := 49#32
  let v349 : BitVec 1 := Scalar.cmpi .sge v345 c49_i32_123
  let v350 : BitVec 32 := Scalar.extui v349
  let v351 : BitVec 32 := Scalar.addi v348 v350
  let c72_i32_124 : BitVec 32 := 72#32
  let v352 : BitVec 1 := Scalar.cmpi .sge v345 c72_i32_124
  let v353 : BitVec 32 := Scalar.extui v352
  let v354 : BitVec 32 := Scalar.addi v351 v353
  let c94_i32_125 : BitVec 32 := 94#32
  let v355 : BitVec 1 := Scalar.cmpi .sge v345 c94_i32_125
  let v356 : BitVec 32 := Scalar.extui v355
  let v357 : BitVec 32 := Scalar.addi v354 v356
  let c115_i32_126 : BitVec 32 := 115#32
  let v358 : BitVec 1 := Scalar.cmpi .sge v345 c115_i32_126
  let v359 : BitVec 32 := Scalar.extui v358
  let v360 : BitVec 32 := Scalar.addi v357 v359
  let c135_i32_127 : BitVec 32 := 135#32
  let v361 : BitVec 1 := Scalar.cmpi .sge v345 c135_i32_127
  let v362 : BitVec 32 := Scalar.extui v361
  let v363 : BitVec 32 := Scalar.addi v360 v362
  let c154_i32_128 : BitVec 32 := 154#32
  let v364 : BitVec 1 := Scalar.cmpi .sge v345 c154_i32_128
  let v365 : BitVec 32 := Scalar.extui v364
  let v366 : BitVec 32 := Scalar.addi v363 v365
  let c172_i32_129 : BitVec 32 := 172#32
  let v367 : BitVec 1 := Scalar.cmpi .sge v345 c172_i32_129
  let v368 : BitVec 32 := Scalar.extui v367
  let v369 : BitVec 32 := Scalar.addi v366 v368
  let c189_i32_130 : BitVec 32 := 189#32
  let v370 : BitVec 1 := Scalar.cmpi .sge v345 c189_i32_130
  let v371 : BitVec 32 := Scalar.extui v370
  let v372 : BitVec 32 := Scalar.addi v369 v371
  let c205_i32_131 : BitVec 32 := 205#32
  let v373 : BitVec 1 := Scalar.cmpi .sge v345 c205_i32_131
  let v374 : BitVec 32 := Scalar.extui v373
  let v375 : BitVec 32 := Scalar.addi v372 v374
  let c220_i32_132 : BitVec 32 := 220#32
  let v376 : BitVec 1 := Scalar.cmpi .sge v345 c220_i32_132
  let v377 : BitVec 32 := Scalar.extui v376
  let v378 : BitVec 32 := Scalar.addi v375 v377
  let c234_i32_133 : BitVec 32 := 234#32
  let v379 : BitVec 1 := Scalar.cmpi .sge v345 c234_i32_133
  let v380 : BitVec 32 := Scalar.extui v379
  let v381 : BitVec 32 := Scalar.addi v378 v380
  let c247_i32_134 : BitVec 32 := 247#32
  let v382 : BitVec 1 := Scalar.cmpi .sge v345 c247_i32_134
  let v383 : BitVec 32 := Scalar.extui v382
  let v384 : BitVec 32 := Scalar.addi v381 v383
  let c259_i32_135 : BitVec 32 := 259#32
  let v385 : BitVec 1 := Scalar.cmpi .sge v345 c259_i32_135
  let v386 : BitVec 32 := Scalar.extui v385
  let v387 : BitVec 32 := Scalar.addi v384 v386
  let c270_i32_136 : BitVec 32 := 270#32
  let v388 : BitVec 1 := Scalar.cmpi .sge v345 c270_i32_136
  let v389 : BitVec 32 := Scalar.extui v388
  let v390 : BitVec 32 := Scalar.addi v387 v389
  let c280_i32_137 : BitVec 32 := 280#32
  let v391 : BitVec 1 := Scalar.cmpi .sge v345 c280_i32_137
  let v392 : BitVec 32 := Scalar.extui v391
  let v393 : BitVec 32 := Scalar.addi v390 v392
  let c289_i32_138 : BitVec 32 := 289#32
  let v394 : BitVec 1 := Scalar.cmpi .sge v345 c289_i32_138
  let v395 : BitVec 32 := Scalar.extui v394
  let v396 : BitVec 32 := Scalar.addi v393 v395
  let c297_i32_139 : BitVec 32 := 297#32
  let v397 : BitVec 1 := Scalar.cmpi .sge v345 c297_i32_139
  let v398 : BitVec 32 := Scalar.extui v397
  let v399 : BitVec 32 := Scalar.addi v396 v398
  let c304_i32_140 : BitVec 32 := 304#32
  let v400 : BitVec 1 := Scalar.cmpi .sge v345 c304_i32_140
  let v401 : BitVec 32 := Scalar.extui v400
  let v402 : BitVec 32 := Scalar.addi v399 v401
  let c310_i32_141 : BitVec 32 := 310#32
  let v403 : BitVec 1 := Scalar.cmpi .sge v345 c310_i32_141
  let v404 : BitVec 32 := Scalar.extui v403
  let v405 : BitVec 32 := Scalar.addi v402 v404
  let c315_i32_142 : BitVec 32 := 315#32
  let v406 : BitVec 1 := Scalar.cmpi .sge v345 c315_i32_142
  let v407 : BitVec 32 := Scalar.extui v406
  let v408 : BitVec 32 := Scalar.addi v405 v407
  let c319_i32_143 : BitVec 32 := 319#32
  let v409 : BitVec 1 := Scalar.cmpi .sge v345 c319_i32_143
  let v410 : BitVec 32 := Scalar.extui v409
  let v411 : BitVec 32 := Scalar.addi v408 v410
  let c322_i32_144 : BitVec 32 := 322#32
  let v412 : BitVec 1 := Scalar.cmpi .sge v345 c322_i32_144
  let v413 : BitVec 32 := Scalar.extui v412
  let v414 : BitVec 32 := Scalar.addi v411 v413
  let c324_i32_145 : BitVec 32 := 324#32
  let v415 : BitVec 1 := Scalar.cmpi .sge v345 c324_i32_145
  let v416 : BitVec 32 := Scalar.extui v415
  let v417 : BitVec 32 := Scalar.addi v414 v416
  let c51_i32_146 : BitVec 32 := 51#32
  let v418 : BitVec 32 := Scalar.subi c51_i32_146 v417
  let v419 : BitVec 32 := Scalar.muli v417 v418
  let c1_i32_147 : BitVec 32 := 1#32
  let v420 : BitVec 32 := Scalar.shrui v419 c1_i32_147
  let v421 : BitVec 32 := Scalar.subi v345 v420
  let v422 : BitVec 32 := Scalar.addi v421 v417
  let c1_i32_148 : BitVec 32 := 1#32
  let v423 : BitVec 32 := Scalar.addi v422 c1_i32_148
  let c0_i32_92 : BitVec 32 := 0#32
  let c25_i32_91 : BitVec 32 := 25#32
  let v264 : BitVec 1 := Scalar.cmpi .sge v263 c25_i32_91
  let v265 : BitVec 32 := Scalar.extui v264
  let v266 : BitVec 32 := Scalar.addi c0_i32_92 v265
  let c49_i32_93 : BitVec 32 := 49#32
  let v267 : BitVec 1 := Scalar.cmpi .sge v263 c49_i32_93
  let v268 : BitVec 32 := Scalar.extui v267
  let v269 : BitVec 32 := Scalar.addi v266 v268
  let c72_i32_94 : BitVec 32 := 72#32
  let v270 : BitVec 1 := Scalar.cmpi .sge v263 c72_i32_94
  let v271 : BitVec 32 := Scalar.extui v270
  let v272 : BitVec 32 := Scalar.addi v269 v271
  let c94_i32_95 : BitVec 32 := 94#32
  let v273 : BitVec 1 := Scalar.cmpi .sge v263 c94_i32_95
  let v274 : BitVec 32 := Scalar.extui v273
  let v275 : BitVec 32 := Scalar.addi v272 v274
  let c115_i32_96 : BitVec 32 := 115#32
  let v276 : BitVec 1 := Scalar.cmpi .sge v263 c115_i32_96
  let v277 : BitVec 32 := Scalar.extui v276
  let v278 : BitVec 32 := Scalar.addi v275 v277
  let c135_i32_97 : BitVec 32 := 135#32
  let v279 : BitVec 1 := Scalar.cmpi .sge v263 c135_i32_97
  let v280 : BitVec 32 := Scalar.extui v279
  let v281 : BitVec 32 := Scalar.addi v278 v280
  let c154_i32_98 : BitVec 32 := 154#32
  let v282 : BitVec 1 := Scalar.cmpi .sge v263 c154_i32_98
  let v283 : BitVec 32 := Scalar.extui v282
  let v284 : BitVec 32 := Scalar.addi v281 v283
  let c172_i32_99 : BitVec 32 := 172#32
  let v285 : BitVec 1 := Scalar.cmpi .sge v263 c172_i32_99
  let v286 : BitVec 32 := Scalar.extui v285
  let v287 : BitVec 32 := Scalar.addi v284 v286
  let c189_i32_100 : BitVec 32 := 189#32
  let v288 : BitVec 1 := Scalar.cmpi .sge v263 c189_i32_100
  let v289 : BitVec 32 := Scalar.extui v288
  let v290 : BitVec 32 := Scalar.addi v287 v289
  let c205_i32_101 : BitVec 32 := 205#32
  let v291 : BitVec 1 := Scalar.cmpi .sge v263 c205_i32_101
  let v292 : BitVec 32 := Scalar.extui v291
  let v293 : BitVec 32 := Scalar.addi v290 v292
  let c220_i32_102 : BitVec 32 := 220#32
  let v294 : BitVec 1 := Scalar.cmpi .sge v263 c220_i32_102
  let v295 : BitVec 32 := Scalar.extui v294
  let v296 : BitVec 32 := Scalar.addi v293 v295
  let c234_i32_103 : BitVec 32 := 234#32
  let v297 : BitVec 1 := Scalar.cmpi .sge v263 c234_i32_103
  let v298 : BitVec 32 := Scalar.extui v297
  let v299 : BitVec 32 := Scalar.addi v296 v298
  let c247_i32_104 : BitVec 32 := 247#32
  let v300 : BitVec 1 := Scalar.cmpi .sge v263 c247_i32_104
  let v301 : BitVec 32 := Scalar.extui v300
  let v302 : BitVec 32 := Scalar.addi v299 v301
  let c259_i32_105 : BitVec 32 := 259#32
  let v303 : BitVec 1 := Scalar.cmpi .sge v263 c259_i32_105
  let v304 : BitVec 32 := Scalar.extui v303
  let v305 : BitVec 32 := Scalar.addi v302 v304
  let c270_i32_106 : BitVec 32 := 270#32
  let v306 : BitVec 1 := Scalar.cmpi .sge v263 c270_i32_106
  let v307 : BitVec 32 := Scalar.extui v306
  let v308 : BitVec 32 := Scalar.addi v305 v307
  let c280_i32_107 : BitVec 32 := 280#32
  let v309 : BitVec 1 := Scalar.cmpi .sge v263 c280_i32_107
  let v310 : BitVec 32 := Scalar.extui v309
  let v311 : BitVec 32 := Scalar.addi v308 v310
  let c289_i32_108 : BitVec 32 := 289#32
  let v312 : BitVec 1 := Scalar.cmpi .sge v263 c289_i32_108
  let v313 : BitVec 32 := Scalar.extui v312
  let v314 : BitVec 32 := Scalar.addi v311 v313
  let c297_i32_109 : BitVec 32 := 297#32
  let v315 : BitVec 1 := Scalar.cmpi .sge v263 c297_i32_109
  let v316 : BitVec 32 := Scalar.extui v315
  let v317 : BitVec 32 := Scalar.addi v314 v316
  let c304_i32_110 : BitVec 32 := 304#32
  let v318 : BitVec 1 := Scalar.cmpi .sge v263 c304_i32_110
  let v319 : BitVec 32 := Scalar.extui v318
  let v320 : BitVec 32 := Scalar.addi v317 v319
  let c310_i32_111 : BitVec 32 := 310#32
  let v321 : BitVec 1 := Scalar.cmpi .sge v263 c310_i32_111
  let v322 : BitVec 32 := Scalar.extui v321
  let v323 : BitVec 32 := Scalar.addi v320 v322
  let c315_i32_112 : BitVec 32 := 315#32
  let v324 : BitVec 1 := Scalar.cmpi .sge v263 c315_i32_112
  let v325 : BitVec 32 := Scalar.extui v324
  let v326 : BitVec 32 := Scalar.addi v323 v325
  let c319_i32_113 : BitVec 32 := 319#32
  let v327 : BitVec 1 := Scalar.cmpi .sge v263 c319_i32_113
  let v328 : BitVec 32 := Scalar.extui v327
  let v329 : BitVec 32 := Scalar.addi v326 v328
  let c322_i32_114 : BitVec 32 := 322#32
  let v330 : BitVec 1 := Scalar.cmpi .sge v263 c322_i32_114
  let v331 : BitVec 32 := Scalar.extui v330
  let v332 : BitVec 32 := Scalar.addi v329 v331
  let c324_i32_115 : BitVec 32 := 324#32
  let v333 : BitVec 1 := Scalar.cmpi .sge v263 c324_i32_115
  let v334 : BitVec 32 := Scalar.extui v333
  let v335 : BitVec 32 := Scalar.addi v332 v334
  let c51_i32_116 : BitVec 32 := 51#32
  let v336 : BitVec 32 := Scalar.subi c51_i32_116 v335
  let v337 : BitVec 32 := Scalar.muli v335 v336
  let c1_i32_117 : BitVec 32 := 1#32
  let v338 : BitVec 32 := Scalar.shrui v337 c1_i32_117
  let v339 : BitVec 32 := Scalar.subi v263 v338
  let v340 : BitVec 32 := Scalar.addi v339 v335
  let c1_i32_118 : BitVec 32 := 1#32
  let v341 : BitVec 32 := Scalar.addi v340 c1_i32_118
  let v498 : BitVec 32 := Scalar.select v496 v423 v341
  let c23552_i32_204 : BitVec 32 := 23552#32
  let v515 : BitVec 32 := Scalar.muli v498 c23552_i32_204
  let c45_i32_196 : BitVec 32 := 45#32
  let v499 : BitVec 32 := Scalar.subi v495 c45_i32_196
  let v500 : BitVec 32 := Scalar.select v496 v499 v495
  let c512_i32_205 : BitVec 32 := 512#32
  let v516 : BitVec 32 := Scalar.muli v500 c512_i32_205
  let v517 : BitVec 32 := Scalar.addi v515 v516
  ![v517.toNat]
def k0_cond7 (i : grid0.Coords) (k0_t6 : Fin (k0_t6_loop i).trips) (k0_t9 : Fin k0_t9_loop.trips) : BitVec 1 :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t9
  let v469 : BitVec 32 := Scalar.addi v468 arg15
  let c2_i32_209 : BitVec 32 := 2#32
  let v527 : BitVec 1 := Scalar.cmpi .sge v469 c2_i32_209
  let v528 : BitVec 32 := Scalar.extui v527
  let c0_i32_210 : BitVec 32 := 0#32
  let v529 : BitVec 1 := Scalar.cmpi .ne v528 c0_i32_210
  v529

def k0_off83 (i : grid0.Coords) (k0_t6 : Fin (k0_t6_loop i).trips) (k0_t9 : Fin k0_t9_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t9
  let v469 : BitVec 32 := Scalar.addi v468 arg15
  let c1_i32_223 : BitVec 32 := 1#32
  let v547 : BitVec 32 := Scalar.andi v469 c1_i32_223
  let c1024_i32_224 : BitVec 32 := 1024#32
  let v548 : BitVec 32 := Scalar.muli v547 c1024_i32_224
  ![v548.toNat]
def k0_off84 (i : grid0.Coords) (k0_t6 : Fin (k0_t6_loop i).trips) (k0_t9 : Fin k0_t9_loop.trips) : Fin 1 → Nat :=
  let c14976000_i32_226 : BitVec 32 := 14976000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c32_i32 : BitVec 32 := 32#32
  let v262 : BitVec 32 := Scalar.muli arg14 c32_i32
  let v263 : BitVec 32 := Scalar.addi v1 v262
  let c46080_i32_225 : BitVec 32 := 46080#32
  let v549 : BitVec 32 := Scalar.muli v263 c46080_i32_225
  let v550 : BitVec 32 := Scalar.addi c14976000_i32_226 v549
  let c0_i32_175 : BitVec 32 := 0#32
  let c1_i32_177 : BitVec 32 := 1#32
  let arg15 : BitVec 32 := Scf.iv c0_i32_175 c1_i32_177 k0_t9
  let c1024_i32_227 : BitVec 32 := 1024#32
  let v551 : BitVec 32 := Scalar.muli arg15 c1024_i32_227
  let v552 : BitVec 32 := Scalar.addi v550 v551
  ![v552.toNat]
def k0_off85 (i : grid0.Coords) (k0_t6 : Fin (k0_t6_loop i).trips) (k0_t9 : Fin k0_t9_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t9
  let v469 : BitVec 32 := Scalar.addi v468 arg15
  let c1_i32_223 : BitVec 32 := 1#32
  let v547 : BitVec 32 := Scalar.andi v469 c1_i32_223
  ![v547.toNat]
@[reducible] def k0_t10_loop : Scf.Loop 32 :=
  let c0_i32_216 : BitVec 32 := 0#32
  let c32_i32_217 : BitVec 32 := 32#32
  let v534 : BitVec 32 := Scalar.addi c0_i32_216 c32_i32_217
  let c1_i32_218 : BitVec 32 := 1#32
  ⟨c0_i32_216, v534, c1_i32_218⟩
def k0_off86 (i : grid0.Coords) (k0_t6 : Fin (k0_t6_loop i).trips) (k0_t9 : Fin k0_t9_loop.trips) (k0_t10 : Fin k0_t10_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t9
  let v469 : BitVec 32 := Scalar.addi v468 arg15
  let c3_i32_211 : BitVec 32 := 3#32
  let v530 : BitVec 32 := Scalar.andi v469 c3_i32_211
  let c1024_i32_212 : BitVec 32 := 1024#32
  let v531 : BitVec 32 := Scalar.muli v530 c1024_i32_212
  let c0_i32_216 : BitVec 32 := 0#32
  let c1_i32_218 : BitVec 32 := 1#32
  let arg16 : BitVec 32 := Scf.iv c0_i32_216 c1_i32_218 k0_t10
  let c16_i32 : BitVec 32 := 16#32
  let v547 : BitVec 32 := Scalar.muli arg16 c16_i32
  let v548 : BitVec 32 := Scalar.addi v531 v547
  let v549 : Index := Scalar.indexCast v548
  ![v549.toNat]
def k0_off87 (i : grid0.Coords) (k0_t6 : Fin (k0_t6_loop i).trips) (k0_t9 : Fin k0_t9_loop.trips) (k0_t10 : Fin k0_t10_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t9
  let v469 : BitVec 32 := Scalar.addi v468 arg15
  let c3_i32_211 : BitVec 32 := 3#32
  let v530 : BitVec 32 := Scalar.andi v469 c3_i32_211
  let c1024_i32_212 : BitVec 32 := 1024#32
  let v531 : BitVec 32 := Scalar.muli v530 c1024_i32_212
  let c512_i32_223 : BitVec 32 := 512#32
  let v551 : BitVec 32 := Scalar.addi v531 c512_i32_223
  let c0_i32_216 : BitVec 32 := 0#32
  let c1_i32_218 : BitVec 32 := 1#32
  let arg16 : BitVec 32 := Scf.iv c0_i32_216 c1_i32_218 k0_t10
  let c16_i32 : BitVec 32 := 16#32
  let v547 : BitVec 32 := Scalar.muli arg16 c16_i32
  let v552 : BitVec 32 := Scalar.addi v551 v547
  let v553 : Index := Scalar.indexCast v552
  ![v553.toNat]

def k0_chk13 (i : grid0.Coords) (k0_t6 : Fin (k0_t6_loop i).trips) (v556 : IVec S16 32) : Prop :=
  (∀ a x, ((![v556] : Fin 1 → IVec S16 32) a x).toNat < S12288.size a) ∧
  (∀ a x, ((![v556] : Fin 1 → IVec S16 32) a x).toNat < S12288.size a)
theorem k0_idx33_inb : ∀ (i : grid0.Coords) (k0_t6 : Fin (k0_t6_loop i).trips) (v556 : IVec S16 32) (k0_hw13 : k0_chk13 i k0_t6 v556), ∀ a x, ((![v556] : Fin 1 → IVec S16 32) a x).toNat < S12288.size a := fun i k0_t6 v556 k0_hw13 => k0_hw13.1
theorem k0_idx35_inb : ∀ (i : grid0.Coords) (k0_t6 : Fin (k0_t6_loop i).trips) (v556 : IVec S16 32) (k0_hw13 : k0_chk13 i k0_t6 v556), ∀ a x, ((![v556] : Fin 1 → IVec S16 32) a x).toNat < S12288.size a := fun i k0_t6 v556 k0_hw13 => k0_hw13.2

def k0_chk14 (i : grid0.Coords) (k0_t6 : Fin (k0_t6_loop i).trips) (v558 : IVec S16 32) : Prop :=
  (∀ a x, ((![v558] : Fin 1 → IVec S16 32) a x).toNat < S12288.size a) ∧
  (∀ a x, ((![v558] : Fin 1 → IVec S16 32) a x).toNat < S12288.size a)
theorem k0_idx34_inb : ∀ (i : grid0.Coords) (k0_t6 : Fin (k0_t6_loop i).trips) (v558 : IVec S16 32) (k0_hw14 : k0_chk14 i k0_t6 v558), ∀ a x, ((![v558] : Fin 1 → IVec S16 32) a x).toNat < S12288.size a := fun i k0_t6 v558 k0_hw14 => k0_hw14.1
theorem k0_idx36_inb : ∀ (i : grid0.Coords) (k0_t6 : Fin (k0_t6_loop i).trips) (v558 : IVec S16 32) (k0_hw14 : k0_chk14 i k0_t6 v558), ∀ a x, ((![v558] : Fin 1 → IVec S16 32) a x).toNat < S12288.size a := fun i k0_t6 v558 k0_hw14 => k0_hw14.2
def k0_off88 (i : grid0.Coords) (k0_t6 : Fin (k0_t6_loop i).trips) (k0_t9 : Fin k0_t9_loop.trips) (k0_t10 : Fin k0_t10_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t9
  let v469 : BitVec 32 := Scalar.addi v468 arg15
  let c1_i32_213 : BitVec 32 := 1#32
  let v532 : BitVec 32 := Scalar.andi v469 c1_i32_213
  let c1024_i32_214 : BitVec 32 := 1024#32
  let v533 : BitVec 32 := Scalar.muli v532 c1024_i32_214
  let c0_i32_216 : BitVec 32 := 0#32
  let c1_i32_218 : BitVec 32 := 1#32
  let arg16 : BitVec 32 := Scf.iv c0_i32_216 c1_i32_218 k0_t10
  let c16_i32 : BitVec 32 := 16#32
  let v547 : BitVec 32 := Scalar.muli arg16 c16_i32
  let v646 : BitVec 32 := Scalar.addi v533 v547
  let v647 : Index := Scalar.indexCast v646
  ![v647.toNat]

def k0_chk15 (i : grid0.Coords) (k0_t6 : Fin (k0_t6_loop i).trips) (v650 : IVec S16 32) : Prop :=
  (∀ a x, ((![v650] : Fin 1 → IVec S16 32) a x).toNat < S12288.size a) ∧
  (∀ a x, ((![v650] : Fin 1 → IVec S16 32) a x).toNat < S12288.size a)
theorem k0_idx37_inb : ∀ (i : grid0.Coords) (k0_t6 : Fin (k0_t6_loop i).trips) (v650 : IVec S16 32) (k0_hw15 : k0_chk15 i k0_t6 v650), ∀ a x, ((![v650] : Fin 1 → IVec S16 32) a x).toNat < S12288.size a := fun i k0_t6 v650 k0_hw15 => k0_hw15.1
theorem k0_idx39_inb : ∀ (i : grid0.Coords) (k0_t6 : Fin (k0_t6_loop i).trips) (v650 : IVec S16 32) (k0_hw15 : k0_chk15 i k0_t6 v650), ∀ a x, ((![v650] : Fin 1 → IVec S16 32) a x).toNat < S12288.size a := fun i k0_t6 v650 k0_hw15 => k0_hw15.2

def k0_chk16 (i : grid0.Coords) (k0_t6 : Fin (k0_t6_loop i).trips) (v652 : IVec S16 32) : Prop :=
  (∀ a x, ((![v652] : Fin 1 → IVec S16 32) a x).toNat < S12288.size a) ∧
  (∀ a x, ((![v652] : Fin 1 → IVec S16 32) a x).toNat < S12288.size a)
theorem k0_idx38_inb : ∀ (i : grid0.Coords) (k0_t6 : Fin (k0_t6_loop i).trips) (v652 : IVec S16 32) (k0_hw16 : k0_chk16 i k0_t6 v652), ∀ a x, ((![v652] : Fin 1 → IVec S16 32) a x).toNat < S12288.size a := fun i k0_t6 v652 k0_hw16 => k0_hw16.1
theorem k0_idx40_inb : ∀ (i : grid0.Coords) (k0_t6 : Fin (k0_t6_loop i).trips) (v652 : IVec S16 32) (k0_hw16 : k0_chk16 i k0_t6 v652), ∀ a x, ((![v652] : Fin 1 → IVec S16 32) a x).toNat < S12288.size a := fun i k0_t6 v652 k0_hw16 => k0_hw16.2
def k0_off89 (i : grid0.Coords) (k0_t6 : Fin (k0_t6_loop i).trips) (k0_t9 : Fin k0_t9_loop.trips) (k0_t10 : Fin k0_t10_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t9
  let v469 : BitVec 32 := Scalar.addi v468 arg15
  let c1_i32_213 : BitVec 32 := 1#32
  let v532 : BitVec 32 := Scalar.andi v469 c1_i32_213
  let c1024_i32_214 : BitVec 32 := 1024#32
  let v533 : BitVec 32 := Scalar.muli v532 c1024_i32_214
  let c512_i32_296 : BitVec 32 := 512#32
  let v740 : BitVec 32 := Scalar.addi v533 c512_i32_296
  let c0_i32_216 : BitVec 32 := 0#32
  let c1_i32_218 : BitVec 32 := 1#32
  let arg16 : BitVec 32 := Scf.iv c0_i32_216 c1_i32_218 k0_t10
  let c16_i32 : BitVec 32 := 16#32
  let v547 : BitVec 32 := Scalar.muli arg16 c16_i32
  let v741 : BitVec 32 := Scalar.addi v740 v547
  let v742 : Index := Scalar.indexCast v741
  ![v742.toNat]
def k0_off90 (i : grid0.Coords) (k0_t6 : Fin (k0_t6_loop i).trips) (k0_t9 : Fin k0_t9_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t9
  let v469 : BitVec 32 := Scalar.addi v468 arg15
  let c1_i32_220 : BitVec 32 := 1#32
  let v535 : BitVec 32 := Scalar.andi v469 c1_i32_220
  let c1024_i32_221 : BitVec 32 := 1024#32
  let v536 : BitVec 32 := Scalar.muli v535 c1024_i32_221
  ![v536.toNat]
def k0_off91 (i : grid0.Coords) (k0_t6 : Fin (k0_t6_loop i).trips) (k0_t9 : Fin k0_t9_loop.trips) : Fin 1 → Nat :=
  let c14976000_i32 : BitVec 32 := 14976000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_42 : BitVec 32 := 0#32
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c32_i32 : BitVec 32 := 32#32
  let v262 : BitVec 32 := Scalar.muli arg14 c32_i32
  let v263 : BitVec 32 := Scalar.addi v1 v262
  let c46080_i32 : BitVec 32 := 46080#32
  let v537 : BitVec 32 := Scalar.muli v263 c46080_i32
  let v538 : BitVec 32 := Scalar.addi c14976000_i32 v537
  let c0_i32_175 : BitVec 32 := 0#32
  let c1_i32_177 : BitVec 32 := 1#32
  let arg15 : BitVec 32 := Scf.iv c0_i32_175 c1_i32_177 k0_t9
  let c1024_i32_222 : BitVec 32 := 1024#32
  let v539 : BitVec 32 := Scalar.muli arg15 c1024_i32_222
  let v540 : BitVec 32 := Scalar.addi v538 v539
  ![v540.toNat]
def k0_off92 (i : grid0.Coords) (k0_t6 : Fin (k0_t6_loop i).trips) (k0_t9 : Fin k0_t9_loop.trips) : Fin 1 → Nat :=
  let c2_i32_180 : BitVec 32 := 2#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let v466 : BitVec 32 := Scalar.muli c2_i32_180 arg14
  let c1_i32_181 : BitVec 32 := 1#32
  let v467 : BitVec 32 := Scalar.addi v466 c1_i32_181
  let c45_i32_182 : BitVec 32 := 45#32
  let v468 : BitVec 32 := Scalar.muli v467 c45_i32_182
  let c0_i32_175 : BitVec 32 := 0#32
  let c1_i32_177 : BitVec 32 := 1#32
  let arg15 : BitVec 32 := Scf.iv c0_i32_175 c1_i32_177 k0_t9
  let v469 : BitVec 32 := Scalar.addi v468 arg15
  let c1_i32_220 : BitVec 32 := 1#32
  let v535 : BitVec 32 := Scalar.andi v469 c1_i32_220
  ![v535.toNat]
def k0_cond8 (i : grid0.Coords) (k0_t6 : Fin (k0_t6_loop i).trips) : BitVec 1 :=
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c1_i32_119 : BitVec 32 := 1#32
  let v342 : BitVec 32 := Scalar.addi arg14 c1_i32_119
  let v343 : BitVec 1 := Scalar.cmpi .slt v342 v3
  let v464 : BitVec 32 := Scalar.extui v343
  let c0_i32_179 : BitVec 32 := 0#32
  let v465 : BitVec 1 := Scalar.cmpi .ne v464 c0_i32_179
  v465

def k0_off93 (i : grid0.Coords) (k0_t6 : Fin (k0_t6_loop i).trips) : Fin 1 → Nat :=
  let c0_i32_122 : BitVec 32 := 0#32
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c1_i32_119 : BitVec 32 := 1#32
  let v342 : BitVec 32 := Scalar.addi arg14 c1_i32_119
  let v343 : BitVec 1 := Scalar.cmpi .slt v342 v3
  let c32_i32 : BitVec 32 := 32#32
  let v262 : BitVec 32 := Scalar.muli arg14 c32_i32
  let v263 : BitVec 32 := Scalar.addi v1 v262
  let c32_i32_120 : BitVec 32 := 32#32
  let v344 : BitVec 32 := Scalar.addi v263 c32_i32_120
  let v345 : BitVec 32 := Scalar.select v343 v344 v1
  let c25_i32_121 : BitVec 32 := 25#32
  let v346 : BitVec 1 := Scalar.cmpi .sge v345 c25_i32_121
  let v347 : BitVec 32 := Scalar.extui v346
  let v348 : BitVec 32 := Scalar.addi c0_i32_122 v347
  let c49_i32_123 : BitVec 32 := 49#32
  let v349 : BitVec 1 := Scalar.cmpi .sge v345 c49_i32_123
  let v350 : BitVec 32 := Scalar.extui v349
  let v351 : BitVec 32 := Scalar.addi v348 v350
  let c72_i32_124 : BitVec 32 := 72#32
  let v352 : BitVec 1 := Scalar.cmpi .sge v345 c72_i32_124
  let v353 : BitVec 32 := Scalar.extui v352
  let v354 : BitVec 32 := Scalar.addi v351 v353
  let c94_i32_125 : BitVec 32 := 94#32
  let v355 : BitVec 1 := Scalar.cmpi .sge v345 c94_i32_125
  let v356 : BitVec 32 := Scalar.extui v355
  let v357 : BitVec 32 := Scalar.addi v354 v356
  let c115_i32_126 : BitVec 32 := 115#32
  let v358 : BitVec 1 := Scalar.cmpi .sge v345 c115_i32_126
  let v359 : BitVec 32 := Scalar.extui v358
  let v360 : BitVec 32 := Scalar.addi v357 v359
  let c135_i32_127 : BitVec 32 := 135#32
  let v361 : BitVec 1 := Scalar.cmpi .sge v345 c135_i32_127
  let v362 : BitVec 32 := Scalar.extui v361
  let v363 : BitVec 32 := Scalar.addi v360 v362
  let c154_i32_128 : BitVec 32 := 154#32
  let v364 : BitVec 1 := Scalar.cmpi .sge v345 c154_i32_128
  let v365 : BitVec 32 := Scalar.extui v364
  let v366 : BitVec 32 := Scalar.addi v363 v365
  let c172_i32_129 : BitVec 32 := 172#32
  let v367 : BitVec 1 := Scalar.cmpi .sge v345 c172_i32_129
  let v368 : BitVec 32 := Scalar.extui v367
  let v369 : BitVec 32 := Scalar.addi v366 v368
  let c189_i32_130 : BitVec 32 := 189#32
  let v370 : BitVec 1 := Scalar.cmpi .sge v345 c189_i32_130
  let v371 : BitVec 32 := Scalar.extui v370
  let v372 : BitVec 32 := Scalar.addi v369 v371
  let c205_i32_131 : BitVec 32 := 205#32
  let v373 : BitVec 1 := Scalar.cmpi .sge v345 c205_i32_131
  let v374 : BitVec 32 := Scalar.extui v373
  let v375 : BitVec 32 := Scalar.addi v372 v374
  let c220_i32_132 : BitVec 32 := 220#32
  let v376 : BitVec 1 := Scalar.cmpi .sge v345 c220_i32_132
  let v377 : BitVec 32 := Scalar.extui v376
  let v378 : BitVec 32 := Scalar.addi v375 v377
  let c234_i32_133 : BitVec 32 := 234#32
  let v379 : BitVec 1 := Scalar.cmpi .sge v345 c234_i32_133
  let v380 : BitVec 32 := Scalar.extui v379
  let v381 : BitVec 32 := Scalar.addi v378 v380
  let c247_i32_134 : BitVec 32 := 247#32
  let v382 : BitVec 1 := Scalar.cmpi .sge v345 c247_i32_134
  let v383 : BitVec 32 := Scalar.extui v382
  let v384 : BitVec 32 := Scalar.addi v381 v383
  let c259_i32_135 : BitVec 32 := 259#32
  let v385 : BitVec 1 := Scalar.cmpi .sge v345 c259_i32_135
  let v386 : BitVec 32 := Scalar.extui v385
  let v387 : BitVec 32 := Scalar.addi v384 v386
  let c270_i32_136 : BitVec 32 := 270#32
  let v388 : BitVec 1 := Scalar.cmpi .sge v345 c270_i32_136
  let v389 : BitVec 32 := Scalar.extui v388
  let v390 : BitVec 32 := Scalar.addi v387 v389
  let c280_i32_137 : BitVec 32 := 280#32
  let v391 : BitVec 1 := Scalar.cmpi .sge v345 c280_i32_137
  let v392 : BitVec 32 := Scalar.extui v391
  let v393 : BitVec 32 := Scalar.addi v390 v392
  let c289_i32_138 : BitVec 32 := 289#32
  let v394 : BitVec 1 := Scalar.cmpi .sge v345 c289_i32_138
  let v395 : BitVec 32 := Scalar.extui v394
  let v396 : BitVec 32 := Scalar.addi v393 v395
  let c297_i32_139 : BitVec 32 := 297#32
  let v397 : BitVec 1 := Scalar.cmpi .sge v345 c297_i32_139
  let v398 : BitVec 32 := Scalar.extui v397
  let v399 : BitVec 32 := Scalar.addi v396 v398
  let c304_i32_140 : BitVec 32 := 304#32
  let v400 : BitVec 1 := Scalar.cmpi .sge v345 c304_i32_140
  let v401 : BitVec 32 := Scalar.extui v400
  let v402 : BitVec 32 := Scalar.addi v399 v401
  let c310_i32_141 : BitVec 32 := 310#32
  let v403 : BitVec 1 := Scalar.cmpi .sge v345 c310_i32_141
  let v404 : BitVec 32 := Scalar.extui v403
  let v405 : BitVec 32 := Scalar.addi v402 v404
  let c315_i32_142 : BitVec 32 := 315#32
  let v406 : BitVec 1 := Scalar.cmpi .sge v345 c315_i32_142
  let v407 : BitVec 32 := Scalar.extui v406
  let v408 : BitVec 32 := Scalar.addi v405 v407
  let c319_i32_143 : BitVec 32 := 319#32
  let v409 : BitVec 1 := Scalar.cmpi .sge v345 c319_i32_143
  let v410 : BitVec 32 := Scalar.extui v409
  let v411 : BitVec 32 := Scalar.addi v408 v410
  let c322_i32_144 : BitVec 32 := 322#32
  let v412 : BitVec 1 := Scalar.cmpi .sge v345 c322_i32_144
  let v413 : BitVec 32 := Scalar.extui v412
  let v414 : BitVec 32 := Scalar.addi v411 v413
  let c324_i32_145 : BitVec 32 := 324#32
  let v415 : BitVec 1 := Scalar.cmpi .sge v345 c324_i32_145
  let v416 : BitVec 32 := Scalar.extui v415
  let v417 : BitVec 32 := Scalar.addi v414 v416
  let c12584_i32_180 : BitVec 32 := 12584#32
  let v466 : BitVec 32 := Scalar.muli v417 c12584_i32_180
  let c51_i32_146 : BitVec 32 := 51#32
  let v418 : BitVec 32 := Scalar.subi c51_i32_146 v417
  let v419 : BitVec 32 := Scalar.muli v417 v418
  let c1_i32_147 : BitVec 32 := 1#32
  let v420 : BitVec 32 := Scalar.shrui v419 c1_i32_147
  let v421 : BitVec 32 := Scalar.subi v345 v420
  let v422 : BitVec 32 := Scalar.addi v421 v417
  let c1_i32_148 : BitVec 32 := 1#32
  let v423 : BitVec 32 := Scalar.addi v422 c1_i32_148
  let c484_i32_181 : BitVec 32 := 484#32
  let v467 : BitVec 32 := Scalar.muli v423 c484_i32_181
  let v468 : BitVec 32 := Scalar.addi v466 v467
  let c288_i32_182 : BitVec 32 := 288#32
  let v469 : BitVec 32 := Scalar.addi v468 c288_i32_182
  let c128_i32_183 : BitVec 32 := 128#32
  let v470 : BitVec 32 := Scalar.muli v469 c128_i32_183
  ![v470.toNat]
def k0_off94 (i : grid0.Coords) (k0_t6 : Fin (k0_t6_loop i).trips) : Fin 1 → Nat :=
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let v166 : BitVec 32 := Scalar.subi v3 c0_i32_42
  let c1_i32_43 : BitVec 32 := 1#32
  let v168 : BitVec 32 := Scalar.divsi v166 c1_i32_43
  let v169 : BitVec 32 := Scalar.muli v168 c1_i32_43
  let v170 : BitVec 32 := Scalar.addi c0_i32_42 v169
  let c1_i32_45 : BitVec 32 := 1#32
  let arg14 : BitVec 32 := Scf.iv v170 c1_i32_45 k0_t6
  let c1_i32_119 : BitVec 32 := 1#32
  let v342 : BitVec 32 := Scalar.addi arg14 c1_i32_119
  let v343 : BitVec 1 := Scalar.cmpi .slt v342 v3
  let c32_i32 : BitVec 32 := 32#32
  let v262 : BitVec 32 := Scalar.muli arg14 c32_i32
  let v263 : BitVec 32 := Scalar.addi v1 v262
  let c32_i32_120 : BitVec 32 := 32#32
  let v344 : BitVec 32 := Scalar.addi v263 c32_i32_120
  let v345 : BitVec 32 := Scalar.select v343 v344 v1
  let c0_i32_122 : BitVec 32 := 0#32
  let c25_i32_121 : BitVec 32 := 25#32
  let v346 : BitVec 1 := Scalar.cmpi .sge v345 c25_i32_121
  let v347 : BitVec 32 := Scalar.extui v346
  let v348 : BitVec 32 := Scalar.addi c0_i32_122 v347
  let c49_i32_123 : BitVec 32 := 49#32
  let v349 : BitVec 1 := Scalar.cmpi .sge v345 c49_i32_123
  let v350 : BitVec 32 := Scalar.extui v349
  let v351 : BitVec 32 := Scalar.addi v348 v350
  let c72_i32_124 : BitVec 32 := 72#32
  let v352 : BitVec 1 := Scalar.cmpi .sge v345 c72_i32_124
  let v353 : BitVec 32 := Scalar.extui v352
  let v354 : BitVec 32 := Scalar.addi v351 v353
  let c94_i32_125 : BitVec 32 := 94#32
  let v355 : BitVec 1 := Scalar.cmpi .sge v345 c94_i32_125
  let v356 : BitVec 32 := Scalar.extui v355
  let v357 : BitVec 32 := Scalar.addi v354 v356
  let c115_i32_126 : BitVec 32 := 115#32
  let v358 : BitVec 1 := Scalar.cmpi .sge v345 c115_i32_126
  let v359 : BitVec 32 := Scalar.extui v358
  let v360 : BitVec 32 := Scalar.addi v357 v359
  let c135_i32_127 : BitVec 32 := 135#32
  let v361 : BitVec 1 := Scalar.cmpi .sge v345 c135_i32_127
  let v362 : BitVec 32 := Scalar.extui v361
  let v363 : BitVec 32 := Scalar.addi v360 v362
  let c154_i32_128 : BitVec 32 := 154#32
  let v364 : BitVec 1 := Scalar.cmpi .sge v345 c154_i32_128
  let v365 : BitVec 32 := Scalar.extui v364
  let v366 : BitVec 32 := Scalar.addi v363 v365
  let c172_i32_129 : BitVec 32 := 172#32
  let v367 : BitVec 1 := Scalar.cmpi .sge v345 c172_i32_129
  let v368 : BitVec 32 := Scalar.extui v367
  let v369 : BitVec 32 := Scalar.addi v366 v368
  let c189_i32_130 : BitVec 32 := 189#32
  let v370 : BitVec 1 := Scalar.cmpi .sge v345 c189_i32_130
  let v371 : BitVec 32 := Scalar.extui v370
  let v372 : BitVec 32 := Scalar.addi v369 v371
  let c205_i32_131 : BitVec 32 := 205#32
  let v373 : BitVec 1 := Scalar.cmpi .sge v345 c205_i32_131
  let v374 : BitVec 32 := Scalar.extui v373
  let v375 : BitVec 32 := Scalar.addi v372 v374
  let c220_i32_132 : BitVec 32 := 220#32
  let v376 : BitVec 1 := Scalar.cmpi .sge v345 c220_i32_132
  let v377 : BitVec 32 := Scalar.extui v376
  let v378 : BitVec 32 := Scalar.addi v375 v377
  let c234_i32_133 : BitVec 32 := 234#32
  let v379 : BitVec 1 := Scalar.cmpi .sge v345 c234_i32_133
  let v380 : BitVec 32 := Scalar.extui v379
  let v381 : BitVec 32 := Scalar.addi v378 v380
  let c247_i32_134 : BitVec 32 := 247#32
  let v382 : BitVec 1 := Scalar.cmpi .sge v345 c247_i32_134
  let v383 : BitVec 32 := Scalar.extui v382
  let v384 : BitVec 32 := Scalar.addi v381 v383
  let c259_i32_135 : BitVec 32 := 259#32
  let v385 : BitVec 1 := Scalar.cmpi .sge v345 c259_i32_135
  let v386 : BitVec 32 := Scalar.extui v385
  let v387 : BitVec 32 := Scalar.addi v384 v386
  let c270_i32_136 : BitVec 32 := 270#32
  let v388 : BitVec 1 := Scalar.cmpi .sge v345 c270_i32_136
  let v389 : BitVec 32 := Scalar.extui v388
  let v390 : BitVec 32 := Scalar.addi v387 v389
  let c280_i32_137 : BitVec 32 := 280#32
  let v391 : BitVec 1 := Scalar.cmpi .sge v345 c280_i32_137
  let v392 : BitVec 32 := Scalar.extui v391
  let v393 : BitVec 32 := Scalar.addi v390 v392
  let c289_i32_138 : BitVec 32 := 289#32
  let v394 : BitVec 1 := Scalar.cmpi .sge v345 c289_i32_138
  let v395 : BitVec 32 := Scalar.extui v394
  let v396 : BitVec 32 := Scalar.addi v393 v395
  let c297_i32_139 : BitVec 32 := 297#32
  let v397 : BitVec 1 := Scalar.cmpi .sge v345 c297_i32_139
  let v398 : BitVec 32 := Scalar.extui v397
  let v399 : BitVec 32 := Scalar.addi v396 v398
  let c304_i32_140 : BitVec 32 := 304#32
  let v400 : BitVec 1 := Scalar.cmpi .sge v345 c304_i32_140
  let v401 : BitVec 32 := Scalar.extui v400
  let v402 : BitVec 32 := Scalar.addi v399 v401
  let c310_i32_141 : BitVec 32 := 310#32
  let v403 : BitVec 1 := Scalar.cmpi .sge v345 c310_i32_141
  let v404 : BitVec 32 := Scalar.extui v403
  let v405 : BitVec 32 := Scalar.addi v402 v404
  let c315_i32_142 : BitVec 32 := 315#32
  let v406 : BitVec 1 := Scalar.cmpi .sge v345 c315_i32_142
  let v407 : BitVec 32 := Scalar.extui v406
  let v408 : BitVec 32 := Scalar.addi v405 v407
  let c319_i32_143 : BitVec 32 := 319#32
  let v409 : BitVec 1 := Scalar.cmpi .sge v345 c319_i32_143
  let v410 : BitVec 32 := Scalar.extui v409
  let v411 : BitVec 32 := Scalar.addi v408 v410
  let c322_i32_144 : BitVec 32 := 322#32
  let v412 : BitVec 1 := Scalar.cmpi .sge v345 c322_i32_144
  let v413 : BitVec 32 := Scalar.extui v412
  let v414 : BitVec 32 := Scalar.addi v411 v413
  let c324_i32_145 : BitVec 32 := 324#32
  let v415 : BitVec 1 := Scalar.cmpi .sge v345 c324_i32_145
  let v416 : BitVec 32 := Scalar.extui v415
  let v417 : BitVec 32 := Scalar.addi v414 v416
  let c51_i32_146 : BitVec 32 := 51#32
  let v418 : BitVec 32 := Scalar.subi c51_i32_146 v417
  let v419 : BitVec 32 := Scalar.muli v417 v418
  let c1_i32_147 : BitVec 32 := 1#32
  let v420 : BitVec 32 := Scalar.shrui v419 c1_i32_147
  let v421 : BitVec 32 := Scalar.subi v345 v420
  let v422 : BitVec 32 := Scalar.addi v421 v417
  let c1_i32_148 : BitVec 32 := 1#32
  let v423 : BitVec 32 := Scalar.addi v422 c1_i32_148
  let c12584_i32_185 : BitVec 32 := 12584#32
  let v475 : BitVec 32 := Scalar.muli v423 c12584_i32_185
  let c484_i32_186 : BitVec 32 := 484#32
  let v476 : BitVec 32 := Scalar.muli v417 c484_i32_186
  let v477 : BitVec 32 := Scalar.addi v475 v476
  let c288_i32_187 : BitVec 32 := 288#32
  let v478 : BitVec 32 := Scalar.addi v477 c288_i32_187
  let c128_i32_188 : BitVec 32 := 128#32
  let v479 : BitVec 32 := Scalar.muli v478 c128_i32_188
  ![v479.toNat]
def k0_off95 (i : grid0.Coords) (c0_i32_46 : BitVec 32) (c0_i32_50 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let c90_i32 : BitVec 32 := 90#32
  let v171 : BitVec 32 := Scalar.muli v3 c90_i32
  let v172 : BitVec 32 := Scalar.addi v171 c0_i32_46
  let c3_i32 : BitVec 32 := 3#32
  let v173 : BitVec 32 := Scalar.andi v172 c3_i32
  let c2_i32_49 : BitVec 32 := 2#32
  let v176 : BitVec 32 := Scalar.muli v173 c2_i32_49
  let v177 : BitVec 32 := Scalar.addi v176 c0_i32_50
  let c512_i32_51 : BitVec 32 := 512#32
  let v178 : BitVec 32 := Scalar.muli v177 c512_i32_51
  ![v178.toNat]
def k0_off96 (i : grid0.Coords) (c0_i32_46 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let c90_i32 : BitVec 32 := 90#32
  let v171 : BitVec 32 := Scalar.muli v3 c90_i32
  let v172 : BitVec 32 := Scalar.addi v171 c0_i32_46
  let c3_i32 : BitVec 32 := 3#32
  let v173 : BitVec 32 := Scalar.andi v172 c3_i32
  ![v173.toNat]
def k0_off97 (i : grid0.Coords) (c0_i32_81 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let c90_i32 : BitVec 32 := 90#32
  let v171 : BitVec 32 := Scalar.muli v3 c90_i32
  let v244 : BitVec 32 := Scalar.addi v171 c0_i32_81
  let c1_i32_82 : BitVec 32 := 1#32
  let v245 : BitVec 32 := Scalar.andi v244 c1_i32_82
  let c1024_i32_83 : BitVec 32 := 1024#32
  let v246 : BitVec 32 := Scalar.muli v245 c1024_i32_83
  ![v246.toNat]
def k0_off98 (i : grid0.Coords) (c0_i32_81 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v2 : BitVec 1 := Scalar.cmpi .slt v1 c5_i32
  let c11_i32 : BitVec 32 := 11#32
  let c10_i32 : BitVec 32 := 10#32
  let v3 : BitVec 32 := Scalar.select v2 c11_i32 c10_i32
  let c90_i32 : BitVec 32 := 90#32
  let v171 : BitVec 32 := Scalar.muli v3 c90_i32
  let v244 : BitVec 32 := Scalar.addi v171 c0_i32_81
  let c1_i32_82 : BitVec 32 := 1#32
  let v245 : BitVec 32 := Scalar.andi v244 c1_i32_82
  ![v245.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S41879552 : Shape := ⟨1, ![41879552]⟩
abbrev S612352 : Shape := ⟨1, ![612352]⟩
abbrev S325 : Shape := ⟨1, ![325]⟩
abbrev S26x23552 : Shape := ⟨2, ![26, 23552]⟩
abbrev S26x23040 : Shape := ⟨2, ![26, 23040]⟩
abbrev S26x45x1x512 : Shape := ⟨4, ![26, 45, 1, 512]⟩
abbrev S_ : Shape := ⟨0, ![]⟩
abbrev S26x45x2x512 : Shape := ⟨4, ![26, 45, 2, 512]⟩
abbrev S26x46080 : Shape := ⟨2, ![26, 46080]⟩
abbrev S5 : Shape := ⟨1, ![5]⟩
abbrev S5x1x1 : Shape := ⟨3, ![5, 1, 1]⟩
abbrev S1x325x1 : Shape := ⟨3, ![1, 325, 1]⟩
abbrev S5x325x1 : Shape := ⟨3, ![5, 325, 1]⟩
abbrev S325x1 : Shape := ⟨2, ![325, 1]⟩
abbrev S325x46080 : Shape := ⟨2, ![325, 46080]⟩
abbrev S1x325x46080 : Shape := ⟨3, ![1, 325, 46080]⟩
abbrev S5x325x46080 : Shape := ⟨3, ![5, 325, 46080]⟩
abbrev S5x325x46080x1 : Shape := ⟨4, ![5, 325, 46080, 1]⟩
abbrev S650x46080 : Shape := ⟨2, ![650, 46080]⟩
abbrev S29952000 : Shape := ⟨1, ![29952000]⟩

abbrev nBuf : Space → Nat
  | .hbm => 160
  | .vmem => 0
  | .smem => 0
  | _ => 0

abbrev hbmTy0_0 (i : Nat) : BufTy := match i % 128 with
  | 0 => ⟨S41879552, .i32⟩
  | 1 => ⟨S612352, .i32⟩
  | 2 => ⟨S325, .i32⟩
  | 3 => ⟨S325, .i32⟩
  | 4 => ⟨S26x23552, .i32⟩
  | 5 => ⟨S26x23040, .i32⟩
  | 6 => ⟨S26x45x1x512, .i32⟩
  | 7 => ⟨S_, .i32⟩
  | 8 => ⟨S26x45x1x512, .i32⟩
  | 9 => ⟨S26x45x1x512, .i32⟩
  | 10 => ⟨S_, .i32⟩
  | 11 => ⟨S26x45x1x512, .i32⟩
  | 12 => ⟨S26x45x1x512, .i32⟩
  | 13 => ⟨S26x45x2x512, .i32⟩
  | 14 => ⟨S26x46080, .i32⟩
  | 15 => ⟨S5, .i32⟩
  | 16 => ⟨S_, .i32⟩
  | 17 => ⟨S5, .i32⟩
  | 18 => ⟨S5, .i32⟩
  | 19 => ⟨S_, .i32⟩
  | 20 => ⟨S325, .i32⟩
  | 21 => ⟨S325, .i32⟩
  | 22 => ⟨S325, .i32⟩
  | 23 => ⟨S_, .i32⟩
  | 24 => ⟨S325, .i32⟩
  | 25 => ⟨S325, .i32⟩
  | 26 => ⟨S5x1x1, .i32⟩
  | 27 => ⟨S1x325x1, .i32⟩
  | 28 => ⟨S5x325x1, .i32⟩
  | 29 => ⟨S5x325x1, .i32⟩
  | 30 => ⟨S5x325x1, .i32⟩
  | 31 => ⟨S_, .i32⟩
  | 32 => ⟨S325, .i32⟩
  | 33 => ⟨S325, .i1⟩
  | 34 => ⟨S_, .i32⟩
  | 35 => ⟨S325, .i32⟩
  | 36 => ⟨S325, .i32⟩
  | 37 => ⟨S325, .i32⟩
  | 38 => ⟨S325x1, .i32⟩
  | 39 => ⟨S325x46080, .i32⟩
  | 40 => ⟨S1x325x46080, .i32⟩
  | 41 => ⟨S5x325x46080, .i32⟩
  | 42 => ⟨S5x325x46080, .i32⟩
  | 43 => ⟨S5x325x46080, .i32⟩
  | 44 => ⟨S_, .i32⟩
  | 45 => ⟨S5x325x46080, .i32⟩
  | 46 => ⟨S5x325x46080, .i1⟩
  | 47 => ⟨S_, .i32⟩
  | 48 => ⟨S5x325x46080, .i32⟩
  | 49 => ⟨S5x325x46080, .i32⟩
  | 50 => ⟨S5x325x46080, .i32⟩
  | 51 => ⟨S5x325x46080x1, .i32⟩
  | 52 => ⟨S5x325x46080, .i32⟩
  | 53 => ⟨S_, .i32⟩
  | 54 => ⟨S325, .i32⟩
  | 55 => ⟨S325, .i32⟩
  | 56 => ⟨S325, .i32⟩
  | 57 => ⟨S_, .i32⟩
  | 58 => ⟨S325, .i32⟩
  | 59 => ⟨S325, .i32⟩
  | 60 => ⟨S5x1x1, .i32⟩
  | 61 => ⟨S1x325x1, .i32⟩
  | 62 => ⟨S5x325x1, .i32⟩
  | 63 => ⟨S5x325x1, .i32⟩
  | 64 => ⟨S5x325x1, .i32⟩
  | 65 => ⟨S_, .i32⟩
  | 66 => ⟨S325, .i32⟩
  | 67 => ⟨S325, .i1⟩
  | 68 => ⟨S_, .i32⟩
  | 69 => ⟨S325, .i32⟩
  | 70 => ⟨S325, .i32⟩
  | 71 => ⟨S325, .i32⟩
  | 72 => ⟨S325x1, .i32⟩
  | 73 => ⟨S325x46080, .i32⟩
  | 74 => ⟨S1x325x46080, .i32⟩
  | 75 => ⟨S5x325x46080, .i32⟩
  | 76 => ⟨S5x325x46080, .i32⟩
  | 77 => ⟨S5x325x46080, .i32⟩
  | 78 => ⟨S_, .i32⟩
  | 79 => ⟨S5x325x46080, .i32⟩
  | 80 => ⟨S5x325x46080, .i1⟩
  | 81 => ⟨S_, .i32⟩
  | 82 => ⟨S5x325x46080, .i32⟩
  | 83 => ⟨S5x325x46080, .i32⟩
  | 84 => ⟨S5x325x46080, .i32⟩
  | 85 => ⟨S5x325x46080x1, .i32⟩
  | 86 => ⟨S5x325x46080, .i32⟩
  | 87 => ⟨S_, .i32⟩
  | 88 => ⟨S5x325x46080, .i32⟩
  | 89 => ⟨S5x325x46080, .i32⟩
  | 90 => ⟨S_, .i32⟩
  | 91 => ⟨S5x325x46080, .i32⟩
  | 92 => ⟨S5x325x46080, .i32⟩
  | 93 => ⟨S_, .i32⟩
  | 94 => ⟨S5x325x46080, .i32⟩
  | 95 => ⟨S5x325x46080, .i32⟩
  | 96 => ⟨S_, .i32⟩
  | 97 => ⟨S5x325x46080, .i32⟩
  | 98 => ⟨S5x325x46080, .i32⟩
  | 99 => ⟨S5x325x46080, .i32⟩
  | 100 => ⟨S_, .i32⟩
  | 101 => ⟨S5x325x46080, .i32⟩
  | 102 => ⟨S5x325x46080, .i32⟩
  | 103 => ⟨S_, .i32⟩
  | 104 => ⟨S5x325x46080, .i32⟩
  | 105 => ⟨S5x325x46080, .i32⟩
  | 106 => ⟨S_, .i32⟩
  | 107 => ⟨S5x325x46080, .i32⟩
  | 108 => ⟨S5x325x46080, .i32⟩
  | 109 => ⟨S_, .i32⟩
  | 110 => ⟨S5x325x46080, .i32⟩
  | 111 => ⟨S5x325x46080, .i32⟩
  | 112 => ⟨S_, .i32⟩
  | 113 => ⟨S5x325x46080, .i32⟩
  | 114 => ⟨S5x325x46080, .i32⟩
  | 115 => ⟨S5x325x46080, .i32⟩
  | 116 => ⟨S5x325x46080, .i32⟩
  | 117 => ⟨S_, .i32⟩
  | 118 => ⟨S5x325x46080, .i32⟩
  | 119 => ⟨S5x325x46080, .i32⟩
  | 120 => ⟨S_, .i32⟩
  | 121 => ⟨S5x325x46080, .i32⟩
  | 122 => ⟨S5x325x46080, .i32⟩
  | 123 => ⟨S_, .i32⟩
  | 124 => ⟨S5x325x46080, .i32⟩
  | 125 => ⟨S5x325x46080, .i32⟩
  | 126 => ⟨S_, .i32⟩
  | 127 => ⟨S5x325x46080, .i32⟩
  | _ => ⟨S41879552, .i32⟩

abbrev hbmTy0_1 (i : Nat) : BufTy := match i % 128 with
  | 0 => ⟨S5x325x46080, .i32⟩
  | 1 => ⟨S5x325x46080, .i32⟩
  | 2 => ⟨S5x325x46080, .i32⟩
  | 3 => ⟨S_, .i32⟩
  | 4 => ⟨S5x325x46080, .i32⟩
  | 5 => ⟨S5x325x46080, .i32⟩
  | 6 => ⟨S_, .i32⟩
  | 7 => ⟨S5x325x46080, .i32⟩
  | 8 => ⟨S5x325x46080, .i32⟩
  | 9 => ⟨S_, .i32⟩
  | 10 => ⟨S5x325x46080, .i32⟩
  | 11 => ⟨S5x325x46080, .i32⟩
  | 12 => ⟨S_, .i32⟩
  | 13 => ⟨S5x325x46080, .i32⟩
  | 14 => ⟨S5x325x46080, .i32⟩
  | 15 => ⟨S5x325x46080, .i32⟩
  | 16 => ⟨S5x325x46080, .i32⟩
  | 17 => ⟨S1x325x46080, .i32⟩
  | 18 => ⟨S325x46080, .i32⟩
  | 19 => ⟨S1x325x46080, .i32⟩
  | 20 => ⟨S325x46080, .i32⟩
  | 21 => ⟨S325x46080, .i32⟩
  | 22 => ⟨S1x325x46080, .i32⟩
  | 23 => ⟨S325x46080, .i32⟩
  | 24 => ⟨S325x46080, .i32⟩
  | 25 => ⟨S1x325x46080, .i32⟩
  | 26 => ⟨S325x46080, .i32⟩
  | 27 => ⟨S1x325x46080, .i32⟩
  | 28 => ⟨S325x46080, .i32⟩
  | 29 => ⟨S325x46080, .i32⟩
  | 30 => ⟨S650x46080, .i32⟩
  | 31 => ⟨S29952000, .i32⟩
  | _ => ⟨S41879552, .i32⟩

abbrev hbmTy (i : Nat) : BufTy := match i / 128 with
  | 0 => hbmTy0_0 i
  | 1 => hbmTy0_1 i
  | _ => ⟨S41879552, .i32⟩

abbrev bufTy : (tb : Table) → Fin (tcTables nBuf tb) → BufTy
  | .hbm, ⟨i, _⟩ => hbmTy i
  | _, _ => ⟨S41879552, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_c_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_c_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_5 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_6 : Ref sig .tc := ⟨.hbm, 31, rfl⟩
abbrev main_v22 : Ref sig .tc := ⟨.hbm, 32, rfl⟩
abbrev main_v23 : Ref sig .tc := ⟨.hbm, 33, rfl⟩
abbrev main_c_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_8 : Ref sig .tc := ⟨.hbm, 44, rfl⟩
abbrev main_v33 : Ref sig .tc := ⟨.hbm, 45, rfl⟩
abbrev main_v34 : Ref sig .tc := ⟨.hbm, 46, rfl⟩
abbrev main_c_9 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_10 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_11 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_12 : Ref sig .tc := ⟨.hbm, 65, rfl⟩
abbrev main_v50 : Ref sig .tc := ⟨.hbm, 66, rfl⟩
abbrev main_v51 : Ref sig .tc := ⟨.hbm, 67, rfl⟩
abbrev main_c_13 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c_14 : Ref sig .tc := ⟨.hbm, 78, rfl⟩
abbrev main_v61 : Ref sig .tc := ⟨.hbm, 79, rfl⟩
abbrev main_v62 : Ref sig .tc := ⟨.hbm, 80, rfl⟩
abbrev main_c_15 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c_16 : Ref sig .tc := ⟨.hbm, 87, rfl⟩
abbrev main_v68 : Ref sig .tc := ⟨.hbm, 88, rfl⟩
abbrev main_v69 : Ref sig .tc := ⟨.hbm, 89, rfl⟩
abbrev main_c_17 : Ref sig .tc := ⟨.hbm, 90, rfl⟩
abbrev main_v70 : Ref sig .tc := ⟨.hbm, 91, rfl⟩
abbrev main_v71 : Ref sig .tc := ⟨.hbm, 92, rfl⟩
abbrev main_c_18 : Ref sig .tc := ⟨.hbm, 93, rfl⟩
abbrev main_v72 : Ref sig .tc := ⟨.hbm, 94, rfl⟩
abbrev main_v73 : Ref sig .tc := ⟨.hbm, 95, rfl⟩
abbrev main_c_19 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_c_20 : Ref sig .tc := ⟨.hbm, 100, rfl⟩
abbrev main_v77 : Ref sig .tc := ⟨.hbm, 101, rfl⟩
abbrev main_v78 : Ref sig .tc := ⟨.hbm, 102, rfl⟩
abbrev main_c_21 : Ref sig .tc := ⟨.hbm, 103, rfl⟩
abbrev main_v79 : Ref sig .tc := ⟨.hbm, 104, rfl⟩
abbrev main_v80 : Ref sig .tc := ⟨.hbm, 105, rfl⟩
abbrev main_c_22 : Ref sig .tc := ⟨.hbm, 106, rfl⟩
abbrev main_v81 : Ref sig .tc := ⟨.hbm, 107, rfl⟩
abbrev main_v82 : Ref sig .tc := ⟨.hbm, 108, rfl⟩
abbrev main_c_23 : Ref sig .tc := ⟨.hbm, 109, rfl⟩
abbrev main_v83 : Ref sig .tc := ⟨.hbm, 110, rfl⟩
abbrev main_v84 : Ref sig .tc := ⟨.hbm, 111, rfl⟩
abbrev main_c_24 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_25 : Ref sig .tc := ⟨.hbm, 117, rfl⟩
abbrev main_v89 : Ref sig .tc := ⟨.hbm, 118, rfl⟩
abbrev main_v90 : Ref sig .tc := ⟨.hbm, 119, rfl⟩
abbrev main_c_26 : Ref sig .tc := ⟨.hbm, 120, rfl⟩
abbrev main_v91 : Ref sig .tc := ⟨.hbm, 121, rfl⟩
abbrev main_v92 : Ref sig .tc := ⟨.hbm, 122, rfl⟩
abbrev main_c_27 : Ref sig .tc := ⟨.hbm, 123, rfl⟩
abbrev main_v93 : Ref sig .tc := ⟨.hbm, 124, rfl⟩
abbrev main_v94 : Ref sig .tc := ⟨.hbm, 125, rfl⟩
abbrev main_c_28 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_c_29 : Ref sig .tc := ⟨.hbm, 131, rfl⟩
abbrev main_v99 : Ref sig .tc := ⟨.hbm, 132, rfl⟩
abbrev main_v100 : Ref sig .tc := ⟨.hbm, 133, rfl⟩
abbrev main_c_30 : Ref sig .tc := ⟨.hbm, 134, rfl⟩
abbrev main_v101 : Ref sig .tc := ⟨.hbm, 135, rfl⟩
abbrev main_v102 : Ref sig .tc := ⟨.hbm, 136, rfl⟩
abbrev main_c_31 : Ref sig .tc := ⟨.hbm, 137, rfl⟩
abbrev main_v103 : Ref sig .tc := ⟨.hbm, 138, rfl⟩
abbrev main_v104 : Ref sig .tc := ⟨.hbm, 139, rfl⟩
abbrev main_c_32 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩

abbrev nD : Nat := 1
abbrev τ : Topo := Topo.v7x

variable {F : FTy → Type} [FloatOps F]
-- ==== Finish.lean ====
abbrev S1 : Shape := ⟨1, ![1]⟩
abbrev S2x325x360x128 : Shape := ⟨4, ![2, 325, 360, 128]⟩
abbrev S26x360x128 : Shape := ⟨3, ![26, 360, 128]⟩
abbrev S360x128 : Shape := ⟨2, ![360, 128]⟩
abbrev S46080x325 : Shape := ⟨2, ![46080, 325]⟩
abbrev S2x325x8x128 : Shape := ⟨4, ![2, 325, 8, 128]⟩
abbrev S26x8x128 : Shape := ⟨3, ![26, 8, 128]⟩
abbrev S8x128 : Shape := ⟨2, ![8, 128]⟩
abbrev S1024x325 : Shape := ⟨2, ![1024, 325]⟩
abbrev S2600x128 : Shape := ⟨2, ![2600, 128]⟩
abbrev S1x8x128 : Shape := ⟨3, ![1, 8, 128]⟩
abbrev S1x1x8x128 : Shape := ⟨4, ![1, 1, 8, 128]⟩
abbrev S128x128 : Shape := ⟨2, ![128, 128]⟩
abbrev S69x128 : Shape := ⟨2, ![69, 128]⟩
abbrev S128x69 : Shape := ⟨2, ![128, 69]⟩

abbrev nBuf : Space → Nat
  | .hbm => 7
  | .vmem => 14
  | .smem => 1
  | _ => 0

abbrev bufTy : (tb : Table) → Fin (tcTables nBuf tb) → BufTy
  | .hbm, ⟨0, _⟩ => ⟨S1, .f32⟩
  | .hbm, ⟨1, _⟩ => ⟨S2x325x360x128, .i32⟩
  | .hbm, ⟨2, _⟩ => ⟨S26x360x128, .f32⟩
  | .hbm, ⟨3, _⟩ => ⟨S26x360x128, .f32⟩
  | .hbm, ⟨4, _⟩ => ⟨S26x360x128, .f32⟩
  | .hbm, ⟨5, _⟩ => ⟨S360x128, .f32⟩
  | .hbm, ⟨6, _⟩ => ⟨S46080x325, .f32⟩
  | .local _ .vmem, ⟨0, _⟩ => ⟨S2x325x8x128, .i32⟩
  | .local _ .vmem, ⟨1, _⟩ => ⟨S2x325x8x128, .i32⟩
  | .local _ .vmem, ⟨2, _⟩ => ⟨S26x8x128, .f32⟩
  | .local _ .vmem, ⟨3, _⟩ => ⟨S26x8x128, .f32⟩
  | .local _ .vmem, ⟨4, _⟩ => ⟨S26x8x128, .f32⟩
  | .local _ .vmem, ⟨5, _⟩ => ⟨S26x8x128, .f32⟩
  | .local _ .vmem, ⟨6, _⟩ => ⟨S26x8x128, .f32⟩
  | .local _ .vmem, ⟨7, _⟩ => ⟨S26x8x128, .f32⟩
  | .local _ .vmem, ⟨8, _⟩ => ⟨S8x128, .f32⟩
  | .local _ .vmem, ⟨9, _⟩ => ⟨S8x128, .f32⟩
  | .local _ .vmem, ⟨10, _⟩ => ⟨S1024x325, .f32⟩
  | .local _ .vmem, ⟨11, _⟩ => ⟨S1024x325, .f32⟩
  | .local _ .vmem, ⟨12, _⟩ => ⟨S26x8x128, .f32⟩
  | .local _ .vmem, ⟨13, _⟩ => ⟨S2600x128, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![45], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x325x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S26x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S26x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S26x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x325 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ScoresIdeal.lean ====
abbrev S1 : Shape := ⟨1, ![1]⟩
abbrev S2x325x360x128 : Shape := ⟨4, ![2, 325, 360, 128]⟩
abbrev S26x360x128 : Shape := ⟨3, ![26, 360, 128]⟩
abbrev S325 : Shape := ⟨1, ![325]⟩
abbrev S1x325x360x128 : Shape := ⟨4, ![1, 325, 360, 128]⟩
abbrev S325x360x128 : Shape := ⟨3, ![325, 360, 128]⟩
abbrev S_ : Shape := ⟨0, ![]⟩
abbrev S325x1 : Shape := ⟨2, ![325, 1]⟩
abbrev S360x128 : Shape := ⟨2, ![360, 128]⟩
abbrev S325x46080 : Shape := ⟨2, ![325, 46080]⟩
abbrev S46080x325 : Shape := ⟨2, ![46080, 325]⟩

abbrev nBuf : Space → Nat
  | .hbm => 45
  | .vmem => 0
  | .smem => 0
  | _ => 0

abbrev bufTy : (tb : Table) → Fin (tcTables nBuf tb) → BufTy
  | .hbm, ⟨0, _⟩ => ⟨S1, .f32⟩
  | .hbm, ⟨1, _⟩ => ⟨S2x325x360x128, .i32⟩
  | .hbm, ⟨2, _⟩ => ⟨S26x360x128, .f32⟩
  | .hbm, ⟨3, _⟩ => ⟨S26x360x128, .f32⟩
  | .hbm, ⟨4, _⟩ => ⟨S26x360x128, .f32⟩
  | .hbm, ⟨5, _⟩ => ⟨S325, .i32⟩
  | .hbm, ⟨6, _⟩ => ⟨S325, .i32⟩
  | .hbm, ⟨7, _⟩ => ⟨S26x360x128, .f32⟩
  | .hbm, ⟨8, _⟩ => ⟨S1x325x360x128, .i32⟩
  | .hbm, ⟨9, _⟩ => ⟨S325x360x128, .i32⟩
  | .hbm, ⟨10, _⟩ => ⟨S1x325x360x128, .i32⟩
  | .hbm, ⟨11, _⟩ => ⟨S325x360x128, .i32⟩
  | .hbm, ⟨12, _⟩ => ⟨S325x360x128, .i32⟩
  | .hbm, ⟨13, _⟩ => ⟨S325x360x128, .f32⟩
  | .hbm, ⟨14, _⟩ => ⟨S_, .i32⟩
  | .hbm, ⟨15, _⟩ => ⟨S325, .i32⟩
  | .hbm, ⟨16, _⟩ => ⟨S325, .i1⟩
  | .hbm, ⟨17, _⟩ => ⟨S_, .i32⟩
  | .hbm, ⟨18, _⟩ => ⟨S325, .i32⟩
  | .hbm, ⟨19, _⟩ => ⟨S325, .i32⟩
  | .hbm, ⟨20, _⟩ => ⟨S325, .i32⟩
  | .hbm, ⟨21, _⟩ => ⟨S325x1, .i32⟩
  | .hbm, ⟨22, _⟩ => ⟨S325x360x128, .f32⟩
  | .hbm, ⟨23, _⟩ => ⟨S325x360x128, .f32⟩
  | .hbm, ⟨24, _⟩ => ⟨S_, .i32⟩
  | .hbm, ⟨25, _⟩ => ⟨S325, .i32⟩
  | .hbm, ⟨26, _⟩ => ⟨S325, .i1⟩
  | .hbm, ⟨27, _⟩ => ⟨S_, .i32⟩
  | .hbm, ⟨28, _⟩ => ⟨S325, .i32⟩
  | .hbm, ⟨29, _⟩ => ⟨S325, .i32⟩
  | .hbm, ⟨30, _⟩ => ⟨S325, .i32⟩
  | .hbm, ⟨31, _⟩ => ⟨S325x1, .i32⟩
  | .hbm, ⟨32, _⟩ => ⟨S325x360x128, .f32⟩
  | .hbm, ⟨33, _⟩ => ⟨S325x360x128, .f32⟩
  | .hbm, ⟨34, _⟩ => ⟨S_, .f32⟩
  | .hbm, ⟨35, _⟩ => ⟨S26x360x128, .f32⟩
  | .hbm, ⟨36, _⟩ => ⟨S_, .f32⟩
  | .hbm, ⟨37, _⟩ => ⟨S360x128, .f32⟩
  | .hbm, ⟨38, _⟩ => ⟨S360x128, .f32⟩
  | .hbm, ⟨39, _⟩ => ⟨S360x128, .f32⟩
  | .hbm, ⟨40, _⟩ => ⟨S_, .f32⟩
  | .hbm, ⟨41, _⟩ => ⟨S360x128, .f32⟩
  | .hbm, ⟨42, _⟩ => ⟨S360x128, .f32⟩
  | .hbm, ⟨43, _⟩ => ⟨S325x46080, .f32⟩
  | .hbm, ⟨44, _⟩ => ⟨S46080x325, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Proof.Sched.lean ====
/-
  The kernel's schedule: which fields, tables, positions and results a tile works on, by its number, round and chunk.
-/
module

public import proofs.«01_k».proof.Kernel

@[expose] public section

namespace Cert.Proof.Pairs

open Cert.Kernel Idealize.ShloMosaic

/-- The number of the tile with coordinates `i`. -/
def wid (i : grid0.Coords) : ℕ := 2 * (i 1).val + (i 0).val
/-- How many pairs of fields tile `w` has. -/
def nv (w : ℕ) : ℕ := if w < 5 then 11 else 10
/-- Where the pairs whose first field is `f` begin. -/
def fstart (f : ℕ) : ℕ := f * (51 - f) / 2
/-- The first field of pair `p`. -/
def fF (p : ℕ) : ℕ := ((List.range 25).filter fun f => fstart (f + 1) ≤ p).length
/-- The second field of pair `p`. -/
def gG (p : ℕ) : ℕ := p - fstart (fF p) + fF p + 1
/-- The field whose positions half `h` of an index slot holds, for pair `p`. -/
def fld (h p : ℕ) : ℕ := if h = 0 then fF p else gG p
/-- The pair whose positions tile `w` fetches for its chunk `k`. -/
def ip (w k : ℕ) : ℕ := if k / 90 < nv w then w + 32 * (k / 90) else w
/-- Where half `h` of the positions of chunk `k` begins. -/
def ioff (w h k : ℕ) : ℕ := fld h (ip w k) * 23552 + k % 45 * 512
/-- Where table `h` of phase `ph` of pair `p` begins. -/
def toff (h ph p : ℕ) : ℕ := (26 * fld h p + fld (1 - h) p) * 61952 + ph * 36864
/-- Where the results of chunk `k` of tile `w` begin. -/
def ooff (w k : ℕ) : ℕ := k / 45 % 2 * 14976000 + (w + 32 * (k / 90)) * 46080 + k % 45 * 1024

end Cert.Proof.Pairs
end
-- ==== Proof.Spec.lean ====
/-
  What the kernel computes, as plain functions of the two argument buffers, and the regions of its buffers.
-/
module

public import proofs.«01_k».proof.Kernel
public import proofs.«01_k».proof.Proof.Sched
public import Idealize.ShloMosaic.Lib.Pipeline.ValueKit.Geometry

@[expose] public section

noncomputable section

namespace Cert.Proof.Pairs

open Cert.Kernel Idealize.ShloMosaic

/-- The contents of a rank-one buffer of 32-bit words. -/
abbrev Wds (N : ℕ) : Type := (⟨1, ![N]⟩ : Shape).Idx → BitVec 32

/-- The index `k` of a rank-one shape. -/
def mk1 (N k : ℕ) (h : k < N) : (⟨1, ![N]⟩ : Shape).Idx := fun a => ⟨k, by have : a = 0 := Subsingleton.elim _ _; subst this; exact h⟩
/-- Word `k` of a buffer, 0 outside it. -/
def rd {N : ℕ} (f : Wds N) (k : ℕ) : BitVec 32 := if h : k < N then f (mk1 N k h) else 0
/-- The coordinate of an index of a rank-one shape. -/
abbrev co {N : ℕ} (j : (⟨1, ![N]⟩ : Shape).Idx) : ℕ := (j 0).val

theorem co_lt {N : ℕ} (j : (⟨1, ![N]⟩ : Shape).Idx) : co j < N := (j 0).isLt
@[simp] theorem co_mk1 (N k : ℕ) (h : k < N) : co (mk1 N k h) = k := rfl
theorem ix_ext {N : ℕ} {j j' : (⟨1, ![N]⟩ : Shape).Idx} (h : co j = co j') : j = j' := by
  funext a; have : a = 0 := Subsingleton.elim _ _; subst this; exact Fin.ext h
theorem rd_co {N : ℕ} (f : Wds N) (j : (⟨1, ![N]⟩ : Shape).Idx) : rd f (co j) = f j := by
  unfold rd; rw [dif_pos (co_lt j)]; exact congrArg f (ix_ext rfl)
theorem rd_eq {N : ℕ} (f : Wds N) (j : (⟨1, ![N]⟩ : Shape).Idx) {k : ℕ} (h : co j = k) : f j = rd f k := by
  rw [← h, rd_co]

/-- The indices `o … o + n - 1` of a rank-one shape. -/
def seg (N o n : ℕ) : Finset (⟨1, ![N]⟩ : Shape).Idx := Finset.univ.filter fun j => o ≤ co j ∧ co j < o + n
theorem mem_seg {N o n : ℕ} {j : (⟨1, ![N]⟩ : Shape).Idx} : j ∈ seg N o n ↔ o ≤ co j ∧ co j < o + n := by simp [seg]

theorem rect_seg (N o : ℕ) (sz : Fin 1 → ℕ) (inb : ∀ a, (![o] : Fin 1 → ℕ) a + sz a ≤ (⟨1, ![N]⟩ : Shape).size a) :
    (Rect.unit (s := ⟨1, ![N]⟩) ![o] sz inb).set = seg N o (sz 0) := by
  ext j
  rw [Rect.mem_set_unit, mem_seg]
  constructor
  · intro h; exact h 0
  · intro h a; have : a = 0 := Subsingleton.elim _ _; subst this; exact h

/-- A byte product: byte `s / 8` from the top of both words, multiplied. -/
def byt (w s : BitVec 32) : BitVec 32 := IntOp.shrsi .vector (IntOp.shli .vector w s) 24#32
/-- The dot product of the four bytes of two words. -/
def dot4 (a b : BitVec 32) : BitVec 32 :=
  (byt a 24#32 * byt b 24#32 + byt a 16#32 * byt b 16#32) + (byt a 8#32 * byt b 8#32 + byt a 0#32 * byt b 0#32)
/-- Half `h` of a word of two positions. -/
def hw (h : ℕ) (w : BitVec 32) : BitVec 32 :=
  if h = 0 then IntOp.andi w 65535#32 else IntOp.shrui .vector w 16#32

/-- Half `h` of the word that has token `t`'s position in field `f`. -/
def pos (fi : Wds 612352) (f t : ℕ) : ℕ := (hw (t % 1024 / 512) (rd fi (f * 23552 + t / 1024 * 512 + t % 512))).toNat

/-- The dot product of word `k` of phase `ph` of pair `p`, of token `t`. -/
def dk (ft : Wds 41879552) (fi : Wds 612352) (ph p t k : ℕ) : BitVec 32 :=
  dot4 (rd ft (toff 0 ph p + (12288 * k + pos fi (fF p) t))) (rd ft (toff 1 ph p + (12288 * k + pos fi (gG p) t)))

/-- The kernel's result for phase `ph`, pair `p`, token `t`. -/
def res (ft : Wds 41879552) (fi : Wds 612352) (ph p t : ℕ) : BitVec 32 :=
  if ph = 0 then (dk ft fi ph p t 0 + dk ft fi ph p t 1) + dk ft fi ph p t 2 else dk ft fi ph p t 0 + dk ft fi ph p t 1

/-- Word `x` of the kernel's result. -/
def Gn (ft : Wds 41879552) (fi : Wds 612352) (x : ℕ) : BitVec 32 :=
  res ft fi (x / 14976000) (x % 14976000 / 46080) (x % 46080)

/-- The kernel's result. -/
def G (ft : Wds 41879552) (fi : Wds 612352) : Wds 29952000 := fun j => Gn ft fi (co j)

/-- The positions in slot `k % 4` for chunk `k` (either half: the second begins at 512). -/
def ibS (fi : Wds 612352) (w k : ℕ) : Wds 4096 := fun j => rd fi (ioff w (co j % 1024 / 512) k + co j % 512)
/-- A table's contents, of phase `ph` of pair `p`. -/
def tbS (N : ℕ) (ft : Wds 41879552) (h ph p : ℕ) : Wds N := fun j => rd ft (toff h ph p + co j)
/-- The results of chunk `k`. -/
def obS (ft : Wds 41879552) (fi : Wds 612352) (w k : ℕ) : Wds 2048 := fun j => Gn ft fi (ooff w k + co j % 1024)

/-- The tile that writes word `x` of the result. -/
def owner (x : ℕ) : ℕ := x % 14976000 / 46080 % 32
/-- The chunk that writes word `x` of the result. -/
def chnk (x : ℕ) : ℕ := 90 * (x % 14976000 / 46080 / 32) + 45 * (x / 14976000) + x % 46080 / 1024

/-- What tile `w` writes of the result. -/
def ownS (w : ℕ) : Finset (⟨1, ![29952000]⟩ : Shape).Idx := Finset.univ.filter fun j => owner (co j) = w
/-- Of it, what is written from chunk `n` on. -/
def todoS (w n : ℕ) : Finset (⟨1, ![29952000]⟩ : Shape).Idx := Finset.univ.filter fun j => owner (co j) = w ∧ n ≤ chnk (co j)
/-- Of it, what is written before chunk `n`. -/
def doneS (w n : ℕ) : Finset (⟨1, ![29952000]⟩ : Shape).Idx := Finset.univ.filter fun j => owner (co j) = w ∧ chnk (co j) < n

theorem mem_ownS {w : ℕ} {j : (⟨1, ![29952000]⟩ : Shape).Idx} : j ∈ ownS w ↔ owner (co j) = w := by simp [ownS]
theorem mem_todoS {w n : ℕ} {j : (⟨1, ![29952000]⟩ : Shape).Idx} : j ∈ todoS w n ↔ owner (co j) = w ∧ n ≤ chnk (co j) := by simp [todoS]
theorem mem_doneS {w n : ℕ} {j : (⟨1, ![29952000]⟩ : Shape).Idx} : j ∈ doneS w n ↔ owner (co j) = w ∧ chnk (co j) < n := by simp [doneS]

/-- The words of one chunk's results. -/
theorem owner_chnk (w n x : ℕ) (hw : w < 32) (hn : n < 90 * nv w) (hx : x < 29952000) :
    (ooff w n ≤ x ∧ x < ooff w n + 1024) ↔ (owner x = w ∧ chnk x = n) := by
  have hnv : w + 32 * (n / 90) < 325 := by unfold nv at hn; split at hn <;> omega
  unfold ooff owner chnk
  generalize hr : n / 90 = r at *
  obtain ⟨b, c, hb, hc, rfl⟩ : ∃ b c, b < 2 ∧ c < 45 ∧ n = 90 * r + 45 * b + c := ⟨n / 45 % 2, n % 45, by omega, by omega, by omega⟩
  rw [show (90 * r + 45 * b + c) / 45 % 2 = b by omega, show (90 * r + 45 * b + c) % 45 = c by omega]
  constructor
  · rintro ⟨h1, h2⟩
    obtain ⟨y, hy, rfl⟩ : ∃ y, y < 1024 ∧ x = b * 14976000 + (w + 32 * r) * 46080 + c * 1024 + y := ⟨x - (b * 14976000 + (w + 32 * r) * 46080 + c * 1024), by omega, by omega⟩
    have e1 : (b * 14976000 + (w + 32 * r) * 46080 + c * 1024 + y) % 14976000 = (w + 32 * r) * 46080 + c * 1024 + y := by omega
    have e2 : (b * 14976000 + (w + 32 * r) * 46080 + c * 1024 + y) / 14976000 = b := by omega
    have e3 : (b * 14976000 + (w + 32 * r) * 46080 + c * 1024 + y) % 46080 = c * 1024 + y := by omega
    have e4 : ((w + 32 * r) * 46080 + c * 1024 + y) / 46080 = w + 32 * r := by
      have hz : c * 1024 + y < 46080 := by omega
      rw [Nat.add_assoc, Nat.add_comm, Nat.add_mul_div_right _ _ (by decide), Nat.div_eq_of_lt hz, Nat.zero_add]
    rw [e1, e2, e3, e4]; omega
  · rintro ⟨h1, h2⟩
    have hb' : x / 14976000 < 2 := by omega
    have hc' : x % 46080 / 1024 < 45 := by omega
    have e0 : x % 14976000 % 46080 = x % 46080 := by omega
    have hd1 := Nat.div_add_mod x 14976000
    have hd2 := Nat.div_add_mod (x % 14976000) 46080
    have hd3 := Nat.div_add_mod (x % 46080) 1024
    have hm3 : x % 46080 % 1024 < 1024 := Nat.mod_lt _ (by decide)
    have hd4 := Nat.div_add_mod (x % 14976000 / 46080) 32
    rw [e0] at hd2
    generalize x / 14976000 = B at *
    generalize x % 14976000 / 46080 = p at *
    generalize x % 46080 / 1024 = cc at *
    generalize x % 46080 % 1024 = yy at *
    omega

theorem seg_todo (w n : ℕ) (hw : w < 32) (hn : n < 90 * nv w) : seg 29952000 (ooff w n) 1024 ⊆ todoS w n := by
  intro j hj
  have := (owner_chnk w n (co j) hw hn (co_lt j)).1 (mem_seg.1 hj)
  exact mem_todoS.2 ⟨this.1, this.2.ge⟩
theorem todo_sdiff (w n : ℕ) (hw : w < 32) (hn : n < 90 * nv w) : todoS w n \ seg 29952000 (ooff w n) 1024 = todoS w (n + 1) := by
  ext j
  rw [Finset.mem_sdiff, mem_todoS, mem_todoS, mem_seg, owner_chnk w n (co j) hw hn (co_lt j)]
  omega
theorem done_union (w n : ℕ) (hw : w < 32) (hn : n < 90 * nv w) : doneS w n ∪ seg 29952000 (ooff w n) 1024 = doneS w (n + 1) := by
  ext j
  rw [Finset.mem_union, mem_doneS, mem_doneS, mem_seg, owner_chnk w n (co j) hw hn (co_lt j)]
  omega
theorem done_disj (w n : ℕ) (hw : w < 32) (hn : n < 90 * nv w) : Disjoint (doneS w n) (seg 29952000 (ooff w n) 1024) := by
  rw [Finset.disjoint_left]; intro j h1 h2
  have := (owner_chnk w n (co j) hw hn (co_lt j)).1 (mem_seg.1 h2)
  have := mem_doneS.1 h1
  omega
theorem todo_zero (w : ℕ) : todoS w 0 = ownS w := by ext j; rw [mem_todoS, mem_ownS]; simp
theorem done_zero (w : ℕ) : doneS w 0 = ∅ := by ext j; rw [mem_doneS]; simp
theorem done_all (w : ℕ) : doneS w (90 * nv w) = ownS w := by
  ext j; rw [mem_doneS, mem_ownS]
  refine ⟨fun h => h.1, fun h => ⟨h, ?_⟩⟩
  have hj := co_lt j
  revert h; unfold owner chnk nv; intro h
  generalize co j = x at *
  have hb : x / 14976000 < 2 := by omega
  have hc : x % 46080 / 1024 < 45 := by omega
  have hp : x % 14976000 / 46080 < 325 := by omega
  generalize x / 14976000 = B at *
  generalize x % 14976000 / 46080 = p at *
  generalize x % 46080 / 1024 = cc at *
  split <;> omega

end Cert.Proof.Pairs
end
-- ==== Proof.State.lean ====
/-
  What a tile holds between the statements of its body.
-/
module

public import proofs.«01_k».proof.Kernel
public import proofs.«01_k».proof.Proof.Spec
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.Tactic

@[expose] public section

noncomputable section

namespace Cert.Proof.Pairs

open Cert.Kernel
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

abbrev 𝒱₀ : Variants := Variants.none
abbrev UH : Type := URounds (GSem nD τ sig) ℕ
abbrev UU : Type := UH × Counters
local notation "𝕄" => MT nD τ sig (HIx 1) (Elt F) ℕ UU ℕ
abbrev EC : UEmb Counters 𝕄 := countersEmb

/-- The thread of the tile with coordinates `i`. -/
abbrev thr (d : Dev nD) (i : grid0.Coords) : Thread nD τ := V d ((i 0).castLE Facts₀.hcore0) ((i 1).castLE Facts₀.hsub0)

theorem wp_copy {c : Thread nD τ} {bd : Option 𝒱₀.V} {sp sp' : Space} {s : Shape} {e : EltTy} {α : Type} {src : Memref sig c.2.kind sp s e}
    {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ₀ c.2) α} {Q : α → sProp 𝕄} {q : PosShare TreeShare}
    {fs : Buf (Elt F) (src.view.loc c)} {fd g : Buf (Elt F) (dst.view.loc c)} {n N j u : ℕ} {D : Fin n → sProp 𝕄} (ι : HIx 1)
    (hN : dst.view.amount sm = N) (hj : j < n) (hu : u ≤ j * N)
    (hD : iprop((dst.view.loc c ↦[dst.view.set]{fullShare} g) ∗ (src.view.loc c ↦[src.view.set]{q} fs)) ⊢ D ⟨j, hj⟩)
    (hg : ∀ x, dst.view.read (Elt F) g x = src.view.read (Elt F) fs x) :
    iprop((src.view.loc c ↦[src.view.set]{q} fs) ∗ (dst.view.loc c ↦[dst.view.set]{fullShare} fd) ∗ Batch EC c sm ι N D j u)
      ⊢ iprop((Batch EC c sm ι N D (j + 1) u -∗ wp frame (wpE (defs₀ (F := F)) 𝒱₀ c bd) Set.univ (k ⟨⟩) Q)
          -∗ wp frame (wpE (defs₀ (F := F)) 𝒱₀ c bd) Set.univ (.op (.enqueueDma src (.here dst) sm hsrc hdst hsem) k) Q) := by
  refine wp_dmaBatch EC 𝒱₀ c bd ι N hN subset_rfl hj hu ?_
  refine (sep_mono_left (Entails.of_eq (pointsTo_congr fun x hx => ?_))).trans hD
  obtain ⟨y, -, rfl⟩ := Finset.mem_map.1 hx
  rw [View.write_emb_of_mem (h := Finset.mem_univ y)]
  have := hg y
  rw [View.read_apply] at this
  show _root_.cast _ (src.view.read (Elt F) fs y) = _
  rw [← this, cast_cast, cast_eq]

/-! ## The locations, the semaphores, the transfers -/

abbrev iL (d : Dev nD) (i : grid0.Coords) : Loc nD τ sig := (thr d i).loc main_arg1_scv
abbrev tL (d : Dev nD) (i : grid0.Coords) : Loc nD τ sig := (thr d i).loc main_arg0_scv
abbrev oL (d : Dev nD) (i : grid0.Coords) : Loc nD τ sig := (thr d i).loc main_v0_scv
abbrev ibL (d : Dev nD) (i : grid0.Coords) : Loc nD τ sig := (thr d i).loc cc0_scratch4
abbrev obL (d : Dev nD) (i : grid0.Coords) : Loc nD τ sig := (thr d i).loc cc0_scratch5

abbrev tsem (k : ℕ) : DmaSem sig := ⟨k % 2, show k % 2 < 8 by omega⟩
abbrev isem (k : ℕ) : DmaSem sig := ⟨2 + k % 4, show 2 + k % 4 < 8 by omega⟩
abbrev osem (k : ℕ) : DmaSem sig := ⟨6 + k % 2, show 6 + k % 2 < 8 by omega⟩

theorem tsem_aux (r : ℕ) (_ : r < 2) (inb : ∀ a, (![r] : Fin 1 → ℕ) a + S1.size a ≤ S2.size a) :
    ((((cc0_scratch6.slice (Rect.unit (s := S2) ![r] S1.size inb)).squeeze S_ Facts₀.squeezes_S1_S_).sem : DmaSem sig)).val = 0 + r := by
  refine congrArg (0 + ·) ((Shape.rowMajor_val_one _).trans ((ValueKit.rect_emb_unit_val (s := S2) _ _ inb _ 0).trans ?_))
  exact Nat.add_eq_left.2 (Nat.lt_one_iff.1 (Fin.isLt _))
theorem tsem_eq (k : ℕ) {off : Fin 1 → ℕ} (h : off = ![k % 2]) (inb : ∀ a, off a + S1.size a ≤ S2.size a) :
    ((cc0_scratch6.slice (Rect.unit (s := S2) off S1.size inb)).squeeze S_ Facts₀.squeezes_S1_S_).sem = tsem k := by
  subst h
  exact Fin.ext ((tsem_aux _ (Nat.mod_lt _ (by decide)) inb).trans (Nat.zero_add _))
theorem isem_aux (r : ℕ) (_ : r < 4) (inb : ∀ a, (![r] : Fin 1 → ℕ) a + S1.size a ≤ S4.size a) :
    ((((cc0_scratch7.slice (Rect.unit (s := S4) ![r] S1.size inb)).squeeze S_ Facts₀.squeezes_S1_S_).sem : DmaSem sig)).val = 2 + r := by
  refine congrArg (2 + ·) ((Shape.rowMajor_val_one _).trans ((ValueKit.rect_emb_unit_val (s := S4) _ _ inb _ 0).trans ?_))
  exact Nat.add_eq_left.2 (Nat.lt_one_iff.1 (Fin.isLt _))
theorem isem_eq (k : ℕ) {off : Fin 1 → ℕ} (h : off = ![k % 4]) (inb : ∀ a, off a + S1.size a ≤ S4.size a) :
    ((cc0_scratch7.slice (Rect.unit (s := S4) off S1.size inb)).squeeze S_ Facts₀.squeezes_S1_S_).sem = isem k := by
  subst h
  exact Fin.ext (isem_aux _ (Nat.mod_lt _ (by decide)) inb)
theorem osem_aux (r : ℕ) (_ : r < 2) (inb : ∀ a, (![r] : Fin 1 → ℕ) a + S1.size a ≤ S2.size a) :
    ((((cc0_scratch8.slice (Rect.unit (s := S2) ![r] S1.size inb)).squeeze S_ Facts₀.squeezes_S1_S_).sem : DmaSem sig)).val = 6 + r := by
  refine congrArg (6 + ·) ((Shape.rowMajor_val_one _).trans ((ValueKit.rect_emb_unit_val (s := S2) _ _ inb _ 0).trans ?_))
  exact Nat.add_eq_left.2 (Nat.lt_one_iff.1 (Fin.isLt _))
theorem osem_eq (k : ℕ) {off : Fin 1 → ℕ} (h : off = ![k % 2]) (inb : ∀ a, off a + S1.size a ≤ S2.size a) :
    ((cc0_scratch8.slice (Rect.unit (s := S2) off S1.size inb)).squeeze S_ Facts₀.squeezes_S1_S_).sem = osem k := by
  subst h
  exact Fin.ext (osem_aux _ (Nat.mod_lt _ (by decide)) inb)

/-- Memory windows of the tile. -/
abbrev ibW (o : ℕ) (inb : ∀ a, (![o] : Fin 1 → ℕ) a + S512.size a ≤ S4096.size a) : Memref sig .scVector .vmem S512 .i32 :=
  (Memref.whole cc0_scratch4).slice (Rect.unit (s := S4096) ![o] S512.size inb) (fun _ => rfl)
abbrev obW (o : ℕ) (inb : ∀ a, (![o] : Fin 1 → ℕ) a + S1024.size a ≤ S2048.size a) : Memref sig .scVector .vmem S1024 .i32 :=
  (Memref.whole cc0_scratch5).slice (Rect.unit (s := S2048) ![o] S1024.size inb) (fun _ => rfl)
abbrev ixW (o : ℕ) (inb : ∀ a, (![o] : Fin 1 → ℕ) a + S512.size a ≤ S612352.size a) : Memref sig .scVector .hbm S512 .i32 :=
  (Memref.whole main_arg1_scv).slice (Rect.unit (s := S612352) ![o] S512.size inb) (fun _ => rfl)
abbrev ouW (o : ℕ) (inb : ∀ a, (![o] : Fin 1 → ℕ) a + S1024.size a ≤ S29952000.size a) : Memref sig .scVector .hbm S1024 .i32 :=
  (Memref.whole main_v0_scv).slice (Rect.unit (s := S29952000) ![o] S1024.size inb) (fun _ => rfl)

theorem ibW_set (o inb) : (ibW o inb).view.set = seg 4096 o 512 := (View.set_slice_whole _ _).trans (rect_seg 4096 o _ inb)
theorem obW_set (o inb) : (obW o inb).view.set = seg 2048 o 1024 := (View.set_slice_whole _ _).trans (rect_seg 2048 o _ inb)
theorem ixW_set (o inb) : (ixW o inb).view.set = seg 612352 o 512 := (View.set_slice_whole _ _).trans (rect_seg 612352 o _ inb)
theorem ouW_set (o inb) : (ouW o inb).view.set = seg 29952000 o 1024 := (View.set_slice_whole _ _).trans (rect_seg 29952000 o _ inb)

theorem inb0 : ∀ a, (![0] : Fin 1 → ℕ) a + S512.size a ≤ S4096.size a := by decide
theorem inb0' : ∀ a, (![0] : Fin 1 → ℕ) a + S1024.size a ≤ S29952000.size a := by decide

/-- What a copy of positions, of results, of a table credits. -/
def NI : ℕ := (ibW 0 inb0).view.dmaCredit
def NO : ℕ := (ouW 0 inb0').view.dmaCredit
theorem NI_pos : 0 < NI := View.dmaCredit_pos _ (by decide)
theorem NO_pos : 0 < NO := View.dmaCredit_pos _ (by decide)

variable (d : Dev nD) (i : grid0.Coords) (qi qt : PosShare TreeShare) (ft : Wds 41879552) (fi : Wds 612352)

/-- Half `h` of the slot of chunk `k`, of positions. -/
abbrev ibP (k h : ℕ) (f : Wds 4096) : sProp 𝕄 := ibL d i ↦[seg 4096 (k % 4 * 1024 + h * 512) 512]{fullShare} f
/-- The part of the positions that chunk `k`'s copy of half `h` reads, and the rest of its share. -/
abbrev ixP (k h : ℕ) : sProp 𝕄 := iL d i ↦[seg 612352 (ioff (wid i) h k) 512]{shareTokN qi (2 * (k % 4) + h)} fi
abbrev ixR (k h : ℕ) : sProp 𝕄 := iL d i ↦[Finset.univ \ seg 612352 (ioff (wid i) h k) 512]{shareTokN qi (2 * (k % 4) + h)} fi
/-- The whole positions, at the share of half `h` of slot `k % 4`. -/
abbrev ixT (k h : ℕ) : sProp 𝕄 := iL d i ↦[Finset.univ]{shareTokN qi (2 * (k % 4) + h)} fi

/-- What the two copies of positions of chunk `k` deliver. -/
def DI (k : ℕ) (h : Fin 2) : sProp 𝕄 := iprop(ibP d i k h.val (ibS fi (wid i) k) ∗ ixP d i qi fi k h.val)

instance DI_storable (k : ℕ) (h : Fin 2) : BI.Storable (upEmb : UEmb _ 𝕄) (DI d i qi fi k h) := by unfold DI; infer_instance

/-- The positions of chunk `k` are on their way. -/
def IdxFl (k : ℕ) : sProp 𝕄 :=
  iprop(Batch EC (thr d i) (.dma (isem k)) (none : HIx 1) NI (DI d i qi fi k) 2 0 ∗ ixR d i qi fi k 0 ∗ ixR d i qi fi k 1)
/-- The slot of chunk `k` is free. -/
def IdxFree (k : ℕ) : sProp 𝕄 :=
  iprop(semVal (thr d i, SemLoc.dma (isem k)) 0 ∗ ixT d i qi fi k 0 ∗ ixT d i qi fi k 1 ∗ (∃ f, ibP d i k 0 f) ∗ ∃ f, ibP d i k 1 f)
/-- The positions of chunk `k` are there. -/
def IdxRdy (k : ℕ) : sProp 𝕄 :=
  iprop(semVal (thr d i, SemLoc.dma (isem k)) 0 ∗ ixT d i qi fi k 0 ∗ ixT d i qi fi k 1 ∗ ibP d i k 0 (ibS fi (wid i) k) ∗ ibP d i k 1 (ibS fi (wid i) k))

theorem slot_arith (r h x : ℕ) (hh : h < 2) (hx : x < 512) : (r * 1024 + h * 512 + x) % 1024 / 512 = h ∧ (r * 1024 + h * 512 + x) % 512 = x := by
  constructor <;> omega

theorem ixW_read (o inb) (f : Wds 612352) (x) : (ixW o inb).view.read (Elt F) (f : Buf (Elt F) (iL d i)) x = f ((ixW o inb).view.emb x) := rfl
theorem ibW_read (o inb) (f : Wds 4096) (x) : (ibW o inb).view.read (Elt F) (f : Buf (Elt F) (ibL d i)) x = f ((ibW o inb).view.emb x) := rfl
theorem idx_copy_val (k h : ℕ) (hh : h < 2) (inb) (inb') (x) :
    (ibW (k % 4 * 1024 + h * 512) inb).view.read (Elt F) (ibS fi (wid i) k : Buf (Elt F) (ibL d i)) x
      = (ixW (ioff (wid i) h k) inb').view.read (Elt F) (fi : Buf (Elt F) (iL d i)) x := by
  have hx : (x 0).val < 512 := (x 0).isLt
  rw [ibW_read, ixW_read]
  have e1 : co ((ibW (k % 4 * 1024 + h * 512) inb).view.emb x) = k % 4 * 1024 + h * 512 + (x 0).val :=
    ValueKit.rect_emb_unit_val (s := S4096) _ _ inb x 0
  have e2 : co ((ixW (ioff (wid i) h k) inb').view.emb x) = ioff (wid i) h k + (x 0).val :=
    ValueKit.rect_emb_unit_val (s := S612352) _ _ inb' x 0
  rw [rd_eq fi _ e2]
  obtain ⟨h1, h2⟩ := slot_arith (k % 4) h (x 0).val hh hx
  unfold ibS
  rw [e1, h1, h2]

/-! ## Results, tables, waits -/

/-- The bank of chunk `k`, of results. -/
abbrev obP (k : ℕ) (f : Wds 2048) : sProp 𝕄 := obL d i ↦[seg 2048 (k % 2 * 1024) 1024]{fullShare} f
/-- A region of the result. -/
abbrev ouP (S : Finset (⟨1, ![29952000]⟩ : Shape).Idx) (f : Wds 29952000) : sProp 𝕄 := oL d i ↦[S]{fullShare} f

/-- What the copy of chunk `k`'s results delivers. -/
def DO (k : ℕ) (_ : Fin 1) : sProp 𝕄 :=
  iprop(ouP d i (seg 29952000 (ooff (wid i) k) 1024) (G ft fi) ∗ obP d i k (obS ft fi (wid i) k))
instance DO_storable (k : ℕ) (h : Fin 1) : BI.Storable (upEmb : UEmb _ 𝕄) (DO d i ft fi k h) := by unfold DO; infer_instance
/-- The results of chunk `k` are on their way. -/
def OutFl (k : ℕ) : sProp 𝕄 := Batch EC (thr d i) (.dma (osem k)) (none : HIx 1) NO (DO d i ft fi k) 1 0
/-- The bank of chunk `k` is free. -/
def OutFree (k : ℕ) : sProp 𝕄 := iprop(semVal (thr d i, SemLoc.dma (osem k)) 0 ∗ ∃ f, obP d i k f)
/-- The bank of chunk `k` has its results. -/
def OutRdy (k : ℕ) : sProp 𝕄 := iprop(semVal (thr d i, SemLoc.dma (osem k)) 0 ∗ obP d i k (obS ft fi (wid i) k))

theorem bank_arith (r x : ℕ) (hx : x < 1024) : (r * 1024 + x) % 1024 = x := by
  rw [Nat.add_comm, Nat.add_mul_mod_self_right, Nat.mod_eq_of_lt hx]

theorem ouW_read (o inb) (f : Wds 29952000) (x) : (ouW o inb).view.read (Elt F) (f : Buf (Elt F) (oL d i)) x = f ((ouW o inb).view.emb x) := rfl
theorem obW_read (o inb) (f : Wds 2048) (x) : (obW o inb).view.read (Elt F) (f : Buf (Elt F) (obL d i)) x = f ((obW o inb).view.emb x) := rfl
theorem G_eq (j : S29952000.Idx) {n : ℕ} (h : co j = n) : G ft fi j = Gn ft fi n := by subst h; rfl
theorem obS_eq (w k : ℕ) (j : S2048.Idx) {n : ℕ} (h : co j = n) : obS ft fi w k j = Gn ft fi (ooff w k + n % 1024) := by subst h; rfl

theorem out_copy_val (k : ℕ) (inb) (inb') (x) :
    (ouW (ooff (wid i) k) inb').view.read (Elt F) (G ft fi : Buf (Elt F) (oL d i)) x
      = (obW (k % 2 * 1024) inb).view.read (Elt F) (obS ft fi (wid i) k : Buf (Elt F) (obL d i)) x := by
  have hx : (x 0).val < 1024 := (x 0).isLt
  rw [ouW_read, obW_read]
  have e1 : co ((obW (k % 2 * 1024) inb).view.emb x) = k % 2 * 1024 + (x 0).val :=
    ValueKit.rect_emb_unit_val (s := S2048) _ _ inb x 0
  have e2 : co ((ouW (ooff (wid i) k) inb').view.emb x) = ooff (wid i) k + (x 0).val :=
    ValueKit.rect_emb_unit_val (s := S29952000) _ _ inb' x 0
  rw [G_eq ft fi _ e2, obS_eq ft fi _ _ _ e1, bank_arith _ _ hx]

/-- What a tile owes: what it did before, and waits of its own. -/
def Ow (O : CellTallies nD τ sig (HIx 1)) (W : Waits sig (HIx 1)) : sProp 𝕄 :=
  iprop(∃ W', ⌜∀ p ∈ W', p ∈ W ∨ p.2 = none⌝ ∗ owes (thr d i) O W')

/-! The tables of phase 0. -/
abbrev taL0 (d : Dev nD) (i : grid0.Coords) : Loc nD τ sig := (thr d i).loc cc0_scratch0
abbrev tbL0 (d : Dev nD) (i : grid0.Coords) : Loc nD τ sig := (thr d i).loc cc0_scratch1
abbrev taP0 (f : Wds 36864) : sProp 𝕄 := taL0 d i ↦[Finset.univ]{fullShare} f
abbrev tbP0 (f : Wds 36864) : sProp 𝕄 := tbL0 d i ↦[Finset.univ]{fullShare} f
abbrev ttP0 (p h : ℕ) : sProp 𝕄 := tL d i ↦[seg 41879552 (toff h 0 p) 36864]{shareTokN qt (0 + h)} ft
abbrev ttR0 (p h : ℕ) : sProp 𝕄 := tL d i ↦[Finset.univ \ seg 41879552 (toff h 0 p) 36864]{shareTokN qt (0 + h)} ft
abbrev ttT0 (h : ℕ) : sProp 𝕄 := tL d i ↦[Finset.univ]{shareTokN qt (0 + h)} ft
def NT0 : ℕ := (Memref.whole cc0_scratch0).view.dmaCredit
theorem NT0_pos : 0 < NT0 := View.dmaCredit_pos _ (by decide)
theorem NT0_b : (Memref.whole cc0_scratch1).view.dmaCredit = NT0 := rfl

/-- What the two copies of tables of pair `p` deliver. -/
def DT0 (p : ℕ) : Fin 2 → sProp 𝕄
  | 0 => iprop(taP0 d i (tbS 36864 ft 0 0 p) ∗ ttP0 d i qt ft p 0)
  | 1 => iprop(tbP0 d i (tbS 36864 ft 1 0 p) ∗ ttP0 d i qt ft p 1)
instance DT0_storable (p : ℕ) : ∀ (h : Fin 2), BI.Storable (upEmb : UEmb _ 𝕄) (DT0 d i qt ft p h)
  | 0 => by unfold DT0; infer_instance
  | 1 => by unfold DT0; infer_instance
/-- The tables of pair `p` are on their way; not wanted; there. -/
def TabFl0 (p : ℕ) : sProp 𝕄 :=
  iprop(Batch EC (thr d i) (.dma (tsem 0)) (none : HIx 1) NT0 (DT0 d i qt ft p) 2 0 ∗ ttR0 d i qt ft p 0 ∗ ttR0 d i qt ft p 1)
def TabFree0 : sProp 𝕄 :=
  iprop(semVal (thr d i, SemLoc.dma (tsem 0)) 0 ∗ ttT0 d i qt ft 0 ∗ ttT0 d i qt ft 1 ∗ (∃ f, taP0 d i f) ∗ ∃ f, tbP0 d i f)
def TabRdy0 (p : ℕ) : sProp 𝕄 :=
  iprop(semVal (thr d i, SemLoc.dma (tsem 0)) 0 ∗ ttT0 d i qt ft 0 ∗ ttT0 d i qt ft 1 ∗ taP0 d i (tbS 36864 ft 0 0 p) ∗ tbP0 d i (tbS 36864 ft 1 0 p))
theorem TabRdy0_free (p : ℕ) : TabRdy0 (F := F) d i qt ft p ⊢ TabFree0 d i qt ft := by
  unfold TabRdy0 TabFree0
  iintro ⟨H1, H2, H3, H4, H5⟩
  isplitl [H1]; · iexact H1
  isplitl [H2]; · iexact H2
  isplitl [H3]; · iexact H3
  isplitl [H4]; · iexists _; iexact H4
  iexists _; iexact H5

abbrev ttW0 (o : ℕ) (inb : ∀ a, (![o] : Fin 1 → ℕ) a + S36864.size a ≤ S41879552.size a) : Memref sig .scVector .hbm S36864 .i32 :=
  (Memref.whole main_arg0_scv).slice (Rect.unit (s := S41879552) ![o] S36864.size inb) (fun _ => rfl)
theorem ttW0_set (o inb) : (ttW0 o inb).view.set = seg 41879552 o 36864 := (View.set_slice_whole _ _).trans (rect_seg 41879552 o _ inb)
theorem ttW0_read (o inb) (f : Wds 41879552) (x) : (ttW0 o inb).view.read (Elt F) (f : Buf (Elt F) (tL d i)) x = f ((ttW0 o inb).view.emb x) := rfl
theorem tab_val0 (h p : ℕ) (inb) (x : S36864.Idx) :
    tbS 36864 ft h 0 p x = (ttW0 (toff h 0 p) inb).view.read (Elt F) (ft : Buf (Elt F) (tL d i)) x := by
  rw [ttW0_read]
  have e1 : co ((ttW0 (toff h 0 p) inb).view.emb x) = toff h 0 p + co x :=
    ValueKit.rect_emb_unit_val (s := S41879552) _ _ inb x 0
  rw [rd_eq ft _ e1]
  rfl

/-! The tables of phase 1. -/
abbrev taL1 (d : Dev nD) (i : grid0.Coords) : Loc nD τ sig := (thr d i).loc cc0_scratch2
abbrev tbL1 (d : Dev nD) (i : grid0.Coords) : Loc nD τ sig := (thr d i).loc cc0_scratch3
abbrev taP1 (f : Wds 24576) : sProp 𝕄 := taL1 d i ↦[Finset.univ]{fullShare} f
abbrev tbP1 (f : Wds 24576) : sProp 𝕄 := tbL1 d i ↦[Finset.univ]{fullShare} f
abbrev ttP1 (p h : ℕ) : sProp 𝕄 := tL d i ↦[seg 41879552 (toff h 1 p) 24576]{shareTokN qt (2 + h)} ft
abbrev ttR1 (p h : ℕ) : sProp 𝕄 := tL d i ↦[Finset.univ \ seg 41879552 (toff h 1 p) 24576]{shareTokN qt (2 + h)} ft
abbrev ttT1 (h : ℕ) : sProp 𝕄 := tL d i ↦[Finset.univ]{shareTokN qt (2 + h)} ft
def NT1 : ℕ := (Memref.whole cc0_scratch2).view.dmaCredit
theorem NT1_pos : 0 < NT1 := View.dmaCredit_pos _ (by decide)
theorem NT1_b : (Memref.whole cc0_scratch3).view.dmaCredit = NT1 := rfl

/-- What the two copies of tables of pair `p` deliver. -/
def DT1 (p : ℕ) : Fin 2 → sProp 𝕄
  | 0 => iprop(taP1 d i (tbS 24576 ft 0 1 p) ∗ ttP1 d i qt ft p 0)
  | 1 => iprop(tbP1 d i (tbS 24576 ft 1 1 p) ∗ ttP1 d i qt ft p 1)
instance DT1_storable (p : ℕ) : ∀ (h : Fin 2), BI.Storable (upEmb : UEmb _ 𝕄) (DT1 d i qt ft p h)
  | 0 => by unfold DT1; infer_instance
  | 1 => by unfold DT1; infer_instance
/-- The tables of pair `p` are on their way; not wanted; there. -/
def TabFl1 (p : ℕ) : sProp 𝕄 :=
  iprop(Batch EC (thr d i) (.dma (tsem 1)) (none : HIx 1) NT1 (DT1 d i qt ft p) 2 0 ∗ ttR1 d i qt ft p 0 ∗ ttR1 d i qt ft p 1)
def TabFree1 : sProp 𝕄 :=
  iprop(semVal (thr d i, SemLoc.dma (tsem 1)) 0 ∗ ttT1 d i qt ft 0 ∗ ttT1 d i qt ft 1 ∗ (∃ f, taP1 d i f) ∗ ∃ f, tbP1 d i f)
def TabRdy1 (p : ℕ) : sProp 𝕄 :=
  iprop(semVal (thr d i, SemLoc.dma (tsem 1)) 0 ∗ ttT1 d i qt ft 0 ∗ ttT1 d i qt ft 1 ∗ taP1 d i (tbS 24576 ft 0 1 p) ∗ tbP1 d i (tbS 24576 ft 1 1 p))
theorem TabRdy1_free (p : ℕ) : TabRdy1 (F := F) d i qt ft p ⊢ TabFree1 d i qt ft := by
  unfold TabRdy1 TabFree1
  iintro ⟨H1, H2, H3, H4, H5⟩
  isplitl [H1]; · iexact H1
  isplitl [H2]; · iexact H2
  isplitl [H3]; · iexact H3
  isplitl [H4]; · iexists _; iexact H4
  iexists _; iexact H5

abbrev ttW1 (o : ℕ) (inb : ∀ a, (![o] : Fin 1 → ℕ) a + S24576.size a ≤ S41879552.size a) : Memref sig .scVector .hbm S24576 .i32 :=
  (Memref.whole main_arg0_scv).slice (Rect.unit (s := S41879552) ![o] S24576.size inb) (fun _ => rfl)
theorem ttW1_set (o inb) : (ttW1 o inb).view.set = seg 41879552 o 24576 := (View.set_slice_whole _ _).trans (rect_seg 41879552 o _ inb)
theorem ttW1_read (o inb) (f : Wds 41879552) (x) : (ttW1 o inb).view.read (Elt F) (f : Buf (Elt F) (tL d i)) x = f ((ttW1 o inb).view.emb x) := rfl
theorem tab_val1 (h p : ℕ) (inb) (x : S24576.Idx) :
    tbS 24576 ft h 1 p x = (ttW1 (toff h 1 p) inb).view.read (Elt F) (ft : Buf (Elt F) (tL d i)) x := by
  rw [ttW1_read]
  have e1 : co ((ttW1 (toff h 1 p) inb).view.emb x) = toff h 1 p + co x :=
    ValueKit.rect_emb_unit_val (s := S41879552) _ _ inb x 0
  rw [rd_eq ft _ e1]
  rfl

end Cert.Proof.Pairs
end
-- ==== Proof.Arith.lean ====
/-
  The arithmetic of the kernel's schedule: every offset, condition and trip count as a plain function of the tile's
  number `w`, the round and the chunk.
-/
module

public import proofs.«01_k».proof.Kernel
public import proofs.«01_k».proof.Proof.Sched
public import Idealize.ShloMosaic.Lib.Decide

@[expose] public section

namespace Cert.Proof.Pairs

open Cert.Kernel Idealize.ShloMosaic

theorem wid_lt (i : grid0.Coords) : wid i < 32 := by
  have h0 : (i 0).val < 2 := (i 0).isLt
  have h1 : (i 1).val < 16 := (i 1).isLt
  unfold wid; omega

theorem t1_trips : ∀ i : grid0.Coords, (k0_t1_loop i).trips = nv (wid i) := by decide +kernel
theorem t6_trips : ∀ i : grid0.Coords, (k0_t6_loop i).trips = 0 := by decide +kernel
theorem t2_trips : k0_t2_loop.trips = 45 := by decide +kernel
theorem t4_trips : k0_t4_loop.trips = 45 := by decide +kernel
theorem t3_trips : k0_t3_loop.trips = 32 := by decide +kernel
theorem t5_trips : k0_t5_loop.trips = 32 := by decide +kernel

theorem off1_eq : ∀ i : grid0.Coords, k0_off1 i = ![toff 0 0 (wid i)] := by decide +kernel
theorem off2_eq : ∀ i : grid0.Coords, k0_off2 i = ![toff 1 0 (wid i)] := by decide +kernel
theorem off3_eq : ∀ i : grid0.Coords, k0_off3 i = ![toff 0 1 (wid i)] := by decide +kernel
theorem off4_eq : ∀ i : grid0.Coords, k0_off4 i = ![toff 1 1 (wid i)] := by decide +kernel
theorem off5_eq : ∀ (i : grid0.Coords) (k : Fin 3), k0_off5 i (BitVec.ofNat 32 (512 * k.val)) = ![ioff (wid i) 0 k.val] := by
  decide +kernel
theorem off6_eq : ∀ (i : grid0.Coords) (k : Fin 3), k0_off6 i (BitVec.ofNat 32 (512 * k.val)) = ![ioff (wid i) 1 k.val] := by
  decide +kernel
theorem off95_eq : ∀ (i : grid0.Coords) (k : Fin 3) (h : Fin 2),
    k0_off95 i (BitVec.ofNat 32 k.val) (BitVec.ofNat 32 h.val) = ![(90 * nv (wid i) + k.val) % 4 * 1024 + h.val * 512] := by decide +kernel
theorem off96_eq : ∀ (i : grid0.Coords) (k : Fin 3), k0_off96 i (BitVec.ofNat 32 k.val) = ![(90 * nv (wid i) + k.val) % 4] := by decide +kernel
theorem off97_eq : ∀ (i : grid0.Coords) (k : Fin 2), k0_off97 i (BitVec.ofNat 32 k.val) = ![(90 * nv (wid i) + k.val) % 2 * 1024] := by decide +kernel
theorem off98_eq : ∀ (i : grid0.Coords) (k : Fin 2), k0_off98 i (BitVec.ofNat 32 k.val) = ![(90 * nv (wid i) + k.val) % 2] := by decide +kernel

theorem cond2_iff : ∀ (i : grid0.Coords) (r : Fin (k0_t1_loop i).trips), k0_cond2 i r = 1#1 ↔ r.val + 1 < nv (wid i) := by decide +kernel
theorem cond4_iff : ∀ (i : grid0.Coords) (r : Fin (k0_t1_loop i).trips), k0_cond4 i r = 1#1 ↔ r.val + 1 < nv (wid i) := by decide +kernel
theorem off27_eq : ∀ (i : grid0.Coords) (r : Fin (k0_t1_loop i).trips), k0_cond2 i r = 1#1 → k0_off27 i r = ![toff 0 0 (wid i + 32 * (r.val + 1))] := by decide +kernel
theorem off28_eq : ∀ (i : grid0.Coords) (r : Fin (k0_t1_loop i).trips), k0_cond2 i r = 1#1 → k0_off28 i r = ![toff 1 0 (wid i + 32 * (r.val + 1))] := by decide +kernel
theorem off49_eq : ∀ (i : grid0.Coords) (r : Fin (k0_t1_loop i).trips), k0_cond4 i r = 1#1 → k0_off49 i r = ![toff 0 1 (wid i + 32 * (r.val + 1))] := by decide +kernel
theorem off50_eq : ∀ (i : grid0.Coords) (r : Fin (k0_t1_loop i).trips), k0_cond4 i r = 1#1 → k0_off50 i r = ![toff 1 1 (wid i + 32 * (r.val + 1))] := by decide +kernel

/-! ## The chunk counter -/

/-- Chunk `c` of phase `ph` of round `r`, as the kernel counts it. -/
def nbv (ph : BitVec 32) (r c : ℕ) : BitVec 32 :=
  Scalar.addi (Scalar.muli (Scalar.addi (Scalar.muli 2#32 (Scf.iv 0#32 1#32 r)) ph) 45#32) (Scf.iv 0#32 1#32 c)

theorem nbv_eq : ∀ (ph : Fin 2) (r : Fin 11) (c : Fin 45),
    nbv (BitVec.ofNat 32 ph.val) r.val c.val = BitVec.ofNat 32 ((2 * r.val + ph.val) * 45 + c.val) := by decide +kernel

theorem r_lt {i : grid0.Coords} (r : Fin (k0_t1_loop i).trips) : r.val < nv (wid i) := t1_trips i ▸ r.isLt
theorem nv_le (w : ℕ) : nv w ≤ 11 := by unfold nv; split <;> omega

theorem nbv0 {i : grid0.Coords} (r : Fin (k0_t1_loop i).trips) (c : Fin k0_t2_loop.trips) :
    nbv 0#32 r.val c.val = BitVec.ofNat 32 (90 * r.val + c.val) := by
  have hr := r_lt r; have h11 := nv_le (wid i); have hc : c.val < 45 := t2_trips ▸ c.isLt
  have h := nbv_eq 0 ⟨r.val, by omega⟩ ⟨c.val, hc⟩
  rw [show 90 * r.val + c.val = (2 * r.val + 0) * 45 + c.val by omega]; exact h
theorem nbv1 {i : grid0.Coords} (r : Fin (k0_t1_loop i).trips) (c : Fin k0_t4_loop.trips) :
    nbv 1#32 r.val c.val = BitVec.ofNat 32 (90 * r.val + 45 + c.val) := by
  have hr := r_lt r; have h11 := nv_le (wid i); have hc : c.val < 45 := t4_trips ▸ c.isLt
  have h := nbv_eq 1 ⟨r.val, by omega⟩ ⟨c.val, hc⟩
  rw [show 90 * r.val + 45 + c.val = (2 * r.val + 1) * 45 + c.val by omega]; exact h

theorem n0_lt {i : grid0.Coords} (r : Fin (k0_t1_loop i).trips) (c : Fin k0_t2_loop.trips) : 90 * r.val + c.val < 990 := by
  have hr := r_lt r; have h11 := nv_le (wid i); have hc : c.val < 45 := t2_trips ▸ c.isLt
  omega
theorem n1_lt {i : grid0.Coords} (r : Fin (k0_t1_loop i).trips) (c : Fin k0_t4_loop.trips) : 90 * r.val + 45 + c.val < 990 := by
  have hr := r_lt r; have h11 := nv_le (wid i); have hc : c.val < 45 := t4_trips ▸ c.isLt
  omega

theorem and3 : ∀ n : Fin 990, Scalar.andi (BitVec.ofNat 32 n.val) 3#32 = BitVec.ofNat 32 (n.val % 4) := by decide +kernel
theorem and3' : ∀ n : Fin 990, Scalar.andi (Scalar.addi (BitVec.ofNat 32 n.val) 3#32) 3#32 = BitVec.ofNat 32 ((n.val + 3) % 4) := by
  decide +kernel
theorem and1 : ∀ n : Fin 990, Scalar.andi (BitVec.ofNat 32 n.val) 1#32 = BitVec.ofNat 32 (n.val % 2) := by decide +kernel

/-- The kernel's test for a third or later chunk. -/
def condN (v : BitVec 32) : BitVec 1 := Scalar.cmpi .ne (Scalar.extui (Scalar.cmpi .sge v 2#32) : BitVec 32) 0#32
theorem condN_iff : ∀ n : Fin 990, condN (BitVec.ofNat 32 n.val) = 1#1 ↔ 2 ≤ n.val := by decide +kernel

def slotV (s : BitVec 32) : BitVec 32 := Scalar.muli s 1024#32
def halfV (s h : BitVec 32) : BitVec 32 := Scalar.muli (Scalar.addi (Scalar.muli s 2#32) h) 512#32
def lane0V (s : BitVec 32) (k : ℕ) : BitVec 32 := Scalar.addi (slotV s) (Scalar.muli (Scf.iv 0#32 1#32 k) 16#32)
def lane1V (s : BitVec 32) (k : ℕ) : BitVec 32 :=
  Scalar.addi (Scalar.addi (slotV s) 512#32) (Scalar.muli (Scf.iv 0#32 1#32 k) 16#32)

theorem slotV_eq : ∀ s : Fin 4, (slotV (BitVec.ofNat 32 s.val)).toNat = s.val * 1024 := by decide +kernel
theorem sV_eq : ∀ s : Fin 4, (BitVec.ofNat 32 s.val).toNat = s.val := by decide +kernel
theorem halfV_eq : ∀ (s : Fin 4) (h : Fin 2),
    (halfV (BitVec.ofNat 32 s.val) (BitVec.ofNat 32 h.val)).toNat = s.val * 1024 + h.val * 512 := by decide +kernel
theorem lane0V_eq : ∀ (s : Fin 4) (k : Fin 32),
    (Scalar.indexCast (lane0V (BitVec.ofNat 32 s.val) k.val)).toNat = s.val * 1024 + 16 * k.val := by decide +kernel
theorem lane1V_eq : ∀ (s : Fin 4) (k : Fin 32),
    (Scalar.indexCast (lane1V (BitVec.ofNat 32 s.val) k.val)).toNat = s.val * 1024 + 512 + 16 * k.val := by decide +kernel

/-- A lane group's number, below 32. -/
def k3 (k : Fin k0_t3_loop.trips) : Fin 32 := ⟨k.val, lt_of_lt_of_eq k.isLt t3_trips⟩
def k5 (k : Fin k0_t5_loop.trips) : Fin 32 := ⟨k.val, lt_of_lt_of_eq k.isLt t5_trips⟩

section Phase0
variable {i : grid0.Coords} (r : Fin (k0_t1_loop i).trips) (c : Fin k0_t2_loop.trips)

theorem v1_s4 : Scalar.andi (nbv 0#32 r.val c.val) 3#32 = BitVec.ofNat 32 ((90 * r.val + c.val) % 4) := by
  rw [nbv0]; exact and3 ⟨_, n0_lt r c⟩
theorem v1_s4' : Scalar.andi (Scalar.addi (nbv 0#32 r.val c.val) 3#32) 3#32 = BitVec.ofNat 32 ((90 * r.val + c.val + 3) % 4) := by
  rw [nbv0]; exact and3' ⟨_, n0_lt r c⟩
theorem v1_s2 : Scalar.andi (nbv 0#32 r.val c.val) 1#32 = BitVec.ofNat 32 ((90 * r.val + c.val) % 2) := by
  rw [nbv0]; exact and1 ⟨_, n0_lt r c⟩

theorem cond1_iff : k0_cond1 i r c = 1#1 ↔ 2 ≤ 90 * r.val + c.val := by
  show condN (nbv 0#32 r.val c.val) = 1#1 ↔ _
  rw [nbv0]; exact condN_iff ⟨_, n0_lt r c⟩
theorem off11_eq : k0_off11 i r c = ![(90 * r.val + c.val) % 4] := by
  show ![(Scalar.andi (nbv 0#32 r.val c.val) 3#32).toNat] = _
  rw [v1_s4]; exact congrArg (fun x => ![x]) (sV_eq ⟨_, Nat.mod_lt _ (by decide)⟩)
theorem off15_eq : k0_off15 i r c = ![(90 * r.val + c.val + 3) % 4] := by
  show ![(Scalar.andi (Scalar.addi (nbv 0#32 r.val c.val) 3#32) 3#32).toNat] = _
  rw [v1_s4']; exact congrArg (fun x => ![x]) (sV_eq ⟨_, Nat.mod_lt _ (by decide)⟩)
theorem off19_eq : k0_off19 i r c = ![(90 * r.val + c.val) % 2] := by
  show ![(Scalar.andi (nbv 0#32 r.val c.val) 1#32).toNat] = _
  rw [v1_s2]; exact congrArg (fun x => ![x]) (sV_eq ⟨_, (Nat.mod_lt _ (by decide : 2 > 0)).trans (by decide)⟩)
theorem off26_eq : k0_off26 i r c = ![(90 * r.val + c.val) % 2] := off19_eq r c
theorem off9_eq (h : Fin 2) : k0_off9 i r c (BitVec.ofNat 32 h.val) = ![(90 * r.val + c.val) % 4 * 1024 + h.val * 512] := by
  show ![(halfV (Scalar.andi (nbv 0#32 r.val c.val) 3#32) _).toNat] = _
  rw [v1_s4]; exact congrArg (fun x => ![x]) (halfV_eq ⟨_, Nat.mod_lt _ (by decide)⟩ h)
theorem off13_eq (h : Fin 2) : k0_off13 i r c (BitVec.ofNat 32 h.val) = ![(90 * r.val + c.val + 3) % 4 * 1024 + h.val * 512] := by
  show ![(halfV (Scalar.andi (Scalar.addi (nbv 0#32 r.val c.val) 3#32) 3#32) _).toNat] = _
  rw [v1_s4']; exact congrArg (fun x => ![x]) (halfV_eq ⟨_, Nat.mod_lt _ (by decide)⟩ h)
theorem off17_eq : k0_off17 i r c = ![(90 * r.val + c.val) % 2 * 1024] := by
  show ![(slotV (Scalar.andi (nbv 0#32 r.val c.val) 1#32)).toNat] = _
  rw [v1_s2]; exact congrArg (fun x => ![x]) (slotV_eq ⟨_, (Nat.mod_lt _ (by decide : 2 > 0)).trans (by decide)⟩)
theorem off24_eq : k0_off24 i r c = ![(90 * r.val + c.val) % 2 * 1024] := off17_eq r c
theorem off20_eq (k : Fin k0_t3_loop.trips) : k0_off20 i r c k = ![(90 * r.val + c.val) % 4 * 1024 + 16 * k.val] := by
  show ![(Scalar.indexCast (lane0V (Scalar.andi (nbv 0#32 r.val c.val) 3#32) k.val)).toNat] = _
  rw [v1_s4]; exact congrArg (fun x => ![x]) (lane0V_eq ⟨_, Nat.mod_lt _ (by decide)⟩ (k3 k))
theorem off21_eq (k : Fin k0_t3_loop.trips) : k0_off21 i r c k = ![(90 * r.val + c.val) % 4 * 1024 + 512 + 16 * k.val] := by
  show ![(Scalar.indexCast (lane1V (Scalar.andi (nbv 0#32 r.val c.val) 3#32) k.val)).toNat] = _
  rw [v1_s4]; exact congrArg (fun x => ![x]) (lane1V_eq ⟨_, Nat.mod_lt _ (by decide)⟩ (k3 k))
theorem off22_eq (k : Fin k0_t3_loop.trips) : k0_off22 i r c k = ![(90 * r.val + c.val) % 2 * 1024 + 16 * k.val] := by
  show ![(Scalar.indexCast (lane0V (Scalar.andi (nbv 0#32 r.val c.val) 1#32) k.val)).toNat] = _
  rw [v1_s2]; exact congrArg (fun x => ![x]) (lane0V_eq ⟨_, (Nat.mod_lt _ (by decide : 2 > 0)).trans (by decide)⟩ (k3 k))
theorem off23_eq (k : Fin k0_t3_loop.trips) : k0_off23 i r c k = ![(90 * r.val + c.val) % 2 * 1024 + 512 + 16 * k.val] := by
  show ![(Scalar.indexCast (lane1V (Scalar.andi (nbv 0#32 r.val c.val) 1#32) k.val)).toNat] = _
  rw [v1_s2]; exact congrArg (fun x => ![x]) (lane1V_eq ⟨_, (Nat.mod_lt _ (by decide : 2 > 0)).trans (by decide)⟩ (k3 k))
end Phase0

section Phase1
variable {i : grid0.Coords} (r : Fin (k0_t1_loop i).trips) (c : Fin k0_t4_loop.trips)

theorem v2_s4 : Scalar.andi (nbv 1#32 r.val c.val) 3#32 = BitVec.ofNat 32 ((90 * r.val + 45 + c.val) % 4) := by
  rw [nbv1]; exact and3 ⟨_, n1_lt r c⟩
theorem v2_s4' : Scalar.andi (Scalar.addi (nbv 1#32 r.val c.val) 3#32) 3#32 = BitVec.ofNat 32 ((90 * r.val + 45 + c.val + 3) % 4) := by
  rw [nbv1]; exact and3' ⟨_, n1_lt r c⟩
theorem v2_s2 : Scalar.andi (nbv 1#32 r.val c.val) 1#32 = BitVec.ofNat 32 ((90 * r.val + 45 + c.val) % 2) := by
  rw [nbv1]; exact and1 ⟨_, n1_lt r c⟩

theorem cond3_iff : k0_cond3 i r c = 1#1 ↔ 2 ≤ 90 * r.val + 45 + c.val := by
  show condN (nbv 1#32 r.val c.val) = 1#1 ↔ _
  rw [nbv1]; exact condN_iff ⟨_, n1_lt r c⟩
theorem off33_eq : k0_off33 i r c = ![(90 * r.val + 45 + c.val) % 4] := by
  show ![(Scalar.andi (nbv 1#32 r.val c.val) 3#32).toNat] = _
  rw [v2_s4]; exact congrArg (fun x => ![x]) (sV_eq ⟨_, Nat.mod_lt _ (by decide)⟩)
theorem off37_eq : k0_off37 i r c = ![(90 * r.val + 45 + c.val + 3) % 4] := by
  show ![(Scalar.andi (Scalar.addi (nbv 1#32 r.val c.val) 3#32) 3#32).toNat] = _
  rw [v2_s4']; exact congrArg (fun x => ![x]) (sV_eq ⟨_, Nat.mod_lt _ (by decide)⟩)
theorem off41_eq : k0_off41 i r c = ![(90 * r.val + 45 + c.val) % 2] := by
  show ![(Scalar.andi (nbv 1#32 r.val c.val) 1#32).toNat] = _
  rw [v2_s2]; exact congrArg (fun x => ![x]) (sV_eq ⟨_, (Nat.mod_lt _ (by decide : 2 > 0)).trans (by decide)⟩)
theorem off48_eq : k0_off48 i r c = ![(90 * r.val + 45 + c.val) % 2] := off41_eq r c
theorem off31_eq (h : Fin 2) : k0_off31 i r c (BitVec.ofNat 32 h.val) = ![(90 * r.val + 45 + c.val) % 4 * 1024 + h.val * 512] := by
  show ![(halfV (Scalar.andi (nbv 1#32 r.val c.val) 3#32) _).toNat] = _
  rw [v2_s4]; exact congrArg (fun x => ![x]) (halfV_eq ⟨_, Nat.mod_lt _ (by decide)⟩ h)
theorem off35_eq (h : Fin 2) : k0_off35 i r c (BitVec.ofNat 32 h.val) = ![(90 * r.val + 45 + c.val + 3) % 4 * 1024 + h.val * 512] := by
  show ![(halfV (Scalar.andi (Scalar.addi (nbv 1#32 r.val c.val) 3#32) 3#32) _).toNat] = _
  rw [v2_s4']; exact congrArg (fun x => ![x]) (halfV_eq ⟨_, Nat.mod_lt _ (by decide)⟩ h)
theorem off39_eq : k0_off39 i r c = ![(90 * r.val + 45 + c.val) % 2 * 1024] := by
  show ![(slotV (Scalar.andi (nbv 1#32 r.val c.val) 1#32)).toNat] = _
  rw [v2_s2]; exact congrArg (fun x => ![x]) (slotV_eq ⟨_, (Nat.mod_lt _ (by decide : 2 > 0)).trans (by decide)⟩)
theorem off46_eq : k0_off46 i r c = ![(90 * r.val + 45 + c.val) % 2 * 1024] := off39_eq r c
theorem off42_eq (k : Fin k0_t5_loop.trips) : k0_off42 i r c k = ![(90 * r.val + 45 + c.val) % 4 * 1024 + 16 * k.val] := by
  show ![(Scalar.indexCast (lane0V (Scalar.andi (nbv 1#32 r.val c.val) 3#32) k.val)).toNat] = _
  rw [v2_s4]; exact congrArg (fun x => ![x]) (lane0V_eq ⟨_, Nat.mod_lt _ (by decide)⟩ (k5 k))
theorem off43_eq (k : Fin k0_t5_loop.trips) : k0_off43 i r c k = ![(90 * r.val + 45 + c.val) % 4 * 1024 + 512 + 16 * k.val] := by
  show ![(Scalar.indexCast (lane1V (Scalar.andi (nbv 1#32 r.val c.val) 3#32) k.val)).toNat] = _
  rw [v2_s4]; exact congrArg (fun x => ![x]) (lane1V_eq ⟨_, Nat.mod_lt _ (by decide)⟩ (k5 k))
theorem off44_eq (k : Fin k0_t5_loop.trips) : k0_off44 i r c k = ![(90 * r.val + 45 + c.val) % 2 * 1024 + 16 * k.val] := by
  show ![(Scalar.indexCast (lane0V (Scalar.andi (nbv 1#32 r.val c.val) 1#32) k.val)).toNat] = _
  rw [v2_s2]; exact congrArg (fun x => ![x]) (lane0V_eq ⟨_, (Nat.mod_lt _ (by decide : 2 > 0)).trans (by decide)⟩ (k5 k))
theorem off45_eq (k : Fin k0_t5_loop.trips) : k0_off45 i r c k = ![(90 * r.val + 45 + c.val) % 2 * 1024 + 512 + 16 * k.val] := by
  show ![(Scalar.indexCast (lane1V (Scalar.andi (nbv 1#32 r.val c.val) 1#32) k.val)).toNat] = _
  rw [v2_s2]; exact congrArg (fun x => ![x]) (lane1V_eq ⟨_, (Nat.mod_lt _ (by decide : 2 > 0)).trans (by decide)⟩ (k5 k))
end Phase1

end Cert.Proof.Pairs
-- ==== Proof.Ops.lean ====
/-
  The tile's transfers: each pair of copies started or waited for as one step.
-/
module

public import proofs.«01_k».proof.Proof.State
public import proofs.«01_k».proof.Proof.Arith

@[expose] public section

noncomputable section

namespace Cert.Proof.Pairs

open Cert.Kernel
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

local notation "𝕄" => MT nD τ sig (HIx 1) (Elt F) ℕ UU ℕ

variable (d : Dev nD) (i : grid0.Coords) (qi qt : PosShare TreeShare) (ft : Wds 41879552) (fi : Wds 612352)

theorem idxStart {α : Type} (k : ℕ) {o0 o1 b0 b1 : Fin 1 → ℕ} {s0 s1 : DmaSem sig} {io0 io1 ib0 ib1}
    (ho0 : o0 = ![ioff (wid i) 0 k]) (ho1 : o1 = ![ioff (wid i) 1 k])
    (hb0 : b0 = ![k % 4 * 1024 + 0 * 512]) (hb1 : b1 = ![k % 4 * 1024 + 1 * 512]) (hs0 : s0 = isem k) (hs1 : s1 = isem k)
    {h1 h2 h3 h4 h5 h6} {cont : PUnit → Prog (TpuEff nD τ sig (Elt F) Λ₀ (thr d i).2) α} {Q : α → sProp 𝕄} :
    IdxFree d i qi fi k ⊢ iprop((IdxFl d i qi fi k -∗ wp frame (wpE (defs₀ (F := F)) 𝒱₀ (thr d i) none) Set.univ (cont ⟨⟩) Q)
      -∗ wp frame (wpE (defs₀ (F := F)) 𝒱₀ (thr d i) none) Set.univ
        (.op (.enqueueDma ((Memref.whole main_arg1_scv).slice (Rect.unit (s := S612352) o0 S512.size io0) (fun _ => rfl))
            (.here ((Memref.whole cc0_scratch4).slice (Rect.unit (s := S4096) b0 S512.size ib0) (fun _ => rfl))) (.dma s0) h1 h2 h3)
          fun _ => .op (.enqueueDma ((Memref.whole main_arg1_scv).slice (Rect.unit (s := S612352) o1 S512.size io1) (fun _ => rfl))
            (.here ((Memref.whole cc0_scratch4).slice (Rect.unit (s := S4096) b1 S512.size ib1) (fun _ => rfl))) (.dma s1) h4 h5 h6)
          cont) Q) := by
  subst ho0 ho1 hb0 hb1 hs0 hs1
  have hj0 : 0 < 2 := by decide
  have hj1 : 1 < 2 := by decide
  have hD0 : iprop(((ibW _ ib0).view.loc (thr d i) ↦[(ibW _ ib0).view.set]{fullShare} ibS fi (wid i) k)
      ∗ ((ixW _ io0).view.loc (thr d i) ↦[(ixW _ io0).view.set]{shareTokN qi (2 * (k % 4) + 0)} fi)) ⊢ (DI d i qi fi k ⟨0, hj0⟩ : sProp 𝕄) := by
    rw [ixW_set, ibW_set]; exact .rfl
  have hD1 : iprop(((ibW _ ib1).view.loc (thr d i) ↦[(ibW _ ib1).view.set]{fullShare} ibS fi (wid i) k)
      ∗ ((ixW _ io1).view.loc (thr d i) ↦[(ixW _ io1).view.set]{shareTokN qi (2 * (k % 4) + 1)} fi)) ⊢ (DI d i qi fi k ⟨1, hj1⟩ : sProp 𝕄) := by
    rw [ixW_set, ibW_set]; exact .rfl
  unfold IdxFree
  iintro ⟨Hs, Ht0, Ht1, ⟨%f0, Hb0⟩, ⟨%f1, Hb1⟩⟩ Hk
  imod (batch_alloc' EC (thr d i) (none : HIx 1) NI (DI d i qi fi k) (sm := .dma (isem k)) (E := Set.univ)) $$ Hs with HB
  ihave H0 := (pointsTo_split_subset (I := seg 612352 (ioff (wid i) 0 k) 512) (Finset.subset_univ _)).1 $$ Ht0
  icases H0 with ⟨Ha0, Hr0⟩
  ihave H1 := (pointsTo_split_subset (I := seg 612352 (ioff (wid i) 1 k) 512) (Finset.subset_univ _)).1 $$ Ht1
  icases H1 with ⟨Ha1, Hr1⟩
  ihave Ha0' := (Entails.of_eq (congrArg (fun S => (iL d i ↦[S]{shareTokN qi (2 * (k % 4) + 0)} fi : sProp 𝕄)) (ixW_set _ io0).symm)) $$ Ha0
  ihave Hb0' := (Entails.of_eq (congrArg (fun S => (ibL d i ↦[S]{fullShare} f0 : sProp 𝕄)) (ibW_set _ ib0).symm)) $$ Hb0
  iapply (wp_copy (c := thr d i) (src := ixW _ io0) (dst := ibW _ ib0) (fs := fi) (fd := f0) (g := ibS fi (wid i) k) (D := DI d i qi fi k) (none : HIx 1)
    (N := NI) (j := 0) (u := 0) rfl hj0 (Nat.zero_le _) hD0 (idx_copy_val i fi k 0 hj0 ib0 io0)) $$ [Ha0' Hb0' HB]
  · isplitl [Ha0']; · iexact Ha0'
    isplitl [Hb0']; · iexact Hb0'
    iexact HB
  iintro HB
  ihave Ha1' := (Entails.of_eq (congrArg (fun S => (iL d i ↦[S]{shareTokN qi (2 * (k % 4) + 1)} fi : sProp 𝕄)) (ixW_set _ io1).symm)) $$ Ha1
  ihave Hb1' := (Entails.of_eq (congrArg (fun S => (ibL d i ↦[S]{fullShare} f1 : sProp 𝕄)) (ibW_set _ ib1).symm)) $$ Hb1
  iapply (wp_copy (c := thr d i) (src := ixW _ io1) (dst := ibW _ ib1) (fs := fi) (fd := f1) (g := ibS fi (wid i) k) (D := DI d i qi fi k) (none : HIx 1)
    (N := NI) (j := 1) (u := 0) rfl hj1 (Nat.zero_le _) hD1 (idx_copy_val i fi k 1 hj1 ib1 io1)) $$ [Ha1' Hb1' HB]
  · isplitl [Ha1']; · iexact Ha1'
    isplitl [Hb1']; · iexact Hb1'
    iexact HB
  iintro HB
  iapply Hk
  unfold IdxFl
  isplitl [HB]; · iexact HB
  isplitl [Hr0]; · iexact Hr0
  iexact Hr1

theorem big2 (D : Fin 2 → sProp 𝕄) : bigSep Finset.univ D = iprop(D 0 ∗ D 1) := by
  rw [bigSep_pending_zero, bigSep_pending_step _ 0 (by decide), bigSep_pending_last _ 1 (by decide) rfl]; rfl
/-- The two waits of a batch of two copies. -/
theorem wait2 {α : Type} {sm s0 s1 : DmaSem sig} (hs0 : s0 = sm) (hs1 : s1 = sm) {N : ℕ} (hN0 : 0 < N) {D : Fin 2 → sProp 𝕄} {O W}
    {spa spb spc spd : Space} {sa sb sc sd : Shape} {ea eb ec ed : EltTy} {ka kb : Kind}
    {w0 : Memref sig .scVector spa sa ea} {w1 : Memref sig .scVector spb sb eb} {d0 : Memref sig ka spc sc ec} {d1 : Memref sig kb spd sd ed}
    (hN1 : d0.view.dmaCredit = N) (hN2 : d1.view.dmaCredit = N)
    {h1 h2 h3 h4} {cont : PUnit → Prog (TpuEff nD τ sig (Elt F) Λ₀ (thr d i).2) α} {Q : α → sProp 𝕄} :
    iprop(Batch EC (thr d i) (.dma sm) (none : HIx 1) N D 2 0 ∗ Ow d i O W ∗ MayWaits (thr d i) (none : HIx 1) O)
      ⊢ iprop((iprop(semVal (thr d i, SemLoc.dma sm) 0 ∗ D 0 ∗ D 1 ∗ Ow d i O W) -∗ wp frame (wpE (defs₀ (F := F)) 𝒱₀ (thr d i) none) Set.univ (cont ⟨⟩) Q)
      -∗ wp frame (wpE (defs₀ (F := F)) 𝒱₀ (thr d i) none) Set.univ
        (.op (.waitDma2 s0 w0 d0 h1 h2) fun _ => .op (.waitDma2 s1 w1 d1 h3 h4) cont) Q) := by
  subst hs0 hs1
  unfold Ow
  have hu0 : 0 + N < N * 2 := by omega
  have hu1 : 0 + N + N = N * 2 := by omega
  iintro ⟨HB, ⟨%W', %hW, HO⟩, #Hm⟩ Hk
  ihave Hm1 := (MayWaits.elim (SemLoc.dma s1)) $$ Hm
  iapply (wp_waitBatchO EC 𝒱₀ (thr d i) none (none : HIx 1) hN1 (n := 2) (D := D) (u := 0) hu0) $$ [HB HO Hm1]
  · isplitl [HB]; · iexact HB
    isplitl [HO]; · iexact HO
    iexact Hm1
  iintro ⟨HB, HO⟩
  ihave Hm2 := (MayWaits.elim (SemLoc.dma s1)) $$ Hm
  iapply (wp_waitBatchLastO EC 𝒱₀ (thr d i) none (none : HIx 1) hN2 hN0 (n := 2) (D := D) (u := 0 + N) hu1) $$ [HB HO Hm2]
  · isplitl [HB]; · iexact HB
    isplitl [HO]; · iexact HO
    iexact Hm2
  iintro ⟨HD, Hs, HO⟩
  ihave HD' := (Entails.of_eq (big2 D)) $$ HD
  icases HD' with ⟨HD0, HD1⟩
  iapply Hk
  isplitl [Hs]; · iexact Hs
  isplitl [HD0]; · iexact HD0
  isplitl [HD1]; · iexact HD1
  iexists _
  isplitr [HO]; rotate_left; · iexact HO
  ipureintro
  intro p hp
  rcases Finset.mem_insert.1 hp with rfl | hp
  · exact .inr rfl
  rcases Finset.mem_insert.1 hp with rfl | hp
  · exact .inr rfl
  exact hW p hp

theorem ix_join (k h : ℕ) : iprop(ixP (F := F) d i qi fi k h ∗ ixR d i qi fi k h) ⊢ (ixT d i qi fi k h : sProp 𝕄) :=
  (pointsTo_split_subset (Finset.subset_univ _)).2

theorem idxFinish {α : Type} (k : ℕ) {b0 b1 : Fin 1 → ℕ} {s0 s1 : DmaSem sig} {ib0 ib1} (hs0 : s0 = isem k) (hs1 : s1 = isem k)
    {spa spb : Space} {sa sb : Shape} {ea eb : EltTy} {w0 : Memref sig .scVector spa sa ea} {w1 : Memref sig .scVector spb sb eb} {O W}
    {h1 h2 h3 h4} {cont : PUnit → Prog (TpuEff nD τ sig (Elt F) Λ₀ (thr d i).2) α} {Q : α → sProp 𝕄} :
    iprop(IdxFl d i qi fi k ∗ Ow d i O W ∗ MayWaits (thr d i) (none : HIx 1) O)
      ⊢ iprop((iprop(IdxRdy d i qi fi k ∗ Ow d i O W) -∗ wp frame (wpE (defs₀ (F := F)) 𝒱₀ (thr d i) none) Set.univ (cont ⟨⟩) Q)
      -∗ wp frame (wpE (defs₀ (F := F)) 𝒱₀ (thr d i) none) Set.univ
        (.op (.waitDma2 s0 w0 ((Memref.whole cc0_scratch4).slice (Rect.unit (s := S4096) b0 S512.size ib0) (fun _ => rfl)) h1 h2)
          fun _ => .op (.waitDma2 s1 w1 ((Memref.whole cc0_scratch4).slice (Rect.unit (s := S4096) b1 S512.size ib1) (fun _ => rfl)) h3 h4) cont) Q) := by
  unfold IdxFl
  iintro ⟨⟨HB, Hr0, Hr1⟩, HO, #Hm⟩ Hk
  iapply (wait2 d i hs0 hs1 NI_pos (D := DI d i qi fi k) (d0 := (Memref.whole cc0_scratch4).slice (Rect.unit (s := S4096) b0 S512.size ib0) (fun _ => rfl)) (d1 := (Memref.whole cc0_scratch4).slice (Rect.unit (s := S4096) b1 S512.size ib1) (fun _ => rfl)) (h1 := h1) (h2 := h2) (h3 := h3) (h4 := h4) rfl rfl) $$ [HB HO]
  · isplitl [HB]; · iexact HB
    isplitl [HO]; · iexact HO
    iexact Hm
  unfold DI
  iintro ⟨Hs, ⟨Hb0, Hx0⟩, ⟨Hb1, Hx1⟩, HO⟩
  iapply Hk
  isplitr [HO]; rotate_left; · iexact HO
  unfold IdxRdy
  isplitl [Hs]; · iexact Hs
  isplitl [Hx0 Hr0]
  · iapply (ix_join d i qi fi k 0); isplitl [Hx0]; · iexact Hx0
    iexact Hr0
  isplitl [Hx1 Hr1]
  · iapply (ix_join d i qi fi k 1); isplitl [Hx1]; · iexact Hx1
    iexact Hr1
  isplitl [Hb0]; · iexact Hb0
  iexact Hb1

theorem outStart {α : Type} (k : ℕ) (hk : k < 90 * nv (wid i)) (fo : Wds 29952000) {o b : Fin 1 → ℕ} {s0 : DmaSem sig} {io ib}
    (ho : o = ![ooff (wid i) k]) (hb : b = ![k % 2 * 1024]) (hs0 : s0 = osem k)
    {h1 h2 h3} {cont : PUnit → Prog (TpuEff nD τ sig (Elt F) Λ₀ (thr d i).2) α} {Q : α → sProp 𝕄} :
    iprop(OutRdy d i ft fi k ∗ ouP d i (todoS (wid i) k) fo)
      ⊢ iprop((iprop(OutFl d i ft fi k ∗ ouP d i (todoS (wid i) (k + 1)) fo) -∗ wp frame (wpE (defs₀ (F := F)) 𝒱₀ (thr d i) none) Set.univ (cont ⟨⟩) Q)
      -∗ wp frame (wpE (defs₀ (F := F)) 𝒱₀ (thr d i) none) Set.univ
        (.op (.enqueueDma ((Memref.whole cc0_scratch5).slice (Rect.unit (s := S2048) b S1024.size ib) (fun _ => rfl))
            (.here ((Memref.whole main_v0_scv).slice (Rect.unit (s := S29952000) o S1024.size io) (fun _ => rfl))) (.dma s0) h1 h2 h3) cont) Q) := by
  subst ho hb hs0
  have hj0 : 0 < 1 := by decide
  have hD0 : iprop(((ouW _ io).view.loc (thr d i) ↦[(ouW _ io).view.set]{fullShare} G ft fi)
      ∗ ((obW _ ib).view.loc (thr d i) ↦[(obW _ ib).view.set]{fullShare} obS ft fi (wid i) k)) ⊢ (DO d i ft fi k ⟨0, hj0⟩ : sProp 𝕄) := by
    rw [ouW_set, obW_set]; exact .rfl
  unfold OutRdy
  iintro ⟨⟨Hs, Hb⟩, Ho⟩ Hk
  imod (batch_alloc' EC (thr d i) (none : HIx 1) NO (DO d i ft fi k) (sm := .dma (osem k)) (E := Set.univ)) $$ Hs with HB
  ihave H0 := (pointsTo_split_subset (seg_todo (wid i) k (wid_lt i) hk)).1 $$ Ho
  icases H0 with ⟨Ha, Hr⟩
  ihave Ha' := (Entails.of_eq (congrArg (fun S => (oL d i ↦[S]{fullShare} fo : sProp 𝕄)) (ouW_set _ io).symm)) $$ Ha
  ihave Hb' := (Entails.of_eq (congrArg (fun S => (obL d i ↦[S]{fullShare} obS ft fi (wid i) k : sProp 𝕄)) (obW_set _ ib).symm)) $$ Hb
  iapply (wp_copy (c := thr d i) (src := obW _ ib) (dst := ouW _ io) (fs := obS ft fi (wid i) k) (fd := fo) (g := G ft fi) (D := DO d i ft fi k) (none : HIx 1)
    (N := NO) (j := 0) (u := 0) rfl hj0 (Nat.zero_le _) hD0 (out_copy_val i ft fi k ib io)) $$ [Ha' Hb' HB]
  · isplitl [Hb']; · iexact Hb'
    isplitl [Ha']; · iexact Ha'
    iexact HB
  iintro HB
  iapply Hk
  unfold OutFl
  isplitl [HB]; · iexact HB
  rw [todo_sdiff (wid i) k (wid_lt i) hk]
  iexact Hr

theorem big1 (D : Fin 1 → sProp 𝕄) : bigSep Finset.univ D = D 0 := by
  rw [bigSep_pending_zero, bigSep_pending_last _ 0 (by decide) rfl]; rfl

theorem outFinish {α : Type} (k : ℕ) (hk : k < 90 * nv (wid i)) {o : Fin 1 → ℕ} {s0 : DmaSem sig} {io} (hs0 : s0 = osem k)
    {spa : Space} {sa : Shape} {ea : EltTy} {w0 : Memref sig .scVector spa sa ea} {O W}
    {h1 h2} {cont : PUnit → Prog (TpuEff nD τ sig (Elt F) Λ₀ (thr d i).2) α} {Q : α → sProp 𝕄} :
    iprop(OutFl d i ft fi k ∗ ouP d i (doneS (wid i) k) (G ft fi) ∗ Ow d i O W ∗ MayWaits (thr d i) (none : HIx 1) O)
      ⊢ iprop((iprop(OutRdy d i ft fi k ∗ ouP d i (doneS (wid i) (k + 1)) (G ft fi) ∗ Ow d i O W)
          -∗ wp frame (wpE (defs₀ (F := F)) 𝒱₀ (thr d i) none) Set.univ (cont ⟨⟩) Q)
      -∗ wp frame (wpE (defs₀ (F := F)) 𝒱₀ (thr d i) none) Set.univ
        (.op (.waitDma2 s0 w0 ((Memref.whole main_v0_scv).slice (Rect.unit (s := S29952000) o S1024.size io) (fun _ => rfl)) h1 h2) cont) Q) := by
  subst hs0
  have hu1 : 0 + NO = NO * 1 := by omega
  unfold OutFl Ow
  iintro ⟨HB, Hd, ⟨%W', %hW, HO⟩, #Hm⟩ Hk
  ihave Hm2 := (MayWaits.elim (SemLoc.dma (osem k))) $$ Hm
  iapply (wp_waitBatchLastO EC 𝒱₀ (thr d i) none (none : HIx 1) (N := NO) (hsrc := h1) (hdst := h2) rfl NO_pos (n := 1) (D := DO d i ft fi k) (u := 0) hu1) $$ [HB HO Hm2]
  · isplitl [HB]; · iexact HB
    isplitl [HO]; · iexact HO
    iexact Hm2
  iintro ⟨HD, Hs, HO⟩
  ihave HD' := (Entails.of_eq (big1 (DO d i ft fi k))) $$ HD
  unfold DO
  icases HD' with ⟨Ho, Hb⟩
  iapply Hk
  unfold OutRdy
  isplitl [Hs Hb]
  · isplitl [Hs]; · iexact Hs
    iexact Hb
  isplitl [Hd Ho]
  · rw [← done_union (wid i) k (wid_lt i) hk]
    iapply (pointsTo_union (done_disj (wid i) k (wid_lt i) hk)).2
    isplitl [Hd]; · iexact Hd
    iexact Ho
  iexists _
  isplitr [HO]; rotate_left; · iexact HO
  ipureintro
  intro p hp
  rcases Finset.mem_insert.1 hp with rfl | hp
  · exact .inr rfl
  exact hW p hp

theorem tabStart0 {α : Type} (p : ℕ) {o0 o1 : Fin 1 → ℕ} {s0 s1 : DmaSem sig} {io0 io1}
    (ho0 : o0 = ![toff 0 0 p]) (ho1 : o1 = ![toff 1 0 p]) (hs0 : s0 = tsem 0) (hs1 : s1 = tsem 0)
    {h1 h2 h3 h4 h5 h6} {cont : PUnit → Prog (TpuEff nD τ sig (Elt F) Λ₀ (thr d i).2) α} {Q : α → sProp 𝕄} :
    TabFree0 d i qt ft ⊢ iprop((TabFl0 d i qt ft p -∗ wp frame (wpE (defs₀ (F := F)) 𝒱₀ (thr d i) none) Set.univ (cont ⟨⟩) Q)
      -∗ wp frame (wpE (defs₀ (F := F)) 𝒱₀ (thr d i) none) Set.univ
        (.op (.enqueueDma ((Memref.whole main_arg0_scv).slice (Rect.unit (s := S41879552) o0 S36864.size io0) (fun _ => rfl))
            (.here (Memref.whole cc0_scratch0)) (.dma s0) h1 h2 h3)
          fun _ => .op (.enqueueDma ((Memref.whole main_arg0_scv).slice (Rect.unit (s := S41879552) o1 S36864.size io1) (fun _ => rfl))
            (.here (Memref.whole cc0_scratch1)) (.dma s1) h4 h5 h6)
          cont) Q) := by
  subst ho0 ho1 hs0 hs1
  have hj0 : 0 < 2 := by decide
  have hj1 : 1 < 2 := by decide
  have hw0 : (Memref.whole cc0_scratch0).view.set = Finset.univ := View.set_whole _
  have hw1 : (Memref.whole cc0_scratch1).view.set = Finset.univ := View.set_whole _
  have hD0 : iprop(((Memref.whole cc0_scratch0).view.loc (thr d i) ↦[(Memref.whole cc0_scratch0).view.set]{fullShare} tbS 36864 ft 0 0 p)
      ∗ ((ttW0 _ io0).view.loc (thr d i) ↦[(ttW0 _ io0).view.set]{shareTokN qt (0 + 0)} ft)) ⊢ (DT0 d i qt ft p ⟨0, hj0⟩ : sProp 𝕄) := by
    rw [ttW0_set, hw0]; exact .rfl
  have hD1 : iprop(((Memref.whole cc0_scratch1).view.loc (thr d i) ↦[(Memref.whole cc0_scratch1).view.set]{fullShare} tbS 36864 ft 1 0 p)
      ∗ ((ttW0 _ io1).view.loc (thr d i) ↦[(ttW0 _ io1).view.set]{shareTokN qt (0 + 1)} ft)) ⊢ (DT0 d i qt ft p ⟨1, hj1⟩ : sProp 𝕄) := by
    rw [ttW0_set, hw1]; exact .rfl
  unfold TabFree0
  iintro ⟨Hs, Ht0, Ht1, ⟨%f0, Hb0⟩, ⟨%f1, Hb1⟩⟩ Hk
  imod (batch_alloc' EC (thr d i) (none : HIx 1) NT0 (DT0 d i qt ft p) (sm := .dma (tsem 0)) (E := Set.univ)) $$ Hs with HB
  ihave H0 := (pointsTo_split_subset (I := seg 41879552 (toff 0 0 p) 36864) (Finset.subset_univ _)).1 $$ Ht0
  icases H0 with ⟨Ha0, Hr0⟩
  ihave H1 := (pointsTo_split_subset (I := seg 41879552 (toff 1 0 p) 36864) (Finset.subset_univ _)).1 $$ Ht1
  icases H1 with ⟨Ha1, Hr1⟩
  ihave Ha0' := (Entails.of_eq (congrArg (fun S => (tL d i ↦[S]{shareTokN qt (0 + 0)} ft : sProp 𝕄)) (ttW0_set _ io0).symm)) $$ Ha0
  ihave Hb0' := (Entails.of_eq (congrArg (fun S => (taL0 d i ↦[S]{fullShare} f0 : sProp 𝕄)) hw0.symm)) $$ Hb0
  iapply (wp_copy (c := thr d i) (src := ttW0 _ io0) (dst := Memref.whole cc0_scratch0) (fs := ft) (fd := f0) (g := tbS 36864 ft 0 0 p) (D := DT0 d i qt ft p) (none : HIx 1)
    (N := NT0) (j := 0) (u := 0) rfl hj0 (Nat.zero_le _) hD0 (tab_val0 ft 0 p io0)) $$ [Ha0' Hb0' HB]
  · isplitl [Ha0']; · iexact Ha0'
    isplitl [Hb0']; · iexact Hb0'
    iexact HB
  iintro HB
  ihave Ha1' := (Entails.of_eq (congrArg (fun S => (tL d i ↦[S]{shareTokN qt (0 + 1)} ft : sProp 𝕄)) (ttW0_set _ io1).symm)) $$ Ha1
  ihave Hb1' := (Entails.of_eq (congrArg (fun S => (tbL0 d i ↦[S]{fullShare} f1 : sProp 𝕄)) hw1.symm)) $$ Hb1
  iapply (wp_copy (c := thr d i) (src := ttW0 _ io1) (dst := Memref.whole cc0_scratch1) (fs := ft) (fd := f1) (g := tbS 36864 ft 1 0 p) (D := DT0 d i qt ft p) (none : HIx 1)
    (N := NT0) (j := 1) (u := 0) (sm := .dma (tsem 0)) (show View.amount (Memref.whole cc0_scratch1).view (.dma (tsem 0)) = NT0 from NT0_b) hj1 (Nat.zero_le _) hD1 (tab_val0 ft 1 p io1)) $$ [Ha1' Hb1' HB]
  · isplitl [Ha1']; · iexact Ha1'
    isplitl [Hb1']; · iexact Hb1'
    iexact HB
  iintro HB
  iapply Hk
  unfold TabFl0
  isplitl [HB]; · iexact HB
  isplitl [Hr0]; · iexact Hr0
  iexact Hr1

theorem tt_join0 (p h : ℕ) : iprop(ttP0 (F := F) d i qt ft p h ∗ ttR0 d i qt ft p h) ⊢ (ttT0 d i qt ft h : sProp 𝕄) :=
  (pointsTo_split_subset (Finset.subset_univ _)).2

theorem tabFinish0 {α : Type} (p : ℕ) {s0 s1 : DmaSem sig} (hs0 : s0 = tsem 0) (hs1 : s1 = tsem 0)
    {spa spb : Space} {sa sb : Shape} {ea eb : EltTy} {w0 : Memref sig .scVector spa sa ea} {w1 : Memref sig .scVector spb sb eb} {O W}
    {h1 h2 h3 h4} {cont : PUnit → Prog (TpuEff nD τ sig (Elt F) Λ₀ (thr d i).2) α} {Q : α → sProp 𝕄} :
    iprop(TabFl0 d i qt ft p ∗ Ow d i O W ∗ MayWaits (thr d i) (none : HIx 1) O)
      ⊢ iprop((iprop(TabRdy0 d i qt ft p ∗ Ow d i O W) -∗ wp frame (wpE (defs₀ (F := F)) 𝒱₀ (thr d i) none) Set.univ (cont ⟨⟩) Q)
      -∗ wp frame (wpE (defs₀ (F := F)) 𝒱₀ (thr d i) none) Set.univ
        (.op (.waitDma2 s0 w0 (Memref.whole cc0_scratch0) h1 h2)
          fun _ => .op (.waitDma2 s1 w1 (Memref.whole cc0_scratch1) h3 h4) cont) Q) := by
  unfold TabFl0
  iintro ⟨⟨HB, Hr0, Hr1⟩, HO, #Hm⟩ Hk
  iapply (wait2 d i hs0 hs1 NT0_pos (D := DT0 d i qt ft p) (h1 := h1) (h2 := h2) (h3 := h3) (h4 := h4) rfl NT0_b) $$ [HB HO]
  · isplitl [HB]; · iexact HB
    isplitl [HO]; · iexact HO
    iexact Hm
  iintro ⟨Hs, HD0, HD1, HO⟩
  ihave HE0 := (show DT0 d i qt ft p 0 ⊢ (iprop(taP0 d i (tbS 36864 ft 0 0 p) ∗ ttP0 d i qt ft p 0) : sProp 𝕄) from .rfl) $$ HD0
  icases HE0 with ⟨Hb0, Hx0⟩
  ihave HE1 := (show DT0 d i qt ft p 1 ⊢ (iprop(tbP0 d i (tbS 36864 ft 1 0 p) ∗ ttP0 d i qt ft p 1) : sProp 𝕄) from .rfl) $$ HD1
  icases HE1 with ⟨Hb1, Hx1⟩
  iapply Hk
  isplitr [HO]; rotate_left; · iexact HO
  unfold TabRdy0
  isplitl [Hs]; · iexact Hs
  isplitl [Hx0 Hr0]
  · iapply (tt_join0 d i qt ft p 0); isplitl [Hx0]; · iexact Hx0
    iexact Hr0
  isplitl [Hx1 Hr1]
  · iapply (tt_join0 d i qt ft p 1); isplitl [Hx1]; · iexact Hx1
    iexact Hr1
  isplitl [Hb0]; · iexact Hb0
  iexact Hb1

theorem tabStart1 {α : Type} (p : ℕ) {o0 o1 : Fin 1 → ℕ} {s0 s1 : DmaSem sig} {io0 io1}
    (ho0 : o0 = ![toff 0 1 p]) (ho1 : o1 = ![toff 1 1 p]) (hs0 : s0 = tsem 1) (hs1 : s1 = tsem 1)
    {h1 h2 h3 h4 h5 h6} {cont : PUnit → Prog (TpuEff nD τ sig (Elt F) Λ₀ (thr d i).2) α} {Q : α → sProp 𝕄} :
    TabFree1 d i qt ft ⊢ iprop((TabFl1 d i qt ft p -∗ wp frame (wpE (defs₀ (F := F)) 𝒱₀ (thr d i) none) Set.univ (cont ⟨⟩) Q)
      -∗ wp frame (wpE (defs₀ (F := F)) 𝒱₀ (thr d i) none) Set.univ
        (.op (.enqueueDma ((Memref.whole main_arg0_scv).slice (Rect.unit (s := S41879552) o0 S24576.size io0) (fun _ => rfl))
            (.here (Memref.whole cc0_scratch2)) (.dma s0) h1 h2 h3)
          fun _ => .op (.enqueueDma ((Memref.whole main_arg0_scv).slice (Rect.unit (s := S41879552) o1 S24576.size io1) (fun _ => rfl))
            (.here (Memref.whole cc0_scratch3)) (.dma s1) h4 h5 h6)
          cont) Q) := by
  subst ho0 ho1 hs0 hs1
  have hj0 : 0 < 2 := by decide
  have hj1 : 1 < 2 := by decide
  have hw0 : (Memref.whole cc0_scratch2).view.set = Finset.univ := View.set_whole _
  have hw1 : (Memref.whole cc0_scratch3).view.set = Finset.univ := View.set_whole _
  have hD0 : iprop(((Memref.whole cc0_scratch2).view.loc (thr d i) ↦[(Memref.whole cc0_scratch2).view.set]{fullShare} tbS 24576 ft 0 1 p)
      ∗ ((ttW1 _ io0).view.loc (thr d i) ↦[(ttW1 _ io0).view.set]{shareTokN qt (2 + 0)} ft)) ⊢ (DT1 d i qt ft p ⟨0, hj0⟩ : sProp 𝕄) := by
    rw [ttW1_set, hw0]; exact .rfl
  have hD1 : iprop(((Memref.whole cc0_scratch3).view.loc (thr d i) ↦[(Memref.whole cc0_scratch3).view.set]{fullShare} tbS 24576 ft 1 1 p)
      ∗ ((ttW1 _ io1).view.loc (thr d i) ↦[(ttW1 _ io1).view.set]{shareTokN qt (2 + 1)} ft)) ⊢ (DT1 d i qt ft p ⟨1, hj1⟩ : sProp 𝕄) := by
    rw [ttW1_set, hw1]; exact .rfl
  unfold TabFree1
  iintro ⟨Hs, Ht0, Ht1, ⟨%f0, Hb0⟩, ⟨%f1, Hb1⟩⟩ Hk
  imod (batch_alloc' EC (thr d i) (none : HIx 1) NT1 (DT1 d i qt ft p) (sm := .dma (tsem 1)) (E := Set.univ)) $$ Hs with HB
  ihave H0 := (pointsTo_split_subset (I := seg 41879552 (toff 0 1 p) 24576) (Finset.subset_univ _)).1 $$ Ht0
  icases H0 with ⟨Ha0, Hr0⟩
  ihave H1 := (pointsTo_split_subset (I := seg 41879552 (toff 1 1 p) 24576) (Finset.subset_univ _)).1 $$ Ht1
  icases H1 with ⟨Ha1, Hr1⟩
  ihave Ha0' := (Entails.of_eq (congrArg (fun S => (tL d i ↦[S]{shareTokN qt (2 + 0)} ft : sProp 𝕄)) (ttW1_set _ io0).symm)) $$ Ha0
  ihave Hb0' := (Entails.of_eq (congrArg (fun S => (taL1 d i ↦[S]{fullShare} f0 : sProp 𝕄)) hw0.symm)) $$ Hb0
  iapply (wp_copy (c := thr d i) (src := ttW1 _ io0) (dst := Memref.whole cc0_scratch2) (fs := ft) (fd := f0) (g := tbS 24576 ft 0 1 p) (D := DT1 d i qt ft p) (none : HIx 1)
    (N := NT1) (j := 0) (u := 0) rfl hj0 (Nat.zero_le _) hD0 (tab_val1 ft 0 p io0)) $$ [Ha0' Hb0' HB]
  · isplitl [Ha0']; · iexact Ha0'
    isplitl [Hb0']; · iexact Hb0'
    iexact HB
  iintro HB
  ihave Ha1' := (Entails.of_eq (congrArg (fun S => (tL d i ↦[S]{shareTokN qt (2 + 1)} ft : sProp 𝕄)) (ttW1_set _ io1).symm)) $$ Ha1
  ihave Hb1' := (Entails.of_eq (congrArg (fun S => (tbL1 d i ↦[S]{fullShare} f1 : sProp 𝕄)) hw1.symm)) $$ Hb1
  iapply (wp_copy (c := thr d i) (src := ttW1 _ io1) (dst := Memref.whole cc0_scratch3) (fs := ft) (fd := f1) (g := tbS 24576 ft 1 1 p) (D := DT1 d i qt ft p) (none : HIx 1)
    (N := NT1) (j := 1) (u := 0) (sm := .dma (tsem 1)) (show View.amount (Memref.whole cc0_scratch3).view (.dma (tsem 1)) = NT1 from NT1_b) hj1 (Nat.zero_le _) hD1 (tab_val1 ft 1 p io1)) $$ [Ha1' Hb1' HB]
  · isplitl [Ha1']; · iexact Ha1'
    isplitl [Hb1']; · iexact Hb1'
    iexact HB
  iintro HB
  iapply Hk
  unfold TabFl1
  isplitl [HB]; · iexact HB
  isplitl [Hr0]; · iexact Hr0
  iexact Hr1

theorem tt_join1 (p h : ℕ) : iprop(ttP1 (F := F) d i qt ft p h ∗ ttR1 d i qt ft p h) ⊢ (ttT1 d i qt ft h : sProp 𝕄) :=
  (pointsTo_split_subset (Finset.subset_univ _)).2

theorem tabFinish1 {α : Type} (p : ℕ) {s0 s1 : DmaSem sig} (hs0 : s0 = tsem 1) (hs1 : s1 = tsem 1)
    {spa spb : Space} {sa sb : Shape} {ea eb : EltTy} {w0 : Memref sig .scVector spa sa ea} {w1 : Memref sig .scVector spb sb eb} {O W}
    {h1 h2 h3 h4} {cont : PUnit → Prog (TpuEff nD τ sig (Elt F) Λ₀ (thr d i).2) α} {Q : α → sProp 𝕄} :
    iprop(TabFl1 d i qt ft p ∗ Ow d i O W ∗ MayWaits (thr d i) (none : HIx 1) O)
      ⊢ iprop((iprop(TabRdy1 d i qt ft p ∗ Ow d i O W) -∗ wp frame (wpE (defs₀ (F := F)) 𝒱₀ (thr d i) none) Set.univ (cont ⟨⟩) Q)
      -∗ wp frame (wpE (defs₀ (F := F)) 𝒱₀ (thr d i) none) Set.univ
        (.op (.waitDma2 s0 w0 (Memref.whole cc0_scratch2) h1 h2)
          fun _ => .op (.waitDma2 s1 w1 (Memref.whole cc0_scratch3) h3 h4) cont) Q) := by
  unfold TabFl1
  iintro ⟨⟨HB, Hr0, Hr1⟩, HO, #Hm⟩ Hk
  iapply (wait2 d i hs0 hs1 NT1_pos (D := DT1 d i qt ft p) (h1 := h1) (h2 := h2) (h3 := h3) (h4 := h4) rfl NT1_b) $$ [HB HO]
  · isplitl [HB]; · iexact HB
    isplitl [HO]; · iexact HO
    iexact Hm
  iintro ⟨Hs, HD0, HD1, HO⟩
  ihave HE0 := (show DT1 d i qt ft p 0 ⊢ (iprop(taP1 d i (tbS 24576 ft 0 1 p) ∗ ttP1 d i qt ft p 0) : sProp 𝕄) from .rfl) $$ HD0
  icases HE0 with ⟨Hb0, Hx0⟩
  ihave HE1 := (show DT1 d i qt ft p 1 ⊢ (iprop(tbP1 d i (tbS 24576 ft 1 1 p) ∗ ttP1 d i qt ft p 1) : sProp 𝕄) from .rfl) $$ HD1
  icases HE1 with ⟨Hb1, Hx1⟩
  iapply Hk
  isplitr [HO]; rotate_left; · iexact HO
  unfold TabRdy1
  isplitl [Hs]; · iexact Hs
  isplitl [Hx0 Hr0]
  · iapply (tt_join1 d i qt ft p 0); isplitl [Hx0]; · iexact Hx0
    iexact Hr0
  isplitl [Hx1 Hr1]
  · iapply (tt_join1 d i qt ft p 1); isplitl [Hx1]; · iexact Hx1
    iexact Hr1
  isplitl [Hb0]; · iexact Hb0
  iexact Hb1

end Cert.Proof.Pairs
end
-- ==== Proof.Skel.lean ====
/-
  The memory operations of the kernel's function over named values. Each part of the printed function is, by definitional unfolding, the sequence of
  its loads, stores, gathers, copies and waits, over the pure values that they read: the definitions `k0_pay…` say what those values are.
-/
module

public import proofs.«01_k».proof.Kernel

@[expose] public section

set_option synthInstance.maxSize 4096

noncomputable section

namespace Cert.Proof.Pairs

open Cert.Kernel Idealize.ShloMosaic Idealize.SL.Sem Facts₀ Facts

variable {F : FTy → Type} [FloatOps F] [Facts]

noncomputable def k0_pay1 (v548 : Vec F S16 .i32) : IVec S16 32 :=
  have v553 : IVec S16 32 := broadcast S16 65535#32
  have v554 : IVec S16 32 := andi v548 v553
  v554

noncomputable def k0_pay2 (v552 : Vec F S16 .i32) : IVec S16 32 :=
  have v555 : IVec S16 32 := broadcast S16 65535#32
  have v556 : IVec S16 32 := andi v552 v555
  v556

noncomputable def k0_pay3 (v558 : Vec F S16 .i32) : IVec S16 32 :=
  have v561 : IVec S16 32 := broadcast S16 24#32
  have v562 : IVec S16 32 := shli v558 v561
  have v563 : IVec S16 32 := broadcast S16 24#32
  have v564 : IVec S16 32 := shrsi v562 v563
  v564

noncomputable def k0_pay4 (v558 : Vec F S16 .i32) : IVec S16 32 :=
  have v565 : IVec S16 32 := broadcast S16 16#32
  have v566 : IVec S16 32 := shli v558 v565
  have v567 : IVec S16 32 := broadcast S16 24#32
  have v568 : IVec S16 32 := shrsi v566 v567
  v568

noncomputable def k0_pay5 (v558 : Vec F S16 .i32) : IVec S16 32 :=
  have v569 : IVec S16 32 := broadcast S16 8#32
  have v570 : IVec S16 32 := shli v558 v569
  have v571 : IVec S16 32 := broadcast S16 24#32
  have v572 : IVec S16 32 := shrsi v570 v571
  v572

noncomputable def k0_pay6 (v558 : Vec F S16 .i32) : IVec S16 32 :=
  have v573 : IVec S16 32 := broadcast S16 0#32
  have v574 : IVec S16 32 := shli v558 v573
  have v575 : IVec S16 32 := broadcast S16 24#32
  have v576 : IVec S16 32 := shrsi v574 v575
  v576

noncomputable def k0_pay7 (v560 : Vec F S16 .i32) : IVec S16 32 :=
  have v577 : IVec S16 32 := broadcast S16 24#32
  have v578 : IVec S16 32 := shli v560 v577
  have v579 : IVec S16 32 := broadcast S16 24#32
  have v580 : IVec S16 32 := shrsi v578 v579
  v580

noncomputable def k0_pay8 (v560 : Vec F S16 .i32) : IVec S16 32 :=
  have v581 : IVec S16 32 := broadcast S16 16#32
  have v582 : IVec S16 32 := shli v560 v581
  v582

noncomputable def k0_pay9 : IVec S16 32 :=
  have v583 : IVec S16 32 := broadcast S16 24#32
  v583

noncomputable def k0_pay10 (v560 : Vec F S16 .i32) (v564 : IVec S16 32) (v568 : IVec S16 32) (v572 : IVec S16 32) (v576 : IVec S16 32) (v580 : IVec S16 32) (v582 : IVec S16 32) (v583 : IVec S16 32) : IVec S16 32 :=
  have v584 : IVec S16 32 := shrsi v582 v583
  have v585 : IVec S16 32 := broadcast S16 8#32
  have v586 : IVec S16 32 := shli v560 v585
  have v587 : IVec S16 32 := broadcast S16 24#32
  have v588 : IVec S16 32 := shrsi v586 v587
  have v589 : IVec S16 32 := broadcast S16 0#32
  have v590 : IVec S16 32 := shli v560 v589
  have v591 : IVec S16 32 := broadcast S16 24#32
  have v592 : IVec S16 32 := shrsi v590 v591
  have v593 : IVec S16 32 := muli v564 v580
  have v594 : IVec S16 32 := muli v568 v584
  have v595 : IVec S16 32 := addi v593 v594
  have v596 : IVec S16 32 := muli v572 v588
  have v597 : IVec S16 32 := muli v576 v592
  have v598 : IVec S16 32 := addi v596 v597
  have v599 : IVec S16 32 := addi v595 v598
  v599

noncomputable def k0_pay11 (v601 : Vec F S16 .i32) : IVec S16 32 :=
  have v604 : IVec S16 32 := broadcast S16 24#32
  have v605 : IVec S16 32 := shli v601 v604
  have v606 : IVec S16 32 := broadcast S16 24#32
  have v607 : IVec S16 32 := shrsi v605 v606
  v607

noncomputable def k0_pay12 (v601 : Vec F S16 .i32) : IVec S16 32 :=
  have v608 : IVec S16 32 := broadcast S16 16#32
  have v609 : IVec S16 32 := shli v601 v608
  have v610 : IVec S16 32 := broadcast S16 24#32
  have v611 : IVec S16 32 := shrsi v609 v610
  v611

noncomputable def k0_pay13 (v601 : Vec F S16 .i32) : IVec S16 32 :=
  have v612 : IVec S16 32 := broadcast S16 8#32
  have v613 : IVec S16 32 := shli v601 v612
  have v614 : IVec S16 32 := broadcast S16 24#32
  have v615 : IVec S16 32 := shrsi v613 v614
  v615

noncomputable def k0_pay14 (v601 : Vec F S16 .i32) : IVec S16 32 :=
  have v616 : IVec S16 32 := broadcast S16 0#32
  have v617 : IVec S16 32 := shli v601 v616
  have v618 : IVec S16 32 := broadcast S16 24#32
  have v619 : IVec S16 32 := shrsi v617 v618
  v619

noncomputable def k0_pay15 (v603 : Vec F S16 .i32) : IVec S16 32 :=
  have v620 : IVec S16 32 := broadcast S16 24#32
  have v621 : IVec S16 32 := shli v603 v620
  have v622 : IVec S16 32 := broadcast S16 24#32
  have v623 : IVec S16 32 := shrsi v621 v622
  v623

noncomputable def k0_pay16 (v603 : Vec F S16 .i32) : IVec S16 32 :=
  have v624 : IVec S16 32 := broadcast S16 16#32
  have v625 : IVec S16 32 := shli v603 v624
  v625

noncomputable def k0_pay17 (v599 : IVec S16 32) (v603 : Vec F S16 .i32) (v607 : IVec S16 32) (v611 : IVec S16 32) (v615 : IVec S16 32) (v619 : IVec S16 32) (v623 : IVec S16 32) (v625 : IVec S16 32) (c24_i32_254 : BitVec 32) : IVec S16 32 :=
  have v626 : IVec S16 32 := broadcast S16 c24_i32_254
  have v627 : IVec S16 32 := shrsi v625 v626
  have v628 : IVec S16 32 := broadcast S16 8#32
  have v629 : IVec S16 32 := shli v603 v628
  have v630 : IVec S16 32 := broadcast S16 24#32
  have v631 : IVec S16 32 := shrsi v629 v630
  have v632 : IVec S16 32 := broadcast S16 0#32
  have v633 : IVec S16 32 := shli v603 v632
  have v634 : IVec S16 32 := broadcast S16 24#32
  have v635 : IVec S16 32 := shrsi v633 v634
  have v636 : IVec S16 32 := muli v607 v623
  have v637 : IVec S16 32 := muli v611 v627
  have v638 : IVec S16 32 := addi v636 v637
  have v639 : IVec S16 32 := muli v615 v631
  have v640 : IVec S16 32 := muli v619 v635
  have v641 : IVec S16 32 := addi v639 v640
  have v642 : IVec S16 32 := addi v638 v641
  have v643 : IVec S16 32 := addi v599 v642
  v643

noncomputable def k0_pay18 (v645 : Vec F S16 .i32) : IVec S16 32 :=
  have v648 : IVec S16 32 := broadcast S16 24#32
  have v649 : IVec S16 32 := shli v645 v648
  have v650 : IVec S16 32 := broadcast S16 24#32
  have v651 : IVec S16 32 := shrsi v649 v650
  v651

noncomputable def k0_pay19 (v645 : Vec F S16 .i32) : IVec S16 32 :=
  have v652 : IVec S16 32 := broadcast S16 16#32
  have v653 : IVec S16 32 := shli v645 v652
  have v654 : IVec S16 32 := broadcast S16 24#32
  have v655 : IVec S16 32 := shrsi v653 v654
  v655

noncomputable def k0_pay20 (v645 : Vec F S16 .i32) : IVec S16 32 :=
  have v656 : IVec S16 32 := broadcast S16 8#32
  have v657 : IVec S16 32 := shli v645 v656
  have v658 : IVec S16 32 := broadcast S16 24#32
  have v659 : IVec S16 32 := shrsi v657 v658
  v659

noncomputable def k0_pay21 (v645 : Vec F S16 .i32) : IVec S16 32 :=
  have v660 : IVec S16 32 := broadcast S16 0#32
  have v661 : IVec S16 32 := shli v645 v660
  have v662 : IVec S16 32 := broadcast S16 24#32
  have v663 : IVec S16 32 := shrsi v661 v662
  v663

noncomputable def k0_pay22 (v647 : Vec F S16 .i32) : IVec S16 32 :=
  have v664 : IVec S16 32 := broadcast S16 24#32
  have v665 : IVec S16 32 := shli v647 v664
  have v666 : IVec S16 32 := broadcast S16 24#32
  have v667 : IVec S16 32 := shrsi v665 v666
  v667

noncomputable def k0_pay23 : IVec S16 32 :=
  have v668 : IVec S16 32 := broadcast S16 16#32
  v668

noncomputable def k0_pay24 (v643 : IVec S16 32) (v647 : Vec F S16 .i32) (v651 : IVec S16 32) (v655 : IVec S16 32) (v659 : IVec S16 32) (v663 : IVec S16 32) (v667 : IVec S16 32) (v668 : IVec S16 32) : IVec S16 32 :=
  have v669 : IVec S16 32 := shli v647 v668
  have v670 : IVec S16 32 := broadcast S16 24#32
  have v671 : IVec S16 32 := shrsi v669 v670
  have v672 : IVec S16 32 := broadcast S16 8#32
  have v673 : IVec S16 32 := shli v647 v672
  have v674 : IVec S16 32 := broadcast S16 24#32
  have v675 : IVec S16 32 := shrsi v673 v674
  have v676 : IVec S16 32 := broadcast S16 0#32
  have v677 : IVec S16 32 := shli v647 v676
  have v678 : IVec S16 32 := broadcast S16 24#32
  have v679 : IVec S16 32 := shrsi v677 v678
  have v680 : IVec S16 32 := muli v651 v667
  have v681 : IVec S16 32 := muli v655 v671
  have v682 : IVec S16 32 := addi v680 v681
  have v683 : IVec S16 32 := muli v659 v675
  have v684 : IVec S16 32 := muli v663 v679
  have v685 : IVec S16 32 := addi v683 v684
  have v686 : IVec S16 32 := addi v682 v685
  have v687 : IVec S16 32 := addi v643 v686
  v687

noncomputable def k0_pay25 (v548 : Vec F S16 .i32) : IVec S16 32 :=
  have v691 : IVec S16 32 := broadcast S16 16#32
  have v692 : IVec S16 32 := shrui v548 v691
  v692

noncomputable def k0_pay26 (v552 : Vec F S16 .i32) : IVec S16 32 :=
  have v693 : IVec S16 32 := broadcast S16 16#32
  have v694 : IVec S16 32 := shrui v552 v693
  v694

noncomputable def k0_pay27 (v696 : Vec F S16 .i32) : IVec S16 32 :=
  have v699 : IVec S16 32 := broadcast S16 24#32
  have v700 : IVec S16 32 := shli v696 v699
  have v701 : IVec S16 32 := broadcast S16 24#32
  have v702 : IVec S16 32 := shrsi v700 v701
  v702

noncomputable def k0_pay28 (v696 : Vec F S16 .i32) : IVec S16 32 :=
  have v703 : IVec S16 32 := broadcast S16 16#32
  have v704 : IVec S16 32 := shli v696 v703
  have v705 : IVec S16 32 := broadcast S16 24#32
  have v706 : IVec S16 32 := shrsi v704 v705
  v706

noncomputable def k0_pay29 (v696 : Vec F S16 .i32) : IVec S16 32 :=
  have v707 : IVec S16 32 := broadcast S16 8#32
  have v708 : IVec S16 32 := shli v696 v707
  have v709 : IVec S16 32 := broadcast S16 24#32
  have v710 : IVec S16 32 := shrsi v708 v709
  v710

noncomputable def k0_pay30 (v696 : Vec F S16 .i32) (v698 : Vec F S16 .i32) (v702 : IVec S16 32) (v706 : IVec S16 32) (v710 : IVec S16 32) : IVec S16 32 :=
  have v711 : IVec S16 32 := broadcast S16 0#32
  have v712 : IVec S16 32 := shli v696 v711
  have v713 : IVec S16 32 := broadcast S16 24#32
  have v714 : IVec S16 32 := shrsi v712 v713
  have v715 : IVec S16 32 := broadcast S16 24#32
  have v716 : IVec S16 32 := shli v698 v715
  have v717 : IVec S16 32 := broadcast S16 24#32
  have v718 : IVec S16 32 := shrsi v716 v717
  have v719 : IVec S16 32 := broadcast S16 16#32
  have v720 : IVec S16 32 := shli v698 v719
  have v721 : IVec S16 32 := broadcast S16 24#32
  have v722 : IVec S16 32 := shrsi v720 v721
  have v723 : IVec S16 32 := broadcast S16 8#32
  have v724 : IVec S16 32 := shli v698 v723
  have v725 : IVec S16 32 := broadcast S16 24#32
  have v726 : IVec S16 32 := shrsi v724 v725
  have v727 : IVec S16 32 := broadcast S16 0#32
  have v728 : IVec S16 32 := shli v698 v727
  have v729 : IVec S16 32 := broadcast S16 24#32
  have v730 : IVec S16 32 := shrsi v728 v729
  have v731 : IVec S16 32 := muli v702 v718
  have v732 : IVec S16 32 := muli v706 v722
  have v733 : IVec S16 32 := addi v731 v732
  have v734 : IVec S16 32 := muli v710 v726
  have v735 : IVec S16 32 := muli v714 v730
  have v736 : IVec S16 32 := addi v734 v735
  have v737 : IVec S16 32 := addi v733 v736
  v737

noncomputable def k0_pay31 (v739 : Vec F S16 .i32) : IVec S16 32 :=
  have v742 : IVec S16 32 := broadcast S16 24#32
  have v743 : IVec S16 32 := shli v739 v742
  have v744 : IVec S16 32 := broadcast S16 24#32
  have v745 : IVec S16 32 := shrsi v743 v744
  v745

noncomputable def k0_pay32 (v739 : Vec F S16 .i32) : IVec S16 32 :=
  have v746 : IVec S16 32 := broadcast S16 16#32
  have v747 : IVec S16 32 := shli v739 v746
  have v748 : IVec S16 32 := broadcast S16 24#32
  have v749 : IVec S16 32 := shrsi v747 v748
  v749

noncomputable def k0_pay33 (v739 : Vec F S16 .i32) : IVec S16 32 :=
  have v750 : IVec S16 32 := broadcast S16 8#32
  have v751 : IVec S16 32 := shli v739 v750
  v751

noncomputable def k0_pay34 : IVec S16 32 :=
  have v752 : IVec S16 32 := broadcast S16 24#32
  v752

noncomputable def k0_pay35 (v737 : IVec S16 32) (v739 : Vec F S16 .i32) (v741 : Vec F S16 .i32) (v745 : IVec S16 32) (v749 : IVec S16 32) (v751 : IVec S16 32) (v752 : IVec S16 32) : IVec S16 32 :=
  have v753 : IVec S16 32 := shrsi v751 v752
  have v754 : IVec S16 32 := broadcast S16 0#32
  have v755 : IVec S16 32 := shli v739 v754
  have v756 : IVec S16 32 := broadcast S16 24#32
  have v757 : IVec S16 32 := shrsi v755 v756
  have v758 : IVec S16 32 := broadcast S16 24#32
  have v759 : IVec S16 32 := shli v741 v758
  have v760 : IVec S16 32 := broadcast S16 24#32
  have v761 : IVec S16 32 := shrsi v759 v760
  have v762 : IVec S16 32 := broadcast S16 16#32
  have v763 : IVec S16 32 := shli v741 v762
  have v764 : IVec S16 32 := broadcast S16 24#32
  have v765 : IVec S16 32 := shrsi v763 v764
  have v766 : IVec S16 32 := broadcast S16 8#32
  have v767 : IVec S16 32 := shli v741 v766
  have v768 : IVec S16 32 := broadcast S16 24#32
  have v769 : IVec S16 32 := shrsi v767 v768
  have v770 : IVec S16 32 := broadcast S16 0#32
  have v771 : IVec S16 32 := shli v741 v770
  have v772 : IVec S16 32 := broadcast S16 24#32
  have v773 : IVec S16 32 := shrsi v771 v772
  have v774 : IVec S16 32 := muli v745 v761
  have v775 : IVec S16 32 := muli v749 v765
  have v776 : IVec S16 32 := addi v774 v775
  have v777 : IVec S16 32 := muli v753 v769
  have v778 : IVec S16 32 := muli v757 v773
  have v779 : IVec S16 32 := addi v777 v778
  have v780 : IVec S16 32 := addi v776 v779
  have v781 : IVec S16 32 := addi v737 v780
  v781

noncomputable def k0_pay36 (v783 : Vec F S16 .i32) : IVec S16 32 :=
  have v786 : IVec S16 32 := broadcast S16 24#32
  have v787 : IVec S16 32 := shli v783 v786
  have v788 : IVec S16 32 := broadcast S16 24#32
  have v789 : IVec S16 32 := shrsi v787 v788
  v789

noncomputable def k0_pay37 (v783 : Vec F S16 .i32) : IVec S16 32 :=
  have v790 : IVec S16 32 := broadcast S16 16#32
  have v791 : IVec S16 32 := shli v783 v790
  have v792 : IVec S16 32 := broadcast S16 24#32
  have v793 : IVec S16 32 := shrsi v791 v792
  v793

noncomputable def k0_pay38 (v783 : Vec F S16 .i32) : IVec S16 32 :=
  have v794 : IVec S16 32 := broadcast S16 8#32
  have v795 : IVec S16 32 := shli v783 v794
  v795

noncomputable def k0_pay39 (v781 : IVec S16 32) (v783 : Vec F S16 .i32) (v785 : Vec F S16 .i32) (v789 : IVec S16 32) (v793 : IVec S16 32) (v795 : IVec S16 32) : IVec S16 32 :=
  have v796 : IVec S16 32 := broadcast S16 24#32
  have v797 : IVec S16 32 := shrsi v795 v796
  have v798 : IVec S16 32 := broadcast S16 0#32
  have v799 : IVec S16 32 := shli v783 v798
  have v800 : IVec S16 32 := broadcast S16 24#32
  have v801 : IVec S16 32 := shrsi v799 v800
  have v802 : IVec S16 32 := broadcast S16 24#32
  have v803 : IVec S16 32 := shli v785 v802
  have v804 : IVec S16 32 := broadcast S16 24#32
  have v805 : IVec S16 32 := shrsi v803 v804
  have v806 : IVec S16 32 := broadcast S16 16#32
  have v807 : IVec S16 32 := shli v785 v806
  have v808 : IVec S16 32 := broadcast S16 24#32
  have v809 : IVec S16 32 := shrsi v807 v808
  have v810 : IVec S16 32 := broadcast S16 8#32
  have v811 : IVec S16 32 := shli v785 v810
  have v812 : IVec S16 32 := broadcast S16 24#32
  have v813 : IVec S16 32 := shrsi v811 v812
  have v814 : IVec S16 32 := broadcast S16 0#32
  have v815 : IVec S16 32 := shli v785 v814
  have v816 : IVec S16 32 := broadcast S16 24#32
  have v817 : IVec S16 32 := shrsi v815 v816
  have v818 : IVec S16 32 := muli v789 v805
  have v819 : IVec S16 32 := muli v793 v809
  have v820 : IVec S16 32 := addi v818 v819
  have v821 : IVec S16 32 := muli v797 v813
  have v822 : IVec S16 32 := muli v801 v817
  have v823 : IVec S16 32 := addi v821 v822
  have v824 : IVec S16 32 := addi v820 v823
  have v825 : IVec S16 32 := addi v781 v824
  v825

noncomputable def k0_pay40 (v550 : Vec F S16 .i32) : IVec S16 32 :=
  have v555 : IVec S16 32 := broadcast S16 65535#32
  have v556 : IVec S16 32 := andi v550 v555
  v556

noncomputable def k0_pay41 (v554 : Vec F S16 .i32) : IVec S16 32 :=
  have v557 : IVec S16 32 := broadcast S16 65535#32
  have v558 : IVec S16 32 := andi v554 v557
  v558

noncomputable def k0_pay42 (v560 : Vec F S16 .i32) : IVec S16 32 :=
  have v563 : IVec S16 32 := broadcast S16 24#32
  have v564 : IVec S16 32 := shli v560 v563
  have v565 : IVec S16 32 := broadcast S16 24#32
  have v566 : IVec S16 32 := shrsi v564 v565
  v566

noncomputable def k0_pay43 (v560 : Vec F S16 .i32) : IVec S16 32 :=
  have v567 : IVec S16 32 := broadcast S16 16#32
  have v568 : IVec S16 32 := shli v560 v567
  have v569 : IVec S16 32 := broadcast S16 24#32
  have v570 : IVec S16 32 := shrsi v568 v569
  v570

noncomputable def k0_pay44 (v560 : Vec F S16 .i32) : IVec S16 32 :=
  have v571 : IVec S16 32 := broadcast S16 8#32
  have v572 : IVec S16 32 := shli v560 v571
  have v573 : IVec S16 32 := broadcast S16 24#32
  have v574 : IVec S16 32 := shrsi v572 v573
  v574

noncomputable def k0_pay45 (v560 : Vec F S16 .i32) : IVec S16 32 :=
  have v575 : IVec S16 32 := broadcast S16 0#32
  have v576 : IVec S16 32 := shli v560 v575
  have v577 : IVec S16 32 := broadcast S16 24#32
  have v578 : IVec S16 32 := shrsi v576 v577
  v578

noncomputable def k0_pay46 (v562 : Vec F S16 .i32) : IVec S16 32 :=
  have v579 : IVec S16 32 := broadcast S16 24#32
  have v580 : IVec S16 32 := shli v562 v579
  have v581 : IVec S16 32 := broadcast S16 24#32
  have v582 : IVec S16 32 := shrsi v580 v581
  v582

noncomputable def k0_pay47 (v562 : Vec F S16 .i32) : IVec S16 32 :=
  have v583 : IVec S16 32 := broadcast S16 16#32
  have v584 : IVec S16 32 := shli v562 v583
  v584

noncomputable def k0_pay48 : IVec S16 32 :=
  have v585 : IVec S16 32 := broadcast S16 24#32
  v585

noncomputable def k0_pay49 (v562 : Vec F S16 .i32) (v566 : IVec S16 32) (v570 : IVec S16 32) (v574 : IVec S16 32) (v578 : IVec S16 32) (v582 : IVec S16 32) (v584 : IVec S16 32) (v585 : IVec S16 32) : IVec S16 32 :=
  have v586 : IVec S16 32 := shrsi v584 v585
  have v587 : IVec S16 32 := broadcast S16 8#32
  have v588 : IVec S16 32 := shli v562 v587
  have v589 : IVec S16 32 := broadcast S16 24#32
  have v590 : IVec S16 32 := shrsi v588 v589
  have v591 : IVec S16 32 := broadcast S16 0#32
  have v592 : IVec S16 32 := shli v562 v591
  have v593 : IVec S16 32 := broadcast S16 24#32
  have v594 : IVec S16 32 := shrsi v592 v593
  have v595 : IVec S16 32 := muli v566 v582
  have v596 : IVec S16 32 := muli v570 v586
  have v597 : IVec S16 32 := addi v595 v596
  have v598 : IVec S16 32 := muli v574 v590
  have v599 : IVec S16 32 := muli v578 v594
  have v600 : IVec S16 32 := addi v598 v599
  have v601 : IVec S16 32 := addi v597 v600
  v601

noncomputable def k0_pay50 (v603 : Vec F S16 .i32) : IVec S16 32 :=
  have v606 : IVec S16 32 := broadcast S16 24#32
  have v607 : IVec S16 32 := shli v603 v606
  have v608 : IVec S16 32 := broadcast S16 24#32
  have v609 : IVec S16 32 := shrsi v607 v608
  v609

noncomputable def k0_pay51 (v603 : Vec F S16 .i32) : IVec S16 32 :=
  have v610 : IVec S16 32 := broadcast S16 16#32
  have v611 : IVec S16 32 := shli v603 v610
  have v612 : IVec S16 32 := broadcast S16 24#32
  have v613 : IVec S16 32 := shrsi v611 v612
  v613

noncomputable def k0_pay52 (v603 : Vec F S16 .i32) : IVec S16 32 :=
  have v614 : IVec S16 32 := broadcast S16 8#32
  have v615 : IVec S16 32 := shli v603 v614
  have v616 : IVec S16 32 := broadcast S16 24#32
  have v617 : IVec S16 32 := shrsi v615 v616
  v617

noncomputable def k0_pay53 (v603 : Vec F S16 .i32) : IVec S16 32 :=
  have v618 : IVec S16 32 := broadcast S16 0#32
  have v619 : IVec S16 32 := shli v603 v618
  have v620 : IVec S16 32 := broadcast S16 24#32
  have v621 : IVec S16 32 := shrsi v619 v620
  v621

noncomputable def k0_pay54 (v605 : Vec F S16 .i32) : IVec S16 32 :=
  have v622 : IVec S16 32 := broadcast S16 24#32
  have v623 : IVec S16 32 := shli v605 v622
  have v624 : IVec S16 32 := broadcast S16 24#32
  have v625 : IVec S16 32 := shrsi v623 v624
  v625

noncomputable def k0_pay55 (v605 : Vec F S16 .i32) : IVec S16 32 :=
  have v626 : IVec S16 32 := broadcast S16 16#32
  have v627 : IVec S16 32 := shli v605 v626
  v627

noncomputable def k0_pay56 (v601 : IVec S16 32) (v605 : Vec F S16 .i32) (v609 : IVec S16 32) (v613 : IVec S16 32) (v617 : IVec S16 32) (v621 : IVec S16 32) (v625 : IVec S16 32) (v627 : IVec S16 32) (c24_i32_253 : BitVec 32) : IVec S16 32 :=
  have v628 : IVec S16 32 := broadcast S16 c24_i32_253
  have v629 : IVec S16 32 := shrsi v627 v628
  have v630 : IVec S16 32 := broadcast S16 8#32
  have v631 : IVec S16 32 := shli v605 v630
  have v632 : IVec S16 32 := broadcast S16 24#32
  have v633 : IVec S16 32 := shrsi v631 v632
  have v634 : IVec S16 32 := broadcast S16 0#32
  have v635 : IVec S16 32 := shli v605 v634
  have v636 : IVec S16 32 := broadcast S16 24#32
  have v637 : IVec S16 32 := shrsi v635 v636
  have v638 : IVec S16 32 := muli v609 v625
  have v639 : IVec S16 32 := muli v613 v629
  have v640 : IVec S16 32 := addi v638 v639
  have v641 : IVec S16 32 := muli v617 v633
  have v642 : IVec S16 32 := muli v621 v637
  have v643 : IVec S16 32 := addi v641 v642
  have v644 : IVec S16 32 := addi v640 v643
  have v645 : IVec S16 32 := addi v601 v644
  v645

noncomputable def k0_pay57 (v550 : Vec F S16 .i32) : IVec S16 32 :=
  have v649 : IVec S16 32 := broadcast S16 16#32
  have v650 : IVec S16 32 := shrui v550 v649
  v650

noncomputable def k0_pay58 (v554 : Vec F S16 .i32) : IVec S16 32 :=
  have v651 : IVec S16 32 := broadcast S16 16#32
  have v652 : IVec S16 32 := shrui v554 v651
  v652

noncomputable def k0_pay59 (v654 : Vec F S16 .i32) : IVec S16 32 :=
  have v657 : IVec S16 32 := broadcast S16 24#32
  have v658 : IVec S16 32 := shli v654 v657
  have v659 : IVec S16 32 := broadcast S16 24#32
  have v660 : IVec S16 32 := shrsi v658 v659
  v660

noncomputable def k0_pay60 (v654 : Vec F S16 .i32) : IVec S16 32 :=
  have v661 : IVec S16 32 := broadcast S16 16#32
  have v662 : IVec S16 32 := shli v654 v661
  have v663 : IVec S16 32 := broadcast S16 24#32
  have v664 : IVec S16 32 := shrsi v662 v663
  v664

noncomputable def k0_pay61 (v654 : Vec F S16 .i32) : IVec S16 32 :=
  have v665 : IVec S16 32 := broadcast S16 8#32
  have v666 : IVec S16 32 := shli v654 v665
  have v667 : IVec S16 32 := broadcast S16 24#32
  have v668 : IVec S16 32 := shrsi v666 v667
  v668

noncomputable def k0_pay62 : IVec S16 32 :=
  have v669 : IVec S16 32 := broadcast S16 0#32
  v669

noncomputable def k0_pay63 (v654 : Vec F S16 .i32) (v656 : Vec F S16 .i32) (v660 : IVec S16 32) (v664 : IVec S16 32) (v668 : IVec S16 32) (v669 : IVec S16 32) : IVec S16 32 :=
  have v670 : IVec S16 32 := shli v654 v669
  have v671 : IVec S16 32 := broadcast S16 24#32
  have v672 : IVec S16 32 := shrsi v670 v671
  have v673 : IVec S16 32 := broadcast S16 24#32
  have v674 : IVec S16 32 := shli v656 v673
  have v675 : IVec S16 32 := broadcast S16 24#32
  have v676 : IVec S16 32 := shrsi v674 v675
  have v677 : IVec S16 32 := broadcast S16 16#32
  have v678 : IVec S16 32 := shli v656 v677
  have v679 : IVec S16 32 := broadcast S16 24#32
  have v680 : IVec S16 32 := shrsi v678 v679
  have v681 : IVec S16 32 := broadcast S16 8#32
  have v682 : IVec S16 32 := shli v656 v681
  have v683 : IVec S16 32 := broadcast S16 24#32
  have v684 : IVec S16 32 := shrsi v682 v683
  have v685 : IVec S16 32 := broadcast S16 0#32
  have v686 : IVec S16 32 := shli v656 v685
  have v687 : IVec S16 32 := broadcast S16 24#32
  have v688 : IVec S16 32 := shrsi v686 v687
  have v689 : IVec S16 32 := muli v660 v676
  have v690 : IVec S16 32 := muli v664 v680
  have v691 : IVec S16 32 := addi v689 v690
  have v692 : IVec S16 32 := muli v668 v684
  have v693 : IVec S16 32 := muli v672 v688
  have v694 : IVec S16 32 := addi v692 v693
  have v695 : IVec S16 32 := addi v691 v694
  v695

noncomputable def k0_pay64 (v697 : Vec F S16 .i32) : IVec S16 32 :=
  have v700 : IVec S16 32 := broadcast S16 24#32
  have v701 : IVec S16 32 := shli v697 v700
  have v702 : IVec S16 32 := broadcast S16 24#32
  have v703 : IVec S16 32 := shrsi v701 v702
  v703

noncomputable def k0_pay65 (v697 : Vec F S16 .i32) : IVec S16 32 :=
  have v704 : IVec S16 32 := broadcast S16 16#32
  have v705 : IVec S16 32 := shli v697 v704
  have v706 : IVec S16 32 := broadcast S16 24#32
  have v707 : IVec S16 32 := shrsi v705 v706
  v707

noncomputable def k0_pay66 (v697 : Vec F S16 .i32) : IVec S16 32 :=
  have v708 : IVec S16 32 := broadcast S16 8#32
  have v709 : IVec S16 32 := shli v697 v708
  have v710 : IVec S16 32 := broadcast S16 24#32
  have v711 : IVec S16 32 := shrsi v709 v710
  v711

noncomputable def k0_pay67 (v695 : IVec S16 32) (v697 : Vec F S16 .i32) (v699 : Vec F S16 .i32) (v703 : IVec S16 32) (v707 : IVec S16 32) (v711 : IVec S16 32) (c0_i32_286 : BitVec 32) : IVec S16 32 :=
  have v712 : IVec S16 32 := broadcast S16 c0_i32_286
  have v713 : IVec S16 32 := shli v697 v712
  have v714 : IVec S16 32 := broadcast S16 24#32
  have v715 : IVec S16 32 := shrsi v713 v714
  have v716 : IVec S16 32 := broadcast S16 24#32
  have v717 : IVec S16 32 := shli v699 v716
  have v718 : IVec S16 32 := broadcast S16 24#32
  have v719 : IVec S16 32 := shrsi v717 v718
  have v720 : IVec S16 32 := broadcast S16 16#32
  have v721 : IVec S16 32 := shli v699 v720
  have v722 : IVec S16 32 := broadcast S16 24#32
  have v723 : IVec S16 32 := shrsi v721 v722
  have v724 : IVec S16 32 := broadcast S16 8#32
  have v725 : IVec S16 32 := shli v699 v724
  have v726 : IVec S16 32 := broadcast S16 24#32
  have v727 : IVec S16 32 := shrsi v725 v726
  have v728 : IVec S16 32 := broadcast S16 0#32
  have v729 : IVec S16 32 := shli v699 v728
  have v730 : IVec S16 32 := broadcast S16 24#32
  have v731 : IVec S16 32 := shrsi v729 v730
  have v732 : IVec S16 32 := muli v703 v719
  have v733 : IVec S16 32 := muli v707 v723
  have v734 : IVec S16 32 := addi v732 v733
  have v735 : IVec S16 32 := muli v711 v727
  have v736 : IVec S16 32 := muli v715 v731
  have v737 : IVec S16 32 := addi v735 v736
  have v738 : IVec S16 32 := addi v734 v737
  have v739 : IVec S16 32 := addi v695 v738
  v739

set_option cleanup.letToHave false in set_option maxHeartbeats 40000000 in
noncomputable def cc0_sc_pairs_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) :
    Prog (TpuEff nD τ sig (Elt F) Λ₀ (.scVector ((i 0).castLE hcore0) ((i 1).castLE hsub0))) PUnit := do
  k0_part45 i arg2 harg2 arg3 harg3 arg4 harg4 arg5 harg5 arg6 harg6 arg7 harg7 arg8 harg8 arg9 harg9 arg10 harg10 arg11 arg12 arg13
  let v260 : Memref sig .scVector .hbm S1024 .i32 := arg4.slice (Rect.unit (s := S29952000) ![0] S1024.size inb_S29952000_S1024_0) (fun _ => rfl)
  let v261 : Memref sig .scVector .vmem S1024 .i32 := arg10.slice (Rect.unit (s := S2048) (k0_off97 i 1#32) S1024.size (k0_off97_inb i 1)) (fun _ => rfl)
  let v258 : DmaSems sig S1 := arg13.slice (Rect.unit (s := S2) (k0_off98 i 1#32) S1.size (k0_off98_inb i 1))
  let v259 : DmaSems sig S_ := v258.squeeze S_ squeezes_S1_S_
  Prog.lift (.waitDma2 v259.sem v261 v260 (View.wordExact_bits rfl) (View.wordExact_bits rfl))
  pure ⟨⟩

set_option maxRecDepth 65536 in
theorem cc0_sc_pairs_eq_skeleton : cc0_sc_pairs (F := F) = cc0_sc_pairs_skel (F := F) := rfl

set_option cleanup.letToHave false in set_option maxHeartbeats 40000000 in
noncomputable def k0_part1_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (k0_t1 : Fin (k0_t1_loop i).trips) (k0_t2 : Fin k0_t2_loop.trips) (v529 : BitVec 32) (c0_i32_216 : BitVec 32) (c1_i32_218 : BitVec 32) (k0_t3 : Fin k0_t3_loop.trips) :
    Prog (TpuEff nD τ sig (Elt F) Λ₀ (.scVector ((i 0).castLE hcore0) ((i 1).castLE hsub0))) (Σ' (v545 : BitVec 32) (v548 : Vec F S16 .i32) (v552 : Vec F S16 .i32) (v554 : IVec S16 32) (k0_hw1 : k0_chk1 v554) (v556 : IVec S16 32) (k0_hw2 : k0_chk2 v556) (v560 : Vec F S16 .i32) (v564 : IVec S16 32) (v568 : IVec S16 32) (v572 : IVec S16 32) (v576 : IVec S16 32) (v580 : IVec S16 32) (v582 : IVec S16 32), IVec S16 32) := do
  let arg16 : BitVec 32 := Scf.iv c0_i32_216 c1_i32_218 k0_t3
  let v545 : BitVec 32 := Scalar.muli arg16 16#32
  let v548 : Vec F S16 .i32 ← Prog.lift (.load arg9 (Rect.unit (s := S4096) (k0_off20 i k0_t1 k0_t2 k0_t3) S16.size (k0_off20_inb i k0_t1 k0_t2 k0_t3)).toLoadRect (View.loadsAt_vmem h_S16))
  let v552 : Vec F S16 .i32 ← Prog.lift (.load arg9 (Rect.unit (s := S4096) (k0_off21 i k0_t1 k0_t2 k0_t3) S16.size (k0_off21_inb i k0_t1 k0_t2 k0_t3)).toLoadRect (View.loadsAt_vmem h_S16))
  have v554 : IVec S16 32 := k0_pay1 v548
  have k0_hw1 : k0_chk1 v554 := (← Prog.lift (TpuEff.assume (k0_chk1 v554) (k0_chk1.dec v554))).down
  have v556 : IVec S16 32 := k0_pay2 v552
  have k0_hw2 : k0_chk2 v556 := (← Prog.lift (TpuEff.assume (k0_chk2 v556) (k0_chk2.dec v556))).down
  let v557 : Memref sig .scVector .vmem S12288 .i32 := arg5.slice (Rect.unit (s := S36864) ![0] S12288.size inb_S36864_S12288_0) (fun _ => rfl)
  let v558 : Vec F S16 .i32 ← SparseCore.vectorLoadIdx v557 ![v554] (k0_idx1_inb v554 k0_hw1) (View.loads_vmem h_S12288)
  let v559 : Memref sig .scVector .vmem S12288 .i32 := arg6.slice (Rect.unit (s := S36864) ![0] S12288.size inb_S36864_S12288_0) (fun _ => rfl)
  let v560 : Vec F S16 .i32 ← SparseCore.vectorLoadIdx v559 ![v556] (k0_idx2_inb v556 k0_hw2) (View.loads_vmem h_S12288)
  pure ⟨v545, v548, v552, v554, k0_hw1, v556, k0_hw2, v560, k0_pay3 v558, k0_pay4 v558, k0_pay5 v558, k0_pay6 v558, k0_pay7 v560, k0_pay8 v560, k0_pay9⟩

set_option maxRecDepth 65536 in
theorem k0_part1_eq_skeleton : k0_part1 (F := F) = k0_part1_skel (F := F) := rfl

set_option cleanup.letToHave false in set_option maxHeartbeats 40000000 in
noncomputable def k0_part2_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (v554 : IVec S16 32) (k0_hw1 : k0_chk1 v554) (v556 : IVec S16 32) (k0_hw2 : k0_chk2 v556) (v560 : Vec F S16 .i32) (v564 : IVec S16 32) (v568 : IVec S16 32) (v572 : IVec S16 32) (v576 : IVec S16 32) (v580 : IVec S16 32) (v582 : IVec S16 32) (v583 : IVec S16 32) :
    Prog (TpuEff nD τ sig (Elt F) Λ₀ (.scVector ((i 0).castLE hcore0) ((i 1).castLE hsub0))) (Σ' (v599 : IVec S16 32) (v603 : Vec F S16 .i32) (v607 : IVec S16 32) (v611 : IVec S16 32) (v615 : IVec S16 32) (v619 : IVec S16 32) (v623 : IVec S16 32) (v625 : IVec S16 32), BitVec 32) := do
  let v600 : Memref sig .scVector .vmem S12288 .i32 := arg5.slice (Rect.unit (s := S36864) ![12288] S12288.size inb_S36864_S12288_12288) (fun _ => rfl)
  let v601 : Vec F S16 .i32 ← SparseCore.vectorLoadIdx v600 ![v554] (k0_idx3_inb v554 k0_hw1) (View.loads_vmem h_S12288)
  let v602 : Memref sig .scVector .vmem S12288 .i32 := arg6.slice (Rect.unit (s := S36864) ![12288] S12288.size inb_S36864_S12288_12288) (fun _ => rfl)
  let v603 : Vec F S16 .i32 ← SparseCore.vectorLoadIdx v602 ![v556] (k0_idx4_inb v556 k0_hw2) (View.loads_vmem h_S12288)
  pure ⟨k0_pay10 v560 v564 v568 v572 v576 v580 v582 v583, v603, k0_pay11 v601, k0_pay12 v601, k0_pay13 v601, k0_pay14 v601, k0_pay15 v603, k0_pay16 v603, 24#32⟩

set_option maxRecDepth 65536 in
theorem k0_part2_eq_skeleton : k0_part2 (F := F) = k0_part2_skel (F := F) := rfl

set_option cleanup.letToHave false in set_option maxHeartbeats 40000000 in
noncomputable def k0_part3_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (v554 : IVec S16 32) (k0_hw1 : k0_chk1 v554) (v556 : IVec S16 32) (k0_hw2 : k0_chk2 v556) (v599 : IVec S16 32) (v603 : Vec F S16 .i32) (v607 : IVec S16 32) (v611 : IVec S16 32) (v615 : IVec S16 32) (v619 : IVec S16 32) (v623 : IVec S16 32) (v625 : IVec S16 32) (c24_i32_254 : BitVec 32) :
    Prog (TpuEff nD τ sig (Elt F) Λ₀ (.scVector ((i 0).castLE hcore0) ((i 1).castLE hsub0))) (Σ' (v643 : IVec S16 32) (v647 : Vec F S16 .i32) (v651 : IVec S16 32) (v655 : IVec S16 32) (v659 : IVec S16 32) (v663 : IVec S16 32) (v667 : IVec S16 32), IVec S16 32) := do
  let v644 : Memref sig .scVector .vmem S12288 .i32 := arg5.slice (Rect.unit (s := S36864) ![24576] S12288.size inb_S36864_S12288_24576) (fun _ => rfl)
  let v645 : Vec F S16 .i32 ← SparseCore.vectorLoadIdx v644 ![v554] (k0_idx5_inb v554 k0_hw1) (View.loads_vmem h_S12288)
  let v646 : Memref sig .scVector .vmem S12288 .i32 := arg6.slice (Rect.unit (s := S36864) ![24576] S12288.size inb_S36864_S12288_24576) (fun _ => rfl)
  let v647 : Vec F S16 .i32 ← SparseCore.vectorLoadIdx v646 ![v556] (k0_idx6_inb v556 k0_hw2) (View.loads_vmem h_S12288)
  pure ⟨k0_pay17 v599 v603 v607 v611 v615 v619 v623 v625 c24_i32_254, v647, k0_pay18 v645, k0_pay19 v645, k0_pay20 v645, k0_pay21 v645, k0_pay22 v647, k0_pay23⟩

set_option maxRecDepth 65536 in
theorem k0_part3_eq_skeleton : k0_part3 (F := F) = k0_part3_skel (F := F) := rfl

set_option cleanup.letToHave false in set_option maxHeartbeats 40000000 in
noncomputable def k0_part4_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (k0_t1 : Fin (k0_t1_loop i).trips) (k0_t2 : Fin k0_t2_loop.trips) (v531 : BitVec 32) (k0_t3 : Fin k0_t3_loop.trips) (v545 : BitVec 32) (v548 : Vec F S16 .i32) (v552 : Vec F S16 .i32) (v643 : IVec S16 32) (v647 : Vec F S16 .i32) (v651 : IVec S16 32) (v655 : IVec S16 32) (v659 : IVec S16 32) (v663 : IVec S16 32) (v667 : IVec S16 32) (v668 : IVec S16 32) :
    Prog (TpuEff nD τ sig (Elt F) Λ₀ (.scVector ((i 0).castLE hcore0) ((i 1).castLE hsub0))) (Σ' (v692 : IVec S16 32) (k0_hw3 : k0_chk3 v692) (v694 : IVec S16 32) (k0_hw4 : k0_chk4 v694) (v696 : Vec F S16 .i32) (v698 : Vec F S16 .i32) (v702 : IVec S16 32) (v706 : IVec S16 32), IVec S16 32) := do
  let v690 : Vec F S16 .i32 ← Prog.lift (.load arg10 (Rect.unit (s := S2048) (k0_off22 i k0_t1 k0_t2 k0_t3) S16.size (k0_off22_inb i k0_t1 k0_t2 k0_t3)).toLoadRect (View.loadsAt_vmem h_S16))
  Prog.lift (.store arg10 (Rect.unit (s := S2048) (k0_off22 i k0_t1 k0_t2 k0_t3) S16.size (k0_off22_inb i k0_t1 k0_t2 k0_t3)) (k0_pay24 v643 v647 v651 v655 v659 v663 v667 v668) Finset.univ (View.stores_vmem_bits_univ h_S16 rfl) (.inl rfl))
  have v692 : IVec S16 32 := k0_pay25 v548
  have k0_hw3 : k0_chk3 v692 := (← Prog.lift (TpuEff.assume (k0_chk3 v692) (k0_chk3.dec v692))).down
  have v694 : IVec S16 32 := k0_pay26 v552
  have k0_hw4 : k0_chk4 v694 := (← Prog.lift (TpuEff.assume (k0_chk4 v694) (k0_chk4.dec v694))).down
  let v695 : Memref sig .scVector .vmem S12288 .i32 := arg5.slice (Rect.unit (s := S36864) ![0] S12288.size inb_S36864_S12288_0) (fun _ => rfl)
  let v696 : Vec F S16 .i32 ← SparseCore.vectorLoadIdx v695 ![v692] (k0_idx7_inb v692 k0_hw3) (View.loads_vmem h_S12288)
  let v697 : Memref sig .scVector .vmem S12288 .i32 := arg6.slice (Rect.unit (s := S36864) ![0] S12288.size inb_S36864_S12288_0) (fun _ => rfl)
  let v698 : Vec F S16 .i32 ← SparseCore.vectorLoadIdx v697 ![v694] (k0_idx8_inb v694 k0_hw4) (View.loads_vmem h_S12288)
  pure ⟨v692, k0_hw3, v694, k0_hw4, v696, v698, k0_pay27 v696, k0_pay28 v696, k0_pay29 v696⟩

set_option maxRecDepth 65536 in
theorem k0_part4_eq_skeleton : k0_part4 (F := F) = k0_part4_skel (F := F) := rfl

set_option cleanup.letToHave false in set_option maxHeartbeats 40000000 in
noncomputable def k0_part5_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (v692 : IVec S16 32) (k0_hw3 : k0_chk3 v692) (v694 : IVec S16 32) (k0_hw4 : k0_chk4 v694) (v696 : Vec F S16 .i32) (v698 : Vec F S16 .i32) (v702 : IVec S16 32) (v706 : IVec S16 32) (v710 : IVec S16 32) :
    Prog (TpuEff nD τ sig (Elt F) Λ₀ (.scVector ((i 0).castLE hcore0) ((i 1).castLE hsub0))) (Σ' (v737 : IVec S16 32) (v739 : Vec F S16 .i32) (v741 : Vec F S16 .i32) (v745 : IVec S16 32) (v749 : IVec S16 32) (v751 : IVec S16 32), IVec S16 32) := do
  let v738 : Memref sig .scVector .vmem S12288 .i32 := arg5.slice (Rect.unit (s := S36864) ![12288] S12288.size inb_S36864_S12288_12288) (fun _ => rfl)
  let v739 : Vec F S16 .i32 ← SparseCore.vectorLoadIdx v738 ![v692] (k0_idx9_inb v692 k0_hw3) (View.loads_vmem h_S12288)
  let v740 : Memref sig .scVector .vmem S12288 .i32 := arg6.slice (Rect.unit (s := S36864) ![12288] S12288.size inb_S36864_S12288_12288) (fun _ => rfl)
  let v741 : Vec F S16 .i32 ← SparseCore.vectorLoadIdx v740 ![v694] (k0_idx10_inb v694 k0_hw4) (View.loads_vmem h_S12288)
  pure ⟨k0_pay30 v696 v698 v702 v706 v710, v739, v741, k0_pay31 v739, k0_pay32 v739, k0_pay33 v739, k0_pay34⟩

set_option maxRecDepth 65536 in
theorem k0_part5_eq_skeleton : k0_part5 (F := F) = k0_part5_skel (F := F) := rfl

set_option cleanup.letToHave false in set_option maxHeartbeats 40000000 in
noncomputable def k0_part6_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (v692 : IVec S16 32) (k0_hw3 : k0_chk3 v692) (v694 : IVec S16 32) (k0_hw4 : k0_chk4 v694) (v737 : IVec S16 32) (v739 : Vec F S16 .i32) (v741 : Vec F S16 .i32) (v745 : IVec S16 32) (v749 : IVec S16 32) (v751 : IVec S16 32) (v752 : IVec S16 32) :
    Prog (TpuEff nD τ sig (Elt F) Λ₀ (.scVector ((i 0).castLE hcore0) ((i 1).castLE hsub0))) (Σ' (v781 : IVec S16 32) (v783 : Vec F S16 .i32) (v785 : Vec F S16 .i32) (v789 : IVec S16 32) (v793 : IVec S16 32), IVec S16 32) := do
  let v782 : Memref sig .scVector .vmem S12288 .i32 := arg5.slice (Rect.unit (s := S36864) ![24576] S12288.size inb_S36864_S12288_24576) (fun _ => rfl)
  let v783 : Vec F S16 .i32 ← SparseCore.vectorLoadIdx v782 ![v692] (k0_idx11_inb v692 k0_hw3) (View.loads_vmem h_S12288)
  let v784 : Memref sig .scVector .vmem S12288 .i32 := arg6.slice (Rect.unit (s := S36864) ![24576] S12288.size inb_S36864_S12288_24576) (fun _ => rfl)
  let v785 : Vec F S16 .i32 ← SparseCore.vectorLoadIdx v784 ![v694] (k0_idx12_inb v694 k0_hw4) (View.loads_vmem h_S12288)
  pure ⟨k0_pay35 v737 v739 v741 v745 v749 v751 v752, v783, v785, k0_pay36 v783, k0_pay37 v783, k0_pay38 v783⟩

set_option maxRecDepth 65536 in
theorem k0_part6_eq_skeleton : k0_part6 (F := F) = k0_part6_skel (F := F) := rfl

set_option cleanup.letToHave false in set_option maxHeartbeats 40000000 in
noncomputable def k0_part7_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (k0_t1 : Fin (k0_t1_loop i).trips) (arg14 : BitVec 32) (v335 : BitVec 32) (v341 : BitVec 32) (c0_i32_160 : BitVec 32) (c1_i32_161 : BitVec 32) (k0_t2 : Fin k0_t2_loop.trips) :
    Prog (TpuEff nD τ sig (Elt F) Λ₀ (.scVector ((i 0).castLE hcore0) ((i 1).castLE hsub0))) (Σ' (arg15 : BitVec 32) (v469 : BitVec 32) (v498 : BitVec 32) (v500 : BitVec 32) (v501 : BitVec 32), BitVec 32) := do
  let arg15 : BitVec 32 := Scf.iv c0_i32_160 c1_i32_161 k0_t2
  let v466 : BitVec 32 := Scalar.muli 2#32 arg14
  let v467 : BitVec 32 := Scalar.addi v466 0#32
  let v468 : BitVec 32 := Scalar.muli v467 45#32
  let v469 : BitVec 32 := Scalar.addi v468 arg15
  let v479 : DmaSems sig S1 := arg12.slice (Rect.unit (s := S4) (k0_off11 i k0_t1 k0_t2) S1.size (k0_off11_inb i k0_t1 k0_t2))
  let v480 : DmaSems sig S_ := v479.squeeze S_ squeezes_S1_S_
  let v481 : Memref sig .scVector .vmem S512 .i32 := arg9.slice (Rect.unit (s := S4096) (k0_off9 i k0_t1 k0_t2 0#32) S512.size (k0_off9_inb i k0_t1 k0_t2 0)) (fun _ => rfl)
  let v482 : Memref sig .scVector .hbm S512 .i32 := arg3.slice (Rect.unit (s := S612352) (k0_off10 i k0_t1 k0_t2) S512.size (k0_off10_inb i k0_t1 k0_t2)) (fun _ => rfl)
  Prog.lift (.waitDma2 v480.sem v482 v481 (View.wordExact_bits rfl) (View.wordExact_bits rfl))
  let v491 : DmaSems sig S1 := arg12.slice (Rect.unit (s := S4) (k0_off11 i k0_t1 k0_t2) S1.size (k0_off11_inb i k0_t1 k0_t2))
  let v492 : DmaSems sig S_ := v491.squeeze S_ squeezes_S1_S_
  let v493 : Memref sig .scVector .vmem S512 .i32 := arg9.slice (Rect.unit (s := S4096) (k0_off9 i k0_t1 k0_t2 1#32) S512.size (k0_off9_inb i k0_t1 k0_t2 1)) (fun _ => rfl)
  let v494 : Memref sig .scVector .hbm S512 .i32 := arg3.slice (Rect.unit (s := S612352) (k0_off12 i k0_t1 k0_t2) S512.size (k0_off12_inb i k0_t1 k0_t2)) (fun _ => rfl)
  Prog.lift (.waitDma2 v492.sem v494 v493 (View.wordExact_bits rfl) (View.wordExact_bits rfl))
  let v495 : BitVec 32 := Scalar.addi arg15 3#32
  let v496 : BitVec 1 := Scalar.cmpi .sge v495 45#32
  let v497 : BitVec 32 := Scalar.subi v495 45#32
  let v498 : BitVec 32 := Scalar.select v496 v497 v495
  let v499 : BitVec 32 := Scalar.addi v469 3#32
  let v500 : BitVec 32 := Scalar.andi v499 3#32
  let v501 : BitVec 32 := Scalar.muli v335 23552#32
  pure ⟨arg15, v469, v498, v500, v501, 512#32⟩

set_option maxRecDepth 65536 in
theorem k0_part7_eq_skeleton : k0_part7 (F := F) = k0_part7_skel (F := F) := rfl

set_option cleanup.letToHave false in set_option maxHeartbeats 40000000 in
noncomputable def k0_t3_body (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (k0_t1 : Fin (k0_t1_loop i).trips) (v263 : BitVec 32) (v341 : BitVec 32) (k0_t2 : Fin k0_t2_loop.trips) (arg15 : BitVec 32) (v469 : BitVec 32) (v498 : BitVec 32) (v500 : BitVec 32) (v501 : BitVec 32) (c512_i32_200 : BitVec 32) (v529 : BitVec 32) (v531 : BitVec 32) :
    Fin k0_t3_loop.trips → Unit → Prog (TpuEff nD τ sig (Elt F) Λ₀ (.scVector ((i 0).castLE hcore0) ((i 1).castLE hsub0))) (Unit) :=
  fun k0_t3 _ => do
    let ⟨v545, v548, v552, v554, k0_hw1, v556, k0_hw2, v560, v564, v568, v572, v576, v580, v582, v583⟩ : Σ' (v545 : BitVec 32) (v548 : Vec F S16 .i32) (v552 : Vec F S16 .i32) (v554 : IVec S16 32) (k0_hw1 : k0_chk1 v554) (v556 : IVec S16 32) (k0_hw2 : k0_chk2 v556) (v560 : Vec F S16 .i32) (v564 : IVec S16 32) (v568 : IVec S16 32) (v572 : IVec S16 32) (v576 : IVec S16 32) (v580 : IVec S16 32) (v582 : IVec S16 32), IVec S16 32 ← k0_part1 i arg2 harg2 arg3 harg3 arg4 harg4 arg5 harg5 arg6 harg6 arg7 harg7 arg8 harg8 arg9 harg9 arg10 harg10 arg11 arg12 arg13 k0_t1 k0_t2 v529 0#32 1#32 k0_t3
    let ⟨v599, v603, v607, v611, v615, v619, v623, v625, c24_i32_254⟩ : Σ' (v599 : IVec S16 32) (v603 : Vec F S16 .i32) (v607 : IVec S16 32) (v611 : IVec S16 32) (v615 : IVec S16 32) (v619 : IVec S16 32) (v623 : IVec S16 32) (v625 : IVec S16 32), BitVec 32 ← k0_part2 i arg2 harg2 arg3 harg3 arg4 harg4 arg5 harg5 arg6 harg6 arg7 harg7 arg8 harg8 arg9 harg9 arg10 harg10 arg11 arg12 arg13 v554 k0_hw1 v556 k0_hw2 v560 v564 v568 v572 v576 v580 v582 v583
    let ⟨v643, v647, v651, v655, v659, v663, v667, v668⟩ : Σ' (v643 : IVec S16 32) (v647 : Vec F S16 .i32) (v651 : IVec S16 32) (v655 : IVec S16 32) (v659 : IVec S16 32) (v663 : IVec S16 32) (v667 : IVec S16 32), IVec S16 32 ← k0_part3 i arg2 harg2 arg3 harg3 arg4 harg4 arg5 harg5 arg6 harg6 arg7 harg7 arg8 harg8 arg9 harg9 arg10 harg10 arg11 arg12 arg13 v554 k0_hw1 v556 k0_hw2 v599 v603 v607 v611 v615 v619 v623 v625 c24_i32_254
    let ⟨v692, k0_hw3, v694, k0_hw4, v696, v698, v702, v706, v710⟩ : Σ' (v692 : IVec S16 32) (k0_hw3 : k0_chk3 v692) (v694 : IVec S16 32) (k0_hw4 : k0_chk4 v694) (v696 : Vec F S16 .i32) (v698 : Vec F S16 .i32) (v702 : IVec S16 32) (v706 : IVec S16 32), IVec S16 32 ← k0_part4 i arg2 harg2 arg3 harg3 arg4 harg4 arg5 harg5 arg6 harg6 arg7 harg7 arg8 harg8 arg9 harg9 arg10 harg10 arg11 arg12 arg13 k0_t1 k0_t2 v531 k0_t3 v545 v548 v552 v643 v647 v651 v655 v659 v663 v667 v668
    let ⟨v737, v739, v741, v745, v749, v751, v752⟩ : Σ' (v737 : IVec S16 32) (v739 : Vec F S16 .i32) (v741 : Vec F S16 .i32) (v745 : IVec S16 32) (v749 : IVec S16 32) (v751 : IVec S16 32), IVec S16 32 ← k0_part5 i arg2 harg2 arg3 harg3 arg4 harg4 arg5 harg5 arg6 harg6 arg7 harg7 arg8 harg8 arg9 harg9 arg10 harg10 arg11 arg12 arg13 v692 k0_hw3 v694 k0_hw4 v696 v698 v702 v706 v710
    let ⟨v781, v783, v785, v789, v793, v795⟩ : Σ' (v781 : IVec S16 32) (v783 : Vec F S16 .i32) (v785 : Vec F S16 .i32) (v789 : IVec S16 32) (v793 : IVec S16 32), IVec S16 32 ← k0_part6 i arg2 harg2 arg3 harg3 arg4 harg4 arg5 harg5 arg6 harg6 arg7 harg7 arg8 harg8 arg9 harg9 arg10 harg10 arg11 arg12 arg13 v692 k0_hw3 v694 k0_hw4 v737 v739 v741 v745 v749 v751 v752
    let v829 : Vec F S16 .i32 ← Prog.lift (.load arg10 (Rect.unit (s := S2048) (k0_off23 i k0_t1 k0_t2 k0_t3) S16.size (k0_off23_inb i k0_t1 k0_t2 k0_t3)).toLoadRect (View.loadsAt_vmem h_S16))
    Prog.lift (.store arg10 (Rect.unit (s := S2048) (k0_off23 i k0_t1 k0_t2 k0_t3) S16.size (k0_off23_inb i k0_t1 k0_t2 k0_t3)) (k0_pay39 v781 v783 v785 v789 v793 v795) Finset.univ (View.stores_vmem_bits_univ h_S16 rfl) (.inl rfl))
    pure ⟨⟩

set_option cleanup.letToHave false in set_option maxHeartbeats 40000000 in
noncomputable def k0_part8_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (k0_t1 : Fin (k0_t1_loop i).trips) (v263 : BitVec 32) (v341 : BitVec 32) (k0_t2 : Fin k0_t2_loop.trips) (arg15 : BitVec 32) (v469 : BitVec 32) (v498 : BitVec 32) (v500 : BitVec 32) (v501 : BitVec 32) (c512_i32_200 : BitVec 32) :
    Prog (TpuEff nD τ sig (Elt F) Λ₀ (.scVector ((i 0).castLE hcore0) ((i 1).castLE hsub0))) (BitVec 32) := do
  let v509 : DmaSems sig S1 := arg12.slice (Rect.unit (s := S4) (k0_off15 i k0_t1 k0_t2) S1.size (k0_off15_inb i k0_t1 k0_t2))
  let v510 : DmaSems sig S_ := v509.squeeze S_ squeezes_S1_S_
  let v511 : Memref sig .scVector .vmem S512 .i32 := arg9.slice (Rect.unit (s := S4096) (k0_off13 i k0_t1 k0_t2 0#32) S512.size (k0_off13_inb i k0_t1 k0_t2 0)) (fun _ => rfl)
  let v512 : Memref sig .scVector .hbm S512 .i32 := arg3.slice (Rect.unit (s := S612352) (k0_off14 i k0_t1 k0_t2) S512.size (k0_off14_inb i k0_t1 k0_t2)) (fun _ => rfl)
  Prog.lift (.enqueueDma v512 (.here v511) (.dma v510.sem) (View.wordExact_bits rfl) (View.wordExact_bits rfl) ⟨Or.inl rfl, trivial⟩)
  let v521 : DmaSems sig S1 := arg12.slice (Rect.unit (s := S4) (k0_off15 i k0_t1 k0_t2) S1.size (k0_off15_inb i k0_t1 k0_t2))
  let v522 : DmaSems sig S_ := v521.squeeze S_ squeezes_S1_S_
  let v523 : Memref sig .scVector .vmem S512 .i32 := arg9.slice (Rect.unit (s := S4096) (k0_off13 i k0_t1 k0_t2 1#32) S512.size (k0_off13_inb i k0_t1 k0_t2 1)) (fun _ => rfl)
  let v524 : Memref sig .scVector .hbm S512 .i32 := arg3.slice (Rect.unit (s := S612352) (k0_off16 i k0_t1 k0_t2) S512.size (k0_off16_inb i k0_t1 k0_t2)) (fun _ => rfl)
  Prog.lift (.enqueueDma v524 (.here v523) (.dma v522.sem) (View.wordExact_bits rfl) (View.wordExact_bits rfl) ⟨Or.inl rfl, trivial⟩)
  if k0_h1 : k0_cond1 i k0_t1 k0_t2 = 1#1 then do
    let v553 : DmaSems sig S1 := arg13.slice (Rect.unit (s := S2) (k0_off19 i k0_t1 k0_t2) S1.size (k0_off19_inb i k0_t1 k0_t2 k0_h1))
    let v554 : DmaSems sig S_ := v553.squeeze S_ squeezes_S1_S_
    let v555 : Memref sig .scVector .hbm S1024 .i32 := arg4.slice (Rect.unit (s := S29952000) (k0_off18 i k0_t1 k0_t2) S1024.size (k0_off18_inb i k0_t1 k0_t2 k0_h1)) (fun _ => rfl)
    let v556 : Memref sig .scVector .vmem S1024 .i32 := arg10.slice (Rect.unit (s := S2048) (k0_off17 i k0_t1 k0_t2) S1024.size (k0_off17_inb i k0_t1 k0_t2 k0_h1)) (fun _ => rfl)
    Prog.lift (.waitDma2 v554.sem v556 v555 (View.wordExact_bits rfl) (View.wordExact_bits rfl))
    pure ⟨⟩
  else do
    pure ⟨⟩
  let v528 : BitVec 32 := Scalar.andi v469 3#32
  let v529 : BitVec 32 := Scalar.muli v528 1024#32
  let v530 : BitVec 32 := Scalar.andi v469 1#32
  let v531 : BitVec 32 := Scalar.muli v530 1024#32
  Scf.Loop.for k0_t3_loop k0_t3_ok ⟨⟩ (k0_t3_body i arg2 harg2 arg3 harg3 arg4 harg4 arg5 harg5 arg6 harg6 arg7 harg7 arg8 harg8 arg9 harg9 arg10 harg10 arg11 arg12 arg13 k0_t1 v263 v341 k0_t2 arg15 v469 v498 v500 v501 c512_i32_200 v529 v531)
  let v535 : BitVec 32 := Scalar.muli v263 46080#32
  pure v535

set_option maxRecDepth 65536 in
theorem k0_part8_eq_skeleton : k0_part8 (F := F) = k0_part8_skel (F := F) := rfl

set_option cleanup.letToHave false in set_option maxHeartbeats 40000000 in
noncomputable def k0_part9_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (k0_t1 : Fin (k0_t1_loop i).trips) (k0_t4 : Fin k0_t4_loop.trips) (v531 : BitVec 32) (c0_i32_216 : BitVec 32) (c1_i32_218 : BitVec 32) (k0_t5 : Fin k0_t5_loop.trips) :
    Prog (TpuEff nD τ sig (Elt F) Λ₀ (.scVector ((i 0).castLE hcore0) ((i 1).castLE hsub0))) (Σ' (v547 : BitVec 32) (v550 : Vec F S16 .i32) (v554 : Vec F S16 .i32) (v556 : IVec S16 32) (k0_hw5 : k0_chk5 v556) (v558 : IVec S16 32) (k0_hw6 : k0_chk6 v558) (v562 : Vec F S16 .i32) (v566 : IVec S16 32) (v570 : IVec S16 32) (v574 : IVec S16 32) (v578 : IVec S16 32) (v582 : IVec S16 32) (v584 : IVec S16 32), IVec S16 32) := do
  let arg16 : BitVec 32 := Scf.iv c0_i32_216 c1_i32_218 k0_t5
  let v547 : BitVec 32 := Scalar.muli arg16 16#32
  let v550 : Vec F S16 .i32 ← Prog.lift (.load arg9 (Rect.unit (s := S4096) (k0_off42 i k0_t1 k0_t4 k0_t5) S16.size (k0_off42_inb i k0_t1 k0_t4 k0_t5)).toLoadRect (View.loadsAt_vmem h_S16))
  let v554 : Vec F S16 .i32 ← Prog.lift (.load arg9 (Rect.unit (s := S4096) (k0_off43 i k0_t1 k0_t4 k0_t5) S16.size (k0_off43_inb i k0_t1 k0_t4 k0_t5)).toLoadRect (View.loadsAt_vmem h_S16))
  have v556 : IVec S16 32 := k0_pay40 v550
  have k0_hw5 : k0_chk5 v556 := (← Prog.lift (TpuEff.assume (k0_chk5 v556) (k0_chk5.dec v556))).down
  have v558 : IVec S16 32 := k0_pay41 v554
  have k0_hw6 : k0_chk6 v558 := (← Prog.lift (TpuEff.assume (k0_chk6 v558) (k0_chk6.dec v558))).down
  let v559 : Memref sig .scVector .vmem S12288 .i32 := arg7.slice (Rect.unit (s := S24576) ![0] S12288.size inb_S24576_S12288_0) (fun _ => rfl)
  let v560 : Vec F S16 .i32 ← SparseCore.vectorLoadIdx v559 ![v556] (k0_idx13_inb v556 k0_hw5) (View.loads_vmem h_S12288)
  let v561 : Memref sig .scVector .vmem S12288 .i32 := arg8.slice (Rect.unit (s := S24576) ![0] S12288.size inb_S24576_S12288_0) (fun _ => rfl)
  let v562 : Vec F S16 .i32 ← SparseCore.vectorLoadIdx v561 ![v558] (k0_idx14_inb v558 k0_hw6) (View.loads_vmem h_S12288)
  pure ⟨v547, v550, v554, v556, k0_hw5, v558, k0_hw6, v562, k0_pay42 v560, k0_pay43 v560, k0_pay44 v560, k0_pay45 v560, k0_pay46 v562, k0_pay47 v562, k0_pay48⟩

set_option maxRecDepth 65536 in
theorem k0_part9_eq_skeleton : k0_part9 (F := F) = k0_part9_skel (F := F) := rfl

set_option cleanup.letToHave false in set_option maxHeartbeats 40000000 in
noncomputable def k0_part10_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (v556 : IVec S16 32) (k0_hw5 : k0_chk5 v556) (v558 : IVec S16 32) (k0_hw6 : k0_chk6 v558) (v562 : Vec F S16 .i32) (v566 : IVec S16 32) (v570 : IVec S16 32) (v574 : IVec S16 32) (v578 : IVec S16 32) (v582 : IVec S16 32) (v584 : IVec S16 32) (v585 : IVec S16 32) :
    Prog (TpuEff nD τ sig (Elt F) Λ₀ (.scVector ((i 0).castLE hcore0) ((i 1).castLE hsub0))) (Σ' (v601 : IVec S16 32) (v605 : Vec F S16 .i32) (v609 : IVec S16 32) (v613 : IVec S16 32) (v617 : IVec S16 32) (v621 : IVec S16 32) (v625 : IVec S16 32) (v627 : IVec S16 32), BitVec 32) := do
  let v602 : Memref sig .scVector .vmem S12288 .i32 := arg7.slice (Rect.unit (s := S24576) ![12288] S12288.size inb_S24576_S12288_12288) (fun _ => rfl)
  let v603 : Vec F S16 .i32 ← SparseCore.vectorLoadIdx v602 ![v556] (k0_idx15_inb v556 k0_hw5) (View.loads_vmem h_S12288)
  let v604 : Memref sig .scVector .vmem S12288 .i32 := arg8.slice (Rect.unit (s := S24576) ![12288] S12288.size inb_S24576_S12288_12288) (fun _ => rfl)
  let v605 : Vec F S16 .i32 ← SparseCore.vectorLoadIdx v604 ![v558] (k0_idx16_inb v558 k0_hw6) (View.loads_vmem h_S12288)
  pure ⟨k0_pay49 v562 v566 v570 v574 v578 v582 v584 v585, v605, k0_pay50 v603, k0_pay51 v603, k0_pay52 v603, k0_pay53 v603, k0_pay54 v605, k0_pay55 v605, 24#32⟩

set_option maxRecDepth 65536 in
theorem k0_part10_eq_skeleton : k0_part10 (F := F) = k0_part10_skel (F := F) := rfl

set_option cleanup.letToHave false in set_option maxHeartbeats 40000000 in
noncomputable def k0_part11_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (k0_t1 : Fin (k0_t1_loop i).trips) (k0_t4 : Fin k0_t4_loop.trips) (v533 : BitVec 32) (k0_t5 : Fin k0_t5_loop.trips) (v547 : BitVec 32) (v550 : Vec F S16 .i32) (v554 : Vec F S16 .i32) (v601 : IVec S16 32) (v605 : Vec F S16 .i32) (v609 : IVec S16 32) (v613 : IVec S16 32) (v617 : IVec S16 32) (v621 : IVec S16 32) (v625 : IVec S16 32) (v627 : IVec S16 32) (c24_i32_253 : BitVec 32) :
    Prog (TpuEff nD τ sig (Elt F) Λ₀ (.scVector ((i 0).castLE hcore0) ((i 1).castLE hsub0))) (Σ' (v650 : IVec S16 32) (k0_hw7 : k0_chk7 v650) (v652 : IVec S16 32) (k0_hw8 : k0_chk8 v652) (v654 : Vec F S16 .i32) (v656 : Vec F S16 .i32) (v660 : IVec S16 32) (v664 : IVec S16 32) (v668 : IVec S16 32), IVec S16 32) := do
  let v648 : Vec F S16 .i32 ← Prog.lift (.load arg10 (Rect.unit (s := S2048) (k0_off44 i k0_t1 k0_t4 k0_t5) S16.size (k0_off44_inb i k0_t1 k0_t4 k0_t5)).toLoadRect (View.loadsAt_vmem h_S16))
  Prog.lift (.store arg10 (Rect.unit (s := S2048) (k0_off44 i k0_t1 k0_t4 k0_t5) S16.size (k0_off44_inb i k0_t1 k0_t4 k0_t5)) (k0_pay56 v601 v605 v609 v613 v617 v621 v625 v627 c24_i32_253) Finset.univ (View.stores_vmem_bits_univ h_S16 rfl) (.inl rfl))
  have v650 : IVec S16 32 := k0_pay57 v550
  have k0_hw7 : k0_chk7 v650 := (← Prog.lift (TpuEff.assume (k0_chk7 v650) (k0_chk7.dec v650))).down
  have v652 : IVec S16 32 := k0_pay58 v554
  have k0_hw8 : k0_chk8 v652 := (← Prog.lift (TpuEff.assume (k0_chk8 v652) (k0_chk8.dec v652))).down
  let v653 : Memref sig .scVector .vmem S12288 .i32 := arg7.slice (Rect.unit (s := S24576) ![0] S12288.size inb_S24576_S12288_0) (fun _ => rfl)
  let v654 : Vec F S16 .i32 ← SparseCore.vectorLoadIdx v653 ![v650] (k0_idx17_inb v650 k0_hw7) (View.loads_vmem h_S12288)
  let v655 : Memref sig .scVector .vmem S12288 .i32 := arg8.slice (Rect.unit (s := S24576) ![0] S12288.size inb_S24576_S12288_0) (fun _ => rfl)
  let v656 : Vec F S16 .i32 ← SparseCore.vectorLoadIdx v655 ![v652] (k0_idx18_inb v652 k0_hw8) (View.loads_vmem h_S12288)
  pure ⟨v650, k0_hw7, v652, k0_hw8, v654, v656, k0_pay59 v654, k0_pay60 v654, k0_pay61 v654, k0_pay62⟩

set_option maxRecDepth 65536 in
theorem k0_part11_eq_skeleton : k0_part11 (F := F) = k0_part11_skel (F := F) := rfl

set_option cleanup.letToHave false in set_option maxHeartbeats 40000000 in
noncomputable def k0_part12_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (v650 : IVec S16 32) (k0_hw7 : k0_chk7 v650) (v652 : IVec S16 32) (k0_hw8 : k0_chk8 v652) (v654 : Vec F S16 .i32) (v656 : Vec F S16 .i32) (v660 : IVec S16 32) (v664 : IVec S16 32) (v668 : IVec S16 32) (v669 : IVec S16 32) :
    Prog (TpuEff nD τ sig (Elt F) Λ₀ (.scVector ((i 0).castLE hcore0) ((i 1).castLE hsub0))) (Σ' (v695 : IVec S16 32) (v697 : Vec F S16 .i32) (v699 : Vec F S16 .i32) (v703 : IVec S16 32) (v707 : IVec S16 32) (v711 : IVec S16 32), BitVec 32) := do
  let v696 : Memref sig .scVector .vmem S12288 .i32 := arg7.slice (Rect.unit (s := S24576) ![12288] S12288.size inb_S24576_S12288_12288) (fun _ => rfl)
  let v697 : Vec F S16 .i32 ← SparseCore.vectorLoadIdx v696 ![v650] (k0_idx19_inb v650 k0_hw7) (View.loads_vmem h_S12288)
  let v698 : Memref sig .scVector .vmem S12288 .i32 := arg8.slice (Rect.unit (s := S24576) ![12288] S12288.size inb_S24576_S12288_12288) (fun _ => rfl)
  let v699 : Vec F S16 .i32 ← SparseCore.vectorLoadIdx v698 ![v652] (k0_idx20_inb v652 k0_hw8) (View.loads_vmem h_S12288)
  pure ⟨k0_pay63 v654 v656 v660 v664 v668 v669, v697, v699, k0_pay64 v697, k0_pay65 v697, k0_pay66 v697, 0#32⟩

set_option maxRecDepth 65536 in
theorem k0_part12_eq_skeleton : k0_part12 (F := F) = k0_part12_skel (F := F) := rfl

set_option cleanup.letToHave false in set_option maxHeartbeats 40000000 in
noncomputable def k0_part13_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (k0_t1 : Fin (k0_t1_loop i).trips) (arg14 : BitVec 32) (v335 : BitVec 32) (v341 : BitVec 32) (v417 : BitVec 32) (v423 : BitVec 32) (c0_i32_175 : BitVec 32) (c1_i32_177 : BitVec 32) (k0_t4 : Fin k0_t4_loop.trips) :
    Prog (TpuEff nD τ sig (Elt F) Λ₀ (.scVector ((i 0).castLE hcore0) ((i 1).castLE hsub0))) (Σ' (arg15 : BitVec 32) (v469 : BitVec 32) (v497 : BitVec 32) (v498 : BitVec 32) (v500 : BitVec 32) (v502 : BitVec 32), BitVec 32) := do
  let arg15 : BitVec 32 := Scf.iv c0_i32_175 c1_i32_177 k0_t4
  let v466 : BitVec 32 := Scalar.muli 2#32 arg14
  let v467 : BitVec 32 := Scalar.addi v466 1#32
  let v468 : BitVec 32 := Scalar.muli v467 45#32
  let v469 : BitVec 32 := Scalar.addi v468 arg15
  let v479 : DmaSems sig S1 := arg12.slice (Rect.unit (s := S4) (k0_off33 i k0_t1 k0_t4) S1.size (k0_off33_inb i k0_t1 k0_t4))
  let v480 : DmaSems sig S_ := v479.squeeze S_ squeezes_S1_S_
  let v481 : Memref sig .scVector .vmem S512 .i32 := arg9.slice (Rect.unit (s := S4096) (k0_off31 i k0_t1 k0_t4 0#32) S512.size (k0_off31_inb i k0_t1 k0_t4 0)) (fun _ => rfl)
  let v482 : Memref sig .scVector .hbm S512 .i32 := arg3.slice (Rect.unit (s := S612352) (k0_off32 i k0_t1 k0_t4) S512.size (k0_off32_inb i k0_t1 k0_t4)) (fun _ => rfl)
  Prog.lift (.waitDma2 v480.sem v482 v481 (View.wordExact_bits rfl) (View.wordExact_bits rfl))
  let v491 : DmaSems sig S1 := arg12.slice (Rect.unit (s := S4) (k0_off33 i k0_t1 k0_t4) S1.size (k0_off33_inb i k0_t1 k0_t4))
  let v492 : DmaSems sig S_ := v491.squeeze S_ squeezes_S1_S_
  let v493 : Memref sig .scVector .vmem S512 .i32 := arg9.slice (Rect.unit (s := S4096) (k0_off31 i k0_t1 k0_t4 1#32) S512.size (k0_off31_inb i k0_t1 k0_t4 1)) (fun _ => rfl)
  let v494 : Memref sig .scVector .hbm S512 .i32 := arg3.slice (Rect.unit (s := S612352) (k0_off34 i k0_t1 k0_t4) S512.size (k0_off34_inb i k0_t1 k0_t4)) (fun _ => rfl)
  Prog.lift (.waitDma2 v492.sem v494 v493 (View.wordExact_bits rfl) (View.wordExact_bits rfl))
  let v495 : BitVec 32 := Scalar.addi arg15 3#32
  let v496 : BitVec 1 := Scalar.cmpi .sge v495 45#32
  let v497 : BitVec 32 := Scalar.select v496 v417 v335
  let v498 : BitVec 32 := Scalar.select v496 v423 v341
  let v499 : BitVec 32 := Scalar.subi v495 45#32
  let v500 : BitVec 32 := Scalar.select v496 v499 v495
  let v501 : BitVec 32 := Scalar.addi v469 3#32
  let v502 : BitVec 32 := Scalar.andi v501 3#32
  pure ⟨arg15, v469, v497, v498, v500, v502, 23552#32⟩

set_option maxRecDepth 65536 in
theorem k0_part13_eq_skeleton : k0_part13 (F := F) = k0_part13_skel (F := F) := rfl

set_option cleanup.letToHave false in set_option maxHeartbeats 40000000 in
noncomputable def k0_t5_body (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (k0_t1 : Fin (k0_t1_loop i).trips) (v263 : BitVec 32) (k0_t4 : Fin k0_t4_loop.trips) (arg15 : BitVec 32) (v469 : BitVec 32) (v497 : BitVec 32) (v498 : BitVec 32) (v500 : BitVec 32) (v502 : BitVec 32) (c23552_i32_199 : BitVec 32) (v531 : BitVec 32) (v533 : BitVec 32) :
    Fin k0_t5_loop.trips → Unit → Prog (TpuEff nD τ sig (Elt F) Λ₀ (.scVector ((i 0).castLE hcore0) ((i 1).castLE hsub0))) (Unit) :=
  fun k0_t5 _ => do
    let ⟨v547, v550, v554, v556, k0_hw5, v558, k0_hw6, v562, v566, v570, v574, v578, v582, v584, v585⟩ : Σ' (v547 : BitVec 32) (v550 : Vec F S16 .i32) (v554 : Vec F S16 .i32) (v556 : IVec S16 32) (k0_hw5 : k0_chk5 v556) (v558 : IVec S16 32) (k0_hw6 : k0_chk6 v558) (v562 : Vec F S16 .i32) (v566 : IVec S16 32) (v570 : IVec S16 32) (v574 : IVec S16 32) (v578 : IVec S16 32) (v582 : IVec S16 32) (v584 : IVec S16 32), IVec S16 32 ← k0_part9 i arg2 harg2 arg3 harg3 arg4 harg4 arg5 harg5 arg6 harg6 arg7 harg7 arg8 harg8 arg9 harg9 arg10 harg10 arg11 arg12 arg13 k0_t1 k0_t4 v531 0#32 1#32 k0_t5
    let ⟨v601, v605, v609, v613, v617, v621, v625, v627, c24_i32_253⟩ : Σ' (v601 : IVec S16 32) (v605 : Vec F S16 .i32) (v609 : IVec S16 32) (v613 : IVec S16 32) (v617 : IVec S16 32) (v621 : IVec S16 32) (v625 : IVec S16 32) (v627 : IVec S16 32), BitVec 32 ← k0_part10 i arg2 harg2 arg3 harg3 arg4 harg4 arg5 harg5 arg6 harg6 arg7 harg7 arg8 harg8 arg9 harg9 arg10 harg10 arg11 arg12 arg13 v556 k0_hw5 v558 k0_hw6 v562 v566 v570 v574 v578 v582 v584 v585
    let ⟨v650, k0_hw7, v652, k0_hw8, v654, v656, v660, v664, v668, v669⟩ : Σ' (v650 : IVec S16 32) (k0_hw7 : k0_chk7 v650) (v652 : IVec S16 32) (k0_hw8 : k0_chk8 v652) (v654 : Vec F S16 .i32) (v656 : Vec F S16 .i32) (v660 : IVec S16 32) (v664 : IVec S16 32) (v668 : IVec S16 32), IVec S16 32 ← k0_part11 i arg2 harg2 arg3 harg3 arg4 harg4 arg5 harg5 arg6 harg6 arg7 harg7 arg8 harg8 arg9 harg9 arg10 harg10 arg11 arg12 arg13 k0_t1 k0_t4 v533 k0_t5 v547 v550 v554 v601 v605 v609 v613 v617 v621 v625 v627 c24_i32_253
    let ⟨v695, v697, v699, v703, v707, v711, c0_i32_286⟩ : Σ' (v695 : IVec S16 32) (v697 : Vec F S16 .i32) (v699 : Vec F S16 .i32) (v703 : IVec S16 32) (v707 : IVec S16 32) (v711 : IVec S16 32), BitVec 32 ← k0_part12 i arg2 harg2 arg3 harg3 arg4 harg4 arg5 harg5 arg6 harg6 arg7 harg7 arg8 harg8 arg9 harg9 arg10 harg10 arg11 arg12 arg13 v650 k0_hw7 v652 k0_hw8 v654 v656 v660 v664 v668 v669
    let v743 : Vec F S16 .i32 ← Prog.lift (.load arg10 (Rect.unit (s := S2048) (k0_off45 i k0_t1 k0_t4 k0_t5) S16.size (k0_off45_inb i k0_t1 k0_t4 k0_t5)).toLoadRect (View.loadsAt_vmem h_S16))
    Prog.lift (.store arg10 (Rect.unit (s := S2048) (k0_off45 i k0_t1 k0_t4 k0_t5) S16.size (k0_off45_inb i k0_t1 k0_t4 k0_t5)) (k0_pay67 v695 v697 v699 v703 v707 v711 c0_i32_286) Finset.univ (View.stores_vmem_bits_univ h_S16 rfl) (.inl rfl))
    pure ⟨⟩

set_option cleanup.letToHave false in set_option maxHeartbeats 40000000 in
noncomputable def k0_part14_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (k0_t1 : Fin (k0_t1_loop i).trips) (v263 : BitVec 32) (k0_t4 : Fin k0_t4_loop.trips) (arg15 : BitVec 32) (v469 : BitVec 32) (v497 : BitVec 32) (v498 : BitVec 32) (v500 : BitVec 32) (v502 : BitVec 32) (c23552_i32_199 : BitVec 32) :
    Prog (TpuEff nD τ sig (Elt F) Λ₀ (.scVector ((i 0).castLE hcore0) ((i 1).castLE hsub0))) (PUnit) := do
  let v511 : DmaSems sig S1 := arg12.slice (Rect.unit (s := S4) (k0_off37 i k0_t1 k0_t4) S1.size (k0_off37_inb i k0_t1 k0_t4))
  let v512 : DmaSems sig S_ := v511.squeeze S_ squeezes_S1_S_
  let v513 : Memref sig .scVector .vmem S512 .i32 := arg9.slice (Rect.unit (s := S4096) (k0_off35 i k0_t1 k0_t4 0#32) S512.size (k0_off35_inb i k0_t1 k0_t4 0)) (fun _ => rfl)
  let v514 : Memref sig .scVector .hbm S512 .i32 := arg3.slice (Rect.unit (s := S612352) (k0_off36 i k0_t1 k0_t4) S512.size (k0_off36_inb i k0_t1 k0_t4)) (fun _ => rfl)
  Prog.lift (.enqueueDma v514 (.here v513) (.dma v512.sem) (View.wordExact_bits rfl) (View.wordExact_bits rfl) ⟨Or.inl rfl, trivial⟩)
  let v523 : DmaSems sig S1 := arg12.slice (Rect.unit (s := S4) (k0_off37 i k0_t1 k0_t4) S1.size (k0_off37_inb i k0_t1 k0_t4))
  let v524 : DmaSems sig S_ := v523.squeeze S_ squeezes_S1_S_
  let v525 : Memref sig .scVector .vmem S512 .i32 := arg9.slice (Rect.unit (s := S4096) (k0_off35 i k0_t1 k0_t4 1#32) S512.size (k0_off35_inb i k0_t1 k0_t4 1)) (fun _ => rfl)
  let v526 : Memref sig .scVector .hbm S512 .i32 := arg3.slice (Rect.unit (s := S612352) (k0_off38 i k0_t1 k0_t4) S512.size (k0_off38_inb i k0_t1 k0_t4)) (fun _ => rfl)
  Prog.lift (.enqueueDma v526 (.here v525) (.dma v524.sem) (View.wordExact_bits rfl) (View.wordExact_bits rfl) ⟨Or.inl rfl, trivial⟩)
  if k0_h3 : k0_cond3 i k0_t1 k0_t4 = 1#1 then do
    let v555 : DmaSems sig S1 := arg13.slice (Rect.unit (s := S2) (k0_off41 i k0_t1 k0_t4) S1.size (k0_off41_inb i k0_t1 k0_t4 k0_h3))
    let v556 : DmaSems sig S_ := v555.squeeze S_ squeezes_S1_S_
    let v557 : Memref sig .scVector .hbm S1024 .i32 := arg4.slice (Rect.unit (s := S29952000) (k0_off40 i k0_t1 k0_t4) S1024.size (k0_off40_inb i k0_t1 k0_t4 k0_h3)) (fun _ => rfl)
    let v558 : Memref sig .scVector .vmem S1024 .i32 := arg10.slice (Rect.unit (s := S2048) (k0_off39 i k0_t1 k0_t4) S1024.size (k0_off39_inb i k0_t1 k0_t4 k0_h3)) (fun _ => rfl)
    Prog.lift (.waitDma2 v556.sem v558 v557 (View.wordExact_bits rfl) (View.wordExact_bits rfl))
    pure ⟨⟩
  else do
    pure ⟨⟩
  let v530 : BitVec 32 := Scalar.andi v469 3#32
  let v531 : BitVec 32 := Scalar.muli v530 1024#32
  let v532 : BitVec 32 := Scalar.andi v469 1#32
  let v533 : BitVec 32 := Scalar.muli v532 1024#32
  Scf.Loop.for k0_t5_loop k0_t5_ok ⟨⟩ (k0_t5_body i arg2 harg2 arg3 harg3 arg4 harg4 arg5 harg5 arg6 harg6 arg7 harg7 arg8 harg8 arg9 harg9 arg10 harg10 arg11 arg12 arg13 k0_t1 v263 k0_t4 arg15 v469 v497 v498 v500 v502 c23552_i32_199 v531 v533)
  pure ⟨⟩

set_option maxRecDepth 65536 in
theorem k0_part14_eq_skeleton : k0_part14 (F := F) = k0_part14_skel (F := F) := rfl

set_option cleanup.letToHave false in set_option maxHeartbeats 40000000 in
noncomputable def k0_part15_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (v1 : BitVec 32) (c0_i32_42 : BitVec 32) (c1_i32_44 : BitVec 32) (k0_t1 : Fin (k0_t1_loop i).trips) :
    Prog (TpuEff nD τ sig (Elt F) Λ₀ (.scVector ((i 0).castLE hcore0) ((i 1).castLE hsub0))) (Σ' (arg14 : BitVec 32) (v263 : BitVec 32) (v302 : BitVec 32), BitVec 32) := do
  let arg14 : BitVec 32 := Scf.iv c0_i32_42 c1_i32_44 k0_t1
  let v262 : BitVec 32 := Scalar.muli arg14 32#32
  let v263 : BitVec 32 := Scalar.addi v1 v262
  let v264 : BitVec 1 := Scalar.cmpi .sge v263 25#32
  let v265 : BitVec 32 := Scalar.extui v264
  let v266 : BitVec 32 := Scalar.addi 0#32 v265
  let v267 : BitVec 1 := Scalar.cmpi .sge v263 49#32
  let v268 : BitVec 32 := Scalar.extui v267
  let v269 : BitVec 32 := Scalar.addi v266 v268
  let v270 : BitVec 1 := Scalar.cmpi .sge v263 72#32
  let v271 : BitVec 32 := Scalar.extui v270
  let v272 : BitVec 32 := Scalar.addi v269 v271
  let v273 : BitVec 1 := Scalar.cmpi .sge v263 94#32
  let v274 : BitVec 32 := Scalar.extui v273
  let v275 : BitVec 32 := Scalar.addi v272 v274
  let v276 : BitVec 1 := Scalar.cmpi .sge v263 115#32
  let v277 : BitVec 32 := Scalar.extui v276
  let v278 : BitVec 32 := Scalar.addi v275 v277
  let v279 : BitVec 1 := Scalar.cmpi .sge v263 135#32
  let v280 : BitVec 32 := Scalar.extui v279
  let v281 : BitVec 32 := Scalar.addi v278 v280
  let v282 : BitVec 1 := Scalar.cmpi .sge v263 154#32
  let v283 : BitVec 32 := Scalar.extui v282
  let v284 : BitVec 32 := Scalar.addi v281 v283
  let v285 : BitVec 1 := Scalar.cmpi .sge v263 172#32
  let v286 : BitVec 32 := Scalar.extui v285
  let v287 : BitVec 32 := Scalar.addi v284 v286
  let v288 : BitVec 1 := Scalar.cmpi .sge v263 189#32
  let v289 : BitVec 32 := Scalar.extui v288
  let v290 : BitVec 32 := Scalar.addi v287 v289
  let v291 : BitVec 1 := Scalar.cmpi .sge v263 205#32
  let v292 : BitVec 32 := Scalar.extui v291
  let v293 : BitVec 32 := Scalar.addi v290 v292
  let v294 : BitVec 1 := Scalar.cmpi .sge v263 220#32
  let v295 : BitVec 32 := Scalar.extui v294
  let v296 : BitVec 32 := Scalar.addi v293 v295
  let v297 : BitVec 1 := Scalar.cmpi .sge v263 234#32
  let v298 : BitVec 32 := Scalar.extui v297
  let v299 : BitVec 32 := Scalar.addi v296 v298
  let v300 : BitVec 1 := Scalar.cmpi .sge v263 247#32
  let v301 : BitVec 32 := Scalar.extui v300
  let v302 : BitVec 32 := Scalar.addi v299 v301
  let v303 : BitVec 1 := Scalar.cmpi .sge v263 259#32
  let v304 : BitVec 32 := Scalar.extui v303
  pure ⟨arg14, v263, v302, v304⟩

set_option maxRecDepth 65536 in
theorem k0_part15_eq_skeleton : k0_part15 (F := F) = k0_part15_skel (F := F) := rfl

set_option cleanup.letToHave false in set_option maxHeartbeats 40000000 in
noncomputable def k0_part16_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (v1 : BitVec 32) (v3 : BitVec 32) (arg14 : BitVec 32) (v263 : BitVec 32) (v302 : BitVec 32) (v304 : BitVec 32) :
    Prog (TpuEff nD τ sig (Elt F) Λ₀ (.scVector ((i 0).castLE hcore0) ((i 1).castLE hsub0))) (Σ' (v335 : BitVec 32) (v341 : BitVec 32) (v343 : BitVec 1) (v345 : BitVec 32) (v347 : BitVec 32), BitVec 32) := do
  let v305 : BitVec 32 := Scalar.addi v302 v304
  let v306 : BitVec 1 := Scalar.cmpi .sge v263 270#32
  let v307 : BitVec 32 := Scalar.extui v306
  let v308 : BitVec 32 := Scalar.addi v305 v307
  let v309 : BitVec 1 := Scalar.cmpi .sge v263 280#32
  let v310 : BitVec 32 := Scalar.extui v309
  let v311 : BitVec 32 := Scalar.addi v308 v310
  let v312 : BitVec 1 := Scalar.cmpi .sge v263 289#32
  let v313 : BitVec 32 := Scalar.extui v312
  let v314 : BitVec 32 := Scalar.addi v311 v313
  let v315 : BitVec 1 := Scalar.cmpi .sge v263 297#32
  let v316 : BitVec 32 := Scalar.extui v315
  let v317 : BitVec 32 := Scalar.addi v314 v316
  let v318 : BitVec 1 := Scalar.cmpi .sge v263 304#32
  let v319 : BitVec 32 := Scalar.extui v318
  let v320 : BitVec 32 := Scalar.addi v317 v319
  let v321 : BitVec 1 := Scalar.cmpi .sge v263 310#32
  let v322 : BitVec 32 := Scalar.extui v321
  let v323 : BitVec 32 := Scalar.addi v320 v322
  let v324 : BitVec 1 := Scalar.cmpi .sge v263 315#32
  let v325 : BitVec 32 := Scalar.extui v324
  let v326 : BitVec 32 := Scalar.addi v323 v325
  let v327 : BitVec 1 := Scalar.cmpi .sge v263 319#32
  let v328 : BitVec 32 := Scalar.extui v327
  let v329 : BitVec 32 := Scalar.addi v326 v328
  let v330 : BitVec 1 := Scalar.cmpi .sge v263 322#32
  let v331 : BitVec 32 := Scalar.extui v330
  let v332 : BitVec 32 := Scalar.addi v329 v331
  let v333 : BitVec 1 := Scalar.cmpi .sge v263 324#32
  let v334 : BitVec 32 := Scalar.extui v333
  let v335 : BitVec 32 := Scalar.addi v332 v334
  let v336 : BitVec 32 := Scalar.subi 51#32 v335
  let v337 : BitVec 32 := Scalar.muli v335 v336
  let v338 : BitVec 32 := Scalar.shrui v337 1#32
  let v339 : BitVec 32 := Scalar.subi v263 v338
  let v340 : BitVec 32 := Scalar.addi v339 v335
  let v341 : BitVec 32 := Scalar.addi v340 1#32
  let v342 : BitVec 32 := Scalar.addi arg14 1#32
  let v343 : BitVec 1 := Scalar.cmpi .slt v342 v3
  let v344 : BitVec 32 := Scalar.addi v263 32#32
  let v345 : BitVec 32 := Scalar.select v343 v344 v1
  let v346 : BitVec 1 := Scalar.cmpi .sge v345 25#32
  let v347 : BitVec 32 := Scalar.extui v346
  pure ⟨v335, v341, v343, v345, v347, 0#32⟩

set_option maxRecDepth 65536 in
theorem k0_part16_eq_skeleton : k0_part16 (F := F) = k0_part16_skel (F := F) := rfl

set_option cleanup.letToHave false in set_option maxHeartbeats 40000000 in
noncomputable def k0_part17_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (v345 : BitVec 32) (v347 : BitVec 32) (c0_i32_122 : BitVec 32) :
    Prog (TpuEff nD τ sig (Elt F) Λ₀ (.scVector ((i 0).castLE hcore0) ((i 1).castLE hsub0))) (Σ' (v390 : BitVec 32), BitVec 32) := do
  let v348 : BitVec 32 := Scalar.addi c0_i32_122 v347
  let v349 : BitVec 1 := Scalar.cmpi .sge v345 49#32
  let v350 : BitVec 32 := Scalar.extui v349
  let v351 : BitVec 32 := Scalar.addi v348 v350
  let v352 : BitVec 1 := Scalar.cmpi .sge v345 72#32
  let v353 : BitVec 32 := Scalar.extui v352
  let v354 : BitVec 32 := Scalar.addi v351 v353
  let v355 : BitVec 1 := Scalar.cmpi .sge v345 94#32
  let v356 : BitVec 32 := Scalar.extui v355
  let v357 : BitVec 32 := Scalar.addi v354 v356
  let v358 : BitVec 1 := Scalar.cmpi .sge v345 115#32
  let v359 : BitVec 32 := Scalar.extui v358
  let v360 : BitVec 32 := Scalar.addi v357 v359
  let v361 : BitVec 1 := Scalar.cmpi .sge v345 135#32
  let v362 : BitVec 32 := Scalar.extui v361
  let v363 : BitVec 32 := Scalar.addi v360 v362
  let v364 : BitVec 1 := Scalar.cmpi .sge v345 154#32
  let v365 : BitVec 32 := Scalar.extui v364
  let v366 : BitVec 32 := Scalar.addi v363 v365
  let v367 : BitVec 1 := Scalar.cmpi .sge v345 172#32
  let v368 : BitVec 32 := Scalar.extui v367
  let v369 : BitVec 32 := Scalar.addi v366 v368
  let v370 : BitVec 1 := Scalar.cmpi .sge v345 189#32
  let v371 : BitVec 32 := Scalar.extui v370
  let v372 : BitVec 32 := Scalar.addi v369 v371
  let v373 : BitVec 1 := Scalar.cmpi .sge v345 205#32
  let v374 : BitVec 32 := Scalar.extui v373
  let v375 : BitVec 32 := Scalar.addi v372 v374
  let v376 : BitVec 1 := Scalar.cmpi .sge v345 220#32
  let v377 : BitVec 32 := Scalar.extui v376
  let v378 : BitVec 32 := Scalar.addi v375 v377
  let v379 : BitVec 1 := Scalar.cmpi .sge v345 234#32
  let v380 : BitVec 32 := Scalar.extui v379
  let v381 : BitVec 32 := Scalar.addi v378 v380
  let v382 : BitVec 1 := Scalar.cmpi .sge v345 247#32
  let v383 : BitVec 32 := Scalar.extui v382
  let v384 : BitVec 32 := Scalar.addi v381 v383
  let v385 : BitVec 1 := Scalar.cmpi .sge v345 259#32
  let v386 : BitVec 32 := Scalar.extui v385
  let v387 : BitVec 32 := Scalar.addi v384 v386
  let v388 : BitVec 1 := Scalar.cmpi .sge v345 270#32
  let v389 : BitVec 32 := Scalar.extui v388
  let v390 : BitVec 32 := Scalar.addi v387 v389
  let v391 : BitVec 1 := Scalar.cmpi .sge v345 280#32
  let v392 : BitVec 32 := Scalar.extui v391
  pure ⟨v390, v392⟩

set_option maxRecDepth 65536 in
theorem k0_part17_eq_skeleton : k0_part17 (F := F) = k0_part17_skel (F := F) := rfl

set_option cleanup.letToHave false in set_option maxHeartbeats 40000000 in
noncomputable def k0_part18_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (k0_t1 : Fin (k0_t1_loop i).trips) (v335 : BitVec 32) (v341 : BitVec 32) (v345 : BitVec 32) (v390 : BitVec 32) (v392 : BitVec 32) :
    Prog (TpuEff nD τ sig (Elt F) Λ₀ (.scVector ((i 0).castLE hcore0) ((i 1).castLE hsub0))) (Σ' (v417 : BitVec 32) (v423 : BitVec 32) (v433 : BitVec 32), BitVec 32) := do
  let v393 : BitVec 32 := Scalar.addi v390 v392
  let v394 : BitVec 1 := Scalar.cmpi .sge v345 289#32
  let v395 : BitVec 32 := Scalar.extui v394
  let v396 : BitVec 32 := Scalar.addi v393 v395
  let v397 : BitVec 1 := Scalar.cmpi .sge v345 297#32
  let v398 : BitVec 32 := Scalar.extui v397
  let v399 : BitVec 32 := Scalar.addi v396 v398
  let v400 : BitVec 1 := Scalar.cmpi .sge v345 304#32
  let v401 : BitVec 32 := Scalar.extui v400
  let v402 : BitVec 32 := Scalar.addi v399 v401
  let v403 : BitVec 1 := Scalar.cmpi .sge v345 310#32
  let v404 : BitVec 32 := Scalar.extui v403
  let v405 : BitVec 32 := Scalar.addi v402 v404
  let v406 : BitVec 1 := Scalar.cmpi .sge v345 315#32
  let v407 : BitVec 32 := Scalar.extui v406
  let v408 : BitVec 32 := Scalar.addi v405 v407
  let v409 : BitVec 1 := Scalar.cmpi .sge v345 319#32
  let v410 : BitVec 32 := Scalar.extui v409
  let v411 : BitVec 32 := Scalar.addi v408 v410
  let v412 : BitVec 1 := Scalar.cmpi .sge v345 322#32
  let v413 : BitVec 32 := Scalar.extui v412
  let v414 : BitVec 32 := Scalar.addi v411 v413
  let v415 : BitVec 1 := Scalar.cmpi .sge v345 324#32
  let v416 : BitVec 32 := Scalar.extui v415
  let v417 : BitVec 32 := Scalar.addi v414 v416
  let v418 : BitVec 32 := Scalar.subi 51#32 v417
  let v419 : BitVec 32 := Scalar.muli v417 v418
  let v420 : BitVec 32 := Scalar.shrui v419 1#32
  let v421 : BitVec 32 := Scalar.subi v345 v420
  let v422 : BitVec 32 := Scalar.addi v421 v417
  let v423 : BitVec 32 := Scalar.addi v422 1#32
  let v430 : DmaSems sig S1 := arg11.slice (Rect.unit (s := S2) ![0] S1.size inb_S2_S1_0)
  let v431 : DmaSems sig S_ := v430.squeeze S_ squeezes_S1_S_
  let v432 : Memref sig .scVector .hbm S36864 .i32 := arg2.slice (Rect.unit (s := S41879552) (k0_off7 i k0_t1) S36864.size (k0_off7_inb i k0_t1)) (fun _ => rfl)
  Prog.lift (.waitDma2 v431.sem v432 arg5 (View.wordExact_bits rfl) harg5.wordExact)
  let v433 : BitVec 32 := Scalar.muli v341 12584#32
  pure ⟨v417, v423, v433, 484#32⟩

set_option maxRecDepth 65536 in
theorem k0_part18_eq_skeleton : k0_part18 (F := F) = k0_part18_skel (F := F) := rfl

set_option cleanup.letToHave false in set_option maxHeartbeats 40000000 in
noncomputable def k0_t2_body (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (k0_t1 : Fin (k0_t1_loop i).trips) (arg14 : BitVec 32) (v263 : BitVec 32) (v335 : BitVec 32) (v341 : BitVec 32) (v343 : BitVec 1) (v417 : BitVec 32) (v423 : BitVec 32) (v433 : BitVec 32) (c484_i32_155 : BitVec 32) :
    Fin k0_t2_loop.trips → Unit → Prog (TpuEff nD τ sig (Elt F) Λ₀ (.scVector ((i 0).castLE hcore0) ((i 1).castLE hsub0))) (Unit) :=
  fun k0_t2 _ => do
    let ⟨arg15, v469, v498, v500, v501, c512_i32_200⟩ : Σ' (arg15 : BitVec 32) (v469 : BitVec 32) (v498 : BitVec 32) (v500 : BitVec 32) (v501 : BitVec 32), BitVec 32 ← k0_part7 i arg2 harg2 arg3 harg3 arg4 harg4 arg5 harg5 arg6 harg6 arg7 harg7 arg8 harg8 arg9 harg9 arg10 harg10 arg11 arg12 arg13 k0_t1 arg14 v335 v341 0#32 1#32 k0_t2
    let v535 : BitVec 32 ← k0_part8 i arg2 harg2 arg3 harg3 arg4 harg4 arg5 harg5 arg6 harg6 arg7 harg7 arg8 harg8 arg9 harg9 arg10 harg10 arg11 arg12 arg13 k0_t1 v263 v341 k0_t2 arg15 v469 v498 v500 v501 c512_i32_200
    let v541 : DmaSems sig S1 := arg13.slice (Rect.unit (s := S2) (k0_off26 i k0_t1 k0_t2) S1.size (k0_off26_inb i k0_t1 k0_t2))
    let v542 : DmaSems sig S_ := v541.squeeze S_ squeezes_S1_S_
    let v543 : Memref sig .scVector .hbm S1024 .i32 := arg4.slice (Rect.unit (s := S29952000) (k0_off25 i k0_t1 k0_t2) S1024.size (k0_off25_inb i k0_t1 k0_t2)) (fun _ => rfl)
    let v544 : Memref sig .scVector .vmem S1024 .i32 := arg10.slice (Rect.unit (s := S2048) (k0_off24 i k0_t1 k0_t2) S1024.size (k0_off24_inb i k0_t1 k0_t2)) (fun _ => rfl)
    Prog.lift (.enqueueDma v544 (.here v543) (.dma v542.sem) (View.wordExact_bits rfl) (View.wordExact_bits rfl) ⟨Or.inl rfl, trivial⟩)
    pure ⟨⟩

set_option cleanup.letToHave false in set_option maxHeartbeats 40000000 in
noncomputable def k0_t4_body (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (k0_t1 : Fin (k0_t1_loop i).trips) (arg14 : BitVec 32) (v263 : BitVec 32) (v335 : BitVec 32) (v341 : BitVec 32) (v343 : BitVec 1) (v417 : BitVec 32) (v423 : BitVec 32) (v433 : BitVec 32) (c484_i32_155 : BitVec 32) :
    Fin k0_t4_loop.trips → Unit → Prog (TpuEff nD τ sig (Elt F) Λ₀ (.scVector ((i 0).castLE hcore0) ((i 1).castLE hsub0))) (Unit) :=
  fun k0_t4 _ => do
    let ⟨arg15, v469, v497, v498, v500, v502, c23552_i32_199⟩ : Σ' (arg15 : BitVec 32) (v469 : BitVec 32) (v497 : BitVec 32) (v498 : BitVec 32) (v500 : BitVec 32) (v502 : BitVec 32), BitVec 32 ← k0_part13 i arg2 harg2 arg3 harg3 arg4 harg4 arg5 harg5 arg6 harg6 arg7 harg7 arg8 harg8 arg9 harg9 arg10 harg10 arg11 arg12 arg13 k0_t1 arg14 v335 v341 v417 v423 0#32 1#32 k0_t4
    k0_part14 i arg2 harg2 arg3 harg3 arg4 harg4 arg5 harg5 arg6 harg6 arg7 harg7 arg8 harg8 arg9 harg9 arg10 harg10 arg11 arg12 arg13 k0_t1 v263 k0_t4 arg15 v469 v497 v498 v500 v502 c23552_i32_199
    let v543 : DmaSems sig S1 := arg13.slice (Rect.unit (s := S2) (k0_off48 i k0_t1 k0_t4) S1.size (k0_off48_inb i k0_t1 k0_t4))
    let v544 : DmaSems sig S_ := v543.squeeze S_ squeezes_S1_S_
    let v545 : Memref sig .scVector .hbm S1024 .i32 := arg4.slice (Rect.unit (s := S29952000) (k0_off47 i k0_t1 k0_t4) S1024.size (k0_off47_inb i k0_t1 k0_t4)) (fun _ => rfl)
    let v546 : Memref sig .scVector .vmem S1024 .i32 := arg10.slice (Rect.unit (s := S2048) (k0_off46 i k0_t1 k0_t4) S1024.size (k0_off46_inb i k0_t1 k0_t4)) (fun _ => rfl)
    Prog.lift (.enqueueDma v546 (.here v545) (.dma v544.sem) (View.wordExact_bits rfl) (View.wordExact_bits rfl) ⟨Or.inl rfl, trivial⟩)
    pure ⟨⟩

set_option cleanup.letToHave false in set_option maxHeartbeats 40000000 in
noncomputable def k0_part19_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (k0_t1 : Fin (k0_t1_loop i).trips) (arg14 : BitVec 32) (v263 : BitVec 32) (v335 : BitVec 32) (v341 : BitVec 32) (v343 : BitVec 1) (v417 : BitVec 32) (v423 : BitVec 32) (v433 : BitVec 32) (c484_i32_155 : BitVec 32) :
    Prog (TpuEff nD τ sig (Elt F) Λ₀ (.scVector ((i 0).castLE hcore0) ((i 1).castLE hsub0))) (PUnit) := do
  let v439 : DmaSems sig S1 := arg11.slice (Rect.unit (s := S2) ![0] S1.size inb_S2_S1_0)
  let v440 : DmaSems sig S_ := v439.squeeze S_ squeezes_S1_S_
  let v441 : Memref sig .scVector .hbm S36864 .i32 := arg2.slice (Rect.unit (s := S41879552) (k0_off8 i k0_t1) S36864.size (k0_off8_inb i k0_t1)) (fun _ => rfl)
  Prog.lift (.waitDma2 v440.sem v441 arg6 (View.wordExact_bits rfl) harg6.wordExact)
  Scf.Loop.for k0_t2_loop k0_t2_ok ⟨⟩ (k0_t2_body i arg2 harg2 arg3 harg3 arg4 harg4 arg5 harg5 arg6 harg6 arg7 harg7 arg8 harg8 arg9 harg9 arg10 harg10 arg11 arg12 arg13 k0_t1 arg14 v263 v335 v341 v343 v417 v423 v433 c484_i32_155)
  if k0_h2 : k0_cond2 i k0_t1 = 1#1 then do
    let v472 : DmaSems sig S1 := arg11.slice (Rect.unit (s := S2) ![0] S1.size inb_S2_S1_0)
    let v473 : DmaSems sig S_ := v472.squeeze S_ squeezes_S1_S_
    let v474 : Memref sig .scVector .hbm S36864 .i32 := arg2.slice (Rect.unit (s := S41879552) (k0_off27 i k0_t1) S36864.size (k0_off27_inb i k0_t1 k0_h2)) (fun _ => rfl)
    Prog.lift (.enqueueDma v474 (.here arg5) (.dma v473.sem) (View.wordExact_bits rfl) harg5.wordExact ⟨Or.inl rfl, trivial⟩)
    let v481 : DmaSems sig S1 := arg11.slice (Rect.unit (s := S2) ![0] S1.size inb_S2_S1_0)
    let v482 : DmaSems sig S_ := v481.squeeze S_ squeezes_S1_S_
    let v483 : Memref sig .scVector .hbm S36864 .i32 := arg2.slice (Rect.unit (s := S41879552) (k0_off28 i k0_t1) S36864.size (k0_off28_inb i k0_t1 k0_h2)) (fun _ => rfl)
    Prog.lift (.enqueueDma v483 (.here arg6) (.dma v482.sem) (View.wordExact_bits rfl) harg6.wordExact ⟨Or.inl rfl, trivial⟩)
    pure ⟨⟩
  else do
    pure ⟨⟩
  let v451 : DmaSems sig S1 := arg11.slice (Rect.unit (s := S2) ![1] S1.size inb_S2_S1_1)
  let v452 : DmaSems sig S_ := v451.squeeze S_ squeezes_S1_S_
  let v453 : Memref sig .scVector .hbm S24576 .i32 := arg2.slice (Rect.unit (s := S41879552) (k0_off29 i k0_t1) S24576.size (k0_off29_inb i k0_t1)) (fun _ => rfl)
  Prog.lift (.waitDma2 v452.sem v453 arg7 (View.wordExact_bits rfl) harg7.wordExact)
  let v460 : DmaSems sig S1 := arg11.slice (Rect.unit (s := S2) ![1] S1.size inb_S2_S1_1)
  let v461 : DmaSems sig S_ := v460.squeeze S_ squeezes_S1_S_
  let v462 : Memref sig .scVector .hbm S24576 .i32 := arg2.slice (Rect.unit (s := S41879552) (k0_off30 i k0_t1) S24576.size (k0_off30_inb i k0_t1)) (fun _ => rfl)
  Prog.lift (.waitDma2 v461.sem v462 arg8 (View.wordExact_bits rfl) harg8.wordExact)
  Scf.Loop.for k0_t4_loop k0_t4_ok ⟨⟩ (k0_t4_body i arg2 harg2 arg3 harg3 arg4 harg4 arg5 harg5 arg6 harg6 arg7 harg7 arg8 harg8 arg9 harg9 arg10 harg10 arg11 arg12 arg13 k0_t1 arg14 v263 v335 v341 v343 v417 v423 v433 c484_i32_155)
  pure ⟨⟩

set_option maxRecDepth 65536 in
theorem k0_part19_eq_skeleton : k0_part19 (F := F) = k0_part19_skel (F := F) := rfl

set_option cleanup.letToHave false in set_option maxHeartbeats 40000000 in
noncomputable def k0_part39_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) :
    Prog (TpuEff nD τ sig (Elt F) Λ₀ (.scVector ((i 0).castLE hcore0) ((i 1).castLE hsub0))) (Σ' (v1 : BitVec 32) (v3 : BitVec 32) (v39 : BitVec 32), BitVec 32) := do
  let arg0 : BitVec 32 := BitVec.ofNat 32 (i 0).val
  let arg1 : BitVec 32 := BitVec.ofNat 32 (i 1).val
  let v0 : BitVec 32 := Scalar.muli arg1 2#32
  let v1 : BitVec 32 := Scalar.addi v0 arg0
  let v2 : BitVec 1 := Scalar.cmpi .slt v1 5#32
  let v3 : BitVec 32 := Scalar.select v2 11#32 10#32
  let v4 : BitVec 1 := Scalar.cmpi .sge v1 25#32
  let v5 : BitVec 32 := Scalar.extui v4
  let v6 : BitVec 32 := Scalar.addi 0#32 v5
  let v7 : BitVec 1 := Scalar.cmpi .sge v1 49#32
  let v8 : BitVec 32 := Scalar.extui v7
  let v9 : BitVec 32 := Scalar.addi v6 v8
  let v10 : BitVec 1 := Scalar.cmpi .sge v1 72#32
  let v11 : BitVec 32 := Scalar.extui v10
  let v12 : BitVec 32 := Scalar.addi v9 v11
  let v13 : BitVec 1 := Scalar.cmpi .sge v1 94#32
  let v14 : BitVec 32 := Scalar.extui v13
  let v15 : BitVec 32 := Scalar.addi v12 v14
  let v16 : BitVec 1 := Scalar.cmpi .sge v1 115#32
  let v17 : BitVec 32 := Scalar.extui v16
  let v18 : BitVec 32 := Scalar.addi v15 v17
  let v19 : BitVec 1 := Scalar.cmpi .sge v1 135#32
  let v20 : BitVec 32 := Scalar.extui v19
  let v21 : BitVec 32 := Scalar.addi v18 v20
  let v22 : BitVec 1 := Scalar.cmpi .sge v1 154#32
  let v23 : BitVec 32 := Scalar.extui v22
  let v24 : BitVec 32 := Scalar.addi v21 v23
  let v25 : BitVec 1 := Scalar.cmpi .sge v1 172#32
  let v26 : BitVec 32 := Scalar.extui v25
  let v27 : BitVec 32 := Scalar.addi v24 v26
  let v28 : BitVec 1 := Scalar.cmpi .sge v1 189#32
  let v29 : BitVec 32 := Scalar.extui v28
  let v30 : BitVec 32 := Scalar.addi v27 v29
  let v31 : BitVec 1 := Scalar.cmpi .sge v1 205#32
  let v32 : BitVec 32 := Scalar.extui v31
  let v33 : BitVec 32 := Scalar.addi v30 v32
  let v34 : BitVec 1 := Scalar.cmpi .sge v1 220#32
  let v35 : BitVec 32 := Scalar.extui v34
  let v36 : BitVec 32 := Scalar.addi v33 v35
  let v37 : BitVec 1 := Scalar.cmpi .sge v1 234#32
  let v38 : BitVec 32 := Scalar.extui v37
  let v39 : BitVec 32 := Scalar.addi v36 v38
  pure ⟨v1, v3, v39, 247#32⟩

set_option maxRecDepth 65536 in
theorem k0_part39_eq_skeleton : k0_part39 (F := F) = k0_part39_skel (F := F) := rfl

set_option cleanup.letToHave false in set_option maxHeartbeats 40000000 in
noncomputable def k0_part40_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (v1 : BitVec 32) (v39 : BitVec 32) (c247_i32 : BitVec 32) :
    Prog (TpuEff nD τ sig (Elt F) Λ₀ (.scVector ((i 0).castLE hcore0) ((i 1).castLE hsub0))) (Σ' (v75 : BitVec 32) (v81 : BitVec 32) (v82 : BitVec 32), BitVec 32) := do
  let v40 : BitVec 1 := Scalar.cmpi .sge v1 c247_i32
  let v41 : BitVec 32 := Scalar.extui v40
  let v42 : BitVec 32 := Scalar.addi v39 v41
  let v43 : BitVec 1 := Scalar.cmpi .sge v1 259#32
  let v44 : BitVec 32 := Scalar.extui v43
  let v45 : BitVec 32 := Scalar.addi v42 v44
  let v46 : BitVec 1 := Scalar.cmpi .sge v1 270#32
  let v47 : BitVec 32 := Scalar.extui v46
  let v48 : BitVec 32 := Scalar.addi v45 v47
  let v49 : BitVec 1 := Scalar.cmpi .sge v1 280#32
  let v50 : BitVec 32 := Scalar.extui v49
  let v51 : BitVec 32 := Scalar.addi v48 v50
  let v52 : BitVec 1 := Scalar.cmpi .sge v1 289#32
  let v53 : BitVec 32 := Scalar.extui v52
  let v54 : BitVec 32 := Scalar.addi v51 v53
  let v55 : BitVec 1 := Scalar.cmpi .sge v1 297#32
  let v56 : BitVec 32 := Scalar.extui v55
  let v57 : BitVec 32 := Scalar.addi v54 v56
  let v58 : BitVec 1 := Scalar.cmpi .sge v1 304#32
  let v59 : BitVec 32 := Scalar.extui v58
  let v60 : BitVec 32 := Scalar.addi v57 v59
  let v61 : BitVec 1 := Scalar.cmpi .sge v1 310#32
  let v62 : BitVec 32 := Scalar.extui v61
  let v63 : BitVec 32 := Scalar.addi v60 v62
  let v64 : BitVec 1 := Scalar.cmpi .sge v1 315#32
  let v65 : BitVec 32 := Scalar.extui v64
  let v66 : BitVec 32 := Scalar.addi v63 v65
  let v67 : BitVec 1 := Scalar.cmpi .sge v1 319#32
  let v68 : BitVec 32 := Scalar.extui v67
  let v69 : BitVec 32 := Scalar.addi v66 v68
  let v70 : BitVec 1 := Scalar.cmpi .sge v1 322#32
  let v71 : BitVec 32 := Scalar.extui v70
  let v72 : BitVec 32 := Scalar.addi v69 v71
  let v73 : BitVec 1 := Scalar.cmpi .sge v1 324#32
  let v74 : BitVec 32 := Scalar.extui v73
  let v75 : BitVec 32 := Scalar.addi v72 v74
  let v76 : BitVec 32 := Scalar.subi 51#32 v75
  let v77 : BitVec 32 := Scalar.muli v75 v76
  let v78 : BitVec 32 := Scalar.shrui v77 1#32
  let v79 : BitVec 32 := Scalar.subi v1 v78
  let v80 : BitVec 32 := Scalar.addi v79 v75
  let v81 : BitVec 32 := Scalar.addi v80 1#32
  let v82 : BitVec 32 := Scalar.muli v75 12584#32
  let v83 : BitVec 32 := Scalar.muli v81 484#32
  pure ⟨v75, v81, v82, v83⟩

set_option maxRecDepth 65536 in
theorem k0_part40_eq_skeleton : k0_part40 (F := F) = k0_part40_skel (F := F) := rfl

set_option cleanup.letToHave false in set_option maxHeartbeats 40000000 in
noncomputable def k0_part41_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (v75 : BitVec 32) (v81 : BitVec 32) (v82 : BitVec 32) (v83 : BitVec 32) :
    Prog (TpuEff nD τ sig (Elt F) Λ₀ (.scVector ((i 0).castLE hcore0) ((i 1).castLE hsub0))) (PUnit) := do
  let v88 : DmaSems sig S1 := arg11.slice (Rect.unit (s := S2) ![0] S1.size inb_S2_S1_0)
  let v89 : DmaSems sig S_ := v88.squeeze S_ squeezes_S1_S_
  let v90 : Memref sig .scVector .hbm S36864 .i32 := arg2.slice (Rect.unit (s := S41879552) (k0_off1 i) S36864.size (k0_off1_inb i)) (fun _ => rfl)
  Prog.lift (.enqueueDma v90 (.here arg5) (.dma v89.sem) (View.wordExact_bits rfl) harg5.wordExact ⟨Or.inl rfl, trivial⟩)
  let v97 : DmaSems sig S1 := arg11.slice (Rect.unit (s := S2) ![0] S1.size inb_S2_S1_0)
  let v98 : DmaSems sig S_ := v97.squeeze S_ squeezes_S1_S_
  let v99 : Memref sig .scVector .hbm S36864 .i32 := arg2.slice (Rect.unit (s := S41879552) (k0_off2 i) S36864.size (k0_off2_inb i)) (fun _ => rfl)
  Prog.lift (.enqueueDma v99 (.here arg6) (.dma v98.sem) (View.wordExact_bits rfl) harg6.wordExact ⟨Or.inl rfl, trivial⟩)
  let v106 : DmaSems sig S1 := arg11.slice (Rect.unit (s := S2) ![1] S1.size inb_S2_S1_1)
  let v107 : DmaSems sig S_ := v106.squeeze S_ squeezes_S1_S_
  let v108 : Memref sig .scVector .hbm S24576 .i32 := arg2.slice (Rect.unit (s := S41879552) (k0_off3 i) S24576.size (k0_off3_inb i)) (fun _ => rfl)
  Prog.lift (.enqueueDma v108 (.here arg7) (.dma v107.sem) (View.wordExact_bits rfl) harg7.wordExact ⟨Or.inl rfl, trivial⟩)
  let v115 : DmaSems sig S1 := arg11.slice (Rect.unit (s := S2) ![1] S1.size inb_S2_S1_1)
  let v116 : DmaSems sig S_ := v115.squeeze S_ squeezes_S1_S_
  let v117 : Memref sig .scVector .hbm S24576 .i32 := arg2.slice (Rect.unit (s := S41879552) (k0_off4 i) S24576.size (k0_off4_inb i)) (fun _ => rfl)
  Prog.lift (.enqueueDma v117 (.here arg8) (.dma v116.sem) (View.wordExact_bits rfl) harg8.wordExact ⟨Or.inl rfl, trivial⟩)
  pure ⟨⟩

set_option maxRecDepth 65536 in
theorem k0_part41_eq_skeleton : k0_part41 (F := F) = k0_part41_skel (F := F) := rfl

set_option cleanup.letToHave false in set_option maxHeartbeats 40000000 in
noncomputable def k0_part42_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (v75 : BitVec 32) (v81 : BitVec 32) :
    Prog (TpuEff nD τ sig (Elt F) Λ₀ (.scVector ((i 0).castLE hcore0) ((i 1).castLE hsub0))) (PUnit) := do
  let v122 : DmaSems sig S1 := arg12.slice (Rect.unit (s := S4) ![0] S1.size inb_S4_S1_0)
  let v123 : DmaSems sig S_ := v122.squeeze S_ squeezes_S1_S_
  let v124 : Memref sig .scVector .vmem S512 .i32 := arg9.slice (Rect.unit (s := S4096) ![0] S512.size inb_S4096_S512_0) (fun _ => rfl)
  let v125 : Memref sig .scVector .hbm S512 .i32 := arg3.slice (Rect.unit (s := S612352) (k0_off5 i 0#32) S512.size (k0_off5_inb i 0)) (fun _ => rfl)
  Prog.lift (.enqueueDma v125 (.here v124) (.dma v123.sem) (View.wordExact_bits rfl) (View.wordExact_bits rfl) ⟨Or.inl rfl, trivial⟩)
  let v130 : DmaSems sig S1 := arg12.slice (Rect.unit (s := S4) ![0] S1.size inb_S4_S1_0)
  let v131 : DmaSems sig S_ := v130.squeeze S_ squeezes_S1_S_
  let v132 : Memref sig .scVector .vmem S512 .i32 := arg9.slice (Rect.unit (s := S4096) ![512] S512.size inb_S4096_S512_512) (fun _ => rfl)
  let v133 : Memref sig .scVector .hbm S512 .i32 := arg3.slice (Rect.unit (s := S612352) (k0_off6 i 0#32) S512.size (k0_off6_inb i 0)) (fun _ => rfl)
  Prog.lift (.enqueueDma v133 (.here v132) (.dma v131.sem) (View.wordExact_bits rfl) (View.wordExact_bits rfl) ⟨Or.inl rfl, trivial⟩)
  let v138 : DmaSems sig S1 := arg12.slice (Rect.unit (s := S4) ![1] S1.size inb_S4_S1_1)
  let v139 : DmaSems sig S_ := v138.squeeze S_ squeezes_S1_S_
  let v140 : Memref sig .scVector .vmem S512 .i32 := arg9.slice (Rect.unit (s := S4096) ![1024] S512.size inb_S4096_S512_1024) (fun _ => rfl)
  let v141 : Memref sig .scVector .hbm S512 .i32 := arg3.slice (Rect.unit (s := S612352) (k0_off5 i 512#32) S512.size (k0_off5_inb i 1)) (fun _ => rfl)
  Prog.lift (.enqueueDma v141 (.here v140) (.dma v139.sem) (View.wordExact_bits rfl) (View.wordExact_bits rfl) ⟨Or.inl rfl, trivial⟩)
  let v146 : DmaSems sig S1 := arg12.slice (Rect.unit (s := S4) ![1] S1.size inb_S4_S1_1)
  let v147 : DmaSems sig S_ := v146.squeeze S_ squeezes_S1_S_
  let v148 : Memref sig .scVector .vmem S512 .i32 := arg9.slice (Rect.unit (s := S4096) ![1536] S512.size inb_S4096_S512_1536) (fun _ => rfl)
  let v149 : Memref sig .scVector .hbm S512 .i32 := arg3.slice (Rect.unit (s := S612352) (k0_off6 i 512#32) S512.size (k0_off6_inb i 1)) (fun _ => rfl)
  Prog.lift (.enqueueDma v149 (.here v148) (.dma v147.sem) (View.wordExact_bits rfl) (View.wordExact_bits rfl) ⟨Or.inl rfl, trivial⟩)
  pure ⟨⟩

set_option maxRecDepth 65536 in
theorem k0_part42_eq_skeleton : k0_part42 (F := F) = k0_part42_skel (F := F) := rfl

set_option cleanup.letToHave false in set_option maxHeartbeats 40000000 in
noncomputable def k0_t1_body (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (v1 : BitVec 32) (v3 : BitVec 32) (v75 : BitVec 32) (v81 : BitVec 32) :
    Fin (k0_t1_loop i).trips → Unit → Prog (TpuEff nD τ sig (Elt F) Λ₀ (.scVector ((i 0).castLE hcore0) ((i 1).castLE hsub0))) (Unit) :=
  fun k0_t1 _ => do
    let ⟨arg14, v263, v302, v304⟩ : Σ' (arg14 : BitVec 32) (v263 : BitVec 32) (v302 : BitVec 32), BitVec 32 ← k0_part15 i arg2 harg2 arg3 harg3 arg4 harg4 arg5 harg5 arg6 harg6 arg7 harg7 arg8 harg8 arg9 harg9 arg10 harg10 arg11 arg12 arg13 v1 0#32 1#32 k0_t1
    let ⟨v335, v341, v343, v345, v347, c0_i32_122⟩ : Σ' (v335 : BitVec 32) (v341 : BitVec 32) (v343 : BitVec 1) (v345 : BitVec 32) (v347 : BitVec 32), BitVec 32 ← k0_part16 i arg2 harg2 arg3 harg3 arg4 harg4 arg5 harg5 arg6 harg6 arg7 harg7 arg8 harg8 arg9 harg9 arg10 harg10 arg11 arg12 arg13 v1 v3 arg14 v263 v302 v304
    let ⟨v390, v392⟩ : Σ' (v390 : BitVec 32), BitVec 32 ← k0_part17 i arg2 harg2 arg3 harg3 arg4 harg4 arg5 harg5 arg6 harg6 arg7 harg7 arg8 harg8 arg9 harg9 arg10 harg10 arg11 arg12 arg13 v345 v347 c0_i32_122
    let ⟨v417, v423, v433, c484_i32_155⟩ : Σ' (v417 : BitVec 32) (v423 : BitVec 32) (v433 : BitVec 32), BitVec 32 ← k0_part18 i arg2 harg2 arg3 harg3 arg4 harg4 arg5 harg5 arg6 harg6 arg7 harg7 arg8 harg8 arg9 harg9 arg10 harg10 arg11 arg12 arg13 k0_t1 v335 v341 v345 v390 v392
    k0_part19 i arg2 harg2 arg3 harg3 arg4 harg4 arg5 harg5 arg6 harg6 arg7 harg7 arg8 harg8 arg9 harg9 arg10 harg10 arg11 arg12 arg13 k0_t1 arg14 v263 v335 v341 v343 v417 v423 v433 c484_i32_155
    if k0_h4 : k0_cond4 i k0_t1 = 1#1 then do
      let v472 : DmaSems sig S1 := arg11.slice (Rect.unit (s := S2) ![1] S1.size inb_S2_S1_1)
      let v473 : DmaSems sig S_ := v472.squeeze S_ squeezes_S1_S_
      let v474 : Memref sig .scVector .hbm S24576 .i32 := arg2.slice (Rect.unit (s := S41879552) (k0_off49 i k0_t1) S24576.size (k0_off49_inb i k0_t1 k0_h4)) (fun _ => rfl)
      Prog.lift (.enqueueDma v474 (.here arg7) (.dma v473.sem) (View.wordExact_bits rfl) harg7.wordExact ⟨Or.inl rfl, trivial⟩)
      let v481 : DmaSems sig S1 := arg11.slice (Rect.unit (s := S2) ![1] S1.size inb_S2_S1_1)
      let v482 : DmaSems sig S_ := v481.squeeze S_ squeezes_S1_S_
      let v483 : Memref sig .scVector .hbm S24576 .i32 := arg2.slice (Rect.unit (s := S41879552) (k0_off50 i k0_t1) S24576.size (k0_off50_inb i k0_t1 k0_h4)) (fun _ => rfl)
      Prog.lift (.enqueueDma v483 (.here arg8) (.dma v482.sem) (View.wordExact_bits rfl) harg8.wordExact ⟨Or.inl rfl, trivial⟩)
      pure ⟨⟩
    else do
      pure ⟨⟩
    pure ⟨⟩

set_option cleanup.letToHave false in set_option maxHeartbeats 40000000 in
noncomputable def k0_t6_body (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (v1 : BitVec 32) (v3 : BitVec 32) (v75 : BitVec 32) (v81 : BitVec 32) (v170 : BitVec 32) :
    Fin (k0_t6_loop i).trips → Unit → Prog (TpuEff nD τ sig (Elt F) Λ₀ (.scVector ((i 0).castLE hcore0) ((i 1).castLE hsub0))) (Unit) :=
  fun k0_t6 _ => do
    let ⟨arg14, v263, v302, v304⟩ : Σ' (arg14 : BitVec 32) (v263 : BitVec 32) (v302 : BitVec 32), BitVec 32 ← k0_part34 i arg2 harg2 arg3 harg3 arg4 harg4 arg5 harg5 arg6 harg6 arg7 harg7 arg8 harg8 arg9 harg9 arg10 harg10 arg11 arg12 arg13 v1 v170 1#32 k0_t6
    let ⟨v335, v341, v343, v345, v347, c0_i32_122⟩ : Σ' (v335 : BitVec 32) (v341 : BitVec 32) (v343 : BitVec 1) (v345 : BitVec 32) (v347 : BitVec 32), BitVec 32 ← k0_part35 i arg2 harg2 arg3 harg3 arg4 harg4 arg5 harg5 arg6 harg6 arg7 harg7 arg8 harg8 arg9 harg9 arg10 harg10 arg11 arg12 arg13 v1 v3 arg14 v263 v302 v304
    let ⟨v390, v392⟩ : Σ' (v390 : BitVec 32), BitVec 32 ← k0_part36 i arg2 harg2 arg3 harg3 arg4 harg4 arg5 harg5 arg6 harg6 arg7 harg7 arg8 harg8 arg9 harg9 arg10 harg10 arg11 arg12 arg13 v345 v347 c0_i32_122
    let ⟨v417, v423, v433, c484_i32_155⟩ : Σ' (v417 : BitVec 32) (v423 : BitVec 32) (v433 : BitVec 32), BitVec 32 ← k0_part37 i arg2 harg2 arg3 harg3 arg4 harg4 arg5 harg5 arg6 harg6 arg7 harg7 arg8 harg8 arg9 harg9 arg10 harg10 arg11 arg12 arg13 k0_t6 v335 v341 v345 v390 v392
    k0_part38 i arg2 harg2 arg3 harg3 arg4 harg4 arg5 harg5 arg6 harg6 arg7 harg7 arg8 harg8 arg9 harg9 arg10 harg10 arg11 arg12 arg13 k0_t6 arg14 v263 v335 v341 v343 v417 v423 v433 c484_i32_155
    if k0_h8 : k0_cond8 i k0_t6 = 1#1 then do
      let v472 : DmaSems sig S1 := arg11.slice (Rect.unit (s := S2) ![1] S1.size inb_S2_S1_1)
      let v473 : DmaSems sig S_ := v472.squeeze S_ squeezes_S1_S_
      let v474 : Memref sig .scVector .hbm S24576 .i32 := arg2.slice (Rect.unit (s := S41879552) (k0_off93 i k0_t6) S24576.size (k0_off93_inb i k0_t6 k0_h8)) (fun _ => rfl)
      Prog.lift (.enqueueDma v474 (.here arg7) (.dma v473.sem) (View.wordExact_bits rfl) harg7.wordExact ⟨Or.inl rfl, trivial⟩)
      let v481 : DmaSems sig S1 := arg11.slice (Rect.unit (s := S2) ![1] S1.size inb_S2_S1_1)
      let v482 : DmaSems sig S_ := v481.squeeze S_ squeezes_S1_S_
      let v483 : Memref sig .scVector .hbm S24576 .i32 := arg2.slice (Rect.unit (s := S41879552) (k0_off94 i k0_t6) S24576.size (k0_off94_inb i k0_t6 k0_h8)) (fun _ => rfl)
      Prog.lift (.enqueueDma v483 (.here arg8) (.dma v482.sem) (View.wordExact_bits rfl) harg8.wordExact ⟨Or.inl rfl, trivial⟩)
      pure ⟨⟩
    else do
      pure ⟨⟩
    pure ⟨⟩

set_option cleanup.letToHave false in set_option maxHeartbeats 40000000 in
noncomputable def k0_part43_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (v1 : BitVec 32) (v3 : BitVec 32) (v75 : BitVec 32) (v81 : BitVec 32) :
    Prog (TpuEff nD τ sig (Elt F) Λ₀ (.scVector ((i 0).castLE hcore0) ((i 1).castLE hsub0))) (Σ' (v171 : BitVec 32) (v173 : BitVec 32), BitVec 32) := do
  let v154 : DmaSems sig S1 := arg12.slice (Rect.unit (s := S4) ![2] S1.size inb_S4_S1_2)
  let v155 : DmaSems sig S_ := v154.squeeze S_ squeezes_S1_S_
  let v156 : Memref sig .scVector .vmem S512 .i32 := arg9.slice (Rect.unit (s := S4096) ![2048] S512.size inb_S4096_S512_2048) (fun _ => rfl)
  let v157 : Memref sig .scVector .hbm S512 .i32 := arg3.slice (Rect.unit (s := S612352) (k0_off5 i 1024#32) S512.size (k0_off5_inb i 2)) (fun _ => rfl)
  Prog.lift (.enqueueDma v157 (.here v156) (.dma v155.sem) (View.wordExact_bits rfl) (View.wordExact_bits rfl) ⟨Or.inl rfl, trivial⟩)
  let v162 : DmaSems sig S1 := arg12.slice (Rect.unit (s := S4) ![2] S1.size inb_S4_S1_2)
  let v163 : DmaSems sig S_ := v162.squeeze S_ squeezes_S1_S_
  let v164 : Memref sig .scVector .vmem S512 .i32 := arg9.slice (Rect.unit (s := S4096) ![2560] S512.size inb_S4096_S512_2560) (fun _ => rfl)
  let v165 : Memref sig .scVector .hbm S512 .i32 := arg3.slice (Rect.unit (s := S612352) (k0_off6 i 1024#32) S512.size (k0_off6_inb i 2)) (fun _ => rfl)
  Prog.lift (.enqueueDma v165 (.here v164) (.dma v163.sem) (View.wordExact_bits rfl) (View.wordExact_bits rfl) ⟨Or.inl rfl, trivial⟩)
  let v166 : BitVec 32 := Scalar.subi v3 0#32
  let v168 : BitVec 32 := Scalar.divsi v166 1#32
  let v169 : BitVec 32 := Scalar.muli v168 1#32
  let v170 : BitVec 32 := Scalar.addi 0#32 v169
  Scf.Loop.for (k0_t1_loop i) (k0_t1_ok i) ⟨⟩ (k0_t1_body i arg2 harg2 arg3 harg3 arg4 harg4 arg5 harg5 arg6 harg6 arg7 harg7 arg8 harg8 arg9 harg9 arg10 harg10 arg11 arg12 arg13 v1 v3 v75 v81)
  Scf.Loop.for (k0_t6_loop i) (k0_t6_ok i) ⟨⟩ (k0_t6_body i arg2 harg2 arg3 harg3 arg4 harg4 arg5 harg5 arg6 harg6 arg7 harg7 arg8 harg8 arg9 harg9 arg10 harg10 arg11 arg12 arg13 v1 v3 v75 v81 v170)
  let v171 : BitVec 32 := Scalar.muli v3 90#32
  let v172 : BitVec 32 := Scalar.addi v171 0#32
  let v173 : BitVec 32 := Scalar.andi v172 3#32
  let v181 : DmaSems sig S1 := arg12.slice (Rect.unit (s := S4) (k0_off96 i 0#32) S1.size (k0_off96_inb i 0))
  let v182 : DmaSems sig S_ := v181.squeeze S_ squeezes_S1_S_
  let v183 : Memref sig .scVector .vmem S512 .i32 := arg9.slice (Rect.unit (s := S4096) (k0_off95 i 0#32 0#32) S512.size (k0_off95_inb i 0 0)) (fun _ => rfl)
  let v184 : Memref sig .scVector .hbm S512 .i32 := arg3.slice (Rect.unit (s := S612352) (k0_off5 i 0#32) S512.size (k0_off5_inb i 0)) (fun _ => rfl)
  Prog.lift (.waitDma2 v182.sem v184 v183 (View.wordExact_bits rfl) (View.wordExact_bits rfl))
  pure ⟨v171, v173, 2#32⟩

set_option maxRecDepth 65536 in
theorem k0_part43_eq_skeleton : k0_part43 (F := F) = k0_part43_skel (F := F) := rfl

set_option cleanup.letToHave false in set_option maxHeartbeats 40000000 in
noncomputable def k0_part44_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) (v75 : BitVec 32) (v81 : BitVec 32) (v171 : BitVec 32) (v173 : BitVec 32) (c2_i32_54 : BitVec 32) :
    Prog (TpuEff nD τ sig (Elt F) Λ₀ (.scVector ((i 0).castLE hcore0) ((i 1).castLE hsub0))) (Σ' (v221 : BitVec 32), BitVec 32) := do
  let v192 : DmaSems sig S1 := arg12.slice (Rect.unit (s := S4) (k0_off96 i 0#32) S1.size (k0_off96_inb i 0))
  let v193 : DmaSems sig S_ := v192.squeeze S_ squeezes_S1_S_
  let v194 : Memref sig .scVector .vmem S512 .i32 := arg9.slice (Rect.unit (s := S4096) (k0_off95 i 0#32 1#32) S512.size (k0_off95_inb i 0 1)) (fun _ => rfl)
  let v195 : Memref sig .scVector .hbm S512 .i32 := arg3.slice (Rect.unit (s := S612352) (k0_off6 i 0#32) S512.size (k0_off6_inb i 0)) (fun _ => rfl)
  Prog.lift (.waitDma2 v193.sem v195 v194 (View.wordExact_bits rfl) (View.wordExact_bits rfl))
  let v205 : DmaSems sig S1 := arg12.slice (Rect.unit (s := S4) (k0_off96 i 1#32) S1.size (k0_off96_inb i 1))
  let v206 : DmaSems sig S_ := v205.squeeze S_ squeezes_S1_S_
  let v207 : Memref sig .scVector .vmem S512 .i32 := arg9.slice (Rect.unit (s := S4096) (k0_off95 i 1#32 0#32) S512.size (k0_off95_inb i 1 0)) (fun _ => rfl)
  let v208 : Memref sig .scVector .hbm S512 .i32 := arg3.slice (Rect.unit (s := S612352) (k0_off5 i 512#32) S512.size (k0_off5_inb i 1)) (fun _ => rfl)
  Prog.lift (.waitDma2 v206.sem v208 v207 (View.wordExact_bits rfl) (View.wordExact_bits rfl))
  let v216 : DmaSems sig S1 := arg12.slice (Rect.unit (s := S4) (k0_off96 i 1#32) S1.size (k0_off96_inb i 1))
  let v217 : DmaSems sig S_ := v216.squeeze S_ squeezes_S1_S_
  let v218 : Memref sig .scVector .vmem S512 .i32 := arg9.slice (Rect.unit (s := S4096) (k0_off95 i 1#32 1#32) S512.size (k0_off95_inb i 1 1)) (fun _ => rfl)
  let v219 : Memref sig .scVector .hbm S512 .i32 := arg3.slice (Rect.unit (s := S612352) (k0_off6 i 512#32) S512.size (k0_off6_inb i 1)) (fun _ => rfl)
  Prog.lift (.waitDma2 v217.sem v219 v218 (View.wordExact_bits rfl) (View.wordExact_bits rfl))
  let v220 : BitVec 32 := Scalar.addi v171 2#32
  let v221 : BitVec 32 := Scalar.andi v220 3#32
  let v224 : BitVec 32 := Scalar.muli v221 2#32
  pure ⟨v221, v224⟩

set_option maxRecDepth 65536 in
theorem k0_part44_eq_skeleton : k0_part44 (F := F) = k0_part44_skel (F := F) := rfl

set_option cleanup.letToHave false in set_option maxHeartbeats 40000000 in
noncomputable def k0_part45_skel (i : grid0.Coords) (arg2 : Memref sig .scVector .hbm S41879552 .i32) (harg2 : arg2.IsWhole) (arg3 : Memref sig .scVector .hbm S612352 .i32) (harg3 : arg3.IsWhole) (arg4 : Memref sig .scVector .hbm S29952000 .i32) (harg4 : arg4.IsWhole) (arg5 : Memref sig .scVector .vmem S36864 .i32) (harg5 : arg5.IsWhole) (arg6 : Memref sig .scVector .vmem S36864 .i32) (harg6 : arg6.IsWhole) (arg7 : Memref sig .scVector .vmem S24576 .i32) (harg7 : arg7.IsWhole) (arg8 : Memref sig .scVector .vmem S24576 .i32) (harg8 : arg8.IsWhole) (arg9 : Memref sig .scVector .vmem S4096 .i32) (harg9 : arg9.IsWhole) (arg10 : Memref sig .scVector .vmem S2048 .i32) (harg10 : arg10.IsWhole) (arg11 : DmaSems sig S2) (arg12 : DmaSems sig S4) (arg13 : DmaSems sig S2) :
    Prog (TpuEff nD τ sig (Elt F) Λ₀ (.scVector ((i 0).castLE hcore0) ((i 1).castLE hsub0))) (PUnit) := do
  let ⟨v1, v3, v39, c247_i32⟩ : Σ' (v1 : BitVec 32) (v3 : BitVec 32) (v39 : BitVec 32), BitVec 32 ← k0_part39 i arg2 harg2 arg3 harg3 arg4 harg4 arg5 harg5 arg6 harg6 arg7 harg7 arg8 harg8 arg9 harg9 arg10 harg10 arg11 arg12 arg13
  let ⟨v75, v81, v82, v83⟩ : Σ' (v75 : BitVec 32) (v81 : BitVec 32) (v82 : BitVec 32), BitVec 32 ← k0_part40 i arg2 harg2 arg3 harg3 arg4 harg4 arg5 harg5 arg6 harg6 arg7 harg7 arg8 harg8 arg9 harg9 arg10 harg10 arg11 arg12 arg13 v1 v39 c247_i32
  k0_part41 i arg2 harg2 arg3 harg3 arg4 harg4 arg5 harg5 arg6 harg6 arg7 harg7 arg8 harg8 arg9 harg9 arg10 harg10 arg11 arg12 arg13 v75 v81 v82 v83
  k0_part42 i arg2 harg2 arg3 harg3 arg4 harg4 arg5 harg5 arg6 harg6 arg7 harg7 arg8 harg8 arg9 harg9 arg10 harg10 arg11 arg12 arg13 v75 v81
  let ⟨v171, v173, c2_i32_54⟩ : Σ' (v171 : BitVec 32) (v173 : BitVec 32), BitVec 32 ← k0_part43 i arg2 harg2 arg3 harg3 arg4 harg4 arg5 harg5 arg6 harg6 arg7 harg7 arg8 harg8 arg9 harg9 arg10 harg10 arg11 arg12 arg13 v1 v3 v75 v81
  let ⟨v221, v224⟩ : Σ' (v221 : BitVec 32), BitVec 32 ← k0_part44 i arg2 harg2 arg3 harg3 arg4 harg4 arg5 harg5 arg6 harg6 arg7 harg7 arg8 harg8 arg9 harg9 arg10 harg10 arg11 arg12 arg13 v75 v81 v171 v173 c2_i32_54
  let v229 : DmaSems sig S1 := arg12.slice (Rect.unit (s := S4) (k0_off96 i 2#32) S1.size (k0_off96_inb i 2))
  let v230 : DmaSems sig S_ := v229.squeeze S_ squeezes_S1_S_
  let v231 : Memref sig .scVector .vmem S512 .i32 := arg9.slice (Rect.unit (s := S4096) (k0_off95 i 2#32 0#32) S512.size (k0_off95_inb i 2 0)) (fun _ => rfl)
  let v232 : Memref sig .scVector .hbm S512 .i32 := arg3.slice (Rect.unit (s := S612352) (k0_off5 i 1024#32) S512.size (k0_off5_inb i 2)) (fun _ => rfl)
  Prog.lift (.waitDma2 v230.sem v232 v231 (View.wordExact_bits rfl) (View.wordExact_bits rfl))
  let v240 : DmaSems sig S1 := arg12.slice (Rect.unit (s := S4) (k0_off96 i 2#32) S1.size (k0_off96_inb i 2))
  let v241 : DmaSems sig S_ := v240.squeeze S_ squeezes_S1_S_
  let v242 : Memref sig .scVector .vmem S512 .i32 := arg9.slice (Rect.unit (s := S4096) (k0_off95 i 2#32 1#32) S512.size (k0_off95_inb i 2 1)) (fun _ => rfl)
  let v243 : Memref sig .scVector .hbm S512 .i32 := arg3.slice (Rect.unit (s := S612352) (k0_off6 i 1024#32) S512.size (k0_off6_inb i 2)) (fun _ => rfl)
  Prog.lift (.waitDma2 v241.sem v243 v242 (View.wordExact_bits rfl) (View.wordExact_bits rfl))
  let v249 : DmaSems sig S1 := arg13.slice (Rect.unit (s := S2) (k0_off98 i 0#32) S1.size (k0_off98_inb i 0))
  let v250 : DmaSems sig S_ := v249.squeeze S_ squeezes_S1_S_
  let v251 : Memref sig .scVector .hbm S1024 .i32 := arg4.slice (Rect.unit (s := S29952000) ![0] S1024.size inb_S29952000_S1024_0) (fun _ => rfl)
  let v252 : Memref sig .scVector .vmem S1024 .i32 := arg10.slice (Rect.unit (s := S2048) (k0_off97 i 0#32) S1024.size (k0_off97_inb i 0)) (fun _ => rfl)
  Prog.lift (.waitDma2 v250.sem v252 v251 (View.wordExact_bits rfl) (View.wordExact_bits rfl))
  pure ⟨⟩

set_option maxRecDepth 65536 in
theorem k0_part45_eq_skeleton : k0_part45 (F := F) = k0_part45_skel (F := F) := rfl

end Cert.Proof.Pairs
end
-- ==== Proof.LaneOps.lean ====
/-
  The rules of one group of sixteen tokens: its loads of positions, its gathers from the tables and its stores of results, and what they say of the
  words they read and write.
-/
module

public import proofs.«01_k».proof.Proof.State
public import proofs.«01_k».proof.Proof.Skel
public import proofs.«01_k».proof.Proof.Arith

@[expose] public section

noncomputable section

namespace Cert.Proof.Pairs

open Cert.Kernel
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

local notation "𝕄" => MT nD τ sig (HIx 1) (Elt F) ℕ UU ℕ

/-- The dot product of word `q` of the two tables of phase `ph` of pair `p`, at half `h` of the words of positions `a` and `b`. -/
def dq (ft : Wds 41879552) (ph p q h : ℕ) (a b : BitVec 32) : BitVec 32 :=
  dot4 (rd ft (toff 0 ph p + (12288 * q + (hw h a).toNat))) (rd ft (toff 1 ph p + (12288 * q + (hw h b).toNat)))

theorem tok_arith (h c u : ℕ) (hh : h < 2) (hc : c < 45) (hu : u < 512) :
    (c * 1024 + (h * 512 + u)) % 1024 / 512 = h ∧ (c * 1024 + (h * 512 + u)) / 1024 = c ∧ (c * 1024 + (h * 512 + u)) % 512 = u := by
  refine ⟨?_, ?_, ?_⟩ <;> omega

theorem out_arith (b p z : ℕ) (hp : p < 325) (hz : z < 46080) :
    (b * 14976000 + p * 46080 + z) / 14976000 = b ∧ (b * 14976000 + p * 46080 + z) % 14976000 / 46080 = p ∧ (b * 14976000 + p * 46080 + z) % 46080 = z := by
  have e1 : (b * 14976000 + p * 46080 + z) % 14976000 = p * 46080 + z := by omega
  have e2 : (b * 14976000 + p * 46080 + z) / 14976000 = b := by omega
  refine ⟨e2, ?_, by omega⟩
  rw [e1, Nat.add_comm, Nat.add_mul_div_right _ _ (by decide), Nat.div_eq_of_lt hz, Nat.zero_add]

theorem dk_eq (ft : Wds 41879552) (fi : Wds 612352) (ph p q w n h u c : ℕ) (hh : h < 2) (hc : c < 45) (hu : u < 512)
    (hn : n % 45 = c) (hr : n / 90 < nv w) (hp : p = w + 32 * (n / 90)) :
    dk ft fi ph p (c * 1024 + (h * 512 + u)) q = dq ft ph p q h (rd fi (ioff w 0 n + u)) (rd fi (ioff w 1 n + u)) := by
  obtain ⟨e1, e2, e3⟩ := tok_arith h c u hh hc hu
  unfold dk dq pos
  rw [e1, e2, e3]
  have i0 : ioff w 0 n = fF p * 23552 + c * 512 := by unfold ioff ip; rw [if_pos hr, hn, hp]; rfl
  have i1 : ioff w 1 n = gG p * 23552 + c * 512 := by unfold ioff ip; rw [if_pos hr, hn, hp]; rfl
  rw [i0, i1]

theorem Gn_at (ft : Wds 41879552) (fi : Wds 612352) (ph w n h u : ℕ) (hh : h < 2) (hu : u < 512) (hw : w < 32) (hr : n / 90 < nv w) (hph : n / 45 % 2 = ph) :
    Gn ft fi (ooff w n + (h * 512 + u)) = res ft fi ph (w + 32 * (n / 90)) (n % 45 * 1024 + (h * 512 + u)) := by
  have hp : w + 32 * (n / 90) < 325 := by unfold nv at hr; split at hr <;> omega
  have hc : n % 45 < 45 := Nat.mod_lt _ (by decide)
  have hz : n % 45 * 1024 + (h * 512 + u) < 46080 := by omega
  have e : ooff w n + (h * 512 + u) = ph * 14976000 + (w + 32 * (n / 90)) * 46080 + (n % 45 * 1024 + (h * 512 + u)) := by unfold ooff; rw [hph]; omega
  obtain ⟨e1, e2, e3⟩ := out_arith ph _ _ hp hz
  unfold Gn
  rw [e, e1, e2, e3]

theorem Gn_at0 (ft : Wds 41879552) (fi : Wds 612352) (w n h u : ℕ) (hh : h < 2) (hu : u < 512) (hw : w < 32) (hr : n / 90 < nv w) (hph : n / 45 % 2 = 0) {p : ℕ}
    (hp : p = w + 32 * (n / 90)) :
    Gn ft fi (ooff w n + (h * 512 + u)) = (dq ft 0 p 0 h (rd fi (ioff w 0 n + u)) (rd fi (ioff w 1 n + u)) + dq ft 0 p 1 h (rd fi (ioff w 0 n + u)) (rd fi (ioff w 1 n + u)))
      + dq ft 0 p 2 h (rd fi (ioff w 0 n + u)) (rd fi (ioff w 1 n + u)) := by
  have hc : n % 45 < 45 := Nat.mod_lt _ (by decide)
  rw [Gn_at ft fi 0 w n h u hh hu hw hr hph]
  unfold res
  rw [if_pos rfl, ← hp, dk_eq ft fi 0 p 0 w n h u _ hh hc hu rfl hr hp, dk_eq ft fi 0 p 1 w n h u _ hh hc hu rfl hr hp, dk_eq ft fi 0 p 2 w n h u _ hh hc hu rfl hr hp]

theorem Gn_at1 (ft : Wds 41879552) (fi : Wds 612352) (w n h u : ℕ) (hh : h < 2) (hu : u < 512) (hw : w < 32) (hr : n / 90 < nv w) (hph : n / 45 % 2 = 1) {p : ℕ}
    (hp : p = w + 32 * (n / 90)) :
    Gn ft fi (ooff w n + (h * 512 + u)) = dq ft 1 p 0 h (rd fi (ioff w 0 n + u)) (rd fi (ioff w 1 n + u)) + dq ft 1 p 1 h (rd fi (ioff w 0 n + u)) (rd fi (ioff w 1 n + u)) := by
  have hc : n % 45 < 45 := Nat.mod_lt _ (by decide)
  rw [Gn_at ft fi 1 w n h u hh hu hw hr hph]
  unfold res
  rw [if_neg (by decide), ← hp, dk_eq ft fi 1 p 0 w n h u _ hh hc hu rfl hr hp, dk_eq ft fi 1 p 1 w n h u _ hh hc hu rfl hr hp]

/-- The bank of chunk `n` has the results of its first `k` groups of tokens, in both halves. -/
def LaneOK (ft : Wds 41879552) (fi : Wds 612352) (w n k : ℕ) (f : Wds 2048) : Prop :=
  ∀ x : (⟨1, ![2048]⟩ : Shape).Idx, co x / 1024 = n % 2 → co x % 512 < 16 * k → f x = obS ft fi w n x

/-- `f'` is `f` with `P` stored at `o`. -/
def Stored (o : ℕ) (P : S16.Idx → BitVec 32) (f f' : Wds 2048) : Prop :=
  (∀ x, (co x < o ∨ o + 16 ≤ co x) → f' x = f x) ∧ ∀ (x : (⟨1, ![2048]⟩ : Shape).Idx) (y : S16.Idx), co x = o + (y 0).val → f' x = P y

theorem lane_cases (b k x : ℕ) (hb : x / 1024 = b) (hx : x % 512 < 16 * (k + 1)) (hk : ¬ x % 512 < 16 * k) :
    (∃ y, y < 16 ∧ x = b * 1024 + 16 * k + y) ∨ ∃ y, y < 16 ∧ x = b * 1024 + 512 + 16 * k + y := by
  rcases (by omega : x % 1024 / 512 = 0 ∨ x % 1024 / 512 = 1) with h | h
  · exact .inl ⟨x % 512 - 16 * k, by omega, by omega⟩
  · exact .inr ⟨x % 512 - 16 * k, by omega, by omega⟩

theorem obS_at (ft : Wds 41879552) (fi : Wds 612352) (w n z : ℕ) (x : (⟨1, ![2048]⟩ : Shape).Idx) (hz : z < 1024) (hx : co x = n % 2 * 1024 + z) :
    obS ft fi w n x = Gn ft fi (ooff w n + z) := by
  unfold obS
  rw [hx, bank_arith _ _ hz]

/-- One group's two stores. -/
theorem lane_step (ft : Wds 41879552) (fi : Wds 612352) (w n k : ℕ) (hk : k < 32) (f f1 f2 : Wds 2048) (P0 P1 : S16.Idx → BitVec 32)
    (h0 : LaneOK ft fi w n k f) (s0 : Stored (n % 2 * 1024 + 16 * k) P0 f f1) (s1 : Stored (n % 2 * 1024 + 512 + 16 * k) P1 f1 f2)
    (e0 : ∀ y, P0 y = Gn ft fi (ooff w n + (0 * 512 + (16 * k + (y 0).val)))) (e1 : ∀ y, P1 y = Gn ft fi (ooff w n + (1 * 512 + (16 * k + (y 0).val)))) :
    LaneOK ft fi w n (k + 1) f2 := by
  intro x hx hx'
  have hm : n % 2 < 2 := Nat.mod_lt _ (by decide)
  by_cases hlt : co x % 512 < 16 * k
  · have a1 : co x < n % 2 * 1024 + 512 + 16 * k ∨ n % 2 * 1024 + 512 + 16 * k + 16 ≤ co x := by omega
    have a0 : co x < n % 2 * 1024 + 16 * k ∨ n % 2 * 1024 + 16 * k + 16 ≤ co x := by omega
    rw [s1.1 x a1, s0.1 x a0]
    exact h0 x hx hlt
  · rcases lane_cases _ k _ hx hx' hlt with ⟨y, hy, e⟩ | ⟨y, hy, e⟩
    · have a1 : co x < n % 2 * 1024 + 512 + 16 * k ∨ n % 2 * 1024 + 512 + 16 * k + 16 ≤ co x := by omega
      have hz : 16 * k + y < 1024 := by omega
      have e' : co x = n % 2 * 1024 + (16 * k + y) := by omega
      rw [s1.1 x a1, s0.2 x (mk1 16 y hy) e, e0, obS_at ft fi w n _ x hz e']
      exact congrArg (fun z => Gn ft fi (ooff w n + z)) (by show 0 * 512 + (16 * k + y) = _; omega)
    · have hz : 512 + (16 * k + y) < 1024 := by omega
      have e' : co x = n % 2 * 1024 + (512 + (16 * k + y)) := by omega
      rw [s1.2 x (mk1 16 y hy) e, e1, obS_at ft fi w n _ x hz e']
      exact congrArg (fun z => Gn ft fi (ooff w n + z)) (by show 1 * 512 + (16 * k + y) = _; omega)

variable (d : Dev nD) (i : grid0.Coords)

abbrev obA (o : ℕ) (inb : ∀ a, (![o] : Fin 1 → ℕ) a + S16.size a ≤ S2048.size a) : View sig .scVector .vmem S16 .i32 := (Memref.whole cc0_scratch5).access (Rect.unit (s := S2048) ![o] S16.size inb)
theorem obA_set (o inb) : (obA o inb).set = seg 2048 o 16 := (View.set_slice_whole _ _).trans (rect_seg 2048 o _ inb)
theorem obA_write (o inb) (f : Wds 2048) (P : S16.Idx → BitVec 32) :
    Stored o P f ((obA o inb).write (Elt F) (f : Buf (Elt F) (obL d i)) P Finset.univ) := by
  constructor
  · intro x hx
    refine View.write_of_not_mem _ _ _ fun hm => ?_
    have hm' : x ∈ (obA o inb).set := hm
    rw [obA_set, mem_seg] at hm'
    omega
  · intro x y hxy
    have e1 : co ((obA o inb).emb y) = o + (y 0).val := ValueKit.rect_emb_unit_val (s := S2048) _ _ inb y 0
    have e2 : x = (obA o inb).emb y := ix_ext (hxy.trans e1.symm)
    rw [e2]
    exact View.write_emb_of_mem (h := Finset.mem_univ y) ..
theorem obA_sub (n k h : ℕ) (hh : h < 2) (hk : k < 32) (inb) : (obA (n % 2 * 1024 + h * 512 + 16 * k) inb).setOn Finset.univ ⊆ seg 2048 (n % 2 * 1024) 1024 := by
  show (obA (n % 2 * 1024 + h * 512 + 16 * k) inb).set ⊆ _
  intro x hx
  rw [obA_set, mem_seg] at hx
  rw [mem_seg]
  omega

/-- A store of sixteen results. -/
theorem stO {α : Type} (n k h : ℕ) (hh : h < 2) (hk : k < 32) (f : Wds 2048) {o : Fin 1 → ℕ} {inb} (ho : o = ![n % 2 * 1024 + h * 512 + 16 * k]) {P : S16.Idx → BitVec 32} {hx hm}
    {cont : PUnit → Prog (TpuEff nD τ sig (Elt F) Λ₀ (thr d i).2) α} {Q : α → sProp 𝕄} :
    obP d i n f ⊢ iprop((∀ f' : Wds 2048, ⌜Stored (n % 2 * 1024 + h * 512 + 16 * k) P f f'⌝ -∗ obP d i n f' -∗ wp frame (wpE (defs₀ (F := F)) 𝒱₀ (thr d i) none) Set.univ (cont ⟨⟩) Q)
      -∗ wp frame (wpE (defs₀ (F := F)) 𝒱₀ (thr d i) none) Set.univ
        (.op (.store (Memref.whole cc0_scratch5) (Rect.unit (s := S2048) o S16.size inb) P Finset.univ hx hm) cont) Q) := by
  subst ho
  iintro H Hk
  iapply (wp_store 𝒱₀ (thr d i) none Set.univ (m := Memref.whole cc0_scratch5) (r := Rect.unit (s := S2048) ![n % 2 * 1024 + h * 512 + 16 * k] S16.size inb)
    (Mk := Finset.univ) (S := seg 2048 (n % 2 * 1024) 1024) (f := f) (obA_sub n k h hh hk inb)) $$ H
  iintro H
  iapply Hk $$ [] [H]
  · ipureintro; exact obA_write (F := F) _ inb f P
  iexact H

/-- The load of sixteen results that a store throws away. -/
theorem ldO {α : Type} (n k h : ℕ) (hh : h < 2) (hk : k < 32) (f : Wds 2048) {o : Fin 1 → ℕ} {inb} (ho : o = ![n % 2 * 1024 + h * 512 + 16 * k]) {hl}
    {cont : Vec F S16 .i32 → Prog (TpuEff nD τ sig (Elt F) Λ₀ (thr d i).2) α} {Q : α → sProp 𝕄} :
    obP d i n f ⊢ iprop((∀ v : Vec F S16 .i32, obP d i n f -∗ wp frame (wpE (defs₀ (F := F)) 𝒱₀ (thr d i) none) Set.univ (cont v) Q)
      -∗ wp frame (wpE (defs₀ (F := F)) 𝒱₀ (thr d i) none) Set.univ
        (.op (.load (Memref.whole cc0_scratch5) (Rect.unit (s := S2048) o S16.size inb).toLoadRect hl) cont) Q) := by
  subst ho
  iintro H Hk
  iapply (wp_load_rect 𝒱₀ (thr d i) none Set.univ (m := Memref.whole cc0_scratch5) (r := Rect.unit (s := S2048) ![n % 2 * 1024 + h * 512 + 16 * k] S16.size inb)
    (S := seg 2048 (n % 2 * 1024) 1024) (f := f) (obA_sub n k h hh hk inb)) $$ H
  iintro H
  iapply Hk $$ H

abbrev ibA (o : ℕ) (inb : ∀ a, (![o] : Fin 1 → ℕ) a + S16.size a ≤ S4096.size a) : View sig .scVector .vmem S16 .i32 := (Memref.whole cc0_scratch4).access (Rect.unit (s := S4096) ![o] S16.size inb)
theorem ibA_set (o inb) : (ibA o inb).set = seg 4096 o 16 := (View.set_slice_whole _ _).trans (rect_seg 4096 o _ inb)
theorem ibA_read (o inb) (f : Wds 4096) (x) : (ibA o inb).read (Elt F) (f : Buf (Elt F) (ibL d i)) x = f ((ibA o inb).emb x) := rfl
theorem ibA_sub (n k h : ℕ) (hk : k < 32) (inb) : (ibA (n % 4 * 1024 + h * 512 + 16 * k) inb).set ⊆ seg 4096 (n % 4 * 1024 + h * 512) 512 := by
  intro x hx
  rw [ibA_set, mem_seg] at hx
  rw [mem_seg]
  omega

/-- A load of sixteen words of positions. -/
theorem ldI {α : Type} (fi : Wds 612352) (n k h : ℕ) (hh : h < 2) (hk : k < 32) {o : Fin 1 → ℕ} {inb} (ho : o = ![n % 4 * 1024 + h * 512 + 16 * k]) {hl}
    {cont : Vec F S16 .i32 → Prog (TpuEff nD τ sig (Elt F) Λ₀ (thr d i).2) α} {Q : α → sProp 𝕄} :
    ibP d i n h (ibS fi (wid i) n) ⊢ iprop((∀ v : Vec F S16 .i32, ⌜∀ y : S16.Idx, v y = rd fi (ioff (wid i) h n + (16 * k + (y 0).val))⌝
        -∗ ibP d i n h (ibS fi (wid i) n) -∗ wp frame (wpE (defs₀ (F := F)) 𝒱₀ (thr d i) none) Set.univ (cont v) Q)
      -∗ wp frame (wpE (defs₀ (F := F)) 𝒱₀ (thr d i) none) Set.univ
        (.op (.load (Memref.whole cc0_scratch4) (Rect.unit (s := S4096) o S16.size inb).toLoadRect hl) cont) Q) := by
  subst ho
  iintro H Hk
  iapply (wp_load_rect 𝒱₀ (thr d i) none Set.univ (m := Memref.whole cc0_scratch4) (r := Rect.unit (s := S4096) ![n % 4 * 1024 + h * 512 + 16 * k] S16.size inb)
    (S := seg 4096 (n % 4 * 1024 + h * 512) 512) (f := ibS fi (wid i) n) (ibA_sub n k h hk inb)) $$ H
  iintro H
  iapply Hk $$ [] [H]
  · ipureintro
    intro y
    have hy : (y 0).val < 16 := (y 0).isLt
    have hy' : 16 * k + (y 0).val < 512 := by omega
    refine (ibA_read (F := F) _ inb _ y).trans ?_
    have e1 : co ((ibA (n % 4 * 1024 + h * 512 + 16 * k) inb).emb y) = n % 4 * 1024 + h * 512 + (16 * k + (y 0).val) :=
      (ValueKit.rect_emb_unit_val (s := S4096) _ _ inb y 0).trans (Nat.add_assoc _ _ _)
    obtain ⟨h1, h2⟩ := slot_arith (n % 4) h _ hh hy'
    unfold ibS
    rw [e1, h1, h2]
  iexact H

abbrev tbA0 (o : ℕ) (inb : ∀ a, (![o] : Fin 1 → ℕ) a + S12288.size a ≤ S36864.size a) : View sig .scVector .vmem S12288 .i32 :=
  ((Memref.whole cc0_scratch0).slice (Rect.unit (s := S36864) ![o] S12288.size inb) (fun _ => rfl)).access (.whole S12288)
theorem tbA0_read (o inb) (f : Wds 36864) (x) : (tbA0 o inb).read (Elt F) (f : Buf (Elt F) ((thr d i).loc cc0_scratch0)) x = f ((tbA0 o inb).emb x) := rfl
theorem tbA0_emb (o inb) (x : S12288.Idx) : co ((tbA0 o inb).emb x) = o + (x 0).val := by
  refine (ValueKit.rect_emb_unit_val (s := S36864) _ _ inb _ 0).trans (congrArg (o + ·) ?_)
  exact congrArg (fun z : S12288.Idx => (z 0).val) (Rect.emb_whole_apply S12288 x)

/-- A gather of sixteen words of table 0 of phase 0. -/
theorem gat0 {α : Type} (ft : Wds 41879552) (p o : ℕ) (v : IVec S16 32) {inb h hl} {cont : Vec F S16 .i32 → Prog (TpuEff nD τ sig (Elt F) Λ₀ (thr d i).2) α} {Q : α → sProp 𝕄} :
    taP0 d i (tbS 36864 ft 0 0 p) ⊢ iprop((∀ g : Vec F S16 .i32, ⌜∀ y : S16.Idx, g y = rd ft (toff 0 0 p + (o + (v y).toNat))⌝
        -∗ taP0 d i (tbS 36864 ft 0 0 p) -∗ wp frame (wpE (defs₀ (F := F)) 𝒱₀ (thr d i) none) Set.univ (cont g) Q)
      -∗ wp frame (wpE (defs₀ (F := F)) 𝒱₀ (thr d i) none) Set.univ
        (SparseCore.vectorLoadIdx ((Memref.whole cc0_scratch0).slice (Rect.unit (s := S36864) ![o] S12288.size inb) (fun _ => rfl)) ![v] h hl >>= cont) Q) := by
  iintro H Hk
  iapply (SparseCore.wp_vectorLoadIdx 𝒱₀ (thr d i) none Set.univ (base := (Memref.whole cc0_scratch0).slice (Rect.unit (s := S36864) ![o] S12288.size inb) (fun _ => rfl))
    (idxs := ![v]) (h := h) (hl := hl) (S := Finset.univ) (f := tbS 36864 ft 0 0 p) (Finset.subset_univ _)) $$ H
  iintro H
  iapply Hk $$ [] [H]
  · ipureintro
    intro y
    refine (tbA0_read (F := F) o inb _ _).trans ?_
    unfold tbS
    rw [tbA0_emb]
    rfl
  iexact H

abbrev tbA1 (o : ℕ) (inb : ∀ a, (![o] : Fin 1 → ℕ) a + S12288.size a ≤ S36864.size a) : View sig .scVector .vmem S12288 .i32 :=
  ((Memref.whole cc0_scratch1).slice (Rect.unit (s := S36864) ![o] S12288.size inb) (fun _ => rfl)).access (.whole S12288)
theorem tbA1_read (o inb) (f : Wds 36864) (x) : (tbA1 o inb).read (Elt F) (f : Buf (Elt F) ((thr d i).loc cc0_scratch1)) x = f ((tbA1 o inb).emb x) := rfl
theorem tbA1_emb (o inb) (x : S12288.Idx) : co ((tbA1 o inb).emb x) = o + (x 0).val := by
  refine (ValueKit.rect_emb_unit_val (s := S36864) _ _ inb _ 0).trans (congrArg (o + ·) ?_)
  exact congrArg (fun z : S12288.Idx => (z 0).val) (Rect.emb_whole_apply S12288 x)

/-- A gather of sixteen words of table 1 of phase 0. -/
theorem gat1 {α : Type} (ft : Wds 41879552) (p o : ℕ) (v : IVec S16 32) {inb h hl} {cont : Vec F S16 .i32 → Prog (TpuEff nD τ sig (Elt F) Λ₀ (thr d i).2) α} {Q : α → sProp 𝕄} :
    tbP0 d i (tbS 36864 ft 1 0 p) ⊢ iprop((∀ g : Vec F S16 .i32, ⌜∀ y : S16.Idx, g y = rd ft (toff 1 0 p + (o + (v y).toNat))⌝
        -∗ tbP0 d i (tbS 36864 ft 1 0 p) -∗ wp frame (wpE (defs₀ (F := F)) 𝒱₀ (thr d i) none) Set.univ (cont g) Q)
      -∗ wp frame (wpE (defs₀ (F := F)) 𝒱₀ (thr d i) none) Set.univ
        (SparseCore.vectorLoadIdx ((Memref.whole cc0_scratch1).slice (Rect.unit (s := S36864) ![o] S12288.size inb) (fun _ => rfl)) ![v] h hl >>= cont) Q) := by
  iintro H Hk
  iapply (SparseCore.wp_vectorLoadIdx 𝒱₀ (thr d i) none Set.univ (base := (Memref.whole cc0_scratch1).slice (Rect.unit (s := S36864) ![o] S12288.size inb) (fun _ => rfl))
    (idxs := ![v]) (h := h) (hl := hl) (S := Finset.univ) (f := tbS 36864 ft 1 0 p) (Finset.subset_univ _)) $$ H
  iintro H
  iapply Hk $$ [] [H]
  · ipureintro
    intro y
    refine (tbA1_read (F := F) o inb _ _).trans ?_
    unfold tbS
    rw [tbA1_emb]
    rfl
  iexact H

abbrev tbA2 (o : ℕ) (inb : ∀ a, (![o] : Fin 1 → ℕ) a + S12288.size a ≤ S24576.size a) : View sig .scVector .vmem S12288 .i32 :=
  ((Memref.whole cc0_scratch2).slice (Rect.unit (s := S24576) ![o] S12288.size inb) (fun _ => rfl)).access (.whole S12288)
theorem tbA2_read (o inb) (f : Wds 24576) (x) : (tbA2 o inb).read (Elt F) (f : Buf (Elt F) ((thr d i).loc cc0_scratch2)) x = f ((tbA2 o inb).emb x) := rfl
theorem tbA2_emb (o inb) (x : S12288.Idx) : co ((tbA2 o inb).emb x) = o + (x 0).val := by
  refine (ValueKit.rect_emb_unit_val (s := S24576) _ _ inb _ 0).trans (congrArg (o + ·) ?_)
  exact congrArg (fun z : S12288.Idx => (z 0).val) (Rect.emb_whole_apply S12288 x)

/-- A gather of sixteen words of table 0 of phase 1. -/
theorem gat2 {α : Type} (ft : Wds 41879552) (p o : ℕ) (v : IVec S16 32) {inb h hl} {cont : Vec F S16 .i32 → Prog (TpuEff nD τ sig (Elt F) Λ₀ (thr d i).2) α} {Q : α → sProp 𝕄} :
    taP1 d i (tbS 24576 ft 0 1 p) ⊢ iprop((∀ g : Vec F S16 .i32, ⌜∀ y : S16.Idx, g y = rd ft (toff 0 1 p + (o + (v y).toNat))⌝
        -∗ taP1 d i (tbS 24576 ft 0 1 p) -∗ wp frame (wpE (defs₀ (F := F)) 𝒱₀ (thr d i) none) Set.univ (cont g) Q)
      -∗ wp frame (wpE (defs₀ (F := F)) 𝒱₀ (thr d i) none) Set.univ
        (SparseCore.vectorLoadIdx ((Memref.whole cc0_scratch2).slice (Rect.unit (s := S24576) ![o] S12288.size inb) (fun _ => rfl)) ![v] h hl >>= cont) Q) := by
  iintro H Hk
  iapply (SparseCore.wp_vectorLoadIdx 𝒱₀ (thr d i) none Set.univ (base := (Memref.whole cc0_scratch2).slice (Rect.unit (s := S24576) ![o] S12288.size inb) (fun _ => rfl))
    (idxs := ![v]) (h := h) (hl := hl) (S := Finset.univ) (f := tbS 24576 ft 0 1 p) (Finset.subset_univ _)) $$ H
  iintro H
  iapply Hk $$ [] [H]
  · ipureintro
    intro y
    refine (tbA2_read (F := F) o inb _ _).trans ?_
    unfold tbS
    rw [tbA2_emb]
    rfl
  iexact H

abbrev tbA3 (o : ℕ) (inb : ∀ a, (![o] : Fin 1 → ℕ) a + S12288.size a ≤ S24576.size a) : View sig .scVector .vmem S12288 .i32 :=
  ((Memref.whole cc0_scratch3).slice (Rect.unit (s := S24576) ![o] S12288.size inb) (fun _ => rfl)).access (.whole S12288)
theorem tbA3_read (o inb) (f : Wds 24576) (x) : (tbA3 o inb).read (Elt F) (f : Buf (Elt F) ((thr d i).loc cc0_scratch3)) x = f ((tbA3 o inb).emb x) := rfl
theorem tbA3_emb (o inb) (x : S12288.Idx) : co ((tbA3 o inb).emb x) = o + (x 0).val := by
  refine (ValueKit.rect_emb_unit_val (s := S24576) _ _ inb _ 0).trans (congrArg (o + ·) ?_)
  exact congrArg (fun z : S12288.Idx => (z 0).val) (Rect.emb_whole_apply S12288 x)

/-- A gather of sixteen words of table 1 of phase 1. -/
theorem gat3 {α : Type} (ft : Wds 41879552) (p o : ℕ) (v : IVec S16 32) {inb h hl} {cont : Vec F S16 .i32 → Prog (TpuEff nD τ sig (Elt F) Λ₀ (thr d i).2) α} {Q : α → sProp 𝕄} :
    tbP1 d i (tbS 24576 ft 1 1 p) ⊢ iprop((∀ g : Vec F S16 .i32, ⌜∀ y : S16.Idx, g y = rd ft (toff 1 1 p + (o + (v y).toNat))⌝
        -∗ tbP1 d i (tbS 24576 ft 1 1 p) -∗ wp frame (wpE (defs₀ (F := F)) 𝒱₀ (thr d i) none) Set.univ (cont g) Q)
      -∗ wp frame (wpE (defs₀ (F := F)) 𝒱₀ (thr d i) none) Set.univ
        (SparseCore.vectorLoadIdx ((Memref.whole cc0_scratch3).slice (Rect.unit (s := S24576) ![o] S12288.size inb) (fun _ => rfl)) ![v] h hl >>= cont) Q) := by
  iintro H Hk
  iapply (SparseCore.wp_vectorLoadIdx 𝒱₀ (thr d i) none Set.univ (base := (Memref.whole cc0_scratch3).slice (Rect.unit (s := S24576) ![o] S12288.size inb) (fun _ => rfl))
    (idxs := ![v]) (h := h) (hl := hl) (S := Finset.univ) (f := tbS 24576 ft 1 1 p) (Finset.subset_univ _)) $$ H
  iintro H
  iapply Hk $$ [] [H]
  · ipureintro
    intro y
    refine (tbA3_read (F := F) o inb _ _).trans ?_
    unfold tbS
    rw [tbA3_emb]
    rfl
  iexact H

end Cert.Proof.Pairs
end
-- ==== Proof.Lanes.lean ====
/-
  One group of sixteen tokens: it keeps the tables and the positions, and adds its results to the bank.
-/
module

public import proofs.«01_k».proof.Proof.LaneOps

@[expose] public section

noncomputable section

namespace Cert.Proof.Pairs

open Cert.Kernel
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

local notation "𝕄" => MT nD τ sig (HIx 1) (Elt F) ℕ UU ℕ

variable (d : Dev nD) (i : grid0.Coords) (ft : Wds 41879552) (fi : Wds 612352)

/-- Every position that is read lies in its table window. -/
def PosOK (fi : Wds 612352) : Prop := ∀ f u h, f < 26 → u < 23040 → (hw h (rd fi (f * 23552 + u))).toNat < 12288

theorem fld_lt (h p : ℕ) (hp : p < 325) : fld h p < 26 := by
  have key : ∀ q : Fin 325, fF q.val < 26 ∧ gG q.val < 26 := by decide +kernel
  unfold fld
  split
  · exact (key ⟨p, hp⟩).1
  · exact (key ⟨p, hp⟩).2

theorem pos_lt (hpos : PosOK fi) (w h n u b : ℕ) (hw' : w < 32) (hu : u < 512) : (hw b (rd fi (ioff w h n + u))).toNat < 12288 := by
  have hip : ip w n < 325 := by
    unfold ip nv
    repeat' split
    all_goals omega
  have hc : n % 45 < 45 := Nat.mod_lt _ (by decide)
  have e : ioff w h n + u = fld h (ip w n) * 23552 + (n % 45 * 512 + u) := by unfold ioff; omega
  rw [e]
  exact hpos _ _ b (fld_lt h _ hip) (by omega)

theorem asm {α : Type} {P : Prop} {dec : Decidable P} (h : P) {cont : PLift P → Prog (TpuEff nD τ sig (Elt F) Λ₀ (thr d i).2) α} {Q : α → sProp 𝕄} :
    wp frame (wpE (defs₀ (F := F)) 𝒱₀ (thr d i) none) Set.univ (cont ⟨h⟩) Q
      ⊢ wp frame (wpE (defs₀ (F := F)) 𝒱₀ (thr d i) none) Set.univ (.op (.assume P dec) cont) Q := wp_assume 𝒱₀ (thr d i) none Set.univ h

theorem idx_inb {v : IVec S16 32} (hv : ∀ y, (v y).toNat < 12288) : ∀ a x, ((![v] : Fin 1 → IVec S16 32) a x).toNat < S12288.size a := by
  intro a x
  match a with
  | 0 => exact hv x

/-- The state between groups of phase 0, `k` groups done. -/
def LaneI0 (n p k : ℕ) : sProp 𝕄 :=
  iprop(taP0 d i (tbS 36864 ft 0 0 p) ∗ tbP0 d i (tbS 36864 ft 1 0 p) ∗ ibP d i n 0 (ibS fi (wid i) n) ∗ ibP d i n 1 (ibS fi (wid i) n)
    ∗ ∃ f : Wds 2048, ⌜LaneOK ft fi (wid i) n k f⌝ ∗ obP d i n f)

set_option maxHeartbeats 4000000 in
theorem lane0 (hpos : PosOK fi) (r : Fin (k0_t1_loop i).trips) (c : Fin k0_t2_loop.trips) (k : Fin k0_t3_loop.trips) (v263 v341 arg15 v469 v498 v500 v501 c512_i32_200 v529 v531 : BitVec 32) :
    LaneI0 d i ft fi (90 * r.val + c.val) (wid i + 32 * r.val) k.val ⊢ (wp frame (wpE (defs₀ (F := F)) 𝒱₀ (thr d i) none) Set.univ
      (k0_t3_body i (Memref.whole main_arg0_scv) (Memref.isWhole_whole _) (Memref.whole main_arg1_scv) (Memref.isWhole_whole _) (Memref.whole main_v0_scv) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 r v263 v341 c arg15 v469 v498 v500 v501 c512_i32_200 v529 v531 k ())
      (fun _ => LaneI0 d i ft fi (90 * r.val + c.val) (wid i + 32 * r.val) (k.val + 1)) : sProp 𝕄) := by
  have hk : k.val < 32 := (k3 k).isLt
  have hw' : wid i < 32 := wid_lt i
  have hr : r.val < nv (wid i) := r_lt r
  have hc : c.val < 45 := t2_trips ▸ c.isLt
  have hnd : (90 * r.val + c.val) / 90 = r.val := by omega
  have hnp : (90 * r.val + c.val) / 45 % 2 = 0 := by omega
  have hr' : (90 * r.val + c.val) / 90 < nv (wid i) := by rw [hnd]; exact hr
  have hp : wid i + 32 * r.val = wid i + 32 * ((90 * r.val + c.val) / 90) := by rw [hnd]
  have z0 : (0:ℕ) < 2 := by decide
  have z1 : (1:ℕ) < 2 := by decide
  have o0 : k0_off20 i r c k = ![(90 * r.val + c.val) % 4 * 1024 + 0 * 512 + 16 * k.val] := by rw [off20_eq, Nat.zero_mul]; rfl
  have o1 : k0_off21 i r c k = ![(90 * r.val + c.val) % 4 * 1024 + 1 * 512 + 16 * k.val] := by rw [off21_eq, Nat.one_mul]
  have o2 : k0_off22 i r c k = ![(90 * r.val + c.val) % 2 * 1024 + 0 * 512 + 16 * k.val] := by rw [off22_eq, Nat.zero_mul]; rfl
  have o3 : k0_off23 i r c k = ![(90 * r.val + c.val) % 2 * 1024 + 1 * 512 + 16 * k.val] := by rw [off23_eq, Nat.one_mul]
  generalize hn : (90 * r.val + c.val) = n at *
  generalize hpp : (wid i + 32 * r.val) = p at *
  unfold k0_t3_body LaneI0
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret, Prog.pure_eq_ret, Prog.bind_assoc]
  iintro ⟨HA, HB, HI0, HI1, %f, %hf, HO⟩
  iapply (ldI d i fi n k.val 0 z0 hk o0) $$ HI0
  iintro %va %hva HI0
  iapply (ldI d i fi n k.val 1 z1 hk o1) $$ HI1
  iintro %vb %hvb HI1
  have hlt : ∀ y : S16.Idx, 16 * k.val + (y 0).val < 512 := fun y => by
    have hy : (y 0).val < 16 := (y 0).isLt
    omega
  have q00 : ∀ y, (k0_pay1 va y).toNat < 12288 := fun y => by
    show (hw 0 (va y)).toNat < 12288
    rw [hva y]
    exact pos_lt fi hpos _ 0 n _ 0 hw' (hlt y)
  have q01 : ∀ y, (k0_pay2 vb y).toNat < 12288 := fun y => by
    show (hw 0 (vb y)).toNat < 12288
    rw [hvb y]
    exact pos_lt fi hpos _ 1 n _ 0 hw' (hlt y)
  have q10 : ∀ y, (k0_pay25 va y).toNat < 12288 := fun y => by
    show (hw 1 (va y)).toNat < 12288
    rw [hva y]
    exact pos_lt fi hpos _ 0 n _ 1 hw' (hlt y)
  have q11 : ∀ y, (k0_pay26 vb y).toNat < 12288 := fun y => by
    show (hw 1 (vb y)).toNat < 12288
    rw [hvb y]
    exact pos_lt fi hpos _ 1 n _ 1 hw' (hlt y)
  iapply (asm d i (show k0_chk1 _ from ⟨idx_inb q00, idx_inb q00, idx_inb q00⟩))
  iapply (asm d i (show k0_chk2 _ from ⟨idx_inb q01, idx_inb q01, idx_inb q01⟩))
  iapply (gat0 d i ft p 0 _) $$ HA
  iintro %a00 %ha00 HA
  iapply (gat1 d i ft p 0 _) $$ HB
  iintro %b00 %hb00 HB
  iapply (gat0 d i ft p 12288 _) $$ HA
  iintro %a01 %ha01 HA
  iapply (gat1 d i ft p 12288 _) $$ HB
  iintro %b01 %hb01 HB
  iapply (gat0 d i ft p 24576 _) $$ HA
  iintro %a02 %ha02 HA
  iapply (gat1 d i ft p 24576 _) $$ HB
  iintro %b02 %hb02 HB
  iapply (ldO d i n k.val 0 z0 hk f o2) $$ HO
  iintro %w0 HO
  iapply (stO d i n k.val 0 z0 hk f o2) $$ HO
  iintro %f1 %hs0 HO
  iapply (asm d i (show k0_chk3 _ from ⟨idx_inb q10, idx_inb q10, idx_inb q10⟩))
  iapply (asm d i (show k0_chk4 _ from ⟨idx_inb q11, idx_inb q11, idx_inb q11⟩))
  iapply (gat0 d i ft p 0 _) $$ HA
  iintro %a10 %ha10 HA
  iapply (gat1 d i ft p 0 _) $$ HB
  iintro %b10 %hb10 HB
  iapply (gat0 d i ft p 12288 _) $$ HA
  iintro %a11 %ha11 HA
  iapply (gat1 d i ft p 12288 _) $$ HB
  iintro %b11 %hb11 HB
  iapply (gat0 d i ft p 24576 _) $$ HA
  iintro %a12 %ha12 HA
  iapply (gat1 d i ft p 24576 _) $$ HB
  iintro %b12 %hb12 HB
  iapply (ldO d i n k.val 1 z1 hk f1 o3) $$ HO
  iintro %w1 HO
  iapply (stO d i n k.val 1 z1 hk f1 o3) $$ HO
  iintro %f2 %hs1 HO
  rw [wp_ret]
  imodintro
  isplitl [HA]; · iexact HA
  isplitl [HB]; · iexact HB
  isplitl [HI0]; · iexact HI0
  isplitl [HI1]; · iexact HI1
  iexists f2
  isplitr [HO]
  · ipureintro
    rw [Nat.zero_mul, Nat.add_zero] at hs0
    rw [Nat.one_mul] at hs1
    refine lane_step ft fi (wid i) n k.val hk f f1 f2 _ _ hf hs0 hs1 ?_ ?_
    · intro y
      rw [Gn_at0 ft fi (wid i) n 0 _ z0 (hlt y) hw' hr' hnp hp]
      refine (show _ = (dot4 (a00 y) (b00 y) + dot4 (a01 y) (b01 y)) + dot4 (a02 y) (b02 y) from rfl).trans ?_
      rw [ha00 y, hb00 y, ha01 y, hb01 y, ha02 y, hb02 y]
      unfold dq
      rw [← hva y, ← hvb y]
      rfl
    · intro y
      rw [Gn_at0 ft fi (wid i) n 1 _ z1 (hlt y) hw' hr' hnp hp]
      refine (show _ = (dot4 (a10 y) (b10 y) + dot4 (a11 y) (b11 y)) + dot4 (a12 y) (b12 y) from rfl).trans ?_
      rw [ha10 y, hb10 y, ha11 y, hb11 y, ha12 y, hb12 y]
      unfold dq
      rw [← hva y, ← hvb y]
      rfl
  iexact HO

/-- The state between groups of phase 1, `k` groups done. -/
def LaneI1 (n p k : ℕ) : sProp 𝕄 :=
  iprop(taP1 d i (tbS 24576 ft 0 1 p) ∗ tbP1 d i (tbS 24576 ft 1 1 p) ∗ ibP d i n 0 (ibS fi (wid i) n) ∗ ibP d i n 1 (ibS fi (wid i) n)
    ∗ ∃ f : Wds 2048, ⌜LaneOK ft fi (wid i) n k f⌝ ∗ obP d i n f)

set_option maxHeartbeats 4000000 in
theorem lane1 (hpos : PosOK fi) (r : Fin (k0_t1_loop i).trips) (c : Fin k0_t4_loop.trips) (k : Fin k0_t5_loop.trips) (v263 arg15 v469 v497 v498 v500 v502 c23552_i32_199 v531 v533 : BitVec 32) :
    LaneI1 d i ft fi (90 * r.val + 45 + c.val) (wid i + 32 * r.val) k.val ⊢ (wp frame (wpE (defs₀ (F := F)) 𝒱₀ (thr d i) none) Set.univ
      (k0_t5_body i (Memref.whole main_arg0_scv) (Memref.isWhole_whole _) (Memref.whole main_arg1_scv) (Memref.isWhole_whole _) (Memref.whole main_v0_scv) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 r v263 c arg15 v469 v497 v498 v500 v502 c23552_i32_199 v531 v533 k ())
      (fun _ => LaneI1 d i ft fi (90 * r.val + 45 + c.val) (wid i + 32 * r.val) (k.val + 1)) : sProp 𝕄) := by
  have hk : k.val < 32 := (k5 k).isLt
  have hw' : wid i < 32 := wid_lt i
  have hr : r.val < nv (wid i) := r_lt r
  have hc : c.val < 45 := t4_trips ▸ c.isLt
  have hnd : (90 * r.val + 45 + c.val) / 90 = r.val := by omega
  have hnp : (90 * r.val + 45 + c.val) / 45 % 2 = 1 := by omega
  have hr' : (90 * r.val + 45 + c.val) / 90 < nv (wid i) := by rw [hnd]; exact hr
  have hp : wid i + 32 * r.val = wid i + 32 * ((90 * r.val + 45 + c.val) / 90) := by rw [hnd]
  have z0 : (0:ℕ) < 2 := by decide
  have z1 : (1:ℕ) < 2 := by decide
  have o0 : k0_off42 i r c k = ![(90 * r.val + 45 + c.val) % 4 * 1024 + 0 * 512 + 16 * k.val] := by rw [off42_eq, Nat.zero_mul]; rfl
  have o1 : k0_off43 i r c k = ![(90 * r.val + 45 + c.val) % 4 * 1024 + 1 * 512 + 16 * k.val] := by rw [off43_eq, Nat.one_mul]
  have o2 : k0_off44 i r c k = ![(90 * r.val + 45 + c.val) % 2 * 1024 + 0 * 512 + 16 * k.val] := by rw [off44_eq, Nat.zero_mul]; rfl
  have o3 : k0_off45 i r c k = ![(90 * r.val + 45 + c.val) % 2 * 1024 + 1 * 512 + 16 * k.val] := by rw [off45_eq, Nat.one_mul]
  generalize hn : (90 * r.val + 45 + c.val) = n at *
  generalize hpp : (wid i + 32 * r.val) = p at *
  unfold k0_t5_body LaneI1
  simp only [k0_part9_eq_skeleton, k0_part10_eq_skeleton, k0_part11_eq_skeleton, k0_part12_eq_skeleton]
  unfold k0_part9_skel k0_part10_skel k0_part11_skel k0_part12_skel
  simp only [Prog.lift, Prog.bind_op, Prog.bind_ret, Prog.pure_eq_ret, Prog.bind_assoc]
  iintro ⟨HA, HB, HI0, HI1, %f, %hf, HO⟩
  iapply (ldI d i fi n k.val 0 z0 hk o0) $$ HI0
  iintro %va %hva HI0
  iapply (ldI d i fi n k.val 1 z1 hk o1) $$ HI1
  iintro %vb %hvb HI1
  have hlt : ∀ y : S16.Idx, 16 * k.val + (y 0).val < 512 := fun y => by
    have hy : (y 0).val < 16 := (y 0).isLt
    omega
  have q00 : ∀ y, (k0_pay40 va y).toNat < 12288 := fun y => by
    show (hw 0 (va y)).toNat < 12288
    rw [hva y]
    exact pos_lt fi hpos _ 0 n _ 0 hw' (hlt y)
  have q01 : ∀ y, (k0_pay41 vb y).toNat < 12288 := fun y => by
    show (hw 0 (vb y)).toNat < 12288
    rw [hvb y]
    exact pos_lt fi hpos _ 1 n _ 0 hw' (hlt y)
  have q10 : ∀ y, (k0_pay57 va y).toNat < 12288 := fun y => by
    show (hw 1 (va y)).toNat < 12288
    rw [hva y]
    exact pos_lt fi hpos _ 0 n _ 1 hw' (hlt y)
  have q11 : ∀ y, (k0_pay58 vb y).toNat < 12288 := fun y => by
    show (hw 1 (vb y)).toNat < 12288
    rw [hvb y]
    exact pos_lt fi hpos _ 1 n _ 1 hw' (hlt y)
  iapply (asm d i (show k0_chk5 _ from ⟨idx_inb q00, idx_inb q00⟩))
  iapply (asm d i (show k0_chk6 _ from ⟨idx_inb q01, idx_inb q01⟩))
  iapply (gat2 d i ft p 0 _) $$ HA
  iintro %a00 %ha00 HA
  iapply (gat3 d i ft p 0 _) $$ HB
  iintro %b00 %hb00 HB
  iapply (gat2 d i ft p 12288 _) $$ HA
  iintro %a01 %ha01 HA
  iapply (gat3 d i ft p 12288 _) $$ HB
  iintro %b01 %hb01 HB
  iapply (ldO d i n k.val 0 z0 hk f o2) $$ HO
  iintro %w0 HO
  iapply (stO d i n k.val 0 z0 hk f o2) $$ HO
  iintro %f1 %hs0 HO
  iapply (asm d i (show k0_chk7 _ from ⟨idx_inb q10, idx_inb q10⟩))
  iapply (asm d i (show k0_chk8 _ from ⟨idx_inb q11, idx_inb q11⟩))
  iapply (gat2 d i ft p 0 _) $$ HA
  iintro %a10 %ha10 HA
  iapply (gat3 d i ft p 0 _) $$ HB
  iintro %b10 %hb10 HB
  iapply (gat2 d i ft p 12288 _) $$ HA
  iintro %a11 %ha11 HA
  iapply (gat3 d i ft p 12288 _) $$ HB
  iintro %b11 %hb11 HB
  iapply (ldO d i n k.val 1 z1 hk f1 o3) $$ HO
  iintro %w1 HO
  iapply (stO d i n k.val 1 z1 hk f1 o3) $$ HO
  iintro %f2 %hs1 HO
  rw [wp_ret]
  imodintro
  isplitl [HA]; · iexact HA
  isplitl [HB]; · iexact HB
  isplitl [HI0]; · iexact HI0
  isplitl [HI1]; · iexact HI1
  iexists f2
  isplitr [HO]
  · ipureintro
    rw [Nat.zero_mul, Nat.add_zero] at hs0
    rw [Nat.one_mul] at hs1
    refine lane_step ft fi (wid i) n k.val hk f f1 f2 _ _ hf hs0 hs1 ?_ ?_
    · intro y
      rw [Gn_at1 ft fi (wid i) n 0 _ z0 (hlt y) hw' hr' hnp hp]
      refine (show _ = (dot4 (a00 y) (b00 y) + dot4 (a01 y) (b01 y)) from rfl).trans ?_
      rw [ha00 y, hb00 y, ha01 y, hb01 y]
      unfold dq
      rw [← hva y, ← hvb y]
      rfl
    · intro y
      rw [Gn_at1 ft fi (wid i) n 1 _ z1 (hlt y) hw' hr' hnp hp]
      refine (show _ = (dot4 (a10 y) (b10 y) + dot4 (a11 y) (b11 y)) from rfl).trans ?_
      rw [ha10 y, hb10 y, ha11 y, hb11 y]
      unfold dq
      rw [← hva y, ← hvb y]
      rfl
  iexact HO

end Cert.Proof.Pairs
end
-- ==== Proof.ArithA.lean ====
/-
  The arithmetic of the kernel's schedule: where phase 0's copies begin, in the positions and in the results.
-/
module

public import proofs.«01_k».proof.Kernel
public import proofs.«01_k».proof.Proof.Sched
public import Idealize.ShloMosaic.Lib.Decide

@[expose] public section

namespace Cert.Proof.Pairs

open Cert.Kernel Idealize.ShloMosaic

theorem off14_eq : ∀ (i : grid0.Coords) (r : Fin (k0_t1_loop i).trips) (c : Fin k0_t2_loop.trips),
    k0_off14 i r c = ![ioff (wid i) 0 (90 * r.val + c.val + 3)] := by decide +kernel
theorem off16_eq : ∀ (i : grid0.Coords) (r : Fin (k0_t1_loop i).trips) (c : Fin k0_t2_loop.trips),
    k0_off16 i r c = ![ioff (wid i) 1 (90 * r.val + c.val + 3)] := by decide +kernel
theorem off25_eq : ∀ (i : grid0.Coords) (r : Fin (k0_t1_loop i).trips) (c : Fin k0_t2_loop.trips),
    k0_off25 i r c = ![ooff (wid i) (90 * r.val + c.val)] := by decide +kernel

end Cert.Proof.Pairs
end
-- ==== Proof.ArithB.lean ====
/-
  The arithmetic of the kernel's schedule: where phase 1's copies begin, in the positions and in the results.
-/
module

public import proofs.«01_k».proof.Kernel
public import proofs.«01_k».proof.Proof.Sched
public import Idealize.ShloMosaic.Lib.Decide

@[expose] public section

namespace Cert.Proof.Pairs

open Cert.Kernel Idealize.ShloMosaic

theorem off36_eq : ∀ (i : grid0.Coords) (r : Fin (k0_t1_loop i).trips) (c : Fin k0_t4_loop.trips),
    k0_off36 i r c = ![ioff (wid i) 0 (90 * r.val + 45 + c.val + 3)] := by decide +kernel
theorem off38_eq : ∀ (i : grid0.Coords) (r : Fin (k0_t1_loop i).trips) (c : Fin k0_t4_loop.trips),
    k0_off38 i r c = ![ioff (wid i) 1 (90 * r.val + 45 + c.val + 3)] := by decide +kernel
theorem off47_eq : ∀ (i : grid0.Coords) (r : Fin (k0_t1_loop i).trips) (c : Fin k0_t4_loop.trips),
    k0_off47 i r c = ![ooff (wid i) (90 * r.val + 45 + c.val)] := by decide +kernel

end Cert.Proof.Pairs
end
-- ==== Proof.Chunk.lean ====
/-
  One chunk: its positions waited for, those of the chunk three on started, its bank emptied, its groups done, its results sent.
-/
module

public import proofs.«01_k».proof.Proof.Ops
public import proofs.«01_k».proof.Proof.Lanes
public import proofs.«01_k».proof.Proof.ArithA
public import proofs.«01_k».proof.Proof.ArithB

@[expose] public section

noncomputable section

namespace Cert.Proof.Pairs

open Cert.Kernel
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

local notation "𝕄" => MT nD τ sig (HIx 1) (Elt F) ℕ UU ℕ

variable (d : Dev nD) (i : grid0.Coords) (qi qt : PosShare TreeShare) (ft : Wds 41879552) (fi : Wds 612352) (fo : Wds 29952000)
  (O : CellTallies nD τ sig (HIx 1)) (W : Waits sig (HIx 1))

/-- The bank of chunk `k` before that chunk's turn. -/
def OutSl (k : ℕ) : sProp 𝕄 := if 2 ≤ k then OutFl d i ft fi (k - 2) else OutFree d i k

/-- The rings and the output before chunk `n`. -/
def RingSt (n : ℕ) : sProp 𝕄 :=
  iprop(IdxFl d i qi fi n ∗ IdxFl d i qi fi (n + 1) ∗ IdxFl d i qi fi (n + 2) ∗ IdxFree d i qi fi (n + 3) ∗ OutSl d i ft fi n ∗ OutSl d i ft fi (n + 1)
    ∗ ouP d i (todoS (wid i) n) fo ∗ ouP d i (doneS (wid i) (n - 2)) (G ft fi) ∗ Ow d i O W ∗ MayWaits (thr d i) (none : HIx 1) O)

theorem idx_again (n : ℕ) : IdxRdy (F := F) d i qi fi n ⊢ IdxFree d i qi fi (n + 4) := by
  have e : (n + 4) % 4 = n % 4 := Nat.add_mod_right n 4
  have e' : isem (n + 4) = isem n := Fin.ext (congrArg (2 + ·) e)
  unfold IdxRdy IdxFree ixT ibP
  rw [e', e]
  iintro ⟨H0, H1, H2, H3, H4⟩
  isplitl [H0]; · iexact H0
  isplitl [H1]; · iexact H1
  isplitl [H2]; · iexact H2
  isplitl [H3]
  · iexists _; iexact H3
  · iexists _; iexact H4

theorem out_again (n : ℕ) : OutRdy (F := F) d i ft fi n ⊢ OutFree d i (n + 2) := by
  have e : (n + 2) % 2 = n % 2 := Nat.add_mod_right n 2
  have e' : osem (n + 2) = osem n := Fin.ext (congrArg (6 + ·) e)
  unfold OutRdy OutFree obP
  rw [e', e]
  iintro ⟨H0, H1⟩
  isplitl [H0]; · iexact H0
  iexists _; iexact H1

/-- The bank of chunk `n` is waited for when it has been sent before. -/
theorem outWait {α : Type} (n : ℕ) (hn : n < 90 * nv (wid i)) {c : Prop} [Decidable c] (hc : c ↔ 2 ≤ n) {o : c → Fin 1 → ℕ} {s0 : c → DmaSem sig} {io : ∀ h : c, _}
    (hs0 : ∀ h, s0 h = osem n) {spa : Space} {sa : Shape} {ea : EltTy} {w0 : c → Memref sig .scVector spa sa ea}
    {h1 : ∀ h : c, (w0 h).view.WordExact} {h2 : ∀ h : c, ((Memref.whole main_v0_scv).slice (Rect.unit (s := S29952000) (o h) S1024.size (io h)) (fun _ => rfl)).view.WordExact}
    {β : Type} {X : Prog (TpuEff nD τ sig (Elt F) Λ₀ (thr d i).2) β} {cont : β → Prog (TpuEff nD τ sig (Elt F) Λ₀ (thr d i).2) α} {Q : α → sProp 𝕄} :
    iprop(OutSl d i ft fi n ∗ ouP d i (doneS (wid i) (n - 2)) (G ft fi) ∗ Ow d i O W ∗ MayWaits (thr d i) (none : HIx 1) O)
      ⊢ iprop((iprop(OutFree d i n ∗ ouP d i (doneS (wid i) (n + 1 - 2)) (G ft fi) ∗ Ow d i O W)
          -∗ wp frame (wpE (defs₀ (F := F)) 𝒱₀ (thr d i) none) Set.univ (X >>= cont) Q)
      -∗ wp frame (wpE (defs₀ (F := F)) 𝒱₀ (thr d i) none) Set.univ
        ((if h : c then (.op (.waitDma2 (s0 h) (w0 h) ((Memref.whole main_v0_scv).slice (Rect.unit (s := S29952000) (o h) S1024.size (io h)) (fun _ => rfl)) (h1 h) (h2 h)) fun _ => X)
          else X) >>= cont) Q) := by
  by_cases h : c
  · have h2n : 2 ≤ n := hc.1 h
    obtain ⟨m, rfl⟩ : ∃ m, n = m + 2 := ⟨n - 2, by omega⟩
    have e : osem (m + 2) = osem m := Fin.ext (congrArg (6 + ·) (Nat.add_mod_right m 2))
    rw [dif_pos h]
    simp only [Prog.bind_op]
    have e1 : m + 2 - 2 = m := rfl
    have e2 : m + 2 + 1 - 2 = m + 1 := rfl
    unfold OutSl
    rw [if_pos h2n, e1, e2]
    iintro ⟨H1, H2, H3, H4⟩ Hk
    iapply (outFinish d i ft fi m (by omega) ((hs0 h).trans e)) $$ [H1 H2 H3 H4]
    · isplitl [H1]; · iexact H1
      isplitl [H2]; · iexact H2
      isplitl [H3]; · iexact H3
      iexact H4
    iintro ⟨H1, H2, H3⟩
    iapply Hk
    isplitl [H1]; · iapply (out_again d i ft fi m); iexact H1
    isplitl [H2]; · iexact H2
    iexact H3
  · have h2n : ¬ 2 ≤ n := fun h' => h (hc.2 h')
    have e : n - 2 = n + 1 - 2 := by omega
    rw [dif_neg h]
    unfold OutSl
    rw [if_neg h2n, e]
    iintro ⟨H1, H2, H3, -⟩ Hk
    iapply Hk
    isplitl [H1]; · iexact H1
    isplitl [H2]; · iexact H2
    iexact H3

theorem loopBind {α : Type} {w : ℕ} (l : Scf.Loop w) {hok : l.OK} {N : ℕ} (hN : l.trips = N) (I : ℕ → sProp 𝕄)
    {body : Fin l.trips → Unit → Prog (TpuEff nD τ sig (Elt F) Λ₀ (thr d i).2) Unit} {cont : Unit → Prog (TpuEff nD τ sig (Elt F) Λ₀ (thr d i).2) α} {Q : α → sProp 𝕄}
    (hbody : ∀ k : Fin l.trips, I k.val ⊢ wp frame (wpE (defs₀ (F := F)) 𝒱₀ (thr d i) none) Set.univ (body k ()) (fun _ => I (k.val + 1))) :
    I 0 ⊢ iprop((I N -∗ wp frame (wpE (defs₀ (F := F)) 𝒱₀ (thr d i) none) Set.univ (cont ()) Q)
      -∗ wp frame (wpE (defs₀ (F := F)) 𝒱₀ (thr d i) none) Set.univ (Scf.Loop.for l hok () body >>= cont) Q) := by
  subst hN
  iintro H Hk
  iapply (Scf.wp_for_bind frame (wpE (defs₀ (F := F)) 𝒱₀ (thr d i) none) Set.univ l.lb l.ub l.st hok () body (fun k _ => I k) (fun k _ => hbody k)) $$ H
  iintro %_ H
  iapply Hk $$ H

theorem out_next (n : ℕ) : OutFl (F := F) d i ft fi n ⊢ OutSl d i ft fi (n + 1 + 1) := by
  unfold OutSl
  rw [if_pos (by omega : 2 ≤ n + 1 + 1)]
  exact .rfl

theorem lane_done (n : ℕ) (f : Wds 2048) (h : LaneOK ft fi (wid i) n 32 f) : obP (F := F) d i n f ⊢ obP d i n (obS ft fi (wid i) n) := by
  refine Entails.of_eq (pointsTo_congr fun x hx => ?_)
  have hx' := mem_seg.1 hx
  have hm : n % 2 < 2 := Nat.mod_lt _ (by decide)
  exact h x (by omega) (by omega)

set_option maxHeartbeats 4000000 in
theorem chunk0 (hpos : PosOK fi) (r : Fin (k0_t1_loop i).trips) (c : Fin k0_t2_loop.trips) (arg14 v263 v335 v341 : BitVec 32) (v343 : BitVec 1) (v417 v423 v433 c484_i32_155 : BitVec 32) :
    iprop(RingSt d i qi ft fi fo O W (90 * r.val + c.val) ∗ TabRdy0 d i qt ft (wid i + 32 * r.val)) ⊢ (wp frame (wpE (defs₀ (F := F)) 𝒱₀ (thr d i) none) Set.univ
      (k0_t2_body i (Memref.whole main_arg0_scv) (Memref.isWhole_whole _) (Memref.whole main_arg1_scv) (Memref.isWhole_whole _) (Memref.whole main_v0_scv) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 r arg14 v263 v335 v341 v343 v417 v423 v433 c484_i32_155 c ())
      (fun _ => iprop(RingSt d i qi ft fi fo O W ((90 * r.val + c.val) + 1) ∗ TabRdy0 d i qt ft (wid i + 32 * r.val))) : sProp 𝕄) := by
  have hr : r.val < nv (wid i) := r_lt r
  have hc : c.val < 45 := t2_trips ▸ c.isLt
  have hn : (90 * r.val + c.val) < 90 * nv (wid i) := by omega
  have e9a : k0_off9 i r c 0#32 = ![(90 * r.val + c.val) % 4 * 1024 + 0 * 512] := off9_eq r c 0
  have e9b : k0_off9 i r c 1#32 = ![(90 * r.val + c.val) % 4 * 1024 + 1 * 512] := off9_eq r c 1
  have e13a : k0_off13 i r c 0#32 = ![((90 * r.val + c.val) + 3) % 4 * 1024 + 0 * 512] := off13_eq r c 0
  have e13b : k0_off13 i r c 1#32 = ![((90 * r.val + c.val) + 3) % 4 * 1024 + 1 * 512] := off13_eq r c 1
  unfold k0_t2_body RingSt
  simp only [k0_part7_eq_skeleton, k0_part8_eq_skeleton]
  unfold k0_part7_skel k0_part8_skel
  simp only [Prog.lift, Prog.bind_op, Prog.bind_ret, Prog.pure_eq_ret, Prog.bind_assoc]
  iintro ⟨⟨HF0, HF1, HF2, HFr, HO0, HO1, HT, HD, HW, #HM⟩, HTab⟩
  iapply (idxFinish d i qi fi (90 * r.val + c.val) (isem_eq (90 * r.val + c.val) (off11_eq r c) _) (isem_eq (90 * r.val + c.val) (off11_eq r c) _)) $$ [HF0 HW]
  · isplitl [HF0]; · iexact HF0
    isplitl [HW]; · iexact HW
    iexact HM
  iintro ⟨HR, HW⟩
  iapply (idxStart d i qi fi ((90 * r.val + c.val) + 3) (off14_eq i r c) (off16_eq i r c) e13a e13b (isem_eq ((90 * r.val + c.val) + 3) (off15_eq r c) _) (isem_eq ((90 * r.val + c.val) + 3) (off15_eq r c) _)) $$ HFr
  iintro HF3
  iapply (outWait d i ft fi O W (90 * r.val + c.val) hn (cond1_iff r c) (fun h => osem_eq (90 * r.val + c.val) (off19_eq r c) _)) $$ [HO0 HD HW]
  · isplitl [HO0]; · iexact HO0
    isplitl [HD]; · iexact HD
    isplitl [HW]; · iexact HW
    iexact HM
  unfold OutFree IdxRdy TabRdy0
  simp only [Prog.bind_assoc, Prog.bind_ret]
  iintro ⟨⟨Hs, %f, HO⟩, HD, HW⟩
  icases HR with ⟨HRs, HR1, HR2, HI0, HI1⟩
  icases HTab with ⟨HTs, HT1, HT2, HTA, HTB⟩
  iapply (loopBind d i k0_t3_loop t3_trips (LaneI0 d i ft fi (90 * r.val + c.val) (wid i + 32 * r.val)) (fun k => lane0 d i ft fi hpos r c k _ _ _ _ _ _ _ _ _ _)) $$ [HTA HTB HI0 HI1 HO]
  · unfold LaneI0
    isplitl [HTA]; · iexact HTA
    isplitl [HTB]; · iexact HTB
    isplitl [HI0]; · iexact HI0
    isplitl [HI1]; · iexact HI1
    iexists f
    isplitr [HO]
    · ipureintro; intro x _ hx; exact absurd hx (Nat.not_lt_zero _)
    iexact HO
  unfold LaneI0
  iintro ⟨HTA, HTB, HI0, HI1, %f', %hf', HO⟩
  ihave HO' := (lane_done d i ft fi (90 * r.val + c.val) f' hf') $$ HO
  iapply (outStart d i ft fi (90 * r.val + c.val) hn fo (off25_eq i r c) (off24_eq r c) (osem_eq (90 * r.val + c.val) (off26_eq r c) _)) $$ [Hs HO' HT]
  · unfold OutRdy
    isplitl [Hs HO']
    · isplitl [Hs]; · iexact Hs
      iexact HO'
    iexact HT
  iintro ⟨HOF, HT⟩
  rw [wp_ret]
  imodintro
  isplitr [HTA HTB HTs HT1 HT2]
  · isplitl [HF1]; · iexact HF1
    isplitl [HF2]; · iexact HF2
    isplitl [HF3]; · iexact HF3
    isplitl [HRs HR1 HR2 HI0 HI1]
    · iapply (idx_again d i qi fi (90 * r.val + c.val))
      unfold IdxRdy
      isplitl [HRs]; · iexact HRs
      isplitl [HR1]; · iexact HR1
      isplitl [HR2]; · iexact HR2
      isplitl [HI0]; · iexact HI0
      iexact HI1
    isplitl [HO1]; · iexact HO1
    isplitl [HOF]
    · iapply (out_next d i ft fi (90 * r.val + c.val)); iexact HOF
    isplitl [HT]; · iexact HT
    isplitl [HD]; · iexact HD
    isplitl [HW]; · iexact HW
    iexact HM
  isplitl [HTs]; · iexact HTs
  isplitl [HT1]; · iexact HT1
  isplitl [HT2]; · iexact HT2
  isplitl [HTA]; · iexact HTA
  iexact HTB

set_option maxHeartbeats 4000000 in
theorem chunk1 (hpos : PosOK fi) (r : Fin (k0_t1_loop i).trips) (c : Fin k0_t4_loop.trips) (arg14 v263 v335 v341 : BitVec 32) (v343 : BitVec 1) (v417 v423 v433 c484_i32_155 : BitVec 32) :
    iprop(RingSt d i qi ft fi fo O W (90 * r.val + 45 + c.val) ∗ TabRdy1 d i qt ft (wid i + 32 * r.val)) ⊢ (wp frame (wpE (defs₀ (F := F)) 𝒱₀ (thr d i) none) Set.univ
      (k0_t4_body i (Memref.whole main_arg0_scv) (Memref.isWhole_whole _) (Memref.whole main_arg1_scv) (Memref.isWhole_whole _) (Memref.whole main_v0_scv) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 r arg14 v263 v335 v341 v343 v417 v423 v433 c484_i32_155 c ())
      (fun _ => iprop(RingSt d i qi ft fi fo O W ((90 * r.val + 45 + c.val) + 1) ∗ TabRdy1 d i qt ft (wid i + 32 * r.val))) : sProp 𝕄) := by
  have hr : r.val < nv (wid i) := r_lt r
  have hc : c.val < 45 := t4_trips ▸ c.isLt
  have hn : (90 * r.val + 45 + c.val) < 90 * nv (wid i) := by omega
  have e9a : k0_off31 i r c 0#32 = ![(90 * r.val + 45 + c.val) % 4 * 1024 + 0 * 512] := off31_eq r c 0
  have e9b : k0_off31 i r c 1#32 = ![(90 * r.val + 45 + c.val) % 4 * 1024 + 1 * 512] := off31_eq r c 1
  have e13a : k0_off35 i r c 0#32 = ![((90 * r.val + 45 + c.val) + 3) % 4 * 1024 + 0 * 512] := off35_eq r c 0
  have e13b : k0_off35 i r c 1#32 = ![((90 * r.val + 45 + c.val) + 3) % 4 * 1024 + 1 * 512] := off35_eq r c 1
  unfold k0_t4_body RingSt
  simp only [k0_part13_eq_skeleton, k0_part14_eq_skeleton]
  unfold k0_part13_skel k0_part14_skel
  simp only [Prog.lift, Prog.bind_op, Prog.bind_ret, Prog.pure_eq_ret, Prog.bind_assoc]
  iintro ⟨⟨HF0, HF1, HF2, HFr, HO0, HO1, HT, HD, HW, #HM⟩, HTab⟩
  iapply (idxFinish d i qi fi (90 * r.val + 45 + c.val) (isem_eq (90 * r.val + 45 + c.val) (off33_eq r c) _) (isem_eq (90 * r.val + 45 + c.val) (off33_eq r c) _)) $$ [HF0 HW]
  · isplitl [HF0]; · iexact HF0
    isplitl [HW]; · iexact HW
    iexact HM
  iintro ⟨HR, HW⟩
  iapply (idxStart d i qi fi ((90 * r.val + 45 + c.val) + 3) (off36_eq i r c) (off38_eq i r c) e13a e13b (isem_eq ((90 * r.val + 45 + c.val) + 3) (off37_eq r c) _) (isem_eq ((90 * r.val + 45 + c.val) + 3) (off37_eq r c) _)) $$ HFr
  iintro HF3
  iapply (outWait d i ft fi O W (90 * r.val + 45 + c.val) hn (cond3_iff r c) (fun h => osem_eq (90 * r.val + 45 + c.val) (off41_eq r c) _)) $$ [HO0 HD HW]
  · isplitl [HO0]; · iexact HO0
    isplitl [HD]; · iexact HD
    isplitl [HW]; · iexact HW
    iexact HM
  unfold OutFree IdxRdy TabRdy1
  simp only [Prog.bind_assoc, Prog.bind_ret]
  iintro ⟨⟨Hs, %f, HO⟩, HD, HW⟩
  icases HR with ⟨HRs, HR1, HR2, HI0, HI1⟩
  icases HTab with ⟨HTs, HT1, HT2, HTA, HTB⟩
  iapply (loopBind d i k0_t5_loop t5_trips (LaneI1 d i ft fi (90 * r.val + 45 + c.val) (wid i + 32 * r.val)) (fun k => lane1 d i ft fi hpos r c k _ _ _ _ _ _ _ _ _ _)) $$ [HTA HTB HI0 HI1 HO]
  · unfold LaneI1
    isplitl [HTA]; · iexact HTA
    isplitl [HTB]; · iexact HTB
    isplitl [HI0]; · iexact HI0
    isplitl [HI1]; · iexact HI1
    iexists f
    isplitr [HO]
    · ipureintro; intro x _ hx; exact absurd hx (Nat.not_lt_zero _)
    iexact HO
  unfold LaneI1
  iintro ⟨HTA, HTB, HI0, HI1, %f', %hf', HO⟩
  ihave HO' := (lane_done d i ft fi (90 * r.val + 45 + c.val) f' hf') $$ HO
  iapply (outStart d i ft fi (90 * r.val + 45 + c.val) hn fo (off47_eq i r c) (off46_eq r c) (osem_eq (90 * r.val + 45 + c.val) (off48_eq r c) _)) $$ [Hs HO' HT]
  · unfold OutRdy
    isplitl [Hs HO']
    · isplitl [Hs]; · iexact Hs
      iexact HO'
    iexact HT
  iintro ⟨HOF, HT⟩
  rw [wp_ret]
  imodintro
  isplitr [HTA HTB HTs HT1 HT2]
  · isplitl [HF1]; · iexact HF1
    isplitl [HF2]; · iexact HF2
    isplitl [HF3]; · iexact HF3
    isplitl [HRs HR1 HR2 HI0 HI1]
    · iapply (idx_again d i qi fi (90 * r.val + 45 + c.val))
      unfold IdxRdy
      isplitl [HRs]; · iexact HRs
      isplitl [HR1]; · iexact HR1
      isplitl [HR2]; · iexact HR2
      isplitl [HI0]; · iexact HI0
      iexact HI1
    isplitl [HO1]; · iexact HO1
    isplitl [HOF]
    · iapply (out_next d i ft fi (90 * r.val + 45 + c.val)); iexact HOF
    isplitl [HT]; · iexact HT
    isplitl [HD]; · iexact HD
    isplitl [HW]; · iexact HW
    iexact HM
  isplitl [HTs]; · iexact HTs
  isplitl [HT1]; · iexact HT1
  isplitl [HT2]; · iexact HT2
  isplitl [HTA]; · iexact HTA
  iexact HTB

end Cert.Proof.Pairs
end
-- ==== Proof.Tile.lean ====
/-
  One tile's run: its rounds, between the first copies started and the last ones waited for.
-/
module

public import proofs.«01_k».proof.Proof.Chunk

@[expose] public section

noncomputable section

namespace Cert.Proof.Pairs

open Cert.Kernel
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Facts]

local notation "𝕄" => MT nD τ sig (HIx 1) (Elt F) ℕ UU ℕ

open Facts₀

variable (d : Dev nD) (i : grid0.Coords) (qi qt : PosShare TreeShare) (ft : Wds 41879552) (fi : Wds 612352) (fo : Wds 29952000)
  (O : CellTallies nD τ sig (HIx 1)) (W : Waits sig (HIx 1))

theorem RingSt_ow (n : ℕ) : RingSt (F := F) d i qi ft fi fo O W n ⊢ iprop(Ow d i O W ∗ MayWaits (thr d i) (none : HIx 1) O
    ∗ (Ow d i O W -∗ RingSt d i qi ft fi fo O W n)) := by
  unfold RingSt
  iintro ⟨H1, H2, H3, H4, H5, H6, H7, H8, HW, #HM⟩
  isplitl [HW]; · iexact HW
  isplitr; · iexact HM
  iintro HW
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HW]; · iexact HW
  iexact HM

/-- The tables of phase 0 before round `r`. -/
def TabSt0 (r : ℕ) : sProp 𝕄 := if r < nv (wid i) then TabFl0 d i qt ft (wid i + 32 * r) else TabFree0 d i qt ft

/-- The next round's tables are started when there is a next round. -/
theorem tabMaybe0 {α : Type} (r : ℕ) {c : Prop} [Decidable c] (hc : c ↔ r + 1 < nv (wid i)) {o0 o1 : c → Fin 1 → ℕ} {s0 s1 : DmaSem sig} {io0 : ∀ h : c, _} {io1 : ∀ h : c, _}
    (ho0 : ∀ h, o0 h = ![toff 0 0 (wid i + 32 * (r + 1))]) (ho1 : ∀ h, o1 h = ![toff 1 0 (wid i + 32 * (r + 1))]) (hs0 : s0 = tsem 0) (hs1 : s1 = tsem 0)
    {h1 : ∀ h : c, _} {h2 : ∀ h : c, _} {h3 : ∀ h : c, _} {h4 : ∀ h : c, _} {h5 : ∀ h : c, _} {h6 : ∀ h : c, _}
    {β : Type} {X : Prog (TpuEff nD τ sig (Elt F) Λ₀ (thr d i).2) β} {cont : β → Prog (TpuEff nD τ sig (Elt F) Λ₀ (thr d i).2) α} {Q : α → sProp 𝕄} :
    TabFree0 d i qt ft ⊢ iprop((TabSt0 d i qt ft (r + 1) -∗ wp frame (wpE (defs₀ (F := F)) 𝒱₀ (thr d i) none) Set.univ (X >>= cont) Q)
      -∗ wp frame (wpE (defs₀ (F := F)) 𝒱₀ (thr d i) none) Set.univ
        ((if h : c then (.op (.enqueueDma ((Memref.whole main_arg0_scv).slice (Rect.unit (s := S41879552) (o0 h) S36864.size (io0 h)) (fun _ => rfl)) (.here (Memref.whole cc0_scratch0)) (.dma s0) (h1 h) (h2 h) (h3 h))
          fun _ => .op (.enqueueDma ((Memref.whole main_arg0_scv).slice (Rect.unit (s := S41879552) (o1 h) S36864.size (io1 h)) (fun _ => rfl)) (.here (Memref.whole cc0_scratch1)) (.dma s1) (h4 h) (h5 h) (h6 h)) fun _ => X) else X) >>= cont) Q) := by
  by_cases h : c
  · simp only [dif_pos h]
    unfold TabSt0
    rw [if_pos (hc.1 h)]
    try simp only [Prog.bind_op]
    exact tabStart0 (F := F) d i qt ft (wid i + 32 * (r + 1)) (ho0 h) (ho1 h) hs0 hs1 (cont := fun _ => X >>= cont)
  · simp only [dif_neg h]
    unfold TabSt0
    rw [if_neg fun h' => h (hc.2 h')]
    iintro H Hk
    iapply Hk $$ H

/-- The tables of phase 1 before round `r`. -/
def TabSt1 (r : ℕ) : sProp 𝕄 := if r < nv (wid i) then TabFl1 d i qt ft (wid i + 32 * r) else TabFree1 d i qt ft

/-- The next round's tables are started when there is a next round. -/
theorem tabMaybe1 {α : Type} (r : ℕ) {c : Prop} [Decidable c] (hc : c ↔ r + 1 < nv (wid i)) {o0 o1 : c → Fin 1 → ℕ} {s0 s1 : DmaSem sig} {io0 : ∀ h : c, _} {io1 : ∀ h : c, _}
    (ho0 : ∀ h, o0 h = ![toff 0 1 (wid i + 32 * (r + 1))]) (ho1 : ∀ h, o1 h = ![toff 1 1 (wid i + 32 * (r + 1))]) (hs0 : s0 = tsem 1) (hs1 : s1 = tsem 1)
    {h1 : ∀ h : c, _} {h2 : ∀ h : c, _} {h3 : ∀ h : c, _} {h4 : ∀ h : c, _} {h5 : ∀ h : c, _} {h6 : ∀ h : c, _}
    {X : Prog (TpuEff nD τ sig (Elt F) Λ₀ (thr d i).2) α} {Q : α → sProp 𝕄} :
    TabFree1 d i qt ft ⊢ iprop((TabSt1 d i qt ft (r + 1) -∗ wp frame (wpE (defs₀ (F := F)) 𝒱₀ (thr d i) none) Set.univ X Q)
      -∗ wp frame (wpE (defs₀ (F := F)) 𝒱₀ (thr d i) none) Set.univ
        (if h : c then (.op (.enqueueDma ((Memref.whole main_arg0_scv).slice (Rect.unit (s := S41879552) (o0 h) S24576.size (io0 h)) (fun _ => rfl)) (.here (Memref.whole cc0_scratch2)) (.dma s0) (h1 h) (h2 h) (h3 h))
          fun _ => .op (.enqueueDma ((Memref.whole main_arg0_scv).slice (Rect.unit (s := S41879552) (o1 h) S24576.size (io1 h)) (fun _ => rfl)) (.here (Memref.whole cc0_scratch3)) (.dma s1) (h4 h) (h5 h) (h6 h)) fun _ => X) else X) Q) := by
  by_cases h : c
  · simp only [dif_pos h]
    unfold TabSt1
    rw [if_pos (hc.1 h)]
    try simp only [Prog.bind_op]
    exact tabStart1 (F := F) d i qt ft (wid i + 32 * (r + 1)) (ho0 h) (ho1 h) hs0 hs1 (cont := fun _ => X)
  · simp only [dif_neg h]
    unfold TabSt1
    rw [if_neg fun h' => h (hc.2 h')]
    iintro H Hk
    iapply Hk $$ H

/-- The state before round `r`. -/
def RoundI (r : ℕ) : sProp 𝕄 := iprop(RingSt d i qi ft fi fo O W (90 * r) ∗ TabSt0 d i qt ft r ∗ TabSt1 d i qt ft r)

set_option maxHeartbeats 4000000 in
theorem round (hpos : PosOK fi) (v1 v3 v75 v81 : BitVec 32) (r : Fin (k0_t1_loop i).trips) :
    RoundI d i qi qt ft fi fo O W r.val ⊢ (wp frame (wpE (defs₀ (F := F)) 𝒱₀ (thr d i) none) Set.univ
      (k0_t1_body i (Memref.whole main_arg0_scv) (Memref.isWhole_whole _) (Memref.whole main_arg1_scv) (Memref.isWhole_whole _) (Memref.whole main_v0_scv) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 v1 v3 v75 v81 r ())
      (fun _ => RoundI d i qi qt ft fi fo O W (r.val + 1)) : sProp 𝕄) := by
  have hr : r.val < nv (wid i) := r_lt r
  have hend : 90 * (r.val + 1) = 90 * r.val + 45 + 45 := by omega
  have t0 : ((SemArray.slice cc0_scratch6 (Rect.unit (s := S2) ![0] S1.size inb_S2_S1_0)).squeeze S_ squeezes_S1_S_).sem = tsem 0 := tsem_eq 0 rfl _
  have t1 : ((SemArray.slice cc0_scratch6 (Rect.unit (s := S2) ![1] S1.size inb_S2_S1_1)).squeeze S_ squeezes_S1_S_).sem = tsem 1 := tsem_eq 1 rfl _
  unfold k0_t1_body RoundI
  rw [hend]
  simp only [k0_part15_eq_skeleton, k0_part16_eq_skeleton, k0_part17_eq_skeleton, k0_part18_eq_skeleton, k0_part19_eq_skeleton]
  unfold k0_part15_skel k0_part16_skel k0_part17_skel k0_part18_skel k0_part19_skel
  simp only [Prog.lift, Prog.bind_op, Prog.bind_ret, Prog.pure_eq_ret, Prog.bind_assoc]
  have e0 : TabSt0 (F := F) d i qt ft r.val = TabFl0 d i qt ft (wid i + 32 * r.val) := if_pos hr
  have e1 : TabSt1 (F := F) d i qt ft r.val = TabFl1 d i qt ft (wid i + 32 * r.val) := if_pos hr
  rw [e0, e1]
  iintro ⟨HR, HT0, HT1⟩
  icases (RingSt_ow d i qi ft fi fo O W (90 * r.val)) $$ HR with ⟨HW, #HM, HR⟩
  iapply (tabFinish0 d i qt ft (wid i + 32 * r.val) t0 t0) $$ [HT0 HW]
  · isplitl [HT0]; · iexact HT0
    isplitl [HW]; · iexact HW
    iexact HM
  iintro ⟨HT0, HW⟩
  ihave HR := HR $$ HW
  iapply (loopBind d i k0_t2_loop t2_trips (fun k => iprop(RingSt d i qi ft fi fo O W (90 * r.val + k) ∗ TabRdy0 d i qt ft (wid i + 32 * r.val)))
    (fun c => chunk0 d i qi qt ft fi fo O W hpos r c _ _ _ _ _ _ _ _ _)) $$ [HR HT0]
  · isplitl [HR]; · iexact HR
    iexact HT0
  iintro ⟨HR, HT0⟩
  ihave HT0 := (TabRdy0_free d i qt ft (wid i + 32 * r.val)) $$ HT0
  iapply (tabMaybe0 d i qt ft r.val (cond2_iff i r) (off27_eq i r) (off28_eq i r) t0 t0) $$ HT0
  iintro HT0
  simp only [Prog.bind_op, Prog.bind_assoc, Prog.bind_ret]
  icases (RingSt_ow d i qi ft fi fo O W (90 * r.val + 45)) $$ HR with ⟨HW, #HM', HR⟩
  iapply (tabFinish1 d i qt ft (wid i + 32 * r.val) t1 t1) $$ [HT1 HW]
  · isplitl [HT1]; · iexact HT1
    isplitl [HW]; · iexact HW
    iexact HM
  iintro ⟨HT1, HW⟩
  ihave HR := HR $$ HW
  iapply (loopBind d i k0_t4_loop t4_trips (fun k => iprop(RingSt d i qi ft fi fo O W (90 * r.val + 45 + k) ∗ TabRdy1 d i qt ft (wid i + 32 * r.val)))
    (fun c => chunk1 d i qi qt ft fi fo O W hpos r c _ _ _ _ _ _ _ _ _)) $$ [HR HT1]
  · isplitl [HR]; · iexact HR
    iexact HT1
  iintro ⟨HR, HT1⟩
  ihave HT1 := (TabRdy1_free d i qt ft (wid i + 32 * r.val)) $$ HT1
  iapply (tabMaybe1 d i qt ft r.val (cond4_iff i r) (off49_eq i r) (off50_eq i r) t1 t1) $$ HT1
  iintro HT1
  rw [wp_ret]
  imodintro
  isplitl [HR]; · iexact HR
  isplitl [HT0]; · iexact HT0
  iexact HT1

/-- What a tile starts with. -/
def TileIn : sProp 𝕄 :=
  iprop(IdxFree d i qi fi 0 ∗ IdxFree d i qi fi 1 ∗ IdxFree d i qi fi 2 ∗ IdxFree d i qi fi 3 ∗ OutFree d i 0 ∗ OutFree d i 1
    ∗ TabFree0 d i qt ft ∗ TabFree1 d i qt ft ∗ ouP d i (ownS (wid i)) fo ∗ Ow d i O W ∗ MayWaits (thr d i) (none : HIx 1) O)

/-- What a tile ends with. -/
def TileOut : sProp 𝕄 :=
  iprop(IdxFree d i qi fi 0 ∗ IdxFree d i qi fi 1 ∗ IdxFree d i qi fi 2 ∗ IdxFree d i qi fi 3 ∗ OutFree d i 0 ∗ OutFree d i 1
    ∗ TabFree0 d i qt ft ∗ TabFree1 d i qt ft ∗ ouP d i (ownS (wid i)) (G ft fi) ∗ Ow d i O W)

theorem idx_same (n m : ℕ) (h : n % 4 = m % 4) : IdxFree (F := F) d i qi fi n ⊢ IdxFree d i qi fi m := by
  have e' : isem n = isem m := Fin.ext (congrArg (2 + ·) h)
  unfold IdxFree ixT ibP
  rw [e', h]

theorem idx_rdy_same (n m : ℕ) (h : n % 4 = m % 4) : IdxRdy (F := F) d i qi fi n ⊢ IdxFree d i qi fi m :=
  (idx_again d i qi fi n).trans (idx_same d i qi fi _ _ ((Nat.add_mod_right n 4).trans h))

theorem out_rdy_same (n m : ℕ) (h : n % 2 = m % 2) : OutRdy (F := F) d i ft fi n ⊢ OutFree d i m := by
  have e' : osem n = osem m := Fin.ext (congrArg (6 + ·) h)
  unfold OutRdy OutFree obP
  rw [e', h]
  iintro ⟨H0, H1⟩
  isplitl [H0]; · iexact H0
  iexists _; iexact H1

theorem end_arith (w : ℕ) : 90 * nv w % 2 = 0 ∧ 2 ≤ 90 * nv w ∧ (90 * nv w % 4 = 0 ∨ 90 * nv w % 4 = 2) := by
  unfold nv
  split <;> decide

set_option maxHeartbeats 8000000 in
theorem tile_run (hpos : PosOK fi) :
    TileIn d i qi qt ft fi fo O W ⊢ (wp frame (wpE (defs₀ (F := F)) 𝒱₀ (thr d i) none) Set.univ
      (cc0_sc_pairs i (Memref.whole main_arg0_scv) (Memref.isWhole_whole _) (Memref.whole main_arg1_scv) (Memref.isWhole_whole _) (Memref.whole main_v0_scv) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8)
      (fun _ => TileOut d i qi qt ft fi O W) : sProp 𝕄) := by
  obtain ⟨a2, a2', a4⟩ := end_arith (wid i)
  have hv : 0 < nv (wid i) := by unfold nv; split <;> decide
  have t0 : ((SemArray.slice cc0_scratch6 (Rect.unit (s := S2) ![0] S1.size inb_S2_S1_0)).squeeze S_ squeezes_S1_S_).sem = tsem 0 := tsem_eq 0 rfl _
  have t1 : ((SemArray.slice cc0_scratch6 (Rect.unit (s := S2) ![1] S1.size inb_S2_S1_1)).squeeze S_ squeezes_S1_S_).sem = tsem 1 := tsem_eq 1 rfl _
  have u0 : ((SemArray.slice cc0_scratch7 (Rect.unit (s := S4) ![0] S1.size inb_S4_S1_0)).squeeze S_ squeezes_S1_S_).sem = isem 0 := isem_eq 0 rfl _
  have u1 : ((SemArray.slice cc0_scratch7 (Rect.unit (s := S4) ![1] S1.size inb_S4_S1_1)).squeeze S_ squeezes_S1_S_).sem = isem 1 := isem_eq 1 rfl _
  have u2 : ((SemArray.slice cc0_scratch7 (Rect.unit (s := S4) ![2] S1.size inb_S4_S1_2)).squeeze S_ squeezes_S1_S_).sem = isem 2 := isem_eq 2 rfl _
  have x0 : k0_off5 i 0#32 = ![ioff (wid i) 0 0] := off5_eq i 0
  have x1 : k0_off5 i 512#32 = ![ioff (wid i) 0 1] := off5_eq i 1
  have x2 : k0_off5 i 1024#32 = ![ioff (wid i) 0 2] := off5_eq i 2
  have y0 : k0_off6 i 0#32 = ![ioff (wid i) 1 0] := off6_eq i 0
  have y1 : k0_off6 i 512#32 = ![ioff (wid i) 1 1] := off6_eq i 1
  have y2 : k0_off6 i 1024#32 = ![ioff (wid i) 1 2] := off6_eq i 2
  have w0 : k0_off96 i 0#32 = ![(90 * nv (wid i) + 0) % 4] := off96_eq i 0
  have w1 : k0_off96 i 1#32 = ![(90 * nv (wid i) + 1) % 4] := off96_eq i 1
  have w2 : k0_off96 i 2#32 = ![(90 * nv (wid i) + 2) % 4] := off96_eq i 2
  have z0 : k0_off98 i 0#32 = ![(90 * nv (wid i) - 2) % 2] := (off98_eq i 0).trans (congrArg (fun a => ![a]) (by show (90 * nv (wid i) + 0) % 2 = _; omega))
  have z1 : k0_off98 i 1#32 = ![(90 * nv (wid i) - 1) % 2] := (off98_eq i 1).trans (congrArg (fun a => ![a]) (by show (90 * nv (wid i) + 1) % 2 = _; omega))
  rw [cc0_sc_pairs_eq_skeleton]
  unfold cc0_sc_pairs_skel
  simp only [k0_part45_eq_skeleton]
  unfold k0_part45_skel
  simp only [k0_part39_eq_skeleton, k0_part40_eq_skeleton, k0_part41_eq_skeleton, k0_part42_eq_skeleton, k0_part43_eq_skeleton, k0_part44_eq_skeleton]
  unfold k0_part39_skel k0_part40_skel k0_part41_skel k0_part42_skel k0_part43_skel k0_part44_skel
  simp only [Prog.lift, Prog.bind_op, Prog.bind_ret, Prog.pure_eq_ret, Prog.bind_assoc]
  unfold TileIn
  iintro ⟨HI0, HI1, HI2, HI3, HO0, HO1, HT0, HT1, HT, HW, #HM⟩
  iapply (tabStart0 d i qt ft (wid i) (off1_eq i) (off2_eq i) t0 t0) $$ HT0
  iintro HT0
  iapply (tabStart1 d i qt ft (wid i) (off3_eq i) (off4_eq i) t1 t1) $$ HT1
  iintro HT1
  iapply (idxStart d i qi fi 0 x0 y0 (show (![0] : Fin 1 → ℕ) = ![0 % 4 * 1024 + 0 * 512] from rfl) (show (![512] : Fin 1 → ℕ) = ![0 % 4 * 1024 + 1 * 512] from rfl) u0 u0) $$ HI0
  iintro HI0
  iapply (idxStart d i qi fi 1 x1 y1 (show (![1024] : Fin 1 → ℕ) = ![1 % 4 * 1024 + 0 * 512] from rfl) (show (![1536] : Fin 1 → ℕ) = ![1 % 4 * 1024 + 1 * 512] from rfl) u1 u1) $$ HI1
  iintro HI1
  iapply (idxStart d i qi fi 2 x2 y2 (show (![2048] : Fin 1 → ℕ) = ![2 % 4 * 1024 + 0 * 512] from rfl) (show (![2560] : Fin 1 → ℕ) = ![2 % 4 * 1024 + 1 * 512] from rfl) u2 u2) $$ HI2
  iintro HI2
  iapply (loopBind d i (k0_t1_loop i) (t1_trips i) (RoundI d i qi qt ft fi fo O W) (fun r => round d i qi qt ft fi fo O W hpos _ _ _ _ r)) $$ [HI0 HI1 HI2 HI3 HO0 HO1 HT0 HT1 HT HW]
  · have e0 : TabSt0 (F := F) d i qt ft 0 = TabFl0 d i qt ft (wid i) := if_pos hv
    have e1 : TabSt1 (F := F) d i qt ft 0 = TabFl1 d i qt ft (wid i) := if_pos hv
    have e2 : OutSl (F := F) d i ft fi 0 = OutFree d i 0 := if_neg (by decide)
    have e3 : OutSl (F := F) d i ft fi (0 + 1) = OutFree d i 1 := if_neg (by decide)
    unfold RoundI RingSt
    rw [e0, e1, Nat.mul_zero, e2, e3, todo_zero, Nat.zero_sub, done_zero]
    isplitr [HT0 HT1]
    · isplitl [HI0]; · iexact HI0
      isplitl [HI1]; · iexact HI1
      isplitl [HI2]; · iexact HI2
      isplitl [HI3]; · iexact HI3
      isplitl [HO0]; · iexact HO0
      isplitl [HO1]; · iexact HO1
      isplitl [HT]; · iexact HT
      isplitr [HW]
      · unfold ouP
        rw [pointsTo_empty]
        iempintro
      isplitl [HW]; · iexact HW
      iexact HM
    isplitl [HT0]; · iexact HT0
    iexact HT1
  have e0 : TabSt0 (F := F) d i qt ft (nv (wid i)) = TabFree0 d i qt ft := if_neg (Nat.lt_irrefl _)
  have e1 : TabSt1 (F := F) d i qt ft (nv (wid i)) = TabFree1 d i qt ft := if_neg (Nat.lt_irrefl _)
  have e2 : OutSl (F := F) d i ft fi (90 * nv (wid i)) = OutFl d i ft fi (90 * nv (wid i) - 2) := if_pos a2'
  have e3 : OutSl (F := F) d i ft fi (90 * nv (wid i) + 1) = OutFl d i ft fi (90 * nv (wid i) - 1) :=
    (if_pos (by omega)).trans (congrArg (OutFl d i ft fi) (by omega))
  unfold RoundI RingSt
  rw [e0, e1, e2, e3]
  iintro ⟨⟨HI0, HI1, HI2, HI3, HO0, HO1, -, HD, HW, -⟩, HT0, HT1⟩
  iapply (loopBind d i (k0_t6_loop i) (t6_trips i) (fun _ => iprop(emp)) (fun k => (Fin.cast (t6_trips i) k).elim0)) $$ []
  · iempintro
  iintro -
  iapply (idxFinish d i qi fi (90 * nv (wid i) + 0) (isem_eq (90 * nv (wid i) + 0) w0 _) (isem_eq (90 * nv (wid i) + 0) w0 _)) $$ [HI0 HW]
  · isplitl [HI0]; · iexact HI0
    isplitl [HW]; · iexact HW
    iexact HM
  iintro ⟨HI0, HW⟩
  iapply (idxFinish d i qi fi (90 * nv (wid i) + 1) (isem_eq (90 * nv (wid i) + 1) w1 _) (isem_eq (90 * nv (wid i) + 1) w1 _)) $$ [HI1 HW]
  · isplitl [HI1]; · iexact HI1
    isplitl [HW]; · iexact HW
    iexact HM
  iintro ⟨HI1, HW⟩
  iapply (idxFinish d i qi fi (90 * nv (wid i) + 2) (isem_eq (90 * nv (wid i) + 2) w2 _) (isem_eq (90 * nv (wid i) + 2) w2 _)) $$ [HI2 HW]
  · isplitl [HI2]; · iexact HI2
    isplitl [HW]; · iexact HW
    iexact HM
  iintro ⟨HI2, HW⟩
  iapply (outFinish d i ft fi (90 * nv (wid i) - 2) (by omega) (osem_eq (90 * nv (wid i) - 2) z0 _)) $$ [HO0 HD HW]
  · isplitl [HO0]; · iexact HO0
    isplitl [HD]; · iexact HD
    isplitl [HW]; · iexact HW
    iexact HM
  iintro ⟨HO0, HD, HW⟩
  have f1 : 90 * nv (wid i) - 2 + 1 = 90 * nv (wid i) - 1 := by omega
  have f2 : 90 * nv (wid i) - 1 + 1 = 90 * nv (wid i) := by omega
  rw [f1]
  iapply (outFinish d i ft fi (90 * nv (wid i) - 1) (by omega) (osem_eq (90 * nv (wid i) - 1) z1 _)) $$ [HO1 HD HW]
  · isplitl [HO1]; · iexact HO1
    isplitl [HD]; · iexact HD
    isplitl [HW]; · iexact HW
    iexact HM
  rw [f2, done_all]
  iintro ⟨HO1, HD, HW⟩
  rw [wp_ret]
  imodintro
  unfold TileOut
  ihave HO0 := (out_rdy_same d i ft fi _ 0 (by omega)) $$ HO0
  ihave HO1 := (out_rdy_same d i ft fi _ 1 (by omega)) $$ HO1
  rcases a4 with a4 | a4
  · ihave HJ0 := (idx_rdy_same d i qi fi _ 0 (by omega)) $$ HI0
    ihave HJ1 := (idx_rdy_same d i qi fi _ 1 (by omega)) $$ HI1
    ihave HJ2 := (idx_rdy_same d i qi fi _ 2 (by omega)) $$ HI2
    ihave HJ3 := (idx_same d i qi fi _ 3 (by omega)) $$ HI3
    isplitl [HJ0]; · iexact HJ0
    isplitl [HJ1]; · iexact HJ1
    isplitl [HJ2]; · iexact HJ2
    isplitl [HJ3]; · iexact HJ3
    isplitl [HO0]; · iexact HO0
    isplitl [HO1]; · iexact HO1
    isplitl [HT0]; · iexact HT0
    isplitl [HT1]; · iexact HT1
    isplitl [HD]; · iexact HD
    iexact HW
  · ihave HJ2 := (idx_rdy_same d i qi fi _ 2 (by omega)) $$ HI0
    ihave HJ3 := (idx_rdy_same d i qi fi _ 3 (by omega)) $$ HI1
    ihave HJ0 := (idx_rdy_same d i qi fi _ 0 (by omega)) $$ HI2
    ihave HJ1 := (idx_same d i qi fi _ 1 (by omega)) $$ HI3
    isplitl [HJ0]; · iexact HJ0
    isplitl [HJ1]; · iexact HJ1
    isplitl [HJ2]; · iexact HJ2
    isplitl [HJ3]; · iexact HJ3
    isplitl [HO0]; · iexact HO0
    isplitl [HO1]; · iexact HO1
    isplitl [HT0]; · iexact HT0
    isplitl [HT1]; · iexact HT1
    isplitl [HD]; · iexact HD
    iexact HW

end Cert.Proof.Pairs
end
-- ==== Proof.FactsA.lean ====
/-
  The arithmetic of the kernel's schedule: the windows that phase 0's waits name are inside their buffers.
-/
module

public import proofs.«01_k».proof.Kernel
public import proofs.«01_k».proof.Proof.Sched
public import Idealize.ShloMosaic.Lib.Decide

@[expose] public section

namespace Cert.Proof.Pairs

open Cert.Kernel Idealize.ShloMosaic

theorem off10_inb : ∀ (i : grid0.Coords) (r : Fin (k0_t1_loop i).trips) (c : Fin k0_t2_loop.trips),
    ∀ a, (k0_off10 i r c) a + S512.size a ≤ S612352.size a := by decide +kernel
theorem off12_inb : ∀ (i : grid0.Coords) (r : Fin (k0_t1_loop i).trips) (c : Fin k0_t2_loop.trips),
    ∀ a, (k0_off12 i r c) a + S512.size a ≤ S612352.size a := by decide +kernel
theorem off18_inb : ∀ (i : grid0.Coords) (r : Fin (k0_t1_loop i).trips) (c : Fin k0_t2_loop.trips), ∀ (_ : k0_cond1 i r c = 1#1),
    ∀ a, (k0_off18 i r c) a + S1024.size a ≤ S29952000.size a := by decide +kernel

end Cert.Proof.Pairs
end
-- ==== Proof.FactsB.lean ====
/-
  The arithmetic of the kernel's schedule: the windows that phase 1's waits name are inside their buffers.
-/
module

public import proofs.«01_k».proof.Kernel
public import proofs.«01_k».proof.Proof.Sched
public import Idealize.ShloMosaic.Lib.Decide

@[expose] public section

namespace Cert.Proof.Pairs

open Cert.Kernel Idealize.ShloMosaic

theorem off32_inb : ∀ (i : grid0.Coords) (r : Fin (k0_t1_loop i).trips) (c : Fin k0_t4_loop.trips),
    ∀ a, (k0_off32 i r c) a + S512.size a ≤ S612352.size a := by decide +kernel
theorem off34_inb : ∀ (i : grid0.Coords) (r : Fin (k0_t1_loop i).trips) (c : Fin k0_t4_loop.trips),
    ∀ a, (k0_off34 i r c) a + S512.size a ≤ S612352.size a := by decide +kernel
theorem off40_inb : ∀ (i : grid0.Coords) (r : Fin (k0_t1_loop i).trips) (c : Fin k0_t4_loop.trips), ∀ (_ : k0_cond3 i r c = 1#1),
    ∀ a, (k0_off40 i r c) a + S1024.size a ≤ S29952000.size a := by decide +kernel

end Cert.Proof.Pairs
end
-- ==== Proof.FactsK.lean ====
/-
  The side conditions of the kernel's program: every window it names is inside its buffer, and every counted loop has a
  meaning. The offsets come from their closed forms.
-/
module

public import proofs.«01_k».proof.Kernel
public import proofs.«01_k».proof.Proof.Arith
public import proofs.«01_k».proof.Proof.ArithA
public import proofs.«01_k».proof.Proof.ArithB
public import proofs.«01_k».proof.Proof.FactsA
public import proofs.«01_k».proof.Proof.FactsB

@[expose] public section

set_option Elab.async false

namespace Cert.Proof.Pairs

open Cert.Kernel Idealize.ShloMosaic

theorem one_le {x n N : ℕ} (h : x + n ≤ N) : ∀ a : Fin 1, (![x] : Fin 1 → ℕ) a + (⟨1, ![n]⟩ : Shape).size a ≤ (⟨1, ![N]⟩ : Shape).size a := by
  intro a
  match a with
  | 0 => exact h

theorem field_lt (h p : ℕ) (hp : p < 325) : fld h p < 26 := by
  have key : ∀ q : Fin 325, fF q.val < 26 ∧ gG q.val < 26 := by decide +kernel
  unfold fld
  split
  · exact (key ⟨p, hp⟩).1
  · exact (key ⟨p, hp⟩).2

theorem ioff_inb (w h k : ℕ) (hw : w < 32) : ∀ a, (![ioff w h k] : Fin 1 → ℕ) a + S512.size a ≤ S612352.size a := by
  have hip : ip w k < 325 := by
    unfold ip nv
    repeat' split
    all_goals omega
  have hf := field_lt h _ hip
  have hc : k % 45 < 45 := Nat.mod_lt _ (by decide)
  exact one_le (by unfold ioff; omega)

theorem ooff_inb (w r k : ℕ) (hw : w < 32) (hr : r < nv w) (hk : k / 90 = r) :
    ∀ a, (![ooff w k] : Fin 1 → ℕ) a + S1024.size a ≤ S29952000.size a := by
  have hp : w + 32 * (k / 90) < 325 := by
    rw [hk]; unfold nv at hr
    split at hr <;> omega
  have hc : k % 45 < 45 := Nat.mod_lt _ (by decide)
  have hb : k / 45 % 2 < 2 := Nat.mod_lt _ (by decide)
  exact one_le (by unfold ooff; omega)

theorem ooff_inb0 (i : grid0.Coords) (r : Fin (k0_t1_loop i).trips) (c : Fin k0_t2_loop.trips) :
    ∀ a, (![ooff (wid i) (90 * r.val + c.val)] : Fin 1 → ℕ) a + S1024.size a ≤ S29952000.size a := by
  have hc : c.val < 45 := t2_trips ▸ c.isLt
  exact ooff_inb _ r.val _ (wid_lt i) (r_lt r) (by omega)

theorem ooff_inb1 (i : grid0.Coords) (r : Fin (k0_t1_loop i).trips) (c : Fin k0_t4_loop.trips) :
    ∀ a, (![ooff (wid i) (90 * r.val + 45 + c.val)] : Fin 1 → ℕ) a + S1024.size a ≤ S29952000.size a := by
  have hc : c.val < 45 := t4_trips ▸ c.isLt
  exact ooff_inb _ r.val _ (wid_lt i) (r_lt r) (by omega)

theorem none6 (i : grid0.Coords) (r : Fin (k0_t6_loop i).trips) : False := absurd (r.isLt.trans_eq (t6_trips i)) (Nat.not_lt_zero _)

instance facts₀ : Facts₀ where
  inb_S2_S1_0 := by decide
  squeezes_S1_S_ := by decide
  inb_S2_S1_1 := by decide
  inb_S4096_S512_0 := by decide
  inb_S4_S1_0 := by decide
  inb_S4096_S512_512 := by decide
  inb_S4096_S512_1024 := by decide
  inb_S4_S1_1 := by decide
  inb_S4096_S512_1536 := by decide
  inb_S4096_S512_2048 := by decide
  inb_S4_S1_2 := by decide
  inb_S4096_S512_2560 := by decide
  h_S16 := by decide
  inb_S36864_S12288_0 := by decide
  h_S12288 := by decide
  inb_S36864_S12288_12288 := by decide
  inb_S36864_S12288_24576 := by decide
  inb_S24576_S12288_0 := by decide
  inb_S24576_S12288_12288 := by decide
  inb_S29952000_S1024_0 := by decide
  hcc0_scratch6 := by decide
  hcc0_scratch7 := by decide
  hcc0_scratch8 := by decide
  hscKind := by decide
  hscCore := by decide
  hscSub := by decide
  hcore0 := by decide
  hsub0 := by decide
  k0_off1_inb := by decide +kernel
  k0_off2_inb := by decide +kernel
  k0_off3_inb := by decide +kernel
  k0_off4_inb := by decide +kernel
  k0_off5_inb := by decide +kernel
  k0_off6_inb := by decide +kernel
  k0_t1_ok := by decide +kernel
  k0_off7_inb := by decide +kernel
  k0_off8_inb := by decide +kernel
  k0_t2_ok := by decide +kernel
  k0_off9_inb := fun i r c h a => by
    rw [off9_eq r c h]
    have hh := h.isLt
    have hm := Nat.mod_lt (90 * r.val + c.val) (show 4 > 0 by decide)
    exact one_le (by omega : (90 * r.val + c.val) % 4 * 1024 + h.val * 512 + 512 ≤ 4096) a
  k0_off10_inb := off10_inb
  k0_off11_inb := fun i r c a => by
    rw [off11_eq r c]
    have hm := Nat.mod_lt (90 * r.val + c.val) (show 4 > 0 by decide)
    exact one_le (by omega : (90 * r.val + c.val) % 4 + 1 ≤ 4) a
  k0_off12_inb := off12_inb
  k0_off13_inb := fun i r c h a => by
    rw [off13_eq r c h]
    have hh := h.isLt
    have hm := Nat.mod_lt (90 * r.val + c.val + 3) (show 4 > 0 by decide)
    exact one_le (by omega : (90 * r.val + c.val + 3) % 4 * 1024 + h.val * 512 + 512 ≤ 4096) a
  k0_off14_inb := fun i r c a => by
    rw [off14_eq i r c]
    exact ioff_inb _ _ _ (wid_lt i) _
  k0_off15_inb := fun i r c a => by
    rw [off15_eq r c]
    have hm := Nat.mod_lt (90 * r.val + c.val + 3) (show 4 > 0 by decide)
    exact one_le (by omega : (90 * r.val + c.val + 3) % 4 + 1 ≤ 4) a
  k0_off16_inb := fun i r c a => by
    rw [off16_eq i r c]
    exact ioff_inb _ _ _ (wid_lt i) _
  k0_off17_inb := fun i r c _ a => by
    rw [off17_eq r c]
    have hm := Nat.mod_lt (90 * r.val + c.val) (show 2 > 0 by decide)
    exact one_le (by omega : (90 * r.val + c.val) % 2 * 1024 + 1024 ≤ 2048) a
  k0_off18_inb := off18_inb
  k0_off19_inb := fun i r c _ a => by
    rw [off19_eq r c]
    have hm := Nat.mod_lt (90 * r.val + c.val) (show 2 > 0 by decide)
    exact one_le (by omega : (90 * r.val + c.val) % 2 + 1 ≤ 2) a
  k0_t3_ok := by decide +kernel
  k0_off20_inb := fun i r c l a => by
    rw [off20_eq r c l]
    have hl : l.val < 32 := l.isLt.trans_eq t3_trips
    have hm := Nat.mod_lt (90 * r.val + c.val) (show 4 > 0 by decide)
    exact one_le (by omega : (90 * r.val + c.val) % 4 * 1024 + 16 * l.val + 16 ≤ 4096) a
  k0_off21_inb := fun i r c l a => by
    rw [off21_eq r c l]
    have hl : l.val < 32 := l.isLt.trans_eq t3_trips
    have hm := Nat.mod_lt (90 * r.val + c.val) (show 4 > 0 by decide)
    exact one_le (by omega : (90 * r.val + c.val) % 4 * 1024 + 512 + 16 * l.val + 16 ≤ 4096) a
  k0_off22_inb := fun i r c l a => by
    rw [off22_eq r c l]
    have hl : l.val < 32 := l.isLt.trans_eq t3_trips
    have hm := Nat.mod_lt (90 * r.val + c.val) (show 2 > 0 by decide)
    exact one_le (by omega : (90 * r.val + c.val) % 2 * 1024 + 16 * l.val + 16 ≤ 2048) a
  k0_off23_inb := fun i r c l a => by
    rw [off23_eq r c l]
    have hl : l.val < 32 := l.isLt.trans_eq t3_trips
    have hm := Nat.mod_lt (90 * r.val + c.val) (show 2 > 0 by decide)
    exact one_le (by omega : (90 * r.val + c.val) % 2 * 1024 + 512 + 16 * l.val + 16 ≤ 2048) a
  k0_off24_inb := fun i r c a => by
    rw [off24_eq r c]
    have hm := Nat.mod_lt (90 * r.val + c.val) (show 2 > 0 by decide)
    exact one_le (by omega : (90 * r.val + c.val) % 2 * 1024 + 1024 ≤ 2048) a
  k0_off25_inb := fun i r c a => by
    rw [off25_eq i r c]
    exact ooff_inb0 i r c _
  k0_off26_inb := fun i r c a => by
    rw [off26_eq r c]
    have hm := Nat.mod_lt (90 * r.val + c.val) (show 2 > 0 by decide)
    exact one_le (by omega : (90 * r.val + c.val) % 2 + 1 ≤ 2) a
  k0_off27_inb := by decide +kernel
  k0_off28_inb := by decide +kernel
  k0_off29_inb := by decide +kernel
  k0_off30_inb := by decide +kernel
  k0_t4_ok := by decide +kernel
  k0_off31_inb := fun i r c h a => by
    rw [off31_eq r c h]
    have hh := h.isLt
    have hm := Nat.mod_lt (90 * r.val + 45 + c.val) (show 4 > 0 by decide)
    exact one_le (by omega : (90 * r.val + 45 + c.val) % 4 * 1024 + h.val * 512 + 512 ≤ 4096) a
  k0_off32_inb := off32_inb
  k0_off33_inb := fun i r c a => by
    rw [off33_eq r c]
    have hm := Nat.mod_lt (90 * r.val + 45 + c.val) (show 4 > 0 by decide)
    exact one_le (by omega : (90 * r.val + 45 + c.val) % 4 + 1 ≤ 4) a
  k0_off34_inb := off34_inb
  k0_off35_inb := fun i r c h a => by
    rw [off35_eq r c h]
    have hh := h.isLt
    have hm := Nat.mod_lt (90 * r.val + 45 + c.val + 3) (show 4 > 0 by decide)
    exact one_le (by omega : (90 * r.val + 45 + c.val + 3) % 4 * 1024 + h.val * 512 + 512 ≤ 4096) a
  k0_off36_inb := fun i r c a => by
    rw [off36_eq i r c]
    exact ioff_inb _ _ _ (wid_lt i) _
  k0_off37_inb := fun i r c a => by
    rw [off37_eq r c]
    have hm := Nat.mod_lt (90 * r.val + 45 + c.val + 3) (show 4 > 0 by decide)
    exact one_le (by omega : (90 * r.val + 45 + c.val + 3) % 4 + 1 ≤ 4) a
  k0_off38_inb := fun i r c a => by
    rw [off38_eq i r c]
    exact ioff_inb _ _ _ (wid_lt i) _
  k0_off39_inb := fun i r c _ a => by
    rw [off39_eq r c]
    have hm := Nat.mod_lt (90 * r.val + 45 + c.val) (show 2 > 0 by decide)
    exact one_le (by omega : (90 * r.val + 45 + c.val) % 2 * 1024 + 1024 ≤ 2048) a
  k0_off40_inb := off40_inb
  k0_off41_inb := fun i r c _ a => by
    rw [off41_eq r c]
    have hm := Nat.mod_lt (90 * r.val + 45 + c.val) (show 2 > 0 by decide)
    exact one_le (by omega : (90 * r.val + 45 + c.val) % 2 + 1 ≤ 2) a
  k0_t5_ok := by decide +kernel
  k0_off42_inb := fun i r c l a => by
    rw [off42_eq r c l]
    have hl : l.val < 32 := l.isLt.trans_eq t5_trips
    have hm := Nat.mod_lt (90 * r.val + 45 + c.val) (show 4 > 0 by decide)
    exact one_le (by omega : (90 * r.val + 45 + c.val) % 4 * 1024 + 16 * l.val + 16 ≤ 4096) a
  k0_off43_inb := fun i r c l a => by
    rw [off43_eq r c l]
    have hl : l.val < 32 := l.isLt.trans_eq t5_trips
    have hm := Nat.mod_lt (90 * r.val + 45 + c.val) (show 4 > 0 by decide)
    exact one_le (by omega : (90 * r.val + 45 + c.val) % 4 * 1024 + 512 + 16 * l.val + 16 ≤ 4096) a
  k0_off44_inb := fun i r c l a => by
    rw [off44_eq r c l]
    have hl : l.val < 32 := l.isLt.trans_eq t5_trips
    have hm := Nat.mod_lt (90 * r.val + 45 + c.val) (show 2 > 0 by decide)
    exact one_le (by omega : (90 * r.val + 45 + c.val) % 2 * 1024 + 16 * l.val + 16 ≤ 2048) a
  k0_off45_inb := fun i r c l a => by
    rw [off45_eq r c l]
    have hl : l.val < 32 := l.isLt.trans_eq t5_trips
    have hm := Nat.mod_lt (90 * r.val + 45 + c.val) (show 2 > 0 by decide)
    exact one_le (by omega : (90 * r.val + 45 + c.val) % 2 * 1024 + 512 + 16 * l.val + 16 ≤ 2048) a
  k0_off46_inb := fun i r c a => by
    rw [off46_eq r c]
    have hm := Nat.mod_lt (90 * r.val + 45 + c.val) (show 2 > 0 by decide)
    exact one_le (by omega : (90 * r.val + 45 + c.val) % 2 * 1024 + 1024 ≤ 2048) a
  k0_off47_inb := fun i r c a => by
    rw [off47_eq i r c]
    exact ooff_inb1 i r c _
  k0_off48_inb := fun i r c a => by
    rw [off48_eq r c]
    have hm := Nat.mod_lt (90 * r.val + 45 + c.val) (show 2 > 0 by decide)
    exact one_le (by omega : (90 * r.val + 45 + c.val) % 2 + 1 ≤ 2) a
  k0_off49_inb := by decide +kernel
  k0_off50_inb := by decide +kernel
  k0_t6_ok := by decide +kernel
  k0_off51_inb := fun i r => (none6 i r).elim
  k0_off52_inb := fun i r => (none6 i r).elim
  k0_t7_ok := by decide +kernel
  k0_off53_inb := fun i r => (none6 i r).elim
  k0_off54_inb := fun i r => (none6 i r).elim
  k0_off55_inb := fun i r => (none6 i r).elim
  k0_off56_inb := fun i r => (none6 i r).elim
  k0_off57_inb := fun i r => (none6 i r).elim
  k0_off58_inb := fun i r => (none6 i r).elim
  k0_off59_inb := fun i r => (none6 i r).elim
  k0_off60_inb := fun i r => (none6 i r).elim
  k0_off61_inb := fun i r => (none6 i r).elim
  k0_off62_inb := fun i r => (none6 i r).elim
  k0_off63_inb := fun i r => (none6 i r).elim
  k0_t8_ok := by decide +kernel
  k0_off64_inb := fun i r => (none6 i r).elim
  k0_off65_inb := fun i r => (none6 i r).elim
  k0_off66_inb := fun i r => (none6 i r).elim
  k0_off67_inb := fun i r => (none6 i r).elim
  k0_off68_inb := fun i r => (none6 i r).elim
  k0_off69_inb := fun i r => (none6 i r).elim
  k0_off70_inb := fun i r => (none6 i r).elim
  k0_off71_inb := fun i r => (none6 i r).elim
  k0_off72_inb := fun i r => (none6 i r).elim
  k0_off73_inb := fun i r => (none6 i r).elim
  k0_off74_inb := fun i r => (none6 i r).elim
  k0_t9_ok := by decide +kernel
  k0_off75_inb := fun i r => (none6 i r).elim
  k0_off76_inb := fun i r => (none6 i r).elim
  k0_off77_inb := fun i r => (none6 i r).elim
  k0_off78_inb := fun i r => (none6 i r).elim
  k0_off79_inb := fun i r => (none6 i r).elim
  k0_off80_inb := fun i r => (none6 i r).elim
  k0_off81_inb := fun i r => (none6 i r).elim
  k0_off82_inb := fun i r => (none6 i r).elim
  k0_off83_inb := fun i r => (none6 i r).elim
  k0_off84_inb := fun i r => (none6 i r).elim
  k0_off85_inb := fun i r => (none6 i r).elim
  k0_t10_ok := by decide +kernel
  k0_off86_inb := fun i r => (none6 i r).elim
  k0_off87_inb := fun i r => (none6 i r).elim
  k0_off88_inb := fun i r => (none6 i r).elim
  k0_off89_inb := fun i r => (none6 i r).elim
  k0_off90_inb := fun i r => (none6 i r).elim
  k0_off91_inb := fun i r => (none6 i r).elim
  k0_off92_inb := fun i r => (none6 i r).elim
  k0_off93_inb := fun i r => (none6 i r).elim
  k0_off94_inb := fun i r => (none6 i r).elim
  k0_off95_inb := by decide +kernel
  k0_off96_inb := by decide +kernel
  k0_off97_inb := by decide +kernel
  k0_off98_inb := by decide +kernel

instance facts : Facts := @Facts.mk facts₀

end Cert.Proof.Pairs
end
-- ==== Proof.Pieces.lean ====
/-
  What the launch hands a tile - two arrays to read, its scratch, its semaphores - cut into the pieces its run holds.
-/
module

public import proofs.«01_k».proof.Proof.Tile
public import proofs.«01_k».proof.Proof.FactsK

@[expose] public section

noncomputable section

namespace Cert.Proof.Pairs

open Cert.Kernel
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A buffer at some contents is its pieces, each at some contents. -/
theorem pieces {ℓ : Loc nD τ sig} {T : Type} [Fintype T] [DecidableEq T] (K : T → Finset (Idx ℓ))
    (hd : ∀ t ∈ (Finset.univ : Finset T), ∀ t' ∈ (Finset.univ : Finset T), t ≠ t' → Disjoint (K t) (K t'))
    (hc : (Finset.univ : Finset T).biUnion K = Finset.univ) :
    (iprop(∃ f, ℓ ↦{fullShare} f) : sProp 𝕄) ⊢ bigSep Finset.univ fun t => iprop(∃ f, ℓ ↦[K t]{fullShare} f) := by
  have hm : ∀ f : Buf (Elt F) ℓ, (bigSep Finset.univ fun t => (ℓ ↦[K t]{fullShare} f : sProp 𝕄)) ⊢ bigSep Finset.univ fun t => (iprop(∃ f, ℓ ↦[K t]{fullShare} f) : sProp 𝕄) :=
    fun f => bigSep_mono fun t _ => by
      show (ℓ ↦[K t]{fullShare} f : sProp 𝕄) ⊢ iprop(∃ f, ℓ ↦[K t]{fullShare} f)
      iintro H
      iexists _; iexact H
  have he : ∀ f : Buf (Elt F) ℓ, (ℓ ↦{fullShare} f : sProp 𝕄) = bigSep Finset.univ fun t => (ℓ ↦[K t]{fullShare} f : sProp 𝕄) := by
    intro f
    rw [← pointsTo_biUnion Finset.univ (ℓ := ℓ) K hd, hc]
  iintro ⟨%f, H⟩
  ihave H' := (Entails.of_eq (he f)) $$ H
  iapply (hm f)
  iexact H'

theorem pieces_join {ℓ : Loc nD τ sig} {T : Type} [Fintype T] [DecidableEq T] (t₀ : T) (K : T → Finset (Idx ℓ))
    (hd : ∀ t ∈ (Finset.univ : Finset T), ∀ t' ∈ (Finset.univ : Finset T), t ≠ t' → Disjoint (K t) (K t'))
    (hc : (Finset.univ : Finset T).biUnion K = Finset.univ) (hn : Nonempty (Buf (Elt F) ℓ)) :
    (bigSep Finset.univ fun t => iprop(∃ f, ℓ ↦[K t]{fullShare} f)) ⊢ (iprop(∃ f, ℓ ↦{fullShare} f) : sProp 𝕄) := by
  refine (bigSep_exists_pi Finset.univ (fun t (f : Buf (Elt F) ℓ) => (ℓ ↦[K t]{fullShare} f : sProp 𝕄))).trans ?_
  iintro ⟨%fs, H⟩
  ihave H' := (pointsTo_biUnion_join (ℓ := ℓ) (q := fullShare) (Val := Elt F) Finset.univ K fs (fs t₀) hd) $$ H
  icases H' with ⟨%g, -, Hg⟩
  rw [hc]
  iexists g; iexact Hg

theorem segs_disjoint (N n T : ℕ) : ∀ t ∈ (Finset.univ : Finset (Fin T)), ∀ t' ∈ (Finset.univ : Finset (Fin T)), t ≠ t' →
    Disjoint (seg N (t.val * n) n) (seg N (t'.val * n) n) := by
  intro t _ t' _ h
  rw [Finset.disjoint_left]
  intro j h1 h2
  have a := mem_seg.1 h1
  have b := mem_seg.1 h2
  refine h (Fin.ext ?_)
  rcases Nat.lt_trichotomy t.val t'.val with hl | hl | hl
  · have := Nat.mul_le_mul_right n (Nat.succ_le_of_lt hl)
    rw [Nat.succ_mul] at this; omega
  · exact hl
  · have := Nat.mul_le_mul_right n (Nat.succ_le_of_lt hl)
    rw [Nat.succ_mul] at this; omega

theorem segs_cover (N n T : ℕ) (h : N = T * n) (hn : 0 < n) :
    (Finset.univ : Finset (Fin T)).biUnion (fun t => seg N (t.val * n) n) = Finset.univ := by
  refine Finset.eq_univ_of_forall fun j => Finset.mem_biUnion.2 ?_
  have hj := co_lt j
  have hq : co j / n < T := Nat.div_lt_of_lt_mul (by rw [Nat.mul_comm]; omega)
  refine ⟨⟨co j / n, hq⟩, Finset.mem_univ _, mem_seg.2 ?_⟩
  have h1 := Nat.div_mul_le_self (co j) n
  have h2 := Nat.lt_div_mul_add (a := co j) hn
  exact ⟨h1, h2⟩

theorem sep8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  repeat rw [SparseCore.bigSep_insert' (by decide)]
  rw [bigSep_singleton]
theorem sep6 (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide]
  repeat rw [SparseCore.bigSep_insert' (by decide)]
  rw [bigSep_singleton]
theorem sep4 (Φ : Fin 4 → sProp 𝕄) : bigSep Finset.univ Φ = iprop(Φ 0 ∗ Φ 1 ∗ Φ 2 ∗ Φ 3) := by
  rw [show (Finset.univ : Finset (Fin 4)) = {0, 1, 2, 3} by decide]
  repeat rw [SparseCore.bigSep_insert' (by decide)]
  rw [bigSep_singleton]
theorem sep2 (Φ : Fin 2 → sProp 𝕄) : bigSep Finset.univ Φ = iprop(Φ 0 ∗ Φ 1) := BI.bigSep_fin_two Φ

variable (d : Dev nD) (i : grid0.Coords) (qi qt : PosShare TreeShare) (ft : Wds 41879552) (fi : Wds 612352)

/-- The read share of the positions, one token for each half of each slot. -/
theorem idx_toks : (iL d i ↦{qi} fi : sProp 𝕄) ⊣⊢ iprop((iL d i ↦{shareDrop qi 8} fi) ∗ ixT d i qi fi 0 0 ∗ ixT d i qi fi 0 1 ∗ ixT d i qi fi 1 0 ∗ ixT d i qi fi 1 1 ∗ ixT d i qi fi 2 0 ∗ ixT d i qi fi 2 1 ∗ ixT d i qi fi 3 0 ∗ ixT d i qi fi 3 1) := by
  have h := pointsTo_toks (ℓ := iL d i) (S := Finset.univ) (f := (fi : Buf (Elt F) (iL d i))) (Ix := HIx 1) (Val := Elt F) (Name := ℕ) (U := UU) (Lvl := ℕ) qi 8
  rw [sep8] at h
  exact h
/-- The read share of the tables, one token for each table buffer. -/
theorem tab_toks : (tL d i ↦{qt} ft : sProp 𝕄) ⊣⊢ iprop((tL d i ↦{shareDrop qt 4} ft) ∗ ttT0 d i qt ft 0 ∗ ttT0 d i qt ft 1 ∗ ttT1 d i qt ft 0 ∗ ttT1 d i qt ft 1) := by
  have h := pointsTo_toks (ℓ := tL d i) (S := Finset.univ) (f := (ft : Buf (Elt F) (tL d i))) (Ix := HIx 1) (Val := Elt F) (Name := ℕ) (U := UU) (Lvl := ℕ) qt 4
  rw [sep4] at h
  exact h

/-- The buffer of positions is its eight half slots. -/
theorem ib_pieces : (iprop(∃ f, ibL d i ↦{fullShare} f) : sProp 𝕄) ⊢ iprop((∃ f, ibP d i 0 0 f) ∗ (∃ f, ibP d i 0 1 f) ∗ (∃ f, ibP d i 1 0 f) ∗ (∃ f, ibP d i 1 1 f) ∗ (∃ f, ibP d i 2 0 f) ∗ (∃ f, ibP d i 2 1 f) ∗ (∃ f, ibP d i 3 0 f) ∗ (∃ f, ibP d i 3 1 f)) := by
  have h := pieces (F := F) (ℓ := ibL d i) (fun t : Fin 8 => seg 4096 (t.val * 512) 512) (segs_disjoint 4096 512 8) (segs_cover 4096 512 8 rfl (by decide))
  rw [sep8] at h
  exact h
theorem ib_join : (iprop((∃ f, ibP d i 0 0 f) ∗ (∃ f, ibP d i 0 1 f) ∗ (∃ f, ibP d i 1 0 f) ∗ (∃ f, ibP d i 1 1 f) ∗ (∃ f, ibP d i 2 0 f) ∗ (∃ f, ibP d i 2 1 f) ∗ (∃ f, ibP d i 3 0 f) ∗ (∃ f, ibP d i 3 1 f)) : sProp 𝕄) ⊢ iprop(∃ f, ibL d i ↦{fullShare} f) := by
  have h := pieces_join (F := F) (ℓ := ibL d i) (0 : Fin 8) (fun t : Fin 8 => seg 4096 (t.val * 512) 512) (segs_disjoint 4096 512 8) (segs_cover 4096 512 8 rfl (by decide)) ⟨(fun _ => 0#32 : Wds 4096)⟩
  rw [sep8] at h
  exact h
/-- The buffer of results is its two banks. -/
theorem ob_pieces : (iprop(∃ f, obL d i ↦{fullShare} f) : sProp 𝕄) ⊢ iprop((∃ f, obP d i 0 f) ∗ (∃ f, obP d i 1 f)) := by
  have h := pieces (F := F) (ℓ := obL d i) (fun t : Fin 2 => seg 2048 (t.val * 1024) 1024) (segs_disjoint 2048 1024 2) (segs_cover 2048 1024 2 rfl (by decide))
  rw [sep2] at h
  exact h
theorem ob_join : (iprop((∃ f, obP d i 0 f) ∗ (∃ f, obP d i 1 f)) : sProp 𝕄) ⊢ iprop(∃ f, obL d i ↦{fullShare} f) := by
  have h := pieces_join (F := F) (ℓ := obL d i) (0 : Fin 2) (fun t : Fin 2 => seg 2048 (t.val * 1024) 1024) (segs_disjoint 2048 1024 2) (segs_cover 2048 1024 2 rfl (by decide)) ⟨(fun _ => 0#32 : Wds 2048)⟩
  rw [sep2] at h
  exact h

/-- The tile's eight semaphores at zero. -/
abbrev cells0 : sProp 𝕄 := iprop(semVal (thr d i, SemLoc.dma (⟨0, by decide⟩ : DmaSem sig)) 0 ∗ semVal (thr d i, SemLoc.dma (⟨1, by decide⟩ : DmaSem sig)) 0 ∗ semVal (thr d i, SemLoc.dma (⟨2, by decide⟩ : DmaSem sig)) 0 ∗ semVal (thr d i, SemLoc.dma (⟨3, by decide⟩ : DmaSem sig)) 0 ∗ semVal (thr d i, SemLoc.dma (⟨4, by decide⟩ : DmaSem sig)) 0 ∗ semVal (thr d i, SemLoc.dma (⟨5, by decide⟩ : DmaSem sig)) 0 ∗ semVal (thr d i, SemLoc.dma (⟨6, by decide⟩ : DmaSem sig)) 0 ∗ semVal (thr d i, SemLoc.dma (⟨7, by decide⟩ : DmaSem sig)) 0)
/-- The tile's six buffers, at some contents. -/
abbrev bufs : sProp 𝕄 := iprop((∃ f, taL0 d i ↦{fullShare} f) ∗ (∃ f, tbL0 d i ↦{fullShare} f) ∗ (∃ f, taL1 d i ↦{fullShare} f) ∗ (∃ f, tbL1 d i ↦{fullShare} f)
    ∗ (∃ f, ibL d i ↦{fullShare} f) ∗ (∃ f, obL d i ↦{fullShare} f))
/-- The tile's slots, banks and table buffers, all free. -/
abbrev frees : sProp 𝕄 := iprop(IdxFree d i qi fi 0 ∗ IdxFree d i qi fi 1 ∗ IdxFree d i qi fi 2 ∗ IdxFree d i qi fi 3 ∗ OutFree d i 0 ∗ OutFree d i 1
    ∗ TabFree0 d i qt ft ∗ TabFree1 d i qt ft)
/-- What no copy of the tile reads with. -/
abbrev rests : sProp 𝕄 := iprop((iL d i ↦{shareDrop qi 8} fi) ∗ (tL d i ↦{shareDrop qt 4} ft))

set_option maxHeartbeats 4000000 in
theorem tile_cut : (iprop(cells0 d i ∗ bufs d i ∗ (iL d i ↦{qi} fi) ∗ (tL d i ↦{qt} ft)) : sProp 𝕄) ⊢ iprop(frees d i qi qt ft fi ∗ rests d i qi qt ft fi) := by
  iintro ⟨⟨C0, C1, C2, C3, C4, C5, C6, C7⟩, ⟨A0, B0, A1, B1, Hib, Hob⟩, Hi, Ht⟩
  ihave Hi' := (idx_toks (F := F) d i qi fi).1 $$ Hi
  icases Hi' with ⟨Hir, I0, I1, I2, I3, I4, I5, I6, I7⟩
  ihave Ht' := (tab_toks (F := F) d i qt ft).1 $$ Ht
  icases Ht' with ⟨Htr, T0, T1, T2, T3⟩
  ihave Hib' := (ib_pieces (F := F) d i) $$ Hib
  icases Hib' with ⟨P0, P1, P2, P3, P4, P5, P6, P7⟩
  ihave Hob' := (ob_pieces (F := F) d i) $$ Hob
  icases Hob' with ⟨O0, O1⟩
  unfold frees rests IdxFree OutFree TabFree0 TabFree1
  isplitr [Hir Htr]
  · isplitl [C2 I0 I1 P0 P1]
    · isplitl [C2]
      · iexact C2
      isplitl [I0]
      · iexact I0
      isplitl [I1]
      · iexact I1
      isplitl [P0]
      · iexact P0
      iexact P1
    isplitl [C3 I2 I3 P2 P3]
    · isplitl [C3]
      · iexact C3
      isplitl [I2]
      · iexact I2
      isplitl [I3]
      · iexact I3
      isplitl [P2]
      · iexact P2
      iexact P3
    isplitl [C4 I4 I5 P4 P5]
    · isplitl [C4]
      · iexact C4
      isplitl [I4]
      · iexact I4
      isplitl [I5]
      · iexact I5
      isplitl [P4]
      · iexact P4
      iexact P5
    isplitl [C5 I6 I7 P6 P7]
    · isplitl [C5]
      · iexact C5
      isplitl [I6]
      · iexact I6
      isplitl [I7]
      · iexact I7
      isplitl [P6]
      · iexact P6
      iexact P7
    isplitl [C6 O0]
    · isplitl [C6]
      · iexact C6
      iexact O0
    isplitl [C7 O1]
    · isplitl [C7]
      · iexact C7
      iexact O1
    isplitl [C0 T0 T1 A0 B0]
    · isplitl [C0]
      · iexact C0
      isplitl [T0]
      · iexact T0
      isplitl [T1]
      · iexact T1
      isplitl [A0]
      · iexact A0
      iexact B0
    isplitl [C1]
    · iexact C1
    isplitl [T2]
    · iexact T2
    isplitl [T3]
    · iexact T3
    isplitl [A1]
    · iexact A1
    iexact B1
  · isplitl [Hir]
    · iexact Hir
    iexact Htr

set_option maxHeartbeats 4000000 in
theorem tile_uncut : (iprop(frees d i qi qt ft fi ∗ rests d i qi qt ft fi) : sProp 𝕄) ⊢ iprop(cells0 d i ∗ bufs d i ∗ (iL d i ↦{qi} fi) ∗ (tL d i ↦{qt} ft)) := by
  unfold frees rests IdxFree OutFree TabFree0 TabFree1
  iintro ⟨⟨⟨C2, I0, I1, P0, P1⟩, ⟨C3, I2, I3, P2, P3⟩, ⟨C4, I4, I5, P4, P5⟩, ⟨C5, I6, I7, P6, P7⟩, ⟨C6, O0⟩, ⟨C7, O1⟩, ⟨C0, T0, T1, A0, B0⟩, ⟨C1, T2, T3, A1, B1⟩⟩, Hir, Htr⟩
  ihave Hi := (idx_toks (F := F) d i qi fi).2 $$ [Hir I0 I1 I2 I3 I4 I5 I6 I7]
  · isplitl [Hir]
    · iexact Hir
    isplitl [I0]
    · iexact I0
    isplitl [I1]
    · iexact I1
    isplitl [I2]
    · iexact I2
    isplitl [I3]
    · iexact I3
    isplitl [I4]
    · iexact I4
    isplitl [I5]
    · iexact I5
    isplitl [I6]
    · iexact I6
    iexact I7
  ihave Ht := (tab_toks (F := F) d i qt ft).2 $$ [Htr T0 T1 T2 T3]
  · isplitl [Htr]
    · iexact Htr
    isplitl [T0]
    · iexact T0
    isplitl [T1]
    · iexact T1
    isplitl [T2]
    · iexact T2
    iexact T3
  ihave Hib := (ib_join (F := F) d i) $$ [P0 P1 P2 P3 P4 P5 P6 P7]
  · isplitl [P0]
    · iexact P0
    isplitl [P1]
    · iexact P1
    isplitl [P2]
    · iexact P2
    isplitl [P3]
    · iexact P3
    isplitl [P4]
    · iexact P4
    isplitl [P5]
    · iexact P5
    isplitl [P6]
    · iexact P6
    iexact P7
  ihave Hob := (ob_join (F := F) d i) $$ [O0 O1]
  · isplitl [O0]
    · iexact O0
    iexact O1
  isplitl [C0 C1 C2 C3 C4 C5 C6 C7]
  · isplitl [C0]
    · iexact C0
    isplitl [C1]
    · iexact C1
    isplitl [C2]
    · iexact C2
    isplitl [C3]
    · iexact C3
    isplitl [C4]
    · iexact C4
    isplitl [C5]
    · iexact C5
    isplitl [C6]
    · iexact C6
    iexact C7
  isplitl [A0 B0 A1 B1 Hib Hob]
  · isplitl [A0]
    · iexact A0
    isplitl [B0]
    · iexact B0
    isplitl [A1]
    · iexact A1
    isplitl [B1]
    · iexact B1
    isplitl [Hib]
    · iexact Hib
    iexact Hob
  isplitl [Hi]
  · iexact Hi
  iexact Ht

end Cert.Proof.Pairs
end
end
-- ==== Proof.Launch.lean ====
/-
  The kernel's launch: what each SparseCore and each tile is handed of the arrays and brings back, and the whole run.
-/
module

public import proofs.«01_k».proof.Proof.Pieces
public import Idealize.ShloMosaic.Lib.StableHlo.Run
public import Idealize.ShloMosaic.Lib.Pipeline.Kit

@[expose] public section

noncomputable section

namespace Cert.Proof.Pairs

open Cert.Kernel
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

variable (m : (ℓ : Loc nD τ sig) → Buf (Elt F) ℓ) (ρ : Dev nD → PrngReg)

abbrev xT (d : Dev nD) : Loc nD τ sig := (SparseCore.T d).loc main_arg0
abbrev xI (d : Dev nD) : Loc nD τ sig := (SparseCore.T d).loc main_arg1
abbrev xO (d : Dev nD) : Loc nD τ sig := (SparseCore.T d).loc main_v0
/-- The tables and the positions at the launch. -/
abbrev fT (d : Dev nD) : Wds 41879552 := m (xT d)
abbrev fI (d : Dev nD) : Wds 612352 := m (xI d)
/-- The kernel's result. -/
abbrev fG (d : Dev nD) : Wds 29952000 := G (fT m d) (fI m d)

/-- The shares of a SparseCore and of a tile. -/
abbrev qc (c : ℕ) : PosShare TreeShare := shareTokN fullShare c
abbrev qs (c s : ℕ) : PosShare TreeShare := shareTokN (qc c) s
/-- What SparseCore `c` writes of the result. -/
abbrev coreS (c : ℕ) : Finset (⟨1, ![29952000]⟩ : Shape).Idx := (Finset.univ : Finset (Fin 16)).biUnion fun s => ownS (2 * s.val + c)

/-! ## What the handshakes carry -/

abbrev stR (d : Dev nD) (c : ℕ) (f : Wds 29952000) : sProp 𝕄 := iprop((xI d ↦{qc c} m (xI d)) ∗ (xT d ↦{qc c} m (xT d)) ∗ xO d ↦[coreS c]{fullShare} f)
abbrev goR (d : Dev nD) (c s : ℕ) (f : Wds 29952000) : sProp 𝕄 := iprop((xI d ↦{qs c s} m (xI d)) ∗ (xT d ↦{qs c s} m (xT d)) ∗ xO d ↦[ownS (2 * s + c)]{fullShare} f)

/-- The call takes the arrays, half of the result to each SparseCore; each tile takes its part of the result. -/
def P : (K (F := F)).Pay (nD := nD) (Val := Elt F) (Name := ℕ) (U := UU) where
  st := fun q d c => match q with | 0 => stR m d c.val (m (xO d))
  dn := fun q d c => match q with | 0 => stR m d c.val (fG m d)
  go := fun q d c s => match q with | 0 => goR m d c.val s.val (m (xO d))
  td := fun q d c s => match q with | 0 => goR m d c.val s.val (fG m d)
  x := fun _ _ => iprop(emp)

instance P_storable : (P (F := F) m).IsStorable where
  st q d c := match q with | 0 => (inferInstance : BI.Storable (upEmb : UEmb _ 𝕄) (stR m d c.val (m (xO d))))
  dn q d c := match q with | 0 => (inferInstance : BI.Storable (upEmb : UEmb _ 𝕄) (stR m d c.val (fG m d)))
  go q d c s := match q with | 0 => (inferInstance : BI.Storable (upEmb : UEmb _ 𝕄) (goR m d c.val s.val (m (xO d))))
  td q d c s := match q with | 0 => (inferInstance : BI.Storable (upEmb : UEmb _ 𝕄) (goR m d c.val s.val (fG m d)))

/-- Every word of the positions holds two row numbers of a table. -/
def PreOK : Prop := ∀ d, PosOK (fI m d)

/-! ## A tile's own semaphores and buffers -/

section Tile
variable [FloatOps F]
variable (d : Dev nD) (L : grid0.Coords)

abbrev dcell (k : Fin 8) : GSem nD τ sig := (thr d L, .dma (⟨k.val, k.isLt⟩ : DmaSem sig))
theorem dcell_mem (k : Fin 8) : dcell d L k ∈ ownCells (thr d L) :=
  mem_ownCells.mpr ⟨rfl, (show ∀ s : DmaSem sig, (SemLoc.dma s : SemLoc sig).isScoped .scVector = true by decide) _⟩

theorem ownSems0_V : (ownSems0 (thr d L) : sProp 𝕄)
      = iprop(cells0 d L ∗ bigSep ((ownCells (thr d L)) \ Finset.univ.image (dcell d L)) fun g => semVal g 0) := by
  unfold SparseCore.Cfg.ownSems0
  rw [SparseCore.bigSep_sdiff_split' (t := Finset.univ.image (dcell d L)) (Finset.image_subset_iff.mpr fun k _ => dcell_mem d L k),
    SparseCore.bigSep_image_of_injOn (fun a _ b _ h => by
      have := congrArg (fun g : GSem nD τ sig => g.2) h
      simp only [SemLoc.dma.injEq, Fin.mk.injEq] at this; exact Fin.ext this), sep8 (F := F)]
  rfl

abbrev prc : Proc τ := Proc.scVector ((L 0).castLE Facts₀.hcore0) ((L 1).castLE Facts₀.hsub0)
/-- The tile's buffers. -/
abbrev scr : Fin 6 → Ref sig .scVector := ![cc0_scratch0, cc0_scratch1, cc0_scratch2, cc0_scratch3, cc0_scratch4, cc0_scratch5]
theorem scr_inj : Function.Injective scr := by decide
theorem scr_mem : ∀ k : Fin 6, (prc L).devRef (scr k) ∈ ownRefs (τ := τ) (sig := sig) (prc L)
  | 0 => SparseCore.Cfg.mem_ownRefs_of_owner (p := prc L) (b := (prc L).devRef cc0_scratch0) rfl
  | 1 => SparseCore.Cfg.mem_ownRefs_of_owner (p := prc L) (b := (prc L).devRef cc0_scratch1) rfl
  | 2 => SparseCore.Cfg.mem_ownRefs_of_owner (p := prc L) (b := (prc L).devRef cc0_scratch2) rfl
  | 3 => SparseCore.Cfg.mem_ownRefs_of_owner (p := prc L) (b := (prc L).devRef cc0_scratch3) rfl
  | 4 => SparseCore.Cfg.mem_ownRefs_of_owner (p := prc L) (b := (prc L).devRef cc0_scratch4) rfl
  | 5 => SparseCore.Cfg.mem_ownRefs_of_owner (p := prc L) (b := (prc L).devRef cc0_scratch5) rfl

theorem ownBufs_V : (ownBufs (thr d L) : sProp 𝕄)
      = iprop(bufs d L ∗ bigSep ((ownRefs (τ := τ) (sig := sig) (prc L)) \ Finset.univ.image (fun k => (prc L).devRef (scr k)))
          fun b => iprop(∃ f, ((d, b) : Loc nD τ sig) ↦{fullShare} f)) := by
  unfold SparseCore.Cfg.ownBufs
  refine (SparseCore.bigSep_sdiff_split' (t := Finset.univ.image (fun k => (prc L).devRef (scr k)))
    (Finset.image_subset_iff.mpr fun k _ => scr_mem L k)).trans ?_
  rw [SparseCore.bigSep_image_of_injOn (fun a _ b _ h => scr_inj (Proc.devRef_injective _ h)), sep6 (F := F)]
  rfl

/-! ## The tile's task -/

theorem tile_body (hpre : PreOK m) (O : CellTallies nD τ sig (HIx 1)) (W : Waits sig (HIx 1)) (hO : ∀ g, O g none = 0) :
    (iprop(levAts (K (F := F)).L (K (F := F)).lev ∗ emp ∗ goR m d (L 0).val (L 1).val (m (xO d))
        ∗ scopedBufs (thr d L) ∗ scopedSems0 (thr d L) ∗ owes (thr d L) O W) : sProp 𝕄)
      ⊢ wp frame (wpE (defs₀ (F := F)) 𝒱₀ (thr d L) none) Set.univ
          (cc0_sc_pairs L (Memref.whole main_arg0_scv) (Memref.isWhole_whole _) (Memref.whole main_arg1_scv) (Memref.isWhole_whole _) (Memref.whole main_v0_scv) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8)
          fun _ => iprop(goR m d (L 0).val (L 1).val (fG m d)
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V kfacts d ((L 0).castLE Facts₀.hcore0) ((L 1).castLE Facts₀.hsub0),
    SparseCore.Cfg.scopedSems0_V (Val := Elt F) d ((L 0).castLE Facts₀.hcore0) ((L 1).castLE Facts₀.hsub0), ownSems0_V (F := F), ownBufs_V (F := F)]
  iintro ⟨#Hlv, -, ⟨Hi, Ht, Ho⟩, ⟨HB, Hbufs⟩, ⟨HC, Hsems⟩, HO⟩
  ihave Hmw := (show levAts (K (F := F)).L (K (F := F)).lev ⊢ Transfers.MayWaits (thr d L) (none : HIx 1) O from
    (K (F := F)).mayWaits_none (thr := thr d L) hO) $$ Hlv
  ihave Hcut := (tile_cut (F := F) d L (qs (L 0).val (L 1).val) (qs (L 0).val (L 1).val) (fT m d) (fI m d)) $$ [HC HB Hi Ht]
  · isplitl [HC]; · iexact HC
    isplitl [HB]; · iexact HB
    isplitl [Hi]; · iexact Hi
    iexact Ht
  icases Hcut with ⟨⟨F0, F1, F2, F3, F4, F5, F6, F7⟩, Hrest⟩
  iapply (wp_wand_r Idealize.ShloMosaic.frame (wpE (defs₀ (F := F)) 𝒱₀ (thr d L) none) Set.univ)
  isplitl [F0 F1 F2 F3 F4 F5 F6 F7 Ho HO]
  · iapply (tile_run (F := F) d L (qs (L 0).val (L 1).val) (qs (L 0).val (L 1).val) (fT m d) (fI m d) (m (xO d)) O W (hpre d))
    unfold TileIn
    isplitl [F0]; · iexact F0
    isplitl [F1]; · iexact F1
    isplitl [F2]; · iexact F2
    isplitl [F3]; · iexact F3
    isplitl [F4]; · iexact F4
    isplitl [F5]; · iexact F5
    isplitl [F6]; · iexact F6
    isplitl [F7]; · iexact F7
    isplitl [Ho]; · iexact Ho
    isplitl [HO]
    · unfold Ow
      iexists W
      isplitr
      · ipureintro
        exact fun p hp => .inl hp
      iexact HO
    iexact Hmw
  iintro %_ HT
  unfold TileOut
  icases HT with ⟨F0, F1, F2, F3, F4, F5, F6, F7, Ho, HW⟩
  ihave Hun := (tile_uncut (F := F) d L (qs (L 0).val (L 1).val) (qs (L 0).val (L 1).val) (fT m d) (fI m d)) $$ [F0 F1 F2 F3 F4 F5 F6 F7 Hrest]
  · isplitr [Hrest]
    · isplitl [F0]; · iexact F0
      isplitl [F1]; · iexact F1
      isplitl [F2]; · iexact F2
      isplitl [F3]; · iexact F3
      isplitl [F4]; · iexact F4
      isplitl [F5]; · iexact F5
      isplitl [F6]; · iexact F6
      iexact F7
    iexact Hrest
  icases Hun with ⟨HC, HB, Hi, Ht⟩
  isplitl [Hi Ht Ho]
  · isplitl [Hi]; · iexact Hi
    isplitl [Ht]; · iexact Ht
    iexact Ho
  isplitl [HB Hbufs]
  · isplitl [HB]; · iexact HB
    iexact Hbufs
  isplitl [HC Hsems]
  · isplitl [HC]; · iexact HC
    iexact Hsems
  unfold Ow
  icases HW with ⟨%W', %hW, HO⟩
  iexists W'
  isplitr
  · ipureintro
    intro p hp
    rcases hW p hp with h | h
    · exact .inl h
    · exact .inr (.inl h)
  iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile Facts₀.hcore0 Facts₀.hsub0 (fun c s => cc0_sc_pairs (coordsV c s) (Memref.whole main_arg0_scv) (Memref.isWhole_whole _) (Memref.whole main_arg1_scv) (Memref.isWhole_whole _) (Memref.whole main_v0_scv) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8) ⟨⟩ c s := rfl

theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hpre O W hO

end Tile

/-! ## The arrays, split and joined -/

theorem ownS_disjoint (a b : ℕ) (h : a ≠ b) : Disjoint (ownS a) (ownS b) := by
  rw [Finset.disjoint_left]
  intro j h1 h2
  exact h ((mem_ownS.1 h1).symm.trans (mem_ownS.1 h2))
theorem mem_coreS {c : ℕ} (hc : c < 2) {j : (⟨1, ![29952000]⟩ : Shape).Idx} : j ∈ coreS c ↔ owner (co j) % 2 = c := by
  have ho : owner (co j) < 32 := Nat.mod_lt _ (by decide)
  constructor
  · intro h
    obtain ⟨s, -, hs⟩ := Finset.mem_biUnion.1 h
    have := mem_ownS.1 hs
    omega
  · intro h
    refine Finset.mem_biUnion.2 ⟨⟨owner (co j) / 2, by omega⟩, Finset.mem_univ _, mem_ownS.2 ?_⟩
    show _ = 2 * (owner (co j) / 2) + c
    omega
theorem tiles_disjoint (c : ℕ) : ∀ s ∈ (Finset.univ : Finset (Fin 16)), ∀ s' ∈ (Finset.univ : Finset (Fin 16)), s ≠ s' →
    Disjoint (ownS (2 * s.val + c)) (ownS (2 * s'.val + c)) := fun s _ s' _ h => ownS_disjoint _ _ fun e => h (Fin.ext (by omega))
theorem cores_disjoint : ∀ c ∈ (Finset.univ : Finset (Fin 2)), ∀ c' ∈ (Finset.univ : Finset (Fin 2)), c ≠ c' →
    Disjoint (coreS c.val) (coreS c'.val) := by
  intro c _ c' _ h
  rw [Finset.disjoint_left]
  intro j h1 h2
  exact h (Fin.ext (((mem_coreS c.isLt).1 h1).symm.trans ((mem_coreS c'.isLt).1 h2)))
theorem cores_cover : (Finset.univ : Finset (Fin 2)).biUnion (fun c => coreS c.val) = Finset.univ := by
  refine Finset.eq_univ_of_forall fun j => Finset.mem_biUnion.2 ⟨⟨owner (co j) % 2, Nat.mod_lt _ (by decide)⟩, Finset.mem_univ _, ?_⟩
  exact (mem_coreS (Nat.mod_lt _ (by decide))).2 rfl

theorem core_out (d : Dev nD) (c : ℕ) (f : Wds 29952000) :
    (xO d ↦[coreS c]{fullShare} f : sProp 𝕄) = bigSep Finset.univ fun s : Fin 16 => (xO d ↦[ownS (2 * s.val + c)]{fullShare} f : sProp 𝕄) :=
  pointsTo_biUnion (Val := Elt F) Finset.univ (ℓ := xO d) (fun s : Fin 16 => ownS (2 * s.val + c)) (tiles_disjoint c)
theorem all_out (d : Dev nD) (f : Wds 29952000) :
    (xO d ↦{fullShare} f : sProp 𝕄) = bigSep Finset.univ fun c : Fin 2 => (xO d ↦[coreS c.val]{fullShare} f : sProp 𝕄) := by
  rw [← pointsTo_biUnion (Val := Elt F) Finset.univ (ℓ := xO d) (fun c : Fin 2 => coreS c.val) cores_disjoint, cores_cover]

theorem go_split (d : Dev nD) (c : ℕ) (f : Wds 29952000) : stR m d c f ⊢ (iprop((bigSep Finset.univ fun s : Fin 16 => goR m d c s.val f)
    ∗ (xI d ↦{shareDrop (qc c) 16} m (xI d)) ∗ (xT d ↦{shareDrop (qc c) 16} m (xT d))) : sProp 𝕄) := by
  unfold goR stR
  rw [bigSep_sep', bigSep_sep', core_out]
  iintro ⟨Hi, Ht, Ho⟩
  ihave Hi' := (pointsTo_toks_split (ℓ := xI d) (S := Finset.univ) (f := m (xI d)) (qc c) 16) $$ Hi
  ihave Ht' := (pointsTo_toks_split (ℓ := xT d) (S := Finset.univ) (f := m (xT d)) (qc c) 16) $$ Ht
  icases Hi' with ⟨Hir, Hi⟩
  icases Ht' with ⟨Htr, Ht⟩
  isplitl [Hi Ht Ho]
  · isplitl [Hi]; · iexact Hi
    isplitl [Ht]; · iexact Ht
    iexact Ho
  isplitl [Hir]; · iexact Hir
  iexact Htr
theorem td_join (d : Dev nD) (c : ℕ) (f : Wds 29952000) : (iprop((bigSep Finset.univ fun s : Fin 16 => goR m d c s.val f)
    ∗ (xI d ↦{shareDrop (qc c) 16} m (xI d)) ∗ (xT d ↦{shareDrop (qc c) 16} m (xT d))) : sProp 𝕄) ⊢ stR m d c f := by
  unfold goR stR
  rw [bigSep_sep', bigSep_sep', core_out]
  iintro ⟨⟨Hi, Ht, Ho⟩, Hir, Htr⟩
  isplitl [Hi Hir]
  · iapply (pointsTo_toks_join (ℓ := xI d) (S := Finset.univ) (f := m (xI d)) (qc c) 16)
    isplitl [Hir]; · iexact Hir
    iexact Hi
  isplitl [Ht Htr]
  · iapply (pointsTo_toks_join (ℓ := xT d) (S := Finset.univ) (f := m (xT d)) (qc c) 16)
    isplitl [Htr]; · iexact Htr
    iexact Ht
  iexact Ho

theorem vecSplit : (K (F := F)).VecSplit' (P m) 0 := by
  intro d c
  show stR m d c.val (m (xO d)) ⊢ |={Set.univ}=> iprop((bigSep Finset.univ fun s : Fin 16 => goR m d c.val s.val (m (xO d)))
      ∗ ((bigSep Finset.univ fun s : Fin 16 => goR m d c.val s.val (fG m d)) -∗ stR m d c.val (fG m d)))
  iintro H
  ihave H' := (go_split m d c.val (m (xO d))) $$ H
  icases H' with ⟨Hg, Hr⟩
  imodintro
  isplitl [Hg]; · iexact Hg
  iintro Ht
  iapply (td_join m d c.val (fG m d))
  isplitl [Ht]; · iexact Ht
  iexact Hr

abbrev iPts (d : Dev nD) : sProp 𝕄 := xI d ↦{fullShare} m (xI d)
abbrev tPts (d : Dev nD) : sProp 𝕄 := xT d ↦{fullShare} m (xT d)
abbrev oPts (d : Dev nD) (f : Wds 29952000) : sProp 𝕄 := xO d ↦{fullShare} f
abbrev rem (d : Dev nD) : sProp 𝕄 := iprop((xI d ↦{shareDrop fullShare 2} m (xI d)) ∗ (xT d ↦{shareDrop fullShare 2} m (xT d)))

theorem st_split (d : Dev nD) (f : Wds 29952000) : (iprop(iPts m d ∗ tPts m d ∗ oPts d f) : sProp 𝕄) ⊢ iprop((bigSep Finset.univ fun c : Fin 2 => stR m d c.val f) ∗ rem m d) := by
  unfold stR
  rw [bigSep_sep', bigSep_sep']
  unfold oPts
  rw [all_out]
  iintro ⟨Hi, Ht, Ho⟩
  ihave Hi' := (pointsTo_toks_split (ℓ := xI d) (S := Finset.univ) (f := m (xI d)) fullShare 2) $$ Hi
  ihave Ht' := (pointsTo_toks_split (ℓ := xT d) (S := Finset.univ) (f := m (xT d)) fullShare 2) $$ Ht
  icases Hi' with ⟨Hir, Hi⟩
  icases Ht' with ⟨Htr, Ht⟩
  isplitl [Hi Ht Ho]
  · isplitl [Hi]; · iexact Hi
    isplitl [Ht]; · iexact Ht
    iexact Ho
  isplitl [Hir]; · iexact Hir
  iexact Htr
theorem dn_join (d : Dev nD) (f : Wds 29952000) : (iprop((bigSep Finset.univ fun c : Fin 2 => stR m d c.val f) ∗ rem m d) : sProp 𝕄) ⊢ iprop(iPts m d ∗ tPts m d ∗ oPts d f) := by
  unfold stR
  rw [bigSep_sep', bigSep_sep']
  unfold oPts
  rw [all_out]
  iintro ⟨⟨Hi, Ht, Ho⟩, Hir, Htr⟩
  isplitl [Hi Hir]
  · iapply (pointsTo_toks_join (ℓ := xI d) (S := Finset.univ) (f := m (xI d)) fullShare 2)
    isplitl [Hir]; · iexact Hir
    iexact Hi
  isplitl [Ht Htr]
  · iapply (pointsTo_toks_join (ℓ := xT d) (S := Finset.univ) (f := m (xT d)) fullShare 2)
    isplitl [Htr]; · iexact Htr
    iexact Ht
  iexact Ho

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (F := F) (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The main program -/

theorem unscopedBufs_eq (d : Dev nD) (W : (b : Ref sig .tc) → Buf (Elt F) ((d.tc : Thread nD τ).loc b)) :
    (unscopedBufs d W : sProp 𝕄) = iprop((xT d ↦{fullShare} W main_arg0) ∗ (xI d ↦{fullShare} W main_arg1) ∗ xO d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

abbrev FIN (d : Dev nD) : sProp 𝕄 := iprop(iPts m d ∗ tPts m d ∗ oPts d (fG m d))

variable [FloatOps F]

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ht, Hi, Ho⟩, Hts, -⟩, -⟩
  ihave Hs := (st_split m d (m (xO d))) $$ [Hi Ht Ho]
  · isplitl [Hi]; · iexact Hi
    isplitl [Ht]; · iexact Ht
    iexact Ho
  icases Hs with ⟨Hs, Hrem⟩
  iapply ((K (F := F)).wp_run (D (F := F)) 𝒱 (EH := EH) (P := P m) κ d 0) $$ [Hst Hs Hb Hts Hrem]
  isplitr; · iexact Hctx
  isplitl [Hst]; · iexact Hst
  isplitl [Hs]
  · iexact Hs
  iintro ⟨Hst, Hdn⟩
  ihave Hd := (dn_join m d (fG m d)) $$ [Hdn Hrem]
  · isplitl [Hdn]; · iexact Hdn
    iexact Hrem
  icases Hd with ⟨Hi, Ht, Ho⟩
  imodintro
  isplitl [Hst]; · iexact Hst
  isplitr [Hb Hts]
  · isplitl [Hi]; · iexact Hi
    isplitl [Ht]; · iexact Ht
    iexact Ho
  isplitl [Hb] <;> iassumption

def fq (d : Dev nD) (s' : Phys nD τ sig (Elt F)) : Prop :=
  s'.mem.mem (xO d) = fG m d ∧ s'.mem.mem (xT d) = m (xT d) ∧ s'.mem.mem (xI d) = m (xI d)

theorem hfin (d : Dev nD) (s' : Phys nD τ sig (Elt F)) : iprop(FIN m d ∗ SI s') ⊢ (⌜fq m d s'⌝ : sProp 𝕄) := by
  iintro ⟨⟨Hi, Ht, Ho⟩, HSI⟩
  ihave H := (persistent_entails_right (SI_pointsTo_agree (st := s') (ℓ := xI d) (I := Finset.univ) (q := fullShare) (f := m (xI d)))) $$ [HSI Hi]
  · isplitl [HSI] <;> iassumption
  icases H with ⟨%h1, HSI, -⟩
  ihave H := (persistent_entails_right (SI_pointsTo_agree (st := s') (ℓ := xT d) (I := Finset.univ) (q := fullShare) (f := m (xT d)))) $$ [HSI Ht]
  · isplitl [HSI] <;> iassumption
  icases H with ⟨%h2, HSI, -⟩
  ihave H := (SI_pointsTo_agree (st := s') (ℓ := xO d) (I := Finset.univ) (q := fullShare) (f := (fG m d : Buf (Elt F) (xO d)))) $$ [HSI Ho]
  · isplitl [HSI] <;> iassumption
  icases H with %h3
  ipureintro
  have e1 : s'.mem.mem (xI d) = m (xI d) := funext fun (i : Idx (xI d)) => h1 i (by simp)
  have e2 : s'.mem.mem (xT d) = m (xT d) := funext fun (i : Idx (xT d)) => h2 i (by simp)
  have e3 : s'.mem.mem (xO d) = fG m d := funext fun (i : Idx (xO d)) => h3 i (by simp)
  exact ⟨e3, e2, e1⟩

/-! ## The program's run -/

def QC : PUnit × MemSt nD τ sig (Elt F) → Prop := fun r =>
  (∀ c : Dev nD, r.2.mem (xO c) = fG m c ∧ r.2.mem (xT c) = m (xT c) ∧ r.2.mem (xI c) = m (xI c)) ∧ r.2.sem = fun _ => 0

/-- The kernel runs, ends with its result, its arguments unchanged and every semaphore at zero. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) kfacts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Pairs
end
end
-- ==== Proof.FactsI.lean ====
/-
  The same side conditions for the idealized program, which is printed word for word the same.
-/
module

public import proofs.«01_k».proof.KernelIdeal
public import proofs.«01_k».proof.Proof.FactsK

@[expose] public section

set_option Elab.async false

namespace Cert.Proof.Pairs

instance factsI₀ : Cert.KernelIdeal.Facts₀ where
  inb_S2_S1_0 := facts₀.inb_S2_S1_0
  squeezes_S1_S_ := facts₀.squeezes_S1_S_
  inb_S2_S1_1 := facts₀.inb_S2_S1_1
  inb_S4096_S512_0 := facts₀.inb_S4096_S512_0
  inb_S4_S1_0 := facts₀.inb_S4_S1_0
  inb_S4096_S512_512 := facts₀.inb_S4096_S512_512
  inb_S4096_S512_1024 := facts₀.inb_S4096_S512_1024
  inb_S4_S1_1 := facts₀.inb_S4_S1_1
  inb_S4096_S512_1536 := facts₀.inb_S4096_S512_1536
  inb_S4096_S512_2048 := facts₀.inb_S4096_S512_2048
  inb_S4_S1_2 := facts₀.inb_S4_S1_2
  inb_S4096_S512_2560 := facts₀.inb_S4096_S512_2560
  h_S16 := facts₀.h_S16
  inb_S36864_S12288_0 := facts₀.inb_S36864_S12288_0
  h_S12288 := facts₀.h_S12288
  inb_S36864_S12288_12288 := facts₀.inb_S36864_S12288_12288
  inb_S36864_S12288_24576 := facts₀.inb_S36864_S12288_24576
  inb_S24576_S12288_0 := facts₀.inb_S24576_S12288_0
  inb_S24576_S12288_12288 := facts₀.inb_S24576_S12288_12288
  inb_S29952000_S1024_0 := facts₀.inb_S29952000_S1024_0
  hcc0_scratch6 := facts₀.hcc0_scratch6
  hcc0_scratch7 := facts₀.hcc0_scratch7
  hcc0_scratch8 := facts₀.hcc0_scratch8
  hscKind := facts₀.hscKind
  hscCore := facts₀.hscCore
  hscSub := facts₀.hscSub
  hcore0 := facts₀.hcore0
  hsub0 := facts₀.hsub0
  k0_off1_inb := facts₀.k0_off1_inb
  k0_off2_inb := facts₀.k0_off2_inb
  k0_off3_inb := facts₀.k0_off3_inb
  k0_off4_inb := facts₀.k0_off4_inb
  k0_off5_inb := facts₀.k0_off5_inb
  k0_off6_inb := facts₀.k0_off6_inb
  k0_t1_ok := facts₀.k0_t1_ok
  k0_off7_inb := facts₀.k0_off7_inb
  k0_off8_inb := facts₀.k0_off8_inb
  k0_t2_ok := facts₀.k0_t2_ok
  k0_off9_inb := facts₀.k0_off9_inb
  k0_off10_inb := facts₀.k0_off10_inb
  k0_off11_inb := facts₀.k0_off11_inb
  k0_off12_inb := facts₀.k0_off12_inb
  k0_off13_inb := facts₀.k0_off13_inb
  k0_off14_inb := facts₀.k0_off14_inb
  k0_off15_inb := facts₀.k0_off15_inb
  k0_off16_inb := facts₀.k0_off16_inb
  k0_off17_inb := facts₀.k0_off17_inb
  k0_off18_inb := facts₀.k0_off18_inb
  k0_off19_inb := facts₀.k0_off19_inb
  k0_t3_ok := facts₀.k0_t3_ok
  k0_off20_inb := facts₀.k0_off20_inb
  k0_off21_inb := facts₀.k0_off21_inb
  k0_off22_inb := facts₀.k0_off22_inb
  k0_off23_inb := facts₀.k0_off23_inb
  k0_off24_inb := facts₀.k0_off24_inb
  k0_off25_inb := facts₀.k0_off25_inb
  k0_off26_inb := facts₀.k0_off26_inb
  k0_off27_inb := facts₀.k0_off27_inb
  k0_off28_inb := facts₀.k0_off28_inb
  k0_off29_inb := facts₀.k0_off29_inb
  k0_off30_inb := facts₀.k0_off30_inb
  k0_t4_ok := facts₀.k0_t4_ok
  k0_off31_inb := facts₀.k0_off31_inb
  k0_off32_inb := facts₀.k0_off32_inb
  k0_off33_inb := facts₀.k0_off33_inb
  k0_off34_inb := facts₀.k0_off34_inb
  k0_off35_inb := facts₀.k0_off35_inb
  k0_off36_inb := facts₀.k0_off36_inb
  k0_off37_inb := facts₀.k0_off37_inb
  k0_off38_inb := facts₀.k0_off38_inb
  k0_off39_inb := facts₀.k0_off39_inb
  k0_off40_inb := facts₀.k0_off40_inb
  k0_off41_inb := facts₀.k0_off41_inb
  k0_t5_ok := facts₀.k0_t5_ok
  k0_off42_inb := facts₀.k0_off42_inb
  k0_off43_inb := facts₀.k0_off43_inb
  k0_off44_inb := facts₀.k0_off44_inb
  k0_off45_inb := facts₀.k0_off45_inb
  k0_off46_inb := facts₀.k0_off46_inb
  k0_off47_inb := facts₀.k0_off47_inb
  k0_off48_inb := facts₀.k0_off48_inb
  k0_off49_inb := facts₀.k0_off49_inb
  k0_off50_inb := facts₀.k0_off50_inb
  k0_t6_ok := facts₀.k0_t6_ok
  k0_off51_inb := facts₀.k0_off51_inb
  k0_off52_inb := facts₀.k0_off52_inb
  k0_t7_ok := facts₀.k0_t7_ok
  k0_off53_inb := facts₀.k0_off53_inb
  k0_off54_inb := facts₀.k0_off54_inb
  k0_off55_inb := facts₀.k0_off55_inb
  k0_off56_inb := facts₀.k0_off56_inb
  k0_off57_inb := facts₀.k0_off57_inb
  k0_off58_inb := facts₀.k0_off58_inb
  k0_off59_inb := facts₀.k0_off59_inb
  k0_off60_inb := facts₀.k0_off60_inb
  k0_off61_inb := facts₀.k0_off61_inb
  k0_off62_inb := facts₀.k0_off62_inb
  k0_off63_inb := facts₀.k0_off63_inb
  k0_t8_ok := facts₀.k0_t8_ok
  k0_off64_inb := facts₀.k0_off64_inb
  k0_off65_inb := facts₀.k0_off65_inb
  k0_off66_inb := facts₀.k0_off66_inb
  k0_off67_inb := facts₀.k0_off67_inb
  k0_off68_inb := facts₀.k0_off68_inb
  k0_off69_inb := facts₀.k0_off69_inb
  k0_off70_inb := facts₀.k0_off70_inb
  k0_off71_inb := facts₀.k0_off71_inb
  k0_off72_inb := facts₀.k0_off72_inb
  k0_off73_inb := facts₀.k0_off73_inb
  k0_off74_inb := facts₀.k0_off74_inb
  k0_t9_ok := facts₀.k0_t9_ok
  k0_off75_inb := facts₀.k0_off75_inb
  k0_off76_inb := facts₀.k0_off76_inb
  k0_off77_inb := facts₀.k0_off77_inb
  k0_off78_inb := facts₀.k0_off78_inb
  k0_off79_inb := facts₀.k0_off79_inb
  k0_off80_inb := facts₀.k0_off80_inb
  k0_off81_inb := facts₀.k0_off81_inb
  k0_off82_inb := facts₀.k0_off82_inb
  k0_off83_inb := facts₀.k0_off83_inb
  k0_off84_inb := facts₀.k0_off84_inb
  k0_off85_inb := facts₀.k0_off85_inb
  k0_t10_ok := facts₀.k0_t10_ok
  k0_off86_inb := facts₀.k0_off86_inb
  k0_off87_inb := facts₀.k0_off87_inb
  k0_off88_inb := facts₀.k0_off88_inb
  k0_off89_inb := facts₀.k0_off89_inb
  k0_off90_inb := facts₀.k0_off90_inb
  k0_off91_inb := facts₀.k0_off91_inb
  k0_off92_inb := facts₀.k0_off92_inb
  k0_off93_inb := facts₀.k0_off93_inb
  k0_off94_inb := facts₀.k0_off94_inb
  k0_off95_inb := facts₀.k0_off95_inb
  k0_off96_inb := facts₀.k0_off96_inb
  k0_off97_inb := facts₀.k0_off97_inb
  k0_off98_inb := facts₀.k0_off98_inb

instance factsI : Cert.KernelIdeal.Facts := @Cert.KernelIdeal.Facts.mk factsI₀

end Cert.Proof.Pairs
end
-- ==== Proof.Same.lean ====
/-
  The idealized program is the kernel's own text, so it is the same program.
-/
module

public import proofs.«01_k».proof.Proof.FactsI

@[expose] public section

namespace Cert.Proof.Pairs

open Idealize.ShloMosaic

variable {F : FTy → Type} [FloatOps F]

theorem same_defs₀ : Cert.KernelIdeal.defs₀ (F := F) = Cert.Kernel.defs₀ (F := F) := rfl
theorem same_defs : Cert.KernelIdeal.defs (F := F) = Cert.Kernel.defs (F := F) := rfl
theorem same_threads : Cert.KernelIdeal.threads (F := F) = Cert.Kernel.threads (F := F) := rfl

end Cert.Proof.Pairs
end
-- ==== Proof.Pre.lean ====
/-
  The precondition, read: every half of every word of the positions that the kernel reads is a row number of a table.
-/
module

public import proofs.«01_k».proof.Proof.Lanes
public import proofs.«01_k».proof.Proof.Gen.Pre_in_table
public import Idealize.ShloMosaic.Lib.Pipeline.Value
public import Idealize.ShloMosaic.Lib.ValueIdxCore
public import Idealize.ShloMosaic.Lib.WordCmp

@[expose] public section

noncomputable section

namespace Cert.Proof.Pairs

open Idealize.ShloMosaic Idealize.ShloMosaic.ValueIdx

variable {F : FTy → Type} [FloatOps F]

/-- A shape cast of the positions to rows, cut to the tokens, at an index. -/
theorem rows_at (fi : Wds 612352) (hc : (⟨1, ![612352]⟩ : Shape).ShapeCasts ⟨2, ![26, 23552]⟩) (hs : (⟨2, ![26, 23552]⟩ : Shape).Slices ![0, 0] ⟨2, ![26, 23040]⟩)
    (f : Fin 26) (u : Fin 23040) :
    extractStridedSlice ⟨2, ![26, 23040]⟩ ![0, 0] (shapeCast ⟨2, ![26, 23552]⟩ fi hc) hs (ix2 f u) = rd fi (f.val * 23552 + u.val) := by
  have hf := f.isLt
  have hu := u.isLt
  show shapeCast ⟨2, ![26, 23552]⟩ fi hc _ = _
  rw [shapeCast_apply fi hc _ (mk1 612352 (f.val * 23552 + u.val) (by omega)) ?_]
  · exact rd_eq fi _ rfl
  · rw [Shape.rowMajor_val_one, Shape.rowMajor_val_two]
    show f.val * 23552 + u.val = (0 + f.val) * 23552 + (0 + u.val)
    omega

theorem slt_true {a b : BitVec 32} (h : IntOp.cmpi .slt a b = 1#1) : a.slt b = true := by
  by_contra hn
  rw [Bool.not_eq_true] at hn
  unfold IntOp.cmpi at h
  simp [hn] at h

theorem and_one {a b : BitVec 1} (h : IntOp.andi a b = 1#1) : a = 1#1 ∧ b = 1#1 := by
  revert a b; decide

/-- A word of nonnegative sign below 12288. -/
theorem lt_of_slt {a : BitVec 32} (h : a.slt 12288#32 = true) (h0 : a.toNat < 65536) : a.toNat < 12288 := by
  rw [BitVec.slt_eq_decide, decide_eq_true_iff, BitVec.toInt_eq_toNat_cond, BitVec.toInt_eq_toNat_cond] at h
  have e : (12288#32).toNat = 12288 := rfl
  rw [e] at h
  split at h <;> simp at h <;> omega

theorem posOK_of_pre (ft : Wds 41879552) (fi : Wds 612352) (h : Cert.Pre_in_table.fn (F := F) ft fi = fun _ => 1#1) : PosOK fi := by
  intro f u k hf hu
  have e := congrFun h (ix2 ⟨f, hf⟩ ⟨u, hu⟩)
  have hr := rows_at fi Cert.Pre_in_table.Facts.shapeCasts_S612352_S26x23552 Cert.Pre_in_table.Facts.slices_S26x23552_S26x23040_0_0 ⟨f, hf⟩ ⟨u, hu⟩
  change IntOp.andi (IntOp.cmpi .slt (IntOp.andi (extractStridedSlice _ _ _ _ _) 65535#32) 12288#32)
    (IntOp.cmpi .slt (IntOp.shrui .host (extractStridedSlice _ _ _ _ _) 16#32) 12288#32) = 1#1 at e
  rw [hr, shrui_host] at e
  obtain ⟨e1, e2⟩ := and_one e
  have hb1 : (IntOp.andi (rd fi (f * 23552 + u)) 65535#32).toNat < 65536 := by
    show (rd fi (f * 23552 + u) &&& 65535#32).toNat < 65536
    rw [BitVec.toNat_and]
    exact Nat.lt_of_le_of_lt Nat.and_le_right (by decide)
  have hb2 : (IntOp.shrui .vector (rd fi (f * 23552 + u)) 16#32).toNat < 65536 := by
    unfold IntOp.shrui
    rw [if_pos (by decide)]
    have := (rd fi (f * 23552 + u)).isLt
    show (rd fi (f * 23552 + u) >>> (16#32 : BitVec 32)).toNat < 65536
    rw [BitVec.ushiftRight_eq', BitVec.toNat_ushiftRight, Nat.shiftRight_eq_div_pow]
    show _ / 65536 < 65536
    omega
  unfold hw
  split
  · exact lt_of_slt (slt_true e1) hb1
  · exact lt_of_slt (slt_true e2) hb2

end Cert.Proof.Pairs
end
end
-- ==== Proof.RefVal.lean ====
/-
  The reference's result, read word by word: it is the function `G` of the two arguments.
-/
module

public import proofs.«01_k».proof.Proof.Pre
public import proofs.«01_k».proof.Proof.Gen.ReferenceIdeal.Run

@[expose] public section

noncomputable section

namespace Cert.Proof.Pairs.Ref

open Cert.ReferenceIdeal Cert.ReferenceIdeal.Gen Cert.ReferenceIdeal.Value Cert.Proof.Pairs
open Idealize.ShloMosaic Idealize.ShloMosaic.ValueIdx Idealize.ShloMosaic.StableHlo

variable {F : FTy → Type} [FloatOps F] (V0 : Valuation τ sig (Elt F))

/-- The two arguments. -/
abbrev aT : Wds 41879552 := V0 (Proc.devRef .tc main_arg0)
abbrev aI : Wds 612352 := V0 (Proc.devRef .tc main_arg1)

/-! ## The positions, one half word each -/

theorem v2_at (f : Fin 26) (b : Fin 45) (z : Fin 1) (u : Fin 512) :
    (res_main_v2 V0 : S26x45x1x512.Idx → BitVec 32) (ix4 f b z u) = rd (aI V0) (f.val * 23552 + (b.val * 512 + u.val)) := by
  have hb := b.isLt
  have hu := u.isLt
  have hz := z.isLt
  unfold res_main_v2
  refine (shapeCast_apply _ _ (ix4 f b z u) (ix2 f (⟨b.val * 512 + u.val, by omega⟩ : Fin 23040)) ?_).trans (rows_at (aI V0) _ _ f _)
  rw [Shape.rowMajor_val_two, Shape.rowMajor_val_four]
  show f.val * 23040 + (b.val * 512 + u.val) = ((f.val * 45 + b.val) * 1 + z.val) * 512 + u.val
  omega

theorem v8_at (f : Fin 26) (t : Fin 46080) :
    (res_main_v8 V0 : S26x46080.Idx → BitVec 32) (ix2 f t) = hw (t.val % 1024 / 512) (rd (aI V0) (f.val * 23552 + t.val / 1024 * 512 + t.val % 512)) := by
  have ht := t.isLt
  unfold res_main_v8
  refine (shapeCast_apply _ _ (ix2 f t) (ix4 f (⟨t.val / 1024, by omega⟩ : Fin 45) (⟨t.val % 1024 / 512, by omega⟩ : Fin 2) (⟨t.val % 512, by omega⟩ : Fin 512)) ?_).trans ?_
  · rw [Shape.rowMajor_val_two, Shape.rowMajor_val_four]
    show ((f.val * 45 + t.val / 1024) * 2 + t.val % 1024 / 512) * 512 + t.val % 512 = f.val * 46080 + t.val
    omega
  by_cases h : t.val % 1024 / 512 = 0
  · refine (concatenate_pair_apply_left (t := S26x45x2x512) (s₁ := S26x45x1x512) (s₂ := S26x45x1x512) 2 _ _ _ _ rfl
      (ix4 f (⟨t.val / 1024, by omega⟩ : Fin 45) (0 : Fin 1) (⟨t.val % 512, by omega⟩ : Fin 512)) ?_).trans ?_
    · intro a
      match a with
      | ⟨0, _⟩ => rfl
      | ⟨1, _⟩ => rfl
      | ⟨2, _⟩ => exact h.symm
      | ⟨3, _⟩ => rfl
    · show IntOp.andi ((res_main_v2 V0 : S26x45x1x512.Idx → BitVec 32) (ix4 _ _ _ _)) 65535#32 = _
      rw [v2_at, h]
      unfold hw
      rw [if_pos rfl, Nat.add_assoc]
  · refine (concatenate_pair_apply_right (t := S26x45x2x512) (s₁ := S26x45x1x512) (s₂ := S26x45x1x512) 2 _ _ _ _ rfl rfl
      (ix4 f (⟨t.val / 1024, by omega⟩ : Fin 45) (0 : Fin 1) (⟨t.val % 512, by omega⟩ : Fin 512)) ?_ ?_).trans ?_
    · intro a ha
      match a with
      | ⟨0, _⟩ => rfl
      | ⟨1, _⟩ => rfl
      | ⟨2, _⟩ => exact absurd rfl ha
      | ⟨3, _⟩ => rfl
    · show 0 + 1 = t.val % 1024 / 512
      omega
    · show IntOp.shrui .host ((res_main_v2 V0 : S26x45x1x512.Idx → BitVec 32) (ix4 _ _ _ _)) 16#32 = _
      rw [v2_at, shrui_host]
      unfold hw
      rw [if_neg h, Nat.add_assoc]

theorem v8_pos (f : Fin 26) (t : Fin 46080) : (res_main_v8 V0 : S26x46080.Idx → BitVec 32) (ix2 f t) = BitVec.ofNat 32 (pos (aI V0) f.val t.val) := by
  rw [v8_at]; unfold pos; rw [BitVec.ofNat_toNat, BitVec.setWidth_eq]

/-! ## The two gathers -/

theorem rowGather_at (x : S26x46080.Idx → BitVec 32) (idx : IVec S325x1 32) (p : Fin 325) (t : Fin 46080) :
    Host.gather gather_S26x46080_S325x1_S325x46080_1_0_n_n_0_1_146080 x idx (ix2 p t)
      = x (ix2 ⟨min (idx (ix2 p (0 : Fin 1))).toInt.toNat (26 - 1), by omega⟩ t) := by
  set gd := gather_S26x46080_S325x1_S325x46080_1_0_n_n_0_1_146080 with hgd
  unfold Host.gather
  congr 1
  funext a
  refine Fin.ext ?_
  show gd.start (ix2 p t) idx a + gd.batchCoord (ix2 p t) a + gd.offCoord (ix2 p t) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx (ix2 p t) ⟨List.idxOf (0 : Fin 2) gd.startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  · rw [GatherDims.batchCoord_eq_zero _ _ _ List.not_mem_nil]
    unfold GatherDims.start GatherDims.offCoord
    rw [dif_neg (show ¬ (1 : Fin 2) ∈ gd.startIndexMap by rw [hgd]; decide), dif_pos (by rw [hgd]; decide)]
    simp only [Nat.zero_add]
    rfl

theorem wordGather_at (x : S41879552.Idx → BitVec 32) (idx : IVec S5x325x46080x1 32) (k : Fin 5) (p : Fin 325) (t : Fin 46080) :
    Host.gather gather_S41879552_S5x325x46080x1_S5x325x46080_n_0_n_n_0_3_1 x idx (ix3 k p t)
      = rd x (min (idx (ix4 k p t (0 : Fin 1))).toInt.toNat 41879551) := by
  set gd := gather_S41879552_S5x325x46080x1_S5x325x46080_n_0_n_n_0_3_1 with hgd
  unfold Host.gather
  refine rd_eq x _ ?_
  show gd.start (ix3 k p t) idx 0 + gd.batchCoord (ix3 k p t) 0 + gd.offCoord (ix3 k p t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gd.startIndexMap from List.mem_singleton.mpr rfl)]
  have hsi : gd.siIdx (ix3 k p t) ⟨List.idxOf (0 : Fin 1) gd.startIndexMap,
      List.idxOf_lt_length_iff.2 (List.mem_singleton.mpr rfl)⟩ = ix4 k p t (0 : Fin 1) := by
    funext b; refine Fin.ext ?_
    match b with
    | ⟨0, _⟩ => rfl
    | ⟨1, _⟩ => rfl
    | ⟨2, _⟩ => rfl
    | ⟨3, _⟩ => rfl
  rw [hsi]
  rfl

/-! ## The pairs' fields -/

theorem lits : ∀ p : Fin 325, lit0 p = BitVec.ofNat 32 (fF p.val) ∧ lit1 p = BitVec.ofNat 32 (gG p.val) := by decide +kernel
theorem fields : ∀ p : Fin 325, fF p.val < 26 ∧ gG p.val < 26 := by decide +kernel

theorem c_at (p : Fin 325) : (res_main_c V0 : S325.Idx → BitVec 32) (ix1 p) = BitVec.ofNat 32 (fF p.val) := by
  show lit0 (S325.rowMajor (ix1 p)) = _
  rw [show (S325.rowMajor (ix1 p) : Fin 325) = p from Fin.ext (Shape.rowMajor_val_one _)]
  exact (lits p).1
theorem c_0_at (p : Fin 325) : (res_main_c_0 V0 : S325.Idx → BitVec 32) (ix1 p) = BitVec.ofNat 32 (gG p.val) := by
  show lit1 (S325.rowMajor (ix1 p)) = _
  rw [show (S325.rowMajor (ix1 p) : Fin 325) = p from Fin.ext (Shape.rowMajor_val_one _)]
  exact (lits p).2

/-- A nonnegative word is not moved by the wrap of negative indices. -/
theorem wrap (x n : BitVec 32) (a : ℕ) (h : x = BitVec.ofNat 32 a) (ha : a < 2 ^ 31) :
    Scalar.select (IntOp.cmpi .slt x 0#32) (IntOp.addi x n) x = x := by
  have hs : x.slt 0#32 = false := by
    rw [BitVec.slt_eq_decide, decide_eq_false_iff_not, h, BitVec.toInt_eq_toNat_cond, BitVec.toNat_ofNat, Nat.mod_eq_of_lt (by omega), if_pos (by omega)]
    simp
  have : IntOp.cmpi .slt x 0#32 = 0#1 := by
    unfold IntOp.cmpi
    simp [hs]
  rw [this]
  rfl
theorem toInt_small (a : ℕ) (ha : a < 2 ^ 31) : (BitVec.ofNat 32 a).toInt.toNat = a := by
  rw [BitVec.toInt_eq_toNat_cond, BitVec.toNat_ofNat, Nat.mod_eq_of_lt (by omega), if_pos (by omega)]
  simp

/-- The positions of a pair's field, from the row gather. -/
theorem row_at (c : S325.Idx → BitVec 32) (p : Fin 325) (t : Fin 46080) (f : ℕ) (hf : f < 26) (h : c (ix1 p) = BitVec.ofNat 32 f) :
    Host.gather gather_S26x46080_S325x1_S325x46080_1_0_n_n_0_1_146080 (res_main_v8 V0 : S26x46080.Idx → BitVec 32)
      (broadcastInDim S325x1 ![0] bcast_S325_S325x1_0 (select (cmpi .slt c (broadcastInDim S325 ![] bcast_S_S325 (constantI S_ 32 0#32))) (addi c (broadcastInDim S325 ![] bcast_S_S325 (constantI S_ 32 26#32))) c)) (ix2 p t)
      = BitVec.ofNat 32 (pos (aI V0) f t.val) := by
  rw [rowGather_at]
  have e : (broadcastInDim S325x1 ![0] bcast_S325_S325x1_0 (select (cmpi .slt c (broadcastInDim S325 ![] bcast_S_S325 (constantI S_ 32 0#32))) (addi c (broadcastInDim S325 ![] bcast_S_S325 (constantI S_ 32 26#32))) c)) (ix2 p (0 : Fin 1)) = BitVec.ofNat 32 f := by
    show select _ _ c _ = _
    have hi : (fun a => if h1 : S325.size a = 1 then ⟨0, by omega⟩ else ⟨((ix2 p (0 : Fin 1) : S325x1.Idx) (![0] a)).val, by
        rcases (bcast_S325_S325x1_0).2 a with h2 | h2
        · exact absurd h2 h1
        · rw [h2]; exact ((ix2 p (0 : Fin 1) : S325x1.Idx) (![0] a)).isLt⟩ : S325.Idx) = ix1 p := by
      funext a; obtain rfl : a = 0 := Subsingleton.elim _ _; rfl
    rw [hi]
    show Scalar.select (IntOp.cmpi .slt (c (ix1 p)) 0#32) (IntOp.addi (c (ix1 p)) 26#32) (c (ix1 p)) = _
    rw [wrap _ _ f h (by omega), h]
  rw [← v8_pos V0 ⟨f, hf⟩ t]
  congr 2
  refine Fin.ext ?_
  show min _ 25 = f
  rw [e, toInt_small f (by omega)]
  omega

/-! ## The broadcasts, at an index -/

theorem b1 (x : S5x325x1.Idx → BitVec 32) (k : Fin 5) (p : Fin 325) (t : Fin 46080) : broadcastInDim S5x325x46080 ![0, 1, 2] bcast_S5x325x1_S5x325x46080_0_1_2 x (ix3 k p t) = x (ix3 k p (0 : Fin 1)) := by
  refine congrArg x (funext fun a => ?_)
  match a with
  | ⟨0, _⟩ => rfl
  | ⟨1, _⟩ => rfl
  | ⟨2, _⟩ => rfl
theorem b2 (x : S5x1x1.Idx → BitVec 32) (k : Fin 5) (p : Fin 325) : broadcastInDim S5x325x1 ![0, 1, 2] bcast_S5x1x1_S5x325x1_0_1_2 x (ix3 k p (0 : Fin 1)) = x (ix3 k (0 : Fin 1) (0 : Fin 1)) := by
  refine congrArg x (funext fun a => ?_)
  match a with
  | ⟨0, _⟩ => rfl
  | ⟨1, _⟩ => rfl
  | ⟨2, _⟩ => rfl
theorem b3 (x : S5.Idx → BitVec 32) (k : Fin 5) : broadcastInDim S5x1x1 ![0] bcast_S5_S5x1x1_0 x (ix3 k (0 : Fin 1) (0 : Fin 1)) = x (ix1 k) := by
  refine congrArg x (funext fun a => ?_)
  match a with
  | ⟨0, _⟩ => rfl
theorem b4 (x : S1x325x1.Idx → BitVec 32) (k : Fin 5) (p : Fin 325) : broadcastInDim S5x325x1 ![0, 1, 2] bcast_S1x325x1_S5x325x1_0_1_2 x (ix3 k p (0 : Fin 1)) = x (ix3 (0 : Fin 1) p (0 : Fin 1)) := by
  refine congrArg x (funext fun a => ?_)
  match a with
  | ⟨0, _⟩ => rfl
  | ⟨1, _⟩ => rfl
  | ⟨2, _⟩ => rfl
theorem b5 (x : S325.Idx → BitVec 32) (p : Fin 325) : broadcastInDim S1x325x1 ![1] bcast_S325_S1x325x1_1 x (ix3 (0 : Fin 1) p (0 : Fin 1)) = x (ix1 p) := by
  refine congrArg x (funext fun a => ?_)
  match a with
  | ⟨0, _⟩ => rfl
theorem b6 (x : S1x325x46080.Idx → BitVec 32) (k : Fin 5) (p : Fin 325) (t : Fin 46080) : broadcastInDim S5x325x46080 ![0, 1, 2] bcast_S1x325x46080_S5x325x46080_0_1_2 x (ix3 k p t) = x (ix3 (0 : Fin 1) p t) := by
  refine congrArg x (funext fun a => ?_)
  match a with
  | ⟨0, _⟩ => rfl
  | ⟨1, _⟩ => rfl
  | ⟨2, _⟩ => rfl
theorem b7 (x : S325x46080.Idx → BitVec 32) (p : Fin 325) (t : Fin 46080) : broadcastInDim S1x325x46080 ![1, 2] bcast_S325x46080_S1x325x46080_1_2 x (ix3 (0 : Fin 1) p t) = x (ix2 p t) := by
  refine congrArg x (funext fun a => ?_)
  match a with
  | ⟨0, _⟩ => rfl
  | ⟨1, _⟩ => rfl
theorem addi_at' {s : Shape} (x y : IVec s 32) (i : s.Idx) : addi x y i = IntOp.addi (x i) (y i) := rfl
theorem muli_at' {s : Shape} (x y : IVec s 32) (i : s.Idx) : muli x y i = IntOp.muli (x i) (y i) := rfl
theorem v11_at (k : Fin 5) : (res_main_v11 V0 : S5.Idx → BitVec 32) (ix1 k) = IntOp.muli 12288#32 (BitVec.ofNat 32 k.val) := rfl
theorem k325_at (b : BitVec 32) (p : Fin 325) : broadcastInDim S325 ![] bcast_S_S325 (constantI S_ 32 b) (ix1 p) = b := rfl

/-! ## The word that is read for word `k` of pair `p`, token `t` -/

/-- Where that word is, on side `h`. -/
abbrev adr (fi : Wds 612352) (a b : ℕ) (k t : ℕ) : ℕ := (26 * a + b) * 61952 + (12288 * k + pos fi a t)

theorem adr_word (fi : Wds 612352) (a b k t : ℕ) :
    IntOp.addi (IntOp.addi (IntOp.muli 12288#32 (BitVec.ofNat 32 k)) (IntOp.muli (IntOp.addi (IntOp.muli 26#32 (BitVec.ofNat 32 a)) (BitVec.ofNat 32 b)) 61952#32))
      (BitVec.ofNat 32 (pos fi a t)) = BitVec.ofNat 32 (adr fi a b k t) := by
  show (12288#32 * BitVec.ofNat 32 k + (26#32 * BitVec.ofNat 32 a + BitVec.ofNat 32 b) * 61952#32) + BitVec.ofNat 32 (pos fi a t) = _
  unfold adr
  rw [show (26 * a + b) * 61952 + (12288 * k + pos fi a t) = (12288 * k + (26 * a + b) * 61952) + pos fi a t by omega,
    BitVec.ofNat_add, BitVec.ofNat_add, BitVec.ofNat_mul, BitVec.ofNat_mul, BitVec.ofNat_add, BitVec.ofNat_mul]

theorem v32_at (k : Fin 5) (p : Fin 325) (t : Fin 46080) :
    (res_main_v32 V0 : S5x325x46080.Idx → BitVec 32) (ix3 k p t) = BitVec.ofNat 32 (adr (aI V0) (fF p.val) (gG p.val) k.val t.val) := by
  unfold res_main_v32
  rw [addi_at', b1, addi_at', b2, b3, b4, b5, b6, b7, row_at V0 (res_main_c V0) p t (fF p.val) (fields p).1 (c_at V0 p), muli_at', addi_at', muli_at', k325_at, k325_at,
    c_at, c_0_at, v11_at, adr_word]

theorem v60_at (k : Fin 5) (p : Fin 325) (t : Fin 46080) :
    (res_main_v60 V0 : S5x325x46080.Idx → BitVec 32) (ix3 k p t) = BitVec.ofNat 32 (adr (aI V0) (gG p.val) (fF p.val) k.val t.val) := by
  unfold res_main_v60
  rw [addi_at', b1, addi_at', b2, b3, b4, b5, b6, b7, row_at V0 (res_main_c_0 V0) p t (gG p.val) (fields p).2 (c_0_at V0 p), muli_at', addi_at', muli_at', k325_at, k325_at,
    c_at, c_0_at, v11_at, adr_word]

theorem pos_small {fi : Wds 612352} (h : PosOK fi) (f t : ℕ) (hf : f < 26) (ht : t < 46080) : pos fi f t < 12288 := by
  unfold pos
  rw [Nat.add_assoc]
  exact h f (t / 1024 * 512 + t % 512) _ hf (by omega)

theorem adr_lt {fi : Wds 612352} (h : PosOK fi) (a b k t : ℕ) (ha : a < 26) (hb : b < 26) (hk : k < 5) (ht : t < 46080) : adr fi a b k t < 41879552 := by
  have := pos_small h a t ha ht
  unfold adr
  omega

/-- The table word at a wrapped address. -/
theorem word_at (hpos : PosOK (aI V0)) (v : S5x325x46080.Idx → BitVec 32) (k : Fin 5) (p : Fin 325) (t : Fin 46080) (n : ℕ) (hn : n < 41879552) (h : v (ix3 k p t) = BitVec.ofNat 32 n) :
    Host.gather gather_S41879552_S5x325x46080x1_S5x325x46080_n_0_n_n_0_3_1 (aT V0)
      (broadcastInDim S5x325x46080x1 ![0, 1, 2] bcast_S5x325x46080_S5x325x46080x1_0_1_2 (select (cmpi .slt v (broadcastInDim S5x325x46080 ![] bcast_S_S5x325x46080 (constantI S_ 32 0#32))) (addi v (broadcastInDim S5x325x46080 ![] bcast_S_S5x325x46080 (constantI S_ 32 41879552#32))) v)) (ix3 k p t)
      = rd (aT V0) n := by
  rw [wordGather_at]
  have e : (broadcastInDim S5x325x46080x1 ![0, 1, 2] bcast_S5x325x46080_S5x325x46080x1_0_1_2 (select (cmpi .slt v (broadcastInDim S5x325x46080 ![] bcast_S_S5x325x46080 (constantI S_ 32 0#32))) (addi v (broadcastInDim S5x325x46080 ![] bcast_S_S5x325x46080 (constantI S_ 32 41879552#32))) v)) (ix4 k p t (0 : Fin 1)) = BitVec.ofNat 32 n := by
    have hi : (fun a => if h1 : S5x325x46080.size a = 1 then ⟨0, by omega⟩ else ⟨((ix4 k p t (0 : Fin 1) : S5x325x46080x1.Idx) (![0, 1, 2] a)).val, by
        rcases (bcast_S5x325x46080_S5x325x46080x1_0_1_2).2 a with h2 | h2
        · exact absurd h2 h1
        · rw [h2]; exact ((ix4 k p t (0 : Fin 1) : S5x325x46080x1.Idx) (![0, 1, 2] a)).isLt⟩ : S5x325x46080.Idx) = ix3 k p t := by
      funext a
      match a with
      | ⟨0, _⟩ => rfl
      | ⟨1, _⟩ => rfl
      | ⟨2, _⟩ => rfl
    show select _ _ v _ = _
    rw [hi]
    show Scalar.select (IntOp.cmpi .slt (v (ix3 k p t)) 0#32) (IntOp.addi (v (ix3 k p t)) 41879552#32) (v (ix3 k p t)) = _
    rw [wrap _ _ n h (by omega), h]
  rw [e, toInt_small n (by omega)]
  congr 1
  omega

theorem v39_at (hpos : PosOK (aI V0)) (k : Fin 5) (p : Fin 325) (t : Fin 46080) :
    (res_main_v39 V0 : S5x325x46080.Idx → BitVec 32) (ix3 k p t) = rd (aT V0) (adr (aI V0) (fF p.val) (gG p.val) k.val t.val) :=
  word_at V0 hpos (res_main_v32 V0) k p t _ (adr_lt hpos _ _ _ _ (fields p).1 (fields p).2 k.isLt t.isLt) (v32_at V0 k p t)
theorem v67_at (hpos : PosOK (aI V0)) (k : Fin 5) (p : Fin 325) (t : Fin 46080) :
    (res_main_v67 V0 : S5x325x46080.Idx → BitVec 32) (ix3 k p t) = rd (aT V0) (adr (aI V0) (gG p.val) (fF p.val) k.val t.val) :=
  word_at V0 hpos (res_main_v60 V0) k p t _ (adr_lt hpos _ _ _ _ (fields p).2 (fields p).1 k.isLt t.isLt) (v60_at V0 k p t)

/-! ## The dot products -/

theorem byt_host (w s : BitVec 32) (hs : s.toNat < 32) : IntOp.shrsi .host (IntOp.shli .host w s) 24#32 = byt w s := by
  unfold byt IntOp.shrsi IntOp.shli
  rw [if_pos hs, if_pos hs, if_pos (by decide), if_pos (by decide)]

theorem v108_at (hpos : PosOK (aI V0)) (k : Fin 5) (p : Fin 325) (t : Fin 46080) :
    (res_main_v108 V0 : S5x325x46080.Idx → BitVec 32) (ix3 k p t)
      = dot4 (rd (aT V0) (adr (aI V0) (fF p.val) (gG p.val) k.val t.val)) (rd (aT V0) (adr (aI V0) (gG p.val) (fF p.val) k.val t.val)) := by
  have h : ∀ x y : BitVec 32,
      (((0#32 + IntOp.shrsi .host (IntOp.shli .host x 24#32) 24#32 * IntOp.shrsi .host (IntOp.shli .host y 24#32) 24#32)
        + IntOp.shrsi .host (IntOp.shli .host x 16#32) 24#32 * IntOp.shrsi .host (IntOp.shli .host y 16#32) 24#32)
        + IntOp.shrsi .host (IntOp.shli .host x 8#32) 24#32 * IntOp.shrsi .host (IntOp.shli .host y 8#32) 24#32)
        + IntOp.shrsi .host (IntOp.shli .host x 0#32) 24#32 * IntOp.shrsi .host (IntOp.shli .host y 0#32) 24#32 = dot4 x y := by
    intro x y
    rw [byt_host x _ (by decide), byt_host y _ (by decide), byt_host x _ (by decide), byt_host y _ (by decide), byt_host x _ (by decide), byt_host y _ (by decide),
      byt_host x _ (by decide), byt_host y _ (by decide)]
    unfold dot4
    rw [BitVec.zero_add, BitVec.add_assoc]
  rw [← v39_at V0 hpos, ← v67_at V0 hpos, ← h]
  rfl

theorem d_at (hpos : PosOK (aI V0)) (ph : ℕ) (k : ℕ) (kk : Fin 5) (hk : kk.val = 3 * ph + k) (p : Fin 325) (t : Fin 46080) :
    (res_main_v108 V0 : S5x325x46080.Idx → BitVec 32) (ix3 kk p t) = dk (aT V0) (aI V0) ph p.val t.val k := by
  rw [v108_at V0 hpos]
  unfold dk adr toff fld
  rw [if_pos rfl, if_neg (by decide), hk]
  refine congrArg₂ dot4 (congrArg (rd _) ?_) (congrArg (rd _) ?_) <;> omega

/-! ## The result -/

/-- One of the five planes, at an index. -/
theorem plane_at (k : Fin 5) (x : S5x325x46080.Idx → BitVec 32) (hs : S5x325x46080.Slices ![k.val, 0, 0] S1x325x46080) (p : Fin 325) (t : Fin 46080) :
    shapeCast S325x46080 (extractStridedSlice S1x325x46080 ![k.val, 0, 0] x hs) shapeCasts_S1x325x46080_S325x46080 (ix2 p t) = x (ix3 k p t) := by
  refine (shapeCast_apply _ _ (ix2 p t) (ix3 (0 : Fin 1) p t) ?_).trans ?_
  · rw [Shape.rowMajor_val_two, Shape.rowMajor_val_three]
    show (0 * 325 + p.val) * 46080 + t.val = p.val * 46080 + t.val
    omega
  · show x _ = _
    congr 1
    funext a
    refine Fin.ext ?_
    match a with
    | ⟨0, _⟩ => rfl
    | ⟨1, _⟩ => exact Nat.zero_add _
    | ⟨2, _⟩ => exact Nat.zero_add _

/-- The two phases' results, one under the other. -/
abbrev cat : S650x46080.Idx → BitVec 32 :=
  concatenate S650x46080 0 [⟨S325x46080, (addi (addi (shapeCast S325x46080 (extractStridedSlice S1x325x46080 ![0, 0, 0] (res_main_v108 V0 : S5x325x46080.Idx → BitVec 32) slices_S5x325x46080_S1x325x46080_0_0_0) shapeCasts_S1x325x46080_S325x46080) (shapeCast S325x46080 (extractStridedSlice S1x325x46080 ![1, 0, 0] (res_main_v108 V0 : S5x325x46080.Idx → BitVec 32) slices_S5x325x46080_S1x325x46080_1_0_0) shapeCasts_S1x325x46080_S325x46080)) (shapeCast S325x46080 (extractStridedSlice S1x325x46080 ![2, 0, 0] (res_main_v108 V0 : S5x325x46080.Idx → BitVec 32) slices_S5x325x46080_S1x325x46080_2_0_0) shapeCasts_S1x325x46080_S325x46080))⟩, ⟨S325x46080, (addi (shapeCast S325x46080 (extractStridedSlice S1x325x46080 ![3, 0, 0] (res_main_v108 V0 : S5x325x46080.Idx → BitVec 32) slices_S5x325x46080_S1x325x46080_3_0_0) shapeCasts_S1x325x46080_S325x46080) (shapeCast S325x46080 (extractStridedSlice S1x325x46080 ![4, 0, 0] (res_main_v108 V0 : S5x325x46080.Idx → BitVec 32) slices_S5x325x46080_S1x325x46080_4_0_0) shapeCasts_S1x325x46080_S325x46080))⟩] concatenates_S325x46080_S325x46080_S650x46080_d0
/-- The reference's result, as its run states it. -/
abbrev out : Wds 29952000 := shapeCast S29952000 (cat V0) shapeCasts_S650x46080_S29952000

theorem cat_at (hpos : PosOK (aI V0)) (x : ℕ) (hj : x < 29952000) :
    cat V0 (ix2 (⟨x / 46080, by omega⟩ : Fin 650) (⟨x % 46080, by omega⟩ : Fin 46080)) = Gn (aT V0) (aI V0) x := by
  unfold Gn res
  by_cases h : x < 14976000
  · rw [show x / 14976000 = 0 by omega, if_pos rfl, show x % 14976000 = x by omega]
    refine (concatenate_pair_apply_left (t := S650x46080) (s₁ := S325x46080) (s₂ := S325x46080) 0 _ _ _ _ rfl
      (ix2 (⟨x / 46080, by omega⟩ : Fin 325) (⟨x % 46080, by omega⟩ : Fin 46080)) ?_).trans ?_
    · intro a
      match a with
      | ⟨0, _⟩ => rfl
      | ⟨1, _⟩ => rfl
    · rw [← d_at V0 hpos 0 0 0 rfl ⟨x / 46080, by omega⟩ ⟨x % 46080, by omega⟩, ← d_at V0 hpos 0 1 1 rfl ⟨x / 46080, by omega⟩ ⟨x % 46080, by omega⟩,
        ← d_at V0 hpos 0 2 2 rfl ⟨x / 46080, by omega⟩ ⟨x % 46080, by omega⟩]
      refine congrArg₂ (· + ·) (congrArg₂ (· + ·) ?_ ?_) ?_
      · exact plane_at 0 _ slices_S5x325x46080_S1x325x46080_0_0_0 _ _
      · exact plane_at 1 _ slices_S5x325x46080_S1x325x46080_1_0_0 _ _
      · exact plane_at 2 _ slices_S5x325x46080_S1x325x46080_2_0_0 _ _
  · rw [show x / 14976000 = 1 by omega, if_neg (by decide)]
    refine (concatenate_pair_apply_right (t := S650x46080) (s₁ := S325x46080) (s₂ := S325x46080) 0 _ _ _ _ rfl rfl
      (ix2 (⟨x % 14976000 / 46080, by omega⟩ : Fin 325) (⟨x % 46080, by omega⟩ : Fin 46080)) ?_ ?_).trans ?_
    · intro a ha
      match a with
      | ⟨0, _⟩ => exact absurd rfl ha
      | ⟨1, _⟩ => rfl
    · show x % 14976000 / 46080 + 325 = x / 46080
      omega
    · rw [← d_at V0 hpos 1 0 3 rfl ⟨x % 14976000 / 46080, by omega⟩ ⟨x % 46080, by omega⟩, ← d_at V0 hpos 1 1 4 rfl ⟨x % 14976000 / 46080, by omega⟩ ⟨x % 46080, by omega⟩]
      refine congrArg₂ (· + ·) ?_ ?_
      · exact plane_at 3 _ slices_S5x325x46080_S1x325x46080_3_0_0 _ _
      · exact plane_at 4 _ slices_S5x325x46080_S1x325x46080_4_0_0 _ _

theorem out_eq (hpos : PosOK (aI V0)) : out V0 = G (aT V0) (aI V0) := by
  funext j
  have hj : co j < 29952000 := co_lt j
  show _ = Gn (aT V0) (aI V0) (co j)
  rw [← cat_at V0 hpos (co j) hj]
  refine shapeCast_apply (cat V0) _ j (ix2 (⟨co j / 46080, by omega⟩ : Fin 650) (⟨co j % 46080, by omega⟩ : Fin 46080)) ?_
  rw [Shape.rowMajor_val_one, Shape.rowMajor_val_two]
  show co j / 46080 * 46080 + co j % 46080 = co j
  omega

end Cert.Proof.Pairs.Ref
end
end
-- ==== Proof.FinBlk.lean ====
/-
  The finishing call at one grid point: the stores its run makes, as three lists written by rule.

  `LW` is the scratch of the 26 scaled token values, `LS` the scratch of the 325 pair terms, `L6` the 24 transposed
  blocks stored to the pair array and `L5` the one store to the logit array. `pieces_eq` says that these are what the
  run of the body leaves.
-/
module

public import proofs.«01_k».proof.Proof.Sched
public import proofs.«01_k».proof.Proof.Gen.FinishIdeal.Value

@[expose] public section

noncomputable section

namespace Cert.Proof.Fin

open Cert.FinishIdeal Cert.FinishIdeal.Gen Cert.Proof.Pairs
open Idealize.ShloMosaic Idealize.ShloMosaic.TcCoe Idealize.ShloMosaic.Tactic

variable {F : FTy → Type} [FloatOps F]

/-- The list `g (n-1), …, g 1, g 0`. -/
def desc {α : Type} {N : ℕ} (g : Fin N → List α) : (n : ℕ) → n ≤ N → List α
  | 0, _ => []
  | n + 1, h => g ⟨n, h⟩ ++ desc g n (Nat.le_of_succ_le h)

theorem mem_desc {α : Type} {N : ℕ} (g : Fin N → List α) (p : α) : ∀ (n : ℕ) (h : n ≤ N), p ∈ desc g n h ↔ ∃ i : Fin N, i.val < n ∧ p ∈ g i
  | 0, _ => ⟨fun h => absurd h List.not_mem_nil, fun ⟨_, h, _⟩ => absurd h (Nat.not_lt_zero _)⟩
  | n + 1, h => by
    unfold desc
    rw [List.mem_append, mem_desc g p n]
    constructor
    · rintro (h1 | ⟨i, hi, h1⟩)
      · exact ⟨⟨n, h⟩, Nat.lt_succ_self n, h1⟩
      · exact ⟨i, by omega, h1⟩
    · rintro ⟨i, hi, h1⟩
      by_cases e : i.val = n
      · obtain rfl : i = ⟨n, h⟩ := Fin.ext e
        exact Or.inl h1
      · exact Or.inr ⟨i, by omega, h1⟩

/-- A field's block lies in the 26 of them. -/
theorem inbW (f : ℕ) (h : f < 26) : ∀ a, (![f, 0, 0] : Fin 3 → ℕ) a + S1x8x128.size a ≤ S26x8x128.size a
  | ⟨0, _⟩ => by show f + 1 ≤ 26; omega
  | ⟨1, _⟩ => by show 0 + 8 ≤ 8; omega
  | ⟨2, _⟩ => by show 0 + 128 ≤ 128; omega
/-- A pair's block of one half of the sums lies in them. -/
theorem inbD (h p : ℕ) (hh : h < 2) (hp : p < 325) : ∀ a, (![h, p, 0, 0] : Fin 4 → ℕ) a + S1x1x8x128.size a ≤ S2x325x8x128.size a
  | ⟨0, _⟩ => by show h + 1 ≤ 2; omega
  | ⟨1, _⟩ => by show p + 1 ≤ 325; omega
  | ⟨2, _⟩ => by show 0 + 8 ≤ 8; omega
  | ⟨3, _⟩ => by show 0 + 128 ≤ 128; omega
/-- A pair's eight rows lie in the scratch of the terms. -/
theorem inbS (p : ℕ) (hp : p < 325) : ∀ a, (![8 * p, 0] : Fin 2 → ℕ) a + S8x128.size a ≤ S2600x128.size a
  | ⟨0, _⟩ => by show 8 * p + 8 ≤ 2600; omega
  | ⟨1, _⟩ => by show 0 + 128 ≤ 128; omega
/-- Every eighth row from a row of the scratch. -/
theorem inbT (o n : ℕ) (h : o + 8 * (n - 1) < 2600) : ∀ a, (![n, 128] : Fin 2 → ℕ) a = 0 ∨ (![o, 0] : Fin 2 → ℕ) a + (![8, 1] : Fin 2 → ℕ) a * ((![n, 128] : Fin 2 → ℕ) a - 1) < S2600x128.size a
  | ⟨0, _⟩ => Or.inr h
  | ⟨1, _⟩ => Or.inr (by show 0 + 1 * (128 - 1) < 128; omega)
/-- A transposed block lies in the pair array's. -/
theorem inbO (i c n : ℕ) (hi : i < 8) (hn : c + n ≤ 325) : ∀ a, (![128 * i, c] : Fin 2 → ℕ) a + (![128, n] : Fin 2 → ℕ) a ≤ S1024x325.size a
  | ⟨0, _⟩ => by show 128 * i + 128 ≤ 1024; omega
  | ⟨1, _⟩ => hn

section lists

variable (arg1 : Memref sig .tc .smem S1 .f32) (harg1 : arg1.IsWhole) (arg2 : Memref sig .tc .vmem S2x325x8x128 .i32) (harg2 : arg2.IsWhole) (arg3 : Memref sig .tc .vmem S26x8x128 .f32) (harg3 : arg3.IsWhole) (arg4 : Memref sig .tc .vmem S26x8x128 .f32) (harg4 : arg4.IsWhole) (arg5 : Memref sig .tc .vmem S26x8x128 .f32) (harg5 : arg5.IsWhole) (arg6 : Memref sig .tc .vmem S8x128 .f32) (harg6 : arg6.IsWhole) (arg7 : Memref sig .tc .vmem S1024x325 .f32) (harg7 : arg7.IsWhole) (arg8 : Memref sig .tc .vmem S26x8x128 .f32) (harg8 : arg8.IsWhole) (arg9 : Memref sig .tc .vmem S2600x128 .f32) (harg9 : arg9.IsWhole)
  (x0 : Vec F S1 .f32) (x1 : Vec F S2x325x8x128 .i32) (x2 : Vec F S26x8x128 .f32) (x3 : Vec F S26x8x128 .f32) (x4 : Vec F S26x8x128 .f32)

/-- One field's block of an input of 26. -/
abbrev ldW (arg : Memref sig .tc .vmem S26x8x128 .f32) (h : arg.IsWhole) (x : Vec F S26x8x128 .f32) (f : Fin 26) : FVec F S8x128 .f32 :=
  shapeCast S8x128 (View.readAt (Elt F) arg.view (Rect.unit (s := S26x8x128) ![f.val, 0, 0] S1x8x128.size (inbW f.val f.isLt)).toLoadRect (h.unread x)) shapeCasts_S1x8x128_S8x128

/-- The stores of the scaled token values. -/
def LW : List (View.Piece (Elt F) S26x8x128 .f32) :=
  desc (fun f : Fin 26 => [⟨Rect.unit (s := S26x8x128) ![f.val, 0, 0] S1x8x128.size (inbW f.val f.isLt),
    shapeCast S1x8x128 (mulf (ldW arg3 harg3 x2 f) (ldW arg4 harg4 x3 f)) shapeCasts_S8x128_S1x8x128⟩]) 26 (le_refl 26)

/-- One field's scaled token values, read back from the scratch. -/
abbrev ldS (f : ℕ) (h : f < 26) : FVec F S8x128 .f32 :=
  shapeCast S8x128 (arg8.view.readCov (LW arg3 harg3 arg4 harg4 x2 x3) (Rect.unit (s := S26x8x128) ![f, 0, 0] S1x8x128.size (inbW f h)).toLoadRect) shapeCasts_S1x8x128_S8x128

/-- One pair's half of the sums. -/
abbrev ldD (h p : ℕ) (hh : h < 2) (hp : p < 325) : IVec S8x128 32 :=
  shapeCast S8x128 (View.readAt (Elt F) arg2.view (Rect.unit (s := S2x325x8x128) ![h, p, 0, 0] S1x1x8x128.size (inbD h p hh hp)).toLoadRect (harg2.unread x1)) shapeCasts_S1x1x8x128_S8x128

theorem fG_lt : ∀ p : Fin 325, fF p.val < 26 ∧ gG p.val < 26 := by decide +kernel

/-- One pair's term. -/
def term (p : Fin 325) : FVec F S8x128 .f32 :=
  mulf (mulf (sitofp .f32 (addi (ldD (F := F) arg2 harg2 x1 0 p.val (by omega) p.isLt) (ldD (F := F) arg2 harg2 x1 1 p.val (by omega) p.isLt)))
    (ldS arg3 harg3 arg4 harg4 arg8 x2 x3 (fF p.val) (fG_lt p).1)) (ldS arg3 harg3 arg4 harg4 arg8 x2 x3 (gG p.val) (fG_lt p).2)

/-- The stores of the pair terms. -/
def LS : List (View.Piece (Elt F) S2600x128 .f32) :=
  desc (fun p : Fin 325 => [⟨Rect.unit (s := S2600x128) ![8 * p.val, 0] S8x128.size (inbS p.val p.isLt),
    shapeCast S8x128 (term arg2 harg2 arg3 harg3 arg4 harg4 arg8 x1 x2 x3 p) shapeCasts_S8x128_S8x128⟩]) 325 (le_refl 325)

/-- The sum of the pair terms. -/
def total : (n : ℕ) → n ≤ 325 → FVec F S8x128 .f32
  | 0, _ => broadcast S8x128 (FloatOps.ofBits .f32 0x00000000#32)
  | n + 1, h => addf (total n (Nat.le_of_succ_le h)) (term arg2 harg2 arg3 harg3 arg4 harg4 arg8 x1 x2 x3 ⟨n, h⟩)

/-- The linear terms' sum over fields 0, …, n. -/
def lin : (n : ℕ) → n < 26 → FVec F S8x128 .f32
  | 0, h => mulf (ldW arg5 harg5 x4 ⟨0, h⟩) (ldW arg3 harg3 x2 ⟨0, h⟩)
  | n + 1, h => addf (lin n (Nat.lt_of_succ_lt h)) (mulf (ldW arg5 harg5 x4 ⟨n + 1, h⟩) (ldW arg3 harg3 x2 ⟨n + 1, h⟩))

/-- The bias. -/
def bias : Elt F .f32 :=
  View.readAt (Elt F) arg1.view (Rect.unit (s := S1) ![0] S1.size inb_S1_S1_0).toLoadRect (harg1.unread x0) (Shape.Idx.first (show 0 < S1.numel from by decide))

/-- The store to the logit array. -/
def L5 : List (View.Piece (Elt F) S8x128 .f32) :=
  [⟨Rect.unit (s := S8x128) ![0, 0] S8x128.size inb_S8x128_S8x128_0_0,
    addf (addf (broadcast S8x128 (bias arg1 harg1 x0)) (lin arg3 harg3 arg5 harg5 x2 x4 25 (by omega))) (total arg2 harg2 arg3 harg3 arg4 harg4 arg8 x1 x2 x3 325 (le_refl 325))⟩]

theorem tr128 : S128x128.Transposes [1, 0] S128x128 := transposes_S128x128_p1_0_S128x128
theorem tr69 : S69x128.Transposes [1, 0] S128x69 := transposes_S69x128_p1_0_S128x69

/-- One transposed block of `n` pairs, from pair `c` on: rows `128 i, …`. -/
abbrev blkO (i c n : ℕ) (hi : i < 8) (hn : c + n ≤ 325) (h0 : 0 < n) (T : Shape.Transposes ⟨2, ![n, 128]⟩ [1, 0] ⟨2, ![128, n]⟩) : View.Piece (Elt F) S1024x325 .f32 :=
  ⟨Rect.unit (s := S1024x325) ![128 * i, c] ![128, n] (inbO i c n hi hn),
    transpose ⟨2, ![128, n]⟩ [1, 0] (arg9.view.readCov (LS arg2 harg2 arg3 harg3 arg4 harg4 arg8 x1 x2 x3)
      (⟨![8 * c + i, 0], ![n, 128], ![8, 1], inbT (8 * c + i) n (by omega)⟩ : LoadRect S2600x128) : Vec F ⟨2, ![n, 128]⟩ .f32) T⟩

/-- The stores to the pair array. -/
def L6 : List (View.Piece (Elt F) S1024x325 .f32) :=
  desc (fun i : Fin 8 => [blkO arg2 harg2 arg3 harg3 arg4 harg4 arg8 arg9 x1 x2 x3 i.val 256 69 i.isLt (by omega) (by omega) tr69,
    blkO arg2 harg2 arg3 harg3 arg4 harg4 arg8 arg9 x1 x2 x3 i.val 128 128 i.isLt (by omega) (by omega) tr128,
    blkO arg2 harg2 arg3 harg3 arg4 harg4 arg8 arg9 x1 x2 x3 i.val 0 128 i.isLt (by omega) (by omega) tr128]) 8 (le_refl 8)

theorem w_eq (c : Dev nD) (i : grid0.Coords) :
    (kernelRun0_A c i arg1 harg1 arg2 harg2 arg3 harg3 arg4 harg4 arg5 harg5 arg6 harg6 arg7 harg7 arg8 harg8 arg9 harg9 x0 x1 x2 x3 x4).2.2.1 = LW arg3 harg3 arg4 harg4 x2 x3 := by
  sl_kernel_rfl

theorem s_eq (c : Dev nD) (i : grid0.Coords) :
    (kernelRun0_A c i arg1 harg1 arg2 harg2 arg3 harg3 arg4 harg4 arg5 harg5 arg6 harg6 arg7 harg7 arg8 harg8 arg9 harg9 x0 x1 x2 x3 x4).2.2.2.1 = LS arg2 harg2 arg3 harg3 arg4 harg4 arg8 x1 x2 x3 := by
  sl_kernel_rfl

theorem logit_eq (c : Dev nD) (i : grid0.Coords) :
    (kernelRun0_A c i arg1 harg1 arg2 harg2 arg3 harg3 arg4 harg4 arg5 harg5 arg6 harg6 arg7 harg7 arg8 harg8 arg9 harg9 x0 x1 x2 x3 x4).1 = L5 arg1 harg1 arg2 harg2 arg3 harg3 arg4 harg4 arg5 harg5 arg8 x0 x1 x2 x3 x4 := by
  sl_kernel_rfl

theorem pair_eq (c : Dev nD) (i : grid0.Coords) :
    (kernelRun0_A c i arg1 harg1 arg2 harg2 arg3 harg3 arg4 harg4 arg5 harg5 arg6 harg6 arg7 harg7 arg8 harg8 arg9 harg9 x0 x1 x2 x3 x4).2.1 = L6 arg2 harg2 arg3 harg3 arg4 harg4 arg8 arg9 x1 x2 x3 := by
  sl_kernel_rfl

end lists

end Cert.Proof.Fin

end
-- ==== Proof.FinVal.lean ====
/-
  The finishing call at one grid point: what its two stores leave, element by element, of the point's input blocks.
-/
module

public import proofs.«01_k».proof.Proof.FinBlk
public import Idealize.ShloMosaic.Lib.ValueIdx
public import Idealize.ShloMosaic.Lib.WholeRead

@[expose] public section

noncomputable section

namespace Cert.Proof.Fin

open Cert.FinishIdeal Cert.FinishIdeal.Gen Cert.Proof.Pairs
open Idealize.ShloMosaic Idealize.ShloMosaic.TcCoe Idealize.ShloMosaic.ValueIdx

variable {F : FTy → Type} [FloatOps F]

/-- One pair's term at one token, of the two halves of its sum and the two scaled token values. -/
def pt (a b : BitVec 32) (w v : F .f32) : F .f32 := FloatOps.mulf (FloatOps.mulf (FloatOps.sitofp .f32 (IntOp.addi a b)) w) v

/-- The fields of a pair. -/
abbrev pf (p : Fin 325) : Fin 26 := ⟨fF p.val, (fG_lt p).1⟩
abbrev pg (p : Fin 325) : Fin 26 := ⟨gG p.val, (fG_lt p).2⟩

/-- One pair's term at a token of the block. -/
def tm (x1 : Vec F S2x325x8x128 .i32) (x2 x3 : Vec F S26x8x128 .f32) (p : Fin 325) (r : Fin 8) (l : Fin 128) : F .f32 :=
  pt (x1 (ix4 (0 : Fin 2) p r l)) (x1 (ix4 (1 : Fin 2) p r l)) (mulf (s := S26x8x128) x2 x3 (ix3 (pf p) r l)) (mulf (s := S26x8x128) x2 x3 (ix3 (pg p) r l))

/-- The sum of the pair terms, in the call's order. -/
def tsum (g : Fin 325 → F .f32) : (n : ℕ) → n ≤ 325 → F .f32
  | 0, _ => FloatOps.ofBits .f32 0x00000000#32
  | n + 1, h => FloatOps.addf (tsum g n (Nat.le_of_succ_le h)) (g ⟨n, h⟩)
/-- The sum of the linear terms, in the call's order. -/
def lsum (g : Fin 26 → F .f32) : (n : ℕ) → n < 26 → F .f32
  | 0, h => g ⟨0, h⟩
  | n + 1, h => FloatOps.addf (lsum g n (Nat.lt_of_succ_lt h)) (g ⟨n + 1, h⟩)

theorem drop1 (z : Vec F S1x8x128 .f32) (r : Fin 8) (l : Fin 128) : shapeCast S8x128 z shapeCasts_S1x8x128_S8x128 (ix2 r l) = z (ix3 (0 : Fin 1) r l) :=
  shapeCast_apply _ _ _ _ (by
    rw [Shape.rowMajor_val_two, Shape.rowMajor_val_three]
    show (0 * 8 + r.val) * 128 + l.val = r.val * 128 + l.val
    omega)
theorem drop2 (z : Vec F S1x1x8x128 .i32) (r : Fin 8) (l : Fin 128) : shapeCast S8x128 z shapeCasts_S1x1x8x128_S8x128 (ix2 r l) = z (ix4 (0 : Fin 1) (0 : Fin 1) r l) :=
  shapeCast_apply _ _ _ _ (by
    rw [Shape.rowMajor_val_two, Shape.rowMajor_val_four]
    show ((0 * 1 + 0) * 8 + r.val) * 128 + l.val = r.val * 128 + l.val
    omega)
theorem add1 (z : FVec F S8x128 .f32) (u : Fin 1) (r : Fin 8) (l : Fin 128) : shapeCast S1x8x128 z shapeCasts_S8x128_S1x8x128 (ix3 u r l) = z (ix2 r l) :=
  shapeCast_apply _ _ _ _ (by
    have := u.isLt
    rw [Shape.rowMajor_val_two, Shape.rowMajor_val_three]
    show r.val * 128 + l.val = (u.val * 8 + r.val) * 128 + l.val
    omega)

/-- A field's block placed in the 26. -/
theorem embW (f : Fin 26) (u : Fin 1) (r : Fin 8) (l : Fin 128) :
    (Rect.unit (s := S26x8x128) ![f.val, 0, 0] S1x8x128.size (inbW f.val f.isLt)).emb (ix3 u r l) = ix3 f r l := by
  funext a; refine Fin.ext ?_
  rw [Rect.emb_apply]
  match a with
  | ⟨0, _⟩ => show f.val + 1 * u.val = f.val; omega
  | ⟨1, _⟩ => show 0 + 1 * r.val = r.val; omega
  | ⟨2, _⟩ => show 0 + 1 * l.val = l.val; omega
theorem embD (h : Fin 2) (p : Fin 325) (r : Fin 8) (l : Fin 128) :
    (Rect.unit (s := S2x325x8x128) ![h.val, p.val, 0, 0] S1x1x8x128.size (inbD h.val p.val h.isLt p.isLt)).emb (ix4 (0 : Fin 1) (0 : Fin 1) r l) = ix4 h p r l := by
  funext a; refine Fin.ext ?_
  rw [Rect.emb_apply]
  match a with
  | ⟨0, _⟩ => show h.val + 1 * 0 = h.val; omega
  | ⟨1, _⟩ => show p.val + 1 * 0 = p.val; omega
  | ⟨2, _⟩ => show 0 + 1 * r.val = r.val; omega
  | ⟨3, _⟩ => show 0 + 1 * l.val = l.val; omega
theorem embS (p : Fin 325) (r : Fin 8) (l : Fin 128) :
    (Rect.unit (s := S2600x128) ![8 * p.val, 0] S8x128.size (inbS p.val p.isLt)).emb (ix2 r l) = ix2 (⟨8 * p.val + r.val, by omega⟩ : Fin 2600) l := by
  funext a; refine Fin.ext ?_
  rw [Rect.emb_apply]
  match a with
  | ⟨0, _⟩ => show 8 * p.val + 1 * r.val = 8 * p.val + r.val; omega
  | ⟨1, _⟩ => show 0 + 1 * l.val = l.val; omega

section lists

variable (arg1 : Memref sig .tc .smem S1 .f32) (harg1 : arg1.IsWhole) (arg2 : Memref sig .tc .vmem S2x325x8x128 .i32) (harg2 : arg2.IsWhole) (arg3 : Memref sig .tc .vmem S26x8x128 .f32) (harg3 : arg3.IsWhole) (arg4 : Memref sig .tc .vmem S26x8x128 .f32) (harg4 : arg4.IsWhole) (arg5 : Memref sig .tc .vmem S26x8x128 .f32) (harg5 : arg5.IsWhole) (arg6 : Memref sig .tc .vmem S8x128 .f32) (harg6 : arg6.IsWhole) (arg7 : Memref sig .tc .vmem S1024x325 .f32) (harg7 : arg7.IsWhole) (arg8 : Memref sig .tc .vmem S26x8x128 .f32) (harg8 : arg8.IsWhole) (arg9 : Memref sig .tc .vmem S2600x128 .f32) (harg9 : arg9.IsWhole)
  (x0 : Vec F S1 .f32) (x1 : Vec F S2x325x8x128 .i32) (x2 : Vec F S26x8x128 .f32) (x3 : Vec F S26x8x128 .f32) (x4 : Vec F S26x8x128 .f32)

theorem ldW_at (f : Fin 26) (r : Fin 8) (l : Fin 128) : ldW arg3 harg3 x2 f (ix2 r l) = x2 (ix3 f r l) := by
  unfold ldW
  rw [drop1, Memref.IsWhole.readAt_unread]
  exact congrArg x2 (embW f 0 r l)

theorem LW_read (y : S26x8x128.Idx) : arg8.view.read (Elt F) (arg8.view.writes (Elt F) arg8.view.junk (LW arg3 harg3 arg4 harg4 x2 x3)) y = mulf (s := S26x8x128) x2 x3 y := by
  refine View.read_writes_apply_of_pieces (Val := Elt F) arg8.view _ (mulf (s := S26x8x128) x2 x3) _ ?_ y ?_
  · intro p hp x
    obtain ⟨f, -, h⟩ := (mem_desc _ p 26 _).mp hp
    obtain rfl := List.mem_singleton.mp h
    obtain ⟨u, r, l, rfl⟩ : ∃ (u : Fin 1) (r : Fin 8) (l : Fin 128), x = ix3 u r l := ⟨_, _, _, eq_ix3 x⟩
    show shapeCast S1x8x128 (mulf (ldW arg3 harg3 x2 f) (ldW arg4 harg4 x3 f)) shapeCasts_S8x128_S1x8x128 (ix3 u r l) = _
    refine (add1 _ u r l).trans ?_
    refine Eq.trans ?_ (congrArg (mulf (s := S26x8x128) x2 x3) (embW f u r l).symm)
    show FloatOps.mulf (ldW arg3 harg3 x2 f (ix2 r l)) (ldW arg4 harg4 x3 f (ix2 r l)) = FloatOps.mulf (x2 (ix3 f r l)) (x3 (ix3 f r l))
    rw [ldW_at, ldW_at]
  · obtain ⟨f, r, l, rfl⟩ : ∃ (f : Fin 26) (r : Fin 8) (l : Fin 128), y = ix3 f r l := ⟨_, _, _, eq_ix3 y⟩
    refine ⟨_, (mem_desc _ _ 26 _).mpr ⟨f, f.isLt, List.mem_singleton.mpr rfl⟩, ?_⟩
    rw [← embW f 0 r l]
    exact LoadRect.idx_mem _ _

theorem ldS_at (f : Fin 26) (r : Fin 8) (l : Fin 128) : ldS arg3 harg3 arg4 harg4 arg8 x2 x3 f.val f.isLt (ix2 r l) = mulf (s := S26x8x128) x2 x3 (ix3 f r l) := by
  unfold ldS
  rw [drop1]
  refine Eq.trans ?_ (congrArg (mulf (s := S26x8x128) x2 x3) (embW f 0 r l))
  exact LW_read arg3 harg3 arg4 harg4 arg8 x2 x3 _

theorem ldD_at (h : Fin 2) (p : Fin 325) (r : Fin 8) (l : Fin 128) : ldD (F := F) arg2 harg2 x1 h.val p.val h.isLt p.isLt (ix2 r l) = x1 (ix4 h p r l) := by
  unfold ldD
  rw [drop2 (F := F), Memref.IsWhole.readAt_unread]
  exact congrArg x1 (embD h p r l)

theorem term_at (p : Fin 325) (r : Fin 8) (l : Fin 128) : term arg2 harg2 arg3 harg3 arg4 harg4 arg8 x1 x2 x3 p (ix2 r l) = tm x1 x2 x3 p r l := by
  show pt (ldD (F := F) arg2 harg2 x1 (0 : Fin 2).val p.val (by omega) p.isLt (ix2 r l)) (ldD (F := F) arg2 harg2 x1 (1 : Fin 2).val p.val (by omega) p.isLt (ix2 r l))
    (ldS arg3 harg3 arg4 harg4 arg8 x2 x3 (pf p).val (pf p).isLt (ix2 r l)) (ldS arg3 harg3 arg4 harg4 arg8 x2 x3 (pg p).val (pg p).isLt (ix2 r l)) = _
  rw [ldD_at, ldD_at, ldS_at, ldS_at]
  rfl

theorem LS_read (p : Fin 325) (r : Fin 8) (l : Fin 128) : arg9.view.read (Elt F) (arg9.view.writes (Elt F) arg9.view.junk (LS arg2 harg2 arg3 harg3 arg4 harg4 arg8 x1 x2 x3)) (ix2 (⟨8 * p.val + r.val, by omega⟩ : Fin 2600) l) = tm x1 x2 x3 p r l := by
  let G : S2600x128.Idx → F .f32 := fun y => tm x1 x2 x3 (⟨(y 0).val / 8, by have := idx2_lt0 (n0 := 2600) (n1 := 128) y; omega⟩ : Fin 325) (⟨(y 0).val % 8, by omega⟩ : Fin 8) (y 1 : Fin 128)
  have hG : ∀ (p : Fin 325) (r : Fin 8) (l : Fin 128), G (ix2 (⟨8 * p.val + r.val, by omega⟩ : Fin 2600) l) = tm x1 x2 x3 p r l := by
    intro p r l
    show tm x1 x2 x3 (⟨(8 * p.val + r.val) / 8, _⟩ : Fin 325) (⟨(8 * p.val + r.val) % 8, _⟩ : Fin 8) l = _
    have e1 : (⟨(8 * p.val + r.val) / 8, by omega⟩ : Fin 325) = p := Fin.ext (by show (8 * p.val + r.val) / 8 = p.val; omega)
    have e2 : (⟨(8 * p.val + r.val) % 8, by omega⟩ : Fin 8) = r := Fin.ext (by show (8 * p.val + r.val) % 8 = r.val; omega)
    rw [e1, e2]
  refine (View.read_writes_apply_of_pieces _ _ G _ ?_ _ ?_).trans (hG p r l)
  · intro q hq x
    obtain ⟨p, -, h⟩ := (mem_desc _ q 325 _).mp hq
    obtain rfl := List.mem_singleton.mp h
    obtain ⟨r, l, rfl⟩ : ∃ (r : Fin 8) (l : Fin 128), x = ix2 r l := ⟨_, _, eq_ix2 x⟩
    refine Eq.trans ?_ (congrArg G (embS p r l).symm)
    refine Eq.trans ?_ (hG p r l).symm
    exact (shapeCast_apply _ _ _ (ix2 r l) rfl).trans (term_at arg2 harg2 arg3 harg3 arg4 harg4 arg8 x1 x2 x3 p r l)
  · refine ⟨_, (mem_desc _ _ 325 _).mpr ⟨p, p.isLt, List.mem_singleton.mpr rfl⟩, ?_⟩
    rw [← embS p r l]
    exact LoadRect.idx_mem _ _

/-- The pair array's block: token `t`, pair `p`. -/
def G6 (y : S1024x325.Idx) : F .f32 :=
  tm x1 x2 x3 (y 1 : Fin 325) (⟨(y 0).val / 128, by have := idx2_lt0 (n0 := 1024) (n1 := 325) y; omega⟩ : Fin 8) (⟨(y 0).val % 128, by omega⟩ : Fin 128)

theorem blkO_at (i c n : ℕ) (hi : i < 8) (hn : c + n ≤ 325) (h0 : 0 < n) (T : Shape.Transposes ⟨2, ![n, 128]⟩ [1, 0] ⟨2, ![128, n]⟩)
    (x : (blkO arg2 harg2 arg3 harg3 arg4 harg4 arg8 arg9 x1 x2 x3 i c n hi hn h0 T).1.shape.Idx) :
    (blkO arg2 harg2 arg3 harg3 arg4 harg4 arg8 arg9 x1 x2 x3 i c n hi hn h0 T).2 x = G6 x1 x2 x3 ((blkO arg2 harg2 arg3 harg3 arg4 harg4 arg8 arg9 x1 x2 x3 i c n hi hn h0 T).1.emb x) := by
  obtain ⟨a, b, rfl⟩ : ∃ (a : Fin 128) (b : Fin n), x = ix2 a b := ⟨_, _, eq_ix2 x⟩
  let w : Vec F ⟨2, ![n, 128]⟩ .f32 := arg9.view.readCov (LS arg2 harg2 arg3 harg3 arg4 harg4 arg8 x1 x2 x3)
      (⟨![8 * c + i, 0], ![n, 128], ![8, 1], inbT (8 * c + i) n (by omega)⟩ : LoadRect S2600x128)
  show transpose ⟨2, ![128, n]⟩ [1, 0] w T (ix2 a b) = _
  refine (transpose_apply (s := ⟨2, ![n, 128]⟩) (t := ⟨2, ![128, n]⟩) [1, 0] w T (ix2 a b) (ix2 b a) ?_).trans ?_
  · intro q
    match q with
    | ⟨0, _⟩ => rfl
    | ⟨1, _⟩ => rfl
  have e : (⟨![8 * c + i, 0], ![n, 128], ![8, 1], inbT (8 * c + i) n (by omega)⟩ : LoadRect S2600x128).idx (ix2 b a)
      = ix2 (⟨8 * (⟨c + b.val, by omega⟩ : Fin 325).val + (⟨i, hi⟩ : Fin 8).val, by show 8 * (c + b.val) + i < 2600; omega⟩ : Fin 2600) a := by
    funext q; refine Fin.ext ?_
    rw [LoadRect.idx_apply]
    match q with
    | ⟨0, _⟩ => show 8 * c + i + 8 * b.val = 8 * (c + b.val) + i; omega
    | ⟨1, _⟩ => show 0 + 1 * a.val = a.val; omega
  have e2 : (Rect.unit (s := S1024x325) ![128 * i, c] ![128, n] (inbO i c n hi hn)).emb (ix2 a b) = ix2 (⟨128 * i + a.val, by omega⟩ : Fin 1024) (⟨c + b.val, by omega⟩ : Fin 325) := by
    funext q; refine Fin.ext ?_
    rw [Rect.emb_apply]
    match q with
    | ⟨0, _⟩ => show 128 * i + 1 * a.val = 128 * i + a.val; omega
    | ⟨1, _⟩ => show c + 1 * b.val = c + b.val; omega
  refine Eq.trans (congrArg (arg9.view.read (Elt F) (arg9.view.writes (Elt F) arg9.view.junk (LS arg2 harg2 arg3 harg3 arg4 harg4 arg8 x1 x2 x3))) e) ?_
  refine (LS_read arg2 harg2 arg3 harg3 arg4 harg4 arg8 arg9 x1 x2 x3 _ _ _).trans ?_
  refine Eq.trans ?_ (congrArg (G6 x1 x2 x3) e2.symm)
  show tm x1 x2 x3 _ _ _ = tm x1 x2 x3 _ (⟨(128 * i + a.val) / 128, _⟩ : Fin 8) (⟨(128 * i + a.val) % 128, _⟩ : Fin 128)
  congr 1 <;> refine Fin.ext ?_
  · show i = (128 * i + a.val) / 128; omega
  · show a.val = (128 * i + a.val) % 128; omega

/-- What a point leaves in the pair array's block. -/
theorem out6_at (c : Dev nD) (i : grid0.Coords) (y : S1024x325.Idx) :
    out0_A_6 c i arg1 harg1 arg2 harg2 arg3 harg3 arg4 harg4 arg5 harg5 arg6 harg6 arg7 harg7 arg8 harg8 arg9 harg9 x0 x1 x2 x3 x4 y = G6 x1 x2 x3 y := by
  have hc := cover0_A_6 c i arg1 harg1 arg2 harg2 arg3 harg3 arg4 harg4 arg5 harg5 arg6 harg6 arg7 harg7 arg8 harg8 arg9 harg9 x0 x1 x2 x3 x4 y
  unfold out0_A_6
  refine View.read_writes_apply_of_pieces _ _ (G6 x1 x2 x3) _ ?_ y hc
  rw [pair_eq]
  intro p hp
  obtain ⟨i, -, h⟩ := (mem_desc _ p 8 _).mp hp
  rcases List.mem_cons.mp h with rfl | h
  · exact blkO_at arg2 harg2 arg3 harg3 arg4 harg4 arg8 arg9 x1 x2 x3 _ _ _ _ _ _ _
  rcases List.mem_cons.mp h with rfl | h
  · exact blkO_at arg2 harg2 arg3 harg3 arg4 harg4 arg8 arg9 x1 x2 x3 _ _ _ _ _ _ _
  obtain rfl := List.mem_singleton.mp h
  exact blkO_at arg2 harg2 arg3 harg3 arg4 harg4 arg8 arg9 x1 x2 x3 _ _ _ _ _ _ _

theorem total_at (r : Fin 8) (l : Fin 128) : ∀ (n : ℕ) (h : n ≤ 325), total arg2 harg2 arg3 harg3 arg4 harg4 arg8 x1 x2 x3 n h (ix2 r l) = tsum (fun p => tm x1 x2 x3 p r l) n h
  | 0, _ => rfl
  | n + 1, h => by
    show FloatOps.addf (total arg2 harg2 arg3 harg3 arg4 harg4 arg8 x1 x2 x3 n _ (ix2 r l)) (term arg2 harg2 arg3 harg3 arg4 harg4 arg8 x1 x2 x3 ⟨n, h⟩ (ix2 r l)) = _
    rw [total_at r l n, term_at]
    rfl

theorem lin_at (r : Fin 8) (l : Fin 128) : ∀ (n : ℕ) (h : n < 26), lin arg3 harg3 arg5 harg5 x2 x4 n h (ix2 r l) = lsum (fun f => FloatOps.mulf (x4 (ix3 f r l)) (x2 (ix3 f r l))) n h
  | 0, h => by
    show FloatOps.mulf (ldW arg5 harg5 x4 ⟨0, h⟩ (ix2 r l)) (ldW arg3 harg3 x2 ⟨0, h⟩ (ix2 r l)) = _
    rw [ldW_at, ldW_at]
    rfl
  | n + 1, h => by
    show FloatOps.addf (lin arg3 harg3 arg5 harg5 x2 x4 n _ (ix2 r l)) (FloatOps.mulf (ldW arg5 harg5 x4 ⟨n + 1, h⟩ (ix2 r l)) (ldW arg3 harg3 x2 ⟨n + 1, h⟩ (ix2 r l))) = _
    rw [lin_at r l n, ldW_at, ldW_at]
    rfl

/-- The logit array's block: the token at row `r`, lane `l`. -/
def G5 (r : Fin 8) (l : Fin 128) : F .f32 :=
  FloatOps.addf (FloatOps.addf (x0 (ix1 (0 : Fin 1))) (lsum (fun f => FloatOps.mulf (x4 (ix3 f r l)) (x2 (ix3 f r l))) 25 (by omega))) (tsum (fun p => tm x1 x2 x3 p r l) 325 (le_refl 325))

theorem bias_eq : bias arg1 harg1 x0 = x0 (ix1 (0 : Fin 1)) := by
  unfold bias
  rw [Memref.IsWhole.readAt_unread]
  refine congrArg x0 (funext fun a => Fin.ext ?_)
  obtain rfl : a = 0 := Subsingleton.elim _ _
  exact (Nat.lt_one_iff.mp (Fin.isLt _)).trans (Nat.lt_one_iff.mp (Fin.isLt _)).symm

/-- What a point leaves in the logit array's block. -/
theorem out5_at (c : Dev nD) (i : grid0.Coords) (r : Fin 8) (l : Fin 128) :
    out0_A_5 c i arg1 harg1 arg2 harg2 arg3 harg3 arg4 harg4 arg5 harg5 arg6 harg6 arg7 harg7 arg8 harg8 arg9 harg9 x0 x1 x2 x3 x4 (ix2 r l) = G5 x0 x1 x2 x3 x4 r l := by
  unfold out0_A_5
  rw [logit_eq]
  have e : (Rect.unit (s := S8x128) ![0, 0] S8x128.size inb_S8x128_S8x128_0_0).emb (ix2 r l) = ix2 r l := by
    funext a; refine Fin.ext ?_
    rw [Rect.emb_apply]
    match a with
    | ⟨0, _⟩ => show 0 + 1 * r.val = r.val; omega
    | ⟨1, _⟩ => show 0 + 1 * l.val = l.val; omega
  unfold L5
  refine (View.read_writes_cons_hit _ _ _ _ _ (ix2 r l) (ix2 r l) e).trans ?_
  show FloatOps.addf (FloatOps.addf (bias arg1 harg1 x0) (lin arg3 harg3 arg5 harg5 x2 x4 25 _ (ix2 r l))) (total arg2 harg2 arg3 harg3 arg4 harg4 arg8 x1 x2 x3 325 _ (ix2 r l)) = _
  rw [bias_eq, lin_at, total_at]
  rfl

end lists

end Cert.Proof.Fin

end
-- ==== Proof.FinArr.lean ====
/-
  The finishing call's two results as whole arrays: each a function of the five arguments.
-/
module

public import proofs.«01_k».proof.Proof.FinVal
public import Idealize.ShloMosaic.Lib.Pipeline.ValueKit.Geometry

@[expose] public section

noncomputable section

namespace Cert.Proof.Fin

open Cert.FinishIdeal Cert.FinishIdeal.Gen Cert.Proof.Pairs
open Idealize.ShloMosaic Idealize.ShloMosaic.TcCoe Idealize.ShloMosaic.ValueIdx

variable {F : FTy → Type} [FloatOps F]

section fn

variable (a0 : Vec F S1 .f32) (a1 : Vec F S2x325x360x128 .i32) (a2 a3 a4 : Vec F S26x360x128 .f32)

/-- One pair's term at one token, of the whole arrays. -/
def tmA (p : Fin 325) (r : Fin 360) (l : Fin 128) : F .f32 :=
  pt (a1 (ix4 (0 : Fin 2) p r l)) (a1 (ix4 (1 : Fin 2) p r l)) (mulf (s := S26x360x128) a2 a3 (ix3 (pf p) r l)) (mulf (s := S26x360x128) a2 a3 (ix3 (pg p) r l))

/-- The logit of a token. -/
def GA5 (y : S360x128.Idx) : F .f32 :=
  FloatOps.addf (FloatOps.addf (a0 (ix1 (0 : Fin 1))) (lsum (fun f => FloatOps.mulf (a4 (ix3 f (y 0 : Fin 360) (y 1 : Fin 128))) (a2 (ix3 f (y 0 : Fin 360) (y 1 : Fin 128)))) 25 (by omega)))
    (tsum (fun p => tmA a1 a2 a3 p (y 0 : Fin 360) (y 1 : Fin 128)) 325 (le_refl 325))

/-- The pair array. -/
def GA6 (y : S46080x325.Idx) : F .f32 :=
  tmA a1 a2 a3 (y 1 : Fin 325) (⟨(y 0).val / 128, by have := idx2_lt0 (n0 := 46080) (n1 := 325) y; omega⟩ : Fin 360) (⟨(y 0).val % 128, by omega⟩ : Fin 128)

end fn

variable (m : (ℓ : Loc nD τ sig) → Buf (Elt F) ℓ) (c : Dev nD)

abbrev b0 : Vec F S1 .f32 := m ((c : Thread nD τ).loc main_arg0)
abbrev b1 : Vec F S2x325x360x128 .i32 := m ((c : Thread nD τ).loc main_arg1)
abbrev b2 : Vec F S26x360x128 .f32 := m ((c : Thread nD τ).loc main_arg2)
abbrev b3 : Vec F S26x360x128 .f32 := m ((c : Thread nD τ).loc main_arg3)
abbrev b4 : Vec F S26x360x128 .f32 := m ((c : Thread nD τ).loc main_arg4)

theorem e0 : ∀ t : Fin cfg0.N, win0_0.index t = ![0] := (by decide +kernel : ∀ t : Fin grid0.N, _)
theorem e1 : ∀ t : Fin cfg0.N, win0_1.index t = ![0, 0, t.val, 0] := (by decide +kernel : ∀ t : Fin grid0.N, _)
theorem e2 : ∀ t : Fin cfg0.N, win0_2.index t = ![0, t.val, 0] := (by decide +kernel : ∀ t : Fin grid0.N, _)
theorem e3 : ∀ t : Fin cfg0.N, win0_3.index t = ![0, t.val, 0] := (by decide +kernel : ∀ t : Fin grid0.N, _)
theorem e4 : ∀ t : Fin cfg0.N, win0_4.index t = ![0, t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)

/-- The array row of a block's row. -/
def row (t : Fin cfg0.N) (r : Fin 8) : Fin 360 := ⟨t.val * 8 + r.val, by have := r.isLt; have : t.val < 45 := t.isLt; omega⟩

theorem i0 (t : Fin cfg0.N) : (iblk m c 0 t : Vec F S1 .f32) (ix1 (0 : Fin 1)) = b0 m c (ix1 (0 : Fin 1)) := by
  blk_simp [iblk]
  refine congrArg (b0 m c) ?_
  blk_ext [e0]
theorem i1 (t : Fin cfg0.N) (h : Fin 2) (p : Fin 325) (r : Fin 8) (l : Fin 128) : (iblk m c 1 t : Vec F S2x325x8x128 .i32) (ix4 h p r l) = b1 m c (ix4 h p (row t r) l) := by
  blk_simp [iblk]
  refine congrArg (b1 m c) ?_
  blk_ext [e1, row]
theorem i2 (t : Fin cfg0.N) (f : Fin 26) (r : Fin 8) (l : Fin 128) : (iblk m c 2 t : Vec F S26x8x128 .f32) (ix3 f r l) = b2 m c (ix3 f (row t r) l) := by
  blk_simp [iblk]
  refine congrArg (b2 m c) ?_
  blk_ext [e2, row]
theorem i3 (t : Fin cfg0.N) (f : Fin 26) (r : Fin 8) (l : Fin 128) : (iblk m c 3 t : Vec F S26x8x128 .f32) (ix3 f r l) = b3 m c (ix3 f (row t r) l) := by
  blk_simp [iblk]
  refine congrArg (b3 m c) ?_
  blk_ext [e3, row]
theorem i4 (t : Fin cfg0.N) (f : Fin 26) (r : Fin 8) (l : Fin 128) : (iblk m c 4 t : Vec F S26x8x128 .f32) (ix3 f r l) = b4 m c (ix3 f (row t r) l) := by
  blk_simp [iblk]
  refine congrArg (b4 m c) ?_
  blk_ext [e4, row]

theorem tm_blk (t : Fin cfg0.N) (p : Fin 325) (r : Fin 8) (l : Fin 128) :
    tm (iblk m c 1 t) (iblk m c 2 t) (iblk m c 3 t) p r l = tmA (b1 m c) (b2 m c) (b3 m c) p (row t r) l := by
  show pt _ _ (FloatOps.mulf ((iblk m c 2 t : Vec F S26x8x128 .f32) (ix3 (pf p) r l)) ((iblk m c 3 t : Vec F S26x8x128 .f32) (ix3 (pf p) r l))) (FloatOps.mulf ((iblk m c 2 t : Vec F S26x8x128 .f32) (ix3 (pg p) r l)) ((iblk m c 3 t : Vec F S26x8x128 .f32) (ix3 (pg p) r l))) = _
  rw [i1, i1, i2, i2, i3, i3]
  rfl

theorem final5 : (dats m 0 c).arrAt 5 cfg0.N = GA5 (b0 m c) (b1 m c) (b2 m c) (b3 m c) (b4 m c) := by
  refine (dats m 0 c).arrAt_eq_of_covers 5 _ (by decide +kernel) fun t hf y => ?_
  obtain ⟨r, l, rfl⟩ : ∃ (r : Fin 8) (l : Fin 128), y = ix2 r l := ⟨_, _, eq_ix2 y⟩
  blk_simp
  rw [after0_5]
  have e : (win0_5.blk t).view.emb (ix2 r l) = (ix2 (row t r) l : S360x128.Idx) := by
    blk_ext [e5, row]
  rw [e]
  refine (out5_at (F := F) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) c (grid0.coords t) r l).trans ?_
  show FloatOps.addf (FloatOps.addf _ (lsum _ 25 _)) (tsum _ 325 _) = FloatOps.addf (FloatOps.addf _ (lsum _ 25 _)) (tsum _ 325 _)
  exact congrArg₂ FloatOps.addf (congrArg₂ FloatOps.addf (i0 m c t) (congrArg (fun g => lsum g 25 (by omega)) (funext fun f => congrArg₂ FloatOps.mulf (i4 m c t f r l) (i2 m c t f r l))))
    (congrArg (fun g => tsum g 325 (le_refl 325)) (funext fun p => tm_blk m c t p r l))

theorem final6 : (dats m 0 c).arrAt 6 cfg0.N = GA6 (b1 m c) (b2 m c) (b3 m c) := by
  refine (dats m 0 c).arrAt_eq_of_covers 6 _ (by decide +kernel) fun t hf y => ?_
  obtain ⟨r, p, rfl⟩ : ∃ (r : Fin 1024) (p : Fin 325), y = ix2 r p := ⟨_, _, eq_ix2 y⟩
  have ht : t.val < 45 := t.isLt
  blk_simp
  rw [after0_6]
  have e : (win0_6.blk t).view.emb (ix2 r p) = (ix2 (⟨t.val * 1024 + r.val, by omega⟩ : Fin 46080) p : S46080x325.Idx) := by
    blk_ext [e6]
  rw [e]
  refine (out6_at (F := F) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t) c (grid0.coords t) (ix2 r p)).trans ?_
  refine (tm_blk m c t p _ _).trans ?_
  show tmA _ _ _ _ _ _ = tmA _ _ _ _ (⟨(t.val * 1024 + r.val) / 128, _⟩ : Fin 360) (⟨(t.val * 1024 + r.val) % 128, _⟩ : Fin 128)
  congr 1 <;> refine Fin.ext ?_
  · show t.val * 8 + r.val / 128 = (t.val * 1024 + r.val) / 128; omega
  · show r.val % 128 = (t.val * 1024 + r.val) % 128; omega

end Cert.Proof.Fin

end
-- ==== Proof.FinRef.lean ====
/-
  The second reference, `scores`: its two results, element by element, at the ideal values.
-/
module

public import proofs.«01_k».proof.Proof.FinArr
public import proofs.«01_k».proof.Proof.RefVal
public import proofs.«01_k».proof.Proof.Gen.ScoresIdeal.Run
public import Idealize.ShloMosaic.Lib.Pointwise.Reduce

@[expose] public section

noncomputable section

namespace Cert.Proof.Fin.Ref

open Cert.ScoresIdeal Cert.ScoresIdeal.Gen Cert.Proof.Pairs Cert.Proof.Fin
open Idealize.ShloMosaic hiding ix1 ix2 ix3 ix4 eq_ix1 eq_ix2 eq_ix3 eq_ix4
open Idealize.ShloMosaic.ValueIdx Idealize.ShloMosaic.StableHlo

section

variable {F : FTy → Type} [FloatOps F]

theorem gather_at (x : FVec F S26x360x128 .f32) (idx : IVec S325x1 32) (p : Fin 325) (r : Fin 360) (l : Fin 128) :
    Host.gather gather_S26x360x128_S325x1_S325x360x128_12_0_n_n_0_1_1360128 x idx (ix3 p r l)
      = x (ix3 ⟨min (idx (ix2 p (0 : Fin 1))).toInt.toNat (26 - 1), by omega⟩ r l) := by
  set gd := gather_S26x360x128_S325x1_S325x360x128_12_0_n_n_0_1_1360128 with hgd
  unfold Host.gather
  congr 1
  funext a
  refine Fin.ext ?_
  show gd.start (ix3 p r l) idx a + gd.batchCoord (ix3 p r l) a + gd.offCoord (ix3 p r l) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gd.startIndexMap from List.mem_singleton.mpr rfl)]
    have hsi : gd.siIdx (ix3 p r l) ⟨List.idxOf (0 : Fin 3) gd.startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  · rw [GatherDims.batchCoord_eq_zero _ _ _ List.not_mem_nil]
    unfold GatherDims.start GatherDims.offCoord
    rw [dif_neg (show ¬ (1 : Fin 3) ∈ gd.startIndexMap by rw [hgd]; decide), dif_pos (by rw [hgd]; decide)]
    simp only [Nat.zero_add]
    rfl
  · rw [GatherDims.batchCoord_eq_zero _ _ _ List.not_mem_nil]
    unfold GatherDims.start GatherDims.offCoord
    rw [dif_neg (show ¬ (2 : Fin 3) ∈ gd.startIndexMap by rw [hgd]; decide), dif_pos (by rw [hgd]; decide)]
    simp only [Nat.zero_add]
    rfl

/-- The wrapped row numbers, as the reference writes them. -/
abbrev idxs (c : S325.Idx → BitVec 32) : S325x1.Idx → BitVec 32 :=
  broadcastInDim S325x1 ![0] bcast_S325_S325x1_0 (select (cmpi .slt c (broadcastInDim S325 ![] bcast_S_S325 (constantI S_ 32 0#32))) (addi c (broadcastInDim S325 ![] bcast_S_S325 (constantI S_ 32 26#32))) c)

theorem row_at (x : FVec F S26x360x128 .f32) (c : S325.Idx → BitVec 32) (p : Fin 325) (r : Fin 360) (l : Fin 128) (f : Fin 26) (h : c (ix1 p) = BitVec.ofNat 32 f.val) :
    Host.gather gather_S26x360x128_S325x1_S325x360x128_12_0_n_n_0_1_1360128 x (idxs c) (ix3 p r l) = x (ix3 f r l) := by
  rw [gather_at]
  have hf := f.isLt
  have e : idxs c (ix2 p (0 : Fin 1)) = BitVec.ofNat 32 f.val := by
    show select _ _ c _ = _
    have hi : (fun a => if h1 : S325.size a = 1 then ⟨0, by omega⟩ else ⟨((ix2 p (0 : Fin 1) : S325x1.Idx) (![0] a)).val, by
        rcases (bcast_S325_S325x1_0).2 a with h2 | h2
        · exact absurd h2 h1
        · rw [h2]; exact ((ix2 p (0 : Fin 1) : S325x1.Idx) (![0] a)).isLt⟩ : S325.Idx) = ix1 p := by
      funext a; obtain rfl : a = 0 := Subsingleton.elim _ _; rfl
    rw [hi]
    show Scalar.select (IntOp.cmpi .slt (c (ix1 p)) 0#32) (IntOp.addi (c (ix1 p)) 26#32) (c (ix1 p)) = _
    rw [Pairs.Ref.wrap _ _ f.val h (by omega), h]
  refine congrArg (fun k => x (ix3 k r l)) (Fin.ext ?_)
  show min _ 25 = f.val
  rw [e, Pairs.Ref.toInt_small f.val (by omega)]
  omega

theorem lits : ∀ p : Fin 325, lit0 p = BitVec.ofNat 32 (fF p.val) ∧ lit1 p = BitVec.ofNat 32 (gG p.val) := by decide +kernel

theorem rm1 (p : Fin 325) : (S325.rowMajor (ix1 p) : Fin 325) = p := Fin.ext (Shape.rowMajor_val_one _)

variable (a0 : FVec F S1 .f32) (a1 : S2x325x360x128.Idx → BitVec 32) (a2 a3 a4 : FVec F S26x360x128 .f32)

theorem half0 (p : Fin 325) (r : Fin 360) (l : Fin 128) :
    shapeCast S325x360x128 (extractStridedSlice S1x325x360x128 ![0, 0, 0, 0] a1 slices_S2x325x360x128_S1x325x360x128_0_0_0_0) shapeCasts_S1x325x360x128_S325x360x128 (ix3 p r l) = a1 (ix4 (0 : Fin 2) p r l) := by
  refine (shapeCast_apply _ _ (ix3 p r l) (ix4 (0 : Fin 1) p r l) ?_).trans (extractStridedSlice_apply _ _ _ _ _ ?_)
  · rw [Shape.rowMajor_val_three, Shape.rowMajor_val_four]
    show ((0 * 325 + p.val) * 360 + r.val) * 128 + l.val = (p.val * 360 + r.val) * 128 + l.val
    omega
  · intro a
    match a with
    | ⟨0, _⟩ => rfl
    | ⟨1, _⟩ => exact (Nat.zero_add _).symm
    | ⟨2, _⟩ => exact (Nat.zero_add _).symm
    | ⟨3, _⟩ => exact (Nat.zero_add _).symm
theorem half1 (p : Fin 325) (r : Fin 360) (l : Fin 128) :
    shapeCast S325x360x128 (extractStridedSlice S1x325x360x128 ![1, 0, 0, 0] a1 slices_S2x325x360x128_S1x325x360x128_1_0_0_0) shapeCasts_S1x325x360x128_S325x360x128 (ix3 p r l) = a1 (ix4 (1 : Fin 2) p r l) := by
  refine (shapeCast_apply _ _ (ix3 p r l) (ix4 (0 : Fin 1) p r l) ?_).trans (extractStridedSlice_apply _ _ _ _ _ ?_)
  · rw [Shape.rowMajor_val_three, Shape.rowMajor_val_four]
    show ((0 * 325 + p.val) * 360 + r.val) * 128 + l.val = (p.val * 360 + r.val) * 128 + l.val
    omega
  · intro a
    match a with
    | ⟨0, _⟩ => rfl
    | ⟨1, _⟩ => exact (Nat.zero_add _).symm
    | ⟨2, _⟩ => exact (Nat.zero_add _).symm
    | ⟨3, _⟩ => exact (Nat.zero_add _).symm

/-- The pair terms, as the reference writes them. -/
abbrev prods : FVec F S325x360x128 .f32 :=
  mulf (mulf (sitofp .f32 (addi (shapeCast _ (extractStridedSlice S1x325x360x128 ![0, 0, 0, 0] a1 slices_S2x325x360x128_S1x325x360x128_0_0_0_0) shapeCasts_S1x325x360x128_S325x360x128) (shapeCast _ (extractStridedSlice S1x325x360x128 ![1, 0, 0, 0] a1 slices_S2x325x360x128_S1x325x360x128_1_0_0_0) shapeCasts_S1x325x360x128_S325x360x128)))
      (Host.gather gather_S26x360x128_S325x1_S325x360x128_12_0_n_n_0_1_1360128 (mulf a2 a3) (idxs (fun i => lit0 (S325.rowMajor i)))))
    (Host.gather gather_S26x360x128_S325x1_S325x360x128_12_0_n_n_0_1_1360128 (mulf a2 a3) (idxs (fun i => lit1 (S325.rowMajor i))))

theorem prods_at (p : Fin 325) (r : Fin 360) (l : Fin 128) : prods a1 a2 a3 (ix3 p r l) = tmA a1 a2 a3 p r l := by
  refine Eq.trans (b := FloatOps.mulf (FloatOps.mulf (FloatOps.sitofp .f32 (IntOp.addi _ _)) _) _) rfl ?_
  rw [half0, half1, row_at _ _ p r l (pf p) ((congrArg lit0 (rm1 p)).trans (lits p).1), row_at _ _ p r l (pg p) ((congrArg lit1 (rm1 p)).trans (lits p).2)]
  rfl

theorem ref6 : transpose S46080x325 [1, 0] (shapeCast _ (prods a1 a2 a3) shapeCasts_S325x360x128_S325x46080) transposes_S325x46080_S46080x325_1_0 = GA6 a1 a2 a3 := by
  funext y
  obtain ⟨t, p, rfl⟩ : ∃ (t : Fin 46080) (p : Fin 325), y = ix2 t p := ⟨_, _, eq_ix2 y⟩
  refine (transpose_apply (s := S325x46080) (t := S46080x325) [1, 0] _ _ (ix2 t p) (ix2 p t) ?_).trans ?_
  · intro q
    match q with
    | ⟨0, _⟩ => rfl
    | ⟨1, _⟩ => rfl
  refine (shapeCast_apply _ _ (ix2 p t) (ix3 p (⟨t.val / 128, by omega⟩ : Fin 360) (⟨t.val % 128, by omega⟩ : Fin 128)) ?_).trans (prods_at a1 a2 a3 _ _ _)
  rw [Shape.rowMajor_val_two, Shape.rowMajor_val_three]
  show (p.val * 360 + t.val / 128) * 128 + t.val % 128 = p.val * 46080 + t.val
  omega

end

/-! ## The sums, at the ideal values -/

theorem tsum_eq (g : Fin 325 → EReal) : ∀ (n : ℕ) (h : n ≤ 325), tsum (F := Ideal) g n h = 0 + ∑ k : Fin n, g ⟨k.val, by omega⟩
  | 0, _ => by
    show Ideal.ofBits .f32 0x00000000#32 = _
    rw [Ideal.ofBits_zero_f32]; simp
  | n + 1, h => by
    show tsum (F := Ideal) g n _ + g ⟨n, h⟩ = _
    rw [tsum_eq g n, Fin.sum_univ_castSucc, ← add_assoc]
    rfl
theorem lsum_eq (g : Fin 26 → EReal) : ∀ (n : ℕ) (h : n < 26), lsum (F := Ideal) g n h = ∑ k : Fin (n + 1), g ⟨k.val, by omega⟩
  | 0, h => by
    show g ⟨0, h⟩ = _
    rw [Fin.sum_univ_one]
    rfl
  | n + 1, h => by
    show lsum (F := Ideal) g n _ + g ⟨n + 1, h⟩ = _
    rw [lsum_eq g n, Fin.sum_univ_castSucc (n := n + 1)]
    rfl

variable (a0 : FVec Ideal S1 .f32) (a1 : S2x325x360x128.Idx → BitVec 32) (a2 a3 a4 : FVec Ideal S26x360x128 .f32)

theorem ref5 : addf (addf (broadcastInDim S360x128 ![] bcast_S_S360x128 (shapeCast _ a0 shapeCasts_S1_S_)) (Host.reduceAdd (mulf a4 a2) (constant S_ .f32 0x00000000#32) reducesTo_S26x360x128_S360x128_d0 h_S_))
    (Host.reduceAdd (prods a1 a2 a3) (constant S_ .f32 0x00000000#32) reducesTo_S325x360x128_S360x128_d0 h_S_) = GA5 a0 a1 a2 a3 a4 := by
  funext y
  obtain ⟨r, l, rfl⟩ : ∃ (r : Fin 360) (l : Fin 128), y = ix2 r l := ⟨_, _, eq_ix2 y⟩
  show shapeCast S_ a0 shapeCasts_S1_S_ _ + Ideal.hostReduceAdd reducesTo_S26x360x128_S360x128_d0 (mulf a4 a2) (Ideal.ofBits .f32 0x00000000#32) (ix2 r l)
      + Ideal.hostReduceAdd reducesTo_S325x360x128_S360x128_d0 (prods a1 a2 a3) (Ideal.ofBits .f32 0x00000000#32) (ix2 r l)
    = a0 (ix1 (0 : Fin 1)) + lsum (F := Ideal) (fun f => FloatOps.mulf (a4 (ix3 f r l)) (a2 (ix3 f r l))) 25 _ + tsum (F := Ideal) (fun p => tmA a1 a2 a3 p r l) 325 _
  rw [tsum_eq, lsum_eq, Ideal.ofBits_zero_f32, Ideal.hostReduceAdd_r3_a0, Ideal.hostReduceAdd_r3_a0, zero_add, zero_add, zero_add]
  congr 1
  · congr 1
    refine shapeCast_apply _ _ _ (ix1 (0 : Fin 1)) ?_
    exact (Nat.lt_one_iff.mp (Fin.isLt _)).trans (Nat.lt_one_iff.mp (Fin.isLt _)).symm
  · exact Finset.sum_congr rfl fun p _ => prods_at a1 a2 a3 p r l

end Cert.Proof.Fin.Ref

end
-- ==== Proof.lean ====
/-
  The proof of `Cert.Claim` (proofs.«01_k».proof.Defs).

  The kernel is the pair scoring call: 32 tiles, each with its own pairs; for each pair a tile fetches the two fields'
  table windows, then for 45 chunks of 1024 tokens it fetches the two fields' packed positions, gathers the table words,
  adds up byte products and stores the sums. `Proof/Launch.lean` proves that the whole run terminates with the result
  `G` of the two arguments (`Proof/Spec.lean`), the arguments unchanged and every semaphore at zero, for any reading of
  the floats; `Proof/RefVal.lean` proves that the reference computes `G` as well.

  The programs' stated facts are proved in `Proof/FactsK.lean` and carried to the idealized program, which has the same
  text, by definitional equality in `Proof/FactsI.lean` and `Proof/Same.lean`.

  The second kernel is the finishing call: 45 grid points, each of 1024 tokens. `Proof/FinBlk.lean` writes the stores of
  one grid point as functions of the pair and the field, `Proof/FinVal.lean` reads them back element by element,
  `Proof/FinArr.lean` puts the blocks together to the two result arrays, and `Proof/FinRef.lean` proves that the second
  reference computes the same two arrays at the ideal values.
-/
module

public import proofs.«01_k».proof.Defs
public import proofs.«01_k».proof.Proof.Launch
public import proofs.«01_k».proof.Proof.FactsI
public import proofs.«01_k».proof.Proof.Same
public import proofs.«01_k».proof.Proof.RefVal
public import proofs.«01_k».proof.Proof.Gen.ReferenceIdeal
public import proofs.«01_k».proof.Proof.Gen.ReferenceIdeal.Run
public import proofs.«01_k».proof.Proof.Gen.Finish.Frame
public import proofs.«01_k».proof.Proof.Gen.FinishIdeal.Value
public import proofs.«01_k».proof.Proof.FinArr
public import proofs.«01_k».proof.Proof.FinRef
public import proofs.«01_k».proof.Proof.Gen.ScoresIdeal.Run
public import proofs.«01_k».proof.Proof.Gen.Pre_in_table
public import Idealize.ShloMosaic.Adequacy
public import Idealize.ShloMosaic.Init

@[expose] public section

noncomputable section

namespace Cert.Proof

open Idealize.ShloMosaic Idealize.SL.Sem Cert.Proof.Pairs

/-- The kernel's frame: it runs, its arguments end unchanged, every semaphore ends at zero. -/
theorem frameK : Cert.quiescent_Kernel (hKernel := facts) (hPre_in_table := Cert.Pre_in_table.Gen.facts) := fun m ρ hpre =>
  (θ_run (Cert.Kernel.defs (F := Bits)) _ _).mono (fun _ h => ⟨fun c => (h.1 c).2, h.2⟩)
    (run_main (F := Bits) m ρ fun d => posOK_of_pre (F := Bits) _ _ (hpre d))

/-- The idealized kernel's run, with its result. -/
theorem runI (m : (ℓ : Loc Cert.KernelIdeal.nD Cert.KernelIdeal.τ Cert.KernelIdeal.sig) → Buf (Elt Ideal) ℓ) (ρ : Dev Cert.KernelIdeal.nD → PrngReg)
    (hpre : Cert.Pre_KernelIdeal (hPre_in_table := Cert.Pre_in_table.Gen.facts) m) :
    θ_run (@Cert.KernelIdeal.defs Ideal factsI) (@Cert.KernelIdeal.threads Ideal factsI) ⟨m, fun _ => 0, ρ⟩ (QC (F := Ideal) m) :=
  run_main (F := Ideal) m ρ fun d => posOK_of_pre (F := Ideal) _ _ (hpre d)

theorem frameI : Cert.quiescent_KernelIdeal (hKernelIdeal := factsI) (hPre_in_table := Cert.Pre_in_table.Gen.facts) := fun m ρ hpre =>
  (θ_run (@Cert.KernelIdeal.defs Ideal factsI) _ _).mono (fun _ h => ⟨fun c => (h.1 c).2, h.2⟩) (runI m ρ hpre)

theorem frameR : Cert.quiescent_ReferenceIdeal (hReferenceIdeal := Cert.ReferenceIdeal.Gen.facts) (hPre_in_table := Cert.Pre_in_table.Gen.facts) := fun m ρ _ =>
  (θ_run Cert.ReferenceIdeal.defs _ _).mono (fun r h => ⟨fun c => (h c).2, sem_eq_zero_of_no_sems (by decide) r.2⟩) (Cert.ReferenceIdeal.Value.run (F := Ideal) m ρ)

theorem frameF : Cert.quiescent_Finish (hFinish := Cert.Finish.Gen.facts) := fun m ρ _ => Cert.Finish.Gen.frame (F := Bits) m ρ

theorem frameFI : Cert.quiescent_FinishIdeal (hFinishIdeal := Cert.FinishIdeal.Gen.facts) := fun m ρ _ => Cert.FinishIdeal.Gen.frame (F := Ideal) m ρ

theorem frameS : Cert.quiescent_ScoresIdeal (hScoresIdeal := Cert.ScoresIdeal.Gen.facts) := fun m ρ _ =>
  (θ_run Cert.ScoresIdeal.defs _ _).mono (fun r h => ⟨fun c => (h c).2.2, sem_eq_zero_of_no_sems (by decide) r.2⟩) (Cert.ScoresIdeal.Value.run (F := Ideal) m ρ)

/-- The pair scoring call computes what its reference computes. -/
theorem pairs : Cert.algebraic_KernelIdeal_ReferenceIdeal (hKernelIdeal := factsI) (hReferenceIdeal := Cert.ReferenceIdeal.Gen.facts) (hPre_in_table := Cert.Pre_in_table.Gen.facts) := by
  intro m g m' g' hpre hagree
  refine ⟨fun c => fG (F := Ideal) m c, ?_, ?_⟩
  · exact (θ_run (@Cert.KernelIdeal.defs Ideal factsI) _ _).mono (fun _ h c => h.1 c) (runI m g hpre)
  · refine (θ_run Cert.ReferenceIdeal.defs _ _).mono (fun _ h c => ⟨(h c).1.trans ?_, (h c).2⟩) (Cert.ReferenceIdeal.Value.run (F := Ideal) m' g')
    have hpos : PosOK (fI (F := Ideal) m c) := posOK_of_pre (F := Ideal) _ _ (hpre c)
    have hT : Ref.aT (StableHlo.launchContents m' c) = fT (F := Ideal) m c := (hagree c).1
    have hI : Ref.aI (StableHlo.launchContents m' c) = fI (F := Ideal) m c := (hagree c).2
    refine (Ref.out_eq (StableHlo.launchContents m' c) (hI ▸ hpos)).trans ?_
    rw [hT, hI]

/-- The finishing call computes what its reference computes. -/
theorem finish : Cert.algebraic_FinishIdeal_ScoresIdeal (hFinishIdeal := Cert.FinishIdeal.Gen.facts) (hScoresIdeal := Cert.ScoresIdeal.Gen.facts) := by
  intro m g m' g' _ hagree
  refine ⟨fun c => Fin.GA5 (F := Ideal) (Fin.b0 m c) (Fin.b1 m c) (Fin.b2 m c) (Fin.b3 m c) (Fin.b4 m c), fun c => Fin.GA6 (F := Ideal) (Fin.b1 m c) (Fin.b2 m c) (Fin.b3 m c), ?_, ?_⟩
  · exact (θ_run Cert.FinishIdeal.defs _ _).mono (fun _ h c => ⟨(h c).1.trans (Fin.final5 m c), (h c).2.1.trans (Fin.final6 m c), (h c).2.2⟩) (Cert.FinishIdeal.Value.run_blocks (F := Ideal) m g)
  · refine (θ_run Cert.ScoresIdeal.defs _ _).mono (fun _ h c => ⟨(h c).1.trans ?_, (h c).2.1.trans ?_, (h c).2.2⟩) (Cert.ScoresIdeal.Value.run (F := Ideal) m' g')
    · rw [(hagree c).1, (hagree c).2.1, (hagree c).2.2.1, (hagree c).2.2.2.1, (hagree c).2.2.2.2]
      exact Fin.Ref.ref5 (Fin.b0 m c) (Fin.b1 m c) (Fin.b2 m c) (Fin.b3 m c) (Fin.b4 m c)
    · rw [(hagree c).2.1, (hagree c).2.2.1, (hagree c).2.2.2.1]
      exact Fin.Ref.ref6 (F := Ideal) (Fin.b1 m c) (Fin.b2 m c) (Fin.b3 m c)

theorem claim : Cert.Claim :=
  ⟨facts, factsI, Cert.ReferenceIdeal.Gen.facts, Cert.Finish.Gen.facts, Cert.FinishIdeal.Gen.facts, Cert.ScoresIdeal.Gen.facts, Cert.Pre_in_table.Gen.facts,
    frameK, frameI, frameR, frameF, frameFI, frameS, trivial, pairs, trivial, finish⟩

end Cert.Proof

end
